-- ==== Defs.lean ====
def Pre_Kernel [hPre_dest_in_rows : Cert.Pre_dest_in_rows.Facts] (m : (ℓ : Loc Cert.Kernel.nD Cert.Kernel.τ Cert.Kernel.sig) → Buf (Elt Bits) ℓ) : Prop :=
  ∀ c : Dev Cert.Kernel.nD,
    (Cert.Pre_dest_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_dest_in_rows : Cert.Pre_dest_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_dest_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dest_in_rows [hPre_dest_in_rows : Cert.Pre_dest_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dest_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_dest_in_rows : Cert.Pre_dest_in_rows.Facts] (m : (ℓ : Loc Cert.Reference.nD Cert.Reference.τ Cert.Reference.sig) → Buf (Elt Bits) ℓ) : Prop :=
  ∀ c : Dev Cert.Reference.nD,
    (Cert.Pre_dest_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_keys_finite [hPre_keys_finite : Cert.Pre_keys_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_keys_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_keys_finite [hPre_keys_finite : Cert.Pre_keys_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_keys_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_pairs_finite [hPre_pairs_finite : Cert.Pre_pairs_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_pairs_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_pairs_finite [hPre_pairs_finite : Cert.Pre_pairs_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_pairs_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_dest_in_rows [hReferenceIdeal : Cert.ReferenceIdeal.Facts] [hPre_dest_in_rows : Cert.Pre_dest_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dest_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_dest_in_rows : Cert.Pre_dest_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_keys_finite [hKernel4Ideal : Cert.Kernel4Ideal.Facts] [hPre_keys_finite : Cert.Pre_keys_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_keys_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_keys_finite [hReference4Ideal : Cert.Reference4Ideal.Facts] [hPre_keys_finite : Cert.Pre_keys_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_keys_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_pairs_finite [hKernel5Ideal : Cert.Kernel5Ideal.Facts] [hPre_pairs_finite : Cert.Pre_pairs_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_pairs_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_pairs_finite [hReference5Ideal : Cert.Reference5Ideal.Facts] [hPre_pairs_finite : Cert.Pre_pairs_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_pairs_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_dest_in_rows : Cert.Pre_dest_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_dest_in_rows : Cert.Pre_dest_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v11)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v11) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v20) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal_on_tiles_with_rows [hKernel2Ideal : Cert.Kernel2Ideal.Facts] [hReference2Ideal : Cert.Reference2Ideal.Facts] [hPre_experts_in_range : Cert.Pre_experts_in_range.Facts] [hOn_tiles_with_rows : Cert.On_tiles_with_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨3, ![4, 327680, 256]⟩ : Shape).Idx, (Cert.On_tiles_with_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨3, ![4, 327680, 256]⟩ : Shape).Idx, (Cert.On_tiles_with_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) i = 1#1 → r.2.mem ((c.tc : Thread Cert.Reference2Ideal.nD Cert.Reference2Ideal.τ).loc Cert.Reference2Ideal.main_v63) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal_pre_keys_finite [hKernel4Ideal : Cert.Kernel4Ideal.Facts] [hReference4Ideal : Cert.Reference4Ideal.Facts] [hPre_keys_finite : Cert.Pre_keys_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_keys_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_pairs_finite [hKernel5Ideal : Cert.Kernel5Ideal.Facts] [hReference5Ideal : Cert.Reference5Ideal.Facts] [hPre_pairs_finite : Cert.Pre_pairs_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_pairs_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v59) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_dest_in_rows : Cert.Pre_dest_in_rows.Facts) (hPre_experts_in_range : Cert.Pre_experts_in_range.Facts) (hPre_keys_finite : Cert.Pre_keys_finite.Facts) (hPre_pairs_finite : Cert.Pre_pairs_finite.Facts) (hOn_tiles_with_rows : Cert.On_tiles_with_rows.Facts),
    quiescent_Kernel (hKernel := hKernel) (hPre_dest_in_rows := hPre_dest_in_rows)
    ∧ quiescent_KernelIdeal (hKernelIdeal := hKernelIdeal) (hPre_dest_in_rows := hPre_dest_in_rows)
    ∧ quiescent_ReferenceIdeal (hReferenceIdeal := hReferenceIdeal)
    ∧ quiescent_ReferenceIdeal_pre_dest_in_rows (hReferenceIdeal := hReferenceIdeal) (hPre_dest_in_rows := hPre_dest_in_rows)
    ∧ quiescent_Reference (hReference := hReference) (hPre_dest_in_rows := hPre_dest_in_rows)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_keys_finite (hKernel4Ideal := hKernel4Ideal) (hPre_keys_finite := hPre_keys_finite)
    ∧ quiescent_Reference4Ideal (hReference4Ideal := hReference4Ideal)
    ∧ quiescent_Reference4Ideal_pre_keys_finite (hReference4Ideal := hReference4Ideal) (hPre_keys_finite := hPre_keys_finite)
    ∧ quiescent_Kernel5 (hKernel5 := hKernel5)
    ∧ quiescent_Kernel5Ideal (hKernel5Ideal := hKernel5Ideal)
    ∧ quiescent_Kernel5Ideal_pre_pairs_finite (hKernel5Ideal := hKernel5Ideal) (hPre_pairs_finite := hPre_pairs_finite)
    ∧ quiescent_Reference5Ideal (hReference5Ideal := hReference5Ideal)
    ∧ quiescent_Reference5Ideal_pre_pairs_finite (hReference5Ideal := hReference5Ideal) (hPre_pairs_finite := hPre_pairs_finite)
    ∧ preserves_Kernel_KernelIdeal
    ∧ algebraic_KernelIdeal_ReferenceIdeal (hKernelIdeal := hKernelIdeal) (hReferenceIdeal := hReferenceIdeal) (hPre_dest_in_rows := hPre_dest_in_rows)
    ∧ bitexact_Kernel_Reference (hKernel := hKernel) (hReference := hReference) (hPre_dest_in_rows := hPre_dest_in_rows)
    ∧ preserves_Kernel2_Kernel2Ideal
    ∧ algebraic_Kernel2Ideal_Reference2Ideal_on_tiles_with_rows (hKernel2Ideal := hKernel2Ideal) (hReference2Ideal := hReference2Ideal) (hPre_experts_in_range := hPre_experts_in_range) (hOn_tiles_with_rows := hOn_tiles_with_rows)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_keys_finite (hKernel4Ideal := hKernel4Ideal) (hReference4Ideal := hReference4Ideal) (hPre_keys_finite := hPre_keys_finite)
    ∧ preserves_Kernel5_Kernel5Ideal
    ∧ algebraic_Kernel5Ideal_Reference5Ideal_pre_pairs_finite (hKernel5Ideal := hKernel5Ideal) (hReference5Ideal := hReference5Ideal) (hPre_pairs_finite := hPre_pairs_finite)
-- ==== On_tiles_with_rows.lean ====
abbrev S320 : Shape := ⟨1, ![320]⟩
abbrev S2x327680x256 : Shape := ⟨3, ![2, 327680, 256]⟩
abbrev S2x64x1024x256 : Shape := ⟨4, ![2, 64, 1024, 256]⟩
abbrev S2x64x256x1024 : Shape := ⟨4, ![2, 64, 256, 1024]⟩
abbrev S320x1 : Shape := ⟨2, ![320, 1]⟩
abbrev S_ : Shape := ⟨0, ![]⟩
abbrev S320x1024 : Shape := ⟨2, ![320, 1024]⟩
abbrev S327680 : Shape := ⟨1, ![327680]⟩
abbrev S1x327680x1 : Shape := ⟨3, ![1, 327680, 1]⟩
abbrev S4x327680x256 : Shape := ⟨3, ![4, 327680, 256]⟩

class Facts : Prop where
  bcast_S320_S320x1_0 : S320.BroadcastsInDim S320x1 (![0] : Fin 1 → Fin S320x1.rank)
  bcast_S_S320x1 : S_.BroadcastsInDim S320x1 (![] : Fin 0 → Fin S320x1.rank)
  bcast_S320x1_S320x1024_0_1 : S320x1.BroadcastsInDim S320x1024 (![0, 1] : Fin 2 → Fin S320x1024.rank)
  shapeCasts_S320x1024_S327680 : S320x1024.ShapeCasts S327680
  bcast_S327680_S1x327680x1_1 : S327680.BroadcastsInDim S1x327680x1 (![1] : Fin 1 → Fin S1x327680x1.rank)
  bcast_S1x327680x1_S4x327680x256_0_1_2 : S1x327680x1.BroadcastsInDim S4x327680x256 (![0, 1, 2] : Fin 3 → Fin S4x327680x256.rank)

variable [Facts]

def fn {F : FTy → Type} [FloatOps F] (main_arg0 : IVec S320 32) (main_arg1 : IVec S320 32) (main_arg2 : IVec S2x327680x256 32) (main_arg3 : FVec F S2x64x1024x256 .f32) (main_arg4 : FVec F S2x64x1024x256 .f32) (main_arg5 : FVec F S2x64x256x1024 .f32) : IVec S4x327680x256 1 :=
  let main_v0 : IVec S320x1 32 := broadcastInDim S320x1 ![0] bcast_S320_S320x1_0 main_arg1
  let main_c : IVec S_ 32 := constantI S_ 32 0#32
  let main_v1 : IVec S320x1 32 := broadcastInDim S320x1 ![] bcast_S_S320x1 main_c
  let main_v2 : IVec S320x1 1 := cmpi .sgt main_v0 main_v1
  let main_v3 : IVec S320x1024 1 := broadcastInDim S320x1024 ![0, 1] bcast_S320x1_S320x1024_0_1 main_v2
  let main_v4 : IVec S327680 1 := shapeCast S327680 main_v3 shapeCasts_S320x1024_S327680
  let main_v5 : IVec S1x327680x1 1 := broadcastInDim S1x327680x1 ![1] bcast_S327680_S1x327680x1_1 main_v4
  let main_v6 : IVec S4x327680x256 1 := broadcastInDim S4x327680x256 ![0, 1, 2] bcast_S1x327680x1_S4x327680x256_0_1_2 main_v5
  main_v6
-- ==== Pre_dest_in_rows.lean ====
abbrev S2x327680x256 : Shape := ⟨3, ![2, 327680, 256]⟩
abbrev S8x32768 : Shape := ⟨2, ![8, 32768]⟩
abbrev S_ : Shape := ⟨0, ![]⟩

class Facts : Prop where
  bcast_S_S8x32768 : S_.BroadcastsInDim S8x32768 (![] : Fin 0 → Fin S8x32768.rank)

variable [Facts]

def fn {F : FTy → Type} [FloatOps F] (main_arg0 : IVec S2x327680x256 32) (main_arg1 : IVec S8x32768 32) : IVec S8x32768 1 :=
  let main_c : IVec S_ 32 := constantI S_ 32 0#32
  let main_v0 : IVec S8x32768 32 := broadcastInDim S8x32768 ![] bcast_S_S8x32768 main_c
  let main_v1 : IVec S8x32768 1 := cmpi .sge main_arg1 main_v0
  let main_c_0 : IVec S_ 32 := constantI S_ 32 327680#32
  let main_v2 : IVec S8x32768 32 := broadcastInDim S8x32768 ![] bcast_S_S8x32768 main_c_0
  let main_v3 : IVec S8x32768 1 := cmpi .slt main_arg1 main_v2
  let main_v4 : IVec S8x32768 1 := andi main_v1 main_v3
  main_v4
-- ==== Pre_experts_in_range.lean ====
abbrev S320 : Shape := ⟨1, ![320]⟩
abbrev S2x327680x256 : Shape := ⟨3, ![2, 327680, 256]⟩
abbrev S2x64x1024x256 : Shape := ⟨4, ![2, 64, 1024, 256]⟩
abbrev S2x64x256x1024 : Shape := ⟨4, ![2, 64, 256, 1024]⟩
abbrev S_ : Shape := ⟨0, ![]⟩

class Facts : Prop where
  bcast_S_S320 : S_.BroadcastsInDim S320 (![] : Fin 0 → Fin S320.rank)

variable [Facts]

def fn {F : FTy → Type} [FloatOps F] (main_arg0 : IVec S320 32) (main_arg1 : IVec S320 32) (main_arg2 : IVec S2x327680x256 32) (main_arg3 : FVec F S2x64x1024x256 .f32) (main_arg4 : FVec F S2x64x1024x256 .f32) (main_arg5 : FVec F S2x64x256x1024 .f32) : IVec S320 1 :=
  let main_c : IVec S_ 32 := constantI S_ 32 0#32
  let main_v0 : IVec S320 32 := broadcastInDim S320 ![] bcast_S_S320 main_c
  let main_v1 : IVec S320 1 := cmpi .sge main_arg0 main_v0
  let main_c_0 : IVec S_ 32 := constantI S_ 32 64#32
  let main_v2 : IVec S320 32 := broadcastInDim S320 ![] bcast_S_S320 main_c_0
  let main_v3 : IVec S320 1 := cmpi .slt main_arg0 main_v2
  let main_v4 : IVec S320 1 := andi main_v1 main_v3
  main_v4
-- ==== Pre_keys_finite.lean ====
abbrev S2x2x128x16384 : Shape := ⟨4, ![2, 2, 128, 16384]⟩
abbrev S2x2x16640x128 : Shape := ⟨4, ![2, 2, 16640, 128]⟩
abbrev S2x2x65x80x256 : Shape := ⟨5, ![2, 2, 65, 80, 256]⟩
abbrev S2x2x2x128 : Shape := ⟨4, ![2, 2, 2, 128]⟩
abbrev S_ : Shape := ⟨0, ![]⟩
abbrev S8388608 : Shape := ⟨1, ![8388608]⟩
abbrev S8519680 : Shape := ⟨1, ![8519680]⟩
abbrev S1024 : Shape := ⟨1, ![1024]⟩
abbrev S2x2x65x1x256 : Shape := ⟨5, ![2, 2, 65, 1, 256]⟩
abbrev S2x2x65x256 : Shape := ⟨4, ![2, 2, 65, 256]⟩
abbrev S66560 : Shape := ⟨1, ![66560]⟩
abbrev S16975872 : Shape := ⟨1, ![16975872]⟩

class Facts : Prop where
  bcast_S_S2x2x128x16384 : S_.BroadcastsInDim S2x2x128x16384 (![] : Fin 0 → Fin S2x2x128x16384.rank)
  shapeCasts_S2x2x128x16384_S8388608 : S2x2x128x16384.ShapeCasts S8388608
  bcast_S_S2x2x16640x128 : S_.BroadcastsInDim S2x2x16640x128 (![] : Fin 0 → Fin S2x2x16640x128.rank)
  shapeCasts_S2x2x16640x128_S8519680 : S2x2x16640x128.ShapeCasts S8519680
  bcast_S_S2x2x2x128 : S_.BroadcastsInDim S2x2x2x128 (![] : Fin 0 → Fin S2x2x2x128.rank)
  shapeCasts_S2x2x2x128_S1024 : S2x2x2x128.ShapeCasts S1024
  slices_S2x2x65x80x256_S2x2x65x1x256_0_0_0_64_0 : S2x2x65x80x256.Slices ![0, 0, 0, 64, 0] S2x2x65x1x256
  shapeCasts_S2x2x65x1x256_S2x2x65x256 : S2x2x65x1x256.ShapeCasts S2x2x65x256
  bcast_S_S2x2x65x256 : S_.BroadcastsInDim S2x2x65x256 (![] : Fin 0 → Fin S2x2x65x256.rank)
  shapeCasts_S2x2x65x256_S66560 : S2x2x65x256.ShapeCasts S66560
  concatenates_S8388608_S8519680_S1024_S66560_S16975872_d0 : Shape.Concatenates [S8388608, S8519680, S1024, S66560] S16975872 0

variable [Facts]

def fn {F : FTy → Type} [FloatOps F] (main_arg0 : FVec F S2x2x128x16384 .bf16) (main_arg1 : FVec F S2x2x16640x128 .bf16) (main_arg2 : FVec F S2x2x65x80x256 .bf16) (main_arg3 : FVec F S2x2x2x128 .f32) : IVec S16975872 1 :=
  let main_v0 : FVec F S2x2x128x16384 .bf16 := Host.absf main_arg0
  let main_cst : FVec F S_ .bf16 := constant S_ .bf16 0x7F80#16
  let main_v1 : FVec F S2x2x128x16384 .bf16 := broadcastInDim S2x2x128x16384 ![] bcast_S_S2x2x128x16384 main_cst
  let main_v2 : IVec S2x2x128x16384 1 := cmpf .olt main_v0 main_v1
  let main_v3 : IVec S8388608 1 := shapeCast S8388608 main_v2 shapeCasts_S2x2x128x16384_S8388608
  let main_v4 : FVec F S2x2x16640x128 .bf16 := Host.absf main_arg1
  let main_cst_0 : FVec F S_ .bf16 := constant S_ .bf16 0x7F80#16
  let main_v5 : FVec F S2x2x16640x128 .bf16 := broadcastInDim S2x2x16640x128 ![] bcast_S_S2x2x16640x128 main_cst_0
  let main_v6 : IVec S2x2x16640x128 1 := cmpf .olt main_v4 main_v5
  let main_v7 : IVec S8519680 1 := shapeCast S8519680 main_v6 shapeCasts_S2x2x16640x128_S8519680
  let main_v8 : FVec F S2x2x2x128 .f32 := Host.absf main_arg3
  let main_cst_1 : FVec F S_ .f32 := constant S_ .f32 0x7F800000#32
  let main_v9 : FVec F S2x2x2x128 .f32 := broadcastInDim S2x2x2x128 ![] bcast_S_S2x2x2x128 main_cst_1
  let main_v10 : IVec S2x2x2x128 1 := cmpf .olt main_v8 main_v9
  let main_v11 : IVec S1024 1 := shapeCast S1024 main_v10 shapeCasts_S2x2x2x128_S1024
  let main_v12 : FVec F S2x2x65x1x256 .bf16 := (extractStridedSlice S2x2x65x1x256 ![0, 0, 0, 64, 0] · slices_S2x2x65x80x256_S2x2x65x1x256_0_0_0_64_0) main_arg2
  let main_v13 : FVec F S2x2x65x256 .bf16 := shapeCast S2x2x65x256 main_v12 shapeCasts_S2x2x65x1x256_S2x2x65x256
  let main_cst_2 : FVec F S_ .bf16 := constant S_ .bf16 0x3F80#16
  let main_v14 : FVec F S2x2x65x256 .bf16 := broadcastInDim S2x2x65x256 ![] bcast_S_S2x2x65x256 main_cst_2
  let main_v15 : IVec S2x2x65x256 1 := cmpf .oeq main_v13 main_v14
  let main_v16 : IVec S66560 1 := shapeCast S66560 main_v15 shapeCasts_S2x2x65x256_S66560
  let main_v17 : IVec S16975872 1 := concatenate S16975872 0 [⟨S8388608, main_v3⟩, ⟨S8519680, main_v7⟩, ⟨S1024, main_v11⟩, ⟨S66560, main_v16⟩] concatenates_S8388608_S8519680_S1024_S66560_S16975872_d0
  main_v17
-- ==== Pre_pairs_finite.lean ====
abbrev S2x2x128x16384 : Shape := ⟨4, ![2, 2, 128, 16384]⟩
abbrev S2x2x16640x128 : Shape := ⟨4, ![2, 2, 16640, 128]⟩
abbrev S2x4x65x80x256 : Shape := ⟨5, ![2, 4, 65, 80, 256]⟩
abbrev S2x4x2x128 : Shape := ⟨4, ![2, 4, 2, 128]⟩
abbrev S4x32 : Shape := ⟨2, ![4, 32]⟩
abbrev S64x1 : Shape := ⟨2, ![64, 1]⟩
abbrev S_ : Shape := ⟨0, ![]⟩
abbrev S8388608 : Shape := ⟨1, ![8388608]⟩
abbrev S8519680 : Shape := ⟨1, ![8519680]⟩
abbrev S2048 : Shape := ⟨1, ![2048]⟩
abbrev S2x4x65x1x256 : Shape := ⟨5, ![2, 4, 65, 1, 256]⟩
abbrev S2x4x65x256 : Shape := ⟨4, ![2, 4, 65, 256]⟩
abbrev S133120 : Shape := ⟨1, ![133120]⟩
abbrev S2x4x65x64x256 : Shape := ⟨5, ![2, 4, 65, 64, 256]⟩
abbrev S128 : Shape := ⟨1, ![128]⟩
abbrev S25563264 : Shape := ⟨1, ![25563264]⟩

class Facts : Prop where
  bcast_S_S2x2x128x16384 : S_.BroadcastsInDim S2x2x128x16384 (![] : Fin 0 → Fin S2x2x128x16384.rank)
  shapeCasts_S2x2x128x16384_S8388608 : S2x2x128x16384.ShapeCasts S8388608
  bcast_S_S2x2x16640x128 : S_.BroadcastsInDim S2x2x16640x128 (![] : Fin 0 → Fin S2x2x16640x128.rank)
  shapeCasts_S2x2x16640x128_S8519680 : S2x2x16640x128.ShapeCasts S8519680
  bcast_S_S2x4x2x128 : S_.BroadcastsInDim S2x4x2x128 (![] : Fin 0 → Fin S2x4x2x128.rank)
  shapeCasts_S2x4x2x128_S2048 : S2x4x2x128.ShapeCasts S2048
  slices_S2x4x65x80x256_S2x4x65x1x256_0_0_0_64_0 : S2x4x65x80x256.Slices ![0, 0, 0, 64, 0] S2x4x65x1x256
  shapeCasts_S2x4x65x1x256_S2x4x65x256 : S2x4x65x1x256.ShapeCasts S2x4x65x256
  bcast_S_S2x4x65x256 : S_.BroadcastsInDim S2x4x65x256 (![] : Fin 0 → Fin S2x4x65x256.rank)
  shapeCasts_S2x4x65x256_S133120 : S2x4x65x256.ShapeCasts S133120
  slices_S2x4x65x80x256_S2x4x65x64x256_0_0_0_0_0 : S2x4x65x80x256.Slices ![0, 0, 0, 0, 0] S2x4x65x64x256
  bcast_S_S2x4x65x64x256 : S_.BroadcastsInDim S2x4x65x64x256 (![] : Fin 0 → Fin S2x4x65x64x256.rank)
  shapeCasts_S2x4x65x64x256_S8519680 : S2x4x65x64x256.ShapeCasts S8519680
  bcast_S_S4x32 : S_.BroadcastsInDim S4x32 (![] : Fin 0 → Fin S4x32.rank)
  shapeCasts_S4x32_S128 : S4x32.ShapeCasts S128
  concatenates_S8388608_S8519680_S2048_S133120_S8519680_S128_S25563264_d0 : Shape.Concatenates [S8388608, S8519680, S2048, S133120, S8519680, S128] S25563264 0

variable [Facts]

def fn_part1 {F : FTy → Type} [FloatOps F] (main_arg4 : FVec F S4x32 .f32) (main_v3 : IVec S8388608 1) (main_v7 : IVec S8519680 1) (main_v11 : IVec S2048 1) (main_v16 : IVec S133120 1) (main_v18 : FVec F S2x4x65x64x256 .bf16) (main_cst_3 : FVec F S_ .bf16) : IVec S25563264 1 :=
  let main_v19 : FVec F S2x4x65x64x256 .bf16 := broadcastInDim S2x4x65x64x256 ![] bcast_S_S2x4x65x64x256 main_cst_3
  let main_v20 : IVec S2x4x65x64x256 1 := cmpf .olt main_v18 main_v19
  let main_v21 : IVec S8519680 1 := shapeCast S8519680 main_v20 shapeCasts_S2x4x65x64x256_S8519680
  let main_v22 : FVec F S4x32 .f32 := Host.absf main_arg4
  let main_cst_4 : FVec F S_ .f32 := constant S_ .f32 0x7F800000#32
  let main_v23 : FVec F S4x32 .f32 := broadcastInDim S4x32 ![] bcast_S_S4x32 main_cst_4
  let main_v24 : IVec S4x32 1 := cmpf .olt main_v22 main_v23
  let main_v25 : IVec S128 1 := shapeCast S128 main_v24 shapeCasts_S4x32_S128
  let main_v26 : IVec S25563264 1 := concatenate S25563264 0 [⟨S8388608, main_v3⟩, ⟨S8519680, main_v7⟩, ⟨S2048, main_v11⟩, ⟨S133120, main_v16⟩, ⟨S8519680, main_v21⟩, ⟨S128, main_v25⟩] concatenates_S8388608_S8519680_S2048_S133120_S8519680_S128_S25563264_d0
  main_v26

def fn {F : FTy → Type} [FloatOps F] (main_arg0 : FVec F S2x2x128x16384 .bf16) (main_arg1 : FVec F S2x2x16640x128 .bf16) (main_arg2 : FVec F S2x4x65x80x256 .bf16) (main_arg3 : FVec F S2x4x2x128 .f32) (main_arg4 : FVec F S4x32 .f32) (main_arg5 : FVec F S64x1 .f32) : IVec S25563264 1 :=
  let main_v0 : FVec F S2x2x128x16384 .bf16 := Host.absf main_arg0
  let main_cst : FVec F S_ .bf16 := constant S_ .bf16 0x7F80#16
  let main_v1 : FVec F S2x2x128x16384 .bf16 := broadcastInDim S2x2x128x16384 ![] bcast_S_S2x2x128x16384 main_cst
  let main_v2 : IVec S2x2x128x16384 1 := cmpf .olt main_v0 main_v1
  let main_v3 : IVec S8388608 1 := shapeCast S8388608 main_v2 shapeCasts_S2x2x128x16384_S8388608
  let main_v4 : FVec F S2x2x16640x128 .bf16 := Host.absf main_arg1
  let main_cst_0 : FVec F S_ .bf16 := constant S_ .bf16 0x7F80#16
  let main_v5 : FVec F S2x2x16640x128 .bf16 := broadcastInDim S2x2x16640x128 ![] bcast_S_S2x2x16640x128 main_cst_0
  let main_v6 : IVec S2x2x16640x128 1 := cmpf .olt main_v4 main_v5
  let main_v7 : IVec S8519680 1 := shapeCast S8519680 main_v6 shapeCasts_S2x2x16640x128_S8519680
  let main_v8 : FVec F S2x4x2x128 .f32 := Host.absf main_arg3
  let main_cst_1 : FVec F S_ .f32 := constant S_ .f32 0x7F800000#32
  let main_v9 : FVec F S2x4x2x128 .f32 := broadcastInDim S2x4x2x128 ![] bcast_S_S2x4x2x128 main_cst_1
  let main_v10 : IVec S2x4x2x128 1 := cmpf .olt main_v8 main_v9
  let main_v11 : IVec S2048 1 := shapeCast S2048 main_v10 shapeCasts_S2x4x2x128_S2048
  let main_v12 : FVec F S2x4x65x1x256 .bf16 := (extractStridedSlice S2x4x65x1x256 ![0, 0, 0, 64, 0] · slices_S2x4x65x80x256_S2x4x65x1x256_0_0_0_64_0) main_arg2
  let main_v13 : FVec F S2x4x65x256 .bf16 := shapeCast S2x4x65x256 main_v12 shapeCasts_S2x4x65x1x256_S2x4x65x256
  let main_cst_2 : FVec F S_ .bf16 := constant S_ .bf16 0x3F80#16
  let main_v14 : FVec F S2x4x65x256 .bf16 := broadcastInDim S2x4x65x256 ![] bcast_S_S2x4x65x256 main_cst_2
  let main_v15 : IVec S2x4x65x256 1 := cmpf .oeq main_v13 main_v14
  let main_v16 : IVec S133120 1 := shapeCast S133120 main_v15 shapeCasts_S2x4x65x256_S133120
  let main_v17 : FVec F S2x4x65x64x256 .bf16 := (extractStridedSlice S2x4x65x64x256 ![0, 0, 0, 0, 0] · slices_S2x4x65x80x256_S2x4x65x64x256_0_0_0_0_0) main_arg2
  let main_v18 : FVec F S2x4x65x64x256 .bf16 := Host.absf main_v17
  let main_cst_3 : FVec F S_ .bf16 := constant S_ .bf16 0x7F80#16
  fn_part1 (F := F) main_arg4 main_v3 main_v7 main_v11 main_v16 main_v18 main_cst_3
-- ==== Kernel.lean ====
abbrev S2x327680x256 : Shape := ⟨3, ![2, 327680, 256]⟩
abbrev S8x32768 : Shape := ⟨2, ![8, 32768]⟩
abbrev S2 : Shape := ⟨1, ![2]⟩
abbrev S_ : Shape := ⟨0, ![]⟩
abbrev S2x1x1 : Shape := ⟨3, ![2, 1, 1]⟩
abbrev S1x8x32768 : Shape := ⟨3, ![1, 8, 32768]⟩
abbrev S2x8x32768 : Shape := ⟨3, ![2, 8, 32768]⟩
abbrev S524288 : Shape := ⟨1, ![524288]⟩
abbrev S655360x256 : Shape := ⟨2, ![655360, 256]⟩
abbrev S1x524288 : Shape := ⟨2, ![1, 524288]⟩
abbrev S524288x256 : Shape := ⟨2, ![524288, 256]⟩
abbrev S2x1x128 : Shape := ⟨3, ![2, 1, 128]⟩
abbrev S2x128x256 : Shape := ⟨3, ![2, 128, 256]⟩
abbrev S1x1x128 : Shape := ⟨3, ![1, 1, 128]⟩
abbrev S1x128 : Shape := ⟨2, ![1, 128]⟩
abbrev S1 : Shape := ⟨1, ![1]⟩
abbrev S1x128x256 : Shape := ⟨3, ![1, 128, 256]⟩
abbrev S128x256 : Shape := ⟨2, ![128, 256]⟩
abbrev S128x128 : Shape := ⟨2, ![128, 128]⟩
abbrev S128 : Shape := ⟨1, ![128]⟩
abbrev S655360x128 : Shape := ⟨2, ![655360, 128]⟩

abbrev nBuf : Table → Nat
  | .hbm => 15
  | .local .scVector .vmem => 2
  | _ => 0

abbrev bufTy : (tb : Table) → Fin (nBuf tb) → BufTy
  | .hbm, ⟨0, _⟩ => ⟨S2x327680x256, .i32⟩
  | .hbm, ⟨1, _⟩ => ⟨S8x32768, .i32⟩
  | .hbm, ⟨2, _⟩ => ⟨S2, .i32⟩
  | .hbm, ⟨3, _⟩ => ⟨S_, .i32⟩
  | .hbm, ⟨4, _⟩ => ⟨S2, .i32⟩
  | .hbm, ⟨5, _⟩ => ⟨S2, .i32⟩
  | .hbm, ⟨6, _⟩ => ⟨S2x1x1, .i32⟩
  | .hbm, ⟨7, _⟩ => ⟨S1x8x32768, .i32⟩
  | .hbm, ⟨8, _⟩ => ⟨S2x8x32768, .i32⟩
  | .hbm, ⟨9, _⟩ => ⟨S2x8x32768, .i32⟩
  | .hbm, ⟨10, _⟩ => ⟨S2x8x32768, .i32⟩
  | .hbm, ⟨11, _⟩ => ⟨S524288, .i32⟩
  | .hbm, ⟨12, _⟩ => ⟨S655360x256, .i32⟩
  | .hbm, ⟨13, _⟩ => ⟨S1x524288, .i32⟩
  | .hbm, ⟨14, _⟩ => ⟨S524288x256, .i32⟩
  | .local .scVector .vmem, ⟨0, _⟩ => ⟨S2x1x128, .i32⟩
  | .local .scVector .vmem, ⟨1, _⟩ => ⟨S2x128x256, .i32⟩
  | _, _ => ⟨S2x327680x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v9_scv : Ref sig .scVector := ⟨.hbm, 12, rfl⟩
abbrev main_v10_scv : Ref sig .scVector := ⟨.hbm, 13, rfl⟩
abbrev main_v11_scv : Ref sig .scVector := ⟨.hbm, 14, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_15_r0 : BitVec 32 := 0#32
  let c0_i32_16_r0 : BitVec 32 := 0#32
  ![v21_r0.toNat, 0, 0]
def k0_off2 (i : grid0.Coords) : Fin 2 → Nat :=
  let c0_i32_17_r0 : BitVec 32 := 0#32
  let c128_i32_14_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v7_r0 : BitVec 32 := Scalar.addi c0_i32_1_r0 v4
  let v22_r0 : BitVec 32 := Scalar.muli c128_i32_14_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_27_r0 : BitVec 32 := 0#32
  let c128_i32_28_r0 : BitVec 32 := 128#32
  let v32_r0 : BitVec 32 := Scalar.addi c0_i32_27_r0 c128_i32_28_r0
  let c1_i32_29_r0 : BitVec 32 := 1#32
  ⟨c0_i32_27_r0, v32_r0, c1_i32_29_r0⟩
def k0_off4 (arg6_r0 : BitVec 32) : Fin 3 → Nat :=
  let c2_i32_101_r0 : BitVec 32 := 2#32
  let v144_r0 : BitVec 32 := Scalar.remui arg6_r0 c2_i32_101_r0
  let c0_i32_103_r0 : BitVec 32 := 0#32
  let c0_i32_104_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c128_i32_63_r0 : BitVec 32 := 128#32
  let v74_r0 : BitVec 1 := Scalar.cmpi .eq v73_r0 c128_i32_63_r0
  let c0_i32_64_r0 : BitVec 32 := 0#32
  let v75_r0 : BitVec 32 := Scalar.select v74_r0 c0_i32_64_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c127_i32_69_r0 : BitVec 32 := 127#32
  let v83_r0 : BitVec 1 := Scalar.cmpi .sge arg5_r0 c127_i32_69_r0
  let true_70_r0 : BitVec 1 := 1#1
  let v84_r0 : BitVec 1 := Scalar.xori v83_r0 true_70_r0
  let v85_r0 : BitVec 1 := Scalar.andi v82_r0 v84_r0
  let true_71_r0 : BitVec 1 := 1#1
  let v86_r0 : BitVec 1 := Scalar.andi v85_r0 true_71_r0
  let v87_r0 : BitVec 32 := Scalar.extui v86_r0
  let c0_i32_72_r0 : BitVec 32 := 0#32
  let v88_r0 : BitVec 1 := Scalar.cmpi .ne v87_r0 c0_i32_72_r0
  v88_r0

def k0_off5 (i : grid0.Coords) (arg10_r0 : BitVec 32) : Fin 2 → Nat :=
  let c0_i32_105_r0 : BitVec 32 := 0#32
  let c128_i32_102_r0 : BitVec 32 := 128#32
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c128_i32_63_r0 : BitVec 32 := 128#32
  let v74_r0 : BitVec 1 := Scalar.cmpi .eq v73_r0 c128_i32_63_r0
  let c0_i32_64_r0 : BitVec 32 := 0#32
  let v75_r0 : BitVec 32 := Scalar.select v74_r0 c0_i32_64_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v76_r0 : BitVec 32 := Scalar.addi v75_r0 v4
  let v145_r0 : BitVec 32 := Scalar.muli c128_i32_102_r0 v76_r0
  ![0, v145_r0.toNat]
def k0_off6 (arg6_r0 : BitVec 32) : Fin 1 → Nat :=
  let c2_i32_101_r0 : BitVec 32 := 2#32
  let v144_r0 : BitVec 32 := Scalar.remui arg6_r0 c2_i32_101_r0
  ![v144_r0.toNat]
def k0_off7 (arg7_r0 : BitVec 32) : Fin 3 → Nat :=
  let c2_i32_102_r0 : BitVec 32 := 2#32
  let v145_r0 : BitVec 32 := Scalar.remui arg7_r0 c2_i32_102_r0
  let c0_i32_103_r0 : BitVec 32 := 0#32
  let c0_i32_104_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c127_i32_60_r0 : BitVec 32 := 127#32
  let v70_r0 : BitVec 32 := Scalar.select v69_r0 c127_i32_60_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_55_r0 : BitVec 32 := 0#32
  let v64_r0 : BitVec 1 := Scalar.cmpi .eq arg5_r0 c0_i32_55_r0
  let v97_r0 : BitVec 1 := Scalar.ori v96_r0 v64_r0
  let c0_i32_77_r0 : BitVec 32 := 0#32
  let v98_r0 : BitVec 1 := Scalar.cmpi .sge arg5_r0 c0_i32_77_r0
  let v99_r0 : BitVec 1 := Scalar.andi v97_r0 v98_r0
  let v100_r0 : BitVec 32 := Scalar.extui v99_r0
  let c0_i32_78_r0 : BitVec 32 := 0#32
  let v101_r0 : BitVec 1 := Scalar.cmpi .ne v100_r0 c0_i32_78_r0
  v101_r0

def k0_off8 (i : grid0.Coords) (arg10_r0 : BitVec 32) : Fin 2 → Nat :=
  let c0_i32_105_r0 : BitVec 32 := 0#32
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let v144_r0 : BitVec 32 := Scalar.muli c128_i32_101_r0 v66_r0
  ![0, v144_r0.toNat]
def k0_off9 (arg7_r0 : BitVec 32) : Fin 1 → Nat :=
  let c2_i32_102_r0 : BitVec 32 := 2#32
  let v145_r0 : BitVec 32 := Scalar.remui arg7_r0 c2_i32_102_r0
  ![v145_r0.toNat]
def k0_off10 (arg8_r0 : BitVec 32) : Fin 3 → Nat :=
  let c2_i32_82_r0 : BitVec 32 := 2#32
  let v109_r0 : BitVec 32 := Scalar.remui arg8_r0 c2_i32_82_r0
  let c0_i32_101_r1 : BitVec 32 := 0#32
  let c0_i32_102_r1 : BitVec 32 := 0#32
  ![v109_r0.toNat, 0, 0]

def k0_chk2 (arg8_r0 : BitVec 32) : Prop :=
  (∀ a, (k0_off10 arg8_r0) a + S1x128x256.size a ≤ S2x128x256.size a)
theorem k0_off10_inb : ∀ (arg8_r0 : BitVec 32) (k0_hw2 : k0_chk2 arg8_r0), ∀ a, (k0_off10 arg8_r0) a + S1x128x256.size a ≤ S2x128x256.size a := fun arg8_r0 k0_hw2 => k0_hw2

def k0_off11 (arg7_r0 : BitVec 32) : Fin 3 → Nat :=
  let c2_i32_81_r0 : BitVec 32 := 2#32
  let v108_r0 : BitVec 32 := Scalar.remui arg7_r0 c2_i32_81_r0
  let c0_i32_105_r1 : BitVec 32 := 0#32
  let c0_i32_106_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_101_r0 : BitVec 32 := 2#32
  let v144_r0 : BitVec 32 := Scalar.remui arg8_r0 c2_i32_101_r0
  let c0_i32_103_r0 : BitVec 32 := 0#32
  let c0_i32_104_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let true_62_r0 : BitVec 1 := 1#1
  let c1_i32_61_r0 : BitVec 32 := 1#32
  let v72_r0 : BitVec 32 := Scalar.addi arg10_r0 c1_i32_61_r0
  let v73_r0 : BitVec 32 := Scalar.select true_62_r0 v72_r0 arg10_r0
  let c128_i32_63_r0 : BitVec 32 := 128#32
  let v74_r0 : BitVec 1 := Scalar.cmpi .eq v73_r0 c128_i32_63_r0
  let c0_i32_64_r0 : BitVec 32 := 0#32
  let v75_r0 : BitVec 32 := Scalar.select v74_r0 c0_i32_64_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c127_i32_56_r0 : BitVec 32 := 127#32
  let v65_r0 : BitVec 1 := Scalar.cmpi .eq arg5_r0 c127_i32_56_r0
  let v116_r0 : BitVec 1 := Scalar.ori v115_r0 v65_r0
  let v117_r0 : BitVec 32 := Scalar.extui v116_r0
  let c0_i32_86_r0 : BitVec 32 := 0#32
  let v118_r0 : BitVec 1 := Scalar.cmpi .ne v117_r0 c0_i32_86_r0
  v118_r0

def k0_off13 (i : grid0.Coords) (arg10_r0 : BitVec 32) : Fin 2 → Nat :=
  let c128_i32_102_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let v145_r0 : BitVec 32 := Scalar.muli c128_i32_102_r0 v66_r0
  let c0_i32_105_r0 : BitVec 32 := 0#32
  ![v145_r0.toNat, 0]
def k0_off14 (arg8_r0 : BitVec 32) : Fin 1 → Nat :=
  let c2_i32_101_r0 : BitVec 32 := 2#32
  let v144_r0 : BitVec 32 := Scalar.remui arg8_r0 c2_i32_101_r0
  ![v144_r0.toNat]
def k0_off15 (arg9_r0 : BitVec 32) : Fin 3 → Nat :=
  let c2_i32_101_r0 : BitVec 32 := 2#32
  let v144_r0 : BitVec 32 := Scalar.remui arg9_r0 c2_i32_101_r0
  let c0_i32_103_r0 : BitVec 32 := 0#32
  let c0_i32_104_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v66_r0 : BitVec 32 := Scalar.addi arg10_r0 v4
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c127_i32_60_r0 : BitVec 32 := 127#32
  let v70_r0 : BitVec 32 := Scalar.select v69_r0 c127_i32_60_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_55_r0 : BitVec 32 := 0#32
  let v64_r0 : BitVec 1 := Scalar.cmpi .eq arg5_r0 c0_i32_55_r0
  let true_92_r0 : BitVec 1 := 1#1
  let v129_r0 : BitVec 1 := Scalar.xori v64_r0 true_92_r0
  let v130_r0 : BitVec 1 := Scalar.andi v128_r0 v129_r0
  let v131_r0 : BitVec 32 := Scalar.extui v130_r0
  let c0_i32_93_r0 : BitVec 32 := 0#32
  let v132_r0 : BitVec 1 := Scalar.cmpi .ne v131_r0 c0_i32_93_r0
  v132_r0

def k0_off16 (i : grid0.Coords) (arg10_r0 : BitVec 32) : Fin 2 → Nat :=
  let c128_i32_102_r0 : BitVec 32 := 128#32
  let true_58_r0 : BitVec 1 := 1#1
  let c1_i32_57_r0 : BitVec 32 := 1#32
  let v67_r0 : BitVec 32 := Scalar.subi arg10_r0 c1_i32_57_r0
  let v68_r0 : BitVec 32 := Scalar.select true_58_r0 v67_r0 arg10_r0
  let c_m1_i32_59_r0 : BitVec 32 := 4294967295#32
  let v69_r0 : BitVec 1 := Scalar.cmpi .eq v68_r0 c_m1_i32_59_r0
  let c127_i32_60_r0 : BitVec 32 := 127#32
  let v70_r0 : BitVec 32 := Scalar.select v69_r0 c127_i32_60_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v71_r0 : BitVec 32 := Scalar.addi v70_r0 v4
  let v145_r0 : BitVec 32 := Scalar.muli c128_i32_102_r0 v71_r0
  let c0_i32_105_r0 : BitVec 32 := 0#32
  ![v145_r0.toNat, 0]
def k0_off17 (arg9_r0 : BitVec 32) : Fin 1 → Nat :=
  let c2_i32_101_r0 : BitVec 32 := 2#32
  let v144_r0 : BitVec 32 := Scalar.remui arg9_r0 c2_i32_101_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x524288.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x524288.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x256.size a ≤ S2x128x256.size a) ∧
  (∀ (k0_h5 : k0_cond5 i k0_t1 arg10_r0 = 1#1), ∀ a, (k0_off13 i arg10_r0) a + S128x256.size a ≤ S524288x256.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x256.size a ≤ S2x128x256.size a) ∧
  (∀ (k0_h7 : k0_cond7 i k0_t1 arg10_r0 = 1#1), ∀ a, (k0_off16 i arg10_r0) a + S128x256.size a ≤ S524288x256.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x524288.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x524288.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x256.size a ≤ S2x128x256.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x256.size a ≤ S524288x256.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x256.size a ≤ S2x128x256.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x256.size a ≤ S524288x256.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_47_r0 : BitVec 32 := 2#32
  let v54_r0 : BitVec 32 := Scalar.remui v33_3_r0 c2_i32_47_r0
  let c0_i32_49_r0 : BitVec 32 := 0#32
  let c0_i32_50_r0 : BitVec 32 := 0#32
  ![v54_r0.toNat, 0, 0]

def k0_off19 (i : grid0.Coords) (v33_4_r0 : BitVec 32) : Fin 2 → Nat :=
  let c128_i32_48_r0 : BitVec 32 := 128#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c127_i32_34_r0 : BitVec 32 := 127#32
  let v37_r0 : BitVec 32 := Scalar.select v36_r0 c127_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c128_i32 : BitVec 32 := 128#32
  let v4 : BitVec 32 := Scalar.muli v3 c128_i32
  let v38_r0 : BitVec 32 := Scalar.addi v37_r0 v4
  let v55_r0 : BitVec 32 := Scalar.muli c128_i32_48_r0 v38_r0
  let c0_i32_51_r0 : BitVec 32 := 0#32
  ![v55_r0.toNat, 0]

def k0_chk5 (i : grid0.Coords) (v33_4_r0 : BitVec 32) : Prop :=
  (∀ a, (k0_off19 i v33_4_r0) a + S128x256.size a ≤ S524288x256.size a)
theorem k0_off19_inb : ∀ (i : grid0.Coords) (v33_4_r0 : BitVec 32) (k0_hw5 : k0_chk5 i v33_4_r0), ∀ a, (k0_off19 i v33_4_r0) a + S128x256.size a ≤ S524288x256.size a := fun i v33_4_r0 k0_hw5 => k0_hw5

def k0_off20 (v33_3_r0 : BitVec 32) : Fin 1 → Nat :=
  let c2_i32_47_r0 : BitVec 32 := 2#32
  let v54_r0 : BitVec 32 := Scalar.remui v33_3_r0 c2_i32_47_r0
  ![v54_r0.toNat]
def k0_off21 (v33_3_r0 : BitVec 32) : Fin 3 → Nat :=
  let c2_i32_47_r0 : BitVec 32 := 2#32
  let v54_r0 : BitVec 32 := Scalar.remui v33_3_r0 c2_i32_47_r0
  let c0_i32_53_r0 : BitVec 32 := 0#32
  let c0_i32_54_r0 : BitVec 32 := 0#32
  ![v54_r0.toNat, 0, 0]

def k0_chk4 (v33_3_r0 : BitVec 32) : Prop :=
  (∀ a, (k0_off18 v33_3_r0) a + S1x128x256.size a ≤ S2x128x256.size a) ∧
  (∀ a, (k0_off20 v33_3_r0) a + S1.size a ≤ S2.size a) ∧
  (∀ a, (k0_off21 v33_3_r0) a + S1x128x256.size a ≤ S2x128x256.size a)
theorem k0_off18_inb : ∀ (v33_3_r0 : BitVec 32) (k0_hw4 : k0_chk4 v33_3_r0), ∀ a, (k0_off18 v33_3_r0) a + S1x128x256.size a ≤ S2x128x256.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x256.size a ≤ S2x128x256.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x327680x256 : Shape := ⟨3, ![2, 327680, 256]⟩
abbrev S8x32768 : Shape := ⟨2, ![8, 32768]⟩
abbrev S1x327680x256 : Shape := ⟨3, ![1, 327680, 256]⟩
abbrev S327680x256 : Shape := ⟨2, ![327680, 256]⟩
abbrev S262144 : Shape := ⟨1, ![262144]⟩
abbrev S_ : Shape := ⟨0, ![]⟩
abbrev S262144x1 : Shape := ⟨2, ![262144, 1]⟩
abbrev S262144x256 : Shape := ⟨2, ![262144, 256]⟩
abbrev S524288x256 : Shape := ⟨2, ![524288, 256]⟩

abbrev nBuf : Space → Nat
  | .hbm => 27
  | .vmem => 0
  | .smem => 0
  | _ => 0

abbrev bufTy : (tb : Table) → Fin (tcTables nBuf tb) → BufTy
  | .hbm, ⟨0, _⟩ => ⟨S2x327680x256, .i32⟩
  | .hbm, ⟨1, _⟩ => ⟨S8x32768, .i32⟩
  | .hbm, ⟨2, _⟩ => ⟨S1x327680x256, .i32⟩
  | .hbm, ⟨3, _⟩ => ⟨S327680x256, .i32⟩
  | .hbm, ⟨4, _⟩ => ⟨S262144, .i32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S262144x256, .i32⟩
  | .hbm, ⟨14, _⟩ => ⟨S1x327680x256, .i32⟩
  | .hbm, ⟨15, _⟩ => ⟨S327680x256, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x256, .i32⟩
  | .hbm, ⟨26, _⟩ => ⟨S524288x256, .i32⟩
  | _, _ => ⟨S2x327680x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel2.lean ====
abbrev S320 : Shape := ⟨1, ![320]⟩
abbrev S2x327680x256 : Shape := ⟨3, ![2, 327680, 256]⟩
abbrev S2x64x1024x256 : Shape := ⟨4, ![2, 64, 1024, 256]⟩
abbrev S2x64x256x1024 : Shape := ⟨4, ![2, 64, 256, 1024]⟩
abbrev S4x327680x256 : Shape := ⟨3, ![4, 327680, 256]⟩
abbrev S2x1024x256 : Shape := ⟨3, ![2, 1024, 256]⟩
abbrev S1x1x1024x256 : Shape := ⟨4, ![1, 1, 1024, 256]⟩
abbrev S1 : Shape := ⟨1, ![1]⟩
abbrev S1x1x256x1024 : Shape := ⟨4, ![1, 1, 256, 1024]⟩
abbrev S4x1024x256 : Shape := ⟨3, ![4, 1024, 256]⟩
abbrev S1x1024x256 : Shape := ⟨3, ![1, 1024, 256]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 5
  | .vmem => 10
  | .smem => 2
  | _ => 0

abbrev bufTy : (tb : Table) → Fin (tcTables nBuf tb) → BufTy
  | .hbm, ⟨0, _⟩ => ⟨S2x327680x256, .i32⟩
  | .hbm, ⟨1, _⟩ => ⟨S2x64x1024x256, .f32⟩
  | .hbm, ⟨2, _⟩ => ⟨S2x64x1024x256, .f32⟩
  | .hbm, ⟨3, _⟩ => ⟨S2x64x256x1024, .f32⟩
  | .hbm, ⟨4, _⟩ => ⟨S4x327680x256, .bf16⟩
  | .local _ .vmem, ⟨0, _⟩ => ⟨S2x1024x256, .i32⟩
  | .local _ .vmem, ⟨1, _⟩ => ⟨S2x1024x256, .i32⟩
  | .local _ .vmem, ⟨2, _⟩ => ⟨S1x1x1024x256, .f32⟩
  | .local _ .vmem, ⟨3, _⟩ => ⟨S1x1x1024x256, .f32⟩
  | .local _ .vmem, ⟨4, _⟩ => ⟨S1x1x1024x256, .f32⟩
  | .local _ .vmem, ⟨5, _⟩ => ⟨S1x1x1024x256, .f32⟩
  | .local _ .vmem, ⟨6, _⟩ => ⟨S1x1x256x1024, .f32⟩
  | .local _ .vmem, ⟨7, _⟩ => ⟨S1x1x256x1024, .f32⟩
  | .local _ .vmem, ⟨8, _⟩ => ⟨S4x1024x256, .bf16⟩
  | .local _ .vmem, ⟨9, _⟩ => ⟨S4x1024x256, .bf16⟩
  | .local _ .smem, ⟨0, _⟩ => ⟨S320, .i32⟩
  | .local _ .smem, ⟨1, _⟩ => ⟨S320, .i32⟩
  | _, _ => ⟨S2x327680x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![320], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S320.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x1024x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S320 : Shape := ⟨1, ![320]⟩
abbrev S2x327680x256 : Shape := ⟨3, ![2, 327680, 256]⟩
abbrev S2x64x1024x256 : Shape := ⟨4, ![2, 64, 1024, 256]⟩
abbrev S2x64x256x1024 : Shape := ⟨4, ![2, 64, 256, 1024]⟩
abbrev S_ : Shape := ⟨0, ![]⟩
abbrev S1x327680x256 : Shape := ⟨3, ![1, 327680, 256]⟩
abbrev S327680x256 : Shape := ⟨2, ![327680, 256]⟩
abbrev S327680x1024 : Shape := ⟨2, ![327680, 1024]⟩
abbrev S320x1 : Shape := ⟨2, ![320, 1]⟩
abbrev S320x1024 : Shape := ⟨2, ![320, 1024]⟩
abbrev S327680 : Shape := ⟨1, ![327680]⟩
abbrev S1024 : Shape := ⟨1, ![1024]⟩
abbrev S1x1024 : Shape := ⟨2, ![1, 1024]⟩
abbrev S327680x1 : Shape := ⟨2, ![327680, 1]⟩
abbrev S1x64x1024x256 : Shape := ⟨4, ![1, 64, 1024, 256]⟩
abbrev S64x1024x256 : Shape := ⟨3, ![64, 1024, 256]⟩
abbrev S327680x1024x256 : Shape := ⟨3, ![327680, 1024, 256]⟩
abbrev S1x64x256x1024 : Shape := ⟨4, ![1, 64, 256, 1024]⟩
abbrev S64x256x1024 : Shape := ⟨3, ![64, 256, 1024]⟩
abbrev S327680x256x1024 : Shape := ⟨3, ![327680, 256, 1024]⟩
abbrev S327680x4x256 : Shape := ⟨3, ![327680, 4, 256]⟩
abbrev S4x327680x256 : Shape := ⟨3, ![4, 327680, 256]⟩

abbrev nBuf : Space → Nat
  | .hbm => 90
  | .vmem => 0
  | .smem => 0
  | _ => 0

abbrev bufTy : (tb : Table) → Fin (tcTables nBuf tb) → BufTy
  | .hbm, ⟨0, _⟩ => ⟨S320, .i32⟩
  | .hbm, ⟨1, _⟩ => ⟨S320, .i32⟩
  | .hbm, ⟨2, _⟩ => ⟨S2x327680x256, .i32⟩
  | .hbm, ⟨3, _⟩ => ⟨S2x64x1024x256, .f32⟩
  | .hbm, ⟨4, _⟩ => ⟨S2x64x1024x256, .f32⟩
  | .hbm, ⟨5, _⟩ => ⟨S2x64x256x1024, .f32⟩
  | .hbm, ⟨6, _⟩ => ⟨S2x327680x256, .i32⟩
  | .hbm, ⟨7, _⟩ => ⟨S_, .i32⟩
  | .hbm, ⟨8, _⟩ => ⟨S2x327680x256, .i32⟩
  | .hbm, ⟨9, _⟩ => ⟨S2x327680x256, .i32⟩
  | .hbm, ⟨10, _⟩ => ⟨S2x327680x256, .f32⟩
  | .hbm, ⟨11, _⟩ => ⟨S_, .i32⟩
  | .hbm, ⟨12, _⟩ => ⟨S2x327680x256, .i32⟩
  | .hbm, ⟨13, _⟩ => ⟨S2x327680x256, .i32⟩
  | .hbm, ⟨14, _⟩ => ⟨S2x327680x256, .f32⟩
  | .hbm, ⟨15, _⟩ => ⟨S1x327680x256, .f32⟩
  | .hbm, ⟨16, _⟩ => ⟨S327680x256, .f32⟩
  | .hbm, ⟨17, _⟩ => ⟨S1x327680x256, .f32⟩
  | .hbm, ⟨18, _⟩ => ⟨S327680x256, .f32⟩
  | .hbm, ⟨19, _⟩ => ⟨S1x327680x256, .f32⟩
  | .hbm, ⟨20, _⟩ => ⟨S327680x256, .f32⟩
  | .hbm, ⟨21, _⟩ => ⟨S1x327680x256, .f32⟩
  | .hbm, ⟨22, _⟩ => ⟨S327680x256, .f32⟩
  | .hbm, ⟨23, _⟩ => ⟨S327680x1024, .f32⟩
  | .hbm, ⟨24, _⟩ => ⟨S320x1, .i32⟩
  | .hbm, ⟨25, _⟩ => ⟨S320x1024, .i32⟩
  | .hbm, ⟨26, _⟩ => ⟨S327680, .i32⟩
  | .hbm, ⟨27, _⟩ => ⟨S1024, .i32⟩
  | .hbm, ⟨28, _⟩ => ⟨S1x1024, .i32⟩
  | .hbm, ⟨29, _⟩ => ⟨S320x1024, .i32⟩
  | .hbm, ⟨30, _⟩ => ⟨S327680, .i32⟩
  | .hbm, ⟨31, _⟩ => ⟨S327680, .i1⟩
  | .hbm, ⟨32, _⟩ => ⟨S327680x1, .i1⟩
  | .hbm, ⟨33, _⟩ => ⟨S_, .f32⟩
  | .hbm, ⟨34, _⟩ => ⟨S_, .f32⟩
  | .hbm, ⟨35, _⟩ => ⟨S327680x1024, .i1⟩
  | .hbm, ⟨36, _⟩ => ⟨S327680x1024, .f32⟩
  | .hbm, ⟨37, _⟩ => ⟨S327680x1024, .f32⟩
  | .hbm, ⟨38, _⟩ => ⟨S320x1, .i32⟩
  | .hbm, ⟨39, _⟩ => ⟨S320x1024, .i32⟩
  | .hbm, ⟨40, _⟩ => ⟨S327680, .i32⟩
  | .hbm, ⟨41, _⟩ => ⟨S1x64x1024x256, .f32⟩
  | .hbm, ⟨42, _⟩ => ⟨S64x1024x256, .f32⟩
  | .hbm, ⟨43, _⟩ => ⟨S_, .i32⟩
  | .hbm, ⟨44, _⟩ => ⟨S327680, .i32⟩
  | .hbm, ⟨45, _⟩ => ⟨S327680, .i1⟩
  | .hbm, ⟨46, _⟩ => ⟨S_, .i32⟩
  | .hbm, ⟨47, _⟩ => ⟨S327680, .i32⟩
  | .hbm, ⟨48, _⟩ => ⟨S327680, .i32⟩
  | .hbm, ⟨49, _⟩ => ⟨S327680, .i32⟩
  | .hbm, ⟨50, _⟩ => ⟨S327680x1, .i32⟩
  | .hbm, ⟨51, _⟩ => ⟨S327680x1024x256, .f32⟩
  | .hbm, ⟨52, _⟩ => ⟨S327680x256, .f32⟩
  | .hbm, ⟨53, _⟩ => ⟨S1x64x1024x256, .f32⟩
  | .hbm, ⟨54, _⟩ => ⟨S64x1024x256, .f32⟩
  | .hbm, ⟨55, _⟩ => ⟨S_, .i32⟩
  | .hbm, ⟨56, _⟩ => ⟨S327680, .i32⟩
  | .hbm, ⟨57, _⟩ => ⟨S327680, .i1⟩
  | .hbm, ⟨58, _⟩ => ⟨S_, .i32⟩
  | .hbm, ⟨59, _⟩ => ⟨S327680, .i32⟩
  | .hbm, ⟨60, _⟩ => ⟨S327680, .i32⟩
  | .hbm, ⟨61, _⟩ => ⟨S327680, .i32⟩
  | .hbm, ⟨62, _⟩ => ⟨S327680x1, .i32⟩
  | .hbm, ⟨63, _⟩ => ⟨S327680x1024x256, .f32⟩
  | .hbm, ⟨64, _⟩ => ⟨S327680x256, .f32⟩
  | .hbm, ⟨65, _⟩ => ⟨S327680x256, .f32⟩
  | .hbm, ⟨66, _⟩ => ⟨S327680x256, .f32⟩
  | .hbm, ⟨67, _⟩ => ⟨S_, .f32⟩
  | .hbm, ⟨68, _⟩ => ⟨S327680x256, .f32⟩
  | .hbm, ⟨69, _⟩ => ⟨S327680x256, .f32⟩
  | .hbm, ⟨70, _⟩ => ⟨S_, .f32⟩
  | .hbm, ⟨71, _⟩ => ⟨S327680x256, .f32⟩
  | .hbm, ⟨72, _⟩ => ⟨S327680x256, .f32⟩
  | .hbm, ⟨73, _⟩ => ⟨S327680x256, .f32⟩
  | .hbm, ⟨74, _⟩ => ⟨S327680x256, .f32⟩
  | .hbm, ⟨75, _⟩ => ⟨S1x64x256x1024, .f32⟩
  | .hbm, ⟨76, _⟩ => ⟨S64x256x1024, .f32⟩
  | .hbm, ⟨77, _⟩ => ⟨S_, .i32⟩
  | .hbm, ⟨78, _⟩ => ⟨S327680, .i32⟩
  | .hbm, ⟨79, _⟩ => ⟨S327680, .i1⟩
  | .hbm, ⟨80, _⟩ => ⟨S_, .i32⟩
  | .hbm, ⟨81, _⟩ => ⟨S327680, .i32⟩
  | .hbm, ⟨82, _⟩ => ⟨S327680, .i32⟩
  | .hbm, ⟨83, _⟩ => ⟨S327680, .i32⟩
  | .hbm, ⟨84, _⟩ => ⟨S327680x1, .i32⟩
  | .hbm, ⟨85, _⟩ => ⟨S327680x256x1024, .f32⟩
  | .hbm, ⟨86, _⟩ => ⟨S327680x1024, .f32⟩
  | .hbm, ⟨87, _⟩ => ⟨S327680x4x256, .f32⟩
  | .hbm, ⟨88, _⟩ => ⟨S4x327680x256, .f32⟩
  | .hbm, ⟨89, _⟩ => ⟨S4x327680x256, .bf16⟩
  | _, _ => ⟨S320, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_1 : Ref sig .tc := ⟨.hbm, 43, rfl⟩
abbrev main_v31 : Ref sig .tc := ⟨.hbm, 44, rfl⟩
abbrev main_v32 : Ref sig .tc := ⟨.hbm, 45, rfl⟩
abbrev main_c_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_3 : Ref sig .tc := ⟨.hbm, 55, rfl⟩
abbrev main_v41 : Ref sig .tc := ⟨.hbm, 56, rfl⟩
abbrev main_v42 : Ref sig .tc := ⟨.hbm, 57, rfl⟩
abbrev main_c_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_5 : Ref sig .tc := ⟨.hbm, 77, rfl⟩
abbrev main_v53 : Ref sig .tc := ⟨.hbm, 78, rfl⟩
abbrev main_v54 : Ref sig .tc := ⟨.hbm, 79, rfl⟩
abbrev main_c_6 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x6x1024 : Shape := ⟨3, ![2, 6, 1024]⟩
abbrev S2x8x32768x256 : Shape := ⟨4, ![2, 8, 32768, 256]⟩
abbrev S32768x128 : Shape := ⟨2, ![32768, 128]⟩
abbrev S2x1024x256 : Shape := ⟨3, ![2, 1024, 256]⟩
abbrev S2x256x1024 : Shape := ⟨3, ![2, 256, 1024]⟩
abbrev S2x1024 : Shape := ⟨2, ![2, 1024]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S1x512x1024 : Shape := ⟨3, ![1, 512, 1024]⟩
abbrev S1x6x1024 : Shape := ⟨3, ![1, 6, 1024]⟩
abbrev S2x8x512x256 : Shape := ⟨4, ![2, 8, 512, 256]⟩
abbrev S512x128 : Shape := ⟨2, ![512, 128]⟩
abbrev S512x1024 : Shape := ⟨2, ![512, 1024]⟩
abbrev S512x256 : Shape := ⟨2, ![512, 256]⟩
abbrev S512x1 : Shape := ⟨2, ![512, 1]⟩
abbrev S1x1x512x256 : Shape := ⟨4, ![1, 1, 512, 256]⟩
abbrev S6x1024 : Shape := ⟨2, ![6, 1024]⟩
abbrev S512 : Shape := ⟨1, ![512]⟩

abbrev nBuf : Space → Nat
  | .hbm => 22
  | .vmem => 16
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x6x1024, .f32⟩
  | .hbm, ⟨3, _⟩ => ⟨S2x8x32768x256, .i32⟩
  | .hbm, ⟨4, _⟩ => ⟨S32768x128, .f32⟩
  | .hbm, ⟨5, _⟩ => ⟨S2x1024x256, .f32⟩
  | .hbm, ⟨6, _⟩ => ⟨S2x1024x256, .f32⟩
  | .hbm, ⟨7, _⟩ => ⟨S2x256x1024, .f32⟩
  | .hbm, ⟨8, _⟩ => ⟨S2x1024, .f32⟩
  | .hbm, ⟨9, _⟩ => ⟨S1x1024x256, .f32⟩
  | .hbm, ⟨10, _⟩ => ⟨S1024x256, .f32⟩
  | .hbm, ⟨11, _⟩ => ⟨S1024x256, .bf16⟩
  | .hbm, ⟨12, _⟩ => ⟨S1x1024x256, .f32⟩
  | .hbm, ⟨13, _⟩ => ⟨S1024x256, .f32⟩
  | .hbm, ⟨14, _⟩ => ⟨S1024x256, .bf16⟩
  | .hbm, ⟨15, _⟩ => ⟨S1x256x1024, .f32⟩
  | .hbm, ⟨16, _⟩ => ⟨S256x1024, .f32⟩
  | .hbm, ⟨17, _⟩ => ⟨S256x1024, .bf16⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x6x1024, .f32⟩
  | .local _ .vmem, ⟨5, _⟩ => ⟨S1x6x1024, .f32⟩
  | .local _ .vmem, ⟨6, _⟩ => ⟨S2x8x512x256, .i32⟩
  | .local _ .vmem, ⟨7, _⟩ => ⟨S2x8x512x256, .i32⟩
  | .local _ .vmem, ⟨8, _⟩ => ⟨S512x128, .f32⟩
  | .local _ .vmem, ⟨9, _⟩ => ⟨S512x128, .f32⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x8x512x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S2x16384x1024 : Shape := ⟨3, ![2, 16384, 1024]⟩
abbrev S2x6x1024 : Shape := ⟨3, ![2, 6, 1024]⟩
abbrev S2x8x32768x256 : Shape := ⟨4, ![2, 8, 32768, 256]⟩
abbrev S32768x128 : Shape := ⟨2, ![32768, 128]⟩
abbrev S2x1024x256 : Shape := ⟨3, ![2, 1024, 256]⟩
abbrev S2x256x1024 : Shape := ⟨3, ![2, 256, 1024]⟩
abbrev S2x1024 : Shape := ⟨2, ![2, 1024]⟩
abbrev S32768x1024 : Shape := ⟨2, ![32768, 1024]⟩
abbrev S_ : Shape := ⟨0, ![]⟩
abbrev S1x8x32768x256 : Shape := ⟨4, ![1, 8, 32768, 256]⟩
abbrev S8x32768x256 : Shape := ⟨3, ![8, 32768, 256]⟩
abbrev S8x32768x1024 : Shape := ⟨3, ![8, 32768, 1024]⟩
abbrev S32768x8 : Shape := ⟨2, ![32768, 8]⟩
abbrev S1x1024x256 : Shape := ⟨3, ![1, 1024, 256]⟩
abbrev S1024x256 : Shape := ⟨2, ![1024, 256]⟩
abbrev S32768x256 : Shape := ⟨2, ![32768, 256]⟩
abbrev S1x256x1024 : Shape := ⟨3, ![1, 256, 1024]⟩
abbrev S256x1024 : Shape := ⟨2, ![256, 1024]⟩
abbrev S32768 : Shape := ⟨1, ![32768]⟩
abbrev S32768x1 : Shape := ⟨2, ![32768, 1]⟩
abbrev S1x1024 : Shape := ⟨2, ![1, 1024]⟩
abbrev S1024 : Shape := ⟨1, ![1024]⟩
abbrev S2x1x1024 : Shape := ⟨3, ![2, 1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x6x1024, .f32⟩
  | .hbm, ⟨3, _⟩ => ⟨S2x8x32768x256, .i32⟩
  | .hbm, ⟨4, _⟩ => ⟨S32768x128, .f32⟩
  | .hbm, ⟨5, _⟩ => ⟨S2x1024x256, .f32⟩
  | .hbm, ⟨6, _⟩ => ⟨S2x1024x256, .f32⟩
  | .hbm, ⟨7, _⟩ => ⟨S2x256x1024, .f32⟩
  | .hbm, ⟨8, _⟩ => ⟨S2x1024, .f32⟩
  | .hbm, ⟨9, _⟩ => ⟨S32768x1024, .f32⟩
  | .hbm, ⟨10, _⟩ => ⟨S2x8x32768x256, .i32⟩
  | .hbm, ⟨11, _⟩ => ⟨S_, .i32⟩
  | .hbm, ⟨12, _⟩ => ⟨S2x8x32768x256, .i32⟩
  | .hbm, ⟨13, _⟩ => ⟨S2x8x32768x256, .i32⟩
  | .hbm, ⟨14, _⟩ => ⟨S2x8x32768x256, .f32⟩
  | .hbm, ⟨15, _⟩ => ⟨S_, .i32⟩
  | .hbm, ⟨16, _⟩ => ⟨S2x8x32768x256, .i32⟩
  | .hbm, ⟨17, _⟩ => ⟨S2x8x32768x256, .i32⟩
  | .hbm, ⟨18, _⟩ => ⟨S2x8x32768x256, .f32⟩
  | .hbm, ⟨19, _⟩ => ⟨S1x8x32768x256, .f32⟩
  | .hbm, ⟨20, _⟩ => ⟨S8x32768x256, .f32⟩
  | .hbm, ⟨21, _⟩ => ⟨S1x8x32768x256, .f32⟩
  | .hbm, ⟨22, _⟩ => ⟨S8x32768x256, .f32⟩
  | .hbm, ⟨23, _⟩ => ⟨S1x8x32768x256, .f32⟩
  | .hbm, ⟨24, _⟩ => ⟨S8x32768x256, .f32⟩
  | .hbm, ⟨25, _⟩ => ⟨S1x8x32768x256, .f32⟩
  | .hbm, ⟨26, _⟩ => ⟨S8x32768x256, .f32⟩
  | .hbm, ⟨27, _⟩ => ⟨S8x32768x1024, .f32⟩
  | .hbm, ⟨28, _⟩ => ⟨S32768x8, .f32⟩
  | .hbm, ⟨29, _⟩ => ⟨S32768x1024, .f32⟩
  | .hbm, ⟨30, _⟩ => ⟨S1x1024x256, .f32⟩
  | .hbm, ⟨31, _⟩ => ⟨S1024x256, .f32⟩
  | .hbm, ⟨32, _⟩ => ⟨S32768x256, .f32⟩
  | .hbm, ⟨33, _⟩ => ⟨S32768x256, .f32⟩
  | .hbm, ⟨34, _⟩ => ⟨S32768x256, .f32⟩
  | .hbm, ⟨35, _⟩ => ⟨S_, .f32⟩
  | .hbm, ⟨36, _⟩ => ⟨S32768x256, .f32⟩
  | .hbm, ⟨37, _⟩ => ⟨S32768x256, .f32⟩
  | .hbm, ⟨38, _⟩ => ⟨S_, .f32⟩
  | .hbm, ⟨39, _⟩ => ⟨S32768x256, .f32⟩
  | .hbm, ⟨40, _⟩ => ⟨S32768x256, .f32⟩
  | .hbm, ⟨41, _⟩ => ⟨S32768x256, .f32⟩
  | .hbm, ⟨42, _⟩ => ⟨S1x1024x256, .f32⟩
  | .hbm, ⟨43, _⟩ => ⟨S1024x256, .f32⟩
  | .hbm, ⟨44, _⟩ => ⟨S32768x256, .f32⟩
  | .hbm, ⟨45, _⟩ => ⟨S32768x256, .f32⟩
  | .hbm, ⟨46, _⟩ => ⟨S1x256x1024, .f32⟩
  | .hbm, ⟨47, _⟩ => ⟨S256x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S1x1024, .f32⟩
  | .hbm, ⟨64, _⟩ => ⟨S1024, .f32⟩
  | .hbm, ⟨65, _⟩ => ⟨S1x1024, .f32⟩
  | .hbm, ⟨66, _⟩ => ⟨S32768x1024, .f32⟩
  | .hbm, ⟨67, _⟩ => ⟨S32768x1024, .f32⟩
  | .hbm, ⟨68, _⟩ => ⟨S2x1x1024, .f32⟩
  | .hbm, ⟨69, _⟩ => ⟨S2x16384x1024, .f32⟩
  | .hbm, ⟨70, _⟩ => ⟨S2x16384x1024, .f32⟩
  | .hbm, ⟨71, _⟩ => ⟨S2x16384x1024, .f32⟩
  | .hbm, ⟨72, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_v32 : Ref sig .tc := ⟨.hbm, 52, rfl⟩
abbrev main_v33 : Ref sig .tc := ⟨.hbm, 53, rfl⟩
abbrev main_cst_1 : Ref sig .tc := ⟨.hbm, 54, rfl⟩
abbrev main_v34 : Ref sig .tc := ⟨.hbm, 55, rfl⟩
abbrev main_v35 : Ref sig .tc := ⟨.hbm, 56, rfl⟩
abbrev main_cst_2 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]
-- ==== Kernel4.lean ====
abbrev S2x2x128x16384 : Shape := ⟨4, ![2, 2, 128, 16384]⟩
abbrev S2x2x16640x128 : Shape := ⟨4, ![2, 2, 16640, 128]⟩
abbrev S2x2x65x80x256 : Shape := ⟨5, ![2, 2, 65, 80, 256]⟩
abbrev S2x2x2x128 : Shape := ⟨4, ![2, 2, 2, 128]⟩
abbrev S2x16384x256 : Shape := ⟨3, ![2, 16384, 256]⟩
abbrev S2x2x2x16384 : Shape := ⟨4, ![2, 2, 2, 16384]⟩
abbrev S1x1x128x512 : Shape := ⟨4, ![1, 1, 128, 512]⟩
abbrev S1x1x16640x128 : Shape := ⟨4, ![1, 1, 16640, 128]⟩
abbrev S1x1x65x80x256 : Shape := ⟨5, ![1, 1, 65, 80, 256]⟩
abbrev S1x1x2x128 : Shape := ⟨4, ![1, 1, 2, 128]⟩
abbrev S1x512x128 : Shape := ⟨3, ![1, 512, 128]⟩
abbrev S1x1x2x512 : Shape := ⟨4, ![1, 1, 2, 512]⟩
abbrev S2x256x1024 : Shape := ⟨3, ![2, 256, 1024]⟩
abbrev S80x1024 : Shape := ⟨2, ![80, 1024]⟩
abbrev S128x512 : Shape := ⟨2, ![128, 512]⟩
abbrev S128x1024 : Shape := ⟨2, ![128, 1024]⟩
abbrev S2x128 : Shape := ⟨2, ![2, 128]⟩
abbrev S512 : Shape := ⟨1, ![512]⟩
abbrev S1x512 : Shape := ⟨2, ![1, 512]⟩
abbrev S1x1 : Shape := ⟨2, ![1, 1]⟩
abbrev S1x1024 : Shape := ⟨2, ![1, 1024]⟩
abbrev S256x1024 : Shape := ⟨2, ![256, 1024]⟩
abbrev S1x256x1024 : Shape := ⟨3, ![1, 256, 1024]⟩
abbrev S1x1x1x80x256 : Shape := ⟨5, ![1, 1, 1, 80, 256]⟩
abbrev S80x256 : Shape := ⟨2, ![80, 256]⟩
abbrev S1x1x256x128 : Shape := ⟨4, ![1, 1, 256, 128]⟩
abbrev S256x128 : Shape := ⟨2, ![256, 128]⟩
abbrev S2x512 : Shape := ⟨2, ![2, 512]⟩
abbrev S64x1024 : Shape := ⟨2, ![64, 1024]⟩
abbrev S64x512 : Shape := ⟨2, ![64, 512]⟩
abbrev S512x128 : Shape := ⟨2, ![512, 128]⟩

abbrev nBuf : Space → Nat
  | .hbm => 6
  | .vmem => 14
  | .smem => 0
  | _ => 0

abbrev bufTy : (tb : Table) → Fin (tcTables nBuf tb) → BufTy
  | .hbm, ⟨0, _⟩ => ⟨S2x2x128x16384, .bf16⟩
  | .hbm, ⟨1, _⟩ => ⟨S2x2x16640x128, .bf16⟩
  | .hbm, ⟨2, _⟩ => ⟨S2x2x65x80x256, .bf16⟩
  | .hbm, ⟨3, _⟩ => ⟨S2x2x2x128, .f32⟩
  | .hbm, ⟨4, _⟩ => ⟨S2x16384x256, .bf16⟩
  | .hbm, ⟨5, _⟩ => ⟨S2x2x2x16384, .f32⟩
  | .local _ .vmem, ⟨0, _⟩ => ⟨S1x1x128x512, .bf16⟩
  | .local _ .vmem, ⟨1, _⟩ => ⟨S1x1x128x512, .bf16⟩
  | .local _ .vmem, ⟨2, _⟩ => ⟨S1x1x16640x128, .bf16⟩
  | .local _ .vmem, ⟨3, _⟩ => ⟨S1x1x16640x128, .bf16⟩
  | .local _ .vmem, ⟨4, _⟩ => ⟨S1x1x65x80x256, .bf16⟩
  | .local _ .vmem, ⟨5, _⟩ => ⟨S1x1x65x80x256, .bf16⟩
  | .local _ .vmem, ⟨6, _⟩ => ⟨S1x1x2x128, .f32⟩
  | .local _ .vmem, ⟨7, _⟩ => ⟨S1x1x2x128, .f32⟩
  | .local _ .vmem, ⟨8, _⟩ => ⟨S1x512x128, .bf16⟩
  | .local _ .vmem, ⟨9, _⟩ => ⟨S1x512x128, .bf16⟩
  | .local _ .vmem, ⟨10, _⟩ => ⟨S1x1x2x512, .f32⟩
  | .local _ .vmem, ⟨11, _⟩ => ⟨S1x1x2x512, .f32⟩
  | .local _ .vmem, ⟨12, _⟩ => ⟨S2x256x1024, .bf16⟩
  | .local _ .vmem, ⟨13, _⟩ => ⟨S80x1024, .f32⟩
  | _, _ => ⟨S2x2x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 32], ![false, false, false]⟩

def k0_off1 (c0_i32_23 : BitVec 32) : Fin 5 → Nat :=
  let c0_27 : Index := 0#32
  let c0_28 : Index := 0#32
  let c64_i32_22 : BitVec 32 := 64#32
  let c0_i32 : BitVec 32 := 0#32
  let v45 : BitVec 32 := Scalar.muli c64_i32_22 c0_i32
  let v46 : BitVec 32 := Scalar.addi v45 c0_i32_23
  let c2_i32 : BitVec 32 := 2#32
  let v47 : BitVec 32 := Scalar.subi v46 c2_i32
  let c0_i32_24 : BitVec 32 := 0#32
  let v48 : BitVec 32 := Scalar.maxsi v47 c0_i32_24
  let v50 : Index := Scalar.indexCast v48
  let c0_29 : Index := 0#32
  let c0_30 : Index := 0#32
  ![0, 0, v50.toNat, 0, 0]
def k0_mult1 : BitVec 32 :=
  let c64_i32_22 : BitVec 32 := 64#32
  let c0_i32 : BitVec 32 := 0#32
  let v45 : BitVec 32 := Scalar.muli c64_i32_22 c0_i32
  let c0_i32_23 : BitVec 32 := 0#32
  let v46 : BitVec 32 := Scalar.addi v45 c0_i32_23
  let c256_i32 : BitVec 32 := 256#32
  let v60 : BitVec 32 := Scalar.muli v46 c256_i32
  v60
def k0_off2 (c0_i32_23 : BitVec 32) : Fin 4 → Nat :=
  let c0_37 : Index := 0#32
  let c0_38 : Index := 0#32
  let c64_i32_22 : BitVec 32 := 64#32
  let c0_i32 : BitVec 32 := 0#32
  let v45 : BitVec 32 := Scalar.muli c64_i32_22 c0_i32
  let v46 : BitVec 32 := Scalar.addi v45 c0_i32_23
  let c256_i32 : BitVec 32 := 256#32
  let v60 : BitVec 32 := Scalar.muli v46 c256_i32
  let v61 : BitVec 32 := v60
  let v62 : Index := Scalar.indexCast v61
  let c0_39 : Index := 0#32
  ![0, 0, v62.toNat, 0]
def k0_mult2 : BitVec 32 :=
  let c64_i32_44 : BitVec 32 := 64#32
  let c0_i32 : BitVec 32 := 0#32
  let v73 : BitVec 32 := Scalar.muli c64_i32_44 c0_i32
  let c1_i32 : BitVec 32 := 1#32
  let v74 : BitVec 32 := Scalar.addi v73 c1_i32
  let c256_i32_59 : BitVec 32 := 256#32
  let v88 : BitVec 32 := Scalar.muli v74 c256_i32_59
  v88
def k0_mult3 : BitVec 32 :=
  let c64_i32_67 : BitVec 32 := 64#32
  let c0_i32 : BitVec 32 := 0#32
  let v101 : BitVec 32 := Scalar.muli c64_i32_67 c0_i32
  let c2_i32_68 : BitVec 32 := 2#32
  let v102 : BitVec 32 := Scalar.addi v101 c2_i32_68
  let c256_i32_83 : BitVec 32 := 256#32
  let v116 : BitVec 32 := Scalar.muli v102 c256_i32_83
  v116
def k0_mult4 : BitVec 32 :=
  let c64_i32_91 : BitVec 32 := 64#32
  let c0_i32 : BitVec 32 := 0#32
  let v129 : BitVec 32 := Scalar.muli c64_i32_91 c0_i32
  let c3_i32 : BitVec 32 := 3#32
  let v130 : BitVec 32 := Scalar.addi v129 c3_i32
  let c256_i32_106 : BitVec 32 := 256#32
  let v144 : BitVec 32 := Scalar.muli v130 c256_i32_106
  v144
def k0_mult5 : BitVec 32 :=
  let c64_i32_114 : BitVec 32 := 64#32
  let c0_i32 : BitVec 32 := 0#32
  let v157 : BitVec 32 := Scalar.muli c64_i32_114 c0_i32
  let c4_i32 : BitVec 32 := 4#32
  let v158 : BitVec 32 := Scalar.addi v157 c4_i32
  let c256_i32_129 : BitVec 32 := 256#32
  let v172 : BitVec 32 := Scalar.muli v158 c256_i32_129
  v172
def k0_mult6 : BitVec 32 :=
  let c64_i32_137 : BitVec 32 := 64#32
  let c0_i32 : BitVec 32 := 0#32
  let v185 : BitVec 32 := Scalar.muli c64_i32_137 c0_i32
  let c5_i32 : BitVec 32 := 5#32
  let v186 : BitVec 32 := Scalar.addi v185 c5_i32
  let c256_i32_152 : BitVec 32 := 256#32
  let v200 : BitVec 32 := Scalar.muli v186 c256_i32_152
  v200
def k0_mult7 : BitVec 32 :=
  let c64_i32_160 : BitVec 32 := 64#32
  let c0_i32 : BitVec 32 := 0#32
  let v213 : BitVec 32 := Scalar.muli c64_i32_160 c0_i32
  let c6_i32 : BitVec 32 := 6#32
  let v214 : BitVec 32 := Scalar.addi v213 c6_i32
  let c256_i32_175 : BitVec 32 := 256#32
  let v228 : BitVec 32 := Scalar.muli v214 c256_i32_175
  v228
def k0_mult8 : BitVec 32 :=
  let c64_i32_183 : BitVec 32 := 64#32
  let c0_i32 : BitVec 32 := 0#32
  let v241 : BitVec 32 := Scalar.muli c64_i32_183 c0_i32
  let c7_i32 : BitVec 32 := 7#32
  let v242 : BitVec 32 := Scalar.addi v241 c7_i32
  let c256_i32_198 : BitVec 32 := 256#32
  let v256 : BitVec 32 := Scalar.muli v242 c256_i32_198
  v256
def k0_mult9 : BitVec 32 :=
  let c64_i32_206 : BitVec 32 := 64#32
  let c0_i32 : BitVec 32 := 0#32
  let v269 : BitVec 32 := Scalar.muli c64_i32_206 c0_i32
  let c8_i32 : BitVec 32 := 8#32
  let v270 : BitVec 32 := Scalar.addi v269 c8_i32
  let c256_i32_221 : BitVec 32 := 256#32
  let v284 : BitVec 32 := Scalar.muli v270 c256_i32_221
  v284
def k0_mult10 : BitVec 32 :=
  let c64_i32_229 : BitVec 32 := 64#32
  let c0_i32 : BitVec 32 := 0#32
  let v297 : BitVec 32 := Scalar.muli c64_i32_229 c0_i32
  let c9_i32 : BitVec 32 := 9#32
  let v298 : BitVec 32 := Scalar.addi v297 c9_i32
  let c256_i32_244 : BitVec 32 := 256#32
  let v312 : BitVec 32 := Scalar.muli v298 c256_i32_244
  v312
def k0_mult11 : BitVec 32 :=
  let c64_i32_252 : BitVec 32 := 64#32
  let c0_i32 : BitVec 32 := 0#32
  let v325 : BitVec 32 := Scalar.muli c64_i32_252 c0_i32
  let c10_i32 : BitVec 32 := 10#32
  let v326 : BitVec 32 := Scalar.addi v325 c10_i32
  let c256_i32_267 : BitVec 32 := 256#32
  let v340 : BitVec 32 := Scalar.muli v326 c256_i32_267
  v340
def k0_mult12 : BitVec 32 :=
  let c64_i32_275 : BitVec 32 := 64#32
  let c0_i32 : BitVec 32 := 0#32
  let v353 : BitVec 32 := Scalar.muli c64_i32_275 c0_i32
  let c11_i32 : BitVec 32 := 11#32
  let v354 : BitVec 32 := Scalar.addi v353 c11_i32
  let c256_i32_290 : BitVec 32 := 256#32
  let v368 : BitVec 32 := Scalar.muli v354 c256_i32_290
  v368
def k0_mult13 : BitVec 32 :=
  let c64_i32_298 : BitVec 32 := 64#32
  let c0_i32 : BitVec 32 := 0#32
  let v381 : BitVec 32 := Scalar.muli c64_i32_298 c0_i32
  let c12_i32 : BitVec 32 := 12#32
  let v382 : BitVec 32 := Scalar.addi v381 c12_i32
  let c256_i32_313 : BitVec 32 := 256#32
  let v396 : BitVec 32 := Scalar.muli v382 c256_i32_313
  v396
def k0_mult14 : BitVec 32 :=
  let c64_i32_321 : BitVec 32 := 64#32
  let c0_i32 : BitVec 32 := 0#32
  let v409 : BitVec 32 := Scalar.muli c64_i32_321 c0_i32
  let c13_i32 : BitVec 32 := 13#32
  let v410 : BitVec 32 := Scalar.addi v409 c13_i32
  let c256_i32_336 : BitVec 32 := 256#32
  let v424 : BitVec 32 := Scalar.muli v410 c256_i32_336
  v424
def k0_mult15 : BitVec 32 :=
  let c64_i32_344 : BitVec 32 := 64#32
  let c0_i32 : BitVec 32 := 0#32
  let v437 : BitVec 32 := Scalar.muli c64_i32_344 c0_i32
  let c14_i32 : BitVec 32 := 14#32
  let v438 : BitVec 32 := Scalar.addi v437 c14_i32
  let c256_i32_359 : BitVec 32 := 256#32
  let v452 : BitVec 32 := Scalar.muli v438 c256_i32_359
  v452
def k0_mult16 : BitVec 32 :=
  let c64_i32_367 : BitVec 32 := 64#32
  let c0_i32 : BitVec 32 := 0#32
  let v465 : BitVec 32 := Scalar.muli c64_i32_367 c0_i32
  let c15_i32 : BitVec 32 := 15#32
  let v466 : BitVec 32 := Scalar.addi v465 c15_i32
  let c256_i32_382 : BitVec 32 := 256#32
  let v480 : BitVec 32 := Scalar.muli v466 c256_i32_382
  v480
def k0_mult17 : BitVec 32 :=
  let c64_i32_390 : BitVec 32 := 64#32
  let c0_i32 : BitVec 32 := 0#32
  let v493 : BitVec 32 := Scalar.muli c64_i32_390 c0_i32
  let c16_i32 : BitVec 32 := 16#32
  let v494 : BitVec 32 := Scalar.addi v493 c16_i32
  let c256_i32_405 : BitVec 32 := 256#32
  let v508 : BitVec 32 := Scalar.muli v494 c256_i32_405
  v508
def k0_mult18 : BitVec 32 :=
  let c64_i32_413 : BitVec 32 := 64#32
  let c0_i32 : BitVec 32 := 0#32
  let v521 : BitVec 32 := Scalar.muli c64_i32_413 c0_i32
  let c17_i32 : BitVec 32 := 17#32
  let v522 : BitVec 32 := Scalar.addi v521 c17_i32
  let c256_i32_428 : BitVec 32 := 256#32
  let v536 : BitVec 32 := Scalar.muli v522 c256_i32_428
  v536
def k0_mult19 : BitVec 32 :=
  let c64_i32_436 : BitVec 32 := 64#32
  let c0_i32 : BitVec 32 := 0#32
  let v549 : BitVec 32 := Scalar.muli c64_i32_436 c0_i32
  let c18_i32 : BitVec 32 := 18#32
  let v550 : BitVec 32 := Scalar.addi v549 c18_i32
  let c256_i32_451 : BitVec 32 := 256#32
  let v564 : BitVec 32 := Scalar.muli v550 c256_i32_451
  v564
def k0_mult20 : BitVec 32 :=
  let c64_i32_459 : BitVec 32 := 64#32
  let c0_i32 : BitVec 32 := 0#32
  let v577 : BitVec 32 := Scalar.muli c64_i32_459 c0_i32
  let c19_i32 : BitVec 32 := 19#32
  let v578 : BitVec 32 := Scalar.addi v577 c19_i32
  let c256_i32_474 : BitVec 32 := 256#32
  let v592 : BitVec 32 := Scalar.muli v578 c256_i32_474
  v592
def k0_mult21 : BitVec 32 :=
  let c64_i32_482 : BitVec 32 := 64#32
  let c0_i32 : BitVec 32 := 0#32
  let v605 : BitVec 32 := Scalar.muli c64_i32_482 c0_i32
  let c20_i32 : BitVec 32 := 20#32
  let v606 : BitVec 32 := Scalar.addi v605 c20_i32
  let c256_i32_497 : BitVec 32 := 256#32
  let v620 : BitVec 32 := Scalar.muli v606 c256_i32_497
  v620
def k0_mult22 : BitVec 32 :=
  let c64_i32_505 : BitVec 32 := 64#32
  let c0_i32 : BitVec 32 := 0#32
  let v633 : BitVec 32 := Scalar.muli c64_i32_505 c0_i32
  let c21_i32 : BitVec 32 := 21#32
  let v634 : BitVec 32 := Scalar.addi v633 c21_i32
  let c256_i32_520 : BitVec 32 := 256#32
  let v648 : BitVec 32 := Scalar.muli v634 c256_i32_520
  v648
def k0_mult23 : BitVec 32 :=
  let c64_i32_528 : BitVec 32 := 64#32
  let c0_i32 : BitVec 32 := 0#32
  let v661 : BitVec 32 := Scalar.muli c64_i32_528 c0_i32
  let c22_i32 : BitVec 32 := 22#32
  let v662 : BitVec 32 := Scalar.addi v661 c22_i32
  let c256_i32_543 : BitVec 32 := 256#32
  let v676 : BitVec 32 := Scalar.muli v662 c256_i32_543
  v676
def k0_mult24 : BitVec 32 :=
  let c64_i32_551 : BitVec 32 := 64#32
  let c0_i32 : BitVec 32 := 0#32
  let v689 : BitVec 32 := Scalar.muli c64_i32_551 c0_i32
  let c23_i32 : BitVec 32 := 23#32
  let v690 : BitVec 32 := Scalar.addi v689 c23_i32
  let c256_i32_566 : BitVec 32 := 256#32
  let v704 : BitVec 32 := Scalar.muli v690 c256_i32_566
  v704
def k0_mult25 : BitVec 32 :=
  let c64_i32_574 : BitVec 32 := 64#32
  let c0_i32 : BitVec 32 := 0#32
  let v717 : BitVec 32 := Scalar.muli c64_i32_574 c0_i32
  let c24_i32 : BitVec 32 := 24#32
  let v718 : BitVec 32 := Scalar.addi v717 c24_i32
  let c256_i32_589 : BitVec 32 := 256#32
  let v732 : BitVec 32 := Scalar.muli v718 c256_i32_589
  v732
def k0_mult26 : BitVec 32 :=
  let c64_i32_597 : BitVec 32 := 64#32
  let c0_i32 : BitVec 32 := 0#32
  let v745 : BitVec 32 := Scalar.muli c64_i32_597 c0_i32
  let c25_i32 : BitVec 32 := 25#32
  let v746 : BitVec 32 := Scalar.addi v745 c25_i32
  let c256_i32_612 : BitVec 32 := 256#32
  let v760 : BitVec 32 := Scalar.muli v746 c256_i32_612
  v760
def k0_mult27 : BitVec 32 :=
  let c64_i32_620 : BitVec 32 := 64#32
  let c0_i32 : BitVec 32 := 0#32
  let v773 : BitVec 32 := Scalar.muli c64_i32_620 c0_i32
  let c26_i32 : BitVec 32 := 26#32
  let v774 : BitVec 32 := Scalar.addi v773 c26_i32
  let c256_i32_635 : BitVec 32 := 256#32
  let v788 : BitVec 32 := Scalar.muli v774 c256_i32_635
  v788
def k0_mult28 : BitVec 32 :=
  let c64_i32_643 : BitVec 32 := 64#32
  let c0_i32 : BitVec 32 := 0#32
  let v801 : BitVec 32 := Scalar.muli c64_i32_643 c0_i32
  let c27_i32 : BitVec 32 := 27#32
  let v802 : BitVec 32 := Scalar.addi v801 c27_i32
  let c256_i32_658 : BitVec 32 := 256#32
  let v816 : BitVec 32 := Scalar.muli v802 c256_i32_658
  v816
def k0_mult29 : BitVec 32 :=
  let c64_i32_666 : BitVec 32 := 64#32
  let c0_i32 : BitVec 32 := 0#32
  let v829 : BitVec 32 := Scalar.muli c64_i32_666 c0_i32
  let c28_i32 : BitVec 32 := 28#32
  let v830 : BitVec 32 := Scalar.addi v829 c28_i32
  let c256_i32_681 : BitVec 32 := 256#32
  let v844 : BitVec 32 := Scalar.muli v830 c256_i32_681
  v844
def k0_mult30 : BitVec 32 :=
  let c64_i32_689 : BitVec 32 := 64#32
  let c0_i32 : BitVec 32 := 0#32
  let v857 : BitVec 32 := Scalar.muli c64_i32_689 c0_i32
  let c29_i32 : BitVec 32 := 29#32
  let v858 : BitVec 32 := Scalar.addi v857 c29_i32
  let c256_i32_704 : BitVec 32 := 256#32
  let v872 : BitVec 32 := Scalar.muli v858 c256_i32_704
  v872
def k0_mult31 : BitVec 32 :=
  let c64_i32_712 : BitVec 32 := 64#32
  let c0_i32 : BitVec 32 := 0#32
  let v885 : BitVec 32 := Scalar.muli c64_i32_712 c0_i32
  let c30_i32 : BitVec 32 := 30#32
  let v886 : BitVec 32 := Scalar.addi v885 c30_i32
  let c256_i32_727 : BitVec 32 := 256#32
  let v900 : BitVec 32 := Scalar.muli v886 c256_i32_727
  v900
def k0_mult32 : BitVec 32 :=
  let c64_i32_735 : BitVec 32 := 64#32
  let c0_i32 : BitVec 32 := 0#32
  let v913 : BitVec 32 := Scalar.muli c64_i32_735 c0_i32
  let c31_i32 : BitVec 32 := 31#32
  let v914 : BitVec 32 := Scalar.addi v913 c31_i32
  let c256_i32_750 : BitVec 32 := 256#32
  let v928 : BitVec 32 := Scalar.muli v914 c256_i32_750
  v928
def k0_mult33 : BitVec 32 :=
  let c64_i32_758 : BitVec 32 := 64#32
  let c0_i32 : BitVec 32 := 0#32
  let v941 : BitVec 32 := Scalar.muli c64_i32_758 c0_i32
  let c32_i32 : BitVec 32 := 32#32
  let v942 : BitVec 32 := Scalar.addi v941 c32_i32
  let c256_i32_773 : BitVec 32 := 256#32
  let v956 : BitVec 32 := Scalar.muli v942 c256_i32_773
  v956
def k0_mult34 : BitVec 32 :=
  let c64_i32_781 : BitVec 32 := 64#32
  let c0_i32 : BitVec 32 := 0#32
  let v969 : BitVec 32 := Scalar.muli c64_i32_781 c0_i32
  let c33_i32 : BitVec 32 := 33#32
  let v970 : BitVec 32 := Scalar.addi v969 c33_i32
  let c256_i32_796 : BitVec 32 := 256#32
  let v984 : BitVec 32 := Scalar.muli v970 c256_i32_796
  v984
def k0_mult35 : BitVec 32 :=
  let c64_i32_804 : BitVec 32 := 64#32
  let c0_i32 : BitVec 32 := 0#32
  let v997 : BitVec 32 := Scalar.muli c64_i32_804 c0_i32
  let c34_i32 : BitVec 32 := 34#32
  let v998 : BitVec 32 := Scalar.addi v997 c34_i32
  let c256_i32_819 : BitVec 32 := 256#32
  let v1012 : BitVec 32 := Scalar.muli v998 c256_i32_819
  v1012
def k0_mult36 : BitVec 32 :=
  let c64_i32_827 : BitVec 32 := 64#32
  let c0_i32 : BitVec 32 := 0#32
  let v1025 : BitVec 32 := Scalar.muli c64_i32_827 c0_i32
  let c35_i32 : BitVec 32 := 35#32
  let v1026 : BitVec 32 := Scalar.addi v1025 c35_i32
  let c256_i32_842 : BitVec 32 := 256#32
  let v1040 : BitVec 32 := Scalar.muli v1026 c256_i32_842
  v1040
def k0_mult37 : BitVec 32 :=
  let c64_i32_850 : BitVec 32 := 64#32
  let c0_i32 : BitVec 32 := 0#32
  let v1053 : BitVec 32 := Scalar.muli c64_i32_850 c0_i32
  let c36_i32 : BitVec 32 := 36#32
  let v1054 : BitVec 32 := Scalar.addi v1053 c36_i32
  let c256_i32_865 : BitVec 32 := 256#32
  let v1068 : BitVec 32 := Scalar.muli v1054 c256_i32_865
  v1068
def k0_mult38 : BitVec 32 :=
  let c64_i32_873 : BitVec 32 := 64#32
  let c0_i32 : BitVec 32 := 0#32
  let v1081 : BitVec 32 := Scalar.muli c64_i32_873 c0_i32
  let c37_i32 : BitVec 32 := 37#32
  let v1082 : BitVec 32 := Scalar.addi v1081 c37_i32
  let c256_i32_888 : BitVec 32 := 256#32
  let v1096 : BitVec 32 := Scalar.muli v1082 c256_i32_888
  v1096
def k0_mult39 : BitVec 32 :=
  let c64_i32_896 : BitVec 32 := 64#32
  let c0_i32 : BitVec 32 := 0#32
  let v1109 : BitVec 32 := Scalar.muli c64_i32_896 c0_i32
  let c38_i32 : BitVec 32 := 38#32
  let v1110 : BitVec 32 := Scalar.addi v1109 c38_i32
  let c256_i32_911 : BitVec 32 := 256#32
  let v1124 : BitVec 32 := Scalar.muli v1110 c256_i32_911
  v1124
def k0_mult40 : BitVec 32 :=
  let c64_i32_919 : BitVec 32 := 64#32
  let c0_i32 : BitVec 32 := 0#32
  let v1137 : BitVec 32 := Scalar.muli c64_i32_919 c0_i32
  let c39_i32 : BitVec 32 := 39#32
  let v1138 : BitVec 32 := Scalar.addi v1137 c39_i32
  let c256_i32_934 : BitVec 32 := 256#32
  let v1152 : BitVec 32 := Scalar.muli v1138 c256_i32_934
  v1152
def k0_mult41 : BitVec 32 :=
  let c64_i32_942 : BitVec 32 := 64#32
  let c0_i32 : BitVec 32 := 0#32
  let v1165 : BitVec 32 := Scalar.muli c64_i32_942 c0_i32
  let c40_i32 : BitVec 32 := 40#32
  let v1166 : BitVec 32 := Scalar.addi v1165 c40_i32
  let c256_i32_957 : BitVec 32 := 256#32
  let v1180 : BitVec 32 := Scalar.muli v1166 c256_i32_957
  v1180
def k0_mult42 : BitVec 32 :=
  let c64_i32_965 : BitVec 32 := 64#32
  let c0_i32 : BitVec 32 := 0#32
  let v1193 : BitVec 32 := Scalar.muli c64_i32_965 c0_i32
  let c41_i32 : BitVec 32 := 41#32
  let v1194 : BitVec 32 := Scalar.addi v1193 c41_i32
  let c256_i32_980 : BitVec 32 := 256#32
  let v1208 : BitVec 32 := Scalar.muli v1194 c256_i32_980
  v1208
def k0_mult43 : BitVec 32 :=
  let c64_i32_988 : BitVec 32 := 64#32
  let c0_i32 : BitVec 32 := 0#32
  let v1221 : BitVec 32 := Scalar.muli c64_i32_988 c0_i32
  let c42_i32 : BitVec 32 := 42#32
  let v1222 : BitVec 32 := Scalar.addi v1221 c42_i32
  let c256_i32_1003 : BitVec 32 := 256#32
  let v1236 : BitVec 32 := Scalar.muli v1222 c256_i32_1003
  v1236
def k0_mult44 : BitVec 32 :=
  let c64_i32_1011 : BitVec 32 := 64#32
  let c0_i32 : BitVec 32 := 0#32
  let v1249 : BitVec 32 := Scalar.muli c64_i32_1011 c0_i32
  let c43_i32 : BitVec 32 := 43#32
  let v1250 : BitVec 32 := Scalar.addi v1249 c43_i32
  let c256_i32_1026 : BitVec 32 := 256#32
  let v1264 : BitVec 32 := Scalar.muli v1250 c256_i32_1026
  v1264
def k0_mult45 : BitVec 32 :=
  let c64_i32_1034 : BitVec 32 := 64#32
  let c0_i32 : BitVec 32 := 0#32
  let v1277 : BitVec 32 := Scalar.muli c64_i32_1034 c0_i32
  let c44_i32 : BitVec 32 := 44#32
  let v1278 : BitVec 32 := Scalar.addi v1277 c44_i32
  let c256_i32_1049 : BitVec 32 := 256#32
  let v1292 : BitVec 32 := Scalar.muli v1278 c256_i32_1049
  v1292
def k0_mult46 : BitVec 32 :=
  let c64_i32_1057 : BitVec 32 := 64#32
  let c0_i32 : BitVec 32 := 0#32
  let v1305 : BitVec 32 := Scalar.muli c64_i32_1057 c0_i32
  let c45_i32 : BitVec 32 := 45#32
  let v1306 : BitVec 32 := Scalar.addi v1305 c45_i32
  let c256_i32_1072 : BitVec 32 := 256#32
  let v1320 : BitVec 32 := Scalar.muli v1306 c256_i32_1072
  v1320
def k0_mult47 : BitVec 32 :=
  let c64_i32_1080 : BitVec 32 := 64#32
  let c0_i32 : BitVec 32 := 0#32
  let v1333 : BitVec 32 := Scalar.muli c64_i32_1080 c0_i32
  let c46_i32 : BitVec 32 := 46#32
  let v1334 : BitVec 32 := Scalar.addi v1333 c46_i32
  let c256_i32_1095 : BitVec 32 := 256#32
  let v1348 : BitVec 32 := Scalar.muli v1334 c256_i32_1095
  v1348
def k0_mult48 : BitVec 32 :=
  let c64_i32_1103 : BitVec 32 := 64#32
  let c0_i32 : BitVec 32 := 0#32
  let v1361 : BitVec 32 := Scalar.muli c64_i32_1103 c0_i32
  let c47_i32 : BitVec 32 := 47#32
  let v1362 : BitVec 32 := Scalar.addi v1361 c47_i32
  let c256_i32_1118 : BitVec 32 := 256#32
  let v1376 : BitVec 32 := Scalar.muli v1362 c256_i32_1118
  v1376
def k0_mult49 : BitVec 32 :=
  let c64_i32_1126 : BitVec 32 := 64#32
  let c0_i32 : BitVec 32 := 0#32
  let v1389 : BitVec 32 := Scalar.muli c64_i32_1126 c0_i32
  let c48_i32 : BitVec 32 := 48#32
  let v1390 : BitVec 32 := Scalar.addi v1389 c48_i32
  let c256_i32_1141 : BitVec 32 := 256#32
  let v1404 : BitVec 32 := Scalar.muli v1390 c256_i32_1141
  v1404
def k0_mult50 : BitVec 32 :=
  let c64_i32_1149 : BitVec 32 := 64#32
  let c0_i32 : BitVec 32 := 0#32
  let v1417 : BitVec 32 := Scalar.muli c64_i32_1149 c0_i32
  let c49_i32 : BitVec 32 := 49#32
  let v1418 : BitVec 32 := Scalar.addi v1417 c49_i32
  let c256_i32_1164 : BitVec 32 := 256#32
  let v1432 : BitVec 32 := Scalar.muli v1418 c256_i32_1164
  v1432
def k0_mult51 : BitVec 32 :=
  let c64_i32_1172 : BitVec 32 := 64#32
  let c0_i32 : BitVec 32 := 0#32
  let v1445 : BitVec 32 := Scalar.muli c64_i32_1172 c0_i32
  let c50_i32 : BitVec 32 := 50#32
  let v1446 : BitVec 32 := Scalar.addi v1445 c50_i32
  let c256_i32_1187 : BitVec 32 := 256#32
  let v1460 : BitVec 32 := Scalar.muli v1446 c256_i32_1187
  v1460
def k0_mult52 : BitVec 32 :=
  let c64_i32_1195 : BitVec 32 := 64#32
  let c0_i32 : BitVec 32 := 0#32
  let v1473 : BitVec 32 := Scalar.muli c64_i32_1195 c0_i32
  let c51_i32 : BitVec 32 := 51#32
  let v1474 : BitVec 32 := Scalar.addi v1473 c51_i32
  let c256_i32_1210 : BitVec 32 := 256#32
  let v1488 : BitVec 32 := Scalar.muli v1474 c256_i32_1210
  v1488
def k0_mult53 : BitVec 32 :=
  let c64_i32_1218 : BitVec 32 := 64#32
  let c0_i32 : BitVec 32 := 0#32
  let v1501 : BitVec 32 := Scalar.muli c64_i32_1218 c0_i32
  let c52_i32 : BitVec 32 := 52#32
  let v1502 : BitVec 32 := Scalar.addi v1501 c52_i32
  let c256_i32_1233 : BitVec 32 := 256#32
  let v1516 : BitVec 32 := Scalar.muli v1502 c256_i32_1233
  v1516
def k0_mult54 : BitVec 32 :=
  let c64_i32_1241 : BitVec 32 := 64#32
  let c0_i32 : BitVec 32 := 0#32
  let v1529 : BitVec 32 := Scalar.muli c64_i32_1241 c0_i32
  let c53_i32 : BitVec 32 := 53#32
  let v1530 : BitVec 32 := Scalar.addi v1529 c53_i32
  let c256_i32_1256 : BitVec 32 := 256#32
  let v1544 : BitVec 32 := Scalar.muli v1530 c256_i32_1256
  v1544
def k0_mult55 : BitVec 32 :=
  let c64_i32_1264 : BitVec 32 := 64#32
  let c0_i32 : BitVec 32 := 0#32
  let v1557 : BitVec 32 := Scalar.muli c64_i32_1264 c0_i32
  let c54_i32 : BitVec 32 := 54#32
  let v1558 : BitVec 32 := Scalar.addi v1557 c54_i32
  let c256_i32_1279 : BitVec 32 := 256#32
  let v1572 : BitVec 32 := Scalar.muli v1558 c256_i32_1279
  v1572
def k0_mult56 : BitVec 32 :=
  let c64_i32_1287 : BitVec 32 := 64#32
  let c0_i32 : BitVec 32 := 0#32
  let v1585 : BitVec 32 := Scalar.muli c64_i32_1287 c0_i32
  let c55_i32 : BitVec 32 := 55#32
  let v1586 : BitVec 32 := Scalar.addi v1585 c55_i32
  let c256_i32_1302 : BitVec 32 := 256#32
  let v1600 : BitVec 32 := Scalar.muli v1586 c256_i32_1302
  v1600
def k0_mult57 : BitVec 32 :=
  let c64_i32_1310 : BitVec 32 := 64#32
  let c0_i32 : BitVec 32 := 0#32
  let v1613 : BitVec 32 := Scalar.muli c64_i32_1310 c0_i32
  let c56_i32 : BitVec 32 := 56#32
  let v1614 : BitVec 32 := Scalar.addi v1613 c56_i32
  let c256_i32_1325 : BitVec 32 := 256#32
  let v1628 : BitVec 32 := Scalar.muli v1614 c256_i32_1325
  v1628
def k0_mult58 : BitVec 32 :=
  let c64_i32_1333 : BitVec 32 := 64#32
  let c0_i32 : BitVec 32 := 0#32
  let v1641 : BitVec 32 := Scalar.muli c64_i32_1333 c0_i32
  let c57_i32 : BitVec 32 := 57#32
  let v1642 : BitVec 32 := Scalar.addi v1641 c57_i32
  let c256_i32_1348 : BitVec 32 := 256#32
  let v1656 : BitVec 32 := Scalar.muli v1642 c256_i32_1348
  v1656
def k0_mult59 : BitVec 32 :=
  let c64_i32_1356 : BitVec 32 := 64#32
  let c0_i32 : BitVec 32 := 0#32
  let v1669 : BitVec 32 := Scalar.muli c64_i32_1356 c0_i32
  let c58_i32 : BitVec 32 := 58#32
  let v1670 : BitVec 32 := Scalar.addi v1669 c58_i32
  let c256_i32_1371 : BitVec 32 := 256#32
  let v1684 : BitVec 32 := Scalar.muli v1670 c256_i32_1371
  v1684
def k0_mult60 : BitVec 32 :=
  let c64_i32_1379 : BitVec 32 := 64#32
  let c0_i32 : BitVec 32 := 0#32
  let v1697 : BitVec 32 := Scalar.muli c64_i32_1379 c0_i32
  let c59_i32 : BitVec 32 := 59#32
  let v1698 : BitVec 32 := Scalar.addi v1697 c59_i32
  let c256_i32_1394 : BitVec 32 := 256#32
  let v1712 : BitVec 32 := Scalar.muli v1698 c256_i32_1394
  v1712
def k0_mult61 : BitVec 32 :=
  let c64_i32_1402 : BitVec 32 := 64#32
  let c0_i32 : BitVec 32 := 0#32
  let v1725 : BitVec 32 := Scalar.muli c64_i32_1402 c0_i32
  let c60_i32 : BitVec 32 := 60#32
  let v1726 : BitVec 32 := Scalar.addi v1725 c60_i32
  let c256_i32_1417 : BitVec 32 := 256#32
  let v1740 : BitVec 32 := Scalar.muli v1726 c256_i32_1417
  v1740
def k0_mult62 : BitVec 32 :=
  let c64_i32_1425 : BitVec 32 := 64#32
  let c0_i32 : BitVec 32 := 0#32
  let v1753 : BitVec 32 := Scalar.muli c64_i32_1425 c0_i32
  let c61_i32 : BitVec 32 := 61#32
  let v1754 : BitVec 32 := Scalar.addi v1753 c61_i32
  let c256_i32_1440 : BitVec 32 := 256#32
  let v1768 : BitVec 32 := Scalar.muli v1754 c256_i32_1440
  v1768
def k0_mult63 : BitVec 32 :=
  let c64_i32_1448 : BitVec 32 := 64#32
  let c0_i32 : BitVec 32 := 0#32
  let v1781 : BitVec 32 := Scalar.muli c64_i32_1448 c0_i32
  let c62_i32 : BitVec 32 := 62#32
  let v1782 : BitVec 32 := Scalar.addi v1781 c62_i32
  let c256_i32_1463 : BitVec 32 := 256#32
  let v1796 : BitVec 32 := Scalar.muli v1782 c256_i32_1463
  v1796
def k0_mult64 : BitVec 32 :=
  let c64_i32_1471 : BitVec 32 := 64#32
  let c0_i32 : BitVec 32 := 0#32
  let v1809 : BitVec 32 := Scalar.muli c64_i32_1471 c0_i32
  let c63_i32 : BitVec 32 := 63#32
  let v1810 : BitVec 32 := Scalar.addi v1809 c63_i32
  let c256_i32_1486 : BitVec 32 := 256#32
  let v1824 : BitVec 32 := Scalar.muli v1810 c256_i32_1486
  v1824
def k0_off3 : Fin 5 → Nat :=
  let c0_1499 : Index := 0#32
  let c0_1500 : Index := 0#32
  let c62_i32_1495 : BitVec 32 := 62#32
  let c0_i32_1496 : BitVec 32 := 0#32
  let v1837 : BitVec 32 := Scalar.maxsi c62_i32_1495 c0_i32_1496
  let v1839 : Index := Scalar.indexCast v1837
  let c0_1501 : Index := 0#32
  let c0_1502 : Index := 0#32
  ![0, 0, v1839.toNat, 0, 0]
def k0_mult65 : BitVec 32 :=
  let c16384_i32 : BitVec 32 := 16384#32
  c16384_i32
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x65x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference4Ideal.lean ====
abbrev S2x2x128x16384 : Shape := ⟨4, ![2, 2, 128, 16384]⟩
abbrev S2x2x16640x128 : Shape := ⟨4, ![2, 2, 16640, 128]⟩
abbrev S2x2x65x80x256 : Shape := ⟨5, ![2, 2, 65, 80, 256]⟩
abbrev S2x2x2x128 : Shape := ⟨4, ![2, 2, 2, 128]⟩
abbrev S2x2x2x64x16384 : Shape := ⟨5, ![2, 2, 2, 64, 16384]⟩
abbrev S2x2x16640x2x64 : Shape := ⟨5, ![2, 2, 16640, 2, 64]⟩
abbrev S2x2x65x64x256 : Shape := ⟨5, ![2, 2, 65, 64, 256]⟩
abbrev S2x2x65x256x64 : Shape := ⟨5, ![2, 2, 65, 256, 64]⟩
abbrev S2x2x16640x64 : Shape := ⟨4, ![2, 2, 16640, 64]⟩
abbrev S2x2x2x16384x16640 : Shape := ⟨5, ![2, 2, 2, 16384, 16640]⟩
abbrev S_ : Shape := ⟨0, ![]⟩
abbrev S2x2x2x16384 : Shape := ⟨4, ![2, 2, 2, 16384]⟩
abbrev S2x2x2x16384x1 : Shape := ⟨5, ![2, 2, 2, 16384, 1]⟩
abbrev S2x2x64x2x16384 : Shape := ⟨5, ![2, 2, 64, 2, 16384]⟩
abbrev S2x16384x2x2x64 : Shape := ⟨5, ![2, 16384, 2, 2, 64]⟩
abbrev S2x16384x256 : Shape := ⟨3, ![2, 16384, 256]⟩

abbrev nBuf : Space → Nat
  | .hbm => 25
  | .vmem => 0
  | .smem => 0
  | _ => 0

abbrev bufTy : (tb : Table) → Fin (tcTables nBuf tb) → BufTy
  | .hbm, ⟨0, _⟩ => ⟨S2x2x128x16384, .bf16⟩
  | .hbm, ⟨1, _⟩ => ⟨S2x2x16640x128, .bf16⟩
  | .hbm, ⟨2, _⟩ => ⟨S2x2x65x80x256, .bf16⟩
  | .hbm, ⟨3, _⟩ => ⟨S2x2x2x128, .f32⟩
  | .hbm, ⟨4, _⟩ => ⟨S2x2x2x64x16384, .bf16⟩
  | .hbm, ⟨5, _⟩ => ⟨S2x2x2x64x16384, .f32⟩
  | .hbm, ⟨6, _⟩ => ⟨S2x2x16640x2x64, .bf16⟩
  | .hbm, ⟨7, _⟩ => ⟨S2x2x16640x2x64, .f32⟩
  | .hbm, ⟨8, _⟩ => ⟨S2x2x65x64x256, .bf16⟩
  | .hbm, ⟨9, _⟩ => ⟨S2x2x65x256x64, .bf16⟩
  | .hbm, ⟨10, _⟩ => ⟨S2x2x16640x64, .bf16⟩
  | .hbm, ⟨11, _⟩ => ⟨S2x2x16640x64, .f32⟩
  | .hbm, ⟨12, _⟩ => ⟨S2x2x2x16384x16640, .f32⟩
  | .hbm, ⟨13, _⟩ => ⟨S_, .f32⟩
  | .hbm, ⟨14, _⟩ => ⟨S2x2x2x16384x16640, .f32⟩
  | .hbm, ⟨15, _⟩ => ⟨S2x2x2x16384x16640, .f32⟩
  | .hbm, ⟨16, _⟩ => ⟨S_, .f32⟩
  | .hbm, ⟨17, _⟩ => ⟨S2x2x2x16384, .f32⟩
  | .hbm, ⟨18, _⟩ => ⟨S2x2x2x16384x1, .f32⟩
  | .hbm, ⟨19, _⟩ => ⟨S2x2x2x16384x16640, .f32⟩
  | .hbm, ⟨20, _⟩ => ⟨S2x2x2x16384x16640, .f32⟩
  | .hbm, ⟨21, _⟩ => ⟨S2x2x64x2x16384, .f32⟩
  | .hbm, ⟨22, _⟩ => ⟨S2x16384x2x2x64, .f32⟩
  | .hbm, ⟨23, _⟩ => ⟨S2x16384x256, .f32⟩
  | .hbm, ⟨24, _⟩ => ⟨S2x16384x256, .bf16⟩
  | _, _ => ⟨S2x2x128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel5.lean ====
abbrev S2x2x128x16384 : Shape := ⟨4, ![2, 2, 128, 16384]⟩
abbrev S2x2x16640x128 : Shape := ⟨4, ![2, 2, 16640, 128]⟩
abbrev S2x4x65x80x256 : Shape := ⟨5, ![2, 4, 65, 80, 256]⟩
abbrev S2x4x2x128 : Shape := ⟨4, ![2, 4, 2, 128]⟩
abbrev S4x32 : Shape := ⟨2, ![4, 32]⟩
abbrev S64x1 : Shape := ⟨2, ![64, 1]⟩
abbrev S2x16384x512 : Shape := ⟨3, ![2, 16384, 512]⟩
abbrev S2x4x2x16384 : Shape := ⟨4, ![2, 4, 2, 16384]⟩
abbrev S1x1x128x512 : Shape := ⟨4, ![1, 1, 128, 512]⟩
abbrev S1x1x16640x128 : Shape := ⟨4, ![1, 1, 16640, 128]⟩
abbrev S1x1x65x80x256 : Shape := ⟨5, ![1, 1, 65, 80, 256]⟩
abbrev S1x1x2x128 : Shape := ⟨4, ![1, 1, 2, 128]⟩
abbrev S1x512x128 : Shape := ⟨3, ![1, 512, 128]⟩
abbrev S1x1x2x512 : Shape := ⟨4, ![1, 1, 2, 512]⟩
abbrev S2x256x1024 : Shape := ⟨3, ![2, 256, 1024]⟩
abbrev S80x1024 : Shape := ⟨2, ![80, 1024]⟩
abbrev S128x512 : Shape := ⟨2, ![128, 512]⟩
abbrev S128x1024 : Shape := ⟨2, ![128, 1024]⟩
abbrev S2x128 : Shape := ⟨2, ![2, 128]⟩
abbrev S512 : Shape := ⟨1, ![512]⟩
abbrev S1x512 : Shape := ⟨2, ![1, 512]⟩
abbrev S1x1 : Shape := ⟨2, ![1, 1]⟩
abbrev S1x1024 : Shape := ⟨2, ![1, 1024]⟩
abbrev S256x1024 : Shape := ⟨2, ![256, 1024]⟩
abbrev S1x256x1024 : Shape := ⟨3, ![1, 256, 1024]⟩
abbrev S1x1x1x80x256 : Shape := ⟨5, ![1, 1, 1, 80, 256]⟩
abbrev S80x256 : Shape := ⟨2, ![80, 256]⟩
abbrev S1x1x256x128 : Shape := ⟨4, ![1, 1, 256, 128]⟩
abbrev S256x128 : Shape := ⟨2, ![256, 128]⟩
abbrev S2x512 : Shape := ⟨2, ![2, 512]⟩
abbrev S64x1024 : Shape := ⟨2, ![64, 1024]⟩
abbrev S64x512 : Shape := ⟨2, ![64, 512]⟩
abbrev S1x32 : Shape := ⟨2, ![1, 32]⟩
abbrev S1 : Shape := ⟨1, ![1]⟩
abbrev S512x128 : Shape := ⟨2, ![512, 128]⟩

abbrev nBuf : Space → Nat
  | .hbm => 8
  | .vmem => 16
  | .smem => 0
  | _ => 0

abbrev bufTy : (tb : Table) → Fin (tcTables nBuf tb) → BufTy
  | .hbm, ⟨0, _⟩ => ⟨S2x2x128x16384, .bf16⟩
  | .hbm, ⟨1, _⟩ => ⟨S2x2x16640x128, .bf16⟩
  | .hbm, ⟨2, _⟩ => ⟨S2x4x65x80x256, .bf16⟩
  | .hbm, ⟨3, _⟩ => ⟨S2x4x2x128, .f32⟩
  | .hbm, ⟨4, _⟩ => ⟨S4x32, .f32⟩
  | .hbm, ⟨5, _⟩ => ⟨S64x1, .f32⟩
  | .hbm, ⟨6, _⟩ => ⟨S2x16384x512, .bf16⟩
  | .hbm, ⟨7, _⟩ => ⟨S2x4x2x16384, .f32⟩
  | .local _ .vmem, ⟨0, _⟩ => ⟨S1x1x128x512, .bf16⟩
  | .local _ .vmem, ⟨1, _⟩ => ⟨S1x1x128x512, .bf16⟩
  | .local _ .vmem, ⟨2, _⟩ => ⟨S1x1x16640x128, .bf16⟩
  | .local _ .vmem, ⟨3, _⟩ => ⟨S1x1x16640x128, .bf16⟩
  | .local _ .vmem, ⟨4, _⟩ => ⟨S1x1x65x80x256, .bf16⟩
  | .local _ .vmem, ⟨5, _⟩ => ⟨S1x1x65x80x256, .bf16⟩
  | .local _ .vmem, ⟨6, _⟩ => ⟨S1x1x2x128, .f32⟩
  | .local _ .vmem, ⟨7, _⟩ => ⟨S1x1x2x128, .f32⟩
  | .local _ .vmem, ⟨8, _⟩ => ⟨S4x32, .f32⟩
  | .local _ .vmem, ⟨9, _⟩ => ⟨S64x1, .f32⟩
  | .local _ .vmem, ⟨10, _⟩ => ⟨S1x512x128, .bf16⟩
  | .local _ .vmem, ⟨11, _⟩ => ⟨S1x512x128, .bf16⟩
  | .local _ .vmem, ⟨12, _⟩ => ⟨S1x1x2x512, .f32⟩
  | .local _ .vmem, ⟨13, _⟩ => ⟨S1x1x2x512, .f32⟩
  | .local _ .vmem, ⟨14, _⟩ => ⟨S2x256x1024, .bf16⟩
  | .local _ .vmem, ⟨15, _⟩ => ⟨S80x1024, .f32⟩
  | _, _ => ⟨S2x2x128x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 4, 32], ![false, false, false]⟩

def k0_off1 (c0_i32_28 : BitVec 32) : Fin 5 → Nat :=
  let c0_33 : Index := 0#32
  let c0_34 : Index := 0#32
  let c64_i32_27 : BitVec 32 := 64#32
  let c0_i32_26 : BitVec 32 := 0#32
  let v65 : BitVec 32 := Scalar.muli c64_i32_27 c0_i32_26
  let v66 : BitVec 32 := Scalar.addi v65 c0_i32_28
  let c2_i32_29 : BitVec 32 := 2#32
  let v67 : BitVec 32 := Scalar.subi v66 c2_i32_29
  let c0_i32_30 : BitVec 32 := 0#32
  let v68 : BitVec 32 := Scalar.maxsi v67 c0_i32_30
  let v70 : Index := Scalar.indexCast v68
  let c0_35 : Index := 0#32
  let c0_36 : Index := 0#32
  ![0, 0, v70.toNat, 0, 0]
def k0_mult1 : BitVec 32 :=
  let c64_i32_27 : BitVec 32 := 64#32
  let c0_i32_26 : BitVec 32 := 0#32
  let v65 : BitVec 32 := Scalar.muli c64_i32_27 c0_i32_26
  let c0_i32_28 : BitVec 32 := 0#32
  let v66 : BitVec 32 := Scalar.addi v65 c0_i32_28
  let c256_i32 : BitVec 32 := 256#32
  let v80 : BitVec 32 := Scalar.muli v66 c256_i32
  v80
def k0_off2 (c0_i32_28 : BitVec 32) : Fin 4 → Nat :=
  let c0_43 : Index := 0#32
  let c0_44 : Index := 0#32
  let c64_i32_27 : BitVec 32 := 64#32
  let c0_i32_26 : BitVec 32 := 0#32
  let v65 : BitVec 32 := Scalar.muli c64_i32_27 c0_i32_26
  let v66 : BitVec 32 := Scalar.addi v65 c0_i32_28
  let c256_i32 : BitVec 32 := 256#32
  let v80 : BitVec 32 := Scalar.muli v66 c256_i32
  let v81 : BitVec 32 := v80
  let v82 : Index := Scalar.indexCast v81
  let c0_45 : Index := 0#32
  ![0, 0, v82.toNat, 0]
def k0_mult2 : BitVec 32 :=
  let c64_i32_50 : BitVec 32 := 64#32
  let c0_i32_26 : BitVec 32 := 0#32
  let v93 : BitVec 32 := Scalar.muli c64_i32_50 c0_i32_26
  let c1_i32_51 : BitVec 32 := 1#32
  let v94 : BitVec 32 := Scalar.addi v93 c1_i32_51
  let c256_i32_66 : BitVec 32 := 256#32
  let v108 : BitVec 32 := Scalar.muli v94 c256_i32_66
  v108
def k0_mult3 : BitVec 32 :=
  let c64_i32_74 : BitVec 32 := 64#32
  let c0_i32_26 : BitVec 32 := 0#32
  let v121 : BitVec 32 := Scalar.muli c64_i32_74 c0_i32_26
  let c2_i32_75 : BitVec 32 := 2#32
  let v122 : BitVec 32 := Scalar.addi v121 c2_i32_75
  let c256_i32_90 : BitVec 32 := 256#32
  let v136 : BitVec 32 := Scalar.muli v122 c256_i32_90
  v136
def k0_mult4 : BitVec 32 :=
  let c64_i32_98 : BitVec 32 := 64#32
  let c0_i32_26 : BitVec 32 := 0#32
  let v149 : BitVec 32 := Scalar.muli c64_i32_98 c0_i32_26
  let c3_i32 : BitVec 32 := 3#32
  let v150 : BitVec 32 := Scalar.addi v149 c3_i32
  let c256_i32_113 : BitVec 32 := 256#32
  let v164 : BitVec 32 := Scalar.muli v150 c256_i32_113
  v164
def k0_mult5 : BitVec 32 :=
  let c64_i32_121 : BitVec 32 := 64#32
  let c0_i32_26 : BitVec 32 := 0#32
  let v177 : BitVec 32 := Scalar.muli c64_i32_121 c0_i32_26
  let c4_i32 : BitVec 32 := 4#32
  let v178 : BitVec 32 := Scalar.addi v177 c4_i32
  let c256_i32_136 : BitVec 32 := 256#32
  let v192 : BitVec 32 := Scalar.muli v178 c256_i32_136
  v192
def k0_mult6 : BitVec 32 :=
  let c64_i32_144 : BitVec 32 := 64#32
  let c0_i32_26 : BitVec 32 := 0#32
  let v205 : BitVec 32 := Scalar.muli c64_i32_144 c0_i32_26
  let c5_i32 : BitVec 32 := 5#32
  let v206 : BitVec 32 := Scalar.addi v205 c5_i32
  let c256_i32_159 : BitVec 32 := 256#32
  let v220 : BitVec 32 := Scalar.muli v206 c256_i32_159
  v220
def k0_mult7 : BitVec 32 :=
  let c64_i32_167 : BitVec 32 := 64#32
  let c0_i32_26 : BitVec 32 := 0#32
  let v233 : BitVec 32 := Scalar.muli c64_i32_167 c0_i32_26
  let c6_i32 : BitVec 32 := 6#32
  let v234 : BitVec 32 := Scalar.addi v233 c6_i32
  let c256_i32_182 : BitVec 32 := 256#32
  let v248 : BitVec 32 := Scalar.muli v234 c256_i32_182
  v248
def k0_mult8 : BitVec 32 :=
  let c64_i32_190 : BitVec 32 := 64#32
  let c0_i32_26 : BitVec 32 := 0#32
  let v261 : BitVec 32 := Scalar.muli c64_i32_190 c0_i32_26
  let c7_i32 : BitVec 32 := 7#32
  let v262 : BitVec 32 := Scalar.addi v261 c7_i32
  let c256_i32_205 : BitVec 32 := 256#32
  let v276 : BitVec 32 := Scalar.muli v262 c256_i32_205
  v276
def k0_mult9 : BitVec 32 :=
  let c64_i32_213 : BitVec 32 := 64#32
  let c0_i32_26 : BitVec 32 := 0#32
  let v289 : BitVec 32 := Scalar.muli c64_i32_213 c0_i32_26
  let c8_i32 : BitVec 32 := 8#32
  let v290 : BitVec 32 := Scalar.addi v289 c8_i32
  let c256_i32_228 : BitVec 32 := 256#32
  let v304 : BitVec 32 := Scalar.muli v290 c256_i32_228
  v304
def k0_mult10 : BitVec 32 :=
  let c64_i32_236 : BitVec 32 := 64#32
  let c0_i32_26 : BitVec 32 := 0#32
  let v317 : BitVec 32 := Scalar.muli c64_i32_236 c0_i32_26
  let c9_i32 : BitVec 32 := 9#32
  let v318 : BitVec 32 := Scalar.addi v317 c9_i32
  let c256_i32_251 : BitVec 32 := 256#32
  let v332 : BitVec 32 := Scalar.muli v318 c256_i32_251
  v332
def k0_mult11 : BitVec 32 :=
  let c64_i32_259 : BitVec 32 := 64#32
  let c0_i32_26 : BitVec 32 := 0#32
  let v345 : BitVec 32 := Scalar.muli c64_i32_259 c0_i32_26
  let c10_i32 : BitVec 32 := 10#32
  let v346 : BitVec 32 := Scalar.addi v345 c10_i32
  let c256_i32_274 : BitVec 32 := 256#32
  let v360 : BitVec 32 := Scalar.muli v346 c256_i32_274
  v360
def k0_mult12 : BitVec 32 :=
  let c64_i32_282 : BitVec 32 := 64#32
  let c0_i32_26 : BitVec 32 := 0#32
  let v373 : BitVec 32 := Scalar.muli c64_i32_282 c0_i32_26
  let c11_i32 : BitVec 32 := 11#32
  let v374 : BitVec 32 := Scalar.addi v373 c11_i32
  let c256_i32_297 : BitVec 32 := 256#32
  let v388 : BitVec 32 := Scalar.muli v374 c256_i32_297
  v388
def k0_mult13 : BitVec 32 :=
  let c64_i32_305 : BitVec 32 := 64#32
  let c0_i32_26 : BitVec 32 := 0#32
  let v401 : BitVec 32 := Scalar.muli c64_i32_305 c0_i32_26
  let c12_i32 : BitVec 32 := 12#32
  let v402 : BitVec 32 := Scalar.addi v401 c12_i32
  let c256_i32_320 : BitVec 32 := 256#32
  let v416 : BitVec 32 := Scalar.muli v402 c256_i32_320
  v416
def k0_mult14 : BitVec 32 :=
  let c64_i32_328 : BitVec 32 := 64#32
  let c0_i32_26 : BitVec 32 := 0#32
  let v429 : BitVec 32 := Scalar.muli c64_i32_328 c0_i32_26
  let c13_i32 : BitVec 32 := 13#32
  let v430 : BitVec 32 := Scalar.addi v429 c13_i32
  let c256_i32_343 : BitVec 32 := 256#32
  let v444 : BitVec 32 := Scalar.muli v430 c256_i32_343
  v444
def k0_mult15 : BitVec 32 :=
  let c64_i32_351 : BitVec 32 := 64#32
  let c0_i32_26 : BitVec 32 := 0#32
  let v457 : BitVec 32 := Scalar.muli c64_i32_351 c0_i32_26
  let c14_i32 : BitVec 32 := 14#32
  let v458 : BitVec 32 := Scalar.addi v457 c14_i32
  let c256_i32_366 : BitVec 32 := 256#32
  let v472 : BitVec 32 := Scalar.muli v458 c256_i32_366
  v472
def k0_mult16 : BitVec 32 :=
  let c64_i32_374 : BitVec 32 := 64#32
  let c0_i32_26 : BitVec 32 := 0#32
  let v485 : BitVec 32 := Scalar.muli c64_i32_374 c0_i32_26
  let c15_i32 : BitVec 32 := 15#32
  let v486 : BitVec 32 := Scalar.addi v485 c15_i32
  let c256_i32_389 : BitVec 32 := 256#32
  let v500 : BitVec 32 := Scalar.muli v486 c256_i32_389
  v500
def k0_mult17 : BitVec 32 :=
  let c64_i32_397 : BitVec 32 := 64#32
  let c0_i32_26 : BitVec 32 := 0#32
  let v513 : BitVec 32 := Scalar.muli c64_i32_397 c0_i32_26
  let c16_i32 : BitVec 32 := 16#32
  let v514 : BitVec 32 := Scalar.addi v513 c16_i32
  let c256_i32_412 : BitVec 32 := 256#32
  let v528 : BitVec 32 := Scalar.muli v514 c256_i32_412
  v528
def k0_mult18 : BitVec 32 :=
  let c64_i32_420 : BitVec 32 := 64#32
  let c0_i32_26 : BitVec 32 := 0#32
  let v541 : BitVec 32 := Scalar.muli c64_i32_420 c0_i32_26
  let c17_i32 : BitVec 32 := 17#32
  let v542 : BitVec 32 := Scalar.addi v541 c17_i32
  let c256_i32_435 : BitVec 32 := 256#32
  let v556 : BitVec 32 := Scalar.muli v542 c256_i32_435
  v556
def k0_mult19 : BitVec 32 :=
  let c64_i32_443 : BitVec 32 := 64#32
  let c0_i32_26 : BitVec 32 := 0#32
  let v569 : BitVec 32 := Scalar.muli c64_i32_443 c0_i32_26
  let c18_i32 : BitVec 32 := 18#32
  let v570 : BitVec 32 := Scalar.addi v569 c18_i32
  let c256_i32_458 : BitVec 32 := 256#32
  let v584 : BitVec 32 := Scalar.muli v570 c256_i32_458
  v584
def k0_mult20 : BitVec 32 :=
  let c64_i32_466 : BitVec 32 := 64#32
  let c0_i32_26 : BitVec 32 := 0#32
  let v597 : BitVec 32 := Scalar.muli c64_i32_466 c0_i32_26
  let c19_i32 : BitVec 32 := 19#32
  let v598 : BitVec 32 := Scalar.addi v597 c19_i32
  let c256_i32_481 : BitVec 32 := 256#32
  let v612 : BitVec 32 := Scalar.muli v598 c256_i32_481
  v612
def k0_mult21 : BitVec 32 :=
  let c64_i32_489 : BitVec 32 := 64#32
  let c0_i32_26 : BitVec 32 := 0#32
  let v625 : BitVec 32 := Scalar.muli c64_i32_489 c0_i32_26
  let c20_i32 : BitVec 32 := 20#32
  let v626 : BitVec 32 := Scalar.addi v625 c20_i32
  let c256_i32_504 : BitVec 32 := 256#32
  let v640 : BitVec 32 := Scalar.muli v626 c256_i32_504
  v640
def k0_mult22 : BitVec 32 :=
  let c64_i32_512 : BitVec 32 := 64#32
  let c0_i32_26 : BitVec 32 := 0#32
  let v653 : BitVec 32 := Scalar.muli c64_i32_512 c0_i32_26
  let c21_i32 : BitVec 32 := 21#32
  let v654 : BitVec 32 := Scalar.addi v653 c21_i32
  let c256_i32_527 : BitVec 32 := 256#32
  let v668 : BitVec 32 := Scalar.muli v654 c256_i32_527
  v668
def k0_mult23 : BitVec 32 :=
  let c64_i32_535 : BitVec 32 := 64#32
  let c0_i32_26 : BitVec 32 := 0#32
  let v681 : BitVec 32 := Scalar.muli c64_i32_535 c0_i32_26
  let c22_i32 : BitVec 32 := 22#32
  let v682 : BitVec 32 := Scalar.addi v681 c22_i32
  let c256_i32_550 : BitVec 32 := 256#32
  let v696 : BitVec 32 := Scalar.muli v682 c256_i32_550
  v696
def k0_mult24 : BitVec 32 :=
  let c64_i32_558 : BitVec 32 := 64#32
  let c0_i32_26 : BitVec 32 := 0#32
  let v709 : BitVec 32 := Scalar.muli c64_i32_558 c0_i32_26
  let c23_i32 : BitVec 32 := 23#32
  let v710 : BitVec 32 := Scalar.addi v709 c23_i32
  let c256_i32_573 : BitVec 32 := 256#32
  let v724 : BitVec 32 := Scalar.muli v710 c256_i32_573
  v724
def k0_mult25 : BitVec 32 :=
  let c64_i32_581 : BitVec 32 := 64#32
  let c0_i32_26 : BitVec 32 := 0#32
  let v737 : BitVec 32 := Scalar.muli c64_i32_581 c0_i32_26
  let c24_i32 : BitVec 32 := 24#32
  let v738 : BitVec 32 := Scalar.addi v737 c24_i32
  let c256_i32_596 : BitVec 32 := 256#32
  let v752 : BitVec 32 := Scalar.muli v738 c256_i32_596
  v752
def k0_mult26 : BitVec 32 :=
  let c64_i32_604 : BitVec 32 := 64#32
  let c0_i32_26 : BitVec 32 := 0#32
  let v765 : BitVec 32 := Scalar.muli c64_i32_604 c0_i32_26
  let c25_i32 : BitVec 32 := 25#32
  let v766 : BitVec 32 := Scalar.addi v765 c25_i32
  let c256_i32_619 : BitVec 32 := 256#32
  let v780 : BitVec 32 := Scalar.muli v766 c256_i32_619
  v780
def k0_mult27 : BitVec 32 :=
  let c64_i32_627 : BitVec 32 := 64#32
  let c0_i32_26 : BitVec 32 := 0#32
  let v793 : BitVec 32 := Scalar.muli c64_i32_627 c0_i32_26
  let c26_i32 : BitVec 32 := 26#32
  let v794 : BitVec 32 := Scalar.addi v793 c26_i32
  let c256_i32_642 : BitVec 32 := 256#32
  let v808 : BitVec 32 := Scalar.muli v794 c256_i32_642
  v808
def k0_mult28 : BitVec 32 :=
  let c64_i32_650 : BitVec 32 := 64#32
  let c0_i32_26 : BitVec 32 := 0#32
  let v821 : BitVec 32 := Scalar.muli c64_i32_650 c0_i32_26
  let c27_i32 : BitVec 32 := 27#32
  let v822 : BitVec 32 := Scalar.addi v821 c27_i32
  let c256_i32_665 : BitVec 32 := 256#32
  let v836 : BitVec 32 := Scalar.muli v822 c256_i32_665
  v836
def k0_mult29 : BitVec 32 :=
  let c64_i32_673 : BitVec 32 := 64#32
  let c0_i32_26 : BitVec 32 := 0#32
  let v849 : BitVec 32 := Scalar.muli c64_i32_673 c0_i32_26
  let c28_i32 : BitVec 32 := 28#32
  let v850 : BitVec 32 := Scalar.addi v849 c28_i32
  let c256_i32_688 : BitVec 32 := 256#32
  let v864 : BitVec 32 := Scalar.muli v850 c256_i32_688
  v864
def k0_mult30 : BitVec 32 :=
  let c64_i32_696 : BitVec 32 := 64#32
  let c0_i32_26 : BitVec 32 := 0#32
  let v877 : BitVec 32 := Scalar.muli c64_i32_696 c0_i32_26
  let c29_i32 : BitVec 32 := 29#32
  let v878 : BitVec 32 := Scalar.addi v877 c29_i32
  let c256_i32_711 : BitVec 32 := 256#32
  let v892 : BitVec 32 := Scalar.muli v878 c256_i32_711
  v892
def k0_mult31 : BitVec 32 :=
  let c64_i32_719 : BitVec 32 := 64#32
  let c0_i32_26 : BitVec 32 := 0#32
  let v905 : BitVec 32 := Scalar.muli c64_i32_719 c0_i32_26
  let c30_i32 : BitVec 32 := 30#32
  let v906 : BitVec 32 := Scalar.addi v905 c30_i32
  let c256_i32_734 : BitVec 32 := 256#32
  let v920 : BitVec 32 := Scalar.muli v906 c256_i32_734
  v920
def k0_mult32 : BitVec 32 :=
  let c64_i32_742 : BitVec 32 := 64#32
  let c0_i32_26 : BitVec 32 := 0#32
  let v933 : BitVec 32 := Scalar.muli c64_i32_742 c0_i32_26
  let c31_i32 : BitVec 32 := 31#32
  let v934 : BitVec 32 := Scalar.addi v933 c31_i32
  let c256_i32_757 : BitVec 32 := 256#32
  let v948 : BitVec 32 := Scalar.muli v934 c256_i32_757
  v948
def k0_mult33 : BitVec 32 :=
  let c64_i32_765 : BitVec 32 := 64#32
  let c0_i32_26 : BitVec 32 := 0#32
  let v961 : BitVec 32 := Scalar.muli c64_i32_765 c0_i32_26
  let c32_i32_766 : BitVec 32 := 32#32
  let v962 : BitVec 32 := Scalar.addi v961 c32_i32_766
  let c256_i32_781 : BitVec 32 := 256#32
  let v976 : BitVec 32 := Scalar.muli v962 c256_i32_781
  v976
def k0_mult34 : BitVec 32 :=
  let c64_i32_789 : BitVec 32 := 64#32
  let c0_i32_26 : BitVec 32 := 0#32
  let v989 : BitVec 32 := Scalar.muli c64_i32_789 c0_i32_26
  let c33_i32 : BitVec 32 := 33#32
  let v990 : BitVec 32 := Scalar.addi v989 c33_i32
  let c256_i32_804 : BitVec 32 := 256#32
  let v1004 : BitVec 32 := Scalar.muli v990 c256_i32_804
  v1004
def k0_mult35 : BitVec 32 :=
  let c64_i32_812 : BitVec 32 := 64#32
  let c0_i32_26 : BitVec 32 := 0#32
  let v1017 : BitVec 32 := Scalar.muli c64_i32_812 c0_i32_26
  let c34_i32 : BitVec 32 := 34#32
  let v1018 : BitVec 32 := Scalar.addi v1017 c34_i32
  let c256_i32_827 : BitVec 32 := 256#32
  let v1032 : BitVec 32 := Scalar.muli v1018 c256_i32_827
  v1032
def k0_mult36 : BitVec 32 :=
  let c64_i32_835 : BitVec 32 := 64#32
  let c0_i32_26 : BitVec 32 := 0#32
  let v1045 : BitVec 32 := Scalar.muli c64_i32_835 c0_i32_26
  let c35_i32 : BitVec 32 := 35#32
  let v1046 : BitVec 32 := Scalar.addi v1045 c35_i32
  let c256_i32_850 : BitVec 32 := 256#32
  let v1060 : BitVec 32 := Scalar.muli v1046 c256_i32_850
  v1060
def k0_mult37 : BitVec 32 :=
  let c64_i32_858 : BitVec 32 := 64#32
  let c0_i32_26 : BitVec 32 := 0#32
  let v1073 : BitVec 32 := Scalar.muli c64_i32_858 c0_i32_26
  let c36_i32 : BitVec 32 := 36#32
  let v1074 : BitVec 32 := Scalar.addi v1073 c36_i32
  let c256_i32_873 : BitVec 32 := 256#32
  let v1088 : BitVec 32 := Scalar.muli v1074 c256_i32_873
  v1088
def k0_mult38 : BitVec 32 :=
  let c64_i32_881 : BitVec 32 := 64#32
  let c0_i32_26 : BitVec 32 := 0#32
  let v1101 : BitVec 32 := Scalar.muli c64_i32_881 c0_i32_26
  let c37_i32 : BitVec 32 := 37#32
  let v1102 : BitVec 32 := Scalar.addi v1101 c37_i32
  let c256_i32_896 : BitVec 32 := 256#32
  let v1116 : BitVec 32 := Scalar.muli v1102 c256_i32_896
  v1116
def k0_mult39 : BitVec 32 :=
  let c64_i32_904 : BitVec 32 := 64#32
  let c0_i32_26 : BitVec 32 := 0#32
  let v1129 : BitVec 32 := Scalar.muli c64_i32_904 c0_i32_26
  let c38_i32 : BitVec 32 := 38#32
  let v1130 : BitVec 32 := Scalar.addi v1129 c38_i32
  let c256_i32_919 : BitVec 32 := 256#32
  let v1144 : BitVec 32 := Scalar.muli v1130 c256_i32_919
  v1144
def k0_mult40 : BitVec 32 :=
  let c64_i32_927 : BitVec 32 := 64#32
  let c0_i32_26 : BitVec 32 := 0#32
  let v1157 : BitVec 32 := Scalar.muli c64_i32_927 c0_i32_26
  let c39_i32 : BitVec 32 := 39#32
  let v1158 : BitVec 32 := Scalar.addi v1157 c39_i32
  let c256_i32_942 : BitVec 32 := 256#32
  let v1172 : BitVec 32 := Scalar.muli v1158 c256_i32_942
  v1172
def k0_mult41 : BitVec 32 :=
  let c64_i32_950 : BitVec 32 := 64#32
  let c0_i32_26 : BitVec 32 := 0#32
  let v1185 : BitVec 32 := Scalar.muli c64_i32_950 c0_i32_26
  let c40_i32 : BitVec 32 := 40#32
  let v1186 : BitVec 32 := Scalar.addi v1185 c40_i32
  let c256_i32_965 : BitVec 32 := 256#32
  let v1200 : BitVec 32 := Scalar.muli v1186 c256_i32_965
  v1200
def k0_mult42 : BitVec 32 :=
  let c64_i32_973 : BitVec 32 := 64#32
  let c0_i32_26 : BitVec 32 := 0#32
  let v1213 : BitVec 32 := Scalar.muli c64_i32_973 c0_i32_26
  let c41_i32 : BitVec 32 := 41#32
  let v1214 : BitVec 32 := Scalar.addi v1213 c41_i32
  let c256_i32_988 : BitVec 32 := 256#32
  let v1228 : BitVec 32 := Scalar.muli v1214 c256_i32_988
  v1228
def k0_mult43 : BitVec 32 :=
  let c64_i32_996 : BitVec 32 := 64#32
  let c0_i32_26 : BitVec 32 := 0#32
  let v1241 : BitVec 32 := Scalar.muli c64_i32_996 c0_i32_26
  let c42_i32 : BitVec 32 := 42#32
  let v1242 : BitVec 32 := Scalar.addi v1241 c42_i32
  let c256_i32_1011 : BitVec 32 := 256#32
  let v1256 : BitVec 32 := Scalar.muli v1242 c256_i32_1011
  v1256
def k0_mult44 : BitVec 32 :=
  let c64_i32_1019 : BitVec 32 := 64#32
  let c0_i32_26 : BitVec 32 := 0#32
  let v1269 : BitVec 32 := Scalar.muli c64_i32_1019 c0_i32_26
  let c43_i32 : BitVec 32 := 43#32
  let v1270 : BitVec 32 := Scalar.addi v1269 c43_i32
  let c256_i32_1034 : BitVec 32 := 256#32
  let v1284 : BitVec 32 := Scalar.muli v1270 c256_i32_1034
  v1284
def k0_mult45 : BitVec 32 :=
  let c64_i32_1042 : BitVec 32 := 64#32
  let c0_i32_26 : BitVec 32 := 0#32
  let v1297 : BitVec 32 := Scalar.muli c64_i32_1042 c0_i32_26
  let c44_i32 : BitVec 32 := 44#32
  let v1298 : BitVec 32 := Scalar.addi v1297 c44_i32
  let c256_i32_1057 : BitVec 32 := 256#32
  let v1312 : BitVec 32 := Scalar.muli v1298 c256_i32_1057
  v1312
def k0_mult46 : BitVec 32 :=
  let c64_i32_1065 : BitVec 32 := 64#32
  let c0_i32_26 : BitVec 32 := 0#32
  let v1325 : BitVec 32 := Scalar.muli c64_i32_1065 c0_i32_26
  let c45_i32 : BitVec 32 := 45#32
  let v1326 : BitVec 32 := Scalar.addi v1325 c45_i32
  let c256_i32_1080 : BitVec 32 := 256#32
  let v1340 : BitVec 32 := Scalar.muli v1326 c256_i32_1080
  v1340
def k0_mult47 : BitVec 32 :=
  let c64_i32_1088 : BitVec 32 := 64#32
  let c0_i32_26 : BitVec 32 := 0#32
  let v1353 : BitVec 32 := Scalar.muli c64_i32_1088 c0_i32_26
  let c46_i32 : BitVec 32 := 46#32
  let v1354 : BitVec 32 := Scalar.addi v1353 c46_i32
  let c256_i32_1103 : BitVec 32 := 256#32
  let v1368 : BitVec 32 := Scalar.muli v1354 c256_i32_1103
  v1368
def k0_mult48 : BitVec 32 :=
  let c64_i32_1111 : BitVec 32 := 64#32
  let c0_i32_26 : BitVec 32 := 0#32
  let v1381 : BitVec 32 := Scalar.muli c64_i32_1111 c0_i32_26
  let c47_i32 : BitVec 32 := 47#32
  let v1382 : BitVec 32 := Scalar.addi v1381 c47_i32
  let c256_i32_1126 : BitVec 32 := 256#32
  let v1396 : BitVec 32 := Scalar.muli v1382 c256_i32_1126
  v1396
def k0_mult49 : BitVec 32 :=
  let c64_i32_1134 : BitVec 32 := 64#32
  let c0_i32_26 : BitVec 32 := 0#32
  let v1409 : BitVec 32 := Scalar.muli c64_i32_1134 c0_i32_26
  let c48_i32 : BitVec 32 := 48#32
  let v1410 : BitVec 32 := Scalar.addi v1409 c48_i32
  let c256_i32_1149 : BitVec 32 := 256#32
  let v1424 : BitVec 32 := Scalar.muli v1410 c256_i32_1149
  v1424
def k0_mult50 : BitVec 32 :=
  let c64_i32_1157 : BitVec 32 := 64#32
  let c0_i32_26 : BitVec 32 := 0#32
  let v1437 : BitVec 32 := Scalar.muli c64_i32_1157 c0_i32_26
  let c49_i32 : BitVec 32 := 49#32
  let v1438 : BitVec 32 := Scalar.addi v1437 c49_i32
  let c256_i32_1172 : BitVec 32 := 256#32
  let v1452 : BitVec 32 := Scalar.muli v1438 c256_i32_1172
  v1452
def k0_mult51 : BitVec 32 :=
  let c64_i32_1180 : BitVec 32 := 64#32
  let c0_i32_26 : BitVec 32 := 0#32
  let v1465 : BitVec 32 := Scalar.muli c64_i32_1180 c0_i32_26
  let c50_i32 : BitVec 32 := 50#32
  let v1466 : BitVec 32 := Scalar.addi v1465 c50_i32
  let c256_i32_1195 : BitVec 32 := 256#32
  let v1480 : BitVec 32 := Scalar.muli v1466 c256_i32_1195
  v1480
def k0_mult52 : BitVec 32 :=
  let c64_i32_1203 : BitVec 32 := 64#32
  let c0_i32_26 : BitVec 32 := 0#32
  let v1493 : BitVec 32 := Scalar.muli c64_i32_1203 c0_i32_26
  let c51_i32 : BitVec 32 := 51#32
  let v1494 : BitVec 32 := Scalar.addi v1493 c51_i32
  let c256_i32_1218 : BitVec 32 := 256#32
  let v1508 : BitVec 32 := Scalar.muli v1494 c256_i32_1218
  v1508
def k0_mult53 : BitVec 32 :=
  let c64_i32_1226 : BitVec 32 := 64#32
  let c0_i32_26 : BitVec 32 := 0#32
  let v1521 : BitVec 32 := Scalar.muli c64_i32_1226 c0_i32_26
  let c52_i32 : BitVec 32 := 52#32
  let v1522 : BitVec 32 := Scalar.addi v1521 c52_i32
  let c256_i32_1241 : BitVec 32 := 256#32
  let v1536 : BitVec 32 := Scalar.muli v1522 c256_i32_1241
  v1536
def k0_mult54 : BitVec 32 :=
  let c64_i32_1249 : BitVec 32 := 64#32
  let c0_i32_26 : BitVec 32 := 0#32
  let v1549 : BitVec 32 := Scalar.muli c64_i32_1249 c0_i32_26
  let c53_i32 : BitVec 32 := 53#32
  let v1550 : BitVec 32 := Scalar.addi v1549 c53_i32
  let c256_i32_1264 : BitVec 32 := 256#32
  let v1564 : BitVec 32 := Scalar.muli v1550 c256_i32_1264
  v1564
def k0_mult55 : BitVec 32 :=
  let c64_i32_1272 : BitVec 32 := 64#32
  let c0_i32_26 : BitVec 32 := 0#32
  let v1577 : BitVec 32 := Scalar.muli c64_i32_1272 c0_i32_26
  let c54_i32 : BitVec 32 := 54#32
  let v1578 : BitVec 32 := Scalar.addi v1577 c54_i32
  let c256_i32_1287 : BitVec 32 := 256#32
  let v1592 : BitVec 32 := Scalar.muli v1578 c256_i32_1287
  v1592
def k0_mult56 : BitVec 32 :=
  let c64_i32_1295 : BitVec 32 := 64#32
  let c0_i32_26 : BitVec 32 := 0#32
  let v1605 : BitVec 32 := Scalar.muli c64_i32_1295 c0_i32_26
  let c55_i32 : BitVec 32 := 55#32
  let v1606 : BitVec 32 := Scalar.addi v1605 c55_i32
  let c256_i32_1310 : BitVec 32 := 256#32
  let v1620 : BitVec 32 := Scalar.muli v1606 c256_i32_1310
  v1620
def k0_mult57 : BitVec 32 :=
  let c64_i32_1318 : BitVec 32 := 64#32
  let c0_i32_26 : BitVec 32 := 0#32
  let v1633 : BitVec 32 := Scalar.muli c64_i32_1318 c0_i32_26
  let c56_i32 : BitVec 32 := 56#32
  let v1634 : BitVec 32 := Scalar.addi v1633 c56_i32
  let c256_i32_1333 : BitVec 32 := 256#32
  let v1648 : BitVec 32 := Scalar.muli v1634 c256_i32_1333
  v1648
def k0_mult58 : BitVec 32 :=
  let c64_i32_1341 : BitVec 32 := 64#32
  let c0_i32_26 : BitVec 32 := 0#32
  let v1661 : BitVec 32 := Scalar.muli c64_i32_1341 c0_i32_26
  let c57_i32 : BitVec 32 := 57#32
  let v1662 : BitVec 32 := Scalar.addi v1661 c57_i32
  let c256_i32_1356 : BitVec 32 := 256#32
  let v1676 : BitVec 32 := Scalar.muli v1662 c256_i32_1356
  v1676
def k0_mult59 : BitVec 32 :=
  let c64_i32_1364 : BitVec 32 := 64#32
  let c0_i32_26 : BitVec 32 := 0#32
  let v1689 : BitVec 32 := Scalar.muli c64_i32_1364 c0_i32_26
  let c58_i32 : BitVec 32 := 58#32
  let v1690 : BitVec 32 := Scalar.addi v1689 c58_i32
  let c256_i32_1379 : BitVec 32 := 256#32
  let v1704 : BitVec 32 := Scalar.muli v1690 c256_i32_1379
  v1704
def k0_mult60 : BitVec 32 :=
  let c64_i32_1387 : BitVec 32 := 64#32
  let c0_i32_26 : BitVec 32 := 0#32
  let v1717 : BitVec 32 := Scalar.muli c64_i32_1387 c0_i32_26
  let c59_i32 : BitVec 32 := 59#32
  let v1718 : BitVec 32 := Scalar.addi v1717 c59_i32
  let c256_i32_1402 : BitVec 32 := 256#32
  let v1732 : BitVec 32 := Scalar.muli v1718 c256_i32_1402
  v1732
def k0_mult61 : BitVec 32 :=
  let c64_i32_1410 : BitVec 32 := 64#32
  let c0_i32_26 : BitVec 32 := 0#32
  let v1745 : BitVec 32 := Scalar.muli c64_i32_1410 c0_i32_26
  let c60_i32 : BitVec 32 := 60#32
  let v1746 : BitVec 32 := Scalar.addi v1745 c60_i32
  let c256_i32_1425 : BitVec 32 := 256#32
  let v1760 : BitVec 32 := Scalar.muli v1746 c256_i32_1425
  v1760
def k0_mult62 : BitVec 32 :=
  let c64_i32_1433 : BitVec 32 := 64#32
  let c0_i32_26 : BitVec 32 := 0#32
  let v1773 : BitVec 32 := Scalar.muli c64_i32_1433 c0_i32_26
  let c61_i32 : BitVec 32 := 61#32
  let v1774 : BitVec 32 := Scalar.addi v1773 c61_i32
  let c256_i32_1448 : BitVec 32 := 256#32
  let v1788 : BitVec 32 := Scalar.muli v1774 c256_i32_1448
  v1788
def k0_mult63 : BitVec 32 :=
  let c64_i32_1456 : BitVec 32 := 64#32
  let c0_i32_26 : BitVec 32 := 0#32
  let v1801 : BitVec 32 := Scalar.muli c64_i32_1456 c0_i32_26
  let c62_i32 : BitVec 32 := 62#32
  let v1802 : BitVec 32 := Scalar.addi v1801 c62_i32
  let c256_i32_1471 : BitVec 32 := 256#32
  let v1816 : BitVec 32 := Scalar.muli v1802 c256_i32_1471
  v1816
def k0_mult64 : BitVec 32 :=
  let c64_i32_1479 : BitVec 32 := 64#32
  let c0_i32_26 : BitVec 32 := 0#32
  let v1829 : BitVec 32 := Scalar.muli c64_i32_1479 c0_i32_26
  let c63_i32 : BitVec 32 := 63#32
  let v1830 : BitVec 32 := Scalar.addi v1829 c63_i32
  let c256_i32_1494 : BitVec 32 := 256#32
  let v1844 : BitVec 32 := Scalar.muli v1830 c256_i32_1494
  v1844
def k0_off3 : Fin 5 → Nat :=
  let c0_1507 : Index := 0#32
  let c0_1508 : Index := 0#32
  let c62_i32_1503 : BitVec 32 := 62#32
  let c0_i32_1504 : BitVec 32 := 0#32
  let v1857 : BitVec 32 := Scalar.maxsi c62_i32_1503 c0_i32_1504
  let v1859 : Index := Scalar.indexCast v1857
  let c0_1509 : Index := 0#32
  let c0_1510 : Index := 0#32
  ![0, 0, v1859.toNat, 0, 0]
def k0_mult65 : BitVec 32 :=
  let c16384_i32 : BitVec 32 := 16384#32
  c16384_i32
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x65x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x2x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference5Ideal.lean ====
abbrev S2x2x128x16384 : Shape := ⟨4, ![2, 2, 128, 16384]⟩
abbrev S2x2x16640x128 : Shape := ⟨4, ![2, 2, 16640, 128]⟩
abbrev S2x4x65x80x256 : Shape := ⟨5, ![2, 4, 65, 80, 256]⟩
abbrev S2x4x2x128 : Shape := ⟨4, ![2, 4, 2, 128]⟩
abbrev S4x32 : Shape := ⟨2, ![4, 32]⟩
abbrev S64x1 : Shape := ⟨2, ![64, 1]⟩
abbrev S2x2x2x2x32x16384 : Shape := ⟨6, ![2, 2, 2, 2, 32, 16384]⟩
abbrev S2x2x16640x2x2x32 : Shape := ⟨6, ![2, 2, 16640, 2, 2, 32]⟩
abbrev S2x4x65x64x256 : Shape := ⟨5, ![2, 4, 65, 64, 256]⟩
abbrev S2x4x65x256x64 : Shape := ⟨5, ![2, 4, 65, 256, 64]⟩
abbrev S2x2x2x16640x64 : Shape := ⟨5, ![2, 2, 2, 16640, 64]⟩
abbrev S2x2x2x2x16384x16640 : Shape := ⟨6, ![2, 2, 2, 2, 16384, 16640]⟩
abbrev S_ : Shape := ⟨0, ![]⟩
abbrev S2x2x2x2x16384 : Shape := ⟨5, ![2, 2, 2, 2, 16384]⟩
abbrev S2x2x2x2x16384x1 : Shape := ⟨6, ![2, 2, 2, 2, 16384, 1]⟩
abbrev S1x32 : Shape := ⟨2, ![1, 32]⟩
abbrev S32 : Shape := ⟨1, ![32]⟩
abbrev S2x2x2x1x16384x16640 : Shape := ⟨6, ![2, 2, 2, 1, 16384, 16640]⟩
abbrev S2x2x2x16384x16640 : Shape := ⟨5, ![2, 2, 2, 16384, 16640]⟩
abbrev S2x2x2x64x16384 : Shape := ⟨5, ![2, 2, 2, 64, 16384]⟩
abbrev S2x16384x2x2x64 : Shape := ⟨5, ![2, 16384, 2, 2, 64]⟩
abbrev S2x16384x2x2 : Shape := ⟨4, ![2, 16384, 2, 2]⟩
abbrev S2x16384x2x2x1 : Shape := ⟨5, ![2, 16384, 2, 2, 1]⟩
abbrev S64 : Shape := ⟨1, ![64]⟩
abbrev S1x1x1x1x64 : Shape := ⟨5, ![1, 1, 1, 1, 64]⟩
abbrev S2x16384x2x2x128 : Shape := ⟨5, ![2, 16384, 2, 2, 128]⟩
abbrev S2x16384x512 : Shape := ⟨3, ![2, 16384, 512]⟩

abbrev nBuf : Space → Nat
  | .hbm => 76
  | .vmem => 0
  | .smem => 0
  | _ => 0

abbrev bufTy : (tb : Table) → Fin (tcTables nBuf tb) → BufTy
  | .hbm, ⟨0, _⟩ => ⟨S2x2x128x16384, .bf16⟩
  | .hbm, ⟨1, _⟩ => ⟨S2x2x16640x128, .bf16⟩
  | .hbm, ⟨2, _⟩ => ⟨S2x4x65x80x256, .bf16⟩
  | .hbm, ⟨3, _⟩ => ⟨S2x4x2x128, .f32⟩
  | .hbm, ⟨4, _⟩ => ⟨S4x32, .f32⟩
  | .hbm, ⟨5, _⟩ => ⟨S64x1, .f32⟩
  | .hbm, ⟨6, _⟩ => ⟨S2x2x2x2x32x16384, .bf16⟩
  | .hbm, ⟨7, _⟩ => ⟨S2x2x2x2x32x16384, .f32⟩
  | .hbm, ⟨8, _⟩ => ⟨S2x2x16640x2x2x32, .bf16⟩
  | .hbm, ⟨9, _⟩ => ⟨S2x2x16640x2x2x32, .f32⟩
  | .hbm, ⟨10, _⟩ => ⟨S2x4x65x64x256, .bf16⟩
  | .hbm, ⟨11, _⟩ => ⟨S2x4x65x256x64, .bf16⟩
  | .hbm, ⟨12, _⟩ => ⟨S2x2x2x16640x64, .bf16⟩
  | .hbm, ⟨13, _⟩ => ⟨S2x2x2x16640x64, .f32⟩
  | .hbm, ⟨14, _⟩ => ⟨S2x2x2x2x16384x16640, .f32⟩
  | .hbm, ⟨15, _⟩ => ⟨S_, .f32⟩
  | .hbm, ⟨16, _⟩ => ⟨S2x2x2x2x16384x16640, .f32⟩
  | .hbm, ⟨17, _⟩ => ⟨S2x2x2x2x16384x16640, .f32⟩
  | .hbm, ⟨18, _⟩ => ⟨S_, .f32⟩
  | .hbm, ⟨19, _⟩ => ⟨S2x2x2x2x16384, .f32⟩
  | .hbm, ⟨20, _⟩ => ⟨S2x2x2x2x16384x1, .f32⟩
  | .hbm, ⟨21, _⟩ => ⟨S2x2x2x2x16384x16640, .f32⟩
  | .hbm, ⟨22, _⟩ => ⟨S2x2x2x2x16384x16640, .f32⟩
  | .hbm, ⟨23, _⟩ => ⟨S1x32, .f32⟩
  | .hbm, ⟨24, _⟩ => ⟨S32, .f32⟩
  | .hbm, ⟨25, _⟩ => ⟨S1x32, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1x32, .f32⟩
  | .hbm, ⟨32, _⟩ => ⟨S32, .f32⟩
  | .hbm, ⟨33, _⟩ => ⟨S1x32, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2x2x2x1x16384x16640, .f32⟩
  | .hbm, ⟨43, _⟩ => ⟨S2x2x2x16384x16640, .f32⟩
  | .hbm, ⟨44, _⟩ => ⟨S2x2x2x1x16384x16640, .f32⟩
  | .hbm, ⟨45, _⟩ => ⟨S2x2x2x16384x16640, .f32⟩
  | .hbm, ⟨46, _⟩ => ⟨S2x2x2x16384x16640, .f32⟩
  | .hbm, ⟨47, _⟩ => ⟨S2x2x2x16384x16640, .f32⟩
  | .hbm, ⟨48, _⟩ => ⟨S2x2x2x16384x16640, .f32⟩
  | .hbm, ⟨49, _⟩ => ⟨S2x2x2x64x16384, .f32⟩
  | .hbm, ⟨50, _⟩ => ⟨S2x16384x2x2x64, .f32⟩
  | .hbm, ⟨51, _⟩ => ⟨S2x16384x2x2x64, .f32⟩
  | .hbm, ⟨52, _⟩ => ⟨S_, .f32⟩
  | .hbm, ⟨53, _⟩ => ⟨S2x16384x2x2, .f32⟩
  | .hbm, ⟨54, _⟩ => ⟨S2x16384x2x2x1, .f32⟩
  | .hbm, ⟨55, _⟩ => ⟨S_, .f32⟩
  | .hbm, ⟨56, _⟩ => ⟨S2x16384x2x2x1, .f32⟩
  | .hbm, ⟨57, _⟩ => ⟨S2x16384x2x2x1, .f32⟩
  | .hbm, ⟨58, _⟩ => ⟨S_, .f32⟩
  | .hbm, ⟨59, _⟩ => ⟨S2x16384x2x2x1, .f32⟩
  | .hbm, ⟨60, _⟩ => ⟨S2x16384x2x2x1, .f32⟩
  | .hbm, ⟨61, _⟩ => ⟨S2x16384x2x2x1, .f32⟩
  | .hbm, ⟨62, _⟩ => ⟨S2x16384x2x2x64, .f32⟩
  | .hbm, ⟨63, _⟩ => ⟨S2x16384x2x2x64, .f32⟩
  | .hbm, ⟨64, _⟩ => ⟨S64, .f32⟩
  | .hbm, ⟨65, _⟩ => ⟨S1x1x1x1x64, .f32⟩
  | .hbm, ⟨66, _⟩ => ⟨S2x16384x2x2x64, .f32⟩
  | .hbm, ⟨67, _⟩ => ⟨S2x16384x2x2x64, .f32⟩
  | .hbm, ⟨68, _⟩ => ⟨S_, .f32⟩
  | .hbm, ⟨69, _⟩ => ⟨S2x16384x2x2x64, .f32⟩
  | .hbm, ⟨70, _⟩ => ⟨S2x16384x2x2x64, .f32⟩
  | .hbm, ⟨71, _⟩ => ⟨S_, .f32⟩
  | .hbm, ⟨72, _⟩ => ⟨S2x16384x2x2x64, .f32⟩
  | .hbm, ⟨73, _⟩ => ⟨S2x16384x2x2x128, .f32⟩
  | .hbm, ⟨74, _⟩ => ⟨S2x16384x512, .f32⟩
  | .hbm, ⟨75, _⟩ => ⟨S2x16384x512, .bf16⟩
  | _, _ => ⟨S2x2x128x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]
-- ==== Proof.Facts.lean ====
/-
  The words the gather's tasks compute: the offsets of the slices, the conditions of the loop and its carried values,
  each at trip `t` of the task at mesh coordinates `L`, as natural numbers.
-/
module

public import proofs.«01_k».proof.Defs
public import proofs.«01_k».proof.Proof.Gen.KernelIdeal
public import proofs.«01_k».proof.Proof.Gen.KernelIdeal.Skeleton

@[expose] public section

noncomputable section

namespace Cert.Proof.Gather

open Cert.KernelIdeal Cert.KernelIdeal.Gen
open Idealize.ShloMosaic

/-- The mesh coordinates of SparseCore `c`'s vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The first of the 128 blocks of task `L`. -/
def base (L : grid0.Coords) : ℕ := 2048 * (L 0).val + 128 * (L 1).val

theorem base_lt (L : grid0.Coords) : base L + 128 ≤ 4096 := by
  have h0 : (L 0).val < 2 := (L 0).isLt
  have h1 : (L 1).val < 16 := (L 1).isLt
  unfold base; omega

/-- A natural number as a word. -/
abbrev w (n : ℕ) : BitVec 32 := BitVec.ofNat 32 n

theorem coords_eq (L : grid0.Coords) : L = coordsV (L 0) (L 1) := by
  funext a
  match a with
  | 0 => rfl
  | 1 => rfl

/-- A fact of every task, proved at each pair of coordinates. -/
theorem forall_coords {p : grid0.Coords → Prop} (h : ∀ (c : Fin 2) (s : Fin 16), p (coordsV c s)) (L : grid0.Coords) : p L := by
  rw [coords_eq L]; exact h _ _

/-! ## Slots -/

theorem off4_eq : ∀ n : Fin 130, k0_off4 (w n) = ![n.val % 2, 0, 0] := by decide +kernel
theorem off6_eq : ∀ n : Fin 130, k0_off6 (w n) = ![n.val % 2] := by decide +kernel
theorem off7_eq : ∀ n : Fin 130, k0_off7 (w n) = ![n.val % 2, 0, 0] := by decide +kernel
theorem off9_eq : ∀ n : Fin 130, k0_off9 (w n) = ![n.val % 2] := by decide +kernel
theorem off10_eq : ∀ n : Fin 130, k0_off10 (w n) = ![n.val % 2, 0, 0] := by decide +kernel
theorem off11_eq : ∀ n : Fin 130, k0_off11 (w n) = ![n.val % 2, 0, 0] := by decide +kernel
theorem off12_eq : ∀ n : Fin 130, k0_off12 (w n) = ![n.val % 2, 0, 0] := by decide +kernel
theorem off14_eq : ∀ n : Fin 130, k0_off14 (w n) = ![n.val % 2] := by decide +kernel
theorem off15_eq : ∀ n : Fin 130, k0_off15 (w n) = ![n.val % 2, 0, 0] := by decide +kernel
theorem off17_eq : ∀ n : Fin 130, k0_off17 (w n) = ![n.val % 2] := by decide +kernel
theorem off18_eq : k0_off18 (w 127) = ![1, 0, 0] := by decide +kernel
theorem off20_eq : k0_off20 (w 127) = ![1] := by decide +kernel
theorem off21_eq : k0_off21 (w 127) = ![1, 0, 0] := by decide +kernel
theorem off1_eq : k0_off1 = ![0, 0, 0] := by decide +kernel
theorem off3_eq : k0_off3 = ![0] := by decide +kernel

/-! ## Blocks -/

theorem off2_eq (L : grid0.Coords) : k0_off2 L = ![0, 128 * (base L + 0)] := by
  revert L; refine forall_coords ?_; decide +kernel
theorem off5_eq (L : grid0.Coords) : ∀ t : Fin 127, k0_off5 L (w t) = ![0, 128 * (base L + (t.val + 1))] := by
  revert L; refine forall_coords ?_; decide +kernel
theorem off8_eq (L : grid0.Coords) : ∀ t : Fin 128, k0_off8 L (w t) = ![0, 128 * (base L + t.val)] := by
  revert L; refine forall_coords ?_; decide +kernel
theorem off13_eq (L : grid0.Coords) : ∀ t : Fin 128, k0_off13 L (w t) = ![128 * (base L + t.val), 0] := by
  revert L; refine forall_coords ?_; decide +kernel
theorem off16_eq (L : grid0.Coords) : ∀ t : Fin 127, k0_off16 L (w (t.val + 1)) = ![128 * (base L + t.val), 0] := by
  revert L; refine forall_coords ?_; decide +kernel
theorem off19_eq (L : grid0.Coords) : k0_off19 L (w 0) = ![128 * (base L + 127), 0] := by
  revert L; refine forall_coords ?_; decide +kernel

/-! ## Conditions -/

theorem trips_eq : k0_t1_loop.trips = 128 := by decide +kernel

theorem cond1_iff (L : grid0.Coords) : ∀ t : Fin k0_t1_loop.trips, k0_cond1 L t (w t) = 1#1 ↔ t.val < 127 := by
  revert L; refine forall_coords ?_; decide +kernel
theorem cond2_eq (L : grid0.Coords) : ∀ t : Fin k0_t1_loop.trips, k0_cond2 L t (w t) = 1#1 := by
  revert L; refine forall_coords ?_; decide +kernel
theorem cond5_eq (L : grid0.Coords) : ∀ t : Fin k0_t1_loop.trips, k0_cond5 L t (w t) = 1#1 := by
  revert L; refine forall_coords ?_; decide +kernel
theorem cond7_iff (L : grid0.Coords) : ∀ t : Fin k0_t1_loop.trips, k0_cond7 L t (w t) = 1#1 ↔ 0 < t.val := by
  revert L; refine forall_coords ?_; decide +kernel

/-! ## The carried values -/

/-- What the loop carries into trip `t`: the next fetch's count, this trip's, this write-out's, the last one awaited's,
    and the trip's own number (back at zero after the last). -/
abbrev carried (t : ℕ) : BitVec 32 × BitVec 32 × BitVec 32 × BitVec 32 × BitVec 32 :=
  (w (min (t + 1) 128), w t, w t, w (t - 1), w (t % 128))

/-- The task's first trip number: what every block number is counted from. -/
abbrev v4w (L : grid0.Coords) : BitVec 32 :=
  Scalar.muli (Scalar.addi (Scalar.addi 0#32 (Scalar.muli (BitVec.ofNat 32 (L 1).val) 1#32)) (Scalar.muli (BitVec.ofNat 32 (L 0).val) 16#32)) 128#32

end Cert.Proof.Gather

end
-- ==== Proof.Setup.lean ====
/-
  The gather's launch as the proof sees it, the memory each task works on — its slots of the two scratch buffers, its
  blocks of the index row and of the result, its share of the table — and the assertions a task carries from trip to trip.
-/
module

public import proofs.«01_k».proof.Proof.Facts
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Indices, and the value -/

/-- The pair of two coordinates. -/
def at2 {a b : ℕ} (i : Fin a) (j : Fin b) : (⟨2, ![a, b]⟩ : Shape).Idx :=
  fun | ⟨0, _⟩ => i | ⟨1, _⟩ => j | ⟨_ + 2, h⟩ => absurd h (Nat.not_lt.2 (Nat.le_add_left _ _))

theorem at2_eta {a b : ℕ} (x : (⟨2, ![a, b]⟩ : Shape).Idx) : at2 (x 0) (x 1) = x := by
  funext k
  match k with
  | ⟨0, _⟩ => rfl
  | ⟨1, _⟩ => rfl

/-- The rows of the table that the index row names, one under another. -/
def gathered (tab : S655360x256.Idx → Elt F .i32) (ix : S1x524288.Idx → Elt F .i32) : S524288x256.Idx → Elt F .i32 :=
  fun j => tab (at2 ⟨(ix (at2 0 (j 0)) : BitVec 32).toNat % 655360, Nat.mod_lt _ (by decide)⟩ (j 1))

/-! ## Memory of a task -/

abbrev cV (L : grid0.Coords) : Fin τ.nSC := (L 0).castLE hcore0
abbrev jV (L : grid0.Coords) : Fin τ.nSub := (L 1).castLE hsub0
/-- The vector subcore that runs task `L` of device `d`. -/
abbrev thr (d : Dev nD) (L : grid0.Coords) : Thread nD τ := V d (cV L) (jV L)

abbrev xLoc (d : Dev nD) : Loc nD τ sig := (SparseCore.T d).loc main_v9
abbrev iLoc (d : Dev nD) : Loc nD τ sig := (SparseCore.T d).loc main_v10
abbrev oLoc (d : Dev nD) : Loc nD τ sig := (SparseCore.T d).loc main_v11

abbrev xV : Memref sig .scVector .hbm S655360x256 .i32 := Memref.whole main_v9_scv
abbrev iV : Memref sig .scVector .hbm S1x524288 .i32 := Memref.whole main_v10_scv
abbrev oV : Memref sig .scVector .hbm S524288x256 .i32 := Memref.whole main_v11_scv
abbrev sI : Memref sig .scVector .vmem S2x1x128 .i32 := Memref.whole cc0_scoped0
abbrev sO : Memref sig .scVector .vmem S2x128x256 .i32 := Memref.whole cc0_scoped2

/-- The slot of trip `t`. -/
def par (t : ℕ) : Fin 2 := ⟨t % 2, Nat.mod_lt _ (by decide)⟩
/-- Block `t` of task `L`. -/
def bk (L : grid0.Coords) (t : ℕ) : Fin 4096 := ⟨(base L + t) % 4096, Nat.mod_lt _ (by decide)⟩

theorem par_add_two (t : ℕ) : par (t + 2) = par t := Fin.ext (Nat.add_mod_right t 2)
theorem bk_val (L : grid0.Coords) {t : ℕ} (h : t < 128) : (bk L t).val = base L + t :=
  Nat.mod_eq_of_lt (by have := base_lt L; omega)

theorem inbIS (b : Fin 2) : ∀ a, (![b.val, 0, 0] : Fin 3 → ℕ) a + S1x1x128.size a ≤ S2x1x128.size a := by revert b; decide
theorem inbOS (b : Fin 2) : ∀ a, (![b.val, 0, 0] : Fin 3 → ℕ) a + S1x128x256.size a ≤ S2x128x256.size a := by revert b; decide
theorem inbSem (b : Fin 2) : ∀ a, (![b.val] : Fin 1 → ℕ) a + S1.size a ≤ S2.size a := by revert b; decide
theorem inbIB (n : Fin 4096) : ∀ a, (![0, 128 * n.val] : Fin 2 → ℕ) a + S1x128.size a ≤ S1x524288.size a := by
  have := n.isLt
  intro a; match a with
  | 0 => show 0 + 1 ≤ 1; omega
  | 1 => show 128 * n.val + 128 ≤ 524288; omega
theorem inbOB (n : Fin 4096) : ∀ a, (![128 * n.val, 0] : Fin 2 → ℕ) a + S128x256.size a ≤ S524288x256.size a := by
  have := n.isLt
  intro a; match a with
  | 0 => show 128 * n.val + 128 ≤ 524288; omega
  | 1 => show 0 + 256 ≤ 256; omega

/-- Slot `b` of the index scratch. -/
abbrev iSlot (b : Fin 2) : Memref sig .scVector .vmem S1x128 .i32 :=
  (sI.slice (Rect.unit (s := S2x1x128) ![b.val, 0, 0] S1x1x128.size (inbIS b)) (fun _ => rfl)).squeeze S1x128 squeezes_S1x1x128_S1x128
/-- Slot `b` of the row scratch. -/
abbrev oSlot (b : Fin 2) : Memref sig .scVector .vmem S128x256 .i32 :=
  (sO.slice (Rect.unit (s := S2x128x256) ![b.val, 0, 0] S1x128x256.size (inbOS b)) (fun _ => rfl)).squeeze S128x256 squeezes_S1x128x256_S128x256
/-- Block `n` of the index row. -/
abbrev iBlk (n : Fin 4096) : Memref sig .scVector .hbm S1x128 .i32 :=
  iV.slice (Rect.unit (s := S1x524288) ![0, 128 * n.val] S1x128.size (inbIB n)) (fun _ => rfl)
/-- Block `n` of the result. -/
abbrev oBlk (n : Fin 4096) : Memref sig .scVector .hbm S128x256 .i32 :=
  oV.slice (Rect.unit (s := S524288x256) ![128 * n.val, 0] S128x256.size (inbOB n)) (fun _ => rfl)
/-- The semaphore of the fetches into slot `b`. -/
abbrev semI (b : Fin 2) : DmaSem sig := ((cc0_scoped1.slice (Rect.unit (s := S2) ![b.val] S1.size (inbSem b))).squeeze S_ squeezes_S1_S_).sem
/-- The semaphore of the write-outs from slot `b`. -/
abbrev semO (b : Fin 2) : DmaSem sig := ((cc0_scoped3.slice (Rect.unit (s := S2) ![b.val] S1.size (inbSem b))).squeeze S_ squeezes_S1_S_).sem

/-- The columns `128 * h` to `128 * h + 127`, of the table and of a slot of the row scratch; a slot's list of rows. -/
theorem inbXH (h : Fin 2) : ∀ a, (![0, 128 * h.val] : Fin 2 → ℕ) a + S655360x128.size a ≤ S655360x256.size a := by revert h; decide
theorem inbOH (h : Fin 2) : ∀ a, (![0, 128 * h.val] : Fin 2 → ℕ) a + S128x128.size a ≤ S128x256.size a := by revert h; decide
abbrev xHalf (h : Fin 2) : Memref sig .scVector .hbm S655360x128 .i32 :=
  xV.slice (Rect.unit (s := S655360x256) ![0, 128 * h.val] S655360x128.size (inbXH h)) (fun _ => rfl)
abbrev oHalf (b h : Fin 2) : Memref sig .scVector .vmem S128x128 .i32 :=
  (oSlot b).slice (Rect.unit (s := S128x256) ![0, 128 * h.val] S128x128.size (inbOH h)) (fun _ => rfl)
abbrev iList (b : Fin 2) : Memref sig .scVector .vmem S128 .i32 :=
  ((iSlot b).slice (Rect.unit (s := S1x128) ![0, 0] S1x128.size inb_S1x128_S1x128_0_0) (fun _ => rfl)).squeeze S128 squeezes_S1x128_S128

/-! ## What a task holds -/

section Held

variable (d : Dev nD) (L : grid0.Coords) (q : PosShare TreeShare)
variable (tab : Buf (Elt F) (xLoc d)) (ix : Buf (Elt F) (iLoc d)) (o₀ : Buf (Elt F) (oLoc d))

abbrev XSh : sProp 𝕄 := xV.view.loc (thr d L) ↦{q} tab
abbrev IBlk (n : Fin 4096) : sProp 𝕄 := (iBlk n).view.loc (thr d L) ↦[(iBlk n).view.set]{fullShare} ix
abbrev OBlk (n : Fin 4096) (f : Buf (Elt F) (oLoc d)) : sProp 𝕄 := (oBlk n).view.loc (thr d L) ↦[(oBlk n).view.set]{fullShare} f

/-- A slot of the index scratch, at any contents. -/
abbrev ISlotAny (b : Fin 2) : sProp 𝕄 :=
  iprop(∃ f : Buf (Elt F) ((iSlot b).view.loc (thr d L)), (iSlot b).view.loc (thr d L) ↦[(iSlot b).view.set]{fullShare} f)
/-- A slot of the index scratch that holds block `n` of the index row. -/
abbrev ISlotAt (b : Fin 2) (n : Fin 4096) : sProp 𝕄 :=
  iprop(∃ f : Buf (Elt F) ((iSlot b).view.loc (thr d L)), ⌜(iSlot b).view.read (Elt F) f = (iBlk n).view.read (Elt F) ix⌝
    ∗ (iSlot b).view.loc (thr d L) ↦[(iSlot b).view.set]{fullShare} f)
/-- A slot of the row scratch, at any contents. -/
abbrev OSlotAny (b : Fin 2) : sProp 𝕄 :=
  iprop(∃ f : Buf (Elt F) ((oSlot b).view.loc (thr d L)), (oSlot b).view.loc (thr d L) ↦[(oSlot b).view.set]{fullShare} f)
/-- A slot of the row scratch whose first `k` columns hold those of block `n` of the gathered rows. -/
abbrev OSlotTo (b : Fin 2) (n : Fin 4096) (k : ℕ) : sProp 𝕄 :=
  iprop(∃ f : Buf (Elt F) ((oSlot b).view.loc (thr d L)),
    ⌜∀ x : S128x256.Idx, (x 1).val < k → (oSlot b).view.read (Elt F) f x = (oBlk n).view.read (Elt F) (gathered tab ix) x⌝
    ∗ (oSlot b).view.loc (thr d L) ↦[(oSlot b).view.set]{fullShare} f)

/-- The fetch of block `n` of the index row into slot `b`, under way. -/
abbrev FlI (b : Fin 2) (n : Fin 4096) : sProp 𝕄 :=
  Transfers.Flight countersEmb (thr d L) (.dma (semI b)) (default : HIx 1) (iSlot b).view.dmaCredit iprop(ISlotAt d L ix b n ∗ IBlk d L ix n)
/-- The write-out of slot `b` to block `n` of the result, under way. -/
abbrev FlO (b : Fin 2) (n : Fin 4096) : sProp 𝕄 :=
  Transfers.Flight countersEmb (thr d L) (.dma (semO b)) (default : HIx 1) (oBlk n).view.dmaCredit
    iprop(OBlk d L n (gathered tab ix) ∗ OSlotAny d L b)

/-- The transfers' semaphores of a slot, at zero. -/
abbrev SI0 (b : Fin 2) : sProp 𝕄 := semVal (thr d L, .dma (semI b)) 0
abbrev SO0 (b : Fin 2) : sProp 𝕄 := semVal (thr d L, .dma (semO b)) 0

/-- What the task owes, the waits it may have recorded since `W` being its own. -/
abbrev Owe (O : CellTallies nD τ sig (HIx 1)) (W : Waits sig (HIx 1)) : sProp 𝕄 :=
  iprop(∃ W', ⌜∀ p ∈ W', p ∈ W ∨ p.2 = none⌝ ∗ owes (thr d L) O W')

end Held

end Cert.Proof.Gather
-- ==== Proof.Steps.lean ====
/-
  The steps of a task, one lemma each: a fetch started and awaited, a write-out started and awaited, and the two
  gathers of a block's rows, one per half of the columns.
-/
module

public import proofs.«01_k».proof.Proof.Setup

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (q : PosShare TreeShare)
variable (tab : Buf (Elt F) (xLoc d)) (ix : Buf (Elt F) (iLoc d))

/-- A program of task `L`. -/
abbrev Pr (L : grid0.Coords) (α : Type) : Type 1 := Prog (TpuEff nD τ sig (Elt F) Λ₀ (.scVector (cV L) (jV L))) α

/-- The weakest precondition of a program of task `L` of device `d`. -/
abbrev wpL {α : Type} (p : Prog (TpuEff nD τ sig (Elt F) Λ₀ (.scVector (cV L) (jV L))) α) (Q : α → sProp 𝕄) : sProp 𝕄 :=
  wp frame (wpE (defs₀ (F := F)) 𝒱₀ (thr d L) none) Set.univ p Q

/-! ## The rows a gather delivers -/

theorem read_eq {κ : Kind} {sp : Space} {s : Shape} (v : Memref sig κ sp s .i32) (f : v.view.ty.Contents (Elt F)) (x : s.Idx)
    : v.view.read (Elt F) f x = cast (congrArg _ v.view.elt_eq) (f (v.view.emb x)) := View.read_apply _ _

/-- The list of a slot is the slot's words in order. -/
theorem iList_read (b : Fin 2) (f : (iSlot b).view.ty.Contents (Elt F)) (z : S128.Idx) :
    (iList b).view.read (Elt F) f z = (iSlot b).view.read (Elt F) f (at2 0 (z 0)) := by
  show (iSlot b).view.read (Elt F) f ((Rect.unit (s := S1x128) ![0, 0] S1x128.size inb_S1x128_S1x128_0_0).emb
    (Shape.reshapeEquiv squeezes_S1x128_S128.numel_eq z)) = _
  congr 1
  rw [show Shape.reshapeEquiv squeezes_S1x128_S128.numel_eq z = at2 (a := 1) (b := 128) 0 (z 0) from
    Shape.reshapeEquiv_eq_of_rowMajor _ (by rw [Shape.rowMajor_val_two, Shape.rowMajor_val_one]; simp [at2])]
  funext a
  match a with
  | ⟨0, _⟩ => exact Fin.ext (by simp [Rect.emb, Rect.unit, at2])
  | ⟨1, _⟩ => exact Fin.ext (by simp [Rect.emb, Rect.unit, at2])

omit [FloatOps F] in
/-- A block's word. -/
theorem iBlk_read (n : Fin 4096) (ix : Buf (Elt F) (iLoc d)) (k : Fin 128) :
    (iBlk n).view.read (Elt F) ix (at2 0 k) = ix (at2 (a := 1) (b := 524288) 0 ⟨128 * n.val + k.val, by omega⟩) := by
  show ix ((Rect.unit (s := S1x524288) ![0, 128 * n.val] S1x128.size (inbIB n)).emb (at2 0 k)) = _
  congr 1
  funext a
  match a with
  | ⟨0, _⟩ => exact Fin.ext (by simp [Rect.emb, Rect.unit, at2])
  | ⟨1, _⟩ => exact Fin.ext (by simp [Rect.emb, Rect.unit, at2])

/-- A block of the gathered rows. -/
theorem oBlk_read (n : Fin 4096) (x : S128x256.Idx) :
    (oBlk n).view.read (Elt F) (gathered tab ix) x
      = gathered tab ix (at2 (a := 524288) (b := 256) ⟨128 * n.val + (x 0).val, by have : (x 0).val < 128 := (x 0).isLt; omega⟩ (x 1)) := by
  show gathered tab ix ((Rect.unit (s := S524288x256) ![128 * n.val, 0] S128x256.size (inbOB n)).emb x) = _
  congr 1
  funext a
  match a with
  | ⟨0, _⟩ => exact Fin.ext (by simp [Rect.emb, Rect.unit, at2])
  | ⟨1, _⟩ => exact Fin.ext (by simp [Rect.emb, Rect.unit, at2])

/-- Half of the table's columns. -/
theorem xHalf_read (h : Fin 2) (z : S655360x128.Idx) :
    (xHalf h).view.read (Elt F) tab z
      = tab (at2 (a := 655360) (b := 256) (z 0) ⟨128 * h.val + (z 1).val, by have : (z 1).val < 128 := (z 1).isLt; omega⟩) := by
  show tab ((Rect.unit (s := S655360x256) ![0, 128 * h.val] S655360x128.size (inbXH h)).emb z) = _
  congr 1
  funext a
  match a with
  | ⟨0, _⟩ => exact Fin.ext (by simp [Rect.emb, Rect.unit, at2])
  | ⟨1, _⟩ => exact Fin.ext (by simp [Rect.emb, Rect.unit, at2])

/-- What the gather of half `h` of block `n`'s columns leaves in the slot: the block's columns below `128 * h`, already
    there, and those of the half. -/
theorem gather_val (b h : Fin 2) (n : Fin 4096) (hg : S655360x128.Gathers 0 S128x128)
    (hn : S128.numel = S128x128.size hg.axis')
    (f : Buf (Elt F) ((iSlot b).view.loc (thr d L))) (fo : Buf (Elt F) ((oSlot b).view.loc (thr d L)))
    (hf : (iSlot b).view.read (Elt F) f = (iBlk n).view.read (Elt F) ix)
    (hin : ∀ x, ((iList b).view.read (Elt F) f x).toNat < S655360x128.size hg.axis)
    (hfo : ∀ x : S128x256.Idx, (x 1).val < 128 * h.val → (oSlot b).view.read (Elt F) fo x = (oBlk n).view.read (Elt F) (gathered tab ix) x)
    (x : S128x256.Idx) (hx : (x 1).val < 128 * h.val + 128) :
    (oSlot b).view.read (Elt F) ((oHalf b h).view.write (Elt F) fo
      (SparseCore.gatherPayload hg ((xHalf h).view.read (Elt F) tab) (SparseCore.rows ((iList b).view.read (Elt F) f) hn hin)) Finset.univ) x
      = (oBlk n).view.read (Elt F) (gathered tab ix) x := by
  have hx0 : (x 0).val < 128 := (x 0).isLt
  by_cases hc : (x 1).val < 128 * h.val
  · rw [← hfo x hc]
    refine ((View.read_apply _ _).trans (cast_eq _ _)).trans (Eq.trans ?_ ((View.read_apply _ _).trans (cast_eq _ _)).symm)
    refine View.write_of_not_mem _ _ _ (fun hm => ?_)
    obtain ⟨y, -, hy⟩ := Finset.mem_map.mp hm
    have e : (Rect.unit (s := S128x256) ![0, 128 * h.val] S128x128.size (inbOH h)).emb y = x := (oSlot b).view.emb.injective hy
    have := congrArg (fun z : S128x256.Idx => (z 1).val) e
    simp [Rect.emb, Rect.unit] at this
    omega
  · let y : S128x128.Idx := at2 (a := 128) (b := 128) (x 0) ⟨(x 1).val - 128 * h.val, by omega⟩
    have e : (Rect.unit (s := S128x256) ![0, 128 * h.val] S128x128.size (inbOH h)).emb y = x := by
      funext a
      match a with
      | ⟨0, _⟩ => exact Fin.ext (by simp [Rect.emb, Rect.unit, y, at2])
      | ⟨1, _⟩ => exact Fin.ext (by simp [Rect.emb, Rect.unit, y, at2]; omega)
    refine ((View.read_apply _ _).trans (cast_eq _ _)).trans ?_
    have e' : (oSlot b).view.emb x = (oHalf b h).view.emb y := congrArg (oSlot b).view.emb e.symm
    rw [e']
    refine (View.write_emb_of_mem _ _ (Finset.mem_univ y)).trans ((cast_eq _ _).trans ?_)
    rw [oBlk_read]
    show (xHalf h).view.read (Elt F) tab (hg.idx _ y) = _
    rw [xHalf_read]
    unfold gathered
    have hr : (hg.idx (SparseCore.rows ((iList b).view.read (Elt F) f) hn hin) y 0).val
        = (ix (at2 (a := 1) (b := 524288) 0 ⟨128 * n.val + (x 0).val, by omega⟩) : BitVec 32).toNat := by
      refine (congrArg Fin.val (Shape.Gathers.idx_axis hg _ y)).trans ?_
      have e2 : (S128.rowMajor.symm (Fin.cast hn.symm (y hg.axis')) : S128.Idx) 0 = (x 0 : Fin 128) := by
        apply Fin.ext
        rw [← Shape.rowMajor_val_one (S128.rowMajor.symm (Fin.cast hn.symm (y hg.axis')))]
        rw [Equiv.apply_symm_apply]
        rfl
      show ((iList b).view.read (Elt F) f _ : BitVec 32).toNat = _
      rw [iList_read, hf]
      exact congrArg BitVec.toNat ((congrArg (fun k : Fin 128 => (iBlk n).view.read (Elt F) ix (at2 0 k)) e2).trans (iBlk_read d n ix (x 0)))
    have hc1 : (hg.idx (SparseCore.rows ((iList b).view.read (Elt F) f) hn hin) y 1).val = (y 1).val :=
      Shape.Gathers.idx_of_ne hg _ y 1 (by decide)
    have hlt : (ix (at2 (a := 1) (b := 524288) 0 ⟨128 * n.val + (x 0).val, by omega⟩) : BitVec 32).toNat < 655360 :=
      hr ▸ (hg.idx (SparseCore.rows ((iList b).view.read (Elt F) f) hn hin) y 0).isLt
    congr 1
    refine congrArg₂ at2 (Fin.ext ?_) (Fin.ext ?_)
    · exact hr.trans (Nat.mod_eq_of_lt hlt).symm
    · show 128 * h.val + (hg.idx _ y 1).val = (x 1).val
      rw [hc1]; show 128 * h.val + ((x 1).val - 128 * h.val) = _; omega

/-! ## The steps -/

/-- The rows of a half are credited, one by one, what the half is. -/
theorem rows_credit : ∀ (b h : Fin 2) (hg : S655360x128.Gathers 0 S128x128),
    ∑ j, ((oHalf b h).slice (S128x128.rowRect hg.axis' j) (S128x128.stride_rowRect hg.axis' j)).view.dmaCredit = (oHalf b h).view.dmaCredit := by
  decide

/-- A fetch started: the slot and the block go into the flight. -/
theorem fetch_step {o4 : Fin 3 → ℕ} {h4} {o5 : Fin 2 → ℕ} {h5} {o6 : Fin 1 → ℕ} {h6} {hsrc hdst hsem} {Q : PUnit → sProp 𝕄}
    (b : Fin 2) (n : Fin 4096) (e4 : o4 = ![b.val, 0, 0]) (e5 : o5 = ![0, 128 * n.val]) (e6 : o6 = ![b.val]) :
    iprop(IBlk d L ix n ∗ ISlotAny d L b ∗ SI0 d L b)
      ⊢ iprop((FlI d L ix b n -∗ Q ⟨⟩) -∗ wpL d L
          (Prog.lift (.enqueueDma (iV.slice (Rect.unit (s := S1x524288) o5 S1x128.size h5) (fun _ => rfl))
            (.here ((sI.slice (Rect.unit (s := S2x1x128) o4 S1x1x128.size h4) (fun _ => rfl)).squeeze S1x128 squeezes_S1x1x128_S1x128))
            (.dma ((cc0_scoped1.slice (Rect.unit (s := S2) o6 S1.size h6)).squeeze S_ squeezes_S1_S_).sem) hsrc hdst hsem)) Q) := by
  subst e4 e5 e6
  iintro ⟨Hi, ⟨%f, Hs⟩, Hv⟩ Hk
  iapply (Transfers.wp_dmaLocal countersEmb 𝒱₀ (thr d L) none (src := iBlk n) (dst := iSlot b) (default : HIx 1) (iSlot b).view.dmaCredit rfl
    (View.dmaCredit_pos _ (by decide)) (Finset.Subset.refl _)) $$ [Hi Hs Hv]
  · isplitl [Hi]; · iexact Hi
    isplitl [Hs]; · iexact Hs
    iexact Hv
  iintro Hfl
  rw [wp_ret]; imodintro
  iapply Hk
  iapply (Transfers.Flight_mono (EC := countersEmb) (?_)) $$ Hfl
  iintro ⟨Hs, Hi⟩
  isplitl [Hs]
  · iexists _; isplitr; swap; · iexact Hs
    ipureintro; exact View.read_write_univ _ _
  iexact Hi

/-- A fetch awaited. -/
theorem fetched_step {o7 : Fin 3 → ℕ} {h7} {o8 : Fin 2 → ℕ} {h8} {o9 : Fin 1 → ℕ} {h9} {hsrc hdst} {Q : PUnit → sProp 𝕄}
    {O : CellTallies nD τ sig (HIx 1)} {W : Waits sig (HIx 1)} (hO : ∀ g, O g none = 0)
    (b : Fin 2) (n : Fin 4096) (e7 : o7 = ![b.val, 0, 0]) (e8 : o8 = ![0, 128 * n.val]) (e9 : o9 = ![b.val]) :
    iprop(levAts (K (F := F)).L (K (F := F)).lev ∗ FlI d L ix b n ∗ Owe d L O W)
      ⊢ iprop((iprop(ISlotAt d L ix b n ∗ IBlk d L ix n ∗ SI0 d L b ∗ Owe d L O W) -∗ Q ⟨⟩) -∗ wpL d L
          (Prog.lift (.waitDma2 ((cc0_scoped1.slice (Rect.unit (s := S2) o9 S1.size h9)).squeeze S_ squeezes_S1_S_).sem
            (iV.slice (Rect.unit (s := S1x524288) o8 S1x128.size h8) (fun _ => rfl))
            ((sI.slice (Rect.unit (s := S2x1x128) o7 S1x1x128.size h7) (fun _ => rfl)).squeeze S1x128 squeezes_S1x1x128_S1x128) hsrc hdst)) Q) := by
  subst e7 e8 e9
  iintro ⟨#Hlv, Hfl, ⟨%W', %hW', HO⟩⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (default : HIx 1) (rfl : (iSlot b).view.dmaCredit = _)) $$ [Hfl HO]
  · isplitl [Hfl]; · iexact Hfl
    isplitl [HO]; · iexact HO
    iapply (Transfers.MayWaits.elim (SemLoc.dma (semI b))) $$ Hmw
  iintro ⟨⟨Hs, Hi⟩, Hv, HO⟩
  rw [wp_ret]; imodintro
  iapply Hk
  isplitl [Hs]; · iexact Hs
  isplitl [Hi]; · iexact Hi
  isplitl [Hv]; · iexact Hv
  iexists _; isplitr; swap; · iexact HO
  ipureintro; intro p hp
  rcases Finset.mem_insert.mp hp with hp | hp
  · exact .inr (hp ▸ rfl)
  · exact hW' p hp

/-- A write-out started: the slot holds the whole block. -/
theorem out_step {o12 : Fin 3 → ℕ} {h12} {o13 : Fin 2 → ℕ} {h13} {o14 : Fin 1 → ℕ} {h14} {hsrc hdst hsem} {Q : PUnit → sProp 𝕄}
    (b : Fin 2) (n : Fin 4096) (fo : Buf (Elt F) (oLoc d)) (e12 : o12 = ![b.val, 0, 0]) (e13 : o13 = ![128 * n.val, 0]) (e14 : o14 = ![b.val]) :
    iprop(OSlotTo d L tab ix b n 256 ∗ OBlk d L n fo ∗ SO0 d L b)
      ⊢ iprop((FlO d L tab ix b n -∗ Q ⟨⟩) -∗ wpL d L
          (Prog.lift (.enqueueDma ((sO.slice (Rect.unit (s := S2x128x256) o12 S1x128x256.size h12) (fun _ => rfl)).squeeze S128x256 squeezes_S1x128x256_S128x256)
            (.here (oV.slice (Rect.unit (s := S524288x256) o13 S128x256.size h13) (fun _ => rfl)))
            (.dma ((cc0_scoped3.slice (Rect.unit (s := S2) o14 S1.size h14)).squeeze S_ squeezes_S1_S_).sem) hsrc hdst hsem)) Q) := by
  subst e12 e13 e14
  iintro ⟨⟨%f, %hf, Hs⟩, Ho, Hv⟩ Hk
  iapply (Transfers.wp_dmaLocal countersEmb 𝒱₀ (thr d L) none (src := oSlot b) (dst := oBlk n) (default : HIx 1) (oBlk n).view.dmaCredit rfl
    (View.dmaCredit_pos _ (by decide)) (Finset.Subset.refl _)) $$ [Hs Ho Hv]
  · isplitl [Hs]; · iexact Hs
    isplitl [Ho]; · iexact Ho
    iexact Hv
  iintro Hfl
  rw [wp_ret]; imodintro
  iapply Hk
  iapply (Transfers.Flight_mono (EC := countersEmb) (?_)) $$ Hfl
  iintro ⟨Ho, Hs⟩
  isplitl [Ho]
  · iapply (Entails.of_eq (pointsTo_congr (?_))) $$ Ho
    intro i hi
    obtain ⟨x, -, rfl⟩ := Finset.mem_map.mp hi
    refine (View.write_emb_of_mem _ _ (Finset.mem_univ x)).trans ((cast_eq _ _).trans ?_)
    exact (hf x (x 1).isLt).trans ((View.read_apply _ _).trans (cast_eq _ _))
  iexists _; iexact Hs

/-- A write-out awaited. -/
theorem outDone_step {o15 : Fin 3 → ℕ} {h15} {o16 : Fin 2 → ℕ} {h16} {o17 : Fin 1 → ℕ} {h17} {hsrc hdst} {Q : PUnit → sProp 𝕄}
    {O : CellTallies nD τ sig (HIx 1)} {W : Waits sig (HIx 1)} (hO : ∀ g, O g none = 0)
    (b : Fin 2) (n : Fin 4096) (e15 : o15 = ![b.val, 0, 0]) (e16 : o16 = ![128 * n.val, 0]) (e17 : o17 = ![b.val]) :
    iprop(levAts (K (F := F)).L (K (F := F)).lev ∗ FlO d L tab ix b n ∗ Owe d L O W)
      ⊢ iprop((iprop(OBlk d L n (gathered tab ix) ∗ OSlotAny d L b ∗ SO0 d L b ∗ Owe d L O W) -∗ Q ⟨⟩) -∗ wpL d L
          (Prog.lift (.waitDma2 ((cc0_scoped3.slice (Rect.unit (s := S2) o17 S1.size h17)).squeeze S_ squeezes_S1_S_).sem
            ((sO.slice (Rect.unit (s := S2x128x256) o15 S1x128x256.size h15) (fun _ => rfl)).squeeze S128x256 squeezes_S1x128x256_S128x256)
            (oV.slice (Rect.unit (s := S524288x256) o16 S128x256.size h16) (fun _ => rfl)) hsrc hdst)) Q) := by
  subst e15 e16 e17
  iintro ⟨#Hlv, Hfl, ⟨%W', %hW', HO⟩⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (default : HIx 1) (rfl : (oBlk n).view.dmaCredit = _)) $$ [Hfl HO]
  · isplitl [Hfl]; · iexact Hfl
    isplitl [HO]; · iexact HO
    iapply (Transfers.MayWaits.elim (SemLoc.dma (semO b))) $$ Hmw
  iintro ⟨⟨Ho, Hs⟩, Hv, HO⟩
  rw [wp_ret]; imodintro
  iapply Hk
  isplitl [Ho]; · iexact Ho
  isplitl [Hs]; · iexact Hs
  isplitl [Hv]; · iexact Hv
  iexists _; isplitr; swap; · iexact HO
  ipureintro; intro p hp
  rcases Finset.mem_insert.mp hp with hp | hp
  · exact .inr (hp ▸ rfl)
  · exact hW' p hp

/-- What a gather reads and writes: the columns' half of the table, the list, the columns' half of the slot. -/
theorem gather_step_seq {oa : Fin 3 → ℕ} {ha} {ob : Fin 3 → ℕ} {hb} {ox : Fin 2 → ℕ} {hx} {oc : Fin 2 → ℕ} {hc} {sm : DmaSem sig}
    {hp hsrc he hsp hr hs1 hd1} {hg : S655360x128.Gathers 0 S128x128} {hn : S128.numel = S128x128.size hg.axis'} {Q : PUnit → sProp 𝕄}
    {O : CellTallies nD τ sig (HIx 1)} {W : Waits sig (HIx 1)} (hO : ∀ g, O g none = 0) (hix : ∀ x, (ix x : BitVec 32).toNat < 655360)
    (b h : Fin 2) (n : Fin 4096) (ea : oa = ![b.val, 0, 0]) (eb : ob = ![b.val, 0, 0]) (ex : ox = ![0, 128 * h.val]) (ec : oc = ![0, 128 * h.val]) :
    iprop(levAts (K (F := F)).L (K (F := F)).lev ∗ XSh d L q tab ∗ ISlotAt d L ix b n ∗ OSlotTo d L tab ix b n (128 * h.val)
        ∗ semVal (thr d L, .dma sm) 0 ∗ Owe d L O W)
      ⊢ iprop((iprop(XSh d L q tab ∗ ISlotAt d L ix b n ∗ OSlotTo d L tab ix b n (128 * h.val + 128)
            ∗ semVal (thr d L, .dma sm) 0 ∗ Owe d L O W) -∗ Q ⟨⟩)
          -∗ wpL d L (SparseCore.enqueueIndirectGather hp
              (xV.slice (Rect.unit (s := S655360x256) ox S655360x128.size hx) (fun _ => rfl))
              (((sO.slice (Rect.unit (s := S2x128x256) oa S1x128x256.size ha) (fun _ => rfl)).squeeze S128x256 squeezes_S1x128x256_S128x256).slice
                (Rect.unit (s := S128x256) oc S128x128.size hc) (fun _ => rfl)) hg
              ((((sI.slice (Rect.unit (s := S2x1x128) ob S1x1x128.size hb) (fun _ => rfl)).squeeze S1x128 squeezes_S1x1x128_S1x128).slice
                (Rect.unit (s := S1x128) ![0, 0] S1x128.size inb_S1x128_S1x128_0_0) (fun _ => rfl)).squeeze S128 squeezes_S1x128_S128)
              hn sm hsrc he hsp hr >>= fun _ => SparseCore.waitIndirectGather sm
              (xV.slice (Rect.unit (s := S655360x256) ox S655360x128.size hx) (fun _ => rfl))
              (((sO.slice (Rect.unit (s := S2x128x256) oa S1x128x256.size ha) (fun _ => rfl)).squeeze S128x256 squeezes_S1x128x256_S128x256).slice
                (Rect.unit (s := S128x256) oc S128x128.size hc) (fun _ => rfl)) hs1 hd1) Q) := by
  subst ea eb ex ec
  have hxs : (xHalf h).view.set ⊆ (xV).view.set := View.set_slice_subset _ _
  have hos : (oHalf b h).view.set ⊆ (oSlot b).view.set := View.set_slice_subset _ _
  have hls : (iList b).view.set = (iSlot b).view.set := by
    show (((iSlot b).view.slice (Rect.unit (s := S1x128) ![0, 0] S1x128.size inb_S1x128_S1x128_0_0)).reshape S128 squeezes_S1x128_S128.numel_eq).set = _
    rw [View.set_reshape, View.set_slice, show (Rect.unit (s := S1x128) ![0, 0] S1x128.size inb_S1x128_S1x128_0_0).set = Finset.univ from
      Finset.eq_univ_iff_forall.mpr fun z => Rect.mem_set_unit.mpr fun a => by
        match a with
        | ⟨0, _⟩ => exact ⟨Nat.zero_le _, by have : (z 0).val < 1 := (z 0).isLt; simpa using this⟩
        | ⟨1, _⟩ => exact ⟨Nat.zero_le _, by have : (z 1).val < 128 := (z 1).isLt; simpa using this⟩]
    rfl
  have hN : ∑ j, ((oHalf b h).slice (S128x128.rowRect hg.axis' j) (S128x128.stride_rowRect hg.axis' j)).view.dmaCredit
      = (oHalf b h).view.dmaCredit := by
    exact rows_credit b h hg
  iintro ⟨#Hlv, Hx, ⟨%f, %hf, Hl⟩, ⟨%fo, %hfo, Ho⟩, Hv, ⟨%W', %hW', HO⟩⟩ Hk
  have hin : ∀ x, ((iList b).view.read (Elt F) f x).toNat < S655360x128.size hg.axis := by
    intro x
    have e : ((iList b).view.read (Elt F) f x) = _ := (iList_read b f x).trans ((congrFun hf _).trans (iBlk_read d n ix (x 0)))
    rw [e]
    exact hix _
  ihave Hmw := (show levAts (K (F := F)).L (K (F := F)).lev ⊢ Transfers.MayWaits (thr d L) (default : HIx 1) O from
    (K (F := F)).mayWaits_none (thr := thr d L) hO) $$ Hlv
  ihave Hxs := (pointsTo_split_subset (q := q) (f := tab) (S := Finset.univ) (Finset.subset_univ (xHalf h).view.set)).1 $$ Hx
  icases Hxs with ⟨Hxs, Hxr⟩
  ihave Hos := (pointsTo_split_subset (q := fullShare) (f := fo) hos).1 $$ Ho
  icases Hos with ⟨Hos, Hor⟩
  iapply (SparseCore.wp_indirectGatherLocal countersEmb 𝒱₀ (thr d L) none (src := xHalf h) (dst := oHalf b h) (offs := iList b) (hg := hg) (default : HIx 1)
      (oHalf b h).view.dmaCredit hN (by decide) hin (q := q) (qo := fullShare) (fs := tab) (fd := fo)) $$ [Hxs Hos Hl Hv]
  · isplitl [Hxs]; · iexact Hxs
    isplitl [Hos]; · iexact Hos
    isplitl [Hl]; · rw [hls]; iexact Hl
    iexact Hv
  iintro Hfl
  iapply (Transfers.wp_waitLocalO countersEmb 𝒱₀ (thr d L) none (default : HIx 1) (rfl : (oHalf b h).view.dmaCredit = _)) $$ [Hfl HO]
  · isplitl [Hfl]; · iexact Hfl
    isplitl [HO]; · iexact HO
    iapply (Transfers.MayWaits.elim (SemLoc.dma sm)) $$ Hmw
  iintro ⟨⟨Hos, Hxs, Hl⟩, Hv, HO⟩
  rw [wp_ret]; imodintro
  iapply Hk
  isplitl [Hxs Hxr]
  · iapply (pointsTo_split_subset (q := q) (f := tab) (S := Finset.univ) (Finset.subset_univ (xHalf h).view.set)).2; isplitl [Hxs] <;> iassumption
  isplitl [Hl]
  · iexists f; isplitr; · ipureintro; exact hf
    rw [hls]; iexact Hl
  isplitl [Hos Hor]
  · iexists _; isplitr
    · ipureintro; exact gather_val d L tab ix b h n hg hn f fo hf hin hfo
    iapply (pointsTo_split_subset (q := fullShare) hos).2
    isplitl [Hos]; · iexact Hos
    iapply (Entails.of_eq (pointsTo_congr (?_))) $$ Hor
    intro i hi
    exact (View.write_of_not_mem _ _ _ (Finset.mem_sdiff.mp hi).2).symm
  isplitl [Hv]; · iexact Hv
  iexists _; isplitr; swap; · iexact HO
  ipureintro; intro p hp
  rcases Finset.mem_insert.mp hp with hp | hp
  · exact .inr (hp ▸ rfl)
  · exact hW' p hp

/-- The same, the two operations apart. -/
theorem gather_step {oa : Fin 3 → ℕ} {ha} {ob : Fin 3 → ℕ} {hb} {ox : Fin 2 → ℕ} {hx} {oc : Fin 2 → ℕ} {hc} {sm : DmaSem sig}
    {hp hsrc he hsp hr hs1 hd1} {hg : S655360x128.Gathers 0 S128x128} {hn : S128.numel = S128x128.size hg.axis'} {Q : PUnit → sProp 𝕄}
    {O : CellTallies nD τ sig (HIx 1)} {W : Waits sig (HIx 1)} (hO : ∀ g, O g none = 0) (hix : ∀ x, (ix x : BitVec 32).toNat < 655360)
    (b h : Fin 2) (n : Fin 4096) (ea : oa = ![b.val, 0, 0]) (eb : ob = ![b.val, 0, 0]) (ex : ox = ![0, 128 * h.val]) (ec : oc = ![0, 128 * h.val]) :
    iprop(levAts (K (F := F)).L (K (F := F)).lev ∗ XSh d L q tab ∗ ISlotAt d L ix b n ∗ OSlotTo d L tab ix b n (128 * h.val)
        ∗ semVal (thr d L, .dma sm) 0 ∗ Owe d L O W)
      ⊢ iprop((iprop(XSh d L q tab ∗ ISlotAt d L ix b n ∗ OSlotTo d L tab ix b n (128 * h.val + 128)
            ∗ semVal (thr d L, .dma sm) 0 ∗ Owe d L O W) -∗ Q ⟨⟩)
          -∗ wpL d L (SparseCore.enqueueIndirectGather hp
              (xV.slice (Rect.unit (s := S655360x256) ox S655360x128.size hx) (fun _ => rfl))
              (((sO.slice (Rect.unit (s := S2x128x256) oa S1x128x256.size ha) (fun _ => rfl)).squeeze S128x256 squeezes_S1x128x256_S128x256).slice
                (Rect.unit (s := S128x256) oc S128x128.size hc) (fun _ => rfl)) hg
              ((((sI.slice (Rect.unit (s := S2x1x128) ob S1x1x128.size hb) (fun _ => rfl)).squeeze S1x128 squeezes_S1x1x128_S1x128).slice
                (Rect.unit (s := S1x128) ![0, 0] S1x128.size inb_S1x128_S1x128_0_0) (fun _ => rfl)).squeeze S128 squeezes_S1x128_S128)
              hn sm hsrc he hsp hr)
            fun _ => wpL d L (SparseCore.waitIndirectGather sm
              (xV.slice (Rect.unit (s := S655360x256) ox S655360x128.size hx) (fun _ => rfl))
              (((sO.slice (Rect.unit (s := S2x128x256) oa S1x128x256.size ha) (fun _ => rfl)).squeeze S128x256 squeezes_S1x128x256_S128x256).slice
                (Rect.unit (s := S128x256) oc S128x128.size hc) (fun _ => rfl)) hs1 hd1) Q) := by
  have h0 := gather_step_seq d L q tab ix hO hix b h n ea eb ex ec (hp := hp) (hsrc := hsrc) (he := he) (hsp := hsp) (hr := hr) (hs1 := hs1) (hd1 := hd1)
    (hg := hg) (hn := hn) (Q := Q) (W := W) (sm := sm) (ha := ha) (hb := hb) (hx := hx) (hc := hc)
  unfold wpL at h0 ⊢
  rw [wp_bind] at h0
  exact h0

end Cert.Proof.Gather
-- ==== Proof.Words.lean ====
/-
  The side conditions of the gather's slices and the words its loop passes on, at the values the loop carries.
-/
module

public import proofs.«01_k».proof.Proof.Facts

@[expose] public section

noncomputable section

namespace Cert.Proof.Gather

open Cert.KernelIdeal Cert.KernelIdeal.Gen
open Idealize.ShloMosaic

theorem chk1_ok (L : grid0.Coords) : ∀ t : Fin k0_t1_loop.trips, k0_chk1 L t (w (min (t.val + 1) 128)) (w t) (w t) (w (t.val - 1)) (w t) := by
  revert L; refine forall_coords ?_; decide +kernel
theorem chk2_ok : ∀ t : Fin 128, k0_chk2 (w t) := by decide +kernel
theorem chk3_ok : ∀ t : Fin 128, k0_chk3 (w t) := by decide +kernel
theorem chk4_ok : k0_chk4 (w 127) := by decide +kernel
theorem chk5_ok (L : grid0.Coords) : k0_chk5 L (w 0) := by
  have := base_lt L
  unfold k0_chk5
  rw [off19_eq]
  intro a
  match a with
  | ⟨0, _⟩ => show 128 * (base L + 127) + 128 ≤ 524288; omega
  | ⟨1, _⟩ => show 0 + 256 ≤ 256; omega

/-- The number of trip `t` as the loop counts it. -/
abbrev ivw (t : Fin k0_t1_loop.trips) : BitVec 32 := Scf.iv 0#32 1#32 t
/-- The block trip `t` works on, the one before it and the one after it, as the task counts them (round, at the ends). -/
abbrev hereW (L : grid0.Coords) (t : ℕ) : BitVec 32 := Scalar.addi (w t) (v4w L)
abbrev prevW (L : grid0.Coords) (t : ℕ) : BitVec 32 :=
  Scalar.addi (Scalar.select (Scalar.cmpi .eq (Scalar.select 1#1 (Scalar.subi (w t) 1#32) (w t)) 4294967295#32) 127#32
    (Scalar.select 1#1 (Scalar.subi (w t) 1#32) (w t))) (v4w L)
abbrev nextW (L : grid0.Coords) (t : ℕ) : BitVec 32 :=
  Scalar.addi (Scalar.select (Scalar.cmpi .eq (Scalar.select 1#1 (Scalar.addi (w t) 1#32) (w t)) 128#32) 0#32
    (Scalar.select 1#1 (Scalar.addi (w t) 1#32) (w t))) (v4w L)

/-- Trip `t` passes on what is carried into trip `t + 1`. -/
theorem passed_on (L : grid0.Coords) : ∀ t : Fin k0_t1_loop.trips,
    ((Scalar.select (Scalar.andi (Scalar.andi (Scalar.cmpi .ne (hereW L t) (nextW L t)) (Scalar.xori (Scalar.cmpi .sge (ivw t) 127#32) 1#1)) 1#1)
        (Scalar.addi (w (min (t.val + 1) 128)) 1#32) (w (min (t.val + 1) 128)),
      Scalar.select (Scalar.ori (Scalar.cmpi .ne (hereW L t) (nextW L t)) (Scalar.cmpi .eq (ivw t) 127#32)) (Scalar.addi (w t) 1#32) (w t),
      Scalar.select (Scalar.andi (Scalar.ori (Scalar.cmpi .ne (hereW L t) (nextW L t)) (Scalar.cmpi .eq (ivw t) 127#32)) 1#1) (Scalar.addi (w t) 1#32) (w t),
      Scalar.select (Scalar.andi (Scalar.andi (Scalar.cmpi .ne (hereW L t) (prevW L t)) (Scalar.xori (Scalar.cmpi .eq (ivw t) 0#32) 1#1)) 1#1)
        (Scalar.addi (w (t.val - 1)) 1#32) (w (t.val - 1)),
      Scalar.select (Scalar.cmpi .eq (Scalar.select 1#1 (Scalar.addi (w t) 1#32) (w t)) 128#32) 0#32 (Scalar.select 1#1 (Scalar.addi (w t) 1#32) (w t)))
      : BitVec 32 × BitVec 32 × BitVec 32 × BitVec 32 × BitVec 32) = carried (t.val + 1) := by
  revert L; refine forall_coords ?_; decide +kernel

end Cert.Proof.Gather

end
-- ==== Proof.Tile.lean ====
/-
  One task: what it holds between trips of its loop, a trip, and the task from its first fetch to its last write-out.
-/
module

public import proofs.«01_k».proof.Proof.Steps
public import proofs.«01_k».proof.Proof.Words

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords) (q : PosShare TreeShare)
variable (tab : Buf (Elt F) (xLoc d)) (ix : Buf (Elt F) (iLoc d)) (o₀ : Buf (Elt F) (oLoc d))

/-! ## Between trips -/

/-- The blocks of the index row numbered in `s`. -/
abbrev IBlks (s : Finset ℕ) : sProp 𝕄 := bigSep s fun j => IBlk d L ix (bk L j)
/-- The blocks of the result numbered in `s`: those below `k` written, the others as they were. -/
abbrev OBlks (k : ℕ) (s : Finset ℕ) : sProp 𝕄 := bigSep s fun j => OBlk d L (bk L j) (if j < k then gathered tab ix else o₀)

/-- The fetches before trip `t`: block `t`'s is under way, the other slot is free (at the end both are). -/
def inSide (t : ℕ) : sProp 𝕄 :=
  if t < 128 then iprop(FlI d L ix (par t) (bk L t) ∗ ISlotAny d L (par (t + 1)) ∗ SI0 d L (par (t + 1)) ∗ IBlks d L ix ((Finset.range 128).erase t))
  else iprop(ISlotAny d L (par t) ∗ SI0 d L (par t) ∗ ISlotAny d L (par (t + 1)) ∗ SI0 d L (par (t + 1)) ∗ IBlks d L ix (Finset.range 128))

/-- The fetches during trip `t`, but for block `t`'s: the next block's is under way, if there is one. -/
def inRest (t : ℕ) : sProp 𝕄 :=
  if t < 127 then iprop(FlI d L ix (par (t + 1)) (bk L (t + 1)) ∗ IBlks d L ix (((Finset.range 128).erase t).erase (t + 1)))
  else iprop(ISlotAny d L (par (t + 1)) ∗ SI0 d L (par (t + 1)) ∗ IBlks d L ix ((Finset.range 128).erase t))

/-- The write-outs before trip `t`, but for the slot trip `t` fills: that of block `t - 1` is under way. -/
def outSide (t : ℕ) : sProp 𝕄 :=
  if t = 0 then iprop(OSlotAny d L (par (t + 1)) ∗ SO0 d L (par (t + 1)) ∗ OBlks d L tab ix o₀ t (Finset.range 128))
  else iprop(FlO d L tab ix (par (t + 1)) (bk L (t - 1)) ∗ OBlks d L tab ix o₀ t ((Finset.range 128).erase (t - 1)))

/-- The same without block `t`, once its write-out has begun. -/
def outRest (t : ℕ) : sProp 𝕄 :=
  if t = 0 then iprop(OSlotAny d L (par (t + 1)) ∗ SO0 d L (par (t + 1)) ∗ OBlks d L tab ix o₀ t ((Finset.range 128).erase t))
  else iprop(FlO d L tab ix (par (t + 1)) (bk L (t - 1)) ∗ OBlks d L tab ix o₀ t (((Finset.range 128).erase (t - 1)).erase t))

theorem inSide_lt {t : ℕ} (h : t < 127) :
    inSide d L ix t ⊢ iprop(FlI d L ix (par t) (bk L t) ∗ (IBlk d L ix (bk L (t + 1)) ∗ ISlotAny d L (par (t + 1)) ∗ SI0 d L (par (t + 1)))
      ∗ IBlks d L ix (((Finset.range 128).erase t).erase (t + 1))) := by
  unfold inSide
  rw [if_pos (show t < 128 by omega)]
  iintro ⟨Hf, Hs, Hv, Hb⟩
  ihave Hb' := (Entails.of_eq (SparseCore.bigSep_erase' (i := t + 1) (Finset.mem_erase.mpr ⟨by omega, Finset.mem_range.mpr (by omega)⟩))) $$ Hb
  icases Hb' with ⟨Hn, Hb⟩
  isplitl [Hf]; · iexact Hf
  isplitl [Hn Hs Hv]
  · isplitl [Hn]; · iexact Hn
    isplitl [Hs] <;> iassumption
  iexact Hb

theorem inSide_last : inSide d L ix 127 ⊢ iprop(FlI d L ix (par 127) (bk L 127) ∗ inRest d L ix 127) := by
  unfold inSide inRest
  rw [if_pos (by decide), if_neg (by decide)]

theorem inRest_close {t : ℕ} (h : t < 128) :
    iprop(ISlotAny d L (par t) ∗ SI0 d L (par t) ∗ IBlk d L ix (bk L t) ∗ inRest d L ix t) ⊢ inSide d L ix (t + 1) := by
  unfold inSide inRest
  by_cases h1 : t < 127
  · rw [if_pos h1, if_pos (show t + 1 < 128 by omega), show t + 1 + 1 = t + 2 from rfl, par_add_two]
    iintro ⟨Hs, Hv, Hb, Hf, Hbs⟩
    isplitl [Hf]; · iexact Hf
    isplitl [Hs]; · iexact Hs
    isplitl [Hv]; · iexact Hv
    iapply (Entails.of_eq (SparseCore.bigSep_erase' (i := t) (Finset.mem_erase.mpr ⟨by omega, Finset.mem_range.mpr (by omega)⟩)).symm)
    isplitl [Hb]; · iexact Hb
    rw [Finset.erase_right_comm]; iexact Hbs
  · obtain rfl : t = 127 := by omega
    rw [if_neg h1, if_neg (by decide), show 127 + 1 + 1 = 127 + 2 from rfl, par_add_two]
    iintro ⟨Hs, Hv, Hb, Hs', Hv', Hbs⟩
    isplitl [Hs']; · iexact Hs'
    isplitl [Hv']; · iexact Hv'
    isplitl [Hs]; · iexact Hs
    isplitl [Hv]; · iexact Hv
    iapply (Entails.of_eq (SparseCore.bigSep_erase' (i := 127) (Finset.mem_range.mpr (by omega))).symm)
    isplitl [Hb]; · iexact Hb
    iexact Hbs

theorem outSide_open {t : ℕ} (h : t < 128) :
    outSide d L tab ix o₀ t ⊢ iprop(OBlk d L (bk L t) o₀ ∗ outRest d L tab ix o₀ t) := by
  unfold outSide outRest
  by_cases h0 : t = 0
  · subst h0
    rw [if_pos rfl, if_pos rfl]
    iintro ⟨Hs, Hv, Hb⟩
    ihave Hb' := (Entails.of_eq (SparseCore.bigSep_erase' (i := 0) (Finset.mem_range.mpr (by omega)))) $$ Hb
    icases Hb' with ⟨Hn, Hb⟩
    isplitl [Hn]; · iexact Hn
    isplitl [Hs]; · iexact Hs
    isplitl [Hv]; · iexact Hv
    iexact Hb
  · rw [if_neg h0, if_neg h0]
    iintro ⟨Hf, Hb⟩
    ihave Hb' := (Entails.of_eq (SparseCore.bigSep_erase' (i := t) (Finset.mem_erase.mpr ⟨by omega, Finset.mem_range.mpr (by omega)⟩))) $$ Hb
    rw [if_neg (lt_irrefl t)]
    icases Hb' with ⟨Hn, Hb⟩
    isplitl [Hn]; · iexact Hn
    isplitl [Hf]; · iexact Hf
    iexact Hb

/-- Blocks other than `t` are as they were when `t` is done. -/
theorem oblks_succ {s : Finset ℕ} {t : ℕ} (h : t ∉ s) : OBlks d L tab ix o₀ t s = OBlks d L tab ix o₀ (t + 1) s :=
  BI.bigSep_congr fun j hj => by
    have : j ≠ t := fun e => h (e ▸ hj)
    simp only [show (j < t) = (j < t + 1) from propext ⟨fun _ => by omega, fun _ => by omega⟩]

theorem outRest_zero : outRest d L tab ix o₀ 0 ⊢ iprop(OSlotAny d L (par 1) ∗ SO0 d L (par 1) ∗ OBlks d L tab ix o₀ 1 ((Finset.range 128).erase 0)) := by
  unfold outRest
  rw [if_pos rfl, oblks_succ d L tab ix o₀ (Finset.notMem_erase _ _)]

theorem outRest_pos {t : ℕ} (h0 : 0 < t) :
    outRest d L tab ix o₀ t ⊢ iprop(FlO d L tab ix (par (t + 1)) (bk L (t - 1)) ∗ OBlks d L tab ix o₀ (t + 1) (((Finset.range 128).erase t).erase (t - 1))) := by
  unfold outRest
  rw [if_neg (by omega), oblks_succ d L tab ix o₀ (Finset.notMem_erase _ _), Finset.erase_right_comm]

theorem oblks_join {t : ℕ} (h0 : 0 < t) (h : t ≤ 128) {s : Finset ℕ} (hs : t - 1 ∈ s) {k : ℕ} (hk : t ≤ k) :
    iprop(OBlk d L (bk L (t - 1)) (gathered tab ix) ∗ OBlks d L tab ix o₀ k (s.erase (t - 1))) ⊢ OBlks d L tab ix o₀ k s := by
  rw [show OBlks d L tab ix o₀ k s = iprop(OBlk d L (bk L (t - 1)) (if t - 1 < k then gathered tab ix else o₀) ∗ OBlks d L tab ix o₀ k (s.erase (t - 1)))
    from SparseCore.bigSep_erase' hs, if_pos (show t - 1 < k by omega)]

theorem outSide_succ {t : ℕ} :
    iprop(FlO d L tab ix (par t) (bk L t) ∗ OBlks d L tab ix o₀ (t + 1) ((Finset.range 128).erase t)) ⊢ outSide d L tab ix o₀ (t + 1) := by
  unfold outSide
  rw [if_neg (Nat.succ_ne_zero t), show t + 1 + 1 = t + 2 from rfl, par_add_two, Nat.add_sub_cancel]

/-! ## A trip -/

/-- The semaphores of the two gathers. -/
abbrev SG0 : sProp 𝕄 := semVal (thr d L, .dma cc0_scoped4.sem) 0
abbrev SG1 : sProp 𝕄 := semVal (thr d L, .dma cc0_scoped5.sem) 0

abbrev part1 (t : Fin k0_t1_loop.trips) := k0_part1 (F := F) L xV (Memref.isWhole_whole _) iV (Memref.isWhole_whole _) oV (Memref.isWhole_whole _)
  sI (Memref.isWhole_whole _) cc0_scoped1 sO (Memref.isWhole_whole _) cc0_scoped3 cc0_scoped4 cc0_scoped5 (v4w L) 0#32 1#32 t
  (w (min (t.val + 1) 128)) (w t) (w t) (w (t.val - 1)) (w t)

/-- The first part of a trip starts the next block's fetch, if there is a next block. -/
theorem part1_spec (t : Fin k0_t1_loop.trips) {Q : _ → sProp 𝕄} :
    inSide d L ix t
      ⊢ iprop((∀ (h3 : k0_chk3 (w t)) (h2 : k0_chk2 (w t)) (h1 : k0_chk1 L t (w (min (t.val + 1) 128)) (w t) (w t) (w (t.val - 1)) (w t)),
          iprop(FlI d L ix (par t) (bk L t) ∗ inRest d L ix t) -∗
          Q ⟨h3, h2, h1, ivw t, Scalar.cmpi .eq (ivw t) 0#32, Scalar.cmpi .eq (ivw t) 127#32, hereW L t, prevW L t, nextW L t,
            Scalar.select (Scalar.andi (Scalar.andi (Scalar.cmpi .ne (hereW L t) (nextW L t)) (Scalar.xori (Scalar.cmpi .sge (ivw t) 127#32) 1#1)) 1#1)
              (Scalar.addi (w (min (t.val + 1) 128)) 1#32) (w (min (t.val + 1) 128)), Scalar.cmpi .ne (hereW L t) (prevW L t)⟩)
        -∗ wpL d L (part1 L t) Q) := by
  have ht : t.val < 128 := lt_of_lt_of_eq t.isLt trips_eq
  have h1 := chk1_ok L t
  have h2 := chk2_ok ⟨t.val, ht⟩
  have h3 := chk3_ok ⟨t.val, ht⟩
  unfold part1 wpL
  rw [k0_part1_eq_skeleton]; unfold k0_part1_skel
  simp only [wp_bind, wp_pure]
  iintro Hin Hk
  rw [Prog.lift, wp_assume_of 𝒱₀ (thr d L) none Set.univ h3, wp_ret]; imodintro
  rw [Prog.lift, wp_assume_of 𝒱₀ (thr d L) none Set.univ h2, wp_ret]; imodintro
  rw [Prog.lift, wp_assume_of 𝒱₀ (thr d L) none Set.univ h1, wp_ret]; imodintro
  by_cases hl : t.val < 127
  · rw [dif_pos ((cond1_iff L t).mpr hl)]
    simp only [wp_bind, wp_pure]
    ihave Hin' := (inSide_lt d L ix hl) $$ Hin
    icases Hin' with ⟨Hf, Hg, Hb⟩
    iapply (fetch_step d L ix (par (t.val + 1)) (bk L (t.val + 1))
      (by have e := off4_eq ⟨t.val + 1, by omega⟩; rw [show min (t.val + 1) 128 = t.val + 1 by omega]; exact e)
      (by have e := off5_eq L ⟨t.val, hl⟩; rw [bk_val L (by omega : t.val + 1 < 128)]; exact e)
      (by have e := off6_eq ⟨t.val + 1, by omega⟩; rw [show min (t.val + 1) 128 = t.val + 1 by omega]; exact e)) $$ Hg
    iintro Hn
    imodintro
    iapply Hk
    isplitl [Hf]; · iexact Hf
    unfold inRest; rw [if_pos hl]
    isplitl [Hn]; · iexact Hn
    iexact Hb
  · rw [dif_neg (fun h => hl ((cond1_iff L t).mp h))]
    simp only [wp_pure]
    imodintro
    iapply Hk
    have e : t.val = 127 := by omega
    rw [e]
    iapply (inSide_last d L ix)
    iexact Hin

section Middle

variable {O : CellTallies nD τ sig (HIx 1)} {W : Waits sig (HIx 1)}

/-- The second part awaits the trip's block and gathers the first half of its rows' columns. -/
theorem part2_spec (hO : ∀ g, O g none = 0) (hix : ∀ x, (ix x : BitVec 32).toNat < 655360) (t : Fin k0_t1_loop.trips)
    (h3 : k0_chk3 (w t)) (h2 : k0_chk2 (w t)) (h1 : k0_chk1 L t (w (min (t.val + 1) 128)) (w t) (w t) (w (t.val - 1)) (w t))
    (x5 : BitVec 32) (x64 : BitVec 1) (x66 x71 : BitVec 32) (x96 : BitVec 1) {Q : PUnit → sProp 𝕄} :
    iprop(levAts (K (F := F)).L (K (F := F)).lev ∗ FlI d L ix (par t) (bk L t) ∗ XSh d L q tab ∗ OSlotAny d L (par t) ∗ SG0 d L ∗ Owe d L O W)
      ⊢ iprop((iprop(ISlotAt d L ix (par t) (bk L t) ∗ IBlk d L ix (bk L t) ∗ SI0 d L (par t) ∗ XSh d L q tab
            ∗ OSlotTo d L tab ix (par t) (bk L t) 128 ∗ SG0 d L ∗ Owe d L O W) -∗ Q ⟨⟩)
        -∗ wpL d L (k0_part2 (F := F) L xV (Memref.isWhole_whole _) iV (Memref.isWhole_whole _) oV (Memref.isWhole_whole _)
  sI (Memref.isWhole_whole _) cc0_scoped1 sO (Memref.isWhole_whole _) cc0_scoped3 cc0_scoped4 cc0_scoped5 t
          (w (min (t.val + 1) 128)) (w t) (w t) (w (t.val - 1)) (w t) h3 h2 h1 x5 x64 x66 x71 x96) Q) := by
  have ht : t.val < 128 := lt_of_lt_of_eq t.isLt trips_eq
  unfold wpL
  rw [k0_part2_eq_skeleton]; unfold k0_part2_skel
  rw [dif_pos (cond2_eq L t)]
  simp only [wp_bind, wp_pure, ite_self]
  iintro ⟨#Hlv, Hf, Hx, Ho, Hv, HO⟩ Hk
  iapply (fetched_step d L ix hO (par t.val) (bk L t.val)
    (off7_eq ⟨t.val, by omega⟩)
    (by have e := off8_eq L ⟨t.val, ht⟩; rw [bk_val L ht]; exact e)
    (off9_eq ⟨t.val, by omega⟩)) $$ [Hf HO]
  · isplitr; · iexact Hlv
    isplitl [Hf] <;> iassumption
  iintro ⟨Hs, Hb, Hsv, HO⟩
  iapply (gather_step d L q tab ix hO hix (par t.val) 0 (bk L t.val) (off10_eq ⟨t.val, by omega⟩) (off11_eq ⟨t.val, by omega⟩) rfl rfl) $$ [Hx Hs Ho Hv HO]
  · isplitr; · iexact Hlv
    isplitl [Hx]; · iexact Hx
    isplitl [Hs]; · iexact Hs
    isplitl [Ho]
    · icases Ho with ⟨%f, Ho⟩
      iexists f; isplitr; · ipureintro; exact fun x hx => absurd hx (Nat.not_lt_zero _)
      iexact Ho
    isplitl [Hv] <;> iassumption
  iintro ⟨Hx, Hs, Ho, Hv, HO⟩
  imodintro
  iapply Hk
  isplitl [Hs]; · iexact Hs
  isplitl [Hb]; · iexact Hb
  isplitl [Hsv]; · iexact Hsv
  isplitl [Hx]; · iexact Hx
  isplitl [Ho]; · iexact Ho
  isplitl [Hv] <;> iassumption

/-- The third part gathers the other half and starts the block's write-out. -/
theorem part3_spec (hO : ∀ g, O g none = 0) (hix : ∀ x, (ix x : BitVec 32).toNat < 655360) (t : Fin k0_t1_loop.trips)
    (h3 : k0_chk3 (w t)) (h2 : k0_chk2 (w t)) (h1 : k0_chk1 L t (w (min (t.val + 1) 128)) (w t) (w t) (w (t.val - 1)) (w t))
    (x64 x65 : BitVec 1) (x66 x71 x76 : BitVec 32) {Q : _ → sProp 𝕄} :
    iprop(levAts (K (F := F)).L (K (F := F)).lev ∗ ISlotAt d L ix (par t) (bk L t) ∗ XSh d L q tab ∗ OSlotTo d L tab ix (par t) (bk L t) 128
        ∗ SG1 d L ∗ OBlk d L (bk L t) o₀ ∗ SO0 d L (par t) ∗ Owe d L O W)
      ⊢ iprop((iprop(ISlotAny d L (par t) ∗ XSh d L q tab ∗ SG1 d L ∗ FlO d L tab ix (par t) (bk L t) ∗ Owe d L O W) -∗
          Q ⟨Scalar.select (Scalar.andi (Scalar.ori (Scalar.cmpi .ne x66 x76) x65) 1#1) (Scalar.addi (w t) 1#32) (w t),
            Scalar.andi (Scalar.cmpi .ne x66 x71) (Scalar.xori x64 1#1),
            Scalar.extui (Scalar.andi (Scalar.cmpi .ne x66 x71) (Scalar.xori x64 1#1)), 0#32⟩)
        -∗ wpL d L (k0_part3 (F := F) L xV (Memref.isWhole_whole _) iV (Memref.isWhole_whole _) oV (Memref.isWhole_whole _)
  sI (Memref.isWhole_whole _) cc0_scoped1 sO (Memref.isWhole_whole _) cc0_scoped3 cc0_scoped4 cc0_scoped5 t
          (w (min (t.val + 1) 128)) (w t) (w t) (w (t.val - 1)) (w t) h3 h2 h1 x64 x65 x66 x71 x76) Q) := by
  have ht : t.val < 128 := lt_of_lt_of_eq t.isLt trips_eq
  unfold wpL
  rw [k0_part3_eq_skeleton]; unfold k0_part3_skel
  rw [dif_pos (cond5_eq L t)]
  simp only [wp_bind, wp_pure, ite_self]
  iintro ⟨#Hlv, Hs, Hx, Ho, Hv, Hob, Hov, HO⟩ Hk
  iapply (gather_step d L q tab ix hO hix (par t.val) 1 (bk L t.val) (off10_eq ⟨t.val, by omega⟩) (off11_eq ⟨t.val, by omega⟩) rfl rfl) $$ [Hx Hs Ho Hv HO]
  · isplitr; · iexact Hlv
    isplitl [Hx]; · iexact Hx
    isplitl [Hs]; · iexact Hs
    isplitl [Ho]; · iexact Ho
    isplitl [Hv] <;> iassumption
  iintro ⟨Hx, Hs, Ho, Hv, HO⟩
  iapply (out_step d L tab ix (par t.val) (bk L t.val) o₀ (off12_eq ⟨t.val, by omega⟩)
    (by have e := off13_eq L ⟨t.val, ht⟩; rw [bk_val L ht]; exact e)
    (off14_eq ⟨t.val, by omega⟩)) $$ [Ho Hob Hov]
  · isplitl [Ho]; · iexact Ho
    isplitl [Hob] <;> iassumption
  iintro Hf
  imodintro
  iapply Hk
  isplitl [Hs]
  · icases Hs with ⟨%f, -, Hs⟩; iexists f; iexact Hs
  isplitl [Hx]; · iexact Hx
  isplitl [Hv]; · iexact Hv
  isplitl [Hf] <;> iassumption

/-! ## The loop -/

/-- What the task holds before trip `t`. -/
def inv (O : CellTallies nD τ sig (HIx 1)) (W : Waits sig (HIx 1)) (t : ℕ) (acc : BitVec 32 × BitVec 32 × BitVec 32 × BitVec 32 × BitVec 32) : sProp 𝕄 :=
  iprop(⌜acc = carried t⌝ ∗ levAts (K (F := F)).L (K (F := F)).lev ∗ inSide d L ix t ∗ outSide d L tab ix o₀ t ∗ OSlotAny d L (par t) ∗ SO0 d L (par t)
    ∗ XSh d L q tab ∗ SG0 d L ∗ SG1 d L ∗ Owe d L O W)

/-- A trip. -/
theorem trip_spec (hO : ∀ g, O g none = 0) (hix : ∀ x, (ix x : BitVec 32).toNat < 655360) (t : Fin k0_t1_loop.trips)
    (acc : BitVec 32 × BitVec 32 × BitVec 32 × BitVec 32 × BitVec 32) :
    inv d L q tab ix o₀ O W t.val acc ⊢ wpL d L (k0_t1_body (F := F) L xV (Memref.isWhole_whole _) iV (Memref.isWhole_whole _) oV (Memref.isWhole_whole _)
  sI (Memref.isWhole_whole _) cc0_scoped1 sO (Memref.isWhole_whole _) cc0_scoped3 cc0_scoped4 cc0_scoped5 (v4w L) t acc) (inv d L q tab ix o₀ O W (t.val + 1)) := by
  have ht : t.val < 128 := lt_of_lt_of_eq t.isLt trips_eq
  unfold inv
  iintro ⟨%hacc, #Hlv, Hin, Hout, Hos, Hov, Hx, Hg0, Hg1, HO⟩
  have hacc' : acc = (w (min (t.val + 1) 128), w t, w t, w (t.val - 1), w t) := by rw [hacc]; show (_, _, _, _, w (t.val % 128)) = _; rw [Nat.mod_eq_of_lt ht]
  subst hacc'
  unfold k0_t1_body wpL
  simp only [wp_bind, wp_pure, ite_self]
  iapply (part1_spec d L ix t) $$ Hin
  iintro %h3 %h2 %h1 ⟨Hf, Hir⟩
  iapply (part2_spec d L q tab ix hO hix t h3 h2 h1 _ _ _ _ _) $$ [Hf Hx Hos Hg0 HO]
  · isplitr; · iexact Hlv
    isplitl [Hf]; · iexact Hf
    isplitl [Hx]; · iexact Hx
    isplitl [Hos]; · iexact Hos
    isplitl [Hg0] <;> iassumption
  iintro ⟨Hs, Hib, Hsv, Hx, Hos, Hg0, HO⟩
  ihave Hout' := (outSide_open d L tab ix o₀ ht) $$ Hout
  icases Hout' with ⟨Hob, Hor⟩
  iapply (part3_spec d L q tab ix o₀ hO hix t h3 h2 h1 _ _ _ _ _) $$ [Hs Hx Hos Hg1 Hob Hov HO]
  · isplitr; · iexact Hlv
    isplitl [Hs]; · iexact Hs
    isplitl [Hx]; · iexact Hx
    isplitl [Hos]; · iexact Hos
    isplitl [Hg1]; · iexact Hg1
    isplitl [Hob]; · iexact Hob
    isplitl [Hov] <;> iassumption
  iintro ⟨Hs, Hx, Hg1, Hfo, HO⟩
  ihave Hin := (inRest_close d L ix ht) $$ [Hs Hsv Hib Hir]
  · isplitl [Hs]; · iexact Hs
    isplitl [Hsv]; · iexact Hsv
    isplitl [Hib] <;> iassumption
  by_cases h0 : 0 < t.val
  · rw [dif_pos ((cond7_iff L t).mpr h0)]
    simp only [wp_bind, wp_pure]
    ihave Hor' := (outRest_pos d L tab ix o₀ h0) $$ Hor
    icases Hor' with ⟨Hpf, Hbs⟩
    iapply (outDone_step d L tab ix hO (par (t.val + 1)) (bk L (t.val - 1))
      (by have e := off15_eq ⟨t.val - 1, by omega⟩; rw [show (par (t.val + 1)).val = (t.val - 1) % 2 by show (t.val + 1) % 2 = _; omega]; exact e)
      (by have e := off16_eq L ⟨t.val - 1, by omega⟩; rw [bk_val L (by omega : t.val - 1 < 128)]
          have e1 : t.val - 1 + 1 = t.val := by omega
          simp only [e1] at e; exact e)
      (by have e := off17_eq ⟨t.val - 1, by omega⟩; rw [show (par (t.val + 1)).val = (t.val - 1) % 2 by show (t.val + 1) % 2 = _; omega]; exact e)) $$ [Hpf HO]
    · isplitr; · iexact Hlv
      isplitl [Hpf] <;> iassumption
    iintro ⟨Hob, Hos, Hov, HO⟩
    imodintro
    isplitr
    · ipureintro; exact passed_on L t
    isplitr; · iexact Hlv
    isplitl [Hin]; · iexact Hin
    isplitl [Hfo Hbs Hob]
    · iapply (outSide_succ d L tab ix o₀)
      isplitl [Hfo]; · iexact Hfo
      iapply (oblks_join d L tab ix o₀ h0 (by omega) (Finset.mem_erase.mpr ⟨by omega, Finset.mem_range.mpr (by omega)⟩) (by omega))
      isplitl [Hob] <;> iassumption
    isplitl [Hos]; · iexact Hos
    isplitl [Hov]; · iexact Hov
    isplitl [Hx]; · iexact Hx
    isplitl [Hg0]; · iexact Hg0
    isplitl [Hg1] <;> iassumption
  · rw [dif_neg (fun h => h0 ((cond7_iff L t).mp h))]
    simp only [wp_pure]
    have e0 : t.val = 0 := by omega
    ihave Hor' := (show outRest d L tab ix o₀ t.val ⊢ iprop(OSlotAny d L (par (t.val + 1)) ∗ SO0 d L (par (t.val + 1)) ∗ OBlks d L tab ix o₀ (t.val + 1) ((Finset.range 128).erase t.val)) by
      rw [e0]; exact outRest_zero d L tab ix o₀) $$ Hor
    icases Hor' with ⟨Hos, Hov, Hbs⟩
    imodintro
    isplitr
    · ipureintro; exact passed_on L t
    isplitr; · iexact Hlv
    isplitl [Hin]; · iexact Hin
    isplitl [Hfo Hbs]
    · iapply (outSide_succ d L tab ix o₀)
      isplitl [Hfo] <;> iassumption
    isplitl [Hos]; · iexact Hos
    isplitl [Hov]; · iexact Hov
    isplitl [Hx]; · iexact Hx
    isplitl [Hg0]; · iexact Hg0
    isplitl [Hg1] <;> iassumption

/-! ## The task -/

/-- What the task starts with, beside its share of the table: its blocks, both scratch buffers' slots, its semaphores at zero. -/
def start : sProp 𝕄 :=
  iprop(IBlks d L ix (Finset.range 128) ∗ (bigSep (Finset.range 128) fun j => OBlk d L (bk L j) o₀)
    ∗ (ISlotAny d L 0 ∗ ISlotAny d L 1) ∗ (OSlotAny d L 0 ∗ OSlotAny d L 1)
    ∗ (SI0 d L 0 ∗ SI0 d L 1) ∗ (SO0 d L 0 ∗ SO0 d L 1) ∗ SG0 d L ∗ SG1 d L)

/-- The task: it ends with what it started with, every block of the result at the gathered rows. -/
theorem task_spec (hO : ∀ g, O g none = 0) (hix : ∀ x, (ix x : BitVec 32).toNat < 655360) :
    iprop(levAts (K (F := F)).L (K (F := F)).lev ∗ XSh d L q tab ∗ start d L ix o₀ ∗ Owe d L O W)
      ⊢ wpL d L (cc0_gather_kernel (F := F) L xV (Memref.isWhole_whole _) iV (Memref.isWhole_whole _) oV (Memref.isWhole_whole _)
      sI (Memref.isWhole_whole _) cc0_scoped1 sO (Memref.isWhole_whole _) cc0_scoped3 cc0_scoped4 cc0_scoped5)
        fun _ => iprop(XSh d L q tab ∗ start d L ix (gathered tab ix) ∗ Owe d L O W) := by
  unfold start wpL
  rw [cc0_gather_kernel_eq_skeleton]; unfold cc0_gather_kernel_skel
  rw [k0_part4_eq_skeleton, k0_part5_eq_skeleton]; unfold k0_part4_skel k0_part5_skel
  simp only [wp_bind, wp_pure]
  iintro ⟨#Hlv, Hx, ⟨Hib, Hob, ⟨Hi0, Hi1⟩, ⟨Ho0, Ho1⟩, ⟨Hs0, Hs1⟩, ⟨Ht0, Ht1⟩, Hg0, Hg1⟩, HO⟩
  ihave Hib' := (Entails.of_eq (SparseCore.bigSep_erase' (i := 0) (Finset.mem_range.mpr (by omega)))) $$ Hib
  icases Hib' with ⟨Hb0, Hib⟩
  iapply (fetch_step d L ix 0 (bk L 0) off1_eq (by have e := off2_eq L; rw [bk_val L (by omega : 0 < 128)]; exact e) off3_eq) $$ [Hb0 Hi0 Hs0]
  · isplitl [Hb0]; · iexact Hb0
    isplitl [Hi0] <;> iassumption
  iintro Hf
  imodintro
  iapply (Scf.wp_for frame (wpE (defs₀ (F := F)) 𝒱₀ (thr d L) none) Set.univ _ _ _ k0_t1_ok _ _ (inv d L q tab ix o₀ O W)
    (fun t acc => trip_spec d L q tab ix o₀ hO hix t acc)) $$ [-]
  isplitl [Hf Hx Hib Hob Hi1 Ho0 Ho1 Hs1 Ht0 Ht1 Hg0 Hg1 HO]
  · unfold inv inSide outSide
    rw [if_pos (by decide), if_pos rfl]
    isplitr; · ipureintro; rfl
    isplitr; · iexact Hlv
    isplitl [Hf Hi1 Hs1 Hib]
    · isplitl [Hf]; · iexact Hf
      isplitl [Hi1]; · iexact Hi1
      isplitl [Hs1]; · iexact Hs1
      iexact Hib
    isplitl [Ho1 Ht1 Hob]
    · isplitl [Ho1]; · iexact Ho1
      isplitl [Ht1]; · iexact Ht1
      iexact Hob
    isplitl [Ho0]; · iexact Ho0
    isplitl [Ht0]; · iexact Ht0
    isplitl [Hx]; · iexact Hx
    isplitl [Hg0]; · iexact Hg0
    isplitl [Hg1] <;> iassumption
  iintro %acc Hinv
  rw [show Scf.trips k0_t1_loop.lb k0_t1_loop.ub k0_t1_loop.st = 128 from trips_eq]
  unfold inv inSide outSide
  rw [if_neg (lt_irrefl 128), if_neg (show ¬ (128 = 0) by decide)]
  icases Hinv with ⟨%hacc, -, ⟨Hi0, Hs0, Hi1, Hs1, Hib⟩, ⟨Hpf, Hbs⟩, Ho0, Ht0, Hx, Hg0, Hg1, HO⟩
  subst hacc
  rw [Prog.lift, wp_assume_of 𝒱₀ (thr d L) none Set.univ (chk5_ok L), wp_ret]
  imodintro
  rw [Prog.lift, wp_assume_of 𝒱₀ (thr d L) none Set.univ chk4_ok, wp_ret]
  imodintro
  imodintro
  iapply (outDone_step d L tab ix hO 1 (bk L 127) off21_eq
    (by have e := off19_eq L; rw [bk_val L (by omega : 127 < 128)]; exact e) off20_eq) $$ [Hpf HO]
  · isplitr; · iexact Hlv
    isplitl [Hpf]; · iexact Hpf
    iexact HO
  iintro ⟨Hob, Ho1, Ht1, HO⟩
  imodintro
  isplitl [Hx]; · iexact Hx
  isplitr [HO]
  · isplitl [Hib]; · iexact Hib
    isplitl [Hob Hbs]
    · iapply (show OBlks d L tab ix o₀ 128 (Finset.range 128) ⊢ (bigSep (Finset.range 128) fun j => OBlk d L (bk L j) (gathered tab ix)) from
        Entails.of_eq (BI.bigSep_congr fun j hj => by rw [if_pos (Finset.mem_range.mp hj)]))
      iapply (oblks_join d L tab ix o₀ (t := 128) (by decide) le_rfl (Finset.mem_range.mpr (by decide)) le_rfl)
      isplitl [Hob] <;> iassumption
    isplitl [Hi0 Hi1]
    · isplitl [Hi0]; · iexact Hi0
      iexact Hi1
    isplitl [Ho0 Ho1]
    · isplitl [Ho0]; · iexact Ho0
      iexact Ho1
    isplitl [Hs0 Hs1]
    · isplitl [Hs0]; · iexact Hs0
      iexact Hs1
    isplitl [Ht0 Ht1]
    · isplitl [Ht0]; · iexact Ht0
      iexact Ht1
    isplitl [Hg0] <;> iassumption
  iexact HO

end Middle

end Cert.Proof.Gather
-- ==== Proof.Pieces.lean ====
/-
  The call's memory dealt to its tasks: the share of the table in thirty-two pieces, the index row and the result in the
  tasks' blocks, a scratch buffer in its two slots.
-/
module

public import proofs.«01_k».proof.Proof.Tile

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Shares -/

/-- Piece `i` of the `2 ^ n` that `n` halvings make of a share. -/
def piece : ℕ → PosShare TreeShare → ℕ → PosShare TreeShare
  | 0, q, _ => q
  | n + 1, q, i => if i < 2 ^ n then piece n q.left i else piece n q.right (i - 2 ^ n)

theorem pointsTo_pieces {ℓ : Loc nD τ sig} (I : Finset (Idx ℓ)) (f : Buf (Elt F) ℓ) (n : ℕ) (q : PosShare TreeShare) :
    (ℓ ↦[I]{q} f : sProp 𝕄) = bigSep (Finset.range (2 ^ n)) fun i => ℓ ↦[I]{piece n q i} f := by
  induction n generalizing q with
  | zero => rw [pow_zero, Finset.range_one, bigSep_singleton]; rfl
  | succ n ih =>
    have hd : Disjoint (Finset.range (2 ^ n)) ((Finset.range (2 ^ n)).map (addLeftEmbedding (2 ^ n))) := by
      rw [Finset.disjoint_left]; intro a ha hb
      obtain ⟨b, -, rfl⟩ := Finset.mem_map.mp hb
      have := Finset.mem_range.mp ha
      simp only [addLeftEmbedding_apply] at this; omega
    rw [BI.Entails.antisymm (pointsTo_share (PosShare.mem_left_op_right q)).1 (pointsTo_share (PosShare.mem_left_op_right q)).2,
      pow_succ, mul_two, Finset.range_add_eq_union, bigSep_union hd, bigSep_map, ih q.left, ih q.right]
    refine congrArg₂ _ (bigSep_congr fun i hi => ?_) (bigSep_congr fun i _ => ?_)
    · rw [piece, if_pos (Finset.mem_range.mp hi)]
    · rw [piece, addLeftEmbedding_apply, if_neg (by omega), Nat.add_sub_cancel_left]

/-- The share of the table of task `(c, s)`. -/
abbrev taskShare (c : Fin 2) (s : Fin 16) : PosShare TreeShare := piece 5 fullShare (16 * c.val + s.val)

theorem pairs_image : (Finset.univ ×ˢ Finset.univ : Finset (Fin 2 × Fin 16)).image (fun p => 16 * p.1.val + p.2.val) = Finset.range (2 ^ 5) := by decide

theorem pairs_injOn : Set.InjOn (fun p : Fin 2 × Fin 16 => 16 * p.1.val + p.2.val) (Finset.univ ×ˢ Finset.univ : Finset (Fin 2 × Fin 16)) := by
  rintro ⟨a, b⟩ - ⟨a', b'⟩ - e
  have := b.isLt; have := b'.isLt
  simp only at e
  exact Prod.ext (Fin.ext (by show a.val = a'.val; omega)) (Fin.ext (by show b.val = b'.val; omega))

/-- The whole table is its tasks' shares of it. -/
theorem table_shares (d : Dev nD) (tab : Buf (Elt F) (xLoc d)) :
    (xLoc d ↦{fullShare} tab : sProp 𝕄) = bigSep Finset.univ fun c : Fin 2 => bigSep Finset.univ fun s : Fin 16 => xLoc d ↦{taskShare c s} tab := by
  rw [pointsTo_pieces Finset.univ tab 5 fullShare, ← pairs_image, SparseCore.bigSep_image_of_injOn pairs_injOn, SparseCore.bigSep_product]

/-! ## Blocks -/

theorem mem_iBlk (n : Fin 4096) (x : S1x524288.Idx) : x ∈ (iBlk n).view.set ↔ 128 * n.val ≤ (x 1).val ∧ (x 1).val < 128 * n.val + 128 := by
  rw [show (iBlk n).view.set = (Rect.unit (s := S1x524288) ![0, 128 * n.val] S1x128.size (inbIB n)).set from
    (View.set_slice _ _).trans Finset.map_refl, Rect.mem_set_unit]
  have h0 : (x 0).val < 1 := (x 0).isLt
  constructor
  · intro h; exact h 1
  · intro h a
    match a with
    | 0 => exact ⟨Nat.zero_le _, by show (x 0).val < 0 + 1; omega⟩
    | 1 => exact h

theorem mem_oBlk (n : Fin 4096) (x : S524288x256.Idx) : x ∈ (oBlk n).view.set ↔ 128 * n.val ≤ (x 0).val ∧ (x 0).val < 128 * n.val + 128 := by
  rw [show (oBlk n).view.set = (Rect.unit (s := S524288x256) ![128 * n.val, 0] S128x256.size (inbOB n)).set from
    (View.set_slice _ _).trans Finset.map_refl, Rect.mem_set_unit]
  have h1 : (x 1).val < 256 := (x 1).isLt
  constructor
  · intro h; exact h 0
  · intro h a
    match a with
    | 0 => exact h
    | 1 => exact ⟨Nat.zero_le _, by show (x 1).val < 0 + 256; omega⟩

/-- The tasks' blocks: task `(c, s)`'s, numbered below 128. -/
def blockIx : Finset (Fin 2 × Fin 16 × ℕ) := Finset.univ ×ˢ (Finset.univ ×ˢ Finset.range 128)

theorem mem_blockIx (p : Fin 2 × Fin 16 × ℕ) : p ∈ blockIx ↔ p.2.2 < 128 :=
  ⟨fun h => Finset.mem_range.mp (Finset.mem_product.mp (Finset.mem_product.mp h).2).2,
    fun h => Finset.mem_product.mpr ⟨Finset.mem_univ _, Finset.mem_product.mpr ⟨Finset.mem_univ _, Finset.mem_range.mpr h⟩⟩⟩

abbrev blockOf (p : Fin 2 × Fin 16 × ℕ) : Fin 4096 := bk (coordsV p.1 p.2.1) p.2.2

theorem blockOf_val {p : Fin 2 × Fin 16 × ℕ} (hp : p ∈ blockIx) : (blockOf p).val = 2048 * p.1.val + 128 * p.2.1.val + p.2.2 := by
  exact bk_val _ ((mem_blockIx p).mp hp)

theorem blockOf_inj {p p' : Fin 2 × Fin 16 × ℕ} (hp : p ∈ blockIx) (hp' : p' ∈ blockIx) (h : p ≠ p') : (blockOf p).val ≠ (blockOf p').val := by
  intro e; apply h
  rw [blockOf_val hp, blockOf_val hp'] at e
  have h1 := (mem_blockIx p).mp hp
  have h2 := (mem_blockIx p').mp hp'
  obtain ⟨a, b, j⟩ := p; obtain ⟨a', b', j'⟩ := p'
  have := b.isLt; have := b'.isLt
  simp only at e h1 h2
  refine Prod.ext (Fin.ext ?_) (Prod.ext (Fin.ext ?_) ?_) <;> simp only <;> omega

theorem blockOf_surj (n : ℕ) (hn : n < 4096) : ∃ p ∈ blockIx, (blockOf p).val = n := by
  have hp : ((⟨n / 2048, by omega⟩, ⟨n / 128 % 16, by omega⟩, n % 128) : Fin 2 × Fin 16 × ℕ) ∈ blockIx :=
    (mem_blockIx _).mpr (by show n % 128 < 128; omega)
  exact ⟨_, hp, by rw [blockOf_val hp]; show 2048 * (n / 2048) + 128 * (n / 128 % 16) + n % 128 = n; omega⟩

theorem iBlk_cover (x : S1x524288.Idx) : ∃ p ∈ blockIx, x ∈ (iBlk (blockOf p)).view.set := by
  have hx : (x 1).val < 524288 := (x 1).isLt
  obtain ⟨p, hp, e⟩ := blockOf_surj ((x 1).val / 128) (by omega)
  refine ⟨p, hp, ?_⟩
  rw [mem_iBlk, e]
  omega

/-- The index row is its tasks' blocks. -/
theorem index_blocks (d : Dev nD) (ix : Buf (Elt F) (iLoc d)) :
    (iLoc d ↦{fullShare} ix : sProp 𝕄)
      = bigSep Finset.univ fun c : Fin 2 => bigSep Finset.univ fun s : Fin 16 => IBlks d (coordsV c s) ix (Finset.range 128) := by
  have hc : blockIx.biUnion (fun p => (iBlk (blockOf p)).view.set) = (Finset.univ : Finset S1x524288.Idx) := by
    refine Finset.eq_univ_iff_forall.mpr fun x => ?_
    rw [Finset.mem_biUnion]
    exact iBlk_cover x
  have h := pointsTo_biUnion (nD := nD) (τ := τ) (sig := sig) (Ix := HIx 1) (Val := Elt F) (Name := ℕ) (U := UU) (Lvl := ℕ) (ℓ := iLoc d) (q := fullShare) (f := ix) blockIx (fun p => (iBlk (blockOf p)).view.set) (fun p hp p' hp' hne => by
    rw [Finset.disjoint_left]; intro x hx hx'
    have := (mem_iBlk _ x).mp hx; have := (mem_iBlk _ x).mp hx'
    have := blockOf_inj hp hp' hne
    omega)
  rw [hc] at h
  refine h.trans ?_
  unfold blockIx
  rw [SparseCore.bigSep_product]
  refine bigSep_congr fun c _ => ?_
  rw [SparseCore.bigSep_product]

theorem oBlk_cover (x : S524288x256.Idx) : ∃ p ∈ blockIx, x ∈ (oBlk (blockOf p)).view.set := by
  have hx : (x 0).val < 524288 := (x 0).isLt
  obtain ⟨p, hp, e⟩ := blockOf_surj ((x 0).val / 128) (by omega)
  refine ⟨p, hp, ?_⟩
  rw [mem_oBlk, e]
  omega

/-- The result is its tasks' blocks. -/
theorem result_blocks (d : Dev nD) (f : Buf (Elt F) (oLoc d)) :
    (oLoc d ↦{fullShare} f : sProp 𝕄)
      = bigSep Finset.univ fun c : Fin 2 => bigSep Finset.univ fun s : Fin 16 =>
          bigSep (Finset.range 128) fun j => OBlk d (coordsV c s) (bk (coordsV c s) j) f := by
  have hc : blockIx.biUnion (fun p => (oBlk (blockOf p)).view.set) = (Finset.univ : Finset S524288x256.Idx) := by
    refine Finset.eq_univ_iff_forall.mpr fun x => ?_
    rw [Finset.mem_biUnion]
    exact oBlk_cover x
  have h := pointsTo_biUnion (nD := nD) (τ := τ) (sig := sig) (Ix := HIx 1) (Val := Elt F) (Name := ℕ) (U := UU) (Lvl := ℕ) (ℓ := oLoc d) (q := fullShare) (f := f) blockIx (fun p => (oBlk (blockOf p)).view.set) (fun p hp p' hp' hne => by
    rw [Finset.disjoint_left]; intro x hx hx'
    have := (mem_oBlk _ x).mp hx; have := (mem_oBlk _ x).mp hx'
    have := blockOf_inj hp hp' hne
    omega)
  rw [hc] at h
  refine h.trans ?_
  unfold blockIx
  rw [SparseCore.bigSep_product]
  refine bigSep_congr fun c _ => ?_
  rw [SparseCore.bigSep_product]

/-! ## Slots -/

theorem two_parts {ℓ : Loc nD τ sig} {A B : Finset (Idx ℓ)} (hB : B = Finset.univ \ A) :
    (iprop(∃ f, ℓ ↦{fullShare} f) : sProp 𝕄) ⊣⊢ iprop((∃ f, ℓ ↦[A]{fullShare} f) ∗ ∃ f, ℓ ↦[B]{fullShare} f) := by
  subst hB
  constructor
  · iintro ⟨%f, H⟩
    ihave H' := (pointsTo_split_subset (q := fullShare) (f := f) (Finset.subset_univ A)).1 $$ H
    icases H' with ⟨H1, H2⟩
    isplitl [H1]; · iexists f; iexact H1
    iexists f; iexact H2
  · iintro ⟨⟨%f, H1⟩, ⟨%g, H2⟩⟩
    iexists A.piecewise f g
    iapply (pointsTo_join_subset (Finset.subset_univ A))
    isplitl [H1] <;> iassumption

theorem mem_iSlot (b : Fin 2) (x : S2x1x128.Idx) : x ∈ (iSlot b).view.set ↔ (x 0).val = b.val := by
  rw [show (iSlot b).view.set = (Rect.unit (s := S2x1x128) ![b.val, 0, 0] S1x1x128.size (inbIS b)).set from
    (View.set_reshape _ _).trans ((View.set_slice _ _).trans Finset.map_refl), Rect.mem_set_unit]
  have h1 : (x 1).val < 1 := (x 1).isLt
  have h2 : (x 2).val < 128 := (x 2).isLt
  constructor
  · intro h
    have : b.val ≤ (x 0).val ∧ (x 0).val < b.val + 1 := h 0
    omega
  · intro h a
    match a with
    | 0 => show b.val ≤ (x 0).val ∧ (x 0).val < b.val + 1; omega
    | 1 => show 0 ≤ (x 1).val ∧ (x 1).val < 0 + 1; omega
    | 2 => show 0 ≤ (x 2).val ∧ (x 2).val < 0 + 128; omega

theorem mem_oSlot (b : Fin 2) (x : S2x128x256.Idx) : x ∈ (oSlot b).view.set ↔ (x 0).val = b.val := by
  rw [show (oSlot b).view.set = (Rect.unit (s := S2x128x256) ![b.val, 0, 0] S1x128x256.size (inbOS b)).set from
    (View.set_reshape _ _).trans ((View.set_slice _ _).trans Finset.map_refl), Rect.mem_set_unit]
  have h1 : (x 1).val < 128 := (x 1).isLt
  have h2 : (x 2).val < 256 := (x 2).isLt
  constructor
  · intro h
    have : b.val ≤ (x 0).val ∧ (x 0).val < b.val + 1 := h 0
    omega
  · intro h a
    match a with
    | 0 => show b.val ≤ (x 0).val ∧ (x 0).val < b.val + 1; omega
    | 1 => show 0 ≤ (x 1).val ∧ (x 1).val < 0 + 128; omega
    | 2 => show 0 ≤ (x 2).val ∧ (x 2).val < 0 + 256; omega

variable (d : Dev nD) (L : grid0.Coords)

/-- The index scratch is its two slots. -/
theorem iSlots : (iprop(∃ f, (thr d L).loc cc0_scoped0 ↦{fullShare} f) : sProp 𝕄) ⊣⊢ iprop(ISlotAny d L 0 ∗ ISlotAny d L 1) :=
  two_parts (ℓ := (thr d L).loc cc0_scoped0) (A := (iSlot 0).view.set) (B := (iSlot 1).view.set) (by
    refine Finset.ext fun x => ?_
    have h0 : (x 0).val < 2 := (x 0).isLt
    rw [Finset.mem_sdiff, mem_iSlot, mem_iSlot]
    show (x 0).val = 1 ↔ _ ∧ ¬ (x 0).val = 0
    exact ⟨fun h => ⟨Finset.mem_univ _, by omega⟩, fun h => by omega⟩)

/-- The row scratch is its two slots. -/
theorem oSlots : (iprop(∃ f, (thr d L).loc cc0_scoped2 ↦{fullShare} f) : sProp 𝕄) ⊣⊢ iprop(OSlotAny d L 0 ∗ OSlotAny d L 1) :=
  two_parts (ℓ := (thr d L).loc cc0_scoped2) (A := (oSlot 0).view.set) (B := (oSlot 1).view.set) (by
    refine Finset.ext fun x => ?_
    have h0 : (x 0).val < 2 := (x 0).isLt
    rw [Finset.mem_sdiff, mem_oSlot, mem_oSlot]
    show (x 0).val = 1 ↔ _ ∧ ¬ (x 0).val = 0
    exact ⟨fun h => ⟨Finset.mem_univ _, by omega⟩, fun h => by omega⟩)

end Cert.Proof.Gather
-- ==== Proof.Launch.lean ====
/-
  The whole program: the host's operations before the call, the call dealt to its tasks, and the program's run.
-/
module

public import proofs.«01_k».proof.Proof.Pieces

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (nullary unary binary reshape seq after tcRefs held nullary_bufs_sub unary_bufs_sub binary_bufs_sub reshape_bufs_sub)

variable {F : FTy → Type} [FloatOps F]

local notation "𝕄" => MT nD τ sig (HIx 1) (Elt F) ℕ UU ℕ

/-! ## The host's operations -/

/-- The program's host operations, in order. -/
abbrev hostOps : List (HloOp τ sig (Elt F)) :=
  [ nullary main_v0 (iotaInDim S2 32 0),
    nullary main_c (constantI S_ 32 327680#32),
    unary main_c main_v1 (broadcastInDim S2 ![] bcast_S_S2 : (⟨S_, .i32⟩ : BufTy).Contents (Elt F) → (⟨S2, .i32⟩ : BufTy).Contents (Elt F)),
    binary main_v0 main_v1 main_v2 (muli : (⟨S2, .i32⟩ : BufTy).Contents (Elt F) → (⟨S2, .i32⟩ : BufTy).Contents (Elt F) → (⟨S2, .i32⟩ : BufTy).Contents (Elt F)),
    unary main_v2 main_v3 (broadcastInDim S2x1x1 ![0] bcast_S2_S2x1x1_0 : (⟨S2, .i32⟩ : BufTy).Contents (Elt F) → (⟨S2x1x1, .i32⟩ : BufTy).Contents (Elt F)),
    unary main_arg1 main_v4 (broadcastInDim S1x8x32768 ![1, 2] bcast_S8x32768_S1x8x32768_1_2 : (⟨S8x32768, .i32⟩ : BufTy).Contents (Elt F) → (⟨S1x8x32768, .i32⟩ : BufTy).Contents (Elt F)),
    unary main_v3 main_v5 (broadcastInDim S2x8x32768 ![0, 1, 2] bcast_S2x1x1_S2x8x32768_0_1_2 : (⟨S2x1x1, .i32⟩ : BufTy).Contents (Elt F) → (⟨S2x8x32768, .i32⟩ : BufTy).Contents (Elt F)),
    unary main_v4 main_v6 (broadcastInDim S2x8x32768 ![0, 1, 2] bcast_S1x8x32768_S2x8x32768_0_1_2 : (⟨S1x8x32768, .i32⟩ : BufTy).Contents (Elt F) → (⟨S2x8x32768, .i32⟩ : BufTy).Contents (Elt F)),
    binary main_v5 main_v6 main_v7 (addi : (⟨S2x8x32768, .i32⟩ : BufTy).Contents (Elt F) → (⟨S2x8x32768, .i32⟩ : BufTy).Contents (Elt F) → (⟨S2x8x32768, .i32⟩ : BufTy).Contents (Elt F)),
    reshape main_v7 main_v8 (rfl : (.i32 : EltTy) = .i32) shapeCasts_S2x8x32768_S524288,
    reshape main_arg0 main_v9 (rfl : (.i32 : EltTy) = .i32) shapeCasts_S2x327680x256_S655360x256,
    reshape main_v8 main_v10 (rfl : (.i32 : EltTy) = .i32) shapeCasts_S524288_S1x524288 ]

theorem main_eq (d : Dev nD) : main (F := F) d = seq hostOps >>= fun _ => (sc (F := F)).run d 0 >>= fun _ => pure ⟨⟩ := rfl

theorem hostOps_sub : ∀ op ∈ (hostOps : List (HloOp τ sig (Elt F))), op.bufs ⊆ tcRefs τ sig :=
  List.forall_iff_forall_mem.mp
    ⟨nullary_bufs_sub .., nullary_bufs_sub .., unary_bufs_sub .., binary_bufs_sub .., unary_bufs_sub .., unary_bufs_sub .., unary_bufs_sub ..,
      unary_bufs_sub .., binary_bufs_sub .., reshape_bufs_sub .., reshape_bufs_sub .., reshape_bufs_sub ..⟩

theorem hostOps_fresh : ∀ op ∈ (hostOps : List (HloOp τ sig (Elt F))), op.fresh = ∅ :=
  List.forall_iff_forall_mem.mp ⟨rfl, rfl, rfl, rfl, rfl, rfl, rfl, rfl, rfl, rfl, rfl, rfl⟩

/-- The table the call reads: both halves' rows, one under another. -/
abbrev tabOf (x : S2x327680x256.Idx → BitVec 32) : S655360x256.Idx → BitVec 32 := shapeCast S655360x256 x shapeCasts_S2x327680x256_S655360x256
/-- The index row the call reads: the rows' numbers, those of the second half counted from the first. -/
abbrev idxOf (x : S8x32768.Idx → BitVec 32) : S1x524288.Idx → BitVec 32 :=
  shapeCast S1x524288 (shapeCast S524288 (addi
      (broadcastInDim S2x8x32768 ![0, 1, 2] bcast_S2x1x1_S2x8x32768_0_1_2 (broadcastInDim S2x1x1 ![0] bcast_S2_S2x1x1_0
        (muli (iotaInDim S2 32 0) (broadcastInDim S2 ![] bcast_S_S2 (constantI S_ 32 327680#32)))))
      (broadcastInDim S2x8x32768 ![0, 1, 2] bcast_S1x8x32768_S2x8x32768_0_1_2 (broadcastInDim S1x8x32768 ![1, 2] bcast_S8x32768_S1x8x32768_1_2 x)))
    shapeCasts_S2x8x32768_S524288) shapeCasts_S524288_S1x524288

variable (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1

/-- The table and the index row of device `d`. -/
abbrev tabM (d : Dev nD) : Buf (Elt F) (xLoc d) := tabOf (m (aLoc d))
abbrev idxM (d : Dev nD) : Buf (Elt F) (iLoc d) := idxOf (m (bLoc d))
/-- The result of device `d`. -/
abbrev resM (d : Dev nD) : Buf (Elt F) (oLoc d) := gathered (tabM m d) (idxM m d)

abbrev V0 (d : Dev nD) : Valuation τ sig (Elt F) := fun b => m (d, b)

theorem after_a (d : Dev nD) : after hostOps (V0 m d) (Proc.devRef .tc main_arg0) = m (aLoc d) := by after_results <;> rfl
theorem after_b (d : Dev nD) : after hostOps (V0 m d) (Proc.devRef .tc main_arg1) = m (bLoc d) := by after_results <;> rfl
theorem after_x (d : Dev nD) : after hostOps (V0 m d) (Proc.devRef .tc main_v9) = tabM m d := by after_results <;> rfl
theorem after_i (d : Dev nD) : after hostOps (V0 m d) (Proc.devRef .tc main_v10) = idxM m d := by after_results <;> rfl
theorem after_o (d : Dev nD) : after hostOps (V0 m d) (Proc.devRef .tc main_v11) = m (oLoc d) := by after_results <;> rfl

/-- What the proof asks of the launch memory: every index names a row of the table. -/
def PreOK : Prop := ∀ (d : Dev nD) (x : S1x524288.Idx), (idxM m d x : BitVec 32).toNat < 655360

/-! ## What the call carries -/

/-- A task's resources: its share of the table, its blocks of the index row, its blocks of the result at `f`. -/
def TaskRes (d : Dev nD) (f : Buf (Elt F) (oLoc d)) (c : Fin 2) (s : Fin 16) : sProp 𝕄 :=
  iprop((xLoc d ↦{taskShare c s} tabM m d) ∗ IBlks d (coordsV c s) (idxM m d) (Finset.range 128)
    ∗ bigSep (Finset.range 128) fun j => OBlk d (coordsV c s) (bk (coordsV c s) j) f)
/-- A core's: its tasks'. -/
def CoreRes (d : Dev nD) (f : Buf (Elt F) (oLoc d)) (c : Fin 2) : sProp 𝕄 := bigSep Finset.univ fun s : Fin 16 => TaskRes m d f c s

instance TaskRes_storable (d : Dev nD) (f : Buf (Elt F) (oLoc d)) (c : Fin 2) (s : Fin 16) : BI.Storable (upEmb : UEmb _ 𝕄) (TaskRes m d f c s) := by
  unfold TaskRes; infer_instance
instance CoreRes_storable (d : Dev nD) (f : Buf (Elt F) (oLoc d)) (c : Fin 2) : BI.Storable (upEmb : UEmb _ 𝕄) (CoreRes m d f c) := by
  unfold CoreRes; infer_instance

theorem nCore_zero : (K (F := F)).nCore 0 = 2 := rfl
theorem nCore_any (q : Fin 1) : (K (F := F)).nCore q = 2 := match q with | 0 => rfl
theorem nSub_any (q : Fin 1) : (K (F := F)).nSub q = 16 := match q with | 0 => rfl

/-- The launch's payloads: every core starts and ends with its tasks' resources, the result's blocks at what the
    array held before and at the gathered rows. -/
def P : (K (F := F)).Pay (nD := nD) (Val := Elt F) (Name := ℕ) (U := UU) where
  st q d c := CoreRes m d (m (oLoc d)) (Fin.cast (nCore_any q) c)
  dn q d c := CoreRes m d (resM m d) (Fin.cast (nCore_any q) c)
  go q d c i := TaskRes m d (m (oLoc d)) (Fin.cast (nCore_any q) c) (Fin.cast (nSub_any q) i)
  td q d c i := TaskRes m d (resM m d) (Fin.cast (nCore_any q) c) (Fin.cast (nSub_any q) i)
  x := fun _ _ => iprop(emp)

instance P_storable : (P (F := F) m).IsStorable where
  st q d c := CoreRes_storable m d (m (oLoc d)) (Fin.cast (nCore_any q) c)
  dn q d c := CoreRes_storable m d (resM m d) (Fin.cast (nCore_any q) c)
  go q d c i := TaskRes_storable m d (m (oLoc d)) (Fin.cast (nCore_any q) c) (Fin.cast (nSub_any q) i)
  td q d c i := TaskRes_storable m d (resM m d) (Fin.cast (nCore_any q) c) (Fin.cast (nSub_any q) i)

/-- All tasks' resources are the table, the index row and the result. -/
theorem allRes (d : Dev nD) (f : Buf (Elt F) (oLoc d)) :
    (bigSep Finset.univ fun c : Fin 2 => CoreRes m d f c)
      = iprop((xLoc d ↦{fullShare} tabM m d) ∗ (iLoc d ↦{fullShare} idxM m d) ∗ oLoc d ↦{fullShare} f) := by
  unfold CoreRes TaskRes
  rw [table_shares, index_blocks, result_blocks, ← bigSep_sep', ← bigSep_sep']
  refine bigSep_congr fun c _ => ?_
  rw [bigSep_sep', bigSep_sep']

/-! ## A task in its subcore -/

section Task

variable (d : Dev nD) (c : Fin 2) (s : Fin 16)

abbrev cell (L : grid0.Coords) (sm : DmaSem sig) : GSem nD τ sig := (thr d L, .dma sm)

abbrev ownRest (L : grid0.Coords) : Finset (GSem nD τ sig) :=
  ((((((ownCells (thr d L)).erase (cell d L (semI 0))).erase (cell d L (semI 1))).erase (cell d L (semO 0))).erase (cell d L (semO 1))).erase
    (cell d L cc0_scoped4.sem)).erase (cell d L cc0_scoped5.sem)

theorem cell_mem (L : grid0.Coords) (sm : DmaSem sig) (h : (SemLoc.dma sm : SemLoc sig).isScoped .scVector = true) :
    cell d L sm ∈ ownCells (thr d L) := mem_ownCells.mpr ⟨rfl, h⟩

theorem cell_ne (L : grid0.Coords) {a b : DmaSem sig} (h : a ≠ b) : cell d L a ≠ cell d L b :=
  fun e => h (SemLoc.dma.inj (Prod.mk.inj e).2)

/-- The subcore's semaphores: the task's six and the rest. -/
theorem ownSems_task (L : grid0.Coords) :
    (ownSems0 (thr d L) : sProp 𝕄)
      = iprop(SI0 d L 0 ∗ SI0 d L 1 ∗ SO0 d L 0 ∗ SO0 d L 1 ∗ SG0 d L ∗ SG1 d L ∗ bigSep (ownRest d L) fun g => semVal g 0) := by
  unfold SparseCore.Cfg.ownSems0
  rw [SparseCore.bigSep_erase' (cell_mem d L (semI 0) (by decide)),
    SparseCore.bigSep_erase' (Finset.mem_erase.mpr ⟨cell_ne d L (by decide), cell_mem d L (semI 1) (by decide)⟩),
    SparseCore.bigSep_erase' (Finset.mem_erase.mpr ⟨cell_ne d L (by decide), Finset.mem_erase.mpr ⟨cell_ne d L (by decide), cell_mem d L (semO 0) (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L (semO 1) (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L cc0_scoped4.sem (by decide)⟩⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), Finset.mem_erase.mpr ⟨cell_ne d L (by decide),
        cell_mem d L cc0_scoped5.sem (by decide)⟩⟩⟩⟩⟩)]

abbrev ownBufRest (L : grid0.Coords) : Finset (DevRef τ sig) :=
  ((ownRefs (τ := τ) (.scVector (cV L) (jV L))).erase ((Proc.scVector (cV L) (jV L)).devRef cc0_scoped0)).erase ((Proc.scVector (cV L) (jV L)).devRef cc0_scoped2)

/-- The subcore's buffers: the task's two scratch buffers and the rest. -/
theorem ownBufs_task (L : grid0.Coords) :
    (ownBufs (thr d L) : sProp 𝕄)
      = iprop((∃ f, (thr d L).loc cc0_scoped0 ↦{fullShare} f) ∗ (∃ f, (thr d L).loc cc0_scoped2 ↦{fullShare} f)
          ∗ bigSep (ownBufRest L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- The task on its subcore: from its resources, those with the result's blocks at the gathered rows. -/
theorem task_body (hF : (K (F := F)).Facts) (hpre : PreOK m) (O : CellTallies nD τ sig (HIx 1)) (W : Waits sig (HIx 1)) (hO : ∀ g, O g none = 0) :
    iprop(levAts (K (F := F)).L (K (F := F)).lev ∗ emp ∗ TaskRes m d (m (oLoc d)) c s
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ
          (cc0_gather_kernel (F := F) (coordsV c s) xV (Memref.isWhole_whole _) iV (Memref.isWhole_whole _) oV (Memref.isWhole_whole _)
            sI (Memref.isWhole_whole _) cc0_scoped1 sO (Memref.isWhole_whole _) cc0_scoped3 cc0_scoped4 cc0_scoped5)
          fun _ => iprop(TaskRes m d (resM m d) c s ∗ scopedBufs (thr d (coordsV c s)) ∗ scopedSems0 (thr d (coordsV c s))
            ∗ ∃ W', ⌜∀ p ∈ W', p ∈ W ∨ p.2 = none⌝ ∗ owes (thr d (coordsV c s)) O W') := by
  rw [(K (F := F)).scopedBufs_V hF d (cV (coordsV c s)) (jV (coordsV c s)), SparseCore.Cfg.scopedSems0_V (Val := Elt F) d (cV (coordsV c s)) (jV (coordsV c s)),
    ownSems_task, ownBufs_task]
  unfold TaskRes
  iintro ⟨#Hlv, -, ⟨Hx, Hib, Hob⟩, ⟨Hsi, Hso, Hbr⟩, ⟨Hi0, Hi1, Ho0, Ho1, Hg0, Hg1, Hsr⟩, HO⟩
  ihave Hsi' := (iSlots d (coordsV c s)).1 $$ Hsi
  ihave Hso' := (oSlots d (coordsV c s)).1 $$ Hso
  ihave Hw := (task_spec d (coordsV c s) (taskShare c s) (tabM m d) (idxM m d) (m (oLoc d)) (O := O) (W := W) hO (fun x => hpre d x)) $$ [Hx Hib Hob Hsi' Hso' Hi0 Hi1 Ho0 Ho1 Hg0 Hg1 HO]
  · isplitr; · iexact Hlv
    isplitl [Hx]; · iexact Hx
    isplitr [HO]
    · unfold start
      isplitl [Hib]; · iexact Hib
      isplitl [Hob]; · iexact Hob
      isplitl [Hsi']; · iexact Hsi'
      isplitl [Hso']; · iexact Hso'
      isplitl [Hi0 Hi1]
      · isplitl [Hi0]; · iexact Hi0
        iexact Hi1
      isplitl [Ho0 Ho1]
      · isplitl [Ho0]; · iexact Ho0
        iexact Ho1
      isplitl [Hg0]; · iexact Hg0
      iexact Hg1
    iexists W; isplitr
    · ipureintro; exact fun p hp => Or.inl hp
    iexact HO
  iapply (wp_wand frame (wpE (defs₀ (F := F)) 𝒱₀ (thr d (coordsV c s)) none) Set.univ) $$ Hw
  iintro %_ ⟨Hx, Hst, HO⟩
  unfold start
  icases Hst with ⟨Hib, Hob, Hsi, Hso, ⟨Hi0, Hi1⟩, ⟨Ho0, Ho1⟩, Hg0, Hg1⟩
  ihave Hsi' := (iSlots d (coordsV c s)).2 $$ Hsi
  ihave Hso' := (oSlots d (coordsV c s)).2 $$ Hso
  isplitl [Hx Hib Hob]
  · isplitl [Hx]; · iexact Hx
    isplitl [Hib]; · iexact Hib
    iexact Hob
  isplitl [Hsi' Hso' Hbr]
  · isplitl [Hsi']; · iexact Hsi'
    isplitl [Hso']; · iexact Hso'
    iexact Hbr
  isplitl [Hi0 Hi1 Ho0 Ho1 Hg0 Hg1 Hsr]
  · isplitl [Hi0]; · iexact Hi0
    isplitl [Hi1]; · iexact Hi1
    isplitl [Ho0]; · iexact Ho0
    isplitl [Ho1]; · iexact Ho1
    isplitl [Hg0]; · iexact Hg0
    isplitl [Hg1]; · iexact Hg1
    iexact Hsr
  iexact HO

theorem defs₀_vector (c : Fin τ.nSC) (s : Fin τ.nSub) :
    defs₀ (F := F) (.scVector c s) 0 ()
      = SparseCore.onTile hcore0 hsub0 (fun c s => cc0_gather_kernel (F := F) (coordsV c s) xV (Memref.isWhole_whole _) iV (Memref.isWhole_whole _)
          oV (Memref.isWhole_whole _) sI (Memref.isWhole_whole _) cc0_scoped1 sO (Memref.isWhole_whole _) cc0_scoped3 cc0_scoped4 cc0_scoped5) ⟨⟩ c s := rfl

theorem widen_waits {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW, HO⟩
  isplitl [HA]; · iexact HA
  isplitl [HB]; · iexact HB
  isplitl [HC]; · iexact HC
  iexists W'; isplitr
  · ipureintro; exact fun p hp => (hW p hp).elim Or.inl fun h => Or.inr (Or.inl h)
  iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_body m d ⟨_, hci.1⟩ ⟨_, hci.2⟩ hF hpre O W hO).trans (wp_mono frame _ _ fun _ => widen_waits)

end Task

theorem tasks_all (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem cores_all (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core's payload is its tasks' payloads, handed out one by one and taken back one by one. -/
theorem hand_out (A B : Fin 16 → sProp 𝕄) :
    bigSep Finset.univ A ⊢ |={Set.univ}=> iprop((bigSep Finset.univ fun i : Fin ((K (F := F)).nSub 0) => A (Fin.cast nSub_zero i))
      ∗ ((bigSep Finset.univ fun i : Fin ((K (F := F)).nSub 0) => B (Fin.cast nSub_zero i)) -∗ bigSep Finset.univ B)) := by
  rw [tasks_all (F := F) A, tasks_all (F := F) B]
  iintro H; imodintro
  isplitl [H]; · iexact H
  iintro H; iexact H

theorem vecSplit : (K (F := F)).VecSplit' (P m) 0 := fun d c =>
  hand_out (TaskRes m d (m (oLoc d)) (Fin.cast nCore_zero c)) (TaskRes m d (resM m d) (Fin.cast nCore_zero c))

theorem st_eq (d : Dev nD) (c : Fin ((K (F := F)).nCore 0)) : (P m).st 0 d c = CoreRes m d (m (oLoc d)) (Fin.cast nCore_zero c) := by
  unfold P; with_reducible rfl
theorem dn_eq (d : Dev nD) (c : Fin ((K (F := F)).nCore 0)) : (P m).dn 0 d c = CoreRes m d (resM m d) (Fin.cast nCore_zero c) := by
  unfold P; with_reducible rfl

/-- The payload every core starts with, put together. -/
theorem start_all (d : Dev nD) : (bigSep Finset.univ fun c : Fin ((K (F := F)).nCore 0) => (P m).st 0 d c)
    = iprop((xLoc d ↦{fullShare} tabM m d) ∗ (iLoc d ↦{fullShare} idxM m d) ∗ oLoc d ↦{fullShare} m (oLoc d)) := by
  refine (bigSep_congr fun c _ => st_eq m d c).trans ?_
  rw [cores_all (F := F) (fun c => CoreRes m d (m (oLoc d)) c)]
  exact allRes m d _
/-- The payload every core ends with, taken apart. -/
theorem end_all (d : Dev nD) : (bigSep Finset.univ fun c : Fin ((K (F := F)).nCore 0) => (P m).dn 0 d c)
    = iprop((xLoc d ↦{fullShare} tabM m d) ∗ (iLoc d ↦{fullShare} idxM m d) ∗ oLoc d ↦{fullShare} resM m d) := by
  refine (bigSep_congr fun c _ => dn_eq m d c).trans ?_
  rw [cores_all (F := F) (fun c => CoreRes m d (resM m d) c)]
  exact allRes m d _

theorem nothing {I : Type} (s : Finset I) : (bigSep s fun _ => iprop(emp)) = (iprop(emp) : sProp 𝕄) := bigSep_emp_const s

/-! ## The ghost state's first element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothing]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothing]
  iempintro

/-! ## The program -/

/-- The TensorCore's buffers are all unscoped. -/
theorem unscoped_held (d : Dev nD) : (unscopedBufs d (fun b => m ((SparseCore.T d).loc b)) : sProp 𝕄) = held (SparseCore.T d) (tcRefs τ sig) (V0 m d) := by
  unfold unscopedBufs held tcRefs
  rw [bigSep_map, show (Finset.univ.filter fun b : Ref sig .tc => ¬ b.isScoped) = Finset.univ by decide]
  rfl

abbrev tcRef (b : Ref sig .tc) : DevRef τ sig := Proc.devRef .tc b

abbrev tcRest : Finset (DevRef τ sig) :=
  (((((tcRefs τ sig).erase (tcRef main_arg0)).erase (tcRef main_arg1)).erase (tcRef main_v9)).erase (tcRef main_v10)).erase (tcRef main_v11)

theorem tcRef_ne {a b : Ref sig .tc} (h : a ≠ b) : tcRef a ≠ tcRef b := fun e => h (Proc.devRef_injective _ e)

/-- What the host's operations leave: both arguments as they were, the table, the index row, and the result's array untouched. -/
theorem held_after (d : Dev nD) :
    (held (SparseCore.T d) (tcRefs τ sig) (after hostOps (V0 m d)) : sProp 𝕄)
      = iprop((aLoc d ↦{fullShare} m (aLoc d)) ∗ (bLoc d ↦{fullShare} m (bLoc d)) ∗ (xLoc d ↦{fullShare} tabM m d)
          ∗ (iLoc d ↦{fullShare} idxM m d) ∗ (oLoc d ↦{fullShare} m (oLoc d)) ∗ held (SparseCore.T d) tcRest (after hostOps (V0 m d))) := by
  have hm : ∀ b : Ref sig .tc, tcRef b ∈ tcRefs τ sig := fun b => StableHlo.devRef_mem_tcRefs b
  unfold held
  rw [SparseCore.bigSep_erase' (hm main_arg0),
    SparseCore.bigSep_erase' (Finset.mem_erase.mpr ⟨tcRef_ne (by decide), hm main_arg1⟩),
    SparseCore.bigSep_erase' (Finset.mem_erase.mpr ⟨tcRef_ne (by decide), Finset.mem_erase.mpr ⟨tcRef_ne (by decide), hm main_v9⟩⟩),
    SparseCore.bigSep_erase' (Finset.mem_erase.mpr ⟨tcRef_ne (by decide), Finset.mem_erase.mpr ⟨tcRef_ne (by decide), Finset.mem_erase.mpr ⟨tcRef_ne (by decide), hm main_v10⟩⟩⟩),
    SparseCore.bigSep_erase' (Finset.mem_erase.mpr ⟨tcRef_ne (by decide), Finset.mem_erase.mpr ⟨tcRef_ne (by decide), Finset.mem_erase.mpr ⟨tcRef_ne (by decide),
      Finset.mem_erase.mpr ⟨tcRef_ne (by decide), hm main_v11⟩⟩⟩⟩),
    after_a m d, after_b m d, after_x m d, after_i m d, after_o m d]

abbrev FIN (d : Dev nD) : sProp 𝕄 :=
  iprop((aLoc d ↦{fullShare} m (aLoc d)) ∗ (bLoc d ↦{fullShare} m (bLoc d)) ∗ oLoc d ↦{fullShare} resM m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d (tcRefs τ sig) (fun _ => (sc (F := F)).run d 0 >>= fun _ => pure ⟨⟩) hostOps hostOps_sub hostOps_fresh (V0 m d)) $$ [Hb Hheld]
  · isplitl [Hb] <;> iassumption
  iintro ⟨Hb, Hheld⟩
  ihave Hh := (Entails.of_eq (held_after m d)) $$ Hheld
  icases Hh with ⟨Ha, Hbb, Hx, Hi, Ho, -⟩
  simp only [wp_bind, wp_pure]
  iapply ((K (F := F)).wp_run (D (F := F)) 𝒱 (EH := EH) (P := P m) κ d 0) $$ [Hst Hx Hi Ho Hb Hts Ha Hbb]
  isplitr; · iexact Hctx
  isplitl [Hst]; · iexact Hst
  isplitl [Hx Hi Ho]
  · rw [start_all]
    isplitl [Hx]; · iexact Hx
    isplitl [Hi]; · iexact Hi
    iexact Ho
  iintro ⟨Hst, Hdn⟩
  ihave Hdn' := (Entails.of_eq (end_all m d)) $$ Hdn
  icases Hdn' with ⟨-, -, Ho⟩
  imodintro
  isplitl [Hst]; · iexact Hst
  isplitr [Hb Hts]
  · isplitl [Ha]; · iexact Ha
    isplitl [Hbb]; · iexact Hbb
    iexact Ho
  isplitl [Hb] <;> iassumption

def fq (d : Dev nD) (s' : Phys nD τ sig (Elt F)) : Prop :=
  s'.mem.mem (oLoc d) = resM m d ∧ s'.mem.mem (aLoc d) = m (aLoc d) ∧ s'.mem.mem (bLoc d) = m (bLoc d)

set_option maxRecDepth 16384 in
theorem hfin (d : Dev nD) (s' : Phys nD τ sig (Elt F)) : iprop(FIN m d ∗ SI s') ⊢ (⌜fq m d s'⌝ : sProp 𝕄) := by
  iintro ⟨⟨Ha, Hb, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := oLoc d) (I := Finset.univ) (q := fullShare) (f := resM m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- What every execution ends with: the result at the gathered rows, both arguments as they were, every semaphore at zero. -/
def QC : PUnit × MemSt nD τ sig (Elt F) → Prop := fun r =>
  (∀ c : Dev nD, r.2.mem (oLoc c) = resM m c ∧ r.2.mem (aLoc c) = m (aLoc c) ∧ r.2.mem (bLoc c) = m (bLoc c)) ∧ r.2.sem = fun _ => 0

/-- The program's run, over any floats. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather
-- ==== Proof.Value.lean ====
/-
  The value: the reference's two gathers, one under the other, are the rows that the kernel's index row names in the
  kernel's table. Also what the precondition says of one destination.
-/
module

public import proofs.«01_k».proof.Proof.Launch
public import proofs.«01_k».proof.Proof.Gen.ReferenceIdeal
public import proofs.«01_k».proof.Proof.Gen.Pre_dest_in_rows
public import Idealize.ShloMosaic.Lib.Pointwise
public import Idealize.ShloMosaic.Lib.ValueIdx

@[expose] public section

noncomputable section

namespace Cert.Proof.Gather

open Idealize.ShloMosaic

variable {F : FTy → Type} [FloatOps F]

section Kernel
open Cert.KernelIdeal Cert.KernelIdeal.Gen

/-! ## The precondition at one destination -/

theorem and_bits (a b : Bool) : IntOp.andi (BitVec.ofBool a) (BitVec.ofBool b) = BitVec.ofBool (a && b) := by cases a <;> cases b <;> rfl
theorem bit_one (b : Bool) : BitVec.ofBool b = 1#1 ↔ b = true := by cases b <;> decide

/-- Where the precondition holds, every destination is the number of a row of one half of the table. -/
theorem dest_lt (x : S2x327680x256.Idx → BitVec 32) (dst : S8x32768.Idx → BitVec 32)
    (h : Cert.Pre_dest_in_rows.fn (F := F) x dst = fun _ => 1#1) (j : S8x32768.Idx) : (dst j).toNat < 327680 := by
  have e := congrFun h j
  simp only [Cert.Pre_dest_in_rows.fn, andi, cmpi, broadcastInDim, constantI] at e
  simp only [IntOp.cmpi, and_bits, bit_one, Bool.and_eq_true, BitVec.sle_eq_decide, BitVec.slt_eq_decide,
    decide_eq_true_eq, BitVec.toInt_eq_toNat_cond, BitVec.toNat_ofNat, Nat.reducePow, Nat.reduceMod] at e
  omega

/-! ## The kernel's index row -/

theorem k_lt {k : ℕ} (hk : k < 524288) : k / 262144 < 2 ∧ k % 262144 / 32768 < 8 ∧ k % 32768 < 32768 := by omega

/-- Entry `k` of the index row: the destination of pair `k mod 262144`, plus the size of one half in the second half. -/
theorem idxOf_apply (dst : S8x32768.Idx → BitVec 32) (j : S1x524288.Idx) (hk : (j 1).val < 524288) :
    idxOf dst j = BitVec.ofNat 32 ((j 1).val / 262144) * 327680#32
      + dst (at2 ⟨(j 1).val % 262144 / 32768, (k_lt hk).2.1⟩ ⟨(j 1).val % 32768, (k_lt hk).2.2⟩) := by
  have h0 : (j 0).val = 0 := by have : (j 0).val < 1 := (j 0).isLt; omega
  unfold idxOf
  rw [shapeCast_apply _ _ j (ix1 ⟨(j 1).val, hk⟩) (by
      rw [Shape.rowMajor_val_one, Shape.rowMajor_val_two]; show (j 1).val = (j 0).val * 524288 + (j 1).val; omega),
    shapeCast_apply _ _ (ix1 ⟨(j 1).val, hk⟩) (ix3 ⟨(j 1).val / 262144, (k_lt hk).1⟩ ⟨(j 1).val % 262144 / 32768, (k_lt hk).2.1⟩ ⟨(j 1).val % 32768, (k_lt hk).2.2⟩) (by
      rw [Shape.rowMajor_val_one, Shape.rowMajor_val_three]
      show ((j 1).val / 262144 * 8 + (j 1).val % 262144 / 32768) * 32768 + (j 1).val % 32768 = (j 1).val; omega)]
  show _ * _ + dst _ = _
  congr 1
  refine congrArg dst (funext fun a => ?_)
  match a with
  | ⟨0, _⟩ => exact Fin.ext rfl
  | ⟨1, _⟩ => exact Fin.ext rfl

theorem idxOf_toNat (dst : S8x32768.Idx → BitVec 32) (h : ∀ j, (dst j).toNat < 327680) (j : S1x524288.Idx) (hk : (j 1).val < 524288) :
    (idxOf dst j).toNat = (j 1).val / 262144 * 327680
      + (dst (at2 ⟨(j 1).val % 262144 / 32768, (k_lt hk).2.1⟩ ⟨(j 1).val % 32768, (k_lt hk).2.2⟩)).toNat := by
  have e := h (at2 ⟨(j 1).val % 262144 / 32768, (k_lt hk).2.1⟩ ⟨(j 1).val % 32768, (k_lt hk).2.2⟩)
  have hq := (k_lt hk).1
  rw [idxOf_apply dst j hk, BitVec.toNat_add, BitVec.toNat_mul, BitVec.toNat_ofNat, BitVec.toNat_ofNat]
  omega

/-- Every entry of the index row names a row of the table. -/
theorem idxOf_lt (dst : S8x32768.Idx → BitVec 32) (h : ∀ j, (dst j).toNat < 327680) (j : S1x524288.Idx) : (idxOf dst j).toNat < 655360 := by
  have hk : (j 1).val < 524288 := (j 1).isLt
  have e := h (at2 ⟨(j 1).val % 262144 / 32768, (k_lt hk).2.1⟩ ⟨(j 1).val % 32768, (k_lt hk).2.2⟩)
  have hq := (k_lt hk).1
  rw [idxOf_toNat dst h j hk]; omega

end Kernel

/-! ## The reference -/

section Reference
open Cert.ReferenceIdeal Cert.ReferenceIdeal.Gen

/-- A gather of whole rows at one entry: the row whose number stands in the index column, clamped to the table. -/
theorem gather_rows (tab : Cert.ReferenceIdeal.S327680x256.Idx → BitVec 32) (ix : Cert.ReferenceIdeal.S262144x1.Idx → BitVec 32)
    (y : Cert.ReferenceIdeal.S262144x256.Idx) :
    Host.gather gather_S327680x256_S262144x1_S262144x256_1_0_n_n_0_1_1256 tab ix y
      = tab (at2 ⟨min (ix (at2 (y 0) 0)).toInt.toNat 327679, by omega⟩ (y 1)) := by
  unfold Host.gather
  refine congrArg tab (funext fun a => Fin.ext ?_)
  show GatherDims.start _ y ix a + GatherDims.batchCoord _ y a + GatherDims.offCoord _ y a = _
  match a with
  | ⟨0, _⟩ =>
    rw [GatherDims.batchCoord_eq_zero _ _ _ (fun h => by simp [gather_S327680x256_S262144x1_S262144x256_1_0_n_n_0_1_1256] at h),
      GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin Cert.ReferenceIdeal.S327680x256.rank) ∈ gather_S327680x256_S262144x1_S262144x256_1_0_n_n_0_1_1256.startIndexMap from List.mem_singleton.mpr rfl)]
    have e : GatherDims.siIdx gather_S327680x256_S262144x1_S262144x256_1_0_n_n_0_1_1256 y
        ⟨List.idxOf (0 : Fin 2) [0], List.idxOf_lt_length_iff.2 (List.mem_singleton.mpr rfl)⟩ = at2 (y 0) 0 := by
      funext b; refine Fin.ext ?_
      match b with
      | ⟨0, _⟩ => rfl
      | ⟨1, _⟩ => rfl
    exact congrArg (fun i => min (ix i).toInt.toNat 327679) e
  | ⟨1, _⟩ =>
    rw [GatherDims.batchCoord_eq_zero _ _ _ (fun h => by simp [gather_S327680x256_S262144x1_S262144x256_1_0_n_n_0_1_1256] at h)]
    unfold GatherDims.start
    rw [dif_neg (by simp [gather_S327680x256_S262144x1_S262144x256_1_0_n_n_0_1_1256])]
    unfold GatherDims.offCoord
    rw [dif_pos ((GatherDims.mem_sKept _ _).mpr ⟨by simp [gather_S327680x256_S262144x1_S262144x256_1_0_n_n_0_1_1256], by simp [gather_S327680x256_S262144x1_S262144x256_1_0_n_n_0_1_1256]⟩)]
    show 0 + 0 + (y 1).val = (y 1).val
    omega

/-- The index column of the reference: the destinations in order, a negative one counted from the table's end. -/
abbrev refColumn (dst : Cert.ReferenceIdeal.S8x32768.Idx → BitVec 32) : Cert.ReferenceIdeal.S262144x1.Idx → BitVec 32 :=
  broadcastInDim S262144x1 ![0] bcast_S262144_S262144x1_0 (select (cmpi .slt (shapeCast _ dst shapeCasts_S8x32768_S262144) (broadcastInDim S262144 ![] bcast_S_S262144 (constantI S_ 32 0#32))) (addi (shapeCast _ dst shapeCasts_S8x32768_S262144) (broadcastInDim S262144 ![] bcast_S_S262144 (constantI S_ 32 327680#32))) (shapeCast _ dst shapeCasts_S8x32768_S262144))

/-- What the reference computes of the table's two halves and the destinations. -/
abbrev refVal (x : Cert.ReferenceIdeal.S2x327680x256.Idx → BitVec 32) (dst : Cert.ReferenceIdeal.S8x32768.Idx → BitVec 32) :
    Cert.ReferenceIdeal.S524288x256.Idx → BitVec 32 :=
  concatenate S524288x256 0
    [⟨S262144x256, Host.gather gather_S327680x256_S262144x1_S262144x256_1_0_n_n_0_1_1256 (shapeCast _ (extractStridedSlice S1x327680x256 ![0, 0, 0] x slices_S2x327680x256_S1x327680x256_0_0_0) shapeCasts_S1x327680x256_S327680x256) (refColumn dst)⟩,
     ⟨S262144x256, Host.gather gather_S327680x256_S262144x1_S262144x256_1_0_n_n_0_1_1256 (shapeCast _ (extractStridedSlice S1x327680x256 ![1, 0, 0] x slices_S2x327680x256_S1x327680x256_1_0_0) shapeCasts_S1x327680x256_S327680x256) (refColumn dst)⟩]
    concatenates_S262144x256_S262144x256_S524288x256_d0

theorem refColumn_apply (dst : Cert.ReferenceIdeal.S8x32768.Idx → BitVec 32) (h : ∀ j, (dst j).toNat < 327680) (i : Fin 262144) :
    (refColumn dst (at2 i 0)).toInt.toNat
      = (dst (at2 ⟨i.val / 32768, by have := i.isLt; omega⟩ ⟨i.val % 32768, Nat.mod_lt _ (by decide)⟩)).toNat := by
  have hc : shapeCast Cert.ReferenceIdeal.S262144 dst shapeCasts_S8x32768_S262144 (ix1 i)
      = dst (at2 ⟨i.val / 32768, by have := i.isLt; omega⟩ ⟨i.val % 32768, Nat.mod_lt _ (by decide)⟩) :=
    shapeCast_apply _ _ _ _ (by
      rw [Shape.rowMajor_val_one, Shape.rowMajor_val_two]
      show i.val / 32768 * 32768 + i.val % 32768 = i.val; omega)
  have hv := h (at2 ⟨i.val / 32768, by have := i.isLt; omega⟩ ⟨i.val % 32768, Nat.mod_lt _ (by decide)⟩)
  have hs : (refColumn dst (at2 i 0)) = dst (at2 ⟨i.val / 32768, by have := i.isLt; omega⟩ ⟨i.val % 32768, Nat.mod_lt _ (by decide)⟩) := by
    unfold refColumn
    rw [broadcastInDim_apply _ _ _ (at2 i 0) (ix1 i) (by intro a; match a with | ⟨0, _⟩ => exact (if_neg (show ¬ (262144 : ℕ) = 1 by decide)).symm)]
    simp only [select, cmpi, addi, broadcastInDim, constantI, hc]
    rw [show IntOp.cmpi .slt (dst (at2 ⟨i.val / 32768, by have := i.isLt; omega⟩ ⟨i.val % 32768, Nat.mod_lt _ (by decide)⟩)) 0#32 = 0#1 by
      simp only [IntOp.cmpi]
      rw [show BitVec.slt (dst (at2 ⟨i.val / 32768, by have := i.isLt; omega⟩ ⟨i.val % 32768, Nat.mod_lt _ (by decide)⟩)) 0#32 = false by
        rw [BitVec.slt_eq_decide, decide_eq_false_iff_not, BitVec.toInt_eq_toNat_cond]
        simp only [Nat.reducePow, BitVec.toInt_zero]; split <;> omega]
      rfl]
    rfl
  rw [hs, BitVec.toInt_eq_toNat_cond]
  simp only [Nat.reducePow]; split <;> omega

/-- Row `r` of half `p` of the table is row `327680 p + r` of the kernel's table. -/
theorem half_row (x : Cert.ReferenceIdeal.S2x327680x256.Idx → BitVec 32) (p : Fin 2) (off : Fin 3 → ℕ) (hoff : off = ![p.val, 0, 0])
    (hs : Cert.ReferenceIdeal.S2x327680x256.Slices off Cert.ReferenceIdeal.S1x327680x256) (r : Fin 327680) (c : Fin 256) (q : Fin 655360) (hq : q.val = p.val * 327680 + r.val) :
    shapeCast Cert.ReferenceIdeal.S327680x256 (extractStridedSlice Cert.ReferenceIdeal.S1x327680x256 off x hs) shapeCasts_S1x327680x256_S327680x256 (at2 r c)
      = tabOf x (at2 q c) := by
  subst hoff
  unfold tabOf
  rw [shapeCast_apply _ _ (at2 r c) (ix3 0 r c) (by
      rw [Shape.rowMajor_val_two, Shape.rowMajor_val_three]
      show (0 * 327680 + r.val) * 256 + c.val = r.val * 256 + c.val; omega),
    shapeCast_apply _ _ (at2 q c) (ix3 p r c) (by
      rw [Shape.rowMajor_val_two, Shape.rowMajor_val_three]
      show (p.val * 327680 + r.val) * 256 + c.val = q.val * 256 + c.val; omega)]
  refine congrArg x (funext fun a => Fin.ext ?_)
  match a with
  | ⟨0, _⟩ => show p.val + 0 = p.val; omega
  | ⟨1, _⟩ => show 0 + r.val = r.val; omega
  | ⟨2, _⟩ => show 0 + c.val = c.val; omega

/-- One gathered row of the reference, against the kernel's table and index row. -/
theorem half_gather (x : Cert.ReferenceIdeal.S2x327680x256.Idx → BitVec 32) (dst : Cert.ReferenceIdeal.S8x32768.Idx → BitVec 32)
    (h : ∀ j, (dst j).toNat < 327680) (p : Fin 2) (off : Fin 3 → ℕ) (hoff : off = ![p.val, 0, 0])
    (hs : Cert.ReferenceIdeal.S2x327680x256.Slices off Cert.ReferenceIdeal.S1x327680x256)
    (j : Cert.ReferenceIdeal.S524288x256.Idx) (i : Cert.ReferenceIdeal.S262144x256.Idx) (hi0 : (j 0).val = p.val * 262144 + (i 0).val) (hi1 : (i 1).val = (j 1).val) :
    Host.gather gather_S327680x256_S262144x1_S262144x256_1_0_n_n_0_1_1256 (shapeCast _ (extractStridedSlice S1x327680x256 off x hs) shapeCasts_S1x327680x256_S327680x256) (refColumn dst) i
      = gathered (F := F) (tabOf x) (idxOf dst) j := by
  have hi : (i 0).val < 262144 := (i 0).isLt
  have hj : (j 0).val < 524288 := (j 0).isLt
  have hd := h (at2 ⟨(i 0).val / 32768, by omega⟩ ⟨(i 0).val % 32768, Nat.mod_lt _ (by decide)⟩)
  have hn := idxOf_toNat dst h (at2 0 (j 0)) hj
  have hp := p.isLt
  have e1 : (j 0).val % 262144 / 32768 = (i 0).val / 32768 := by omega
  have e2 : (j 0).val % 32768 = (i 0).val % 32768 := by omega
  have e3 : (j 0).val / 262144 = p.val := by omega
  have en : (idxOf dst (at2 0 (j 0))).toNat = p.val * 327680
      + (dst (at2 ⟨(i 0).val / 32768, by omega⟩ ⟨(i 0).val % 32768, Nat.mod_lt _ (by decide)⟩)).toNat := by
    rw [hn]
    show (j 0).val / 262144 * 327680 + (dst (at2 ⟨(j 0).val % 262144 / 32768, _⟩ ⟨(j 0).val % 32768, _⟩)).toNat = _
    simp only [e1, e2, e3]
  rw [gather_rows]
  unfold gathered
  refine (half_row x p off hoff hs _ (i 1) ⟨(idxOf dst (at2 0 (j 0))).toNat % 655360, Nat.mod_lt _ (by decide)⟩ (by
    show (idxOf dst (at2 0 (j 0))).toNat % 655360 = p.val * 327680 + min (refColumn dst (at2 (i 0) 0)).toInt.toNat 327679
    rw [show (refColumn dst (at2 (i 0) 0)).toInt.toNat = _ from refColumn_apply dst h (i 0), en]; omega)).trans ?_
  exact congrArg (fun c => tabOf x (at2 _ c)) (Fin.ext hi1)

/-- The reference's result is the kernel's. -/
theorem refVal_eq (x : Cert.ReferenceIdeal.S2x327680x256.Idx → BitVec 32) (dst : Cert.ReferenceIdeal.S8x32768.Idx → BitVec 32)
    (h : ∀ j, (dst j).toNat < 327680) : refVal x dst = gathered (F := F) (tabOf x) (idxOf dst) := by
  funext j
  have hj : (j 0).val < 524288 := (j 0).isLt
  by_cases hlt : (j 0).val < 262144
  · refine (concatenate_pair_apply_left (s₁ := Cert.ReferenceIdeal.S262144x256) (s₂ := Cert.ReferenceIdeal.S262144x256) 0 _ _ _ j rfl (at2 (⟨(j 0).val, hlt⟩ : Fin 262144) (j 1)) (by
      intro b; match b with | ⟨0, _⟩ => rfl | ⟨1, _⟩ => rfl)).trans ?_
    exact half_gather x dst h 0 _ rfl _ j _ (by show (j 0).val = 0 * 262144 + (j 0).val; omega) rfl
  · refine (concatenate_pair_apply_right (s₁ := Cert.ReferenceIdeal.S262144x256) (s₂ := Cert.ReferenceIdeal.S262144x256) 0 _ _ _ j rfl rfl (at2 (⟨(j 0).val - 262144, by omega⟩ : Fin 262144) (j 1)) (by
        intro b hb; match b with | ⟨0, _⟩ => exact absurd rfl hb | ⟨1, _⟩ => rfl)
      (by show (j 0).val - 262144 + 262144 = (j 0).val; omega)).trans ?_
    exact half_gather x dst h 1 _ rfl _ j _ (by show (j 0).val = 1 * 262144 + ((j 0).val - 262144); omega) rfl

end Reference

end Cert.Proof.Gather
-- ==== Proof.FfnBits.lean ====
/-
  The experts' call as printed for the bits is the same program as its idealisation: the run, proved once over any
  floats, holds of both.
-/
module

public import proofs.«01_k».proof.Proof.Gen.Kernel2
public import proofs.«01_k».proof.Proof.Gen.Kernel2.Skeleton
public import proofs.«01_k».proof.Proof.Gen.Kernel2Ideal
public import proofs.«01_k».proof.Proof.Gen.Kernel2Ideal.Skeleton
public import proofs.«01_k».proof.Defs

@[expose] public section

noncomputable section

namespace Cert.Proof.Ffn

open Idealize.ShloMosaic Idealize.ShloMosaic.TcCoe Idealize.SL.Sem

set_option maxHeartbeats 1000000

/-! What the body computes, piece by piece. -/

theorem pay2_eq : @Cert.Kernel2.Gen.k0_pay2 Bits _ = @Cert.Kernel2Ideal.Gen.k0_pay2 Bits _ := rfl
theorem pay3_eq : @Cert.Kernel2.Gen.k0_pay3 Bits _ = @Cert.Kernel2Ideal.Gen.k0_pay3 Bits _ := rfl
theorem pay4_eq : @Cert.Kernel2.Gen.k0_pay4 Bits _ = @Cert.Kernel2Ideal.Gen.k0_pay4 Bits _ := rfl
theorem pay5_eq : @Cert.Kernel2.Gen.k0_pay5 Bits _ = @Cert.Kernel2Ideal.Gen.k0_pay5 Bits _ := rfl
theorem pay6_eq : @Cert.Kernel2.Gen.k0_pay6 Bits _ = @Cert.Kernel2Ideal.Gen.k0_pay6 Bits _ := rfl

theorem part_eq : @Cert.Kernel2.Gen.k0_part1_skel Bits _ = @Cert.Kernel2Ideal.Gen.k0_part1_skel Bits _ := rfl

theorem skel_eq : @Cert.Kernel2.Gen.cc0_expert_ffn_skel Bits _ = @Cert.Kernel2Ideal.Gen.cc0_expert_ffn_skel Bits _ := by
  unfold Cert.Kernel2.Gen.cc0_expert_ffn_skel Cert.Kernel2Ideal.Gen.cc0_expert_ffn_skel
  simp only [pay2_eq, pay3_eq, pay4_eq, pay5_eq, pay6_eq, Cert.Kernel2.Gen.k0_part1_eq_skeleton, Cert.Kernel2Ideal.Gen.k0_part1_eq_skeleton, part_eq]
  rfl

/-- The two bodies are one. -/
theorem body_eq : @Cert.Kernel2.cc0_expert_ffn Bits _ _ = @Cert.Kernel2Ideal.cc0_expert_ffn Bits _ _ :=
  Cert.Kernel2.Gen.cc0_expert_ffn_eq_skeleton.trans (skel_eq.trans Cert.Kernel2Ideal.Gen.cc0_expert_ffn_eq_skeleton.symm)

theorem defs₀_eq : Cert.Kernel2.defs₀ (F := Bits) = Cert.Kernel2Ideal.defs₀ (F := Bits) := by
  unfold Cert.Kernel2.defs₀ Cert.Kernel2Ideal.defs₀
  refine congrArg Defs.onTc (funext fun l => funext fun x => ?_)
  match l, x with
  | ⟨0, _⟩, (t, s) => simp only [body_eq]; rfl
  | ⟨_ + 1, h⟩, _ => exact absurd h (Nat.not_lt.2 (Nat.le_add_left _ _))

/-- The two body tables are one. -/
theorem defs_eq : Cert.Kernel2.defs (F := Bits) = Cert.Kernel2Ideal.defs (F := Bits) := by
  unfold Cert.Kernel2.defs Cert.Kernel2Ideal.defs
  exact congrArg (Pipeline.defs Cert.Kernel2Ideal.pcfgs) defs₀_eq

theorem main_eq : Cert.Kernel2.main (F := Bits) = Cert.Kernel2Ideal.main (F := Bits) := rfl

/-- What holds of every run of the one holds of every run of the other. -/
theorem run_bits (s : MemSt Cert.Kernel2Ideal.nD Cert.Kernel2Ideal.τ Cert.Kernel2Ideal.sig (Elt Bits)) (Q : _ → Prop)
    (h : θ_run (Cert.Kernel2Ideal.defs (F := Bits)) (onTc (τ := Cert.Kernel2Ideal.τ) (Cert.Kernel2Ideal.main (F := Bits))) s Q) :
    θ_run (Cert.Kernel2.defs (F := Bits)) (onTc (τ := Cert.Kernel2.τ) (Cert.Kernel2.main (F := Bits))) s Q :=
  (congrArg (fun d => θ_run d (onTc (τ := Cert.Kernel2Ideal.τ) (Cert.Kernel2Ideal.main (F := Bits))) s Q) defs_eq).mpr h

end Cert.Proof.Ffn

end
-- ==== Proof.FfnBody.lean ====
/-
  One grid point of the experts' call: what its body leaves in the result's staging buffer.
-/
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Frame
public import Idealize.ShloMosaic.Lib.Pipeline.Kit
public import Idealize.ShloMosaic.Lib.Pipeline.TableIdle
public import Idealize.ShloMosaic.Lib.Tactic
public import Idealize.ShloMosaic.Lib.WritesUnit
public import Idealize.ShloMosaic.Lib.VecWindow

@[expose] public section

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- A table on core `c`, half of it held, at contents `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The two tables: the expert of each tile, and how many of its rows are filled. -/
abbrev tbE : Memref sig .tc .smem S320 .i32 := Memref.whole main_arg0
abbrev tbN : Memref sig .tc .smem S320 .i32 := Memref.whole main_arg1

/-- The count of a point's filled rows, read off the second table. -/
abbrev cnt (i : grid0.Coords) {c : Dev nD} (x : TbBuf (F := F) c tbN) : Elt F .i32 :=
  tbN.view.readAt (Elt F) (Rect.unit (s := S320) (k0_off1 i) S1.size (k0_off1_inb i)) x (Shape.Idx.first (numel1_S1.symm ▸ Nat.one_pos))

/-- A block read a plane at a time. -/
abbrev plane0 (x : S2x1024x256.Idx → Elt F .i32) : Vec F S1x1024x256 .i32 :=
  fun i => x ((Rect.unit (s := S2x1024x256) ![0, 0, 0] S1x1024x256.size inb_S2x1024x256_S1x1024x256_0_0_0).idx i)
abbrev plane1 (x : S2x1024x256.Idx → Elt F .i32) : Vec F S1x1024x256 .i32 :=
  fun i => x ((Rect.unit (s := S2x1024x256) ![1, 0, 0] S1x1024x256.size inb_S2x1024x256_S1x1024x256_1_0_0).idx i)

/-- Where an entry of the result's block lies in its piece. -/
def inPiece (y : S4x1024x256.Idx) : S1x1024x256.Idx := fun
  | ⟨0, _⟩ => (0 : Fin 1)
  | ⟨1, _⟩ => y (1 : Fin 3)
  | ⟨2, _⟩ => y (2 : Fin 3)

/-- An entry of piece `k` is its place in the piece, offset by the piece. -/
theorem inPiece_pos (y : S4x1024x256.Idx) (k : ℕ) (hk : (y (0 : Fin 3)).val = k) :
    ∀ a : Fin S4x1024x256.rank, (y a).val = (![k, 0, 0] : Fin 3 → ℕ) a + (inPiece y a).val := fun
  | ⟨0, _⟩ => hk
  | ⟨1, _⟩ => (Nat.zero_add _).symm
  | ⟨2, _⟩ => (Nat.zero_add _).symm

/-- What a point with filled rows leaves in the result's block: piece by piece, the rows through the expert. -/
def outV (n : Elt F .i32) (x3 : S2x1024x256.Idx → Elt F .i32) (x4 x5 : S1x1x1024x256.Idx → Elt F .f32)
    (x6 : S1x1x256x1024.Idx → Elt F .f32) (y : S4x1024x256.Idx) : Elt F .bf16 :=
  if (y (0 : Fin 3)).val = 0 then k0_pay2 (k0_pay6 n (plane0 x3) (plane1 x3) x4 x5) x6 (inPiece y)
  else if (y (0 : Fin 3)).val = 1 then k0_pay3 (k0_pay6 n (plane0 x3) (plane1 x3) x4 x5) x6 (inPiece y)
  else if (y (0 : Fin 3)).val = 2 then k0_pay4 (k0_pay6 n (plane0 x3) (plane1 x3) x4 x5) x6 (inPiece y)
  else k0_pay5 (k0_pay6 n (plane0 x3) (plane1 x3) x4 x5) x6 (inPiece y)

/-- Four pieces stored one after another read back as the pieces. -/
theorem four_pieces (a7 : Memref sig .tc .vmem S4x1024x256 .bf16) (f : a7.view.ty.Contents (Elt F))
    (w0 w1 w2 w3 : S1x1024x256.Idx → Elt F .bf16) :
    a7.view.read (Elt F) (a7.view.writes (Elt F) f
      [⟨Rect.unit (s := S4x1024x256) ![3, 0, 0] S1x1024x256.size inb_S4x1024x256_S1x1024x256_3_0_0, w3⟩,
        ⟨Rect.unit (s := S4x1024x256) ![2, 0, 0] S1x1024x256.size inb_S4x1024x256_S1x1024x256_2_0_0, w2⟩,
        ⟨Rect.unit (s := S4x1024x256) ![1, 0, 0] S1x1024x256.size inb_S4x1024x256_S1x1024x256_1_0_0, w1⟩,
        ⟨Rect.unit (s := S4x1024x256) ![0, 0, 0] S1x1024x256.size inb_S4x1024x256_S1x1024x256_0_0_0, w0⟩])
      = fun y => if (y (0 : Fin 3)).val = 0 then w0 (inPiece y) else if (y (0 : Fin 3)).val = 1 then w1 (inPiece y)
          else if (y (0 : Fin 3)).val = 2 then w2 (inPiece y) else w3 (inPiece y) := by
  funext y
  have h4 : (y (0 : Fin 3)).val < 4 := (y (0 : Fin 3)).isLt
  by_cases h3 : (y (0 : Fin 3)).val = 3
  · rw [if_neg (by omega), if_neg (by omega), if_neg (by omega)]
    exact View.read_writes_cons_unit_of_mem (s := S4x1024x256) (off' := ![3, 0, 0]) (size := S1x1024x256.size) a7.view _ _ _ _ y (inPiece y) rfl (inPiece_pos y 3 h3)
  refine (View.read_writes_cons_unit_of_not_mem _ _ _ _ _ _ rfl (0 : Fin 3) (.inl (show (y (0 : Fin 3)).val < 3 by omega))).trans ?_
  by_cases h2 : (y (0 : Fin 3)).val = 2
  · rw [if_neg (by omega), if_neg (by omega), if_pos h2]
    exact View.read_writes_cons_unit_of_mem (s := S4x1024x256) (off' := ![2, 0, 0]) (size := S1x1024x256.size) a7.view _ _ _ _ y (inPiece y) rfl (inPiece_pos y 2 h2)
  refine (View.read_writes_cons_unit_of_not_mem _ _ _ _ _ _ rfl (0 : Fin 3) (.inl (show (y (0 : Fin 3)).val < 2 by omega))).trans ?_
  by_cases h1 : (y (0 : Fin 3)).val = 1
  · rw [if_neg (by omega), if_pos h1]
    exact View.read_writes_cons_unit_of_mem (s := S4x1024x256) (off' := ![1, 0, 0]) (size := S1x1024x256.size) a7.view _ _ _ _ y (inPiece y) rfl (inPiece_pos y 1 h1)
  refine (View.read_writes_cons_unit_of_not_mem _ _ _ _ _ _ rfl (0 : Fin 3) (.inl (show (y (0 : Fin 3)).val < 1 by omega))).trans ?_
  have h0 : (y (0 : Fin 3)).val = 0 := by omega
  rw [if_pos h0]
  exact View.read_writes_cons_unit_of_mem (s := S4x1024x256) (off' := ![0, 0, 0]) (size := S1x1024x256.size) a7.view _ _ _ _ y (inPiece y) rfl (inPiece_pos y 0 h0)

/-- A point whose tile has filled rows: the inputs are kept, and the result's block is `outV` of them. -/
theorem body_filled (c : Dev nD) (i : grid0.Coords)
    (a3 : Memref sig .tc .vmem S2x1024x256 .i32) (h3 : a3.IsWhole) (a4 : Memref sig .tc .vmem S1x1x1024x256 .f32) (h4 : a4.IsWhole)
    (a5 : Memref sig .tc .vmem S1x1x1024x256 .f32) (h5 : a5.IsWhole) (a6 : Memref sig .tc .vmem S1x1x256x1024 .f32) (h6 : a6.IsWhole)
    (a7 : Memref sig .tc .vmem S4x1024x256 .bf16) (h7 : a7.IsWhole)
    (x3 : S2x1024x256.Idx → Elt F .i32) (x4 x5 : S1x1x1024x256.Idx → Elt F .f32) (x6 : S1x1x256x1024.Idx → Elt F .f32)
    (x7 : S4x1024x256.Idx → Elt F .bf16) (xt : TbBuf (F := F) c tbN) (hc : k0_cond1 (cnt i xt) = 1#1) (K : PUnit → sProp 𝕄) :
    iprop(tbPt c tbN xt ∗ owns (c : Thread nD τ) a3 fullShare x3 ∗ owns (c : Thread nD τ) a4 fullShare x4
        ∗ owns (c : Thread nD τ) a5 fullShare x5 ∗ owns (c : Thread nD τ) a6 fullShare x6 ∗ owns (c : Thread nD τ) a7 fullShare x7
        ∗ (iprop(tbPt c tbN xt ∗ owns (c : Thread nD τ) a3 fullShare x3 ∗ owns (c : Thread nD τ) a4 fullShare x4
        ∗ owns (c : Thread nD τ) a5 fullShare x5 ∗ owns (c : Thread nD τ) a6 fullShare x6
        ∗ owns (c : Thread nD τ) a7 fullShare (outV (cnt i xt) x3 x4 x5 x6)) -∗ K ⟨⟩))
      ⊢ wp frame (wpE (defs₀ (F := F)) Variants.none c none) Set.univ
          (cc0_expert_ffn i tbE (Memref.isWhole_whole _) tbN (Memref.isWhole_whole _) a3 h3 a4 h4 a5 h5 a6 h6 a7 h7) K := by
  simp only [cc0_expert_ffn_eq_skeleton]; unfold cc0_expert_ffn_skel
  simp only [k0_part1_eq_skeleton]; unfold k0_part1_skel
  simp only [owns_eq_rep]
  iintro ⟨HT, H3, H4, H5, H6, H7, Hk⟩
  sl_exec
  sl_step
  iapply Hk
  isplitl [HT]; · iexact HT
  isplitl [H3]; · iexact H3
  isplitl [H4]; · iexact H4
  isplitl [H5]; · iexact H5
  isplitl [H6]; · iexact H6
  rw [← owns_eq_rep]; unfold owns
  iexists _; isplitr; swap; · iexact H7
  ipureintro
  have e0 : View.readAt (Elt F) a3.view (Rect.unit (s := S2x1024x256) ![0, 0, 0] S1x1024x256.size inb_S2x1024x256_S1x1024x256_0_0_0).toLoadRect (a3.view.rep x3) = plane0 x3 :=
    View.readAt_rep _ _ _
  have e1 : View.readAt (Elt F) a3.view (Rect.unit (s := S2x1024x256) ![1, 0, 0] S1x1024x256.size inb_S2x1024x256_S1x1024x256_1_0_0).toLoadRect (a3.view.rep x3) = plane1 x3 :=
    View.readAt_rep _ _ _
  have e4 : body_filled.sl.v28 a4 x4 = x4 := View.readAt_rep_full a4.view x4 _
  have e5 : body_filled.sl.v32 a5 x5 = x5 := View.readAt_rep_full a5.view x5 _
  have e6 : body_filled.sl.v40 a6 x6 = x6 := View.readAt_rep_full a6.view x6 _
  refine (four_pieces a7 _ _ _ _ _).trans ?_
  rw [e4, e5, e6]
  funext y
  unfold outV
  rw [← e0, ← e1]
  rfl

/-- A point whose tile has no filled row: every buffer is kept. -/
theorem body_empty (c : Dev nD) (i : grid0.Coords)
    (a3 : Memref sig .tc .vmem S2x1024x256 .i32) (h3 : a3.IsWhole) (a4 : Memref sig .tc .vmem S1x1x1024x256 .f32) (h4 : a4.IsWhole)
    (a5 : Memref sig .tc .vmem S1x1x1024x256 .f32) (h5 : a5.IsWhole) (a6 : Memref sig .tc .vmem S1x1x256x1024 .f32) (h6 : a6.IsWhole)
    (a7 : Memref sig .tc .vmem S4x1024x256 .bf16) (h7 : a7.IsWhole)
    (xt : TbBuf (F := F) c tbN) (hc : ¬ k0_cond1 (cnt i xt) = 1#1) (K : PUnit → sProp 𝕄) :
    iprop(tbPt c tbN xt ∗ (tbPt c tbN xt -∗ K ⟨⟩))
      ⊢ wp frame (wpE (defs₀ (F := F)) Variants.none c none) Set.univ
          (cc0_expert_ffn i tbE (Memref.isWhole_whole _) tbN (Memref.isWhole_whole _) a3 h3 a4 h4 a5 h5 a6 h6 a7 h7) K := by
  simp only [cc0_expert_ffn_eq_skeleton]; unfold cc0_expert_ffn_skel
  iintro ⟨HT, Hk⟩
  sl_exec
  sl_step
  iapply Hk
  iexact HT

end Cert.Proof.Ffn

end
-- ==== Proof.FfnRun.lean ====
/-
  The experts' call over the whole grid: every execution terminates, its inputs are kept, and each block of the
  result whose tile has filled rows holds what its point leaves there.
-/
module

public import proofs.«01_k».proof.Proof.FfnBody
public import Idealize.ShloMosaic.Lib.Pipeline.FrameBody
public import Idealize.ShloMosaic.Lib.Pipeline.ArrRel

@[expose] public section

noncomputable section

namespace Cert.Proof.Ffn

open Cert.Kernel2Ideal Cert.Kernel2Ideal.Gen
open Idealize.ShloMosaic Idealize.ShloMosaic.TcCoe Idealize.ShloMosaic.Tactic
open Idealize.SL Idealize.SL.RA Idealize.SL.BI
open Idealize.ShloMosaic.Pipeline (RDat)
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The buffers of core `c` at launch. -/
abbrev V (c : Dev nD) (b : Ref sig .tc) : Buf (Elt F) ((c.tc : Thread nD τ).loc b) := m ((c.tc : Thread nD τ).loc b)

/-- What the two tables hold at launch. -/
def tbl : pre0.Contents (Elt F) := fun j => V m (0 : Dev nD) (pre0.ref j)

theorem V_pre (c : Dev nD) (j : Fin 2) : V m c (pre0.ref j) = tbl m j := by
  obtain rfl : c = 0 := Subsingleton.elim _ _
  rfl

/-- The tables as launched are admissible, and the pipeline they fix. -/
abbrev adm (hO : ok0 (F := F) (tbl m)) : (pcfg0 (F := F)).Adm := ⟨tbl m, hO⟩
abbrev cfgM (hO : ok0 (F := F) (tbl m)) : Pipeline.Cfg sig Λ₀ := cfg0 (adm m hO)

theorem phiT_eq (c : Dev nD) :
    (Pipeline.ΦT pre0 (tbl m) c : sProp 𝕄) = iprop(tbPt c tbE (tbl m 0) ∗ tbPt c tbN (tbl m 1)) := by
  unfold Pipeline.ΦT Pipeline.prefHeld
  rw [show (Finset.univ : Finset (Fin 2)) = insert (0 : Fin 2) {(1 : Fin 2)} from by decide, bigSep_insert (by decide), bigSep_singleton]
  rfl

variable (hO : ok0 (F := F) (tbl m))

/-- The block of window `w` at point `t`, as its array stood at launch. -/
def blk (c : Dev nD) (w : Fin 5) (t : Fin (cfgM m hO).N) : ((cfgM m hO).win w).block.Idx → Elt F ((cfgM m hO).win w).elt :=
  ((cfgM m hO).win w).fill ((cfgM m hO).grid.coords t) (fun _ => Classical.arbitrary _)
    ((((cfgM m hO).win w).blk t).view.read (Elt F) (V m c (Pipeline.arrRef spec0 w)))

/-- The filled rows of point `t`'s tile. -/
def cntAt (c : Dev nD) (t : Fin (cfgM m hO).N) : Elt F .i32 := cnt (F := F) (c := c) (grid0.coords t) (tbl m 1)

/-- What point `t` leaves in the result's block when its tile has filled rows. -/
def outAt (c : Dev nD) (t : Fin (cfgM m hO).N) : S4x1024x256.Idx → Elt F .bf16 :=
  outV (cntAt m hO c t) (blk m hO c 0 t) (blk m hO c 1 t) (blk m hO c 2 t) (blk m hO c 3 t)

/-- What a point does to its staging buffers: the inputs are kept, and the result's block is `outAt` where the tile has filled rows. -/
def after (c : Dev nD) : (w : Fin (cfgM m hO).W) → (t : Fin (cfgM m hO).N) →
    (Y X : ((cfgM m hO).win w).block.Idx → Elt F ((cfgM m hO).win w).elt) → Prop
  | 0 => fun _ Y X => X = Y
  | 1 => fun _ Y X => X = Y
  | 2 => fun _ Y X => X = Y
  | 3 => fun _ Y X => X = Y
  | 4 => fun t _ X => k0_cond1 (cntAt m hO c t) = 1#1 → X = outAt m hO c t

def rdat (c : Dev nD) : RDat τ (Elt F) Unit ℕ (UR sig nD τ) ℕ (cfgM m hO) c where
  A w := V m c (Pipeline.arrRef spec0 w)
  after := after m hO c
  Φ _ := iprop(Pipeline.ΦA (cfgM m hO).spec c ∗ Pipeline.ΦT pre0 (tbl m) c)
  q _ := fullShare
  owed _ := 0

/-- An input's buffer holds its block wherever the body finds it. -/
theorem found (c : Dev nD) (w : Fin 5) (hw : ((cfgM m hO).win w).isOut = false)
    (hclip : ∀ i a, ((cfgM m hO).win w).clip i a = none) (hkeep : ∀ t Y X, after m hO c w t Y X → X = Y)
    (t : Fin (cfgM m hO).N) (Y : ((cfgM m hO).win w).block.Idx → Elt F ((cfgM m hO).win w).elt)
    (hY : (rdat m hO c).Finds w t Y) : Y = blk m hO c w t := by
  obtain ⟨d, rfl⟩ := (rdat m hO c).finds_in_eq_fetched w hw (fun t t' _ => funext fun a => (hclip _ a).trans (hclip _ a).symm) hkeep t Y hY
  exact Pipeline.fill_of_clip_none (cfg := cfgM m hO) w _ (hclip _) d _ _

theorem body_obligation (c : Dev nD) : (rdat m hO c).BodyObligation (defs₀ (F := F)) Variants.none () Set.univ := by
  intro t Y hY
  have e0 := found m hO c 0 rfl (fun _ _ => rfl) (fun _ _ _ h => h) t _ (hY 0)
  have e1 := found m hO c 1 rfl (fun _ _ => rfl) (fun _ _ _ h => h) t _ (hY 1)
  have e2 := found m hO c 2 rfl (fun _ _ => rfl) (fun _ _ _ h => h) t _ (hY 2)
  have e3 := found m hO c 3 rfl (fun _ _ => rfl) (fun _ _ _ h => h) t _ (hY 3)
  rw [bigSep_W0, bigSep_W0]
  rw [show (rdat m hO c).Φ t.castSucc = iprop(Pipeline.ΦA (cfgM m hO).spec c ∗ tbPt c tbE (tbl m 0) ∗ tbPt c tbN (tbl m 1)) from
    congrArg (fun X => iprop(Pipeline.ΦA (cfgM m hO).spec c ∗ X)) (phiT_eq m c),
    show (rdat m hO c).Φ t.succ = iprop(Pipeline.ΦA (cfgM m hO).spec c ∗ tbPt c tbE (tbl m 0) ∗ tbPt c tbN (tbl m 1)) from
    congrArg (fun X => iprop(Pipeline.ΦA (cfgM m hO).spec c ∗ X)) (phiT_eq m c),
    show (rdat m hO c).owesAt () t.succ = (rdat m hO c).owesAt () t.castSucc from rfl]
  unfold defs₀; rw [Defs.onTc_tc]
  by_cases hc : k0_cond1 (cntAt m hO c t) = 1#1
  · iintro ⟨⟨HA, HE, HN⟩, HO, H0, H1, H2, H3, H4⟩
    iapply (body_filled c (grid0.coords t) _ _ _ _ _ _ _ _ _ _ (Y 0) (Y 1) (Y 2) (Y 3) (Y 4) (tbl m 1) hc _)
    isplitl [HN]; · iexact HN
    isplitl [H0]; · iexact H0
    isplitl [H1]; · iexact H1
    isplitl [H2]; · iexact H2
    isplitl [H3]; · iexact H3
    isplitl [H4]; · iexact H4
    iintro ⟨HN, H0, H1, H2, H3, H4⟩
    isplitl [HA HE HN]
    · isplitl [HA]; · iexact HA
      isplitl [HE]; · iexact HE
      iexact HN
    isplitl [HO]; · iexact HO
    isplitl [H0]
    · iexists (Y 0); isplitr; · ipureintro; exact rfl
      iexact H0
    isplitl [H1]
    · iexists (Y 1); isplitr; · ipureintro; exact rfl
      iexact H1
    isplitl [H2]
    · iexists (Y 2); isplitr; · ipureintro; exact rfl
      iexact H2
    isplitl [H3]
    · iexists (Y 3); isplitr; · ipureintro; exact rfl
      iexact H3
    iexists _; isplitr; swap; · iexact H4
    ipureintro; intro _; rw [e0, e1, e2, e3]; rfl
  · iintro ⟨⟨HA, HE, HN⟩, HO, H0, H1, H2, H3, H4⟩
    iapply (body_empty c (grid0.coords t) _ _ _ _ _ _ _ _ _ _ (tbl m 1) hc _)
    isplitl [HN]; · iexact HN
    iintro HN
    isplitl [HA HE HN]
    · isplitl [HA]; · iexact HA
      isplitl [HE]; · iexact HE
      iexact HN
    isplitl [HO]; · iexact HO
    isplitl [H0]
    · iexists (Y 0); isplitr; · ipureintro; exact rfl
      iexact H0
    isplitl [H1]
    · iexists (Y 1); isplitr; · ipureintro; exact rfl
      iexact H1
    isplitl [H2]
    · iexists (Y 2); isplitr; · ipureintro; exact rfl
      iexact H2
    isplitl [H3]
    · iexists (Y 3); isplitr; · ipureintro; exact rfl
      iexact H3
    iexists (Y 4); isplitr; swap; · iexact H4
    ipureintro; exact fun h => absurd h hc

theorem hmain : Pipeline.HMainP (Ix := Unit) (Name := ℕ) (U := UR sig nD τ) (Lvl := ℕ) (pcfgs (F := F)) 0 defs₀ Variants.none m main (V m) :=
  Pipeline.hmainP_region pcfgs 0 defs₀ Variants.none m main fun c => (main_chain c).trans rfl

theorem share_eq (c : Dev nD) (w : Fin 5) : (rdat m hO c).share w = fullShare := by unfold RDat.share; split <;> rfl

set_option backward.isDefEq.respectTransparency.types false in
/-- Every weakly fair execution from a memory whose tables are admissible terminates; every final state has each array at some contents
    the points may leave there, every other buffer as launched, and every counter at zero. -/
theorem run_main :
    θ_run defs (onTc (τ := τ) (main (F := F))) (s₀ m ρ)
      (fun r => RDat.FramePost (cfgM m hO) (rdat m hO) (V m) r ∧ r.2.sem = fun _ => 0) :=
  RDat.θ_run_frameP (Q' := _) pcfgs (fun _ => adm m hO) (0 : Fin 1) launch0 defs₀ Variants.none (rdat m hO) m ρ main
    (hbody := body_obligation m hO) (hshare := share_eq m hO) (howed := fun _ _ => rfl) (V := V m) (hmain := hmain m)
    (hA := fun _ _ => rfl) (hpf := V_pre m) (hΦ := fun _ _ => rfl)

end Cert.Proof.Ffn

end
-- ==== Proof.FfnFrame.lean ====
/-
  The experts' call where the experts are in range: its tables are admissible, its arguments end as launched, and each
  entry of the result in a tile with filled rows is the one its point leaves.
-/
module

public import proofs.«01_k».proof.Proof.FfnRun
public import proofs.«01_k».proof.Proof.Gen.Pre_experts_in_range
public import Idealize.ShloMosaic.Lib.Pipeline.ValueKit.Geometry

@[expose] public section

noncomputable section

namespace Cert.Proof.Ffn

open Cert.Kernel2Ideal Cert.Kernel2Ideal.Gen
open Idealize.ShloMosaic Idealize.ShloMosaic.TcCoe Idealize.SL.Sem
open Idealize.ShloMosaic.Pipeline (RDat)

variable {F : FTy → Type} [FloatOps F] [∀ e, Nonempty (Elt F e)]

theorem and_one (a b : BitVec 1) : IntOp.andi a b = 1#1 ↔ a = 1#1 ∧ b = 1#1 := by
  show a &&& b = 1#1 ↔ _
  revert a b; decide

theorem ofBool_one (b : Bool) : BitVec.ofBool b = 1#1 ↔ b = true := by cases b <;> decide

/-- Where the precondition holds, every entry of the first table names one of the 64 experts. -/
theorem expert_lt (a0 a1 : S320.Idx → BitVec 32) (a2 : S2x327680x256.Idx → BitVec 32) (a3 a4 : FVec F S2x64x1024x256 .f32) (a5 : FVec F S2x64x256x1024 .f32)
    (h : Cert.Pre_experts_in_range.fn (F := F) a0 a1 a2 a3 a4 a5 = fun _ => 1#1) (j : S320.Idx) : (a0 j).toNat < 64 := by
  have e := congrFun h j
  simp only [Cert.Pre_experts_in_range.fn, andi, cmpi, broadcastInDim, constantI] at e
  simp only [IntOp.cmpi, and_one, ofBool_one, BitVec.sle_eq_decide, BitVec.slt_eq_decide,
    decide_eq_true_eq, BitVec.toInt_eq_toNat_cond, BitVec.toNat_ofNat, Nat.reducePow, Nat.reduceMod] at e
  omega

variable (m : (ℓ : Loc nD τ sig) → Buf (Elt F) ℓ) (ρ : Dev nD → PrngReg)

/-- The experts' tables are admissible: every block they name lies inside its array. -/
theorem ok_of_lt (h : ∀ j : S320.Idx, ((tbl m 0 : S320.Idx → BitVec 32) j).toNat < 64) : ok0 (F := F) (tbl m) := by
  refine ⟨fun i => ⟨?_, .inl rfl⟩, fun i => ⟨?_, .inl rfl⟩, fun i => ⟨?_, .inl rfl⟩⟩
  · exact fun
      | ⟨0, _⟩ => (by decide : (0 + 1) * 1 ≤ 2)
      | ⟨1, _⟩ => (show (_ + 1) * 1 ≤ 64 by rw [Nat.mul_one]; exact h _)
      | ⟨2, _⟩ => (by decide : (0 + 1) * 1024 ≤ 1024)
      | ⟨3, _⟩ => (by decide : (0 + 1) * 256 ≤ 256)
  · exact fun
      | ⟨0, _⟩ => (by decide : (0 + 1) * 1 ≤ 2)
      | ⟨1, _⟩ => (show (_ + 1) * 1 ≤ 64 by rw [Nat.mul_one]; exact h _)
      | ⟨2, _⟩ => (by decide : (0 + 1) * 1024 ≤ 1024)
      | ⟨3, _⟩ => (by decide : (0 + 1) * 256 ≤ 256)
  · exact fun
      | ⟨0, _⟩ => (by decide : (0 + 1) * 1 ≤ 2)
      | ⟨1, _⟩ => (show (_ + 1) * 1 ≤ 64 by rw [Nat.mul_one]; exact h _)
      | ⟨2, _⟩ => (by decide : (0 + 1) * 256 ≤ 256)
      | ⟨3, _⟩ => (by decide : (0 + 1) * 1024 ≤ 1024)

variable (hO : ok0 (F := F) (tbl m))

/-- The arguments end as launched. -/
theorem args_kept (r : PUnit × MemSt nD τ sig (Elt F)) (h : RDat.FramePost (cfgM m hO) (rdat m hO) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h c).2 main_arg0 (Pipeline.mem_restRefs_of (win := spec0) _ (by decide) (by decide)),
    (h c).2 main_arg1 (Pipeline.mem_restRefs_of (win := spec0) _ (by decide) (by decide)),
    h.arr_in c (0 : Fin 5) rfl, h.arr_in c (1 : Fin 5) rfl, h.arr_in c (2 : Fin 5) rfl, h.arr_in c (3 : Fin 5) rfl⟩

theorem map4 : ∀ t : Fin grid0.N, cc0_transform_4 (grid0.coords t) 0 = 0 ∧ cc0_transform_4 (grid0.coords t) 1 = t.val ∧ cc0_transform_4 (grid0.coords t) 2 = 0 := by
  decide +kernel

/-- Point `t` writes block `t` of the rows back. -/
theorem flush4 : ∀ t : Fin grid0.N, (true && (t.val + 1 = grid0.N || decide (∃ h : t.val + 1 < grid0.N,
    cc0_transform_4 (grid0.coords ⟨t.val + 1, h⟩) ≠ cc0_transform_4 (grid0.coords t)))) = true := by
  intro t
  by_cases h : t.val + 1 < grid0.N
  · have hne : cc0_transform_4 (grid0.coords ⟨t.val + 1, h⟩) ≠ cc0_transform_4 (grid0.coords t) := fun e => by
      have := congrFun e 1
      rw [(map4 _).2.1, (map4 _).2.1] at this
      simp at this
    rw [decide_eq_true (⟨h, hne⟩ : ∃ h : t.val + 1 < grid0.N, _), Bool.or_true, Bool.and_true]
  · have : t.val + 1 = grid0.N := by have := t.isLt; omega
    rw [decide_eq_true this, Bool.true_or, Bool.and_true]

/-- The blocks written back are the whole result. -/
theorem covers : ((cfgM m hO).win 4).Covers := by
  refine ⟨fun | ⟨0, _⟩ => (by decide : 0 < 4) | ⟨1, _⟩ => (by decide : 0 < 1024) | ⟨2, _⟩ => (by decide : 0 < 256), fun β => ?_⟩
  have h0 : (β (0 : Fin 3)).val < 1 := lt_of_lt_of_eq (β (0 : Fin 3)).isLt (show (4 + 4 - 1) / 4 = 1 from rfl)
  have h1 : (β (1 : Fin 3)).val < 320 := lt_of_lt_of_eq (β (1 : Fin 3)).isLt (show (327680 + 1024 - 1) / 1024 = 320 from rfl)
  have h2 : (β (2 : Fin 3)).val < 1 := lt_of_lt_of_eq (β (2 : Fin 3)).isLt (show (256 + 256 - 1) / 256 = 1 from rfl)
  have hm := map4 ⟨(β (1 : Fin 3)).val, h1⟩
  refine ⟨⟨(β (1 : Fin 3)).val, h1⟩, flush4 _, fun
    | ⟨0, _⟩ => ⟨hm.1.trans (Nat.lt_one_iff.mp h0).symm, .inl rfl⟩
    | ⟨1, _⟩ => ⟨hm.2.1, .inl rfl⟩
    | ⟨2, _⟩ => ⟨hm.2.2.trans (Nat.lt_one_iff.mp h2).symm, .inl rfl⟩⟩

/-- A property that what every point leaves in its block has, every entry of the result has. -/
theorem result_forall (r : PUnit × MemSt nD τ sig (Elt F)) (h : RDat.FramePost (cfgM m hO) (rdat m hO) (V m) r) (c : Dev nD)
    (P : S4x327680x256.Idx → Elt F .bf16 → Prop)
    (hP : ∀ (t : Fin grid0.N) (y : S4x1024x256.Idx) (v : Elt F .bf16), (k0_cond1 (cntAt m hO c t) = 1#1 → v = outAt m hO c t y) →
      P ((((cfgM m hO).win 4).blk t).view.emb y) v) (i : S4x327680x256.Idx) :
    P i (r.2.mem ((c.tc : Thread nD τ).loc main_v0) i) := by
  obtain ⟨after, hL, hA⟩ := h.exists_exact c
  have e := hA (4 : Fin 5)
  refine (congrArg (P i) (congrFun e i)).mpr (Pipeline.Dat.arrAt_forall_of_covers (((rdat m hO c).withAfter after)) (4 : Fin 5) P (covers m hO) (fun t hf y => ?_) i (Memref.isWhole_whole _))
  obtain ⟨Y, -, hX⟩ := hL (4 : Fin 5) t hf
  exact hP t y _ fun hc => congrFun (hX hc) y

end Cert.Proof.Ffn

end
-- ==== Proof.FfnValue.lean ====
/-
  The value of the experts' call: the kernel's blocks and the reference's arrays, read at an index, are the same sums.
-/
module

public import proofs.«01_k».proof.Proof.FfnFrame
public import Idealize.ShloMosaic.Lib.Pointwise
public import Idealize.ShloMosaic.Lib.Tactic.CleanTypes

@[expose] public section

noncomputable section

namespace Cert.Proof.Ffn

open Cert.Kernel2Ideal Cert.Kernel2Ideal.Gen
open Idealize.ShloMosaic Idealize.ShloMosaic.TcCoe Idealize.SL.Sem

set_option maxRecDepth 16384

/-! ## One row through one expert -/

/-- Column `x` of a token's 1024 columns, out of its 2 × 256 words: the low half of word `l` of plane `p` is column
    `512 p + l`, its high half column `512 p + 256 + l`. -/
def column (w : Fin 2 → Fin 256 → BitVec 32) (x : Fin 1024) : EReal :=
  if h0 : x.val < 256 then Ideal.ofBits .f32 (IntOp.shli .vector (w 0 ⟨x.val, h0⟩) 16#32)
  else if h1 : x.val - 256 < 256 then Ideal.ofBits .f32 (IntOp.andi (w 0 ⟨x.val - 256, h1⟩) 4294901760#32)
  else if h2 : x.val - 256 - 256 < 256 then Ideal.ofBits .f32 (IntOp.shli .vector (w 1 ⟨x.val - 256 - 256, h2⟩) 16#32)
  else Ideal.ofBits .f32 (IntOp.andi (w 1 ⟨x.val - 256 - 256 - 256, by have := x.isLt; omega⟩) 4294901760#32)

/-- The same column of row `q` of a tile with `n` filled rows: zero past them. -/
def masked (q n : BitVec 32) (w : Fin 2 → Fin 256 → BitVec 32) (x : Fin 1024) : EReal :=
  Scalar.select (IntOp.cmpi .slt q n) (column w x) 0

/-- One entry of the expert's hidden row: `silu(x·w1) (x·w3)`. -/
def hidden (q n : BitVec 32) (w : Fin 2 → Fin 256 → BitVec 32) (w1 w3 : Fin 1024 → EReal) : EReal :=
  (∑ x, masked q n w x * w1 x) * Ideal.logistic (∑ x, masked q n w x * w1 x) * ∑ x, masked q n w x * w3 x

/-- One entry of the expert's result: the hidden row times a column of `w2`. -/
def rowOut (q n : BitVec 32) (w : Fin 2 → Fin 256 → BitVec 32) (w1 w3 : Fin 1024 → Fin 256 → EReal) (w2 : Fin 256 → EReal) : EReal :=
  ∑ h, hidden q n w (fun x => w1 x h) (fun x => w3 x h) * w2 h

theorem select_mul (b : BitVec 1) (x y : EReal) : Scalar.select b (x * y) 0 = Scalar.select b x 0 * y := by
  unfold Scalar.select; split
  · rfl
  · exact (zero_mul y).symm

/-! ## The kernel's block -/

theorem pay6_apply (n : Elt Ideal .i32) (x3 : S2x1024x256.Idx → Elt Ideal .i32) (x4 x5 : S1x1x1024x256.Idx → Elt Ideal .f32) (r : Fin 1024) (h : Fin 256) :
    k0_pay6 n (plane0 x3) (plane1 x3) x4 x5 (ix2 r h)
      = hidden (BitVec.ofNat 32 r.val) n (fun p l => x3 (ix3 p r l)) (fun x => x4 (ix4 0 0 x h)) (fun x => x5 (ix4 0 0 x h)) := by
  pointwise [k0_pay6, plane0, plane1]
  simp only [select_mul]
  rfl

theorem pay2_apply (v39 : FVec Ideal S1024x256 .bf16) (x6 : Vec Ideal S1x1x256x1024 .f32) (a : Fin 1) (r : Fin 1024) (j : Fin 256) :
    k0_pay2 v39 x6 (ix3 a r j) = ∑ x, v39 (ix2 r x) * x6 (ix4 0 0 x ⟨j.val, by omega⟩) := by
  pointwise [k0_pay2, k0_pay1]

theorem pay3_apply (v39 : FVec Ideal S1024x256 .bf16) (x6 : Vec Ideal S1x1x256x1024 .f32) (a : Fin 1) (r : Fin 1024) (j : Fin 256) :
    k0_pay3 v39 x6 (ix3 a r j) = ∑ x, v39 (ix2 r x) * x6 (ix4 0 0 x ⟨256 + j.val, by omega⟩) := by
  pointwise [k0_pay3, k0_pay1]

theorem pay4_apply (v39 : FVec Ideal S1024x256 .bf16) (x6 : Vec Ideal S1x1x256x1024 .f32) (a : Fin 1) (r : Fin 1024) (j : Fin 256) :
    k0_pay4 v39 x6 (ix3 a r j) = ∑ x, v39 (ix2 r x) * x6 (ix4 0 0 x ⟨512 + j.val, by omega⟩) := by
  pointwise [k0_pay4, k0_pay1]

theorem pay5_apply (v39 : FVec Ideal S1024x256 .bf16) (x6 : Vec Ideal S1x1x256x1024 .f32) (a : Fin 1) (r : Fin 1024) (j : Fin 256) :
    k0_pay5 v39 x6 (ix3 a r j) = ∑ x, v39 (ix2 r x) * x6 (ix4 0 0 x ⟨768 + j.val, by omega⟩) := by
  pointwise [k0_pay5, k0_pay1]

/-- Entry `(k, r, j)` of a filled tile's block: column `256 k + j` of row `r` through the expert. -/
theorem outV_apply (n : Elt Ideal .i32) (x3 : S2x1024x256.Idx → Elt Ideal .i32) (x4 x5 : S1x1x1024x256.Idx → Elt Ideal .f32)
    (x6 : S1x1x256x1024.Idx → Elt Ideal .f32) (k : Fin 4) (r : Fin 1024) (j : Fin 256) :
    outV (F := Ideal) n x3 x4 x5 x6 (ix3 k r j)
      = rowOut (BitVec.ofNat 32 r.val) n (fun p l => x3 (ix3 p r l)) (fun x h => x4 (ix4 0 0 x h)) (fun x h => x5 (ix4 0 0 x h))
          (fun h => x6 (ix4 0 0 h ⟨k.val * 256 + j.val, by omega⟩)) := by
  have hi : inPiece (ix3 k r j) = ix3 (0 : Fin 1) r j := by
    funext a
    match a with
    | ⟨0, _⟩ => rfl
    | ⟨1, _⟩ => rfl
    | ⟨2, _⟩ => rfl
  unfold outV rowOut
  rw [hi]
  have e0 : ((ix3 k r j : S4x1024x256.Idx) (0 : Fin 3)).val = k.val := rfl
  simp only [e0]
  have hk : k = 0 ∨ k = 1 ∨ k = 2 ∨ k = 3 := by omega
  rcases hk with rfl | rfl | rfl | rfl
  · rw [if_pos (by decide), pay2_apply]
    refine Finset.sum_congr rfl fun h _ => ?_
    rw [pay6_apply]
    exact congrArg (fun q => _ * x6 (ix4 0 0 h q)) (Fin.ext (by show j.val = 0 * 256 + j.val; omega))
  · rw [if_neg (by decide), if_pos (by decide), pay3_apply]
    exact Finset.sum_congr rfl fun h _ => by rw [pay6_apply]; rfl
  · rw [if_neg (by decide), if_neg (by decide), if_pos (by decide), pay4_apply]
    exact Finset.sum_congr rfl fun h _ => by rw [pay6_apply]; rfl
  · rw [if_neg (by decide), if_neg (by decide), if_neg (by decide), pay5_apply]
    exact Finset.sum_congr rfl fun h _ => by rw [pay6_apply]; rfl

end Cert.Proof.Ffn

end
-- ==== Proof.FfnBlocks.lean ====
/-
  The blocks a grid point of the experts' call finds, as entries of the arrays.
-/
module

public import proofs.«01_k».proof.Proof.FfnValue

@[expose] public section

noncomputable section

namespace Cert.Proof.Ffn

open Cert.Kernel2Ideal Cert.Kernel2Ideal.Gen
open Idealize.ShloMosaic Idealize.ShloMosaic.TcCoe Idealize.SL.Sem

set_option maxRecDepth 16384

variable (m : (ℓ : Loc nD τ sig) → Buf (Elt Ideal) ℓ) [∀ e, Nonempty (Elt Ideal e)] (hO : ok0 (F := Ideal) (tbl m)) (c : Dev nD)

theorem coord0 : ∀ t : Fin grid0.N, (grid0.coords t 0).val = t.val ∧ k0_off1 (grid0.coords t) 0 = t.val := by decide +kernel

theorem map0 : ∀ t : Fin grid0.N, cc0_transform_0 (grid0.coords t) 0 = 0 ∧ cc0_transform_0 (grid0.coords t) 1 = t.val ∧ cc0_transform_0 (grid0.coords t) 2 = 0 := by
  decide +kernel

/-- A table read at a point's place is its entry for the tile. -/
theorem place (t : Fin grid0.N) (q : Fin 320) (hq : q.val = t.val) :
    (Rect.unit (s := S320) (k0_off1 (grid0.coords t)) S1.size (k0_off1_inb (grid0.coords t))).idx (Shape.Idx.first (numel1_S1.symm ▸ Nat.one_pos)) = ix1 q := by
  funext a
  match a with
  | ⟨0, _⟩ => exact Fin.ext (by
      show k0_off1 (grid0.coords t) 0 + 1 * 0 = q.val
      rw [(coord0 t).2, hq]; rfl)

/-- The count of filled rows a point reads. -/
theorem cntAt_eq (t : Fin grid0.N) (q : Fin 320) (hq : q.val = t.val) :
    cntAt m hO c t = (m ((c.tc : Thread nD τ).loc main_arg1) : S320.Idx → BitVec 32) (ix1 q) := by
  obtain rfl : c = 0 := Subsingleton.elim _ _
  exact congrArg (m (((0 : Dev nD).tc : Thread nD τ).loc main_arg1) : S320.Idx → BitVec 32) (place t q hq)

/-- The expert a point reads. -/
theorem expert_eq (t : Fin grid0.N) (q : Fin 320) (hq : q.val = t.val) :
    (tbl m).at 0 (Rect.unit (s := S320) (k0_off1 (grid0.coords t)) S1.size (k0_off1_inb (grid0.coords t))) numel1_S1
      = (m ((c.tc : Thread nD τ).loc main_arg0) : S320.Idx → BitVec 32) (ix1 q) := by
  obtain rfl : c = 0 := Subsingleton.elim _ _
  exact congrArg (m (((0 : Dev nD).tc : Thread nD τ).loc main_arg0) : S320.Idx → BitVec 32) (place t q hq)

theorem blk0 (t : Fin grid0.N) (p : Fin 2) (r : Fin 1024) (l : Fin 256) (R : Fin 327680) (hR : R.val = t.val * 1024 + r.val) :
    blk m hO c 0 t (ix3 p r l) = (m ((c.tc : Thread nD τ).loc main_arg2) : S2x327680x256.Idx → BitVec 32) (ix3 p R l) := by
  refine congrArg (m ((c.tc : Thread nD τ).loc main_arg2) : S2x327680x256.Idx → BitVec 32) (funext fun a => Fin.ext ?_)
  match a with
  | ⟨0, _⟩ => show cc0_transform_0 (grid0.coords t) 0 * 2 + 1 * p.val = p.val; rw [(map0 t).1]; omega
  | ⟨1, _⟩ => show cc0_transform_0 (grid0.coords t) 1 * 1024 + 1 * r.val = R.val; rw [(map0 t).2.1]; omega
  | ⟨2, _⟩ => show cc0_transform_0 (grid0.coords t) 2 * 256 + 1 * l.val = l.val; rw [(map0 t).2.2]; omega

theorem blk1 (t : Fin grid0.N) (q : Fin 320) (hq : q.val = t.val) (E : Fin 64)
    (hE : E.val = ((m ((c.tc : Thread nD τ).loc main_arg0) : S320.Idx → BitVec 32) (ix1 q)).toNat) (x : Fin 1024) (h : Fin 256) :
    blk m hO c 1 t (ix4 0 0 x h) = (m ((c.tc : Thread nD τ).loc main_arg3) : S2x64x1024x256.Idx → EReal) (ix4 0 E x h) := by
  have he := congrArg BitVec.toNat (expert_eq m c t q hq)
  refine congrArg (m ((c.tc : Thread nD τ).loc main_arg3) : S2x64x1024x256.Idx → EReal) (funext fun a => Fin.ext ?_)
  match a with
  | ⟨0, _⟩ => rfl
  | ⟨1, _⟩ => show ((tbl m).at 0 (Rect.unit (s := S320) (k0_off1 (grid0.coords t)) S1.size (k0_off1_inb (grid0.coords t))) numel1_S1).toNat * 1 + 1 * 0 = E.val; rw [he, hE]; omega
  | ⟨2, _⟩ => show 0 * 1024 + 1 * x.val = x.val; omega
  | ⟨3, _⟩ => show 0 * 256 + 1 * h.val = h.val; omega

theorem blk2 (t : Fin grid0.N) (q : Fin 320) (hq : q.val = t.val) (E : Fin 64)
    (hE : E.val = ((m ((c.tc : Thread nD τ).loc main_arg0) : S320.Idx → BitVec 32) (ix1 q)).toNat) (x : Fin 1024) (h : Fin 256) :
    blk m hO c 2 t (ix4 0 0 x h) = (m ((c.tc : Thread nD τ).loc main_arg4) : S2x64x1024x256.Idx → EReal) (ix4 0 E x h) := by
  have he := congrArg BitVec.toNat (expert_eq m c t q hq)
  refine congrArg (m ((c.tc : Thread nD τ).loc main_arg4) : S2x64x1024x256.Idx → EReal) (funext fun a => Fin.ext ?_)
  match a with
  | ⟨0, _⟩ => rfl
  | ⟨1, _⟩ => show ((tbl m).at 0 (Rect.unit (s := S320) (k0_off1 (grid0.coords t)) S1.size (k0_off1_inb (grid0.coords t))) numel1_S1).toNat * 1 + 1 * 0 = E.val; rw [he, hE]; omega
  | ⟨2, _⟩ => show 0 * 1024 + 1 * x.val = x.val; omega
  | ⟨3, _⟩ => show 0 * 256 + 1 * h.val = h.val; omega

theorem blk3 (t : Fin grid0.N) (q : Fin 320) (hq : q.val = t.val) (E : Fin 64)
    (hE : E.val = ((m ((c.tc : Thread nD τ).loc main_arg0) : S320.Idx → BitVec 32) (ix1 q)).toNat) (h : Fin 256) (y : Fin 1024) :
    blk m hO c 3 t (ix4 0 0 h y) = (m ((c.tc : Thread nD τ).loc main_arg5) : S2x64x256x1024.Idx → EReal) (ix4 0 E h y) := by
  have he := congrArg BitVec.toNat (expert_eq m c t q hq)
  refine congrArg (m ((c.tc : Thread nD τ).loc main_arg5) : S2x64x256x1024.Idx → EReal) (funext fun a => Fin.ext ?_)
  match a with
  | ⟨0, _⟩ => rfl
  | ⟨1, _⟩ => show ((tbl m).at 0 (Rect.unit (s := S320) (k0_off1 (grid0.coords t)) S1.size (k0_off1_inb (grid0.coords t))) numel1_S1).toNat * 1 + 1 * 0 = E.val; rw [he, hE]; omega
  | ⟨2, _⟩ => show 0 * 256 + 1 * h.val = h.val; omega
  | ⟨3, _⟩ => show 0 * 1024 + 1 * y.val = y.val; omega

/-- Where entry `(k, r, j)` of a point's block lies in the result. -/
theorem emb4 (t : Fin grid0.N) (k : Fin 4) (r : Fin 1024) (j : Fin 256) (R : Fin 327680) (hR : R.val = t.val * 1024 + r.val) :
    (((cfgM m hO).win 4).blk t).view.emb (ix3 k r j : S4x1024x256.Idx) = (ix3 k R j : S4x327680x256.Idx) := by
  refine funext fun a => Fin.ext ?_
  match a with
  | ⟨0, _⟩ => show cc0_transform_4 (grid0.coords t) 0 * 4 + 1 * k.val = k.val; rw [(map4 t).1]; omega
  | ⟨1, _⟩ => show cc0_transform_4 (grid0.coords t) 1 * 1024 + 1 * r.val = R.val; rw [(map4 t).2.1]; omega
  | ⟨2, _⟩ => show cc0_transform_4 (grid0.coords t) 2 * 256 + 1 * j.val = j.val; rw [(map4 t).2.2]; omega

end Cert.Proof.Ffn

end
-- ==== Proof.FfnRef.lean ====
/-
  The reference of the experts' call, read at an index: the same sums as the kernel's blocks.
-/
module

public import proofs.«01_k».proof.Proof.FfnValue
public import proofs.«01_k».proof.Proof.Gen.Reference2Ideal.Run
public import proofs.«01_k».proof.Proof.Gen.On_tiles_with_rows

@[expose] public section

noncomputable section

namespace Cert.Proof.Ffn

open Cert.Reference2Ideal Cert.Reference2Ideal.Gen
open Idealize.ShloMosaic Idealize.ShloMosaic.TcCoe Idealize.SL.Sem

set_option maxRecDepth 16384

/-- The reference's first gather at one entry: the entry of the expert whose number stands in the row's place of the
    index column, clamped to the experts there are. -/
theorem gather_in (tab : S64x1024x256.Idx → EReal) (ix : S327680x1.Idx → BitVec 32) (r : Fin 327680) (x : Fin 1024) (h : Fin 256) :
    Host.gather gather_S64x1024x256_S327680x1_S327680x1024x256_12_0_n_n_0_1_11024256 tab ix (ix3 r x h)
      = tab (ix3 ⟨min (ix (ix2 r 0)).toInt.toNat 63, by omega⟩ x h) := by
  unfold Host.gather
  refine congrArg tab (funext fun a => Fin.ext ?_)
  show GatherDims.start _ _ ix a + GatherDims.batchCoord _ _ a + GatherDims.offCoord _ _ a = _
  rw [GatherDims.batchCoord_eq_zero _ _ _ (List.not_mem_nil)]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin S64x1024x256.rank) ∈ gather_S64x1024x256_S327680x1_S327680x1024x256_12_0_n_n_0_1_11024256.startIndexMap from List.mem_singleton.mpr rfl)]
    have e : GatherDims.siIdx gather_S64x1024x256_S327680x1_S327680x1024x256_12_0_n_n_0_1_11024256 (ix3 r x h)
        ⟨List.idxOf (0 : Fin 3) [0], List.idxOf_lt_length_iff.2 (List.mem_singleton.mpr rfl)⟩ = ix2 r 0 := by
      funext b; refine Fin.ext ?_
      match b with
      | ⟨0, _⟩ => rfl
      | ⟨1, _⟩ => rfl
    exact congrArg (fun i => min (ix i).toInt.toNat 63) e
  | ⟨1, _⟩ =>
    unfold GatherDims.start
    rw [dif_neg (by simp [gather_S64x1024x256_S327680x1_S327680x1024x256_12_0_n_n_0_1_11024256])]
    unfold GatherDims.offCoord
    rw [dif_pos ((GatherDims.mem_sKept _ _).mpr ⟨by simp [gather_S64x1024x256_S327680x1_S327680x1024x256_12_0_n_n_0_1_11024256], by simp [gather_S64x1024x256_S327680x1_S327680x1024x256_12_0_n_n_0_1_11024256]⟩)]
    show 0 + 0 + x.val = x.val
    omega
  | ⟨2, _⟩ =>
    unfold GatherDims.start
    rw [dif_neg (by simp [gather_S64x1024x256_S327680x1_S327680x1024x256_12_0_n_n_0_1_11024256])]
    unfold GatherDims.offCoord
    rw [dif_pos ((GatherDims.mem_sKept _ _).mpr ⟨by simp [gather_S64x1024x256_S327680x1_S327680x1024x256_12_0_n_n_0_1_11024256], by simp [gather_S64x1024x256_S327680x1_S327680x1024x256_12_0_n_n_0_1_11024256]⟩)]
    show 0 + 0 + h.val = h.val
    omega

/-- The reference's second gather at one entry, likewise. -/
theorem gather_out (tab : S64x256x1024.Idx → EReal) (ix : S327680x1.Idx → BitVec 32) (r : Fin 327680) (h : Fin 256) (y : Fin 1024) :
    Host.gather gather_S64x256x1024_S327680x1_S327680x256x1024_12_0_n_n_0_1_12561024 tab ix (ix3 r h y)
      = tab (ix3 ⟨min (ix (ix2 r 0)).toInt.toNat 63, by omega⟩ h y) := by
  unfold Host.gather
  refine congrArg tab (funext fun a => Fin.ext ?_)
  show GatherDims.start _ _ ix a + GatherDims.batchCoord _ _ a + GatherDims.offCoord _ _ a = _
  rw [GatherDims.batchCoord_eq_zero _ _ _ (List.not_mem_nil)]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin S64x256x1024.rank) ∈ gather_S64x256x1024_S327680x1_S327680x256x1024_12_0_n_n_0_1_12561024.startIndexMap from List.mem_singleton.mpr rfl)]
    have e : GatherDims.siIdx gather_S64x256x1024_S327680x1_S327680x256x1024_12_0_n_n_0_1_12561024 (ix3 r h y)
        ⟨List.idxOf (0 : Fin 3) [0], List.idxOf_lt_length_iff.2 (List.mem_singleton.mpr rfl)⟩ = ix2 r 0 := by
      funext b; refine Fin.ext ?_
      match b with
      | ⟨0, _⟩ => rfl
      | ⟨1, _⟩ => rfl
    exact congrArg (fun i => min (ix i).toInt.toNat 63) e
  | ⟨1, _⟩ =>
    unfold GatherDims.start
    rw [dif_neg (by simp [gather_S64x256x1024_S327680x1_S327680x256x1024_12_0_n_n_0_1_12561024])]
    unfold GatherDims.offCoord
    rw [dif_pos ((GatherDims.mem_sKept _ _).mpr ⟨by simp [gather_S64x256x1024_S327680x1_S327680x256x1024_12_0_n_n_0_1_12561024], by simp [gather_S64x256x1024_S327680x1_S327680x256x1024_12_0_n_n_0_1_12561024]⟩)]
    show 0 + 0 + h.val = h.val
    omega
  | ⟨2, _⟩ =>
    unfold GatherDims.start
    rw [dif_neg (by simp [gather_S64x256x1024_S327680x1_S327680x256x1024_12_0_n_n_0_1_12561024])]
    unfold GatherDims.offCoord
    rw [dif_pos ((GatherDims.mem_sKept _ _).mpr ⟨by simp [gather_S64x256x1024_S327680x1_S327680x256x1024_12_0_n_n_0_1_12561024], by simp [gather_S64x256x1024_S327680x1_S327680x256x1024_12_0_n_n_0_1_12561024]⟩)]
    show 0 + 0 + y.val = y.val
    omega

/-- The tile of a row. -/
abbrev tileOf (r : Fin 327680) : Fin 320 := ⟨r.val / 1024, by have := r.isLt; omega⟩

/-- The index column: the expert of each row's tile, a negative one counted from the table's end. -/
abbrev expertColumn (e : S320.Idx → BitVec 32) : S327680x1.Idx → BitVec 32 :=
  broadcastInDim S327680x1 ![0] bcast_S327680_S327680x1_0
    (select
      (cmpi .slt
        (shapeCast S327680 (broadcastInDim S320x1024 ![0, 1] bcast_S320x1_S320x1024_0_1 (broadcastInDim S320x1 ![0] bcast_S320_S320x1_0 e)) shapeCasts_S320x1024_S327680)
        (broadcastInDim S327680 ![] bcast_S_S327680 (constantI S_ 32 0#32)))
      (addi
        (shapeCast S327680 (broadcastInDim S320x1024 ![0, 1] bcast_S320x1_S320x1024_0_1 (broadcastInDim S320x1 ![0] bcast_S320_S320x1_0 e)) shapeCasts_S320x1024_S327680)
        (broadcastInDim S327680 ![] bcast_S_S327680 (constantI S_ 32 64#32)))
      (shapeCast S327680 (broadcastInDim S320x1024 ![0, 1] bcast_S320x1_S320x1024_0_1 (broadcastInDim S320x1 ![0] bcast_S320_S320x1_0 e)) shapeCasts_S320x1024_S327680))

theorem expertColumn_apply (e : S320.Idx → BitVec 32) (r : Fin 327680) :
    expertColumn e (ix2 r 0)
      = Scalar.select (IntOp.cmpi .slt (e (ix1 (tileOf r))) 0#32) (IntOp.addi (e (ix1 (tileOf r))) 64#32) (e (ix1 (tileOf r))) := by
  unfold expertColumn
  pointwise

/-- Where the experts are in range, the clamped number of a row's expert is the expert of its tile. -/
theorem expertColumn_clamped (e : S320.Idx → BitVec 32) (he : ∀ j, (e j).toNat < 64) (r : Fin 327680) :
    min (expertColumn e (ix2 r 0)).toInt.toNat 63 = (e (ix1 (tileOf r))).toNat := by
  have h := he (ix1 (tileOf r))
  rw [expertColumn_apply]
  generalize e (ix1 (tileOf r)) = v at h
  have hs : IntOp.cmpi .slt v 0#32 = 0#1 := by
    simp only [IntOp.cmpi]
    rw [show BitVec.slt v 0#32 = false by
      rw [BitVec.slt_eq_decide, decide_eq_false_iff_not, BitVec.toInt_eq_toNat_cond]
      simp only [Nat.reducePow, BitVec.toInt_zero]; split <;> omega]
    rfl
  rw [hs, show ∀ a b : BitVec 32, Scalar.select 0#1 a b = b from fun _ _ => rfl, BitVec.toInt_eq_toNat_cond]
  simp only [Nat.reducePow]; split <;> omega

theorem shift_host (v : BitVec 32) : IntOp.shli .host v 16#32 = IntOp.shli .vector v 16#32 := by
  unfold IntOp.shli; rw [if_pos (by decide), if_pos (by decide)]

theorem zero_scalar : (constant (F := Ideal) S_ .f32 (0#32) ix0 : EReal) = 0 := Ideal.ofBits_zero_f32

/-- Entry `(k, r, j)` of the reference: column `256 k + j` of row `r` through its tile's expert. -/
theorem ref_apply (m : (ℓ : Loc nD τ sig) → Buf (Elt Ideal) ℓ) (c : Dev nD)
    (a0 a1 : S320.Idx → BitVec 32) (a2 : S2x327680x256.Idx → BitVec 32) (a3 a4 : S2x64x1024x256.Idx → EReal) (a5 : S2x64x256x1024.Idx → EReal)
    (h0 : m (c.tc.loc main_arg0) = a0) (h1 : m (c.tc.loc main_arg1) = a1) (h2 : m (c.tc.loc main_arg2) = a2)
    (h3 : m (c.tc.loc main_arg3) = a3) (h4 : m (c.tc.loc main_arg4) = a4) (h5 : m (c.tc.loc main_arg5) = a5)
    (he : ∀ j, (a0 j).toNat < 64) (k : Fin 4) (r : Fin 327680) (j : Fin 256) :
    @Eq EReal ((Value.res_main_v63 m c : S4x327680x256.Idx → EReal) (ix3 k r j))
      (rowOut (BitVec.ofNat 32 (r.val % 1024)) (a1 (ix1 (tileOf r))) (fun p l => a2 (ix3 p r l))
        (fun x h => a3 (ix4 0 ⟨(a0 (ix1 (tileOf r))).toNat, he _⟩ x h)) (fun x h => a4 (ix4 0 ⟨(a0 (ix1 (tileOf r))).toNat, he _⟩ x h))
        (fun h => a5 (ix4 0 ⟨(a0 (ix1 (tileOf r))).toNat, he _⟩ h ⟨k.val * 256 + j.val, by omega⟩))) := by
  have hc := expertColumn_clamped a0 he r
  rw [expertColumn_apply] at hc
  unfold Value.res_main_v63
  clean_types
  pointwise
  simp only [gather_in, gather_out]
  pointwise
  simp only [h0, h1, h2, h3, h4, h5, hc, shift_host, id, zero_scalar]
  rfl

/-- Where the mask is one, the row's tile has filled rows. -/
theorem mask_apply (a0 a1 : S320.Idx → BitVec 32) (a2 : S2x327680x256.Idx → BitVec 32) (a3 a4 : S2x64x1024x256.Idx → EReal) (a5 : S2x64x256x1024.Idx → EReal)
    (k : Fin 4) (r : Fin 327680) (j : Fin 256) :
    Cert.On_tiles_with_rows.fn (F := Ideal) a0 a1 a2 a3 a4 a5 (ix3 k r j) = IntOp.cmpi .sgt (a1 (ix1 (tileOf r))) 0#32 := by
  unfold Cert.On_tiles_with_rows.fn
  pointwise

end Cert.Proof.Ffn

end
-- ==== Proof.FfnRows.lean ====
/-
  The experts' call against its reference: on every tile with filled rows, the same rows.
-/
module

public import proofs.«01_k».proof.Proof.FfnBlocks
public import proofs.«01_k».proof.Proof.FfnRef

@[expose] public section

noncomputable section

namespace Cert.Proof.Ffn

open Cert.Kernel2Ideal Cert.Kernel2Ideal.Gen
open Idealize.ShloMosaic Idealize.ShloMosaic.TcCoe Idealize.ShloMosaic.Pipeline Idealize.SL.Sem

set_option maxRecDepth 16384

variable (m : (ℓ : Loc nD τ sig) → Buf (Elt Ideal) ℓ) (m' : (ℓ : Loc Cert.Reference2Ideal.nD Cert.Reference2Ideal.τ Cert.Reference2Ideal.sig) → Buf (Elt Ideal) ℓ)
variable [∀ e, Nonempty (Elt Ideal e)] (hO : ok0 (F := Ideal) (tbl m)) (c : Dev nD)

/-- The mask of the kernel's arguments. -/
abbrev maskOf : S4x327680x256.Idx → BitVec 1 :=
  Cert.On_tiles_with_rows.fn (F := Ideal) (m (c.tc.loc main_arg0)) (m (c.tc.loc main_arg1)) (m (c.tc.loc main_arg2))
    (m (c.tc.loc main_arg3)) (m (c.tc.loc main_arg4)) (m (c.tc.loc main_arg5))

/-- The reference's arguments are the kernel's. -/
abbrev SameArgs : Prop :=
  m' (c.tc.loc Cert.Reference2Ideal.main_arg0) = m (c.tc.loc main_arg0)
    ∧ m' (c.tc.loc Cert.Reference2Ideal.main_arg1) = m (c.tc.loc main_arg1)
    ∧ m' (c.tc.loc Cert.Reference2Ideal.main_arg2) = m (c.tc.loc main_arg2)
    ∧ m' (c.tc.loc Cert.Reference2Ideal.main_arg3) = m (c.tc.loc main_arg3)
    ∧ m' (c.tc.loc Cert.Reference2Ideal.main_arg4) = m (c.tc.loc main_arg4)
    ∧ m' (c.tc.loc Cert.Reference2Ideal.main_arg5) = m (c.tc.loc main_arg5)

/-- One entry that point `t` leaves, its tile having filled rows: the reference's entry at the same place. -/
theorem point_eq (he : ∀ j, ((m (c.tc.loc main_arg0) : S320.Idx → BitVec 32) j).toNat < 64) (e : SameArgs m m' c)
    (t : Fin grid0.N) (a : Fin 4) (b : Fin 1024) (d : Fin 256) (R : Fin 327680) (hR : R.val = t.val * 1024 + b.val) :
    @Eq EReal (outAt m hO c t (ix3 a b d)) ((Cert.Reference2Ideal.Value.res_main_v63 m' c : S4x327680x256.Idx → EReal) (ix3 a R d)) := by
  obtain ⟨h0, h1, h2, h3, h4, h5⟩ := e
  have ht : t.val < 320 := t.isLt
  have hb := b.isLt
  have hT : tileOf R = ⟨t.val, ht⟩ := Fin.ext (by show R.val / 1024 = t.val; omega)
  have hq : R.val % 1024 = b.val := by omega
  refine Eq.trans ?_ (ref_apply m' c _ _ _ _ _ _ h0 h1 h2 h3 h4 h5 he a R d).symm
  unfold outAt
  rw [outV_apply, cntAt_eq m hO c t ⟨t.val, ht⟩ rfl]
  simp only [blk0 m hO c t _ b _ R hR, blk1 m hO c t ⟨t.val, ht⟩ rfl ⟨_, he (ix1 ⟨t.val, ht⟩)⟩ rfl,
    blk2 m hO c t ⟨t.val, ht⟩ rfl ⟨_, he (ix1 ⟨t.val, ht⟩)⟩ rfl, blk3 m hO c t ⟨t.val, ht⟩ rfl ⟨_, he (ix1 ⟨t.val, ht⟩)⟩ rfl, hT, hq]

/-- The mask at a row is one where its tile has filled rows. -/
theorem mask_point (t : Fin grid0.N) (a : Fin 4) (b : Fin 1024) (d : Fin 256) (R : Fin 327680) (hR : R.val = t.val * 1024 + b.val)
    (h : maskOf m c (ix3 a R d) = 1#1) : k0_cond1 (cntAt m hO c t) = 1#1 := by
  have ht : t.val < 320 := t.isLt
  have hb := b.isLt
  have hT : tileOf R = ⟨t.val, ht⟩ := Fin.ext (by show R.val / 1024 = t.val; omega)
  unfold maskOf at h
  rw [mask_apply, hT] at h
  rw [cntAt_eq m hO c t ⟨t.val, ht⟩ rfl]
  unfold k0_cond1
  have hs : ∀ v : BitVec 32, Scalar.cmpi .sgt v 0#32 = IntOp.cmpi .sgt v 0#32 := fun _ => rfl
  simp only [hs, h]
  decide

theorem coords3 (y : S4x1024x256.Idx) : ∃ (a : Fin 4) (b : Fin 1024) (d : Fin 256), y = ix3 a b d :=
  ⟨y (0 : Fin 3), y (1 : Fin 3), y (2 : Fin 3), funext fun
    | ⟨0, _⟩ => rfl
    | ⟨1, _⟩ => rfl
    | ⟨2, _⟩ => rfl⟩

/-- On the rows of tiles with filled rows, what the points leave in the result is the reference's. -/
theorem rows_eq (he : ∀ j, ((m (c.tc.loc main_arg0) : S320.Idx → BitVec 32) j).toNat < 64) (e : SameArgs m m' c)
    (r : PUnit × MemSt nD τ sig (Elt Ideal)) (k : RDat.FramePost (cfgM m hO) (rdat m hO) (V m) r) (i : S4x327680x256.Idx)
    (hi : maskOf m c i = 1#1) :
    @Eq EReal (r.2.mem (c.tc.loc main_v0) i) ((Cert.Reference2Ideal.Value.res_main_v63 m' c : S4x327680x256.Idx → EReal) i) := by
  refine result_forall m hO r k c (fun i v => maskOf m c i = 1#1 →
    @Eq EReal v ((Cert.Reference2Ideal.Value.res_main_v63 m' c : S4x327680x256.Idx → EReal) i)) (fun t y v hv => ?_) i hi
  obtain ⟨a, b, d, rfl⟩ := coords3 y
  have hb := b.isLt
  have ht : t.val < 320 := t.isLt
  have hR : t.val * 1024 + b.val < 327680 := by omega
  have em := emb4 m hO t a b d ⟨t.val * 1024 + b.val, hR⟩ rfl
  refine Eq.mpr (congrArg (fun i : S4x327680x256.Idx => maskOf m c i = 1#1 →
    @Eq EReal v ((Cert.Reference2Ideal.Value.res_main_v63 m' c : S4x327680x256.Idx → EReal) i)) em) fun hm => ?_
  exact (hv (mask_point m hO c t a b d _ rfl hm)).trans (point_eq m m' hO c he e t a b d _ rfl)

end Cert.Proof.Ffn

end
-- ==== Proof.CombValue.lean ====
/-
  The value of the combining call: one entry of the block a grid point leaves, as sums over its input blocks.
-/
module

public import proofs.«01_k».proof.Proof.FfnValue
public import proofs.«01_k».proof.Proof.Gen.Kernel3Ideal.Frame

@[expose] public section

noncomputable section

namespace Cert.Proof.Comb

open Cert.Kernel3Ideal Cert.Kernel3Ideal.Gen
open Cert.Proof.Ffn (column)
open Idealize.ShloMosaic Idealize.ShloMosaic.TcCoe Idealize.SL.Sem

set_option maxRecDepth 16384

/-! ## One row -/

/-- The shared expert on a row `h`, one column of its result: `(silu(h·s1) (h·s3)) · s2`. -/
def sharedOut (h : Fin 1024 → EReal) (s1 s3 : Fin 1024 → Fin 256 → EReal) (s2 : Fin 256 → EReal) : EReal :=
  ∑ q, (∑ x, h x * s1 x q) * Ideal.logistic (∑ x, h x * s1 x q) * (∑ x, h x * s3 x q) * s2 q

/-- The row before the norm, one column: the shared expert's result and the eight experts' rows by their weights. -/
def mixed (h : Fin 1024 → EReal) (s1 s3 : Fin 1024 → Fin 256 → EReal) (s2 : Fin 256 → Fin 1024 → EReal)
    (w : Fin 8 → EReal) (y : Fin 8 → Fin 2 → Fin 256 → BitVec 32) (j : Fin 1024) : EReal :=
  sharedOut h s1 s3 (fun q => s2 q j) + ∑ k, w k * column (y k) j

/-- The row normed, scaled, gated and added to the residual row, one column. -/
def normed (f : Fin 1024 → EReal) (x g a : EReal) (j : Fin 1024) : EReal :=
  x + a * (f j * Ideal.rsqrt (Ideal.div (∑ q, f q * f q) (Ideal.ofBits .f32 0x44800000#32) + Ideal.ofBits .f32 0x358637BD#32) * g)

/-- A token's two planes of words, out of the two blocks the kernel reads them from. -/
def planes (lo hi : S1x1x512x256.Idx → BitVec 32) (r : Fin 512) : Fin 2 → Fin 256 → BitVec 32
  | 0, l => lo (ix4 0 0 r l)
  | 1, l => hi (ix4 0 0 r l)

/-! ## The kernel's block -/

theorem pay2_apply (v0 : Vec Ideal S1x512x1024 .f32) (v3 v6 : Vec Ideal S1024x256 .bf16) (v13 : Vec Ideal S256x1024 .bf16) (r : Fin 512) (j : Fin 1024) :
    k0_pay2 v0 v3 v6 v13 (ix2 r j)
      = sharedOut (fun x => v0 (ix3 0 r x)) (fun x q => v3 (ix2 x q)) (fun x q => v6 (ix2 x q)) (fun q => v13 (ix2 q j)) := by
  pointwise [k0_pay2]
  rfl

theorem pay10_apply (f : FVec Ideal S512x1024 .f32) (w : Vec Ideal S512x128 .f32) (p q p' q' : Vec Ideal S1x1x512x256 .i32) (r : Fin 512) (j : Fin 1024) :
    k0_pay10 f w (k0_pay3 w) (k0_pay5 q) (k0_pay6 p) (k0_pay7 p) (k0_pay8 q) k0_pay9 p' q' (ix2 r j)
      = f (ix2 r j) + w (ix2 r 0) * column (planes p q r) j + w (ix2 r 1) * column (planes p' q' r) j := by
  pointwise [k0_pay10, k0_pay3, k0_pay5, k0_pay6, k0_pay4, k0_pay7, k0_pay8, k0_pay9]
  rfl

theorem pay16_apply (f : FVec Ideal S512x1024 .f32) (w : Vec Ideal S512x128 .f32) (p q p' q' : Vec Ideal S1x1x512x256 .i32) (r : Fin 512) (j : Fin 1024) :
    k0_pay16 w f (k0_pay11 w) (k0_pay13 q) (k0_pay14 p) (k0_pay15 p) p' q' (ix2 r j)
      = f (ix2 r j) + w (ix2 r 2) * column (planes p q r) j + w (ix2 r 3) * column (planes p' q' r) j := by
  pointwise [k0_pay16, k0_pay11, k0_pay13, k0_pay14, k0_pay12, k0_pay15]
  rfl

theorem pay21_apply (f : FVec Ideal S512x1024 .f32) (w : Vec Ideal S512x128 .f32) (p q p' q' : Vec Ideal S1x1x512x256 .i32) (r : Fin 512) (j : Fin 1024) :
    k0_pay21 w f (k0_pay17 w) (k0_pay18 p) (k0_pay19 q) k0_pay20 p' q' (ix2 r j)
      = f (ix2 r j) + w (ix2 r 4) * column (planes p q r) j + w (ix2 r 5) * column (planes p' q' r) j := by
  pointwise [k0_pay21, k0_pay17, k0_pay18, k0_pay19, k0_pay20]
  rfl

theorem pay24_apply (f : FVec Ideal S512x1024 .f32) (w : Vec Ideal S512x128 .f32) (p q p' q' : Vec Ideal S1x1x512x256 .i32) (r : Fin 512) (j : Fin 1024) :
    k0_pay24 w f (k0_pay22 w) (k0_pay23 p) q p' q' (ix2 r j)
      = f (ix2 r j) + w (ix2 r 6) * column (planes p q r) j + w (ix2 r 7) * column (planes p' q' r) j := by
  pointwise [k0_pay24, k0_pay22, k0_pay23]
  rfl

theorem pay1_apply (f : FVec Ideal S512x1024 .f32) (x : Vec Ideal S1x512x1024 .f32) (a : Vec Ideal S1x6x1024 .f32) (g : Vec Ideal S1x1024 .f32) (z : Fin 1) (r : Fin 512) (j : Fin 1024) :
    k0_pay1 f x a g (ix3 z r j)
      = normed (fun q => f (ix2 r q)) (x (ix3 0 r j)) (g (ix2 0 j)) (a (ix3 0 5 j)) j := by
  pointwise [k0_pay1]
  rfl

/-- The words of token `r` under its expert `k`, out of the two pieces of the packed block that hold them. -/
theorem planes_ld (x3 : Vec Ideal S2x8x512x256 .i32) (k : Fin 8) (r : Fin 512)
    (inb0 : ∀ a, (![0, k.val, 0, 0] : Fin 4 → ℕ) a + S1x1x512x256.size a ≤ S2x8x512x256.size a)
    (inb1 : ∀ a, (![1, k.val, 0, 0] : Fin 4 → ℕ) a + S1x1x512x256.size a ≤ S2x8x512x256.size a) :
    planes (View.ld x3 (Rect.unit (s := S2x8x512x256) ![0, k.val, 0, 0] S1x1x512x256.size inb0))
        (View.ld x3 (Rect.unit (s := S2x8x512x256) ![1, k.val, 0, 0] S1x1x512x256.size inb1)) r
      = fun p l => x3 (ix4 p k r l) := by
  funext p l
  match p with
  | 0 =>
    refine congrArg x3 (funext fun a => Fin.ext ?_)
    match a with
    | ⟨0, _⟩ => rfl
    | ⟨1, _⟩ => show k.val + 1 * 0 = k.val; omega
    | ⟨2, _⟩ => show 0 + 1 * r.val = r.val; omega
    | ⟨3, _⟩ => show 0 + 1 * l.val = l.val; omega
  | 1 =>
    refine congrArg x3 (funext fun a => Fin.ext ?_)
    match a with
    | ⟨0, _⟩ => rfl
    | ⟨1, _⟩ => show k.val + 1 * 0 = k.val; omega
    | ⟨2, _⟩ => show 0 + 1 * r.val = r.val; omega
    | ⟨3, _⟩ => show 0 + 1 * l.val = l.val; omega

/-- Two zeros, three zeros: the offsets of a whole block. -/
theorem zeros2 : (![0, 0] : Fin 2 → ℕ) = fun _ => 0 := by funext a; match a with | 0 => rfl | 1 => rfl
theorem zeros3 : (![0, 0, 0] : Fin 3 → ℕ) = fun _ => 0 := by funext a; match a with | 0 => rfl | 1 => rfl | 2 => rfl

/-- Entry `(0, r, j)` of the block a grid point leaves. -/
theorem out_apply [∀ e, Nonempty (Elt Ideal e)] (x0 x1 : Vec Ideal S1x512x1024 .f32) (x2 : Vec Ideal S1x6x1024 .f32) (x3 : Vec Ideal S2x8x512x256 .i32) (x4 : Vec Ideal S512x128 .f32)
    (x5 x6 : Vec Ideal S1024x256 .bf16) (x7 : Vec Ideal S256x1024 .bf16) (x8 : Vec Ideal S1x1024 .f32) (z : Fin 1) (r : Fin 512) (j : Fin 1024) :
    @Eq EReal (out0_9 x0 x1 x2 x3 x4 x5 x6 x7 x8 (ix3 z r j))
      (normed (mixed (fun x => x0 (ix3 0 r x)) (fun x q => x5 (ix2 x q)) (fun x q => x6 (ix2 x q)) (fun q x => x7 (ix2 q x))
            (fun k => x4 (ix2 r ⟨k.val, by omega⟩)) (fun k p l => x3 (ix4 p k r l)))
          (x1 (ix3 0 r j)) (x8 (ix2 0 j)) (x2 (ix3 0 5 j)) j) := by
  unfold out0_9
  rw [View.canon_cons_unit_zero zeros3]
  have l0 : View.ld x0 r0_0 = x0 := View.ld_unit_zero zeros3 _ _
  have l1 : View.ld x1 r0_0 = x1 := View.ld_unit_zero zeros3 _ _
  have l2 : View.ld x2 r0_20 = x2 := View.ld_unit_zero zeros3 _ _
  have l4 : View.ld x4 r0_3 = x4 := View.ld_unit_zero zeros2 _ _
  have l5 : View.ld x5 r0_1 = x5 := View.ld_unit_zero zeros2 _ _
  have l6 : View.ld x6 r0_1 = x6 := View.ld_unit_zero zeros2 _ _
  have l7 : View.ld x7 r0_2 = x7 := View.ld_unit_zero zeros2 _ _
  have l8 : View.ld x8 r0_21 = x8 := View.ld_unit_zero zeros2 _ _
  have e0 : planes (View.ld x3 r0_4) (View.ld x3 r0_5) r = fun p l => x3 (ix4 p 0 r l) := planes_ld x3 0 r _ _
  have e1 : planes (View.ld x3 r0_6) (View.ld x3 r0_7) r = fun p l => x3 (ix4 p 1 r l) := planes_ld x3 1 r _ _
  have e2 : planes (View.ld x3 r0_8) (View.ld x3 r0_9) r = fun p l => x3 (ix4 p 2 r l) := planes_ld x3 2 r _ _
  have e3 : planes (View.ld x3 r0_10) (View.ld x3 r0_11) r = fun p l => x3 (ix4 p 3 r l) := planes_ld x3 3 r _ _
  have e4 : planes (View.ld x3 r0_12) (View.ld x3 r0_13) r = fun p l => x3 (ix4 p 4 r l) := planes_ld x3 4 r _ _
  have e5 : planes (View.ld x3 r0_14) (View.ld x3 r0_15) r = fun p l => x3 (ix4 p 5 r l) := planes_ld x3 5 r _ _
  have e6 : planes (View.ld x3 r0_16) (View.ld x3 r0_17) r = fun p l => x3 (ix4 p 6 r l) := planes_ld x3 6 r _ _
  have e7 : planes (View.ld x3 r0_18) (View.ld x3 r0_19) r = fun p l => x3 (ix4 p 7 r l) := planes_ld x3 7 r _ _
  rw [l0, l1, l2, l4, l5, l6, l7, l8, pay1_apply]
  simp only [pay24_apply, pay21_apply, pay16_apply, pay10_apply, pay2_apply, e0, e1, e2, e3, e4, e5, e6, e7]
  refine congrArg (fun f => normed f (x1 (ix3 0 r j)) (x8 (ix2 0 j)) (x2 (ix3 0 5 j)) j) (funext fun q => ?_)
  unfold mixed
  rw [Fin.sum_univ_eight]
  simp only [← add_assoc]
  rfl

end Cert.Proof.Comb

end
-- ==== Proof.CombBlocks.lean ====
/-
  The blocks a grid point of the combining call finds, as entries of the arrays.
-/
module

public import proofs.«01_k».proof.Proof.CombValue

@[expose] public section

noncomputable section

namespace Cert.Proof.Comb

open Cert.Kernel3Ideal Cert.Kernel3Ideal.Gen
open Idealize.ShloMosaic Idealize.ShloMosaic.TcCoe Idealize.SL.Sem

set_option maxRecDepth 16384

variable (m : (ℓ : Loc nD τ sig) → Buf (Elt Ideal) ℓ) (c : Dev nD)

/-! ## Where a point's blocks lie -/

theorem map0 : ∀ t : Fin grid0.N, cc0_transform_0 (grid0.coords t) 0 = t.val / 32 ∧ cc0_transform_0 (grid0.coords t) 1 = t.val % 32 ∧ cc0_transform_0 (grid0.coords t) 2 = 0 := by
  decide +kernel
theorem map1 : ∀ t : Fin grid0.N, cc0_transform_1 (grid0.coords t) 0 = t.val / 32 ∧ cc0_transform_1 (grid0.coords t) 1 = t.val % 32 ∧ cc0_transform_1 (grid0.coords t) 2 = 0 := by
  decide +kernel
theorem map2 : ∀ t : Fin grid0.N, cc0_transform_2 (grid0.coords t) 0 = t.val / 32 ∧ cc0_transform_2 (grid0.coords t) 1 = 0 ∧ cc0_transform_2 (grid0.coords t) 2 = 0 := by
  decide +kernel
theorem map3 : ∀ t : Fin grid0.N, cc0_transform_3 (grid0.coords t) 0 = 0 ∧ cc0_transform_3 (grid0.coords t) 1 = 0
    ∧ cc0_transform_3 (grid0.coords t) 2 = t.val ∧ cc0_transform_3 (grid0.coords t) 3 = 0 := by
  decide +kernel
theorem map4 : ∀ t : Fin grid0.N, cc0_transform_4 (grid0.coords t) 0 = t.val ∧ cc0_transform_4 (grid0.coords t) 1 = 0 := by
  decide +kernel
theorem map9 : ∀ t : Fin grid0.N, cc0_transform_9 (grid0.coords t) 0 = t.val / 32 ∧ cc0_transform_9 (grid0.coords t) 1 = t.val % 32 ∧ cc0_transform_9 (grid0.coords t) 2 = 0 := by
  decide +kernel

/-! ## The arguments' blocks -/

theorem blk0 (t : Fin grid0.N) (r : Fin 512) (x : Fin 1024) (b : Fin 2) (s : Fin 16384) (hb : b.val = t.val / 32) (hs : s.val = t.val % 32 * 512 + r.val) :
    iblk m c 0 t (ix3 0 r x) = (m ((c.tc : Thread nD τ).loc main_arg0) : S2x16384x1024.Idx → EReal) (ix3 b s x) := by
  refine (congrFun (V_main_arg0 m c) _).trans (congrArg (m ((c.tc : Thread nD τ).loc main_arg0) : S2x16384x1024.Idx → EReal) (funext fun a => Fin.ext ?_))
  match a with
  | ⟨0, _⟩ => show cc0_transform_0 (grid0.coords t) 0 * 1 + 1 * 0 = b.val; rw [(map0 t).1]; omega
  | ⟨1, _⟩ => show cc0_transform_0 (grid0.coords t) 1 * 512 + 1 * r.val = s.val; rw [(map0 t).2.1]; omega
  | ⟨2, _⟩ => show cc0_transform_0 (grid0.coords t) 2 * 1024 + 1 * x.val = x.val; rw [(map0 t).2.2]; omega

theorem blk1 (t : Fin grid0.N) (r : Fin 512) (x : Fin 1024) (b : Fin 2) (s : Fin 16384) (hb : b.val = t.val / 32) (hs : s.val = t.val % 32 * 512 + r.val) :
    iblk m c 1 t (ix3 0 r x) = (m ((c.tc : Thread nD τ).loc main_arg1) : S2x16384x1024.Idx → EReal) (ix3 b s x) := by
  refine (congrFun (V_main_arg1 m c) _).trans (congrArg (m ((c.tc : Thread nD τ).loc main_arg1) : S2x16384x1024.Idx → EReal) (funext fun a => Fin.ext ?_))
  match a with
  | ⟨0, _⟩ => show cc0_transform_1 (grid0.coords t) 0 * 1 + 1 * 0 = b.val; rw [(map1 t).1]; omega
  | ⟨1, _⟩ => show cc0_transform_1 (grid0.coords t) 1 * 512 + 1 * r.val = s.val; rw [(map1 t).2.1]; omega
  | ⟨2, _⟩ => show cc0_transform_1 (grid0.coords t) 2 * 1024 + 1 * x.val = x.val; rw [(map1 t).2.2]; omega

theorem blk2 (t : Fin grid0.N) (q : Fin 6) (x : Fin 1024) (b : Fin 2) (hb : b.val = t.val / 32) :
    iblk m c 2 t (ix3 0 q x) = (m ((c.tc : Thread nD τ).loc main_arg2) : S2x6x1024.Idx → EReal) (ix3 b q x) := by
  refine (congrFun (V_main_arg2 m c) _).trans (congrArg (m ((c.tc : Thread nD τ).loc main_arg2) : S2x6x1024.Idx → EReal) (funext fun a => Fin.ext ?_))
  match a with
  | ⟨0, _⟩ => show cc0_transform_2 (grid0.coords t) 0 * 1 + 1 * 0 = b.val; rw [(map2 t).1]; omega
  | ⟨1, _⟩ => show cc0_transform_2 (grid0.coords t) 1 * 6 + 1 * q.val = q.val; rw [(map2 t).2.1]; omega
  | ⟨2, _⟩ => show cc0_transform_2 (grid0.coords t) 2 * 1024 + 1 * x.val = x.val; rw [(map2 t).2.2]; omega

theorem blk3 (t : Fin grid0.N) (p : Fin 2) (k : Fin 8) (r : Fin 512) (l : Fin 256) (R : Fin 32768) (hR : R.val = t.val * 512 + r.val) :
    iblk m c 3 t (ix4 p k r l) = (m ((c.tc : Thread nD τ).loc main_arg3) : S2x8x32768x256.Idx → BitVec 32) (ix4 p k R l) := by
  refine (congrFun (V_main_arg3 m c) _).trans (congrArg (m ((c.tc : Thread nD τ).loc main_arg3) : S2x8x32768x256.Idx → BitVec 32) (funext fun a => Fin.ext ?_))
  match a with
  | ⟨0, _⟩ => show cc0_transform_3 (grid0.coords t) 0 * 2 + 1 * p.val = p.val; rw [(map3 t).1]; omega
  | ⟨1, _⟩ => show cc0_transform_3 (grid0.coords t) 1 * 8 + 1 * k.val = k.val; rw [(map3 t).2.1]; omega
  | ⟨2, _⟩ => show cc0_transform_3 (grid0.coords t) 2 * 512 + 1 * r.val = R.val; rw [(map3 t).2.2.1]; omega
  | ⟨3, _⟩ => show cc0_transform_3 (grid0.coords t) 3 * 256 + 1 * l.val = l.val; rw [(map3 t).2.2.2]; omega

theorem blk4 (t : Fin grid0.N) (r : Fin 512) (k : Fin 128) (R : Fin 32768) (hR : R.val = t.val * 512 + r.val) :
    iblk m c 4 t (ix2 r k) = (m ((c.tc : Thread nD τ).loc main_arg4) : S32768x128.Idx → EReal) (ix2 R k) := by
  refine (congrFun (V_main_arg4 m c) _).trans (congrArg (m ((c.tc : Thread nD τ).loc main_arg4) : S32768x128.Idx → EReal) (funext fun a => Fin.ext ?_))
  match a with
  | ⟨0, _⟩ => show cc0_transform_4 (grid0.coords t) 0 * 512 + 1 * r.val = R.val; rw [(map4 t).1]; omega
  | ⟨1, _⟩ => show cc0_transform_4 (grid0.coords t) 1 * 128 + 1 * k.val = k.val; rw [(map4 t).2]; omega

/-! ## The prepared weights' blocks: each is the whole of an array the host lines wrote -/

theorem host2 : @Eq (S1024x256.Idx → EReal) (V m c main_v2) (truncf (F := Ideal) .bf16 (shapeCast S1024x256 (extractStridedSlice S1x1024x256 ![1, 0, 0]
    (m ((c.tc : Thread nD τ).loc main_arg5) : S2x1024x256.Idx → EReal) slices_S2x1024x256_S1x1024x256_1_0_0) shapeCasts_S1x1024x256_S1024x256) bitsLt_bf16_f32) := by
  unfold_abbrev_sides
  after_results <;> rfl

theorem host5 : @Eq (S1024x256.Idx → EReal) (V m c main_v5) (truncf (F := Ideal) .bf16 (shapeCast S1024x256 (extractStridedSlice S1x1024x256 ![1, 0, 0]
    (m ((c.tc : Thread nD τ).loc main_arg6) : S2x1024x256.Idx → EReal) slices_S2x1024x256_S1x1024x256_1_0_0) shapeCasts_S1x1024x256_S1024x256) bitsLt_bf16_f32) := by
  unfold_abbrev_sides
  after_results <;> rfl

theorem host8 : @Eq (S256x1024.Idx → EReal) (V m c main_v8) (truncf (F := Ideal) .bf16 (shapeCast S256x1024 (extractStridedSlice S1x256x1024 ![1, 0, 0]
    (m ((c.tc : Thread nD τ).loc main_arg7) : S2x256x1024.Idx → EReal) slices_S2x256x1024_S1x256x1024_1_0_0) shapeCasts_S1x256x1024_S256x1024) bitsLt_bf16_f32) := by
  unfold_abbrev_sides
  after_results <;> rfl

theorem host11 : @Eq (S1x1024.Idx → EReal) (V m c main_v11) (shapeCast S1x1024 (shapeCast S1024 (extractStridedSlice S1x1024 ![1, 0]
    (m ((c.tc : Thread nD τ).loc main_arg8) : S2x1024.Idx → EReal) slices_S2x1024_S1x1024_1_0) shapeCasts_S1x1024_S1024) shapeCasts_S1024_S1x1024) := by
  unfold_abbrev_sides
  after_results <;> rfl

theorem blk5 (t : Fin grid0.N) (x : Fin 1024) (q : Fin 256) :
    @Eq EReal (iblk m c 5 t (ix2 x q)) ((m ((c.tc : Thread nD τ).loc main_arg5) : S2x1024x256.Idx → EReal) (ix3 1 x q)) := by
  refine (congrArg (V m c main_v2 : S1024x256.Idx → EReal) (funext fun d => Fin.ext ?_ : _ = (ix2 x q : S1024x256.Idx))).trans ((congrFun (host2 m c) _).trans ?_)
  · match d with
    | ⟨0, _⟩ => show 0 * 1024 + 1 * x.val = x.val; omega
    | ⟨1, _⟩ => show 0 * 256 + 1 * q.val = q.val; omega
  · pointwise

theorem blk6 (t : Fin grid0.N) (x : Fin 1024) (q : Fin 256) :
    @Eq EReal (iblk m c 6 t (ix2 x q)) ((m ((c.tc : Thread nD τ).loc main_arg6) : S2x1024x256.Idx → EReal) (ix3 1 x q)) := by
  refine (congrArg (V m c main_v5 : S1024x256.Idx → EReal) (funext fun d => Fin.ext ?_ : _ = (ix2 x q : S1024x256.Idx))).trans ((congrFun (host5 m c) _).trans ?_)
  · match d with
    | ⟨0, _⟩ => show 0 * 1024 + 1 * x.val = x.val; omega
    | ⟨1, _⟩ => show 0 * 256 + 1 * q.val = q.val; omega
  · pointwise

theorem blk7 (t : Fin grid0.N) (q : Fin 256) (x : Fin 1024) :
    @Eq EReal (iblk m c 7 t (ix2 q x)) ((m ((c.tc : Thread nD τ).loc main_arg7) : S2x256x1024.Idx → EReal) (ix3 1 q x)) := by
  refine (congrArg (V m c main_v8 : S256x1024.Idx → EReal) (funext fun d => Fin.ext ?_ : _ = (ix2 q x : S256x1024.Idx))).trans ((congrFun (host8 m c) _).trans ?_)
  · match d with
    | ⟨0, _⟩ => show 0 * 256 + 1 * q.val = q.val; omega
    | ⟨1, _⟩ => show 0 * 1024 + 1 * x.val = x.val; omega
  · pointwise

theorem blk8 (t : Fin grid0.N) (x : Fin 1024) :
    @Eq EReal (iblk m c 8 t (ix2 0 x)) ((m ((c.tc : Thread nD τ).loc main_arg8) : S2x1024.Idx → EReal) (ix2 1 x)) := by
  refine (congrArg (V m c main_v11 : S1x1024.Idx → EReal) (funext fun d => Fin.ext ?_ : _ = (ix2 0 x : S1x1024.Idx))).trans ((congrFun (host11 m c) _).trans ?_)
  · match d with
    | ⟨0, _⟩ => rfl
    | ⟨1, _⟩ => show 0 * 1024 + 1 * x.val = x.val; omega
  · pointwise

/-- Where entry `(0, r, j)` of a point's block lies in the result. -/
theorem emb9 (t : Fin grid0.N) (z : Fin 1) (r : Fin 512) (j : Fin 1024) (b : Fin 2) (s : Fin 16384) (hb : b.val = t.val / 32) (hs : s.val = t.val % 32 * 512 + r.val) :
    ((cfg0.win 9).blk t).view.emb (ix3 z r j : S1x512x1024.Idx) = (ix3 b s j : S2x16384x1024.Idx) := by
  refine funext fun a => Fin.ext ?_
  match a with
  | ⟨0, _⟩ => show cc0_transform_9 (grid0.coords t) 0 * 1 + 1 * z.val = b.val; rw [(map9 t).1]; omega
  | ⟨1, _⟩ => show cc0_transform_9 (grid0.coords t) 1 * 512 + 1 * r.val = s.val; rw [(map9 t).2.1]; omega
  | ⟨2, _⟩ => show cc0_transform_9 (grid0.coords t) 2 * 1024 + 1 * j.val = j.val; rw [(map9 t).2.2]; omega

end Cert.Proof.Comb

end
-- ==== Proof.CombRef.lean ====
/-
  The reference of the combining call, read at an index: the same sums as the kernel's blocks.
-/
module

public import proofs.«01_k».proof.Proof.CombValue
public import proofs.«01_k».proof.Proof.FfnRef
public import proofs.«01_k».proof.Proof.Gen.Reference3Ideal.Run

@[expose] public section

noncomputable section

namespace Cert.Proof.Comb

open Cert.Reference3Ideal Cert.Reference3Ideal.Gen
open Cert.Proof.Ffn (column shift_host zero_scalar)
open Idealize.ShloMosaic Idealize.ShloMosaic.TcCoe Idealize.SL.Sem

set_option maxRecDepth 16384

/-- Entry `(b, s, j)` of the reference: token `s` of batch `b` is row `16384 b + s` of the arrays over all tokens. -/
theorem ref_apply (m : (ℓ : Loc nD τ sig) → Buf (Elt Ideal) ℓ) (c : Dev nD)
    (a0 a1 : S2x16384x1024.Idx → EReal) (a2 : S2x6x1024.Idx → EReal) (a3 : S2x8x32768x256.Idx → BitVec 32) (a4 : S32768x128.Idx → EReal)
    (a5 a6 : S2x1024x256.Idx → EReal) (a7 : S2x256x1024.Idx → EReal) (a8 : S2x1024.Idx → EReal)
    (h0 : m (c.tc.loc main_arg0) = a0) (h1 : m (c.tc.loc main_arg1) = a1) (h2 : m (c.tc.loc main_arg2) = a2)
    (h3 : m (c.tc.loc main_arg3) = a3) (h4 : m (c.tc.loc main_arg4) = a4) (h5 : m (c.tc.loc main_arg5) = a5)
    (h6 : m (c.tc.loc main_arg6) = a6) (h7 : m (c.tc.loc main_arg7) = a7) (h8 : m (c.tc.loc main_arg8) = a8)
    (b : Fin 2) (s : Fin 16384) (j : Fin 1024) :
    @Eq EReal ((Value.res_main_v50 m c : S2x16384x1024.Idx → EReal) (ix3 b s j))
      (normed (mixed (fun x => a0 (ix3 b s x)) (fun x q => a5 (ix3 1 x q)) (fun x q => a6 (ix3 1 x q)) (fun q x => a7 (ix3 1 q x))
            (fun k => a4 (ix2 ⟨b.val * 16384 + s.val, by omega⟩ ⟨k.val, by omega⟩))
            (fun k p l => a3 (ix4 p k ⟨b.val * 16384 + s.val, by omega⟩ l)))
          (a1 (ix3 b s j)) (a8 (ix2 1 j)) (a2 (ix3 b 5 j)) j) := by
  unfold Value.res_main_v50
  clean_types
  pointwise
  simp only [h0, h1, h2, h3, h4, h5, h6, h7, h8, shift_host, id, zero_scalar]
  rfl

end Cert.Proof.Comb

end
-- ==== Proof.CombRows.lean ====
/-
  The combining call against its reference: the array it leaves is the reference's.
-/
module

public import proofs.«01_k».proof.Proof.CombBlocks
public import proofs.«01_k».proof.Proof.CombRef
public import Idealize.ShloMosaic.Lib.Pipeline.Value

@[expose] public section

noncomputable section

namespace Cert.Proof.Comb

open Cert.Kernel3Ideal Cert.Kernel3Ideal.Gen
open Idealize.ShloMosaic Idealize.ShloMosaic.TcCoe Idealize.ShloMosaic.Pipeline Idealize.SL.Sem

set_option maxRecDepth 16384

variable (m : (ℓ : Loc nD τ sig) → Buf (Elt Ideal) ℓ) (m' : (ℓ : Loc Cert.Reference3Ideal.nD Cert.Reference3Ideal.τ Cert.Reference3Ideal.sig) → Buf (Elt Ideal) ℓ)
variable [∀ e, Nonempty (Elt Ideal e)] (c : Dev nD)

/-- The reference's arguments are the kernel's. -/
abbrev SameArgs : Prop :=
  m' (c.tc.loc Cert.Reference3Ideal.main_arg0) = m (c.tc.loc main_arg0)
    ∧ m' (c.tc.loc Cert.Reference3Ideal.main_arg1) = m (c.tc.loc main_arg1)
    ∧ m' (c.tc.loc Cert.Reference3Ideal.main_arg2) = m (c.tc.loc main_arg2)
    ∧ m' (c.tc.loc Cert.Reference3Ideal.main_arg3) = m (c.tc.loc main_arg3)
    ∧ m' (c.tc.loc Cert.Reference3Ideal.main_arg4) = m (c.tc.loc main_arg4)
    ∧ m' (c.tc.loc Cert.Reference3Ideal.main_arg5) = m (c.tc.loc main_arg5)
    ∧ m' (c.tc.loc Cert.Reference3Ideal.main_arg6) = m (c.tc.loc main_arg6)
    ∧ m' (c.tc.loc Cert.Reference3Ideal.main_arg7) = m (c.tc.loc main_arg7)
    ∧ m' (c.tc.loc Cert.Reference3Ideal.main_arg8) = m (c.tc.loc main_arg8)

/-- The reference's result, as contents of the kernel's result. -/
abbrev resultOf : S2x16384x1024.Idx → EReal := Cert.Reference3Ideal.Value.res_main_v50 m' c

/-- One entry of the block that point `t` leaves: the reference's entry at the same place. -/
theorem point_eq (e : SameArgs m m' c) (t : Fin grid0.N) (z : Fin 1) (r : Fin 512) (j : Fin 1024) (b : Fin 2) (s : Fin 16384)
    (hb : b.val = t.val / 32) (hs : s.val = t.val % 32 * 512 + r.val) :
    @Eq EReal (out0_9 (iblk m c 0 t) (iblk m c 1 t) (iblk m c 2 t) (iblk m c 3 t) (iblk m c 4 t) (iblk m c 5 t) (iblk m c 6 t) (iblk m c 7 t) (iblk m c 8 t) (ix3 z r j))
      (resultOf m' c (ix3 b s j)) := by
  obtain ⟨h0, h1, h2, h3, h4, h5, h6, h7, h8⟩ := e
  have ht : t.val < 64 := t.isLt
  have hR : b.val * 16384 + s.val = t.val * 512 + r.val := by omega
  refine Eq.trans ?_ (ref_apply m' c _ _ _ _ _ _ _ _ _ h0 h1 h2 h3 h4 h5 h6 h7 h8 b s j).symm
  rw [out_apply]
  have E0 : (fun x => iblk m c 0 t (ix3 0 r x) : Fin 1024 → EReal) = _ := funext fun x => blk0 m c t r x b s hb hs
  have E1 := blk1 m c t r j b s hb hs
  have E2 := blk2 m c t 5 j b hb
  have E3 : (fun k p l => iblk m c 3 t (ix4 p k r l) : Fin 8 → Fin 2 → Fin 256 → BitVec 32) = _ :=
    funext fun k => funext fun p => funext fun l => blk3 m c t p k r l ⟨b.val * 16384 + s.val, by omega⟩ hR
  have E4 : (fun k => iblk m c 4 t (ix2 r ⟨k.val, by omega⟩) : Fin 8 → EReal) = _ :=
    funext fun k => blk4 m c t r ⟨k.val, by omega⟩ ⟨b.val * 16384 + s.val, by omega⟩ hR
  have E5 : (fun x q => iblk m c 5 t (ix2 x q) : Fin 1024 → Fin 256 → EReal) = _ := funext fun x => funext fun q => blk5 m c t x q
  have E6 : (fun x q => iblk m c 6 t (ix2 x q) : Fin 1024 → Fin 256 → EReal) = _ := funext fun x => funext fun q => blk6 m c t x q
  have E7 : (fun q x => iblk m c 7 t (ix2 q x) : Fin 256 → Fin 1024 → EReal) = _ := funext fun q => funext fun x => blk7 m c t q x
  have E8 := blk8 m c t j
  rw [E0, E3, E4, E5, E6, E7, E1, E2, E8]

theorem coords3 (y : S1x512x1024.Idx) : ∃ (a : Fin 1) (b : Fin 512) (d : Fin 1024), y = ix3 a b d :=
  ⟨y (0 : Fin 3), y (1 : Fin 3), y (2 : Fin 3), funext fun
    | ⟨0, _⟩ => rfl
    | ⟨1, _⟩ => rfl
    | ⟨2, _⟩ => rfl⟩

/-- What point `t` writes back is the reference's block. -/
theorem flushed_eq (e : SameArgs m m' c) (t : Fin cfg0.N) :
    (dats m 0 c).flushed 9 t = ((cfg0.win 9).blk t).view.read (Elt Ideal) (resultOf m' c) := by
  show (cfg0.win 9).cut (grid0.coords t) ((dats m 0 c).after 9 t) = _
  rw [after0_9]
  refine funext fun y => ?_
  obtain ⟨z, r, j, rfl⟩ := coords3 y
  have ht : t.val < 64 := t.isLt
  have hr := r.isLt
  exact (point_eq m m' c e t z r j ⟨t.val / 32, by omega⟩ ⟨t.val % 32 * 512 + r.val, by omega⟩ rfl rfl).trans
    (congrArg (resultOf m' c) (emb9 t z r j ⟨t.val / 32, by omega⟩ ⟨t.val % 32 * 512 + r.val, by omega⟩ rfl rfl)).symm

/-- Every entry of the result lies in some point's block. -/
theorem covered (i : S2x16384x1024.Idx) : ∃ t : Fin cfg0.N, (cfg0.win 9).flush t = true ∧ i ∈ ((cfg0.win 9).blk t).view.set := by
  have h0 : (i (0 : Fin 3)).val < 2 := (i (0 : Fin 3)).isLt
  have h1 : (i (1 : Fin 3)).val < 16384 := (i (1 : Fin 3)).isLt
  have hN : (i (0 : Fin 3)).val * 32 + (i (1 : Fin 3)).val / 512 < grid0.N := by
    show _ < 64
    omega
  refine ⟨⟨_, hN⟩, flush0_9 _, Finset.mem_map.mpr ⟨(ix3 0 ⟨(i (1 : Fin 3)).val % 512, by omega⟩ (i (2 : Fin 3)) : S1x512x1024.Idx), Finset.mem_univ _, ?_⟩⟩
  refine (emb9 ⟨_, hN⟩ 0 ⟨(i (1 : Fin 3)).val % 512, by omega⟩ (i (2 : Fin 3)) (i (0 : Fin 3)) (i (1 : Fin 3)) ?_ ?_).trans ?_
  · show (i (0 : Fin 3)).val = ((i (0 : Fin 3)).val * 32 + (i (1 : Fin 3)).val / 512) / 32
    omega
  · show (i (1 : Fin 3)).val = ((i (0 : Fin 3)).val * 32 + (i (1 : Fin 3)).val / 512) % 32 * 512 + (i (1 : Fin 3)).val % 512
    omega
  · funext a
    match a with
    | ⟨0, _⟩ => rfl
    | ⟨1, _⟩ => rfl
    | ⟨2, _⟩ => rfl

/-- The result after the run is the reference's. -/
theorem result_eq (e : SameArgs m m' c) (r : PUnit × MemSt nD τ sig (Elt Ideal)) (h : FramePost cfgs (dats m) 0 (V m) r) :
    r.2.mem ((c.tc : Thread nD τ).loc main_v12) = resultOf m' c :=
  ((h c).1 9).trans ((dats m 0 c).arrAt_eq_of_cover 9 (resultOf m' c) (fun t _ => flushed_eq m m' c e t) covered)

end Cert.Proof.Comb

end
-- ==== Proof.AttnValue.lean ====
/-
  The value of the attention call's body: its accumulator, followed store by store, is a sum over the keys.
-/
module

public import proofs.«01_k».proof.Proof.CombValue
public import proofs.«01_k».proof.Proof.Gen.Kernel4Ideal.Frame
public import Idealize.ShloMosaic.Lib.WholeRead

@[expose] public section

noncomputable section

namespace Cert.Proof.Attn

open Cert.Kernel4Ideal Cert.Kernel4Ideal.Gen
open Cert.Proof.Comb (zeros2 zeros3)
open Idealize.ShloMosaic Idealize.ShloMosaic.TcCoe Idealize.SL.Sem

set_option maxRecDepth 16384

/-! ## One step's two operations, read at an index -/

/-- The probabilities' block: for key row `t` and query column `q`, two to the power of score minus shift. -/
theorem probs_apply (Q : FVec Ideal S128x1024 .bf16) (S : FVec Ideal S1x1024 .f32) (K : Vec Ideal S1x1x256x128 .bf16) (z : Fin 1) (t : Fin 256) (q : Fin 1024) :
    @Eq EReal (k0_pay16 Q S K (ix3 z t q)) (Ideal.exp2 ((∑ l : Fin 128, K (ix4 0 0 t l) * Q (ix2 l q)) - S (ix2 0 q))) := by
  pointwise [k0_pay16]
  rfl

/-- The accumulator's step: the value rows times the block of probabilities, added. -/
theorem add_apply (A : Vec Ideal S80x1024 .f32) (V : Vec Ideal S1x1x1x80x256 .bf16) (P : Vec Ideal S1x256x1024 .bf16) (r : Fin 80) (q : Fin 1024) :
    @Eq EReal (k0_pay9 A V P (ix2 r q)) (A (ix2 r q) + ∑ t : Fin 256, V (ix5 0 0 0 r t) * P (ix3 0 t q)) := by
  pointwise [k0_pay9]

theorem zero_acc (r : Fin 80) (q : Fin 1024) : @Eq EReal (k0_pay6 (F := Ideal) (ix2 r q)) 0 := by
  pointwise [k0_pay6]

theorem zero_slot0 (z : Fin 1) (t : Fin 256) (q : Fin 1024) : @Eq EReal (k0_pay7 (F := Ideal) (FloatOps.ofBits FTy.bf16 0#16) (ix3 z t q)) 0 := by
  pointwise [k0_pay7]

theorem zero_slot1 (z : Fin 1) (t : Fin 256) (q : Fin 1024) : @Eq EReal (k0_pay8 (F := Ideal) (ix3 z t q)) 0 := by
  pointwise [k0_pay8]

/-! ## The sum the accumulator holds -/

section
variable (x0 : Vec Ideal S1x1x128x512 .bf16) (x1 : Vec Ideal S1x1x16640x128 .bf16) (x2 : Vec Ideal S1x1x65x80x256 .bf16) (x3 : Vec Ideal S1x1x2x128 .f32)

/-- The probability, not divided yet, of key `256 j + t` for query column `q`. -/
def prob (j : Fin 65) (t : Fin 256) (q : Fin 1024) : EReal :=
  Ideal.exp2 ((∑ l : Fin 128, x1 (ix4 0 0 ⟨256 * j.val + t.val, by omega⟩ l) * k0_pay4 x0 (ix2 l q)) - k0_pay5 x0 x3 (ix2 0 q))

/-- What block `j` of the keys adds to entry `(r, q)` of the accumulator. -/
def added (r : Fin 80) (q : Fin 1024) (j : ℕ) : EReal :=
  if h : j < 65 then ∑ t : Fin 256, x2 (ix5 0 0 ⟨j, h⟩ r t) * prob x0 x1 x3 ⟨j, h⟩ t q else 0

/-- The accumulator after `n` blocks of keys. -/
abbrev Holds (A : Vec Ideal S80x1024 .f32) (n : ℕ) : Prop :=
  ∀ (r : Fin 80) (q : Fin 1024), @Eq EReal (A (ix2 r q)) (∑ j ∈ Finset.range n, added x0 x1 x2 x3 r q j)

/-- A slot of the pipeline that holds block `n`'s probabilities. -/
abbrev Slot (P : Vec Ideal S1x256x1024 .bf16) (j : Fin 65) : Prop :=
  ∀ (t : Fin 256) (q : Fin 1024), @Eq EReal (P (ix3 0 t q)) (prob x0 x1 x3 j t q)

/-- A slot that holds zeros. -/
abbrev Empty (P : Vec Ideal S1x256x1024 .bf16) : Prop := ∀ (t : Fin 256) (q : Fin 1024), @Eq EReal (P (ix3 0 t q)) 0

/-- The block of value rows that a load at offset `o` reads. -/
theorem values_ld (arg5 : Memref sig .tc .vmem S1x1x65x80x256 .bf16) (harg5 : arg5.IsWhole) (o : Fin 5 → ℕ) (j : Fin 65) (ho : o = ![0, 0, j.val, 0, 0])
    (inb : ∀ a, o a + S1x1x1x80x256.size a ≤ S1x1x65x80x256.size a) (r : Fin 80) (t : Fin 256) :
    View.readAt (Elt Ideal) arg5.view (Rect.unit (s := S1x1x65x80x256) o S1x1x1x80x256.size inb).toLoadRect (harg5.unread x2) (ix5 0 0 0 r t) = x2 (ix5 0 0 j r t) := by
  subst ho
  rw [View.readAt_eq_ld, Memref.IsWhole.read_unread]
  refine congrArg x2 (funext fun a => Fin.ext ?_)
  match a with
  | ⟨0, _⟩ => rfl
  | ⟨1, _⟩ => rfl
  | ⟨2, _⟩ => show j.val + 1 * 0 = j.val; omega
  | ⟨3, _⟩ => show 0 + 1 * r.val = r.val; omega
  | ⟨4, _⟩ => show 0 + 1 * t.val = t.val; omega

/-- The block of keys that a load at row `o` reads. -/
theorem keys_ld (arg4 : Memref sig .tc .vmem S1x1x16640x128 .bf16) (harg4 : arg4.IsWhole) (o : Fin 4 → ℕ) (j : Fin 65) (ho : o = ![0, 0, 256 * j.val, 0])
    (inb : ∀ a, o a + S1x1x256x128.size a ≤ S1x1x16640x128.size a) (t : Fin 256) (l : Fin 128) :
    View.readAt (Elt Ideal) arg4.view (Rect.unit (s := S1x1x16640x128) o S1x1x256x128.size inb).toLoadRect (harg4.unread x1) (ix4 0 0 t l)
      = x1 (ix4 0 0 ⟨256 * j.val + t.val, by omega⟩ l) := by
  subst ho
  rw [View.readAt_eq_ld, Memref.IsWhole.read_unread]
  refine congrArg x1 (funext fun a => Fin.ext ?_)
  match a with
  | ⟨0, _⟩ => rfl
  | ⟨1, _⟩ => rfl
  | ⟨2, _⟩ => show 256 * j.val + 1 * t.val = 256 * j.val + t.val; omega
  | ⟨3, _⟩ => show 0 + 1 * l.val = l.val; omega

theorem zeros4 : (![0, 0, 0, 0] : Fin 4 → ℕ) = fun _ => 0 := by funext a; match a with | 0 => rfl | 1 => rfl | 2 => rfl | 3 => rfl

theorem query_eq (c : Dev nD) (arg3 : Memref sig .tc .vmem S1x1x128x512 .bf16) (harg3 : arg3.IsWhole) :
    kernelRun0_A.sl.r (F := Ideal) c arg3 harg3 x0 = k0_pay4 x0 := by
  unfold kernelRun0_A.sl.r
  rw [View.readAt_eq_ld, Memref.IsWhole.read_unread, View.ld_unit_zero zeros4]

theorem shift_eq (c : Dev nD) (arg3 : Memref sig .tc .vmem S1x1x128x512 .bf16) (harg3 : arg3.IsWhole) (arg6 : Memref sig .tc .vmem S1x1x2x128 .f32) (harg6 : arg6.IsWhole) :
    kernelRun0_A.sl.r_1 (F := Ideal) c arg3 harg3 arg6 harg6 x0 x3 = k0_pay5 x0 x3 := by
  unfold kernelRun0_A.sl.r_1
  rw [View.readAt_eq_ld, View.readAt_eq_ld, Memref.IsWhole.read_unread, Memref.IsWhole.read_unread, View.ld_unit_zero zeros4, View.ld_unit_zero zeros4]

/-- The probabilities computed from the block of keys at row `256 j` are block `j`'s. -/
theorem slot_of (c : Dev nD) (arg3 : Memref sig .tc .vmem S1x1x128x512 .bf16) (harg3 : arg3.IsWhole) (arg4 : Memref sig .tc .vmem S1x1x16640x128 .bf16) (harg4 : arg4.IsWhole)
    (arg6 : Memref sig .tc .vmem S1x1x2x128 .f32) (harg6 : arg6.IsWhole) (o : Fin 4 → ℕ) (j : Fin 65) (ho : o = ![0, 0, 256 * j.val, 0])
    (inb : ∀ a, o a + S1x1x256x128.size a ≤ S1x1x16640x128.size a) :
    Slot x0 x1 x3 (k0_pay16 (kernelRun0_A.sl.r (F := Ideal) c arg3 harg3 x0) (kernelRun0_A.sl.r_1 (F := Ideal) c arg3 harg3 arg6 harg6 x0 x3)
      (View.readAt (Elt Ideal) arg4.view (Rect.unit (s := S1x1x16640x128) o S1x1x256x128.size inb).toLoadRect (harg4.unread x1))) j := fun t q => by
  rw [query_eq, shift_eq, probs_apply]
  simp only [keys_ld x1 arg4 harg4 o j ho]
  rfl

/-- One step of the accumulator, its slot holding the next block's probabilities. -/
theorem holds_next {A P} {n : ℕ} (hn : n < 65) (hA : Holds x0 x1 x2 x3 A n) (hP : Slot x0 x1 x3 P ⟨n, hn⟩) (arg5 : Memref sig .tc .vmem S1x1x65x80x256 .bf16) (harg5 : arg5.IsWhole)
    (o : Fin 5 → ℕ) (ho : o = ![0, 0, n, 0, 0]) (inb : ∀ a, o a + S1x1x1x80x256.size a ≤ S1x1x65x80x256.size a) :
    Holds x0 x1 x2 x3 (k0_pay9 A (View.readAt (Elt Ideal) arg5.view (Rect.unit (s := S1x1x65x80x256) o S1x1x1x80x256.size inb).toLoadRect (harg5.unread x2)) P) (n + 1) := fun r q => by
  rw [add_apply, hA, Finset.sum_range_succ]
  refine congrArg (_ + ·) ?_
  unfold added
  rw [dif_pos hn]
  refine Finset.sum_congr rfl fun t _ => ?_
  rw [values_ld x2 arg5 harg5 o ⟨n, hn⟩ ho, hP]

/-- One step of the accumulator, its slot holding zeros. -/
theorem holds_same {A P} {n : ℕ} (hA : Holds x0 x1 x2 x3 A n) (hP : Empty P) (V : Vec Ideal S1x1x1x80x256 .bf16) : Holds x0 x1 x2 x3 (k0_pay9 A V P) n := fun r q => by
  rw [add_apply, hA]
  refine (congrArg (_ + ·) (Finset.sum_eq_zero fun t _ => ?_)).trans (add_zero _)
  rw [hP, mul_zero]

end

end Cert.Proof.Attn

end
-- ==== Proof.AttnSlots.lean ====
/-
  The pipeline's two slots: what each load of a slot finds is the block of probabilities stored there two steps before.
-/
module

public import proofs.«01_k».proof.Proof.AttnValue

@[expose] public section

noncomputable section

namespace Cert.Proof.Attn

open Cert.Kernel4Ideal Cert.Kernel4Ideal.Gen Cert.Kernel4Ideal.Gen.kernelRun0_A
open Idealize.ShloMosaic Idealize.ShloMosaic.TcCoe Idealize.SL.Sem

set_option maxRecDepth 16384

/-- A load of one slot passes over a store into the other. -/
theorem skip01 [∀ e, Nonempty (Elt Ideal e)] (v : View sig Kind.tc Space.vmem S2x256x1024 EltTy.bf16) (w : Vec Ideal S1x256x1024 .bf16) (L : List (View.Piece (Elt Ideal) S2x256x1024 .bf16)) :
    v.readCov (⟨Rect.unit (s := S2x256x1024) ![0, 0, 0] S1x256x1024.size inb_S2x256x1024_S1x256x1024_0_0_0, w⟩ :: L) (Rect.unit (s := S2x256x1024) ![1, 0, 0] S1x256x1024.size inb_S2x256x1024_S1x256x1024_1_0_0).toLoadRect
      = v.readCov L (Rect.unit (s := S2x256x1024) ![1, 0, 0] S1x256x1024.size inb_S2x256x1024_S1x256x1024_1_0_0).toLoadRect :=
  View.readCov_cons_of_disjoint v ⟨Rect.unit (s := S2x256x1024) ![0, 0, 0] S1x256x1024.size inb_S2x256x1024_S1x256x1024_0_0_0, w⟩ L _ (Rect.unit_disjoint (inb := inb_S2x256x1024_S1x256x1024_0_0_0) (inb' := inb_S2x256x1024_S1x256x1024_1_0_0) 0 (Or.inl (by decide)))
theorem skip10 [∀ e, Nonempty (Elt Ideal e)] (v : View sig Kind.tc Space.vmem S2x256x1024 EltTy.bf16) (w : Vec Ideal S1x256x1024 .bf16) (L : List (View.Piece (Elt Ideal) S2x256x1024 .bf16)) :
    v.readCov (⟨Rect.unit (s := S2x256x1024) ![1, 0, 0] S1x256x1024.size inb_S2x256x1024_S1x256x1024_1_0_0, w⟩ :: L) (Rect.unit (s := S2x256x1024) ![0, 0, 0] S1x256x1024.size inb_S2x256x1024_S1x256x1024_0_0_0).toLoadRect
      = v.readCov L (Rect.unit (s := S2x256x1024) ![0, 0, 0] S1x256x1024.size inb_S2x256x1024_S1x256x1024_0_0_0).toLoadRect :=
  View.readCov_cons_of_disjoint v ⟨Rect.unit (s := S2x256x1024) ![1, 0, 0] S1x256x1024.size inb_S2x256x1024_S1x256x1024_1_0_0, w⟩ L _ (Rect.unit_disjoint (inb := inb_S2x256x1024_S1x256x1024_1_0_0) (inb' := inb_S2x256x1024_S1x256x1024_0_0_0) 0 (Or.inr (by decide)))
/-- A load of a rectangle finds what was last stored there. -/
theorem found [∀ e, Nonempty (Elt Ideal e)] {s : Shape} {e : EltTy} (v : View sig Kind.tc Space.vmem s e) (r : Rect s) (w : r.shape.Idx → Elt Ideal e) (L : List (View.Piece (Elt Ideal) s e)) :
    v.readCov (⟨r, w⟩ :: L) r.toLoadRect = w := View.readCov_cons_toLoadRect v r w L

/-! Every block is computed by the same operations. -/

theorem block_11 (Q : Vec Ideal S128x1024 .bf16) (S : Vec Ideal S1x1024 .f32) (K : Vec Ideal S1x1x256x128 .bf16) : k0_pay11 Q S (k0_pay10 K) (sl.cst_40 (F := Ideal)) = k0_pay16 Q S K := rfl
theorem block_14 (Q : Vec Ideal S128x1024 .bf16) (S : Vec Ideal S1x1024 .f32) (K : Vec Ideal S1x1x256x128 .bf16) : k0_pay14 (k0_pay13 Q S K) = k0_pay16 Q S K := rfl
theorem block_18 (Q : Vec Ideal S128x1024 .bf16) (S : Vec Ideal S1x1024 .f32) (K : Vec Ideal S1x1x256x128 .bf16) : k0_pay18 Q S K = k0_pay16 Q S K := rfl
theorem block_20 (Q : Vec Ideal S128x1024 .bf16) (S : Vec Ideal S1x1024 .f32) (K : Vec Ideal S1x1x256x128 .bf16) : k0_pay20 Q S K = k0_pay16 Q S K := rfl
theorem block_22 (Q : Vec Ideal S128x1024 .bf16) (S : Vec Ideal S1x1024 .f32) (K : Vec Ideal S1x1x256x128 .bf16) : k0_pay22 Q S K = k0_pay16 Q S K := rfl
theorem block_25 (Q : Vec Ideal S128x1024 .bf16) (S : Vec Ideal S1x1024 .f32) (K : Vec Ideal S1x1x256x128 .bf16) : k0_pay25 Q S K = k0_pay16 Q S K := rfl
theorem block_29 (Q : Vec Ideal S128x1024 .bf16) (S : Vec Ideal S1x1024 .f32) (K : Vec Ideal S1x1x256x128 .bf16) : k0_pay29 Q S K = k0_pay16 Q S K := rfl
theorem block_32 (Q : Vec Ideal S128x1024 .bf16) (S : Vec Ideal S1x1024 .f32) (K : Vec Ideal S1x1x256x128 .bf16) : k0_pay32 Q S K = k0_pay16 Q S K := rfl
theorem block_34 (Q : Vec Ideal S128x1024 .bf16) (S : Vec Ideal S1x1024 .f32) (K : Vec Ideal S1x1x256x128 .bf16) : k0_pay34 Q S K = k0_pay16 Q S K := rfl
theorem block_37 (Q : Vec Ideal S128x1024 .bf16) (S : Vec Ideal S1x1024 .f32) (K : Vec Ideal S1x1x256x128 .bf16) : k0_pay37 Q S (k0_pay36 K) (sl.cst_40 (F := Ideal)) = k0_pay16 Q S K := rfl
theorem block_40 (Q : Vec Ideal S128x1024 .bf16) (S : Vec Ideal S1x1024 .f32) (K : Vec Ideal S1x1x256x128 .bf16) : k0_pay40 (k0_pay39 Q S K) = k0_pay16 Q S K := rfl
theorem block_42 (Q : Vec Ideal S128x1024 .bf16) (S : Vec Ideal S1x1024 .f32) (K : Vec Ideal S1x1x256x128 .bf16) : k0_pay42 Q S K = k0_pay16 Q S K := rfl
theorem block_44 (Q : Vec Ideal S128x1024 .bf16) (S : Vec Ideal S1x1024 .f32) (K : Vec Ideal S1x1x256x128 .bf16) : k0_pay44 Q S K = k0_pay16 Q S K := rfl
theorem block_46 (Q : Vec Ideal S128x1024 .bf16) (S : Vec Ideal S1x1024 .f32) (K : Vec Ideal S1x1x256x128 .bf16) : k0_pay46 Q S K = k0_pay16 Q S K := rfl
theorem block_48 (Q : Vec Ideal S128x1024 .bf16) (S : Vec Ideal S1x1024 .f32) (K : Vec Ideal S1x1x256x128 .bf16) : k0_pay48 Q S K = k0_pay16 Q S K := rfl
theorem block_51 (Q : Vec Ideal S128x1024 .bf16) (S : Vec Ideal S1x1024 .f32) (K : Vec Ideal S1x1x256x128 .bf16) : k0_pay51 Q S K = k0_pay16 Q S K := rfl
theorem block_55 (Q : Vec Ideal S128x1024 .bf16) (S : Vec Ideal S1x1024 .f32) (K : Vec Ideal S1x1x256x128 .bf16) : k0_pay55 Q S K = k0_pay16 Q S K := rfl
theorem block_58 (Q : Vec Ideal S128x1024 .bf16) (S : Vec Ideal S1x1024 .f32) (K : Vec Ideal S1x1x256x128 .bf16) : k0_pay58 Q S K = k0_pay16 Q S K := rfl
theorem block_60 (Q : Vec Ideal S128x1024 .bf16) (S : Vec Ideal S1x1024 .f32) (K : Vec Ideal S1x1x256x128 .bf16) : k0_pay60 Q S K = k0_pay16 Q S K := rfl
theorem block_63 (Q : Vec Ideal S128x1024 .bf16) (S : Vec Ideal S1x1024 .f32) (K : Vec Ideal S1x1x256x128 .bf16) : k0_pay63 Q S (k0_pay62 K) (sl.cst_40 (F := Ideal)) = k0_pay16 Q S K := rfl
theorem block_66 (Q : Vec Ideal S128x1024 .bf16) (S : Vec Ideal S1x1024 .f32) (K : Vec Ideal S1x1x256x128 .bf16) : k0_pay66 (k0_pay65 Q S K) = k0_pay16 Q S K := rfl
theorem block_68 (Q : Vec Ideal S128x1024 .bf16) (S : Vec Ideal S1x1024 .f32) (K : Vec Ideal S1x1x256x128 .bf16) : k0_pay68 Q S K = k0_pay16 Q S K := rfl
theorem block_70 (Q : Vec Ideal S128x1024 .bf16) (S : Vec Ideal S1x1024 .f32) (K : Vec Ideal S1x1x256x128 .bf16) : k0_pay70 Q S K = k0_pay16 Q S K := rfl
theorem block_72 (Q : Vec Ideal S128x1024 .bf16) (S : Vec Ideal S1x1024 .f32) (K : Vec Ideal S1x1x256x128 .bf16) : k0_pay72 Q S K = k0_pay16 Q S K := rfl
theorem block_74 (Q : Vec Ideal S128x1024 .bf16) (S : Vec Ideal S1x1024 .f32) (K : Vec Ideal S1x1x256x128 .bf16) : k0_pay74 Q S K = k0_pay16 Q S K := rfl
theorem block_77 (Q : Vec Ideal S128x1024 .bf16) (S : Vec Ideal S1x1024 .f32) (K : Vec Ideal S1x1x256x128 .bf16) : k0_pay77 Q S K = k0_pay16 Q S K := rfl
theorem block_81 (Q : Vec Ideal S128x1024 .bf16) (S : Vec Ideal S1x1024 .f32) (K : Vec Ideal S1x1x256x128 .bf16) : k0_pay81 Q S K = k0_pay16 Q S K := rfl
theorem block_84 (Q : Vec Ideal S128x1024 .bf16) (S : Vec Ideal S1x1024 .f32) (K : Vec Ideal S1x1x256x128 .bf16) : k0_pay84 Q S K = k0_pay16 Q S K := rfl
theorem block_86 (Q : Vec Ideal S128x1024 .bf16) (S : Vec Ideal S1x1024 .f32) (K : Vec Ideal S1x1x256x128 .bf16) : k0_pay86 Q S K = k0_pay16 Q S K := rfl
theorem block_89 (Q : Vec Ideal S128x1024 .bf16) (S : Vec Ideal S1x1024 .f32) (K : Vec Ideal S1x1x256x128 .bf16) : k0_pay89 Q S (k0_pay88 K) (sl.cst_40 (F := Ideal)) = k0_pay16 Q S K := rfl
theorem block_92 (Q : Vec Ideal S128x1024 .bf16) (S : Vec Ideal S1x1024 .f32) (K : Vec Ideal S1x1x256x128 .bf16) : k0_pay92 (k0_pay91 Q S K) = k0_pay16 Q S K := rfl
theorem block_94 (Q : Vec Ideal S128x1024 .bf16) (S : Vec Ideal S1x1024 .f32) (K : Vec Ideal S1x1x256x128 .bf16) : k0_pay94 Q S K = k0_pay16 Q S K := rfl
theorem block_96 (Q : Vec Ideal S128x1024 .bf16) (S : Vec Ideal S1x1024 .f32) (K : Vec Ideal S1x1x256x128 .bf16) : k0_pay96 Q S K = k0_pay16 Q S K := rfl
theorem block_98 (Q : Vec Ideal S128x1024 .bf16) (S : Vec Ideal S1x1024 .f32) (K : Vec Ideal S1x1x256x128 .bf16) : k0_pay98 Q S K = k0_pay16 Q S K := rfl
theorem block_100 (Q : Vec Ideal S128x1024 .bf16) (S : Vec Ideal S1x1024 .f32) (K : Vec Ideal S1x1x256x128 .bf16) : k0_pay100 Q S K = k0_pay16 Q S K := rfl
theorem block_103 (Q : Vec Ideal S128x1024 .bf16) (S : Vec Ideal S1x1024 .f32) (K : Vec Ideal S1x1x256x128 .bf16) : k0_pay103 Q S K = k0_pay16 Q S K := rfl
theorem block_107 (Q : Vec Ideal S128x1024 .bf16) (S : Vec Ideal S1x1024 .f32) (K : Vec Ideal S1x1x256x128 .bf16) : k0_pay107 Q S K = k0_pay16 Q S K := rfl
theorem block_110 (Q : Vec Ideal S128x1024 .bf16) (S : Vec Ideal S1x1024 .f32) (K : Vec Ideal S1x1x256x128 .bf16) : k0_pay110 Q S K = k0_pay16 Q S K := rfl
theorem block_112 (Q : Vec Ideal S128x1024 .bf16) (S : Vec Ideal S1x1024 .f32) (K : Vec Ideal S1x1x256x128 .bf16) : k0_pay112 Q S K = k0_pay16 Q S K := rfl
theorem block_115 (Q : Vec Ideal S128x1024 .bf16) (S : Vec Ideal S1x1024 .f32) (K : Vec Ideal S1x1x256x128 .bf16) : k0_pay115 Q S (k0_pay114 K) (sl.cst_40 (F := Ideal)) = k0_pay16 Q S K := rfl
theorem block_118 (Q : Vec Ideal S128x1024 .bf16) (S : Vec Ideal S1x1024 .f32) (K : Vec Ideal S1x1x256x128 .bf16) : k0_pay118 (k0_pay117 Q S K) = k0_pay16 Q S K := rfl
theorem block_120 (Q : Vec Ideal S128x1024 .bf16) (S : Vec Ideal S1x1024 .f32) (K : Vec Ideal S1x1x256x128 .bf16) : k0_pay120 Q S K = k0_pay16 Q S K := rfl
theorem block_122 (Q : Vec Ideal S128x1024 .bf16) (S : Vec Ideal S1x1024 .f32) (K : Vec Ideal S1x1x256x128 .bf16) : k0_pay122 Q S K = k0_pay16 Q S K := rfl
theorem block_124 (Q : Vec Ideal S128x1024 .bf16) (S : Vec Ideal S1x1024 .f32) (K : Vec Ideal S1x1x256x128 .bf16) : k0_pay124 Q S K = k0_pay16 Q S K := rfl
theorem block_126 (Q : Vec Ideal S128x1024 .bf16) (S : Vec Ideal S1x1024 .f32) (K : Vec Ideal S1x1x256x128 .bf16) : k0_pay126 Q S K = k0_pay16 Q S K := rfl
theorem block_129 (Q : Vec Ideal S128x1024 .bf16) (S : Vec Ideal S1x1024 .f32) (K : Vec Ideal S1x1x256x128 .bf16) : k0_pay129 Q S K = k0_pay16 Q S K := rfl
theorem block_133 (Q : Vec Ideal S128x1024 .bf16) (S : Vec Ideal S1x1024 .f32) (K : Vec Ideal S1x1x256x128 .bf16) : k0_pay133 Q S K = k0_pay16 Q S K := rfl
theorem block_136 (Q : Vec Ideal S128x1024 .bf16) (S : Vec Ideal S1x1024 .f32) (K : Vec Ideal S1x1x256x128 .bf16) : k0_pay136 Q S K = k0_pay16 Q S K := rfl
theorem block_138 (Q : Vec Ideal S128x1024 .bf16) (S : Vec Ideal S1x1024 .f32) (K : Vec Ideal S1x1x256x128 .bf16) : k0_pay138 Q S K = k0_pay16 Q S K := rfl
theorem block_141 (Q : Vec Ideal S128x1024 .bf16) (S : Vec Ideal S1x1024 .f32) (K : Vec Ideal S1x1x256x128 .bf16) : k0_pay141 Q S (k0_pay140 K) (sl.cst_40 (F := Ideal)) = k0_pay16 Q S K := rfl
theorem block_144 (Q : Vec Ideal S128x1024 .bf16) (S : Vec Ideal S1x1024 .f32) (K : Vec Ideal S1x1x256x128 .bf16) : k0_pay144 (k0_pay143 Q S K) = k0_pay16 Q S K := rfl
theorem block_146 (Q : Vec Ideal S128x1024 .bf16) (S : Vec Ideal S1x1024 .f32) (K : Vec Ideal S1x1x256x128 .bf16) : k0_pay146 Q S K = k0_pay16 Q S K := rfl
theorem block_148 (Q : Vec Ideal S128x1024 .bf16) (S : Vec Ideal S1x1024 .f32) (K : Vec Ideal S1x1x256x128 .bf16) : k0_pay148 Q S K = k0_pay16 Q S K := rfl
theorem block_150 (Q : Vec Ideal S128x1024 .bf16) (S : Vec Ideal S1x1024 .f32) (K : Vec Ideal S1x1x256x128 .bf16) : k0_pay150 Q S K = k0_pay16 Q S K := rfl
theorem block_152 (Q : Vec Ideal S128x1024 .bf16) (S : Vec Ideal S1x1024 .f32) (K : Vec Ideal S1x1x256x128 .bf16) : k0_pay152 Q S K = k0_pay16 Q S K := rfl
theorem block_155 (Q : Vec Ideal S128x1024 .bf16) (S : Vec Ideal S1x1024 .f32) (K : Vec Ideal S1x1x256x128 .bf16) : k0_pay155 Q S K = k0_pay16 Q S K := rfl
theorem block_159 (Q : Vec Ideal S128x1024 .bf16) (S : Vec Ideal S1x1024 .f32) (K : Vec Ideal S1x1x256x128 .bf16) : k0_pay159 Q S K = k0_pay16 Q S K := rfl
theorem block_162 (Q : Vec Ideal S128x1024 .bf16) (S : Vec Ideal S1x1024 .f32) (K : Vec Ideal S1x1x256x128 .bf16) : k0_pay162 Q S K = k0_pay16 Q S K := rfl
theorem block_164 (Q : Vec Ideal S128x1024 .bf16) (S : Vec Ideal S1x1024 .f32) (K : Vec Ideal S1x1x256x128 .bf16) : k0_pay164 Q S K = k0_pay16 Q S K := rfl
theorem block_167 (Q : Vec Ideal S128x1024 .bf16) (S : Vec Ideal S1x1024 .f32) (K : Vec Ideal S1x1x256x128 .bf16) : k0_pay167 Q S (k0_pay166 K) (sl.cst_40 (F := Ideal)) = k0_pay16 Q S K := rfl
theorem block_170 (Q : Vec Ideal S128x1024 .bf16) (S : Vec Ideal S1x1024 .f32) (K : Vec Ideal S1x1x256x128 .bf16) : k0_pay170 (k0_pay169 Q S K) = k0_pay16 Q S K := rfl
theorem block_172 (Q : Vec Ideal S128x1024 .bf16) (S : Vec Ideal S1x1024 .f32) (K : Vec Ideal S1x1x256x128 .bf16) : k0_pay172 Q S K = k0_pay16 Q S K := rfl
theorem block_174 (Q : Vec Ideal S128x1024 .bf16) (S : Vec Ideal S1x1024 .f32) (K : Vec Ideal S1x1x256x128 .bf16) : k0_pay174 Q S K = k0_pay16 Q S K := rfl
theorem block_176 (Q : Vec Ideal S128x1024 .bf16) (S : Vec Ideal S1x1024 .f32) (K : Vec Ideal S1x1x256x128 .bf16) : k0_pay176 Q S K = k0_pay16 Q S K := rfl

variable [∀ e, Nonempty (Elt Ideal e)] (c : Dev nD) (arg3 : Memref sig .tc .vmem S1x1x128x512 .bf16) (harg3 : arg3.IsWhole) (arg4 : Memref sig .tc .vmem S1x1x16640x128 .bf16) (harg4 : arg4.IsWhole)
  (arg5 : Memref sig .tc .vmem S1x1x65x80x256 .bf16) (harg5 : arg5.IsWhole) (arg6 : Memref sig .tc .vmem S1x1x2x128 .f32) (harg6 : arg6.IsWhole)
  (arg9 : Memref sig .tc .vmem S2x256x1024 .bf16) (arg10 : Memref sig .tc .vmem S80x1024 .f32)
  (x0 : Vec Ideal S1x1x128x512 .bf16) (x1 : Vec Ideal S1x1x16640x128 .bf16) (x2 : Vec Ideal S1x1x65x80x256 .bf16) (x3 : Vec Ideal S1x1x2x128 .f32)

include c arg3 harg3 arg4 harg4 arg6 harg6 arg9 x0 x1 x3

theorem slot_53 : Empty (sl.v53 (F := Ideal) c arg9) := fun t q => by
  unfold sl.v53 sl.HS0_2
  rw [skip10, found]
  exact zero_slot0 0 t q

theorem slot_81 : Empty (sl.v81 (F := Ideal) c arg3 harg3 arg4 harg4 arg6 harg6 arg9 x0 x1 x3) := fun t q => by
  unfold sl.v81 sl.HS0_3 sl.HS0_2
  rw [skip01, found]
  exact zero_slot1 0 t q

theorem slot_109 : Slot x0 x1 x3 (sl.v109 (F := Ideal) c arg3 harg3 arg4 harg4 arg6 harg6 arg9 x0 x1 x3) 0 := fun t q => by
  unfold sl.v109 sl.HS0_4 sl.HS0_3
  rw [skip10, found]
  unfold sl.r_2
  rw [block_11]
  exact slot_of x0 x1 x3 c arg3 harg3 arg4 harg4 arg6 harg6 ![0, 0, 0, 0] 0 rfl _ t q

theorem slot_137 : Slot x0 x1 x3 (sl.v137 (F := Ideal) c arg3 harg3 arg4 harg4 arg6 harg6 arg9 x0 x1 x3) 1 := fun t q => by
  unfold sl.v137 sl.HS0_5 sl.HS0_4
  rw [skip01, found]
  unfold sl.r_3
  rw [block_14]
  exact slot_of x0 x1 x3 c arg3 harg3 arg4 harg4 arg6 harg6 ![0, 0, 256, 0] 1 rfl _ t q

theorem slot_165 : Slot x0 x1 x3 (sl.v165 (F := Ideal) c arg3 harg3 arg4 harg4 arg6 harg6 arg9 x0 x1 x3) 2 := fun t q => by
  unfold sl.v165 sl.HS0_6 sl.HS0_5
  rw [skip10, found]
  exact slot_of x0 x1 x3 c arg3 harg3 arg4 harg4 arg6 harg6 ![0, 0, 512, 0] 2 rfl _ t q

theorem slot_193 : Slot x0 x1 x3 (sl.v193 (F := Ideal) c arg3 harg3 arg4 harg4 arg6 harg6 arg9 x0 x1 x3) 3 := fun t q => by
  unfold sl.v193 sl.HS0_7 sl.HS0_6
  rw [skip01, found]
  rw [block_18]
  exact slot_of x0 x1 x3 c arg3 harg3 arg4 harg4 arg6 harg6 ![0, 0, 768, 0] 3 rfl _ t q

theorem slot_221 : Slot x0 x1 x3 (sl.v221 (F := Ideal) c arg3 harg3 arg4 harg4 arg6 harg6 arg9 x0 x1 x3) 4 := fun t q => by
  unfold sl.v221 sl.HS0_8 sl.HS0_7
  rw [skip10, found]
  rw [block_20]
  exact slot_of x0 x1 x3 c arg3 harg3 arg4 harg4 arg6 harg6 ![0, 0, 1024, 0] 4 rfl _ t q

theorem slot_249 : Slot x0 x1 x3 (sl.v249 (F := Ideal) c arg3 harg3 arg4 harg4 arg6 harg6 arg9 x0 x1 x3) 5 := fun t q => by
  unfold sl.v249 sl.HS0_9 sl.HS0_8
  rw [skip01, found]
  rw [block_22]
  exact slot_of x0 x1 x3 c arg3 harg3 arg4 harg4 arg6 harg6 ![0, 0, 1280, 0] 5 rfl _ t q

theorem slot_277 : Slot x0 x1 x3 (sl.v277 (F := Ideal) c arg3 harg3 arg4 harg4 arg6 harg6 arg9 x0 x1 x3) 6 := fun t q => by
  unfold sl.v277 sl.HS0_10 sl.HS0_9
  rw [skip10, found]
  rw [block_25]
  exact slot_of x0 x1 x3 c arg3 harg3 arg4 harg4 arg6 harg6 ![0, 0, 1536, 0] 6 rfl _ t q

theorem slot_305 : Slot x0 x1 x3 (sl.v305 (F := Ideal) c arg3 harg3 arg4 harg4 arg6 harg6 arg9 x0 x1 x3) 7 := fun t q => by
  unfold sl.v305 sl.HS0_11 sl.HS0_10
  rw [skip01, found]
  rw [block_29]
  exact slot_of x0 x1 x3 c arg3 harg3 arg4 harg4 arg6 harg6 ![0, 0, 1792, 0] 7 rfl _ t q

theorem slot_333 : Slot x0 x1 x3 (sl.v333 (F := Ideal) c arg3 harg3 arg4 harg4 arg6 harg6 arg9 x0 x1 x3) 8 := fun t q => by
  unfold sl.v333 sl.HS0_12 sl.HS0_11
  rw [skip10, found]
  rw [block_32]
  exact slot_of x0 x1 x3 c arg3 harg3 arg4 harg4 arg6 harg6 ![0, 0, 2048, 0] 8 rfl _ t q

theorem slot_361 : Slot x0 x1 x3 (sl.v361 (F := Ideal) c arg3 harg3 arg4 harg4 arg6 harg6 arg9 x0 x1 x3) 9 := fun t q => by
  unfold sl.v361 sl.HS0_13 sl.HS0_12
  rw [skip01, found]
  rw [block_34]
  exact slot_of x0 x1 x3 c arg3 harg3 arg4 harg4 arg6 harg6 ![0, 0, 2304, 0] 9 rfl _ t q

theorem slot_389 : Slot x0 x1 x3 (sl.v389 (F := Ideal) c arg3 harg3 arg4 harg4 arg6 harg6 arg9 x0 x1 x3) 10 := fun t q => by
  unfold sl.v389 sl.HS0_14 sl.HS0_13
  rw [skip10, found]
  unfold sl.r_8
  rw [block_37]
  exact slot_of x0 x1 x3 c arg3 harg3 arg4 harg4 arg6 harg6 ![0, 0, 2560, 0] 10 rfl _ t q

theorem slot_417 : Slot x0 x1 x3 (sl.v417 (F := Ideal) c arg3 harg3 arg4 harg4 arg6 harg6 arg9 x0 x1 x3) 11 := fun t q => by
  unfold sl.v417 sl.HS0_15 sl.HS0_14
  rw [skip01, found]
  unfold sl.r_9
  rw [block_40]
  exact slot_of x0 x1 x3 c arg3 harg3 arg4 harg4 arg6 harg6 ![0, 0, 2816, 0] 11 rfl _ t q

theorem slot_445 : Slot x0 x1 x3 (sl.v445 (F := Ideal) c arg3 harg3 arg4 harg4 arg6 harg6 arg9 x0 x1 x3) 12 := fun t q => by
  unfold sl.v445 sl.HS0_16 sl.HS0_15
  rw [skip10, found]
  rw [block_42]
  exact slot_of x0 x1 x3 c arg3 harg3 arg4 harg4 arg6 harg6 ![0, 0, 3072, 0] 12 rfl _ t q

theorem slot_473 : Slot x0 x1 x3 (sl.v473 (F := Ideal) c arg3 harg3 arg4 harg4 arg6 harg6 arg9 x0 x1 x3) 13 := fun t q => by
  unfold sl.v473 sl.HS0_17 sl.HS0_16
  rw [skip01, found]
  rw [block_44]
  exact slot_of x0 x1 x3 c arg3 harg3 arg4 harg4 arg6 harg6 ![0, 0, 3328, 0] 13 rfl _ t q

theorem slot_501 : Slot x0 x1 x3 (sl.v501 (F := Ideal) c arg3 harg3 arg4 harg4 arg6 harg6 arg9 x0 x1 x3) 14 := fun t q => by
  unfold sl.v501 sl.HS0_18 sl.HS0_17
  rw [skip10, found]
  rw [block_46]
  exact slot_of x0 x1 x3 c arg3 harg3 arg4 harg4 arg6 harg6 ![0, 0, 3584, 0] 14 rfl _ t q

theorem slot_529 : Slot x0 x1 x3 (sl.v529 (F := Ideal) c arg3 harg3 arg4 harg4 arg6 harg6 arg9 x0 x1 x3) 15 := fun t q => by
  unfold sl.v529 sl.HS0_19 sl.HS0_18
  rw [skip01, found]
  rw [block_48]
  exact slot_of x0 x1 x3 c arg3 harg3 arg4 harg4 arg6 harg6 ![0, 0, 3840, 0] 15 rfl _ t q

theorem slot_557 : Slot x0 x1 x3 (sl.v557 (F := Ideal) c arg3 harg3 arg4 harg4 arg6 harg6 arg9 x0 x1 x3) 16 := fun t q => by
  unfold sl.v557 sl.HS0_20 sl.HS0_19
  rw [skip10, found]
  rw [block_51]
  exact slot_of x0 x1 x3 c arg3 harg3 arg4 harg4 arg6 harg6 ![0, 0, 4096, 0] 16 rfl _ t q

theorem slot_585 : Slot x0 x1 x3 (sl.v585 (F := Ideal) c arg3 harg3 arg4 harg4 arg6 harg6 arg9 x0 x1 x3) 17 := fun t q => by
  unfold sl.v585 sl.HS0_21 sl.HS0_20
  rw [skip01, found]
  rw [block_55]
  exact slot_of x0 x1 x3 c arg3 harg3 arg4 harg4 arg6 harg6 ![0, 0, 4352, 0] 17 rfl _ t q

theorem slot_613 : Slot x0 x1 x3 (sl.v613 (F := Ideal) c arg3 harg3 arg4 harg4 arg6 harg6 arg9 x0 x1 x3) 18 := fun t q => by
  unfold sl.v613 sl.HS0_22 sl.HS0_21
  rw [skip10, found]
  rw [block_58]
  exact slot_of x0 x1 x3 c arg3 harg3 arg4 harg4 arg6 harg6 ![0, 0, 4608, 0] 18 rfl _ t q

theorem slot_641 : Slot x0 x1 x3 (sl.v641 (F := Ideal) c arg3 harg3 arg4 harg4 arg6 harg6 arg9 x0 x1 x3) 19 := fun t q => by
  unfold sl.v641 sl.HS0_23 sl.HS0_22
  rw [skip01, found]
  rw [block_60]
  exact slot_of x0 x1 x3 c arg3 harg3 arg4 harg4 arg6 harg6 ![0, 0, 4864, 0] 19 rfl _ t q

theorem slot_669 : Slot x0 x1 x3 (sl.v669 (F := Ideal) c arg3 harg3 arg4 harg4 arg6 harg6 arg9 x0 x1 x3) 20 := fun t q => by
  unfold sl.v669 sl.HS0_24 sl.HS0_23
  rw [skip10, found]
  unfold sl.r_14
  rw [block_63]
  exact slot_of x0 x1 x3 c arg3 harg3 arg4 harg4 arg6 harg6 ![0, 0, 5120, 0] 20 rfl _ t q

theorem slot_697 : Slot x0 x1 x3 (sl.v697 (F := Ideal) c arg3 harg3 arg4 harg4 arg6 harg6 arg9 x0 x1 x3) 21 := fun t q => by
  unfold sl.v697 sl.HS0_25 sl.HS0_24
  rw [skip01, found]
  unfold sl.r_15
  rw [block_66]
  exact slot_of x0 x1 x3 c arg3 harg3 arg4 harg4 arg6 harg6 ![0, 0, 5376, 0] 21 rfl _ t q

theorem slot_725 : Slot x0 x1 x3 (sl.v725 (F := Ideal) c arg3 harg3 arg4 harg4 arg6 harg6 arg9 x0 x1 x3) 22 := fun t q => by
  unfold sl.v725 sl.HS0_26 sl.HS0_25
  rw [skip10, found]
  rw [block_68]
  exact slot_of x0 x1 x3 c arg3 harg3 arg4 harg4 arg6 harg6 ![0, 0, 5632, 0] 22 rfl _ t q

theorem slot_753 : Slot x0 x1 x3 (sl.v753 (F := Ideal) c arg3 harg3 arg4 harg4 arg6 harg6 arg9 x0 x1 x3) 23 := fun t q => by
  unfold sl.v753 sl.HS0_27 sl.HS0_26
  rw [skip01, found]
  rw [block_70]
  exact slot_of x0 x1 x3 c arg3 harg3 arg4 harg4 arg6 harg6 ![0, 0, 5888, 0] 23 rfl _ t q

theorem slot_781 : Slot x0 x1 x3 (sl.v781 (F := Ideal) c arg3 harg3 arg4 harg4 arg6 harg6 arg9 x0 x1 x3) 24 := fun t q => by
  unfold sl.v781 sl.HS0_28 sl.HS0_27
  rw [skip10, found]
  rw [block_72]
  exact slot_of x0 x1 x3 c arg3 harg3 arg4 harg4 arg6 harg6 ![0, 0, 6144, 0] 24 rfl _ t q

theorem slot_809 : Slot x0 x1 x3 (sl.v809 (F := Ideal) c arg3 harg3 arg4 harg4 arg6 harg6 arg9 x0 x1 x3) 25 := fun t q => by
  unfold sl.v809 sl.HS0_29 sl.HS0_28
  rw [skip01, found]
  rw [block_74]
  exact slot_of x0 x1 x3 c arg3 harg3 arg4 harg4 arg6 harg6 ![0, 0, 6400, 0] 25 rfl _ t q

theorem slot_837 : Slot x0 x1 x3 (sl.v837 (F := Ideal) c arg3 harg3 arg4 harg4 arg6 harg6 arg9 x0 x1 x3) 26 := fun t q => by
  unfold sl.v837 sl.HS0_30 sl.HS0_29
  rw [skip10, found]
  rw [block_77]
  exact slot_of x0 x1 x3 c arg3 harg3 arg4 harg4 arg6 harg6 ![0, 0, 6656, 0] 26 rfl _ t q

theorem slot_865 : Slot x0 x1 x3 (sl.v865 (F := Ideal) c arg3 harg3 arg4 harg4 arg6 harg6 arg9 x0 x1 x3) 27 := fun t q => by
  unfold sl.v865 sl.HS0_31 sl.HS0_30
  rw [skip01, found]
  rw [block_81]
  exact slot_of x0 x1 x3 c arg3 harg3 arg4 harg4 arg6 harg6 ![0, 0, 6912, 0] 27 rfl _ t q

theorem slot_893 : Slot x0 x1 x3 (sl.v893 (F := Ideal) c arg3 harg3 arg4 harg4 arg6 harg6 arg9 x0 x1 x3) 28 := fun t q => by
  unfold sl.v893 sl.HS0_32 sl.HS0_31
  rw [skip10, found]
  rw [block_84]
  exact slot_of x0 x1 x3 c arg3 harg3 arg4 harg4 arg6 harg6 ![0, 0, 7168, 0] 28 rfl _ t q

theorem slot_921 : Slot x0 x1 x3 (sl.v921 (F := Ideal) c arg3 harg3 arg4 harg4 arg6 harg6 arg9 x0 x1 x3) 29 := fun t q => by
  unfold sl.v921 sl.HS0_33 sl.HS0_32
  rw [skip01, found]
  rw [block_86]
  exact slot_of x0 x1 x3 c arg3 harg3 arg4 harg4 arg6 harg6 ![0, 0, 7424, 0] 29 rfl _ t q

theorem slot_949 : Slot x0 x1 x3 (sl.v949 (F := Ideal) c arg3 harg3 arg4 harg4 arg6 harg6 arg9 x0 x1 x3) 30 := fun t q => by
  unfold sl.v949 sl.HS0_34 sl.HS0_33
  rw [skip10, found]
  unfold sl.r_20
  rw [block_89]
  exact slot_of x0 x1 x3 c arg3 harg3 arg4 harg4 arg6 harg6 ![0, 0, 7680, 0] 30 rfl _ t q

theorem slot_977 : Slot x0 x1 x3 (sl.v977 (F := Ideal) c arg3 harg3 arg4 harg4 arg6 harg6 arg9 x0 x1 x3) 31 := fun t q => by
  unfold sl.v977 sl.HS0_35 sl.HS0_34
  rw [skip01, found]
  unfold sl.r_21
  rw [block_92]
  exact slot_of x0 x1 x3 c arg3 harg3 arg4 harg4 arg6 harg6 ![0, 0, 7936, 0] 31 rfl _ t q

theorem slot_1005 : Slot x0 x1 x3 (sl.v1005 (F := Ideal) c arg3 harg3 arg4 harg4 arg6 harg6 arg9 x0 x1 x3) 32 := fun t q => by
  unfold sl.v1005 sl.HS0_36 sl.HS0_35
  rw [skip10, found]
  rw [block_94]
  exact slot_of x0 x1 x3 c arg3 harg3 arg4 harg4 arg6 harg6 ![0, 0, 8192, 0] 32 rfl _ t q

theorem slot_1033 : Slot x0 x1 x3 (sl.v1033 (F := Ideal) c arg3 harg3 arg4 harg4 arg6 harg6 arg9 x0 x1 x3) 33 := fun t q => by
  unfold sl.v1033 sl.HS0_37 sl.HS0_36
  rw [skip01, found]
  rw [block_96]
  exact slot_of x0 x1 x3 c arg3 harg3 arg4 harg4 arg6 harg6 ![0, 0, 8448, 0] 33 rfl _ t q

theorem slot_1061 : Slot x0 x1 x3 (sl.v1061 (F := Ideal) c arg3 harg3 arg4 harg4 arg6 harg6 arg9 x0 x1 x3) 34 := fun t q => by
  unfold sl.v1061 sl.HS0_38 sl.HS0_37
  rw [skip10, found]
  rw [block_98]
  exact slot_of x0 x1 x3 c arg3 harg3 arg4 harg4 arg6 harg6 ![0, 0, 8704, 0] 34 rfl _ t q

theorem slot_1089 : Slot x0 x1 x3 (sl.v1089 (F := Ideal) c arg3 harg3 arg4 harg4 arg6 harg6 arg9 x0 x1 x3) 35 := fun t q => by
  unfold sl.v1089 sl.HS0_39 sl.HS0_38
  rw [skip01, found]
  rw [block_100]
  exact slot_of x0 x1 x3 c arg3 harg3 arg4 harg4 arg6 harg6 ![0, 0, 8960, 0] 35 rfl _ t q

theorem slot_1117 : Slot x0 x1 x3 (sl.v1117 (F := Ideal) c arg3 harg3 arg4 harg4 arg6 harg6 arg9 x0 x1 x3) 36 := fun t q => by
  unfold sl.v1117 sl.HS0_40 sl.HS0_39
  rw [skip10, found]
  rw [block_103]
  exact slot_of x0 x1 x3 c arg3 harg3 arg4 harg4 arg6 harg6 ![0, 0, 9216, 0] 36 rfl _ t q

theorem slot_1145 : Slot x0 x1 x3 (sl.v1145 (F := Ideal) c arg3 harg3 arg4 harg4 arg6 harg6 arg9 x0 x1 x3) 37 := fun t q => by
  unfold sl.v1145 sl.HS0_41 sl.HS0_40
  rw [skip01, found]
  rw [block_107]
  exact slot_of x0 x1 x3 c arg3 harg3 arg4 harg4 arg6 harg6 ![0, 0, 9472, 0] 37 rfl _ t q

theorem slot_1173 : Slot x0 x1 x3 (sl.v1173 (F := Ideal) c arg3 harg3 arg4 harg4 arg6 harg6 arg9 x0 x1 x3) 38 := fun t q => by
  unfold sl.v1173 sl.HS0_42 sl.HS0_41
  rw [skip10, found]
  rw [block_110]
  exact slot_of x0 x1 x3 c arg3 harg3 arg4 harg4 arg6 harg6 ![0, 0, 9728, 0] 38 rfl _ t q

theorem slot_1201 : Slot x0 x1 x3 (sl.v1201 (F := Ideal) c arg3 harg3 arg4 harg4 arg6 harg6 arg9 x0 x1 x3) 39 := fun t q => by
  unfold sl.v1201 sl.HS0_43 sl.HS0_42
  rw [skip01, found]
  rw [block_112]
  exact slot_of x0 x1 x3 c arg3 harg3 arg4 harg4 arg6 harg6 ![0, 0, 9984, 0] 39 rfl _ t q

theorem slot_1229 : Slot x0 x1 x3 (sl.v1229 (F := Ideal) c arg3 harg3 arg4 harg4 arg6 harg6 arg9 x0 x1 x3) 40 := fun t q => by
  unfold sl.v1229 sl.HS0_44 sl.HS0_43
  rw [skip10, found]
  unfold sl.r_26
  rw [block_115]
  exact slot_of x0 x1 x3 c arg3 harg3 arg4 harg4 arg6 harg6 ![0, 0, 10240, 0] 40 rfl _ t q

theorem slot_1257 : Slot x0 x1 x3 (sl.v1257 (F := Ideal) c arg3 harg3 arg4 harg4 arg6 harg6 arg9 x0 x1 x3) 41 := fun t q => by
  unfold sl.v1257 sl.HS0_45 sl.HS0_44
  rw [skip01, found]
  unfold sl.r_27
  rw [block_118]
  exact slot_of x0 x1 x3 c arg3 harg3 arg4 harg4 arg6 harg6 ![0, 0, 10496, 0] 41 rfl _ t q

theorem slot_1285 : Slot x0 x1 x3 (sl.v1285 (F := Ideal) c arg3 harg3 arg4 harg4 arg6 harg6 arg9 x0 x1 x3) 42 := fun t q => by
  unfold sl.v1285 sl.HS0_46 sl.HS0_45
  rw [skip10, found]
  rw [block_120]
  exact slot_of x0 x1 x3 c arg3 harg3 arg4 harg4 arg6 harg6 ![0, 0, 10752, 0] 42 rfl _ t q

theorem slot_1313 : Slot x0 x1 x3 (sl.v1313 (F := Ideal) c arg3 harg3 arg4 harg4 arg6 harg6 arg9 x0 x1 x3) 43 := fun t q => by
  unfold sl.v1313 sl.HS0_47 sl.HS0_46
  rw [skip01, found]
  rw [block_122]
  exact slot_of x0 x1 x3 c arg3 harg3 arg4 harg4 arg6 harg6 ![0, 0, 11008, 0] 43 rfl _ t q

theorem slot_1341 : Slot x0 x1 x3 (sl.v1341 (F := Ideal) c arg3 harg3 arg4 harg4 arg6 harg6 arg9 x0 x1 x3) 44 := fun t q => by
  unfold sl.v1341 sl.HS0_48 sl.HS0_47
  rw [skip10, found]
  rw [block_124]
  exact slot_of x0 x1 x3 c arg3 harg3 arg4 harg4 arg6 harg6 ![0, 0, 11264, 0] 44 rfl _ t q

theorem slot_1369 : Slot x0 x1 x3 (sl.v1369 (F := Ideal) c arg3 harg3 arg4 harg4 arg6 harg6 arg9 x0 x1 x3) 45 := fun t q => by
  unfold sl.v1369 sl.HS0_49 sl.HS0_48
  rw [skip01, found]
  rw [block_126]
  exact slot_of x0 x1 x3 c arg3 harg3 arg4 harg4 arg6 harg6 ![0, 0, 11520, 0] 45 rfl _ t q

theorem slot_1397 : Slot x0 x1 x3 (sl.v1397 (F := Ideal) c arg3 harg3 arg4 harg4 arg6 harg6 arg9 x0 x1 x3) 46 := fun t q => by
  unfold sl.v1397 sl.HS0_50 sl.HS0_49
  rw [skip10, found]
  rw [block_129]
  exact slot_of x0 x1 x3 c arg3 harg3 arg4 harg4 arg6 harg6 ![0, 0, 11776, 0] 46 rfl _ t q

theorem slot_1425 : Slot x0 x1 x3 (sl.v1425 (F := Ideal) c arg3 harg3 arg4 harg4 arg6 harg6 arg9 x0 x1 x3) 47 := fun t q => by
  unfold sl.v1425 sl.HS0_51 sl.HS0_50
  rw [skip01, found]
  rw [block_133]
  exact slot_of x0 x1 x3 c arg3 harg3 arg4 harg4 arg6 harg6 ![0, 0, 12032, 0] 47 rfl _ t q

theorem slot_1453 : Slot x0 x1 x3 (sl.v1453 (F := Ideal) c arg3 harg3 arg4 harg4 arg6 harg6 arg9 x0 x1 x3) 48 := fun t q => by
  unfold sl.v1453 sl.HS0_52 sl.HS0_51
  rw [skip10, found]
  rw [block_136]
  exact slot_of x0 x1 x3 c arg3 harg3 arg4 harg4 arg6 harg6 ![0, 0, 12288, 0] 48 rfl _ t q

theorem slot_1481 : Slot x0 x1 x3 (sl.v1481 (F := Ideal) c arg3 harg3 arg4 harg4 arg6 harg6 arg9 x0 x1 x3) 49 := fun t q => by
  unfold sl.v1481 sl.HS0_53 sl.HS0_52
  rw [skip01, found]
  rw [block_138]
  exact slot_of x0 x1 x3 c arg3 harg3 arg4 harg4 arg6 harg6 ![0, 0, 12544, 0] 49 rfl _ t q

theorem slot_1509 : Slot x0 x1 x3 (sl.v1509 (F := Ideal) c arg3 harg3 arg4 harg4 arg6 harg6 arg9 x0 x1 x3) 50 := fun t q => by
  unfold sl.v1509 sl.HS0_54 sl.HS0_53
  rw [skip10, found]
  unfold sl.r_32
  rw [block_141]
  exact slot_of x0 x1 x3 c arg3 harg3 arg4 harg4 arg6 harg6 ![0, 0, 12800, 0] 50 rfl _ t q

theorem slot_1537 : Slot x0 x1 x3 (sl.v1537 (F := Ideal) c arg3 harg3 arg4 harg4 arg6 harg6 arg9 x0 x1 x3) 51 := fun t q => by
  unfold sl.v1537 sl.HS0_55 sl.HS0_54
  rw [skip01, found]
  unfold sl.r_33
  rw [block_144]
  exact slot_of x0 x1 x3 c arg3 harg3 arg4 harg4 arg6 harg6 ![0, 0, 13056, 0] 51 rfl _ t q

theorem slot_1565 : Slot x0 x1 x3 (sl.v1565 (F := Ideal) c arg3 harg3 arg4 harg4 arg6 harg6 arg9 x0 x1 x3) 52 := fun t q => by
  unfold sl.v1565 sl.HS0_56 sl.HS0_55
  rw [skip10, found]
  rw [block_146]
  exact slot_of x0 x1 x3 c arg3 harg3 arg4 harg4 arg6 harg6 ![0, 0, 13312, 0] 52 rfl _ t q

theorem slot_1593 : Slot x0 x1 x3 (sl.v1593 (F := Ideal) c arg3 harg3 arg4 harg4 arg6 harg6 arg9 x0 x1 x3) 53 := fun t q => by
  unfold sl.v1593 sl.HS0_57 sl.HS0_56
  rw [skip01, found]
  rw [block_148]
  exact slot_of x0 x1 x3 c arg3 harg3 arg4 harg4 arg6 harg6 ![0, 0, 13568, 0] 53 rfl _ t q

theorem slot_1621 : Slot x0 x1 x3 (sl.v1621 (F := Ideal) c arg3 harg3 arg4 harg4 arg6 harg6 arg9 x0 x1 x3) 54 := fun t q => by
  unfold sl.v1621 sl.HS0_58 sl.HS0_57
  rw [skip10, found]
  rw [block_150]
  exact slot_of x0 x1 x3 c arg3 harg3 arg4 harg4 arg6 harg6 ![0, 0, 13824, 0] 54 rfl _ t q

theorem slot_1649 : Slot x0 x1 x3 (sl.v1649 (F := Ideal) c arg3 harg3 arg4 harg4 arg6 harg6 arg9 x0 x1 x3) 55 := fun t q => by
  unfold sl.v1649 sl.HS0_59 sl.HS0_58
  rw [skip01, found]
  rw [block_152]
  exact slot_of x0 x1 x3 c arg3 harg3 arg4 harg4 arg6 harg6 ![0, 0, 14080, 0] 55 rfl _ t q

theorem slot_1677 : Slot x0 x1 x3 (sl.v1677 (F := Ideal) c arg3 harg3 arg4 harg4 arg6 harg6 arg9 x0 x1 x3) 56 := fun t q => by
  unfold sl.v1677 sl.HS0_60 sl.HS0_59
  rw [skip10, found]
  rw [block_155]
  exact slot_of x0 x1 x3 c arg3 harg3 arg4 harg4 arg6 harg6 ![0, 0, 14336, 0] 56 rfl _ t q

theorem slot_1705 : Slot x0 x1 x3 (sl.v1705 (F := Ideal) c arg3 harg3 arg4 harg4 arg6 harg6 arg9 x0 x1 x3) 57 := fun t q => by
  unfold sl.v1705 sl.HS0_61 sl.HS0_60
  rw [skip01, found]
  rw [block_159]
  exact slot_of x0 x1 x3 c arg3 harg3 arg4 harg4 arg6 harg6 ![0, 0, 14592, 0] 57 rfl _ t q

theorem slot_1733 : Slot x0 x1 x3 (sl.v1733 (F := Ideal) c arg3 harg3 arg4 harg4 arg6 harg6 arg9 x0 x1 x3) 58 := fun t q => by
  unfold sl.v1733 sl.HS0_62 sl.HS0_61
  rw [skip10, found]
  rw [block_162]
  exact slot_of x0 x1 x3 c arg3 harg3 arg4 harg4 arg6 harg6 ![0, 0, 14848, 0] 58 rfl _ t q

theorem slot_1761 : Slot x0 x1 x3 (sl.v1761 (F := Ideal) c arg3 harg3 arg4 harg4 arg6 harg6 arg9 x0 x1 x3) 59 := fun t q => by
  unfold sl.v1761 sl.HS0_63 sl.HS0_62
  rw [skip01, found]
  rw [block_164]
  exact slot_of x0 x1 x3 c arg3 harg3 arg4 harg4 arg6 harg6 ![0, 0, 15104, 0] 59 rfl _ t q

theorem slot_1789 : Slot x0 x1 x3 (sl.v1789 (F := Ideal) c arg3 harg3 arg4 harg4 arg6 harg6 arg9 x0 x1 x3) 60 := fun t q => by
  unfold sl.v1789 sl.HS0_64 sl.HS0_63
  rw [skip10, found]
  unfold sl.r_38
  rw [block_167]
  exact slot_of x0 x1 x3 c arg3 harg3 arg4 harg4 arg6 harg6 ![0, 0, 15360, 0] 60 rfl _ t q

theorem slot_1817 : Slot x0 x1 x3 (sl.v1817 (F := Ideal) c arg3 harg3 arg4 harg4 arg6 harg6 arg9 x0 x1 x3) 61 := fun t q => by
  unfold sl.v1817 sl.HS0_65 sl.HS0_64
  rw [skip01, found]
  unfold sl.r_39
  rw [block_170]
  exact slot_of x0 x1 x3 c arg3 harg3 arg4 harg4 arg6 harg6 ![0, 0, 15616, 0] 61 rfl _ t q

theorem slot_1842 : Slot x0 x1 x3 (sl.v1842 (F := Ideal) c arg3 harg3 arg4 harg4 arg6 harg6 arg9 x0 x1 x3) 62 := fun t q => by
  unfold sl.v1842 sl.HS0_66 sl.HS0_65
  rw [skip10, found]
  rw [block_172]
  exact slot_of x0 x1 x3 c arg3 harg3 arg4 harg4 arg6 harg6 ![0, 0, 15872, 0] 62 rfl _ t q

theorem slot_1864 : Slot x0 x1 x3 (sl.v1864 (F := Ideal) c arg3 harg3 arg4 harg4 arg6 harg6 arg9 x0 x1 x3) 63 := fun t q => by
  unfold sl.v1864 sl.HS0_67 sl.HS0_66
  rw [skip01, found]
  rw [block_174]
  exact slot_of x0 x1 x3 c arg3 harg3 arg4 harg4 arg6 harg6 ![0, 0, 16128, 0] 63 rfl _ t q

theorem slot_1874 : Slot x0 x1 x3 (sl.v1874 (F := Ideal) c arg3 harg3 arg4 harg4 arg6 harg6 arg9 x0 x1 x3) 64 := fun t q => by
  unfold sl.v1874 sl.HS0_67
  rw [found]
  rw [block_176]
  exact slot_of x0 x1 x3 c arg3 harg3 arg4 harg4 arg6 harg6 ![0, 0, 16384, 0] 64 rfl _ t q

end Cert.Proof.Attn

end
-- ==== Proof.AttnSteps.lean ====
/-
  The accumulator: after each step it holds the weighted values of the blocks taken so far.
-/
module

public import proofs.«01_k».proof.Proof.AttnSlots

@[expose] public section

noncomputable section

namespace Cert.Proof.Attn

open Cert.Kernel4Ideal Cert.Kernel4Ideal.Gen Cert.Kernel4Ideal.Gen.kernelRun0_A
open Idealize.ShloMosaic Idealize.ShloMosaic.TcCoe Idealize.SL.Sem

set_option maxRecDepth 16384

/-! Every step is computed by the same operations. -/

theorem step_12 (A : Vec Ideal S80x1024 .f32) (V : Vec Ideal S1x1x1x80x256 .bf16) (P : Vec Ideal S1x256x1024 .bf16) : k0_pay12 A V P = k0_pay9 A V P := rfl
theorem step_15 (A : Vec Ideal S80x1024 .f32) (V : Vec Ideal S1x1x1x80x256 .bf16) (P : Vec Ideal S1x256x1024 .bf16) : k0_pay15 A V P = k0_pay9 A V P := rfl
theorem step_17 (A : Vec Ideal S80x1024 .f32) (V : Vec Ideal S1x1x1x80x256 .bf16) (P : Vec Ideal S1x256x1024 .bf16) : k0_pay17 A V P = k0_pay9 A V P := rfl
theorem step_19 (A : Vec Ideal S80x1024 .f32) (V : Vec Ideal S1x1x1x80x256 .bf16) (P : Vec Ideal S1x256x1024 .bf16) : k0_pay19 A V P = k0_pay9 A V P := rfl
theorem step_21 (A : Vec Ideal S80x1024 .f32) (V : Vec Ideal S1x1x1x80x256 .bf16) (P : Vec Ideal S1x256x1024 .bf16) : k0_pay21 A V P = k0_pay9 A V P := rfl
theorem step_24 (A : Vec Ideal S80x1024 .f32) (V : Vec Ideal S1x1x1x80x256 .bf16) (P : Vec Ideal S1x256x1024 .bf16) : k0_pay24 A (k0_pay23 V) P = k0_pay9 A V P := rfl
theorem step_28 (A : Vec Ideal S80x1024 .f32) (V : Vec Ideal S1x1x1x80x256 .bf16) (P : Vec Ideal S1x256x1024 .bf16) : k0_pay28 A (k0_pay26 V) (k0_pay27 P) (sl.cst_195 (F := Ideal)) = k0_pay9 A V P := rfl
theorem step_31 (A : Vec Ideal S80x1024 .f32) (V : Vec Ideal S1x1x1x80x256 .bf16) (P : Vec Ideal S1x256x1024 .bf16) : k0_pay31 (k0_pay30 A V P) = k0_pay9 A V P := rfl
theorem step_33 (A : Vec Ideal S80x1024 .f32) (V : Vec Ideal S1x1x1x80x256 .bf16) (P : Vec Ideal S1x256x1024 .bf16) : k0_pay33 A V P = k0_pay9 A V P := rfl
theorem step_35 (A : Vec Ideal S80x1024 .f32) (V : Vec Ideal S1x1x1x80x256 .bf16) (P : Vec Ideal S1x256x1024 .bf16) : k0_pay35 A V P = k0_pay9 A V P := rfl
theorem step_38 (A : Vec Ideal S80x1024 .f32) (V : Vec Ideal S1x1x1x80x256 .bf16) (P : Vec Ideal S1x256x1024 .bf16) : k0_pay38 A V P = k0_pay9 A V P := rfl
theorem step_41 (A : Vec Ideal S80x1024 .f32) (V : Vec Ideal S1x1x1x80x256 .bf16) (P : Vec Ideal S1x256x1024 .bf16) : k0_pay41 A V P = k0_pay9 A V P := rfl
theorem step_43 (A : Vec Ideal S80x1024 .f32) (V : Vec Ideal S1x1x1x80x256 .bf16) (P : Vec Ideal S1x256x1024 .bf16) : k0_pay43 A V P = k0_pay9 A V P := rfl
theorem step_45 (A : Vec Ideal S80x1024 .f32) (V : Vec Ideal S1x1x1x80x256 .bf16) (P : Vec Ideal S1x256x1024 .bf16) : k0_pay45 A V P = k0_pay9 A V P := rfl
theorem step_47 (A : Vec Ideal S80x1024 .f32) (V : Vec Ideal S1x1x1x80x256 .bf16) (P : Vec Ideal S1x256x1024 .bf16) : k0_pay47 A V P = k0_pay9 A V P := rfl
theorem step_50 (A : Vec Ideal S80x1024 .f32) (V : Vec Ideal S1x1x1x80x256 .bf16) (P : Vec Ideal S1x256x1024 .bf16) : k0_pay50 A (k0_pay49 V) P = k0_pay9 A V P := rfl
theorem step_54 (A : Vec Ideal S80x1024 .f32) (V : Vec Ideal S1x1x1x80x256 .bf16) (P : Vec Ideal S1x256x1024 .bf16) : k0_pay54 A (k0_pay52 V) (k0_pay53 P) (sl.cst_195 (F := Ideal)) = k0_pay9 A V P := rfl
theorem step_57 (A : Vec Ideal S80x1024 .f32) (V : Vec Ideal S1x1x1x80x256 .bf16) (P : Vec Ideal S1x256x1024 .bf16) : k0_pay57 (k0_pay56 A V P) = k0_pay9 A V P := rfl
theorem step_59 (A : Vec Ideal S80x1024 .f32) (V : Vec Ideal S1x1x1x80x256 .bf16) (P : Vec Ideal S1x256x1024 .bf16) : k0_pay59 A V P = k0_pay9 A V P := rfl
theorem step_61 (A : Vec Ideal S80x1024 .f32) (V : Vec Ideal S1x1x1x80x256 .bf16) (P : Vec Ideal S1x256x1024 .bf16) : k0_pay61 A V P = k0_pay9 A V P := rfl
theorem step_64 (A : Vec Ideal S80x1024 .f32) (V : Vec Ideal S1x1x1x80x256 .bf16) (P : Vec Ideal S1x256x1024 .bf16) : k0_pay64 A V P = k0_pay9 A V P := rfl
theorem step_67 (A : Vec Ideal S80x1024 .f32) (V : Vec Ideal S1x1x1x80x256 .bf16) (P : Vec Ideal S1x256x1024 .bf16) : k0_pay67 A V P = k0_pay9 A V P := rfl
theorem step_69 (A : Vec Ideal S80x1024 .f32) (V : Vec Ideal S1x1x1x80x256 .bf16) (P : Vec Ideal S1x256x1024 .bf16) : k0_pay69 A V P = k0_pay9 A V P := rfl
theorem step_71 (A : Vec Ideal S80x1024 .f32) (V : Vec Ideal S1x1x1x80x256 .bf16) (P : Vec Ideal S1x256x1024 .bf16) : k0_pay71 A V P = k0_pay9 A V P := rfl
theorem step_73 (A : Vec Ideal S80x1024 .f32) (V : Vec Ideal S1x1x1x80x256 .bf16) (P : Vec Ideal S1x256x1024 .bf16) : k0_pay73 A V P = k0_pay9 A V P := rfl
theorem step_76 (A : Vec Ideal S80x1024 .f32) (V : Vec Ideal S1x1x1x80x256 .bf16) (P : Vec Ideal S1x256x1024 .bf16) : k0_pay76 A (k0_pay75 V) P = k0_pay9 A V P := rfl
theorem step_80 (A : Vec Ideal S80x1024 .f32) (V : Vec Ideal S1x1x1x80x256 .bf16) (P : Vec Ideal S1x256x1024 .bf16) : k0_pay80 A (k0_pay78 V) (k0_pay79 P) (sl.cst_195 (F := Ideal)) = k0_pay9 A V P := rfl
theorem step_83 (A : Vec Ideal S80x1024 .f32) (V : Vec Ideal S1x1x1x80x256 .bf16) (P : Vec Ideal S1x256x1024 .bf16) : k0_pay83 (k0_pay82 A V P) = k0_pay9 A V P := rfl
theorem step_85 (A : Vec Ideal S80x1024 .f32) (V : Vec Ideal S1x1x1x80x256 .bf16) (P : Vec Ideal S1x256x1024 .bf16) : k0_pay85 A V P = k0_pay9 A V P := rfl
theorem step_87 (A : Vec Ideal S80x1024 .f32) (V : Vec Ideal S1x1x1x80x256 .bf16) (P : Vec Ideal S1x256x1024 .bf16) : k0_pay87 A V P = k0_pay9 A V P := rfl
theorem step_90 (A : Vec Ideal S80x1024 .f32) (V : Vec Ideal S1x1x1x80x256 .bf16) (P : Vec Ideal S1x256x1024 .bf16) : k0_pay90 A V P = k0_pay9 A V P := rfl
theorem step_93 (A : Vec Ideal S80x1024 .f32) (V : Vec Ideal S1x1x1x80x256 .bf16) (P : Vec Ideal S1x256x1024 .bf16) : k0_pay93 A V P = k0_pay9 A V P := rfl
theorem step_95 (A : Vec Ideal S80x1024 .f32) (V : Vec Ideal S1x1x1x80x256 .bf16) (P : Vec Ideal S1x256x1024 .bf16) : k0_pay95 A V P = k0_pay9 A V P := rfl
theorem step_97 (A : Vec Ideal S80x1024 .f32) (V : Vec Ideal S1x1x1x80x256 .bf16) (P : Vec Ideal S1x256x1024 .bf16) : k0_pay97 A V P = k0_pay9 A V P := rfl
theorem step_99 (A : Vec Ideal S80x1024 .f32) (V : Vec Ideal S1x1x1x80x256 .bf16) (P : Vec Ideal S1x256x1024 .bf16) : k0_pay99 A V P = k0_pay9 A V P := rfl
theorem step_102 (A : Vec Ideal S80x1024 .f32) (V : Vec Ideal S1x1x1x80x256 .bf16) (P : Vec Ideal S1x256x1024 .bf16) : k0_pay102 A (k0_pay101 V) P = k0_pay9 A V P := rfl
theorem step_106 (A : Vec Ideal S80x1024 .f32) (V : Vec Ideal S1x1x1x80x256 .bf16) (P : Vec Ideal S1x256x1024 .bf16) : k0_pay106 A (k0_pay104 V) (k0_pay105 P) (sl.cst_195 (F := Ideal)) = k0_pay9 A V P := rfl
theorem step_109 (A : Vec Ideal S80x1024 .f32) (V : Vec Ideal S1x1x1x80x256 .bf16) (P : Vec Ideal S1x256x1024 .bf16) : k0_pay109 (k0_pay108 A V P) = k0_pay9 A V P := rfl
theorem step_111 (A : Vec Ideal S80x1024 .f32) (V : Vec Ideal S1x1x1x80x256 .bf16) (P : Vec Ideal S1x256x1024 .bf16) : k0_pay111 A V P = k0_pay9 A V P := rfl
theorem step_113 (A : Vec Ideal S80x1024 .f32) (V : Vec Ideal S1x1x1x80x256 .bf16) (P : Vec Ideal S1x256x1024 .bf16) : k0_pay113 A V P = k0_pay9 A V P := rfl
theorem step_116 (A : Vec Ideal S80x1024 .f32) (V : Vec Ideal S1x1x1x80x256 .bf16) (P : Vec Ideal S1x256x1024 .bf16) : k0_pay116 A V P = k0_pay9 A V P := rfl
theorem step_119 (A : Vec Ideal S80x1024 .f32) (V : Vec Ideal S1x1x1x80x256 .bf16) (P : Vec Ideal S1x256x1024 .bf16) : k0_pay119 A V P = k0_pay9 A V P := rfl
theorem step_121 (A : Vec Ideal S80x1024 .f32) (V : Vec Ideal S1x1x1x80x256 .bf16) (P : Vec Ideal S1x256x1024 .bf16) : k0_pay121 A V P = k0_pay9 A V P := rfl
theorem step_123 (A : Vec Ideal S80x1024 .f32) (V : Vec Ideal S1x1x1x80x256 .bf16) (P : Vec Ideal S1x256x1024 .bf16) : k0_pay123 A V P = k0_pay9 A V P := rfl
theorem step_125 (A : Vec Ideal S80x1024 .f32) (V : Vec Ideal S1x1x1x80x256 .bf16) (P : Vec Ideal S1x256x1024 .bf16) : k0_pay125 A V P = k0_pay9 A V P := rfl
theorem step_128 (A : Vec Ideal S80x1024 .f32) (V : Vec Ideal S1x1x1x80x256 .bf16) (P : Vec Ideal S1x256x1024 .bf16) : k0_pay128 A (k0_pay127 V) P = k0_pay9 A V P := rfl
theorem step_132 (A : Vec Ideal S80x1024 .f32) (V : Vec Ideal S1x1x1x80x256 .bf16) (P : Vec Ideal S1x256x1024 .bf16) : k0_pay132 A (k0_pay130 V) (k0_pay131 P) (sl.cst_195 (F := Ideal)) = k0_pay9 A V P := rfl
theorem step_135 (A : Vec Ideal S80x1024 .f32) (V : Vec Ideal S1x1x1x80x256 .bf16) (P : Vec Ideal S1x256x1024 .bf16) : k0_pay135 (k0_pay134 A V P) = k0_pay9 A V P := rfl
theorem step_137 (A : Vec Ideal S80x1024 .f32) (V : Vec Ideal S1x1x1x80x256 .bf16) (P : Vec Ideal S1x256x1024 .bf16) : k0_pay137 A V P = k0_pay9 A V P := rfl
theorem step_139 (A : Vec Ideal S80x1024 .f32) (V : Vec Ideal S1x1x1x80x256 .bf16) (P : Vec Ideal S1x256x1024 .bf16) : k0_pay139 A V P = k0_pay9 A V P := rfl
theorem step_142 (A : Vec Ideal S80x1024 .f32) (V : Vec Ideal S1x1x1x80x256 .bf16) (P : Vec Ideal S1x256x1024 .bf16) : k0_pay142 A V P = k0_pay9 A V P := rfl
theorem step_145 (A : Vec Ideal S80x1024 .f32) (V : Vec Ideal S1x1x1x80x256 .bf16) (P : Vec Ideal S1x256x1024 .bf16) : k0_pay145 A V P = k0_pay9 A V P := rfl
theorem step_147 (A : Vec Ideal S80x1024 .f32) (V : Vec Ideal S1x1x1x80x256 .bf16) (P : Vec Ideal S1x256x1024 .bf16) : k0_pay147 A V P = k0_pay9 A V P := rfl
theorem step_149 (A : Vec Ideal S80x1024 .f32) (V : Vec Ideal S1x1x1x80x256 .bf16) (P : Vec Ideal S1x256x1024 .bf16) : k0_pay149 A V P = k0_pay9 A V P := rfl
theorem step_151 (A : Vec Ideal S80x1024 .f32) (V : Vec Ideal S1x1x1x80x256 .bf16) (P : Vec Ideal S1x256x1024 .bf16) : k0_pay151 A V P = k0_pay9 A V P := rfl
theorem step_154 (A : Vec Ideal S80x1024 .f32) (V : Vec Ideal S1x1x1x80x256 .bf16) (P : Vec Ideal S1x256x1024 .bf16) : k0_pay154 A (k0_pay153 V) P = k0_pay9 A V P := rfl
theorem step_158 (A : Vec Ideal S80x1024 .f32) (V : Vec Ideal S1x1x1x80x256 .bf16) (P : Vec Ideal S1x256x1024 .bf16) : k0_pay158 A (k0_pay156 V) (k0_pay157 P) (sl.cst_195 (F := Ideal)) = k0_pay9 A V P := rfl
theorem step_161 (A : Vec Ideal S80x1024 .f32) (V : Vec Ideal S1x1x1x80x256 .bf16) (P : Vec Ideal S1x256x1024 .bf16) : k0_pay161 (k0_pay160 A V P) = k0_pay9 A V P := rfl
theorem step_163 (A : Vec Ideal S80x1024 .f32) (V : Vec Ideal S1x1x1x80x256 .bf16) (P : Vec Ideal S1x256x1024 .bf16) : k0_pay163 A V P = k0_pay9 A V P := rfl
theorem step_165 (A : Vec Ideal S80x1024 .f32) (V : Vec Ideal S1x1x1x80x256 .bf16) (P : Vec Ideal S1x256x1024 .bf16) : k0_pay165 A V P = k0_pay9 A V P := rfl
theorem step_168 (A : Vec Ideal S80x1024 .f32) (V : Vec Ideal S1x1x1x80x256 .bf16) (P : Vec Ideal S1x256x1024 .bf16) : k0_pay168 A V P = k0_pay9 A V P := rfl
theorem step_171 (A : Vec Ideal S80x1024 .f32) (V : Vec Ideal S1x1x1x80x256 .bf16) (P : Vec Ideal S1x256x1024 .bf16) : k0_pay171 A V P = k0_pay9 A V P := rfl
theorem step_173 (A : Vec Ideal S80x1024 .f32) (V : Vec Ideal S1x1x1x80x256 .bf16) (P : Vec Ideal S1x256x1024 .bf16) : k0_pay173 A V P = k0_pay9 A V P := rfl
theorem step_175 (A : Vec Ideal S80x1024 .f32) (V : Vec Ideal S1x1x1x80x256 .bf16) (P : Vec Ideal S1x256x1024 .bf16) : k0_pay175 A V P = k0_pay9 A V P := rfl
theorem step_178 (A : Vec Ideal S80x1024 .f32) (V : Vec Ideal S1x1x1x80x256 .bf16) (P : Vec Ideal S1x256x1024 .bf16) : k0_pay178 A (k0_pay177 V P) = k0_pay9 A V P := rfl
theorem step_179 (A : Vec Ideal S80x1024 .f32) (V : Vec Ideal S1x1x1x80x256 .bf16) (P : Vec Ideal S1x256x1024 .bf16) : k0_pay179 A V P = k0_pay9 A V P := rfl

variable [∀ e, Nonempty (Elt Ideal e)] (c : Dev nD) (arg3 : Memref sig .tc .vmem S1x1x128x512 .bf16) (harg3 : arg3.IsWhole) (arg4 : Memref sig .tc .vmem S1x1x16640x128 .bf16) (harg4 : arg4.IsWhole)
  (arg5 : Memref sig .tc .vmem S1x1x65x80x256 .bf16) (harg5 : arg5.IsWhole) (arg6 : Memref sig .tc .vmem S1x1x2x128 .f32) (harg6 : arg6.IsWhole)
  (arg9 : Memref sig .tc .vmem S2x256x1024 .bf16) (arg10 : Memref sig .tc .vmem S80x1024 .f32)
  (x0 : Vec Ideal S1x1x128x512 .bf16) (x1 : Vec Ideal S1x1x16640x128 .bf16) (x2 : Vec Ideal S1x1x65x80x256 .bf16) (x3 : Vec Ideal S1x1x2x128 .f32)

include c arg3 harg3 arg4 harg4 arg5 harg5 arg6 harg6 arg9 arg10 x0 x1 x2 x3

theorem acc_49 : Holds x0 x1 x2 x3 (sl.v49 (F := Ideal) c arg10) 0 := fun r q => by
  unfold sl.v49 sl.HS1_1
  rw [found]
  exact (zero_acc r q).trans (Finset.sum_range_zero _).symm

theorem acc_77 : Holds x0 x1 x2 x3 (sl.v77 (F := Ideal) c arg5 harg5 arg9 arg10 x2) 0 := fun r q => by
  unfold sl.v77 sl.HS1_2
  rw [found]
  exact holds_same x0 x1 x2 x3 (acc_49 c arg3 harg3 arg4 harg4 arg5 harg5 arg6 harg6 arg9 arg10 x0 x1 x2 x3) (slot_53 c arg3 harg3 arg4 harg4 arg6 harg6 arg9 x0 x1 x3) _ r q

theorem acc_105 : Holds x0 x1 x2 x3 (sl.v105 (F := Ideal) c arg3 harg3 arg4 harg4 arg5 harg5 arg6 harg6 arg9 arg10 x0 x1 x2 x3) 0 := fun r q => by
  unfold sl.v105 sl.HS1_3
  rw [found]
  rw [step_12]
  exact holds_same x0 x1 x2 x3 (acc_77 c arg3 harg3 arg4 harg4 arg5 harg5 arg6 harg6 arg9 arg10 x0 x1 x2 x3) (slot_81 c arg3 harg3 arg4 harg4 arg6 harg6 arg9 x0 x1 x3) _ r q

theorem acc_133 : Holds x0 x1 x2 x3 (sl.v133 (F := Ideal) c arg3 harg3 arg4 harg4 arg5 harg5 arg6 harg6 arg9 arg10 x0 x1 x2 x3) 1 := fun r q => by
  unfold sl.v133 sl.HS1_4
  rw [found]
  rw [step_15]
  exact holds_next x0 x1 x2 x3 (n := 0) (by decide) (acc_105 c arg3 harg3 arg4 harg4 arg5 harg5 arg6 harg6 arg9 arg10 x0 x1 x2 x3) (slot_109 c arg3 harg3 arg4 harg4 arg6 harg6 arg9 x0 x1 x3) arg5 harg5 ![0, 0, 0, 0, 0] rfl _ r q

theorem acc_161 : Holds x0 x1 x2 x3 (sl.v161 (F := Ideal) c arg3 harg3 arg4 harg4 arg5 harg5 arg6 harg6 arg9 arg10 x0 x1 x2 x3) 2 := fun r q => by
  unfold sl.v161 sl.HS1_5
  rw [found]
  rw [step_17]
  exact holds_next x0 x1 x2 x3 (n := 1) (by decide) (acc_133 c arg3 harg3 arg4 harg4 arg5 harg5 arg6 harg6 arg9 arg10 x0 x1 x2 x3) (slot_137 c arg3 harg3 arg4 harg4 arg6 harg6 arg9 x0 x1 x3) arg5 harg5 ![0, 0, 1, 0, 0] rfl _ r q

theorem acc_189 : Holds x0 x1 x2 x3 (sl.v189 (F := Ideal) c arg3 harg3 arg4 harg4 arg5 harg5 arg6 harg6 arg9 arg10 x0 x1 x2 x3) 3 := fun r q => by
  unfold sl.v189 sl.HS1_6
  rw [found]
  rw [step_19]
  exact holds_next x0 x1 x2 x3 (n := 2) (by decide) (acc_161 c arg3 harg3 arg4 harg4 arg5 harg5 arg6 harg6 arg9 arg10 x0 x1 x2 x3) (slot_165 c arg3 harg3 arg4 harg4 arg6 harg6 arg9 x0 x1 x3) arg5 harg5 ![0, 0, 2, 0, 0] rfl _ r q

theorem acc_217 : Holds x0 x1 x2 x3 (sl.v217 (F := Ideal) c arg3 harg3 arg4 harg4 arg5 harg5 arg6 harg6 arg9 arg10 x0 x1 x2 x3) 4 := fun r q => by
  unfold sl.v217 sl.HS1_7
  rw [found]
  rw [step_21]
  exact holds_next x0 x1 x2 x3 (n := 3) (by decide) (acc_189 c arg3 harg3 arg4 harg4 arg5 harg5 arg6 harg6 arg9 arg10 x0 x1 x2 x3) (slot_193 c arg3 harg3 arg4 harg4 arg6 harg6 arg9 x0 x1 x3) arg5 harg5 ![0, 0, 3, 0, 0] rfl _ r q

theorem acc_245 : Holds x0 x1 x2 x3 (sl.v245 (F := Ideal) c arg3 harg3 arg4 harg4 arg5 harg5 arg6 harg6 arg9 arg10 x0 x1 x2 x3) 5 := fun r q => by
  unfold sl.v245 sl.HS1_8
  rw [found]
  unfold sl.r_4
  rw [step_24]
  exact holds_next x0 x1 x2 x3 (n := 4) (by decide) (acc_217 c arg3 harg3 arg4 harg4 arg5 harg5 arg6 harg6 arg9 arg10 x0 x1 x2 x3) (slot_221 c arg3 harg3 arg4 harg4 arg6 harg6 arg9 x0 x1 x3) arg5 harg5 ![0, 0, 4, 0, 0] rfl _ r q

theorem acc_273 : Holds x0 x1 x2 x3 (sl.v273 (F := Ideal) c arg3 harg3 arg4 harg4 arg5 harg5 arg6 harg6 arg9 arg10 x0 x1 x2 x3) 6 := fun r q => by
  unfold sl.v273 sl.HS1_9
  rw [found]
  unfold sl.r_5 sl.r_6
  rw [step_28]
  exact holds_next x0 x1 x2 x3 (n := 5) (by decide) (acc_245 c arg3 harg3 arg4 harg4 arg5 harg5 arg6 harg6 arg9 arg10 x0 x1 x2 x3) (slot_249 c arg3 harg3 arg4 harg4 arg6 harg6 arg9 x0 x1 x3) arg5 harg5 ![0, 0, 5, 0, 0] rfl _ r q

theorem acc_301 : Holds x0 x1 x2 x3 (sl.v301 (F := Ideal) c arg3 harg3 arg4 harg4 arg5 harg5 arg6 harg6 arg9 arg10 x0 x1 x2 x3) 7 := fun r q => by
  unfold sl.v301 sl.HS1_10
  rw [found]
  unfold sl.r_7
  rw [step_31]
  exact holds_next x0 x1 x2 x3 (n := 6) (by decide) (acc_273 c arg3 harg3 arg4 harg4 arg5 harg5 arg6 harg6 arg9 arg10 x0 x1 x2 x3) (slot_277 c arg3 harg3 arg4 harg4 arg6 harg6 arg9 x0 x1 x3) arg5 harg5 ![0, 0, 6, 0, 0] rfl _ r q

theorem acc_329 : Holds x0 x1 x2 x3 (sl.v329 (F := Ideal) c arg3 harg3 arg4 harg4 arg5 harg5 arg6 harg6 arg9 arg10 x0 x1 x2 x3) 8 := fun r q => by
  unfold sl.v329 sl.HS1_11
  rw [found]
  rw [step_33]
  exact holds_next x0 x1 x2 x3 (n := 7) (by decide) (acc_301 c arg3 harg3 arg4 harg4 arg5 harg5 arg6 harg6 arg9 arg10 x0 x1 x2 x3) (slot_305 c arg3 harg3 arg4 harg4 arg6 harg6 arg9 x0 x1 x3) arg5 harg5 ![0, 0, 7, 0, 0] rfl _ r q

theorem acc_357 : Holds x0 x1 x2 x3 (sl.v357 (F := Ideal) c arg3 harg3 arg4 harg4 arg5 harg5 arg6 harg6 arg9 arg10 x0 x1 x2 x3) 9 := fun r q => by
  unfold sl.v357 sl.HS1_12
  rw [found]
  rw [step_35]
  exact holds_next x0 x1 x2 x3 (n := 8) (by decide) (acc_329 c arg3 harg3 arg4 harg4 arg5 harg5 arg6 harg6 arg9 arg10 x0 x1 x2 x3) (slot_333 c arg3 harg3 arg4 harg4 arg6 harg6 arg9 x0 x1 x3) arg5 harg5 ![0, 0, 8, 0, 0] rfl _ r q

theorem acc_385 : Holds x0 x1 x2 x3 (sl.v385 (F := Ideal) c arg3 harg3 arg4 harg4 arg5 harg5 arg6 harg6 arg9 arg10 x0 x1 x2 x3) 10 := fun r q => by
  unfold sl.v385 sl.HS1_13
  rw [found]
  rw [step_38]
  exact holds_next x0 x1 x2 x3 (n := 9) (by decide) (acc_357 c arg3 harg3 arg4 harg4 arg5 harg5 arg6 harg6 arg9 arg10 x0 x1 x2 x3) (slot_361 c arg3 harg3 arg4 harg4 arg6 harg6 arg9 x0 x1 x3) arg5 harg5 ![0, 0, 9, 0, 0] rfl _ r q

theorem acc_413 : Holds x0 x1 x2 x3 (sl.v413 (F := Ideal) c arg3 harg3 arg4 harg4 arg5 harg5 arg6 harg6 arg9 arg10 x0 x1 x2 x3) 11 := fun r q => by
  unfold sl.v413 sl.HS1_14
  rw [found]
  rw [step_41]
  exact holds_next x0 x1 x2 x3 (n := 10) (by decide) (acc_385 c arg3 harg3 arg4 harg4 arg5 harg5 arg6 harg6 arg9 arg10 x0 x1 x2 x3) (slot_389 c arg3 harg3 arg4 harg4 arg6 harg6 arg9 x0 x1 x3) arg5 harg5 ![0, 0, 10, 0, 0] rfl _ r q

theorem acc_441 : Holds x0 x1 x2 x3 (sl.v441 (F := Ideal) c arg3 harg3 arg4 harg4 arg5 harg5 arg6 harg6 arg9 arg10 x0 x1 x2 x3) 12 := fun r q => by
  unfold sl.v441 sl.HS1_15
  rw [found]
  rw [step_43]
  exact holds_next x0 x1 x2 x3 (n := 11) (by decide) (acc_413 c arg3 harg3 arg4 harg4 arg5 harg5 arg6 harg6 arg9 arg10 x0 x1 x2 x3) (slot_417 c arg3 harg3 arg4 harg4 arg6 harg6 arg9 x0 x1 x3) arg5 harg5 ![0, 0, 11, 0, 0] rfl _ r q

theorem acc_469 : Holds x0 x1 x2 x3 (sl.v469 (F := Ideal) c arg3 harg3 arg4 harg4 arg5 harg5 arg6 harg6 arg9 arg10 x0 x1 x2 x3) 13 := fun r q => by
  unfold sl.v469 sl.HS1_16
  rw [found]
  rw [step_45]
  exact holds_next x0 x1 x2 x3 (n := 12) (by decide) (acc_441 c arg3 harg3 arg4 harg4 arg5 harg5 arg6 harg6 arg9 arg10 x0 x1 x2 x3) (slot_445 c arg3 harg3 arg4 harg4 arg6 harg6 arg9 x0 x1 x3) arg5 harg5 ![0, 0, 12, 0, 0] rfl _ r q

theorem acc_497 : Holds x0 x1 x2 x3 (sl.v497 (F := Ideal) c arg3 harg3 arg4 harg4 arg5 harg5 arg6 harg6 arg9 arg10 x0 x1 x2 x3) 14 := fun r q => by
  unfold sl.v497 sl.HS1_17
  rw [found]
  rw [step_47]
  exact holds_next x0 x1 x2 x3 (n := 13) (by decide) (acc_469 c arg3 harg3 arg4 harg4 arg5 harg5 arg6 harg6 arg9 arg10 x0 x1 x2 x3) (slot_473 c arg3 harg3 arg4 harg4 arg6 harg6 arg9 x0 x1 x3) arg5 harg5 ![0, 0, 13, 0, 0] rfl _ r q

theorem acc_525 : Holds x0 x1 x2 x3 (sl.v525 (F := Ideal) c arg3 harg3 arg4 harg4 arg5 harg5 arg6 harg6 arg9 arg10 x0 x1 x2 x3) 15 := fun r q => by
  unfold sl.v525 sl.HS1_18
  rw [found]
  unfold sl.r_10
  rw [step_50]
  exact holds_next x0 x1 x2 x3 (n := 14) (by decide) (acc_497 c arg3 harg3 arg4 harg4 arg5 harg5 arg6 harg6 arg9 arg10 x0 x1 x2 x3) (slot_501 c arg3 harg3 arg4 harg4 arg6 harg6 arg9 x0 x1 x3) arg5 harg5 ![0, 0, 14, 0, 0] rfl _ r q

theorem acc_553 : Holds x0 x1 x2 x3 (sl.v553 (F := Ideal) c arg3 harg3 arg4 harg4 arg5 harg5 arg6 harg6 arg9 arg10 x0 x1 x2 x3) 16 := fun r q => by
  unfold sl.v553 sl.HS1_19
  rw [found]
  unfold sl.r_11 sl.r_12
  rw [step_54]
  exact holds_next x0 x1 x2 x3 (n := 15) (by decide) (acc_525 c arg3 harg3 arg4 harg4 arg5 harg5 arg6 harg6 arg9 arg10 x0 x1 x2 x3) (slot_529 c arg3 harg3 arg4 harg4 arg6 harg6 arg9 x0 x1 x3) arg5 harg5 ![0, 0, 15, 0, 0] rfl _ r q

theorem acc_581 : Holds x0 x1 x2 x3 (sl.v581 (F := Ideal) c arg3 harg3 arg4 harg4 arg5 harg5 arg6 harg6 arg9 arg10 x0 x1 x2 x3) 17 := fun r q => by
  unfold sl.v581 sl.HS1_20
  rw [found]
  unfold sl.r_13
  rw [step_57]
  exact holds_next x0 x1 x2 x3 (n := 16) (by decide) (acc_553 c arg3 harg3 arg4 harg4 arg5 harg5 arg6 harg6 arg9 arg10 x0 x1 x2 x3) (slot_557 c arg3 harg3 arg4 harg4 arg6 harg6 arg9 x0 x1 x3) arg5 harg5 ![0, 0, 16, 0, 0] rfl _ r q

theorem acc_609 : Holds x0 x1 x2 x3 (sl.v609 (F := Ideal) c arg3 harg3 arg4 harg4 arg5 harg5 arg6 harg6 arg9 arg10 x0 x1 x2 x3) 18 := fun r q => by
  unfold sl.v609 sl.HS1_21
  rw [found]
  rw [step_59]
  exact holds_next x0 x1 x2 x3 (n := 17) (by decide) (acc_581 c arg3 harg3 arg4 harg4 arg5 harg5 arg6 harg6 arg9 arg10 x0 x1 x2 x3) (slot_585 c arg3 harg3 arg4 harg4 arg6 harg6 arg9 x0 x1 x3) arg5 harg5 ![0, 0, 17, 0, 0] rfl _ r q

theorem acc_637 : Holds x0 x1 x2 x3 (sl.v637 (F := Ideal) c arg3 harg3 arg4 harg4 arg5 harg5 arg6 harg6 arg9 arg10 x0 x1 x2 x3) 19 := fun r q => by
  unfold sl.v637 sl.HS1_22
  rw [found]
  rw [step_61]
  exact holds_next x0 x1 x2 x3 (n := 18) (by decide) (acc_609 c arg3 harg3 arg4 harg4 arg5 harg5 arg6 harg6 arg9 arg10 x0 x1 x2 x3) (slot_613 c arg3 harg3 arg4 harg4 arg6 harg6 arg9 x0 x1 x3) arg5 harg5 ![0, 0, 18, 0, 0] rfl _ r q

theorem acc_665 : Holds x0 x1 x2 x3 (sl.v665 (F := Ideal) c arg3 harg3 arg4 harg4 arg5 harg5 arg6 harg6 arg9 arg10 x0 x1 x2 x3) 20 := fun r q => by
  unfold sl.v665 sl.HS1_23
  rw [found]
  rw [step_64]
  exact holds_next x0 x1 x2 x3 (n := 19) (by decide) (acc_637 c arg3 harg3 arg4 harg4 arg5 harg5 arg6 harg6 arg9 arg10 x0 x1 x2 x3) (slot_641 c arg3 harg3 arg4 harg4 arg6 harg6 arg9 x0 x1 x3) arg5 harg5 ![0, 0, 19, 0, 0] rfl _ r q

theorem acc_693 : Holds x0 x1 x2 x3 (sl.v693 (F := Ideal) c arg3 harg3 arg4 harg4 arg5 harg5 arg6 harg6 arg9 arg10 x0 x1 x2 x3) 21 := fun r q => by
  unfold sl.v693 sl.HS1_24
  rw [found]
  rw [step_67]
  exact holds_next x0 x1 x2 x3 (n := 20) (by decide) (acc_665 c arg3 harg3 arg4 harg4 arg5 harg5 arg6 harg6 arg9 arg10 x0 x1 x2 x3) (slot_669 c arg3 harg3 arg4 harg4 arg6 harg6 arg9 x0 x1 x3) arg5 harg5 ![0, 0, 20, 0, 0] rfl _ r q

theorem acc_721 : Holds x0 x1 x2 x3 (sl.v721 (F := Ideal) c arg3 harg3 arg4 harg4 arg5 harg5 arg6 harg6 arg9 arg10 x0 x1 x2 x3) 22 := fun r q => by
  unfold sl.v721 sl.HS1_25
  rw [found]
  rw [step_69]
  exact holds_next x0 x1 x2 x3 (n := 21) (by decide) (acc_693 c arg3 harg3 arg4 harg4 arg5 harg5 arg6 harg6 arg9 arg10 x0 x1 x2 x3) (slot_697 c arg3 harg3 arg4 harg4 arg6 harg6 arg9 x0 x1 x3) arg5 harg5 ![0, 0, 21, 0, 0] rfl _ r q

theorem acc_749 : Holds x0 x1 x2 x3 (sl.v749 (F := Ideal) c arg3 harg3 arg4 harg4 arg5 harg5 arg6 harg6 arg9 arg10 x0 x1 x2 x3) 23 := fun r q => by
  unfold sl.v749 sl.HS1_26
  rw [found]
  rw [step_71]
  exact holds_next x0 x1 x2 x3 (n := 22) (by decide) (acc_721 c arg3 harg3 arg4 harg4 arg5 harg5 arg6 harg6 arg9 arg10 x0 x1 x2 x3) (slot_725 c arg3 harg3 arg4 harg4 arg6 harg6 arg9 x0 x1 x3) arg5 harg5 ![0, 0, 22, 0, 0] rfl _ r q

theorem acc_777 : Holds x0 x1 x2 x3 (sl.v777 (F := Ideal) c arg3 harg3 arg4 harg4 arg5 harg5 arg6 harg6 arg9 arg10 x0 x1 x2 x3) 24 := fun r q => by
  unfold sl.v777 sl.HS1_27
  rw [found]
  rw [step_73]
  exact holds_next x0 x1 x2 x3 (n := 23) (by decide) (acc_749 c arg3 harg3 arg4 harg4 arg5 harg5 arg6 harg6 arg9 arg10 x0 x1 x2 x3) (slot_753 c arg3 harg3 arg4 harg4 arg6 harg6 arg9 x0 x1 x3) arg5 harg5 ![0, 0, 23, 0, 0] rfl _ r q

theorem acc_805 : Holds x0 x1 x2 x3 (sl.v805 (F := Ideal) c arg3 harg3 arg4 harg4 arg5 harg5 arg6 harg6 arg9 arg10 x0 x1 x2 x3) 25 := fun r q => by
  unfold sl.v805 sl.HS1_28
  rw [found]
  unfold sl.r_16
  rw [step_76]
  exact holds_next x0 x1 x2 x3 (n := 24) (by decide) (acc_777 c arg3 harg3 arg4 harg4 arg5 harg5 arg6 harg6 arg9 arg10 x0 x1 x2 x3) (slot_781 c arg3 harg3 arg4 harg4 arg6 harg6 arg9 x0 x1 x3) arg5 harg5 ![0, 0, 24, 0, 0] rfl _ r q

theorem acc_833 : Holds x0 x1 x2 x3 (sl.v833 (F := Ideal) c arg3 harg3 arg4 harg4 arg5 harg5 arg6 harg6 arg9 arg10 x0 x1 x2 x3) 26 := fun r q => by
  unfold sl.v833 sl.HS1_29
  rw [found]
  unfold sl.r_17 sl.r_18
  rw [step_80]
  exact holds_next x0 x1 x2 x3 (n := 25) (by decide) (acc_805 c arg3 harg3 arg4 harg4 arg5 harg5 arg6 harg6 arg9 arg10 x0 x1 x2 x3) (slot_809 c arg3 harg3 arg4 harg4 arg6 harg6 arg9 x0 x1 x3) arg5 harg5 ![0, 0, 25, 0, 0] rfl _ r q

theorem acc_861 : Holds x0 x1 x2 x3 (sl.v861 (F := Ideal) c arg3 harg3 arg4 harg4 arg5 harg5 arg6 harg6 arg9 arg10 x0 x1 x2 x3) 27 := fun r q => by
  unfold sl.v861 sl.HS1_30
  rw [found]
  unfold sl.r_19
  rw [step_83]
  exact holds_next x0 x1 x2 x3 (n := 26) (by decide) (acc_833 c arg3 harg3 arg4 harg4 arg5 harg5 arg6 harg6 arg9 arg10 x0 x1 x2 x3) (slot_837 c arg3 harg3 arg4 harg4 arg6 harg6 arg9 x0 x1 x3) arg5 harg5 ![0, 0, 26, 0, 0] rfl _ r q

theorem acc_889 : Holds x0 x1 x2 x3 (sl.v889 (F := Ideal) c arg3 harg3 arg4 harg4 arg5 harg5 arg6 harg6 arg9 arg10 x0 x1 x2 x3) 28 := fun r q => by
  unfold sl.v889 sl.HS1_31
  rw [found]
  rw [step_85]
  exact holds_next x0 x1 x2 x3 (n := 27) (by decide) (acc_861 c arg3 harg3 arg4 harg4 arg5 harg5 arg6 harg6 arg9 arg10 x0 x1 x2 x3) (slot_865 c arg3 harg3 arg4 harg4 arg6 harg6 arg9 x0 x1 x3) arg5 harg5 ![0, 0, 27, 0, 0] rfl _ r q

theorem acc_917 : Holds x0 x1 x2 x3 (sl.v917 (F := Ideal) c arg3 harg3 arg4 harg4 arg5 harg5 arg6 harg6 arg9 arg10 x0 x1 x2 x3) 29 := fun r q => by
  unfold sl.v917 sl.HS1_32
  rw [found]
  rw [step_87]
  exact holds_next x0 x1 x2 x3 (n := 28) (by decide) (acc_889 c arg3 harg3 arg4 harg4 arg5 harg5 arg6 harg6 arg9 arg10 x0 x1 x2 x3) (slot_893 c arg3 harg3 arg4 harg4 arg6 harg6 arg9 x0 x1 x3) arg5 harg5 ![0, 0, 28, 0, 0] rfl _ r q

theorem acc_945 : Holds x0 x1 x2 x3 (sl.v945 (F := Ideal) c arg3 harg3 arg4 harg4 arg5 harg5 arg6 harg6 arg9 arg10 x0 x1 x2 x3) 30 := fun r q => by
  unfold sl.v945 sl.HS1_33
  rw [found]
  rw [step_90]
  exact holds_next x0 x1 x2 x3 (n := 29) (by decide) (acc_917 c arg3 harg3 arg4 harg4 arg5 harg5 arg6 harg6 arg9 arg10 x0 x1 x2 x3) (slot_921 c arg3 harg3 arg4 harg4 arg6 harg6 arg9 x0 x1 x3) arg5 harg5 ![0, 0, 29, 0, 0] rfl _ r q

theorem acc_973 : Holds x0 x1 x2 x3 (sl.v973 (F := Ideal) c arg3 harg3 arg4 harg4 arg5 harg5 arg6 harg6 arg9 arg10 x0 x1 x2 x3) 31 := fun r q => by
  unfold sl.v973 sl.HS1_34
  rw [found]
  rw [step_93]
  exact holds_next x0 x1 x2 x3 (n := 30) (by decide) (acc_945 c arg3 harg3 arg4 harg4 arg5 harg5 arg6 harg6 arg9 arg10 x0 x1 x2 x3) (slot_949 c arg3 harg3 arg4 harg4 arg6 harg6 arg9 x0 x1 x3) arg5 harg5 ![0, 0, 30, 0, 0] rfl _ r q

theorem acc_1001 : Holds x0 x1 x2 x3 (sl.v1001 (F := Ideal) c arg3 harg3 arg4 harg4 arg5 harg5 arg6 harg6 arg9 arg10 x0 x1 x2 x3) 32 := fun r q => by
  unfold sl.v1001 sl.HS1_35
  rw [found]
  rw [step_95]
  exact holds_next x0 x1 x2 x3 (n := 31) (by decide) (acc_973 c arg3 harg3 arg4 harg4 arg5 harg5 arg6 harg6 arg9 arg10 x0 x1 x2 x3) (slot_977 c arg3 harg3 arg4 harg4 arg6 harg6 arg9 x0 x1 x3) arg5 harg5 ![0, 0, 31, 0, 0] rfl _ r q

theorem acc_1029 : Holds x0 x1 x2 x3 (sl.v1029 (F := Ideal) c arg3 harg3 arg4 harg4 arg5 harg5 arg6 harg6 arg9 arg10 x0 x1 x2 x3) 33 := fun r q => by
  unfold sl.v1029 sl.HS1_36
  rw [found]
  rw [step_97]
  exact holds_next x0 x1 x2 x3 (n := 32) (by decide) (acc_1001 c arg3 harg3 arg4 harg4 arg5 harg5 arg6 harg6 arg9 arg10 x0 x1 x2 x3) (slot_1005 c arg3 harg3 arg4 harg4 arg6 harg6 arg9 x0 x1 x3) arg5 harg5 ![0, 0, 32, 0, 0] rfl _ r q

theorem acc_1057 : Holds x0 x1 x2 x3 (sl.v1057 (F := Ideal) c arg3 harg3 arg4 harg4 arg5 harg5 arg6 harg6 arg9 arg10 x0 x1 x2 x3) 34 := fun r q => by
  unfold sl.v1057 sl.HS1_37
  rw [found]
  rw [step_99]
  exact holds_next x0 x1 x2 x3 (n := 33) (by decide) (acc_1029 c arg3 harg3 arg4 harg4 arg5 harg5 arg6 harg6 arg9 arg10 x0 x1 x2 x3) (slot_1033 c arg3 harg3 arg4 harg4 arg6 harg6 arg9 x0 x1 x3) arg5 harg5 ![0, 0, 33, 0, 0] rfl _ r q

theorem acc_1085 : Holds x0 x1 x2 x3 (sl.v1085 (F := Ideal) c arg3 harg3 arg4 harg4 arg5 harg5 arg6 harg6 arg9 arg10 x0 x1 x2 x3) 35 := fun r q => by
  unfold sl.v1085 sl.HS1_38
  rw [found]
  unfold sl.r_22
  rw [step_102]
  exact holds_next x0 x1 x2 x3 (n := 34) (by decide) (acc_1057 c arg3 harg3 arg4 harg4 arg5 harg5 arg6 harg6 arg9 arg10 x0 x1 x2 x3) (slot_1061 c arg3 harg3 arg4 harg4 arg6 harg6 arg9 x0 x1 x3) arg5 harg5 ![0, 0, 34, 0, 0] rfl _ r q

theorem acc_1113 : Holds x0 x1 x2 x3 (sl.v1113 (F := Ideal) c arg3 harg3 arg4 harg4 arg5 harg5 arg6 harg6 arg9 arg10 x0 x1 x2 x3) 36 := fun r q => by
  unfold sl.v1113 sl.HS1_39
  rw [found]
  unfold sl.r_23 sl.r_24
  rw [step_106]
  exact holds_next x0 x1 x2 x3 (n := 35) (by decide) (acc_1085 c arg3 harg3 arg4 harg4 arg5 harg5 arg6 harg6 arg9 arg10 x0 x1 x2 x3) (slot_1089 c arg3 harg3 arg4 harg4 arg6 harg6 arg9 x0 x1 x3) arg5 harg5 ![0, 0, 35, 0, 0] rfl _ r q

theorem acc_1141 : Holds x0 x1 x2 x3 (sl.v1141 (F := Ideal) c arg3 harg3 arg4 harg4 arg5 harg5 arg6 harg6 arg9 arg10 x0 x1 x2 x3) 37 := fun r q => by
  unfold sl.v1141 sl.HS1_40
  rw [found]
  unfold sl.r_25
  rw [step_109]
  exact holds_next x0 x1 x2 x3 (n := 36) (by decide) (acc_1113 c arg3 harg3 arg4 harg4 arg5 harg5 arg6 harg6 arg9 arg10 x0 x1 x2 x3) (slot_1117 c arg3 harg3 arg4 harg4 arg6 harg6 arg9 x0 x1 x3) arg5 harg5 ![0, 0, 36, 0, 0] rfl _ r q

theorem acc_1169 : Holds x0 x1 x2 x3 (sl.v1169 (F := Ideal) c arg3 harg3 arg4 harg4 arg5 harg5 arg6 harg6 arg9 arg10 x0 x1 x2 x3) 38 := fun r q => by
  unfold sl.v1169 sl.HS1_41
  rw [found]
  rw [step_111]
  exact holds_next x0 x1 x2 x3 (n := 37) (by decide) (acc_1141 c arg3 harg3 arg4 harg4 arg5 harg5 arg6 harg6 arg9 arg10 x0 x1 x2 x3) (slot_1145 c arg3 harg3 arg4 harg4 arg6 harg6 arg9 x0 x1 x3) arg5 harg5 ![0, 0, 37, 0, 0] rfl _ r q

theorem acc_1197 : Holds x0 x1 x2 x3 (sl.v1197 (F := Ideal) c arg3 harg3 arg4 harg4 arg5 harg5 arg6 harg6 arg9 arg10 x0 x1 x2 x3) 39 := fun r q => by
  unfold sl.v1197 sl.HS1_42
  rw [found]
  rw [step_113]
  exact holds_next x0 x1 x2 x3 (n := 38) (by decide) (acc_1169 c arg3 harg3 arg4 harg4 arg5 harg5 arg6 harg6 arg9 arg10 x0 x1 x2 x3) (slot_1173 c arg3 harg3 arg4 harg4 arg6 harg6 arg9 x0 x1 x3) arg5 harg5 ![0, 0, 38, 0, 0] rfl _ r q

theorem acc_1225 : Holds x0 x1 x2 x3 (sl.v1225 (F := Ideal) c arg3 harg3 arg4 harg4 arg5 harg5 arg6 harg6 arg9 arg10 x0 x1 x2 x3) 40 := fun r q => by
  unfold sl.v1225 sl.HS1_43
  rw [found]
  rw [step_116]
  exact holds_next x0 x1 x2 x3 (n := 39) (by decide) (acc_1197 c arg3 harg3 arg4 harg4 arg5 harg5 arg6 harg6 arg9 arg10 x0 x1 x2 x3) (slot_1201 c arg3 harg3 arg4 harg4 arg6 harg6 arg9 x0 x1 x3) arg5 harg5 ![0, 0, 39, 0, 0] rfl _ r q

theorem acc_1253 : Holds x0 x1 x2 x3 (sl.v1253 (F := Ideal) c arg3 harg3 arg4 harg4 arg5 harg5 arg6 harg6 arg9 arg10 x0 x1 x2 x3) 41 := fun r q => by
  unfold sl.v1253 sl.HS1_44
  rw [found]
  rw [step_119]
  exact holds_next x0 x1 x2 x3 (n := 40) (by decide) (acc_1225 c arg3 harg3 arg4 harg4 arg5 harg5 arg6 harg6 arg9 arg10 x0 x1 x2 x3) (slot_1229 c arg3 harg3 arg4 harg4 arg6 harg6 arg9 x0 x1 x3) arg5 harg5 ![0, 0, 40, 0, 0] rfl _ r q

theorem acc_1281 : Holds x0 x1 x2 x3 (sl.v1281 (F := Ideal) c arg3 harg3 arg4 harg4 arg5 harg5 arg6 harg6 arg9 arg10 x0 x1 x2 x3) 42 := fun r q => by
  unfold sl.v1281 sl.HS1_45
  rw [found]
  rw [step_121]
  exact holds_next x0 x1 x2 x3 (n := 41) (by decide) (acc_1253 c arg3 harg3 arg4 harg4 arg5 harg5 arg6 harg6 arg9 arg10 x0 x1 x2 x3) (slot_1257 c arg3 harg3 arg4 harg4 arg6 harg6 arg9 x0 x1 x3) arg5 harg5 ![0, 0, 41, 0, 0] rfl _ r q

theorem acc_1309 : Holds x0 x1 x2 x3 (sl.v1309 (F := Ideal) c arg3 harg3 arg4 harg4 arg5 harg5 arg6 harg6 arg9 arg10 x0 x1 x2 x3) 43 := fun r q => by
  unfold sl.v1309 sl.HS1_46
  rw [found]
  rw [step_123]
  exact holds_next x0 x1 x2 x3 (n := 42) (by decide) (acc_1281 c arg3 harg3 arg4 harg4 arg5 harg5 arg6 harg6 arg9 arg10 x0 x1 x2 x3) (slot_1285 c arg3 harg3 arg4 harg4 arg6 harg6 arg9 x0 x1 x3) arg5 harg5 ![0, 0, 42, 0, 0] rfl _ r q

theorem acc_1337 : Holds x0 x1 x2 x3 (sl.v1337 (F := Ideal) c arg3 harg3 arg4 harg4 arg5 harg5 arg6 harg6 arg9 arg10 x0 x1 x2 x3) 44 := fun r q => by
  unfold sl.v1337 sl.HS1_47
  rw [found]
  rw [step_125]
  exact holds_next x0 x1 x2 x3 (n := 43) (by decide) (acc_1309 c arg3 harg3 arg4 harg4 arg5 harg5 arg6 harg6 arg9 arg10 x0 x1 x2 x3) (slot_1313 c arg3 harg3 arg4 harg4 arg6 harg6 arg9 x0 x1 x3) arg5 harg5 ![0, 0, 43, 0, 0] rfl _ r q

theorem acc_1365 : Holds x0 x1 x2 x3 (sl.v1365 (F := Ideal) c arg3 harg3 arg4 harg4 arg5 harg5 arg6 harg6 arg9 arg10 x0 x1 x2 x3) 45 := fun r q => by
  unfold sl.v1365 sl.HS1_48
  rw [found]
  unfold sl.r_28
  rw [step_128]
  exact holds_next x0 x1 x2 x3 (n := 44) (by decide) (acc_1337 c arg3 harg3 arg4 harg4 arg5 harg5 arg6 harg6 arg9 arg10 x0 x1 x2 x3) (slot_1341 c arg3 harg3 arg4 harg4 arg6 harg6 arg9 x0 x1 x3) arg5 harg5 ![0, 0, 44, 0, 0] rfl _ r q

theorem acc_1393 : Holds x0 x1 x2 x3 (sl.v1393 (F := Ideal) c arg3 harg3 arg4 harg4 arg5 harg5 arg6 harg6 arg9 arg10 x0 x1 x2 x3) 46 := fun r q => by
  unfold sl.v1393 sl.HS1_49
  rw [found]
  unfold sl.r_29 sl.r_30
  rw [step_132]
  exact holds_next x0 x1 x2 x3 (n := 45) (by decide) (acc_1365 c arg3 harg3 arg4 harg4 arg5 harg5 arg6 harg6 arg9 arg10 x0 x1 x2 x3) (slot_1369 c arg3 harg3 arg4 harg4 arg6 harg6 arg9 x0 x1 x3) arg5 harg5 ![0, 0, 45, 0, 0] rfl _ r q

theorem acc_1421 : Holds x0 x1 x2 x3 (sl.v1421 (F := Ideal) c arg3 harg3 arg4 harg4 arg5 harg5 arg6 harg6 arg9 arg10 x0 x1 x2 x3) 47 := fun r q => by
  unfold sl.v1421 sl.HS1_50
  rw [found]
  unfold sl.r_31
  rw [step_135]
  exact holds_next x0 x1 x2 x3 (n := 46) (by decide) (acc_1393 c arg3 harg3 arg4 harg4 arg5 harg5 arg6 harg6 arg9 arg10 x0 x1 x2 x3) (slot_1397 c arg3 harg3 arg4 harg4 arg6 harg6 arg9 x0 x1 x3) arg5 harg5 ![0, 0, 46, 0, 0] rfl _ r q

theorem acc_1449 : Holds x0 x1 x2 x3 (sl.v1449 (F := Ideal) c arg3 harg3 arg4 harg4 arg5 harg5 arg6 harg6 arg9 arg10 x0 x1 x2 x3) 48 := fun r q => by
  unfold sl.v1449 sl.HS1_51
  rw [found]
  rw [step_137]
  exact holds_next x0 x1 x2 x3 (n := 47) (by decide) (acc_1421 c arg3 harg3 arg4 harg4 arg5 harg5 arg6 harg6 arg9 arg10 x0 x1 x2 x3) (slot_1425 c arg3 harg3 arg4 harg4 arg6 harg6 arg9 x0 x1 x3) arg5 harg5 ![0, 0, 47, 0, 0] rfl _ r q

theorem acc_1477 : Holds x0 x1 x2 x3 (sl.v1477 (F := Ideal) c arg3 harg3 arg4 harg4 arg5 harg5 arg6 harg6 arg9 arg10 x0 x1 x2 x3) 49 := fun r q => by
  unfold sl.v1477 sl.HS1_52
  rw [found]
  rw [step_139]
  exact holds_next x0 x1 x2 x3 (n := 48) (by decide) (acc_1449 c arg3 harg3 arg4 harg4 arg5 harg5 arg6 harg6 arg9 arg10 x0 x1 x2 x3) (slot_1453 c arg3 harg3 arg4 harg4 arg6 harg6 arg9 x0 x1 x3) arg5 harg5 ![0, 0, 48, 0, 0] rfl _ r q

theorem acc_1505 : Holds x0 x1 x2 x3 (sl.v1505 (F := Ideal) c arg3 harg3 arg4 harg4 arg5 harg5 arg6 harg6 arg9 arg10 x0 x1 x2 x3) 50 := fun r q => by
  unfold sl.v1505 sl.HS1_53
  rw [found]
  rw [step_142]
  exact holds_next x0 x1 x2 x3 (n := 49) (by decide) (acc_1477 c arg3 harg3 arg4 harg4 arg5 harg5 arg6 harg6 arg9 arg10 x0 x1 x2 x3) (slot_1481 c arg3 harg3 arg4 harg4 arg6 harg6 arg9 x0 x1 x3) arg5 harg5 ![0, 0, 49, 0, 0] rfl _ r q

theorem acc_1533 : Holds x0 x1 x2 x3 (sl.v1533 (F := Ideal) c arg3 harg3 arg4 harg4 arg5 harg5 arg6 harg6 arg9 arg10 x0 x1 x2 x3) 51 := fun r q => by
  unfold sl.v1533 sl.HS1_54
  rw [found]
  rw [step_145]
  exact holds_next x0 x1 x2 x3 (n := 50) (by decide) (acc_1505 c arg3 harg3 arg4 harg4 arg5 harg5 arg6 harg6 arg9 arg10 x0 x1 x2 x3) (slot_1509 c arg3 harg3 arg4 harg4 arg6 harg6 arg9 x0 x1 x3) arg5 harg5 ![0, 0, 50, 0, 0] rfl _ r q

theorem acc_1561 : Holds x0 x1 x2 x3 (sl.v1561 (F := Ideal) c arg3 harg3 arg4 harg4 arg5 harg5 arg6 harg6 arg9 arg10 x0 x1 x2 x3) 52 := fun r q => by
  unfold sl.v1561 sl.HS1_55
  rw [found]
  rw [step_147]
  exact holds_next x0 x1 x2 x3 (n := 51) (by decide) (acc_1533 c arg3 harg3 arg4 harg4 arg5 harg5 arg6 harg6 arg9 arg10 x0 x1 x2 x3) (slot_1537 c arg3 harg3 arg4 harg4 arg6 harg6 arg9 x0 x1 x3) arg5 harg5 ![0, 0, 51, 0, 0] rfl _ r q

theorem acc_1589 : Holds x0 x1 x2 x3 (sl.v1589 (F := Ideal) c arg3 harg3 arg4 harg4 arg5 harg5 arg6 harg6 arg9 arg10 x0 x1 x2 x3) 53 := fun r q => by
  unfold sl.v1589 sl.HS1_56
  rw [found]
  rw [step_149]
  exact holds_next x0 x1 x2 x3 (n := 52) (by decide) (acc_1561 c arg3 harg3 arg4 harg4 arg5 harg5 arg6 harg6 arg9 arg10 x0 x1 x2 x3) (slot_1565 c arg3 harg3 arg4 harg4 arg6 harg6 arg9 x0 x1 x3) arg5 harg5 ![0, 0, 52, 0, 0] rfl _ r q

theorem acc_1617 : Holds x0 x1 x2 x3 (sl.v1617 (F := Ideal) c arg3 harg3 arg4 harg4 arg5 harg5 arg6 harg6 arg9 arg10 x0 x1 x2 x3) 54 := fun r q => by
  unfold sl.v1617 sl.HS1_57
  rw [found]
  rw [step_151]
  exact holds_next x0 x1 x2 x3 (n := 53) (by decide) (acc_1589 c arg3 harg3 arg4 harg4 arg5 harg5 arg6 harg6 arg9 arg10 x0 x1 x2 x3) (slot_1593 c arg3 harg3 arg4 harg4 arg6 harg6 arg9 x0 x1 x3) arg5 harg5 ![0, 0, 53, 0, 0] rfl _ r q

theorem acc_1645 : Holds x0 x1 x2 x3 (sl.v1645 (F := Ideal) c arg3 harg3 arg4 harg4 arg5 harg5 arg6 harg6 arg9 arg10 x0 x1 x2 x3) 55 := fun r q => by
  unfold sl.v1645 sl.HS1_58
  rw [found]
  unfold sl.r_34
  rw [step_154]
  exact holds_next x0 x1 x2 x3 (n := 54) (by decide) (acc_1617 c arg3 harg3 arg4 harg4 arg5 harg5 arg6 harg6 arg9 arg10 x0 x1 x2 x3) (slot_1621 c arg3 harg3 arg4 harg4 arg6 harg6 arg9 x0 x1 x3) arg5 harg5 ![0, 0, 54, 0, 0] rfl _ r q

theorem acc_1673 : Holds x0 x1 x2 x3 (sl.v1673 (F := Ideal) c arg3 harg3 arg4 harg4 arg5 harg5 arg6 harg6 arg9 arg10 x0 x1 x2 x3) 56 := fun r q => by
  unfold sl.v1673 sl.HS1_59
  rw [found]
  unfold sl.r_35 sl.r_36
  rw [step_158]
  exact holds_next x0 x1 x2 x3 (n := 55) (by decide) (acc_1645 c arg3 harg3 arg4 harg4 arg5 harg5 arg6 harg6 arg9 arg10 x0 x1 x2 x3) (slot_1649 c arg3 harg3 arg4 harg4 arg6 harg6 arg9 x0 x1 x3) arg5 harg5 ![0, 0, 55, 0, 0] rfl _ r q

theorem acc_1701 : Holds x0 x1 x2 x3 (sl.v1701 (F := Ideal) c arg3 harg3 arg4 harg4 arg5 harg5 arg6 harg6 arg9 arg10 x0 x1 x2 x3) 57 := fun r q => by
  unfold sl.v1701 sl.HS1_60
  rw [found]
  unfold sl.r_37
  rw [step_161]
  exact holds_next x0 x1 x2 x3 (n := 56) (by decide) (acc_1673 c arg3 harg3 arg4 harg4 arg5 harg5 arg6 harg6 arg9 arg10 x0 x1 x2 x3) (slot_1677 c arg3 harg3 arg4 harg4 arg6 harg6 arg9 x0 x1 x3) arg5 harg5 ![0, 0, 56, 0, 0] rfl _ r q

theorem acc_1729 : Holds x0 x1 x2 x3 (sl.v1729 (F := Ideal) c arg3 harg3 arg4 harg4 arg5 harg5 arg6 harg6 arg9 arg10 x0 x1 x2 x3) 58 := fun r q => by
  unfold sl.v1729 sl.HS1_61
  rw [found]
  rw [step_163]
  exact holds_next x0 x1 x2 x3 (n := 57) (by decide) (acc_1701 c arg3 harg3 arg4 harg4 arg5 harg5 arg6 harg6 arg9 arg10 x0 x1 x2 x3) (slot_1705 c arg3 harg3 arg4 harg4 arg6 harg6 arg9 x0 x1 x3) arg5 harg5 ![0, 0, 57, 0, 0] rfl _ r q

theorem acc_1757 : Holds x0 x1 x2 x3 (sl.v1757 (F := Ideal) c arg3 harg3 arg4 harg4 arg5 harg5 arg6 harg6 arg9 arg10 x0 x1 x2 x3) 59 := fun r q => by
  unfold sl.v1757 sl.HS1_62
  rw [found]
  rw [step_165]
  exact holds_next x0 x1 x2 x3 (n := 58) (by decide) (acc_1729 c arg3 harg3 arg4 harg4 arg5 harg5 arg6 harg6 arg9 arg10 x0 x1 x2 x3) (slot_1733 c arg3 harg3 arg4 harg4 arg6 harg6 arg9 x0 x1 x3) arg5 harg5 ![0, 0, 58, 0, 0] rfl _ r q

theorem acc_1785 : Holds x0 x1 x2 x3 (sl.v1785 (F := Ideal) c arg3 harg3 arg4 harg4 arg5 harg5 arg6 harg6 arg9 arg10 x0 x1 x2 x3) 60 := fun r q => by
  unfold sl.v1785 sl.HS1_63
  rw [found]
  rw [step_168]
  exact holds_next x0 x1 x2 x3 (n := 59) (by decide) (acc_1757 c arg3 harg3 arg4 harg4 arg5 harg5 arg6 harg6 arg9 arg10 x0 x1 x2 x3) (slot_1761 c arg3 harg3 arg4 harg4 arg6 harg6 arg9 x0 x1 x3) arg5 harg5 ![0, 0, 59, 0, 0] rfl _ r q

theorem acc_1813 : Holds x0 x1 x2 x3 (sl.v1813 (F := Ideal) c arg3 harg3 arg4 harg4 arg5 harg5 arg6 harg6 arg9 arg10 x0 x1 x2 x3) 61 := fun r q => by
  unfold sl.v1813 sl.HS1_64
  rw [found]
  rw [step_171]
  exact holds_next x0 x1 x2 x3 (n := 60) (by decide) (acc_1785 c arg3 harg3 arg4 harg4 arg5 harg5 arg6 harg6 arg9 arg10 x0 x1 x2 x3) (slot_1789 c arg3 harg3 arg4 harg4 arg6 harg6 arg9 x0 x1 x3) arg5 harg5 ![0, 0, 60, 0, 0] rfl _ r q

theorem acc_1838 : Holds x0 x1 x2 x3 (sl.v1838 (F := Ideal) c arg3 harg3 arg4 harg4 arg5 harg5 arg6 harg6 arg9 arg10 x0 x1 x2 x3) 62 := fun r q => by
  unfold sl.v1838 sl.HS1_65
  rw [found]
  rw [step_173]
  exact holds_next x0 x1 x2 x3 (n := 61) (by decide) (acc_1813 c arg3 harg3 arg4 harg4 arg5 harg5 arg6 harg6 arg9 arg10 x0 x1 x2 x3) (slot_1817 c arg3 harg3 arg4 harg4 arg6 harg6 arg9 x0 x1 x3) arg5 harg5 ![0, 0, 61, 0, 0] rfl _ r q

theorem acc_1861 : Holds x0 x1 x2 x3 (sl.v1861 (F := Ideal) c arg3 harg3 arg4 harg4 arg5 harg5 arg6 harg6 arg9 arg10 x0 x1 x2 x3) 63 := fun r q => by
  unfold sl.v1861 sl.HS1_66
  rw [found]
  rw [step_175]
  exact holds_next x0 x1 x2 x3 (n := 62) (by decide) (acc_1838 c arg3 harg3 arg4 harg4 arg5 harg5 arg6 harg6 arg9 arg10 x0 x1 x2 x3) (slot_1842 c arg3 harg3 arg4 harg4 arg6 harg6 arg9 x0 x1 x3) arg5 harg5 k0_off3 rfl _ r q

theorem acc_1871 : Holds x0 x1 x2 x3 (sl.v1871 (F := Ideal) c arg3 harg3 arg4 harg4 arg5 harg5 arg6 harg6 arg9 arg10 x0 x1 x2 x3) 64 := fun r q => by
  unfold sl.v1871 sl.HS1_67
  rw [found]
  unfold sl.r_40
  rw [step_178]
  exact holds_next x0 x1 x2 x3 (n := 63) (by decide) (acc_1861 c arg3 harg3 arg4 harg4 arg5 harg5 arg6 harg6 arg9 arg10 x0 x1 x2 x3) (slot_1864 c arg3 harg3 arg4 harg4 arg6 harg6 arg9 x0 x1 x3) arg5 harg5 ![0, 0, 63, 0, 0] rfl _ r q

theorem acc_1881 : Holds x0 x1 x2 x3 (sl.v1881 (F := Ideal) c arg3 harg3 arg4 harg4 arg5 harg5 arg6 harg6 arg9 arg10 x0 x1 x2 x3) 65 := fun r q => by
  unfold sl.v1881 sl.HS1_68
  rw [found]
  rw [step_179]
  exact holds_next x0 x1 x2 x3 (n := 64) (by decide) (acc_1871 c arg3 harg3 arg4 harg4 arg5 harg5 arg6 harg6 arg9 arg10 x0 x1 x2 x3) (slot_1874 c arg3 harg3 arg4 harg4 arg6 harg6 arg9 x0 x1 x3) arg5 harg5 ![0, 0, 64, 0, 0] rfl _ r q

end Cert.Proof.Attn

end
-- ==== Proof.AttnMath.lean ====
/-
  A softmax in base two, computed with and without a shift of the scores.
-/
module

public import proofs.«01_k».proof.Proof.CombValue

@[expose] public section

noncomputable section

namespace Cert.Proof.Attn

open Idealize.ShloMosaic

/-- A sum over `n * k` entries, block by block. -/
theorem sum_blocks (n k : ℕ) (f : Fin n → Fin k → EReal) : ∑ x : Fin (n * k), f x.divNat x.modNat = ∑ a, ∑ b, f a b :=
  (finProdFinEquiv.symm.sum_comp (fun p : Fin n × Fin k => f p.1 p.2)).trans (Fintype.sum_prod_type _)

/-- A real factor that is not negative goes into a sum, whatever the terms are. -/
theorem sum_mul_real {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.mpr hc) (EReal.coe_ne_top c), ih]

/-- A sum of reals is their sum in the extended reals. -/
theorem real_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Two to the power of a real score less a real shift. -/
theorem exp2_shifted (x d : ℝ) : Ideal.exp2 ((x : EReal) - (d : EReal)) = ((Real.rpow 2 x * Real.rpow 2 (-d) : ℝ) : EReal) := by
  rw [← EReal.coe_sub]
  show ((Real.rpow 2 (x - d) : ℝ) : EReal) = _
  exact congrArg _ (by rw [sub_eq_add_neg]; exact Real.rpow_add (by norm_num) x (-d))

/-- Division by a positive real. -/
theorem div_real (x : EReal) (d : ℝ) (hd : 0 < d) : Ideal.div x (d : EReal) = x * ((d⁻¹ : ℝ) : EReal) := by
  unfold Ideal.div
  rw [if_neg (EReal.coe_ne_zero.mpr hd.ne'), EReal.coe_inv]

/-- The weighted sum of any values over a shifted softmax's denominator: the sum with the weights of the softmax without a shift. -/
theorem softmax_shift {ι : Type} [Fintype ι] [Nonempty ι] (u : ι → EReal) (x : ι → ℝ) (d : ℝ) :
    Ideal.div (∑ i, u i * Ideal.exp2 ((x i : EReal) - (d : EReal))) (∑ i, Ideal.exp2 ((x i : EReal) - (d : EReal)))
      = ∑ i, u i * Ideal.div (Ideal.pow ((2 : ℝ) : EReal) (x i : EReal)) (∑ k, Ideal.pow ((2 : ℝ) : EReal) (x k : EReal)) := by
  have hp : ∀ i, Ideal.pow ((2 : ℝ) : EReal) (x i : EReal) = ((Real.rpow 2 (x i) : ℝ) : EReal) := fun i => rfl
  have pos : ∀ y : ℝ, 0 < Real.rpow 2 y := fun y => Real.rpow_pos_of_pos (by norm_num) y
  have hD : 0 < ∑ i, Real.rpow 2 (x i) := Finset.sum_pos (fun i _ => pos _) Finset.univ_nonempty
  have hc := pos (-d)
  simp only [exp2_shifted, hp, ← real_sum, ← Finset.sum_mul]
  rw [div_real _ _ (mul_pos hD hc), sum_mul_real _ _ _ (inv_nonneg.mpr (mul_pos hD hc).le)]
  refine Finset.sum_congr rfl fun i _ => ?_
  rw [div_real _ _ hD, mul_assoc, ← EReal.coe_mul, ← EReal.coe_mul]
  refine congrArg (fun y : ℝ => u i * (y : EReal)) ?_
  field_simp

theorem two_bits : Ideal.ofBits FTy.f32 1073741824#32 = ((2 : ℝ) : EReal) := by
  simp [Ideal.ofBits, Ideal.ieee, -EReal.coe_mul]
  norm_num

end Cert.Proof.Attn

end
-- ==== Proof.AttnOut.lean ====
/-
  The attention call's block, read at an index.
-/
module

public import proofs.«01_k».proof.Proof.AttnSteps
public import proofs.«01_k».proof.Proof.AttnMath

@[expose] public section

noncomputable section

namespace Cert.Proof.Attn

open Cert.Kernel4Ideal Cert.Kernel4Ideal.Gen
open Cert.Proof.Comb (zeros2 zeros3)
open Idealize.ShloMosaic Idealize.ShloMosaic.TcCoe Idealize.SL.Sem

set_option maxRecDepth 16384

/-- The block from the accumulator: row `d` over row 64, the two heads' halves of the columns side by side. -/
theorem quotient_apply (A : Vec Ideal S80x1024 .f32) (z : Fin 1) (s : Fin 512) (l : Fin 128) :
    @Eq EReal (k0_pay182 A (ix3 z s l))
      (Ideal.div (A (ix2 ⟨l.val % 64, by omega⟩ ⟨l.val / 64 * 512 + s.val, by omega⟩)) (A (ix2 64 ⟨l.val / 64 * 512 + s.val, by omega⟩))) := by
  have hl := l.isLt
  have hs := s.isLt
  pointwise [k0_pay182, k0_pay180]
  by_cases h : l.val < 64
  · rw [dif_pos h]
    have e1 : (⟨l.val, by omega⟩ : Fin 80) = ⟨l.val % 64, by omega⟩ := Fin.ext (by show l.val = l.val % 64; omega)
    have e2 : (⟨s.val, by omega⟩ : Fin 1024) = ⟨l.val / 64 * 512 + s.val, by omega⟩ := Fin.ext (by show s.val = l.val / 64 * 512 + s.val; omega)
    rw [e1, e2]
  · rw [dif_neg h]
    have e1 : (⟨l.val - 64, by omega⟩ : Fin 80) = ⟨l.val % 64, by omega⟩ := Fin.ext (by show l.val - 64 = l.val % 64; omega)
    have e2 : (⟨512 + s.val, by omega⟩ : Fin 1024) = ⟨l.val / 64 * 512 + s.val, by omega⟩ := Fin.ext (by show 512 + s.val = l.val / 64 * 512 + s.val; omega)
    rw [e1, e2]

theorem first_lanes : ∀ l : Fin 128, IntOp.cmpi CmpIPredicate.slt (BitVec.ofNat 32 l.val) 64#32 = if l.val / 64 = 0 then 1#1 else 0#1 := by decide +kernel
theorem second_lanes : ∀ l : Fin 128, IntOp.cmpi CmpIPredicate.sge (BitVec.ofNat 32 l.val) 64#32 = if l.val / 64 = 1 then 1#1 else 0#1 := by decide +kernel

theorem select_if (p : Prop) [Decidable p] (x y : EReal) : Scalar.select (if p then 1#1 else 0#1) x y = if p then x else y := by
  split_ifs <;> rfl

/-- The query block: the first half of the columns keeps the first head's lanes, the second half the second's. -/
theorem query_apply (Q : Vec Ideal S1x1x128x512 .bf16) (l : Fin 128) (q : Fin 1024) :
    @Eq EReal (k0_pay4 Q (ix2 l q)) (if l.val / 64 = q.val / 512 then Q (ix4 0 0 l ⟨q.val % 512, by omega⟩) else 0) := by
  have hq := q.isLt
  pointwise [k0_pay4, k0_pay3, k0_pay2, k0_pay1]
  by_cases h : q.val < 512
  · have e : (⟨q.val, h⟩ : Fin 512) = ⟨q.val % 512, by omega⟩ := Fin.ext (by show q.val = q.val % 512; omega)
    have e' : q.val / 512 = 0 := by omega
    rw [dif_pos h, e, e', first_lanes]
    exact select_if _ _ _
  · have e : (⟨q.val - 512, by omega⟩ : Fin 512) = ⟨q.val % 512, by omega⟩ := Fin.ext (by show q.val - 512 = q.val % 512; omega)
    have e' : q.val / 512 = 1 := by omega
    rw [dif_neg h, e, e', second_lanes]
    exact select_if _ _ _

/-- A score over all lanes of a column is the score over its head's lanes. -/
theorem score_eq (Q : Vec Ideal S1x1x128x512 .bf16) (K : Fin 128 → EReal) (q : Fin 1024) :
    ∑ l : Fin 128, K l * k0_pay4 Q (ix2 l q)
      = ∑ l : Fin 64, Q (ix4 0 0 ⟨q.val / 512 * 64 + l.val, by omega⟩ ⟨q.val % 512, by omega⟩) * K ⟨q.val / 512 * 64 + l.val, by omega⟩ := by
  have hq := q.isLt
  simp only [query_apply]
  refine (Finset.sum_congr rfl fun l _ => ?_).trans ((sum_blocks 2 64 fun (h : Fin 2) (l : Fin 64) => K ⟨h.val * 64 + l.val, by omega⟩ *
    (if h.val = q.val / 512 then Q (ix4 0 0 ⟨h.val * 64 + l.val, by omega⟩ ⟨q.val % 512, by omega⟩) else 0)).trans ?_)
  · have e : (⟨l.val / 64 * 64 + l.val % 64, by omega⟩ : Fin 128) = l := Fin.ext (by show l.val / 64 * 64 + l.val % 64 = l.val; omega)
    show _ = K ⟨l.val / 64 * 64 + l.val % 64, by omega⟩ *
      (if l.val / 64 = q.val / 512 then Q (ix4 0 0 ⟨l.val / 64 * 64 + l.val % 64, by omega⟩ ⟨q.val % 512, by omega⟩) else 0)
    rw [e]
  · rw [Finset.sum_eq_single (⟨q.val / 512, by omega⟩ : Fin 2)]
    · refine Finset.sum_congr rfl fun l _ => ?_
      rw [if_pos rfl, mul_comm]
    · intro h _ hne
      refine Finset.sum_eq_zero fun l _ => ?_
      rw [if_neg fun e => hne (Fin.ext e), mul_zero]
    · exact fun h => absurd (Finset.mem_univ _) h

/-- An extended real that is a real. -/
abbrev IsReal (x : EReal) : Prop := ∃ r : ℝ, x = (r : EReal)

theorem isReal_mul {x y : EReal} (hx : IsReal x) (hy : IsReal y) : IsReal (x * y) := by
  obtain ⟨r, rfl⟩ := hx
  obtain ⟨t, rfl⟩ := hy
  exact ⟨r * t, (EReal.coe_mul r t).symm⟩

theorem isReal_sum {ι : Type} {s : Finset ι} {f : ι → EReal} (h : ∀ i, IsReal (f i)) : IsReal (∑ i ∈ s, f i) := by
  choose g hg using h
  exact ⟨∑ i ∈ s, g i, by rw [real_sum]; exact Finset.sum_congr rfl fun i _ => hg i⟩

theorem isReal_select {x y : EReal} (b : BitVec 1) (hx : IsReal x) (hy : IsReal y) : IsReal (Scalar.select b x y) := by
  unfold Scalar.select
  split_ifs
  · exact hx
  · exact hy

theorem isReal_zero : IsReal 0 := ⟨0, rfl⟩

theorem isReal_sqrt {x : EReal} (hx : IsReal x) (h0 : 0 ≤ x) : IsReal (Ideal.sqrt x) := by
  obtain ⟨r, rfl⟩ := hx
  have : 0 ≤ r := EReal.coe_nonneg.mp h0
  refine ⟨Real.sqrt r, ?_⟩
  show Ideal.sqrt (r : EReal) = _
  unfold Ideal.sqrt
  first
    | exact if_pos this
    | exact if_neg (not_lt.mpr this)

theorem isReal_bound : IsReal (Ideal.ofBits FTy.f32 1065437102#32) := by
  unfold IsReal
  simp [Ideal.ofBits, Ideal.ieee, -EReal.coe_mul]

theorem square_nonneg {x : EReal} (hx : IsReal x) : 0 ≤ x * x := by
  obtain ⟨r, rfl⟩ := hx
  rw [← EReal.coe_mul]
  exact EReal.coe_nonneg.mpr (mul_self_nonneg r)

theorem select_nonneg {x y : EReal} (b : BitVec 1) (hx : 0 ≤ x) (hy : 0 ≤ y) : 0 ≤ Scalar.select b x y := by
  unfold Scalar.select
  split_ifs
  · exact hx
  · exact hy

/-- The shift is real where the queries and the key bounds are. -/
theorem shift_real (Q : Vec Ideal S1x1x128x512 .bf16) (M : Vec Ideal S1x1x2x128 .f32) (hQ : ∀ l s, IsReal (Q (ix4 0 0 l s))) (hM : ∀ g, IsReal (M (ix4 0 0 g 0))) (q : Fin 1024) :
    IsReal (k0_pay5 Q M (ix2 0 q)) := by
  have key : ∀ (b b' : Fin 128 → BitVec 1) (s : Fin 512) (g : Fin 2),
      IsReal (Ideal.sqrt (∑ x : Fin 128, Scalar.select (b x) (Scalar.select (b' x) (Q (ix4 0 0 x s) * Q (ix4 0 0 x s)) 0) 0) * M (ix4 0 0 g 0)) := fun b b' s g =>
    isReal_mul (isReal_sqrt (isReal_sum fun x => isReal_select _ (isReal_select _ (isReal_mul (hQ x s) (hQ x s)) isReal_zero) isReal_zero)
      (Finset.sum_nonneg fun x _ => select_nonneg _ (select_nonneg _ (square_nonneg (hQ x s)) le_rfl) le_rfl)) (hM g)
  have e : ∃ y : EReal, IsReal y ∧ @Eq EReal (k0_pay5 Q M (ix2 0 q)) (y * Ideal.ofBits FTy.f32 1065437102#32) := by
    by_cases h : q.val < 512
    · refine ⟨_, key (fun x => IntOp.cmpi CmpIPredicate.slt (BitVec.ofNat 32 x.val) 64#32) (fun x => IntOp.cmpi CmpIPredicate.slt (BitVec.ofNat 32 x.val) 64#32) ⟨q.val, h⟩ 0, ?_⟩
      pointwise [k0_pay5, k0_pay3, k0_pay2, k0_pay1]
      rw [dif_pos h]
    · refine ⟨_, key (fun x => IntOp.cmpi CmpIPredicate.sge (BitVec.ofNat 32 x.val) 64#32) (fun x => IntOp.cmpi CmpIPredicate.sge (BitVec.ofNat 32 x.val) 64#32) ⟨q.val - 512, by omega⟩ 1, ?_⟩
      pointwise [k0_pay5, k0_pay3, k0_pay2, k0_pay1]
      rw [dif_neg h]
  obtain ⟨y, hy, e⟩ := e
  rw [e]
  exact isReal_mul hy isReal_bound

/-! ## The whole block -/

/-- What the accumulator holds in the end, as one sum over the keys. -/
theorem added_all (x0 : Vec Ideal S1x1x128x512 .bf16) (x1 : Vec Ideal S1x1x16640x128 .bf16) (x2 : Vec Ideal S1x1x65x80x256 .bf16) (x3 : Vec Ideal S1x1x2x128 .f32) (r : Fin 80) (q : Fin 1024) :
    ∑ j ∈ Finset.range 65, added x0 x1 x2 x3 r q j
      = ∑ x : Fin 16640, x2 (ix5 0 0 ⟨x.val / 256, by omega⟩ r ⟨x.val % 256, by omega⟩)
          * Ideal.exp2 ((∑ l : Fin 128, x1 (ix4 0 0 x l) * k0_pay4 x0 (ix2 l q)) - k0_pay5 x0 x3 (ix2 0 q)) := by
  rw [Finset.sum_range]
  refine Eq.trans (Finset.sum_congr rfl fun j _ => ?_) (((sum_blocks 65 256 fun (j : Fin 65) (t : Fin 256) => x2 (ix5 0 0 j r t) * prob x0 x1 x3 j t q).symm).trans
    (Finset.sum_congr rfl fun x _ => ?_))
  · unfold added
    rw [dif_pos j.isLt]
  · have e : (⟨256 * (x.val / 256) + x.val % 256, by omega⟩ : Fin 16640) = x := Fin.ext (by show 256 * (x.val / 256) + x.val % 256 = x.val; omega)
    show x2 (ix5 0 0 ⟨x.val / 256, by omega⟩ r ⟨x.val % 256, by omega⟩)
      * Ideal.exp2 ((∑ l : Fin 128, x1 (ix4 0 0 ⟨256 * (x.val / 256) + x.val % 256, by omega⟩ l) * k0_pay4 x0 (ix2 l q)) - k0_pay5 x0 x3 (ix2 0 q)) = _
    rw [e]

/-- Values weighted by the softmax, in base two, of their scores. -/
def attended (u x : Fin 16640 → EReal) : EReal :=
  ∑ i, u i * Ideal.div (Ideal.pow ((2 : ℝ) : EReal) (x i)) (∑ k, Ideal.pow ((2 : ℝ) : EReal) (x k))

/-- The block that the final accumulator gives: attention, without the shift. -/
theorem block_value (x0 : Vec Ideal S1x1x128x512 .bf16) (x1 : Vec Ideal S1x1x16640x128 .bf16) (x2 : Vec Ideal S1x1x65x80x256 .bf16) (x3 : Vec Ideal S1x1x2x128 .f32)
    (hQ : ∀ l s, IsReal (x0 (ix4 0 0 l s))) (hK : ∀ t l, IsReal (x1 (ix4 0 0 t l))) (hM : ∀ g, IsReal (x3 (ix4 0 0 g 0)))
    (hV : ∀ j t, @Eq EReal (x2 (ix5 0 0 j 64 t)) 1) (A : Vec Ideal S80x1024 .f32) (hA : Holds x0 x1 x2 x3 A 65) (z : Fin 1) (s : Fin 512) (l : Fin 128) :
    @Eq EReal (k0_pay182 A (ix3 z s l))
      (attended (fun x => x2 (ix5 0 0 ⟨x.val / 256, by omega⟩ ⟨l.val % 64, by omega⟩ ⟨x.val % 256, by omega⟩))
        (fun x => ∑ t : Fin 64, x0 (ix4 0 0 ⟨l.val / 64 * 64 + t.val, by omega⟩ s) * x1 (ix4 0 0 x ⟨l.val / 64 * 64 + t.val, by omega⟩))) := by
  rw [quotient_apply, hA, hA, added_all, added_all]
  obtain ⟨d, hd⟩ := shift_real x0 x3 hQ hM ⟨l.val / 64 * 512 + s.val, by omega⟩
  have hs := s.isLt
  have hl := l.isLt
  have score : ∀ x : Fin 16640, ∑ l_1 : Fin 128, x1 (ix4 0 0 x l_1) * k0_pay4 x0 (ix2 l_1 ⟨l.val / 64 * 512 + s.val, by omega⟩)
      = ∑ t : Fin 64, x0 (ix4 0 0 ⟨l.val / 64 * 64 + t.val, by omega⟩ s) * x1 (ix4 0 0 x ⟨l.val / 64 * 64 + t.val, by omega⟩) := fun x => by
    refine (score_eq x0 (fun l => x1 (ix4 0 0 x l)) _).trans (Finset.sum_congr rfl fun t _ => ?_)
    have e1 : (⟨(l.val / 64 * 512 + s.val) / 512 * 64 + t.val, by omega⟩ : Fin 128) = ⟨l.val / 64 * 64 + t.val, by omega⟩ :=
      Fin.ext (by show (l.val / 64 * 512 + s.val) / 512 * 64 + t.val = l.val / 64 * 64 + t.val; omega)
    have e2 : (⟨(l.val / 64 * 512 + s.val) % 512, by omega⟩ : Fin 512) = s := Fin.ext (by show (l.val / 64 * 512 + s.val) % 512 = s.val; omega)
    show x0 (ix4 0 0 ⟨(l.val / 64 * 512 + s.val) / 512 * 64 + t.val, by omega⟩ ⟨(l.val / 64 * 512 + s.val) % 512, by omega⟩)
      * x1 (ix4 0 0 x ⟨(l.val / 64 * 512 + s.val) / 512 * 64 + t.val, by omega⟩) = _
    rw [e1, e2]
  have real : ∀ x : Fin 16640, IsReal (∑ t : Fin 64, x0 (ix4 0 0 ⟨l.val / 64 * 64 + t.val, by omega⟩ s) * x1 (ix4 0 0 x ⟨l.val / 64 * 64 + t.val, by omega⟩)) :=
    fun x => isReal_sum fun t => isReal_mul (hQ _ _) (hK _ _)
  choose y hy using real
  simp only [score, hd, hy, hV, one_mul]
  exact softmax_shift _ y d

end Cert.Proof.Attn

end
-- ==== Proof.AttnBlocks.lean ====
/-
  The blocks a grid point of the attention call finds, as entries of the arrays.
-/
module

public import proofs.«01_k».proof.Proof.AttnOut

@[expose] public section

noncomputable section

namespace Cert.Proof.Attn

open Cert.Kernel4Ideal Cert.Kernel4Ideal.Gen
open Cert.Proof.Comb (zeros3)
open Idealize.ShloMosaic Idealize.ShloMosaic.TcCoe Idealize.SL.Sem

set_option maxRecDepth 16384

variable (m : (ℓ : Loc nD τ sig) → Buf (Elt Ideal) ℓ) (c : Dev nD)

/-! ## Where a point's blocks lie -/

theorem map0 : ∀ t : Fin grid0.N, cc0_transform_0 (grid0.coords t) 0 = t.val / 64 ∧ cc0_transform_0 (grid0.coords t) 1 = t.val / 32 % 2
    ∧ cc0_transform_0 (grid0.coords t) 2 = 0 ∧ cc0_transform_0 (grid0.coords t) 3 = t.val % 32 := by
  decide +kernel
theorem map1 : ∀ t : Fin grid0.N, cc0_transform_1 (grid0.coords t) 0 = t.val / 64 ∧ cc0_transform_1 (grid0.coords t) 1 = t.val / 32 % 2
    ∧ cc0_transform_1 (grid0.coords t) 2 = 0 ∧ cc0_transform_1 (grid0.coords t) 3 = 0 := by
  decide +kernel
theorem map2 : ∀ t : Fin grid0.N, cc0_transform_2 (grid0.coords t) 0 = t.val / 64 ∧ cc0_transform_2 (grid0.coords t) 1 = t.val / 32 % 2
    ∧ cc0_transform_2 (grid0.coords t) 2 = 0 ∧ cc0_transform_2 (grid0.coords t) 3 = 0 ∧ cc0_transform_2 (grid0.coords t) 4 = 0 := by
  decide +kernel
theorem map3 : ∀ t : Fin grid0.N, cc0_transform_3 (grid0.coords t) 0 = t.val / 64 ∧ cc0_transform_3 (grid0.coords t) 1 = t.val / 32 % 2
    ∧ cc0_transform_3 (grid0.coords t) 2 = 0 ∧ cc0_transform_3 (grid0.coords t) 3 = 0 := by
  decide +kernel
theorem map4 : ∀ t : Fin grid0.N, cc0_transform_4 (grid0.coords t) 0 = t.val / 64 ∧ cc0_transform_4 (grid0.coords t) 1 = t.val % 32
    ∧ cc0_transform_4 (grid0.coords t) 2 = t.val / 32 % 2 := by
  decide +kernel

/-! ## The arguments' blocks -/

theorem blk0 (t : Fin grid0.N) (l : Fin 128) (r : Fin 512) (b u : Fin 2) (s : Fin 16384) (hb : b.val = t.val / 64) (hu : u.val = t.val / 32 % 2) (hs : s.val = t.val % 32 * 512 + r.val) :
    iblk m c 0 t (ix4 0 0 l r) = (m ((c.tc : Thread nD τ).loc main_arg0) : S2x2x128x16384.Idx → EReal) (ix4 b u l s) := by
  refine (congrFun (V_main_arg0 m c) _).trans (congrArg (m ((c.tc : Thread nD τ).loc main_arg0) : S2x2x128x16384.Idx → EReal) (funext fun a => Fin.ext ?_))
  match a with
  | ⟨0, _⟩ => show cc0_transform_0 (grid0.coords t) 0 * 1 + 1 * 0 = b.val; rw [(map0 t).1]; omega
  | ⟨1, _⟩ => show cc0_transform_0 (grid0.coords t) 1 * 1 + 1 * 0 = u.val; rw [(map0 t).2.1]; omega
  | ⟨2, _⟩ => show cc0_transform_0 (grid0.coords t) 2 * 128 + 1 * l.val = l.val; rw [(map0 t).2.2.1]; omega
  | ⟨3, _⟩ => show cc0_transform_0 (grid0.coords t) 3 * 512 + 1 * r.val = s.val; rw [(map0 t).2.2.2]; omega

theorem blk1 (t : Fin grid0.N) (x : Fin 16640) (l : Fin 128) (b u : Fin 2) (hb : b.val = t.val / 64) (hu : u.val = t.val / 32 % 2) :
    iblk m c 1 t (ix4 0 0 x l) = (m ((c.tc : Thread nD τ).loc main_arg1) : S2x2x16640x128.Idx → EReal) (ix4 b u x l) := by
  refine (congrFun (V_main_arg1 m c) _).trans (congrArg (m ((c.tc : Thread nD τ).loc main_arg1) : S2x2x16640x128.Idx → EReal) (funext fun a => Fin.ext ?_))
  match a with
  | ⟨0, _⟩ => show cc0_transform_1 (grid0.coords t) 0 * 1 + 1 * 0 = b.val; rw [(map1 t).1]; omega
  | ⟨1, _⟩ => show cc0_transform_1 (grid0.coords t) 1 * 1 + 1 * 0 = u.val; rw [(map1 t).2.1]; omega
  | ⟨2, _⟩ => show cc0_transform_1 (grid0.coords t) 2 * 16640 + 1 * x.val = x.val; rw [(map1 t).2.2.1]; omega
  | ⟨3, _⟩ => show cc0_transform_1 (grid0.coords t) 3 * 128 + 1 * l.val = l.val; rw [(map1 t).2.2.2]; omega

theorem blk2 (t : Fin grid0.N) (j : Fin 65) (r : Fin 80) (x : Fin 256) (b u : Fin 2) (hb : b.val = t.val / 64) (hu : u.val = t.val / 32 % 2) :
    iblk m c 2 t (ix5 0 0 j r x) = (m ((c.tc : Thread nD τ).loc main_arg2) : S2x2x65x80x256.Idx → EReal) (ix5 b u j r x) := by
  refine (congrFun (V_main_arg2 m c) _).trans (congrArg (m ((c.tc : Thread nD τ).loc main_arg2) : S2x2x65x80x256.Idx → EReal) (funext fun a => Fin.ext ?_))
  match a with
  | ⟨0, _⟩ => show cc0_transform_2 (grid0.coords t) 0 * 1 + 1 * 0 = b.val; rw [(map2 t).1]; omega
  | ⟨1, _⟩ => show cc0_transform_2 (grid0.coords t) 1 * 1 + 1 * 0 = u.val; rw [(map2 t).2.1]; omega
  | ⟨2, _⟩ => show cc0_transform_2 (grid0.coords t) 2 * 65 + 1 * j.val = j.val; rw [(map2 t).2.2.1]; omega
  | ⟨3, _⟩ => show cc0_transform_2 (grid0.coords t) 3 * 80 + 1 * r.val = r.val; rw [(map2 t).2.2.2.1]; omega
  | ⟨4, _⟩ => show cc0_transform_2 (grid0.coords t) 4 * 256 + 1 * x.val = x.val; rw [(map2 t).2.2.2.2]; omega

theorem blk3 (t : Fin grid0.N) (g : Fin 2) (l : Fin 128) (b u : Fin 2) (hb : b.val = t.val / 64) (hu : u.val = t.val / 32 % 2) :
    iblk m c 3 t (ix4 0 0 g l) = (m ((c.tc : Thread nD τ).loc main_arg3) : S2x2x2x128.Idx → EReal) (ix4 b u g l) := by
  refine (congrFun (V_main_arg3 m c) _).trans (congrArg (m ((c.tc : Thread nD τ).loc main_arg3) : S2x2x2x128.Idx → EReal) (funext fun a => Fin.ext ?_))
  match a with
  | ⟨0, _⟩ => show cc0_transform_3 (grid0.coords t) 0 * 1 + 1 * 0 = b.val; rw [(map3 t).1]; omega
  | ⟨1, _⟩ => show cc0_transform_3 (grid0.coords t) 1 * 1 + 1 * 0 = u.val; rw [(map3 t).2.1]; omega
  | ⟨2, _⟩ => show cc0_transform_3 (grid0.coords t) 2 * 2 + 1 * g.val = g.val; rw [(map3 t).2.2.1]; omega
  | ⟨3, _⟩ => show cc0_transform_3 (grid0.coords t) 3 * 128 + 1 * l.val = l.val; rw [(map3 t).2.2.2]; omega

/-- Where entry `(0, r, l)` of a point's block lies in the result. -/
theorem emb4 (t : Fin grid0.N) (z : Fin 1) (r : Fin 512) (l : Fin 128) (b : Fin 2) (s : Fin 16384) (j : Fin 256) (hb : b.val = t.val / 64)
    (hs : s.val = t.val % 32 * 512 + r.val) (hj : j.val = t.val / 32 % 2 * 128 + l.val) :
    ((cfg0.win 4).blk t).view.emb (ix3 z r l : S1x512x128.Idx) = (ix3 b s j : S2x16384x256.Idx) := by
  refine funext fun a => Fin.ext ?_
  match a with
  | ⟨0, _⟩ => show cc0_transform_4 (grid0.coords t) 0 * 1 + 1 * z.val = b.val; rw [(map4 t).1]; omega
  | ⟨1, _⟩ => show cc0_transform_4 (grid0.coords t) 1 * 512 + 1 * r.val = s.val; rw [(map4 t).2.1]; omega
  | ⟨2, _⟩ => show cc0_transform_4 (grid0.coords t) 2 * 128 + 1 * l.val = j.val; rw [(map4 t).2.2]; omega

/-! ## What the body leaves in its block -/

section
variable [∀ e, Nonempty (Elt Ideal e)]

variable (arg3 : Memref sig .tc .vmem S1x1x128x512 .bf16) (harg3 : arg3.IsWhole) (arg4 : Memref sig .tc .vmem S1x1x16640x128 .bf16) (harg4 : arg4.IsWhole)
variable (arg5 : Memref sig .tc .vmem S1x1x65x80x256 .bf16) (harg5 : arg5.IsWhole) (arg6 : Memref sig .tc .vmem S1x1x2x128 .f32) (harg6 : arg6.IsWhole)
variable (arg7 : Memref sig .tc .vmem S1x512x128 .bf16) (harg7 : arg7.IsWhole) (arg8 : Memref sig .tc .vmem S1x1x2x512 .f32) (harg8 : arg8.IsWhole)
variable (arg9 : Memref sig .tc .vmem S2x256x1024 .bf16) (harg9 : arg9.IsWhole) (arg10 : Memref sig .tc .vmem S80x1024 .f32) (harg10 : arg10.IsWhole)
variable (x0 : Vec Ideal S1x1x128x512 .bf16) (x1 : Vec Ideal S1x1x16640x128 .bf16) (x2 : Vec Ideal S1x1x65x80x256 .bf16) (x3 : Vec Ideal S1x1x2x128 .f32)

/-- The body's one store to its result block: all of it, with the quotient of the final accumulator. -/
theorem pieces (i : grid0.Coords) : (kernelRun0_A (F := Ideal) c i arg3 harg3 arg4 harg4 arg5 harg5 arg6 harg6 arg7 harg7 arg8 harg8 arg9 harg9 arg10 harg10 x0 x1 x2 x3).1
    = [⟨Rect.unit ![0, 0, 0] S1x512x128.size (by decide), kernelRun0_A.sl.r_41 (F := Ideal) c arg3 harg3 arg4 harg4 arg5 harg5 arg6 harg6 arg9 arg10 x0 x1 x2 x3⟩] := rfl

theorem out_eq (i : grid0.Coords) : out0_A_4 (F := Ideal) c i arg3 harg3 arg4 harg4 arg5 harg5 arg6 harg6 arg7 harg7 arg8 harg8 arg9 harg9 arg10 harg10 x0 x1 x2 x3
    = k0_pay182 (kernelRun0_A.sl.v1881 (F := Ideal) c arg3 harg3 arg4 harg4 arg5 harg5 arg6 harg6 arg9 arg10 x0 x1 x2 x3) := by
  unfold out0_A_4
  rw [View.read_writes_junk_eq_canon, pieces, View.canon_cons_unit_zero zeros3, kernelRun0_A.sl.r_41]

/-- The block is the quotient of the final accumulator, which holds the sum over all keys. -/
theorem left_by_body (t : Fin cfg0.N) : ∃ A : Vec Ideal S80x1024 .f32, Holds (iblk m c 0 t) (iblk m c 1 t) (iblk m c 2 t) (iblk m c 3 t) A 65 ∧ (outsAt0 m c t).1 = k0_pay182 A := by
  refine ⟨kernelRun0_A.sl.v1881 (F := Ideal) c (ms0_0 t) (hs0_0 t) (ms0_1 t) (hs0_1 t) (ms0_2 t) (hs0_2 t) (ms0_3 t) (hs0_3 t) scM0_0 scM0_1
    (iblk m c 0 t) (iblk m c 1 t) (iblk m c 2 t) (iblk m c 3 t), acc_1881 _ _ _ _ _ _ _ _ _ _ _ _ _ _ _, ?_⟩
  unfold outsAt0
  dsimp only
  rw [out_eq]

end

end Cert.Proof.Attn

end
-- ==== Proof.AttnRef.lean ====
/-
  The reference of the attention call, read at an index.
-/
module

public import proofs.«01_k».proof.Proof.AttnOut
public import proofs.«01_k».proof.Proof.Gen.Reference4Ideal.Run

@[expose] public section

noncomputable section

namespace Cert.Proof.Attn

open Cert.Reference4Ideal Cert.Reference4Ideal.Gen
open Idealize.ShloMosaic Idealize.ShloMosaic.TcCoe Idealize.SL.Sem

set_option maxRecDepth 16384

/-- The reference's result of its arguments. -/
def ref (a0 : FVec Ideal S2x2x128x16384 .bf16) (a1 : FVec Ideal S2x2x16640x128 .bf16) (a2 : FVec Ideal S2x2x65x80x256 .bf16) : FVec Ideal S2x16384x256 .bf16 :=
  truncf .bf16 (shapeCast _ (transpose S2x16384x2x2x64 [0, 4, 1, 3, 2] (Host.dotGeneral dot_S2x2x16640x64_S2x2x2x16384x16640_S2x2x64x2x16384_2_4_3_23_01_01 none (extf .f32 (shapeCast _ (transpose S2x2x65x256x64 [0, 1, 2, 4, 3] (extractStridedSlice S2x2x65x64x256 ![0, 0, 0, 0, 0] a2 slices_S2x2x65x80x256_S2x2x65x64x256_0_0_0_0_0) transposes_S2x2x65x64x256_S2x2x65x256x64_0_1_2_4_3) shapeCasts_S2x2x65x256x64_S2x2x16640x64) bitsLt_bf16_f32) (Host.divf (Host.powf (broadcastInDim S2x2x2x16384x16640 ![] bcast_S_S2x2x2x16384x16640 (constant S_ .f32 0x40000000#32)) (Host.dotGeneral dot_S2x2x2x64x16384_S2x2x16640x2x64_S2x2x2x16384x16640_3_4_4_2_012_013 none (extf .f32 (shapeCast _ a0 shapeCasts_S2x2x128x16384_S2x2x2x64x16384) bitsLt_bf16_f32) (extf .f32 (shapeCast _ a1 shapeCasts_S2x2x16640x128_S2x2x16640x2x64) bitsLt_bf16_f32))) (broadcastInDim S2x2x2x16384x16640 ![0, 1, 2, 3, 4] bcast_S2x2x2x16384x1_S2x2x2x16384x16640_0_1_2_3_4 (broadcastInDim S2x2x2x16384x1 ![0, 1, 2, 3] bcast_S2x2x2x16384_S2x2x2x16384x1_0_1_2_3 (Host.reduceAdd (Host.powf (broadcastInDim S2x2x2x16384x16640 ![] bcast_S_S2x2x2x16384x16640 (constant S_ .f32 0x40000000#32)) (Host.dotGeneral dot_S2x2x2x64x16384_S2x2x16640x2x64_S2x2x2x16384x16640_3_4_4_2_012_013 none (extf .f32 (shapeCast _ a0 shapeCasts_S2x2x128x16384_S2x2x2x64x16384) bitsLt_bf16_f32) (extf .f32 (shapeCast _ a1 shapeCasts_S2x2x16640x128_S2x2x16640x2x64) bitsLt_bf16_f32))) (constant S_ .f32 0x00000000#32) reducesTo_S2x2x2x16384x16640_S2x2x2x16384_d4 h_S_))))) transposes_S2x2x64x2x16384_S2x16384x2x2x64_0_4_1_3_2) shapeCasts_S2x16384x2x2x64_S2x16384x256) bitsLt_bf16_f32

theorem ref_congr {a0 b0 : FVec Ideal S2x2x128x16384 .bf16} {a1 b1 : FVec Ideal S2x2x16640x128 .bf16} {a2 b2 : FVec Ideal S2x2x65x80x256 .bf16}
    (e0 : a0 = b0) (e1 : a1 = b1) (e2 : a2 = b2) : ref a0 a1 a2 = ref b0 b1 b2 := by rw [e0, e1, e2]

/-- Entry `(b, s, j)` of the reference: feature `j` is feature `j % 64` of query head `j / 64 % 2` of the key head `j / 128`. -/
theorem ref_apply (a0 : S2x2x128x16384.Idx → EReal) (a1 : S2x2x16640x128.Idx → EReal) (a2 : S2x2x65x80x256.Idx → EReal) (b : Fin 2) (s : Fin 16384) (j : Fin 256) :
    @Eq EReal (ref a0 a1 a2 (ix3 b s j))
      (attended (fun x => a2 (ix5 b ⟨j.val / 128, by omega⟩ ⟨x.val / 256, by omega⟩ ⟨j.val % 64, by omega⟩ ⟨x.val % 256, by omega⟩))
        (fun x => ∑ t : Fin 64, a0 (ix4 b ⟨j.val / 128, by omega⟩ ⟨j.val / 64 % 2 * 64 + t.val, by omega⟩ s) * a1 (ix4 b ⟨j.val / 128, by omega⟩ x ⟨j.val / 64 % 2 * 64 + t.val, by omega⟩))) := by
  unfold ref
  clean_types
  pointwise
  simp only [two_bits]
  rfl

end Cert.Proof.Attn

end
-- ==== Proof.AttnPre.lean ====
/-
  What the attention call's precondition says of each entry.
-/
module

public import proofs.«01_k».proof.Proof.AttnOut
public import proofs.«01_k».proof.Pre_keys_finite

@[expose] public section

noncomputable section

namespace Cert.Proof.Attn

open Cert.Pre_keys_finite
open Idealize.ShloMosaic

variable [Facts]

/-- Every entry of an array is one where every entry of its reshape is. -/
theorem ones_of_reshape {s t : Shape} (x : IVec s 1) (h : s.ShapeCasts t) (e : ∀ j, shapeCast t x h j = 1#1) (i : s.Idx) : x i = 1#1 := by
  have := e ((Shape.reshapeEquiv h).symm i)
  unfold shapeCast at this
  rwa [Equiv.apply_symm_apply] at this

/-- A bound below infinity on the absolute value says that the entry is real. -/
theorem real_of_bound {x y : EReal} (hy : y = ⊤) (h : Ideal.cmp CmpFPredicate.olt (max x (-x)) y = 1#1) : IsReal x := by
  subst hy
  have lt : max x (-x) < ⊤ := by
    by_contra hn
    have : Ideal.cmp CmpFPredicate.olt (max x (-x)) ⊤ = 0#1 := by simp [Ideal.cmp, hn]
    rw [this] at h
    exact absurd h (by decide)
  induction x with
  | bot => exact absurd (lt_of_le_of_lt (le_max_right _ _) lt) (by simp)
  | top => exact absurd (lt_of_le_of_lt (le_max_left _ _) lt) (by simp)
  | coe r => exact ⟨r, rfl⟩

theorem eq_of_compare {x y : EReal} (h : Ideal.cmp CmpFPredicate.oeq x y = 1#1) : x = y := by
  by_contra hn
  have : Ideal.cmp CmpFPredicate.oeq x y = 0#1 := by simp [Ideal.cmp, hn]
  rw [this] at h
  exact absurd h (by decide)

theorem top_bits16 : Ideal.ofBits FTy.bf16 0x7F80#16 = ⊤ := by simp [Ideal.ofBits, Ideal.ieee]
theorem top_bits32 : Ideal.ofBits FTy.f32 0x7F800000#32 = ⊤ := by simp [Ideal.ofBits, Ideal.ieee]
theorem one_bits16 : Ideal.ofBits FTy.bf16 0x3F80#16 = 1 := by
  simp [Ideal.ofBits, Ideal.ieee, -EReal.coe_mul]
  norm_num

/-! Where each of the four masks starts in the joined one. -/

theorem before0 : (([] : List Shape).map fun s => if h : s.rank = S16975872.rank then s.size ((0 : Fin S16975872.rank).cast h.symm) else 0).sum = 0 := by decide +kernel
theorem before1 : (([S8388608] : List Shape).map fun s => if h : s.rank = S16975872.rank then s.size ((0 : Fin S16975872.rank).cast h.symm) else 0).sum = 8388608 := by decide +kernel
theorem before2 : (([S8388608, S8519680] : List Shape).map fun s => if h : s.rank = S16975872.rank then s.size ((0 : Fin S16975872.rank).cast h.symm) else 0).sum = 16908288 := by decide +kernel
theorem before3 : (([S8388608, S8519680, S1024] : List Shape).map fun s => if h : s.rank = S16975872.rank then s.size ((0 : Fin S16975872.rank).cast h.symm) else 0).sum = 16909312 := by decide +kernel

section
variable (a0 : FVec Ideal S2x2x128x16384 .bf16) (a1 : FVec Ideal S2x2x16640x128 .bf16) (a2 : FVec Ideal S2x2x65x80x256 .bf16) (a3 : FVec Ideal S2x2x2x128 .f32)

theorem piece0 (e : fn a0 a1 a2 a3 = fun _ => 1#1) (i : S2x2x128x16384.Idx) : IsReal (a0 i) := by
  refine real_of_bound top_bits16 (ones_of_reshape (cmpf .olt (Host.absf a0) (broadcastInDim S2x2x128x16384 ![] Facts.bcast_S_S2x2x128x16384 (constant S_ .bf16 0x7F80#16)))
    Facts.shapeCasts_S2x2x128x16384_S8388608 (fun j => ?_) i)
  have hj : (j (0 : Fin 1)).val < 8388608 := (j (0 : Fin 1)).isLt
  refine Eq.trans ?_ (congrFun e (ix1 ⟨0 + (j (0 : Fin 1)).val, by omega⟩ : S16975872.Idx))
  unfold fn
  refine (concatenate_apply_piece (t := S16975872) 0 _ _ _ 0 ?_ S8388608 _ ?_ rfl 0 ?_ j ?_ ?_).symm
  · exact Nat.lt_of_sub_eq_succ rfl
  · rfl
  · exact before0
  · exact fun b hb => absurd (Subsingleton.elim _ _) hb
  · rfl

theorem piece1 (e : fn a0 a1 a2 a3 = fun _ => 1#1) (i : S2x2x16640x128.Idx) : IsReal (a1 i) := by
  refine real_of_bound top_bits16 (ones_of_reshape (cmpf .olt (Host.absf a1) (broadcastInDim S2x2x16640x128 ![] Facts.bcast_S_S2x2x16640x128 (constant S_ .bf16 0x7F80#16)))
    Facts.shapeCasts_S2x2x16640x128_S8519680 (fun j => ?_) i)
  have hj : (j (0 : Fin 1)).val < 8519680 := (j (0 : Fin 1)).isLt
  refine Eq.trans ?_ (congrFun e (ix1 ⟨8388608 + (j (0 : Fin 1)).val, by omega⟩ : S16975872.Idx))
  unfold fn
  refine (concatenate_apply_piece (t := S16975872) 0 _ _ _ 1 ?_ S8519680 _ ?_ rfl 8388608 ?_ j ?_ ?_).symm
  · exact Nat.lt_of_sub_eq_succ rfl
  · rfl
  · exact before1
  · exact fun b hb => absurd (Subsingleton.elim _ _) hb
  · rfl

theorem piece2 (e : fn a0 a1 a2 a3 = fun _ => 1#1) (i : S2x2x2x128.Idx) : IsReal (a3 i) := by
  refine real_of_bound top_bits32 (ones_of_reshape (cmpf .olt (Host.absf a3) (broadcastInDim S2x2x2x128 ![] Facts.bcast_S_S2x2x2x128 (constant S_ .f32 0x7F800000#32)))
    Facts.shapeCasts_S2x2x2x128_S1024 (fun j => ?_) i)
  have hj : (j (0 : Fin 1)).val < 1024 := (j (0 : Fin 1)).isLt
  refine Eq.trans ?_ (congrFun e (ix1 ⟨16908288 + (j (0 : Fin 1)).val, by omega⟩ : S16975872.Idx))
  unfold fn
  refine (concatenate_apply_piece (t := S16975872) 0 _ _ _ 2 ?_ S1024 _ ?_ rfl 16908288 ?_ j ?_ ?_).symm
  · exact Nat.lt_of_sub_eq_succ rfl
  · rfl
  · exact before2
  · exact fun b hb => absurd (Subsingleton.elim _ _) hb
  · rfl

theorem piece3 (e : fn a0 a1 a2 a3 = fun _ => 1#1) (b u : Fin 2) (j : Fin 65) (t : Fin 256) : @Eq EReal (a2 (ix5 b u j 64 t)) 1 := by
  have h := ones_of_reshape (cmpf .oeq (shapeCast S2x2x65x256 (extractStridedSlice S2x2x65x1x256 ![0, 0, 0, 64, 0] a2 Facts.slices_S2x2x65x80x256_S2x2x65x1x256_0_0_0_64_0)
      Facts.shapeCasts_S2x2x65x1x256_S2x2x65x256) (broadcastInDim S2x2x65x256 ![] Facts.bcast_S_S2x2x65x256 (constant S_ .bf16 0x3F80#16)))
    Facts.shapeCasts_S2x2x65x256_S66560 (fun y => by
      have hy : (y (0 : Fin 1)).val < 66560 := (y (0 : Fin 1)).isLt
      refine Eq.trans ?_ (congrFun e (ix1 ⟨16909312 + (y (0 : Fin 1)).val, by omega⟩ : S16975872.Idx))
      unfold fn
      refine (concatenate_apply_piece (t := S16975872) 0 _ _ _ 3 ?_ S66560 _ ?_ rfl 16909312 ?_ y ?_ ?_).symm
      · exact Nat.lt_of_sub_eq_succ rfl
      · rfl
      · exact before3
      · exact fun b hb => absurd (Subsingleton.elim _ _) hb
      · rfl) (ix4 b u j t)
  have r : @Eq EReal (shapeCast S2x2x65x256 (extractStridedSlice S2x2x65x1x256 ![0, 0, 0, 64, 0] a2 Facts.slices_S2x2x65x80x256_S2x2x65x1x256_0_0_0_64_0)
      Facts.shapeCasts_S2x2x65x1x256_S2x2x65x256 (ix4 b u j t)) (a2 (ix5 b u j 64 t)) := by
    pointwise
  exact r.symm.trans ((eq_of_compare h).trans one_bits16)

end

end Cert.Proof.Attn

end
-- ==== Proof.AttnRows.lean ====
/-
  The attention call against its reference: the array it leaves is the reference's.
-/
module

public import proofs.«01_k».proof.Proof.AttnBlocks
public import proofs.«01_k».proof.Proof.AttnRef
public import proofs.«01_k».proof.Proof.AttnPre
public import Idealize.ShloMosaic.Lib.Pipeline.Value

@[expose] public section

noncomputable section

namespace Cert.Proof.Attn

open Cert.Kernel4Ideal Cert.Kernel4Ideal.Gen
open Idealize.ShloMosaic Idealize.ShloMosaic.TcCoe Idealize.ShloMosaic.Pipeline Idealize.SL.Sem

set_option maxRecDepth 16384

variable (m : (ℓ : Loc nD τ sig) → Buf (Elt Ideal) ℓ)
variable [∀ e, Nonempty (Elt Ideal e)] [Cert.Pre_keys_finite.Facts] (c : Dev nD)

/-- The precondition, of the arguments on device `c`. -/
abbrev Finite : Prop :=
  Cert.Pre_keys_finite.fn (F := Ideal) (m ((c.tc : Thread nD τ).loc main_arg0)) (m ((c.tc : Thread nD τ).loc main_arg1)) (m ((c.tc : Thread nD τ).loc main_arg2))
    (m ((c.tc : Thread nD τ).loc main_arg3)) = fun _ => 1#1

/-- The reference's result of the kernel's arguments. -/
abbrev resultOf : S2x16384x256.Idx → EReal :=
  ref (m ((c.tc : Thread nD τ).loc main_arg0)) (m ((c.tc : Thread nD τ).loc main_arg1)) (m ((c.tc : Thread nD τ).loc main_arg2))

/-- One entry of the block that point `t` leaves: the reference's entry at the same place. -/
theorem point_eq (e : Finite m c) (t : Fin cfg0.N) (z : Fin 1) (r : Fin 512) (l : Fin 128) (b : Fin 2) (s : Fin 16384) (j : Fin 256)
    (hb : b.val = t.val / 64) (hs : s.val = t.val % 32 * 512 + r.val) (hj : j.val = t.val / 32 % 2 * 128 + l.val) :
    @Eq EReal ((outsAt0 m c t).1 (ix3 z r l)) (resultOf m c (ix3 b s j)) := by
  have ht : t.val < 128 := t.isLt
  have hl := l.isLt
  have hr := r.isLt
  obtain ⟨A, hA, eA⟩ := left_by_body m c t
  have u : ∃ u : Fin 2, u.val = t.val / 32 % 2 := ⟨⟨t.val / 32 % 2, by omega⟩, rfl⟩
  obtain ⟨u, hu⟩ := u
  rw [eA, block_value (iblk m c 0 t) (iblk m c 1 t) (iblk m c 2 t) (iblk m c 3 t)
    (fun l r => by
      rw [blk0 m c t l r b u ⟨t.val % 32 * 512 + r.val, by omega⟩ hb hu rfl]
      exact piece0 _ _ _ _ e _)
    (fun x l => by
      rw [blk1 m c t x l b u hb hu]
      exact piece1 _ _ _ _ e _)
    (fun g => by
      rw [blk3 m c t g 0 b u hb hu]
      exact piece2 _ _ _ _ e _)
    (fun j x => by
      rw [blk2 m c t j 64 x b u hb hu]
      exact piece3 _ _ _ _ e _ _ _ _) A hA z r l]
  refine Eq.trans ?_ (ref_apply _ _ _ b s j).symm
  have ju : (⟨j.val / 128, by omega⟩ : Fin 2) = u := Fin.ext (by show j.val / 128 = u.val; omega)
  have jd : j.val % 64 = l.val % 64 := by omega
  have jg : j.val / 64 % 2 = l.val / 64 := by omega
  simp only [ju, jd, jg]
  refine congrArg₂ attended (funext fun x => ?_) (funext fun x => Finset.sum_congr rfl fun y _ => ?_)
  · exact blk2 m c t _ _ _ b u hb hu
  · rw [blk0 m c t _ r b u s hb hu hs, blk1 m c t x _ b u hb hu]

theorem coords3 (y : S1x512x128.Idx) : ∃ (a : Fin 1) (b : Fin 512) (d : Fin 128), y = ix3 a b d :=
  ⟨y (0 : Fin 3), y (1 : Fin 3), y (2 : Fin 3), funext fun
    | ⟨0, _⟩ => rfl
    | ⟨1, _⟩ => rfl
    | ⟨2, _⟩ => rfl⟩

/-- What point `t` writes back is the reference's block. -/
theorem flushed_eq (e : Finite m c) (t : Fin cfg0.N) :
    (dats m 0 c).flushed 4 t = ((cfg0.win 4).blk t).view.read (Elt Ideal) (resultOf m c) := by
  show (cfg0.win 4).cut (grid0.coords t) ((dats m 0 c).after 4 t) = _
  rw [after0_4]
  refine funext fun y => ?_
  obtain ⟨z, r, l, rfl⟩ := coords3 y
  have ht : t.val < 128 := t.isLt
  have hr := r.isLt
  have hl := l.isLt
  exact (point_eq m c e t z r l ⟨t.val / 64, by omega⟩ ⟨t.val % 32 * 512 + r.val, by omega⟩ ⟨t.val / 32 % 2 * 128 + l.val, by omega⟩ rfl rfl rfl).trans
    (congrArg (resultOf m c) (emb4 t z r l ⟨t.val / 64, by omega⟩ ⟨t.val % 32 * 512 + r.val, by omega⟩ ⟨t.val / 32 % 2 * 128 + l.val, by omega⟩ rfl rfl rfl)).symm

/-- Every entry of the result lies in some point's block. -/
theorem covered (i : S2x16384x256.Idx) : ∃ t : Fin cfg0.N, (cfg0.win 4).flush t = true ∧ i ∈ ((cfg0.win 4).blk t).view.set := by
  have h0 : (i (0 : Fin 3)).val < 2 := (i (0 : Fin 3)).isLt
  have h1 : (i (1 : Fin 3)).val < 16384 := (i (1 : Fin 3)).isLt
  have h2 : (i (2 : Fin 3)).val < 256 := (i (2 : Fin 3)).isLt
  have hN : (i (0 : Fin 3)).val * 64 + (i (2 : Fin 3)).val / 128 * 32 + (i (1 : Fin 3)).val / 512 < grid0.N := by
    show _ < 128
    omega
  refine ⟨⟨_, hN⟩, flush0_4 _, Finset.mem_map.mpr ⟨(ix3 0 ⟨(i (1 : Fin 3)).val % 512, by omega⟩ ⟨(i (2 : Fin 3)).val % 128, by omega⟩ : S1x512x128.Idx), Finset.mem_univ _, ?_⟩⟩
  refine (emb4 ⟨_, hN⟩ 0 ⟨(i (1 : Fin 3)).val % 512, by omega⟩ ⟨(i (2 : Fin 3)).val % 128, by omega⟩ (i (0 : Fin 3)) (i (1 : Fin 3)) (i (2 : Fin 3)) ?_ ?_ ?_).trans ?_
  · show (i (0 : Fin 3)).val = ((i (0 : Fin 3)).val * 64 + (i (2 : Fin 3)).val / 128 * 32 + (i (1 : Fin 3)).val / 512) / 64
    omega
  · show (i (1 : Fin 3)).val = ((i (0 : Fin 3)).val * 64 + (i (2 : Fin 3)).val / 128 * 32 + (i (1 : Fin 3)).val / 512) % 32 * 512 + (i (1 : Fin 3)).val % 512
    omega
  · show (i (2 : Fin 3)).val = ((i (0 : Fin 3)).val * 64 + (i (2 : Fin 3)).val / 128 * 32 + (i (1 : Fin 3)).val / 512) / 32 % 2 * 128 + (i (2 : Fin 3)).val % 128
    omega
  · funext a
    match a with
    | ⟨0, _⟩ => rfl
    | ⟨1, _⟩ => rfl
    | ⟨2, _⟩ => rfl

/-- The result after the run is the reference's. -/
theorem result_eq (e : Finite m c) (r : PUnit × MemSt nD τ sig (Elt Ideal)) (h : FramePost cfgs (dats m) 0 (V m) r) :
    r.2.mem ((c.tc : Thread nD τ).loc main_v0_0) = resultOf m c :=
  ((h c).1 4).trans ((dats m 0 c).arrAt_eq_of_cover 4 (resultOf m c) (fun t _ => flushed_eq m c e t) covered)

end Cert.Proof.Attn

end
-- ==== Proof.DiffValue.lean ====
/-
  The value of the differential attention call's body: its accumulator, followed store by store, is a sum over the keys.
-/
module

public import proofs.«01_k».proof.Proof.AttnOut
public import proofs.«01_k».proof.Proof.Gen.Kernel5Ideal.Frame
public import Idealize.ShloMosaic.Lib.WholeRead

@[expose] public section

noncomputable section

namespace Cert.Proof.Diff

open Cert.Kernel5Ideal Cert.Kernel5Ideal.Gen
open Cert.Proof.Attn (zeros4)
open Idealize.ShloMosaic Idealize.ShloMosaic.TcCoe Idealize.SL.Sem

set_option maxRecDepth 16384

/-! ## One step's two operations, read at an index -/

/-- The probabilities' block: for key row `t` and query column `q`, two to the power of score minus shift. -/
theorem probs_apply (Q : FVec Ideal S128x1024 .bf16) (S : FVec Ideal S1x1024 .f32) (K : Vec Ideal S1x1x256x128 .bf16) (z : Fin 1) (t : Fin 256) (q : Fin 1024) :
    @Eq EReal (k0_pay34 Q S K (ix3 z t q)) (Ideal.exp2 ((∑ l : Fin 128, K (ix4 0 0 t l) * Q (ix2 l q)) - S (ix2 0 q))) := by
  pointwise [k0_pay34]
  rfl

/-- The accumulator's step: the value rows times the block of probabilities, added. -/
theorem add_apply (A : Vec Ideal S80x1024 .f32) (V : Vec Ideal S1x1x1x80x256 .bf16) (P : Vec Ideal S1x256x1024 .bf16) (r : Fin 80) (q : Fin 1024) :
    @Eq EReal (k0_pay12 A V P (ix2 r q)) (A (ix2 r q) + ∑ t : Fin 256, V (ix5 0 0 0 r t) * P (ix3 0 t q)) := by
  pointwise [k0_pay12]

theorem zero_acc (r : Fin 80) (q : Fin 1024) : @Eq EReal (k0_pay9 (F := Ideal) (ix2 r q)) 0 := by
  pointwise [k0_pay9]

theorem zero_slot0 (z : Fin 1) (t : Fin 256) (q : Fin 1024) : @Eq EReal (k0_pay10 (F := Ideal) (ix3 z t q)) 0 := by
  pointwise [k0_pay10]

theorem zero_slot1 (z : Fin 1) (t : Fin 256) (q : Fin 1024) : @Eq EReal (k0_pay11 (F := Ideal) (ix3 z t q)) 0 := by
  pointwise [k0_pay11]

/-! ## The sum the accumulator holds -/

section
variable (i : grid0.Coords) (x0 : Vec Ideal S1x1x128x512 .bf16) (x1 : Vec Ideal S1x1x16640x128 .bf16) (x2 : Vec Ideal S1x1x65x80x256 .bf16) (x3 : Vec Ideal S1x1x2x128 .f32)

/-- The shift of a column's scores. -/
def shift : FVec Ideal S1x1024 .f32 := k0_pay8 (k0_pay4 i x0) (k0_pay6 x3) (k0_pay7 i x0)

/-- The probability, not divided yet, of key `256 j + t` for query column `q`. -/
def prob (j : Fin 65) (t : Fin 256) (q : Fin 1024) : EReal :=
  Ideal.exp2 ((∑ l : Fin 128, x1 (ix4 0 0 ⟨256 * j.val + t.val, by omega⟩ l) * k0_pay5 i x0 (ix2 l q)) - shift i x0 x3 (ix2 0 q))

/-- What block `j` of the keys adds to entry `(r, q)` of the accumulator. -/
def added (r : Fin 80) (q : Fin 1024) (j : ℕ) : EReal :=
  if h : j < 65 then ∑ t : Fin 256, x2 (ix5 0 0 ⟨j, h⟩ r t) * prob i x0 x1 x3 ⟨j, h⟩ t q else 0

/-- The accumulator after `n` blocks of keys. -/
abbrev Holds (A : Vec Ideal S80x1024 .f32) (n : ℕ) : Prop :=
  ∀ (r : Fin 80) (q : Fin 1024), @Eq EReal (A (ix2 r q)) (∑ j ∈ Finset.range n, added i x0 x1 x2 x3 r q j)

/-- A slot of the pipeline that holds block `n`'s probabilities. -/
abbrev Slot (P : Vec Ideal S1x256x1024 .bf16) (j : Fin 65) : Prop :=
  ∀ (t : Fin 256) (q : Fin 1024), @Eq EReal (P (ix3 0 t q)) (prob i x0 x1 x3 j t q)

/-- A slot that holds zeros. -/
abbrev Empty (P : Vec Ideal S1x256x1024 .bf16) : Prop := ∀ (t : Fin 256) (q : Fin 1024), @Eq EReal (P (ix3 0 t q)) 0

/-- The block of value rows that a load at offset `o` reads. -/
theorem values_ld (arg5 : Memref sig .tc .vmem S1x1x65x80x256 .bf16) (harg5 : arg5.IsWhole) (o : Fin 5 → ℕ) (j : Fin 65) (ho : o = ![0, 0, j.val, 0, 0])
    (inb : ∀ a, o a + S1x1x1x80x256.size a ≤ S1x1x65x80x256.size a) (r : Fin 80) (t : Fin 256) :
    View.readAt (Elt Ideal) arg5.view (Rect.unit (s := S1x1x65x80x256) o S1x1x1x80x256.size inb).toLoadRect (harg5.unread x2) (ix5 0 0 0 r t) = x2 (ix5 0 0 j r t) := by
  subst ho
  rw [View.readAt_eq_ld, Memref.IsWhole.read_unread]
  refine congrArg x2 (funext fun a => Fin.ext ?_)
  match a with
  | ⟨0, _⟩ => rfl
  | ⟨1, _⟩ => rfl
  | ⟨2, _⟩ => show j.val + 1 * 0 = j.val; omega
  | ⟨3, _⟩ => show 0 + 1 * r.val = r.val; omega
  | ⟨4, _⟩ => show 0 + 1 * t.val = t.val; omega

/-- The block of keys that a load at row `o` reads. -/
theorem keys_ld (arg4 : Memref sig .tc .vmem S1x1x16640x128 .bf16) (harg4 : arg4.IsWhole) (o : Fin 4 → ℕ) (j : Fin 65) (ho : o = ![0, 0, 256 * j.val, 0])
    (inb : ∀ a, o a + S1x1x256x128.size a ≤ S1x1x16640x128.size a) (t : Fin 256) (l : Fin 128) :
    View.readAt (Elt Ideal) arg4.view (Rect.unit (s := S1x1x16640x128) o S1x1x256x128.size inb).toLoadRect (harg4.unread x1) (ix4 0 0 t l)
      = x1 (ix4 0 0 ⟨256 * j.val + t.val, by omega⟩ l) := by
  subst ho
  rw [View.readAt_eq_ld, Memref.IsWhole.read_unread]
  refine congrArg x1 (funext fun a => Fin.ext ?_)
  match a with
  | ⟨0, _⟩ => rfl
  | ⟨1, _⟩ => rfl
  | ⟨2, _⟩ => show 256 * j.val + 1 * t.val = 256 * j.val + t.val; omega
  | ⟨3, _⟩ => show 0 + 1 * l.val = l.val; omega

theorem query_eq (c : Dev nD) (arg3 : Memref sig .tc .vmem S1x1x128x512 .bf16) (harg3 : arg3.IsWhole) :
    kernelRun0_A.sl.r_1 (F := Ideal) c i arg3 harg3 x0 = k0_pay5 i x0 := by
  unfold kernelRun0_A.sl.r_1
  rw [View.readAt_eq_ld, Memref.IsWhole.read_unread, View.ld_unit_zero zeros4]

theorem shift_eq (c : Dev nD) (arg3 : Memref sig .tc .vmem S1x1x128x512 .bf16) (harg3 : arg3.IsWhole) (arg6 : Memref sig .tc .vmem S1x1x2x128 .f32) (harg6 : arg6.IsWhole) :
    kernelRun0_A.sl.r_4 (F := Ideal) c i arg3 harg3 arg6 harg6 x0 x3 = shift i x0 x3 := by
  unfold kernelRun0_A.sl.r_4 kernelRun0_A.sl.r kernelRun0_A.sl.r_2 kernelRun0_A.sl.r_3 shift
  rw [View.readAt_eq_ld, View.readAt_eq_ld, Memref.IsWhole.read_unread, Memref.IsWhole.read_unread, View.ld_unit_zero zeros4, View.ld_unit_zero zeros4]

/-- The probabilities computed from the block of keys at row `256 j` are block `j`'s. -/
theorem slot_of (c : Dev nD) (i : grid0.Coords) (arg3 : Memref sig .tc .vmem S1x1x128x512 .bf16) (harg3 : arg3.IsWhole) (arg4 : Memref sig .tc .vmem S1x1x16640x128 .bf16) (harg4 : arg4.IsWhole)
    (arg6 : Memref sig .tc .vmem S1x1x2x128 .f32) (harg6 : arg6.IsWhole) (o : Fin 4 → ℕ) (j : Fin 65) (ho : o = ![0, 0, 256 * j.val, 0])
    (inb : ∀ a, o a + S1x1x256x128.size a ≤ S1x1x16640x128.size a) :
    Slot i x0 x1 x3 (k0_pay34 (kernelRun0_A.sl.r_1 (F := Ideal) c i arg3 harg3 x0) (kernelRun0_A.sl.r_4 (F := Ideal) c i arg3 harg3 arg6 harg6 x0 x3)
      (View.readAt (Elt Ideal) arg4.view (Rect.unit (s := S1x1x16640x128) o S1x1x256x128.size inb).toLoadRect (harg4.unread x1))) j := fun t q => by
  rw [query_eq, shift_eq, probs_apply]
  simp only [keys_ld x1 arg4 harg4 o j ho]
  rfl

/-- One step of the accumulator, its slot holding the next block's probabilities. -/
theorem holds_next {A P} {n : ℕ} (hn : n < 65) (hA : Holds i x0 x1 x2 x3 A n) (hP : Slot i x0 x1 x3 P ⟨n, hn⟩) (arg5 : Memref sig .tc .vmem S1x1x65x80x256 .bf16) (harg5 : arg5.IsWhole)
    (o : Fin 5 → ℕ) (ho : o = ![0, 0, n, 0, 0]) (inb : ∀ a, o a + S1x1x1x80x256.size a ≤ S1x1x65x80x256.size a) :
    Holds i x0 x1 x2 x3 (k0_pay12 A (View.readAt (Elt Ideal) arg5.view (Rect.unit (s := S1x1x65x80x256) o S1x1x1x80x256.size inb).toLoadRect (harg5.unread x2)) P) (n + 1) := fun r q => by
  rw [add_apply, hA, Finset.sum_range_succ]
  refine congrArg (_ + ·) ?_
  unfold added
  rw [dif_pos hn]
  refine Finset.sum_congr rfl fun t _ => ?_
  rw [values_ld x2 arg5 harg5 o ⟨n, hn⟩ ho, hP]

/-- One step of the accumulator, its slot holding zeros. -/
theorem holds_same {A P} {n : ℕ} (hA : Holds i x0 x1 x2 x3 A n) (hP : Empty P) (V : Vec Ideal S1x1x1x80x256 .bf16) : Holds i x0 x1 x2 x3 (k0_pay12 A V P) n := fun r q => by
  rw [add_apply, hA]
  refine (congrArg (_ + ·) (Finset.sum_eq_zero fun t _ => ?_)).trans (add_zero _)
  rw [hP, mul_zero]

end

end Cert.Proof.Diff

end
-- ==== Proof.DiffSlots.lean ====
/-
  The two slots of the differential attention's pipeline: each load finds the block of probabilities stored two steps before.
-/
module

public import proofs.«01_k».proof.Proof.DiffValue

@[expose] public section

noncomputable section

namespace Cert.Proof.Diff

open Cert.Kernel5Ideal Cert.Kernel5Ideal.Gen Cert.Kernel5Ideal.Gen.kernelRun0_A
open Idealize.ShloMosaic Idealize.ShloMosaic.TcCoe Idealize.SL.Sem

set_option maxRecDepth 16384

/-! A load of one slot passes over a store to the other. -/

theorem skip01 [∀ e, Nonempty (Elt Ideal e)] (v : View sig Kind.tc Space.vmem S2x256x1024 EltTy.bf16) (w : Vec Ideal S1x256x1024 .bf16) (L : List (View.Piece (Elt Ideal) S2x256x1024 .bf16)) :
    v.readCov (⟨Rect.unit (s := S2x256x1024) ![0, 0, 0] S1x256x1024.size inb_S2x256x1024_S1x256x1024_0_0_0, w⟩ :: L) (Rect.unit (s := S2x256x1024) ![1, 0, 0] S1x256x1024.size inb_S2x256x1024_S1x256x1024_1_0_0).toLoadRect
      = v.readCov L (Rect.unit (s := S2x256x1024) ![1, 0, 0] S1x256x1024.size inb_S2x256x1024_S1x256x1024_1_0_0).toLoadRect :=
  View.readCov_cons_of_disjoint v ⟨Rect.unit (s := S2x256x1024) ![0, 0, 0] S1x256x1024.size inb_S2x256x1024_S1x256x1024_0_0_0, w⟩ L _ (Rect.unit_disjoint (inb := inb_S2x256x1024_S1x256x1024_0_0_0) (inb' := inb_S2x256x1024_S1x256x1024_1_0_0) 0 (Or.inl (by decide)))
theorem skip10 [∀ e, Nonempty (Elt Ideal e)] (v : View sig Kind.tc Space.vmem S2x256x1024 EltTy.bf16) (w : Vec Ideal S1x256x1024 .bf16) (L : List (View.Piece (Elt Ideal) S2x256x1024 .bf16)) :
    v.readCov (⟨Rect.unit (s := S2x256x1024) ![1, 0, 0] S1x256x1024.size inb_S2x256x1024_S1x256x1024_1_0_0, w⟩ :: L) (Rect.unit (s := S2x256x1024) ![0, 0, 0] S1x256x1024.size inb_S2x256x1024_S1x256x1024_0_0_0).toLoadRect
      = v.readCov L (Rect.unit (s := S2x256x1024) ![0, 0, 0] S1x256x1024.size inb_S2x256x1024_S1x256x1024_0_0_0).toLoadRect :=
  View.readCov_cons_of_disjoint v ⟨Rect.unit (s := S2x256x1024) ![1, 0, 0] S1x256x1024.size inb_S2x256x1024_S1x256x1024_1_0_0, w⟩ L _ (Rect.unit_disjoint (inb := inb_S2x256x1024_S1x256x1024_1_0_0) (inb' := inb_S2x256x1024_S1x256x1024_0_0_0) 0 (Or.inr (by decide)))

/-- A load of a rectangle finds what was last stored there. -/
theorem found [∀ e, Nonempty (Elt Ideal e)] {s : Shape} {e : EltTy} (v : View sig Kind.tc Space.vmem s e) (r : Rect s) (w : r.shape.Idx → Elt Ideal e) (L : List (View.Piece (Elt Ideal) s e)) :
    v.readCov (⟨r, w⟩ :: L) r.toLoadRect = w := View.readCov_cons_toLoadRect v r w L

/-! Every block is computed by the same operations. -/

theorem block_13 (Q : Vec Ideal S128x1024 .bf16) (S : Vec Ideal S1x1024 .f32) (K : Vec Ideal S1x1x256x128 .bf16) : k0_pay13 Q S K = k0_pay34 Q S K := rfl
theorem block_16 (Q : Vec Ideal S128x1024 .bf16) (S : Vec Ideal S1x1024 .f32) (K : Vec Ideal S1x1x256x128 .bf16) : k0_pay16 Q S K = k0_pay34 Q S K := rfl
theorem block_19 (Q : Vec Ideal S128x1024 .bf16) (S : Vec Ideal S1x1024 .f32) (K : Vec Ideal S1x1x256x128 .bf16) : k0_pay19 Q S K = k0_pay34 Q S K := rfl
theorem block_21 (Q : Vec Ideal S128x1024 .bf16) (S : Vec Ideal S1x1024 .f32) (K : Vec Ideal S1x1x256x128 .bf16) : k0_pay21 Q S K = k0_pay34 Q S K := rfl
theorem block_23 (Q : Vec Ideal S128x1024 .bf16) (S : Vec Ideal S1x1024 .f32) (K : Vec Ideal S1x1x256x128 .bf16) : k0_pay23 Q S K = k0_pay34 Q S K := rfl
theorem block_27 (Q : Vec Ideal S128x1024 .bf16) (S : Vec Ideal S1x1024 .f32) (K : Vec Ideal S1x1x256x128 .bf16) : k0_pay27 (k0_pay25 Q K) (k0_pay26 S) = k0_pay34 Q S K := rfl
theorem block_30 (Q : Vec Ideal S128x1024 .bf16) (S : Vec Ideal S1x1024 .f32) (K : Vec Ideal S1x1x256x128 .bf16) : k0_pay30 (k0_pay29 Q S K) = k0_pay34 Q S K := rfl
theorem block_32 (Q : Vec Ideal S128x1024 .bf16) (S : Vec Ideal S1x1024 .f32) (K : Vec Ideal S1x1x256x128 .bf16) : k0_pay32 Q S K = k0_pay34 Q S K := rfl
theorem block_36 (Q : Vec Ideal S128x1024 .bf16) (S : Vec Ideal S1x1024 .f32) (K : Vec Ideal S1x1x256x128 .bf16) : k0_pay36 Q S K = k0_pay34 Q S K := rfl
theorem block_38 (Q : Vec Ideal S128x1024 .bf16) (S : Vec Ideal S1x1024 .f32) (K : Vec Ideal S1x1x256x128 .bf16) : k0_pay38 Q S K = k0_pay34 Q S K := rfl
theorem block_41 (Q : Vec Ideal S128x1024 .bf16) (S : Vec Ideal S1x1024 .f32) (K : Vec Ideal S1x1x256x128 .bf16) : k0_pay41 Q S K = k0_pay34 Q S K := rfl
theorem block_44 (Q : Vec Ideal S128x1024 .bf16) (S : Vec Ideal S1x1024 .f32) (K : Vec Ideal S1x1x256x128 .bf16) : k0_pay44 Q S K = k0_pay34 Q S K := rfl
theorem block_46 (Q : Vec Ideal S128x1024 .bf16) (S : Vec Ideal S1x1024 .f32) (K : Vec Ideal S1x1x256x128 .bf16) : k0_pay46 Q S K = k0_pay34 Q S K := rfl
theorem block_48 (Q : Vec Ideal S128x1024 .bf16) (S : Vec Ideal S1x1024 .f32) (K : Vec Ideal S1x1x256x128 .bf16) : k0_pay48 Q S K = k0_pay34 Q S K := rfl
theorem block_52 (Q : Vec Ideal S128x1024 .bf16) (S : Vec Ideal S1x1024 .f32) (K : Vec Ideal S1x1x256x128 .bf16) : k0_pay52 (k0_pay50 Q K) (k0_pay51 S) = k0_pay34 Q S K := rfl
theorem block_55 (Q : Vec Ideal S128x1024 .bf16) (S : Vec Ideal S1x1024 .f32) (K : Vec Ideal S1x1x256x128 .bf16) : k0_pay55 (k0_pay54 Q S K) = k0_pay34 Q S K := rfl
theorem block_57 (Q : Vec Ideal S128x1024 .bf16) (S : Vec Ideal S1x1024 .f32) (K : Vec Ideal S1x1x256x128 .bf16) : k0_pay57 Q S K = k0_pay34 Q S K := rfl
theorem block_59 (Q : Vec Ideal S128x1024 .bf16) (S : Vec Ideal S1x1024 .f32) (K : Vec Ideal S1x1x256x128 .bf16) : k0_pay59 Q S K = k0_pay34 Q S K := rfl
theorem block_61 (Q : Vec Ideal S128x1024 .bf16) (S : Vec Ideal S1x1024 .f32) (K : Vec Ideal S1x1x256x128 .bf16) : k0_pay61 Q S K = k0_pay34 Q S K := rfl
theorem block_63 (Q : Vec Ideal S128x1024 .bf16) (S : Vec Ideal S1x1024 .f32) (K : Vec Ideal S1x1x256x128 .bf16) : k0_pay63 Q S K = k0_pay34 Q S K := rfl
theorem block_66 (Q : Vec Ideal S128x1024 .bf16) (S : Vec Ideal S1x1024 .f32) (K : Vec Ideal S1x1x256x128 .bf16) : k0_pay66 Q S K = k0_pay34 Q S K := rfl
theorem block_69 (Q : Vec Ideal S128x1024 .bf16) (S : Vec Ideal S1x1024 .f32) (K : Vec Ideal S1x1x256x128 .bf16) : k0_pay69 Q S K = k0_pay34 Q S K := rfl
theorem block_71 (Q : Vec Ideal S128x1024 .bf16) (S : Vec Ideal S1x1024 .f32) (K : Vec Ideal S1x1x256x128 .bf16) : k0_pay71 Q S K = k0_pay34 Q S K := rfl
theorem block_73 (Q : Vec Ideal S128x1024 .bf16) (S : Vec Ideal S1x1024 .f32) (K : Vec Ideal S1x1x256x128 .bf16) : k0_pay73 Q S K = k0_pay34 Q S K := rfl
theorem block_77 (Q : Vec Ideal S128x1024 .bf16) (S : Vec Ideal S1x1024 .f32) (K : Vec Ideal S1x1x256x128 .bf16) : k0_pay77 (k0_pay75 Q K) (k0_pay76 S) = k0_pay34 Q S K := rfl
theorem block_80 (Q : Vec Ideal S128x1024 .bf16) (S : Vec Ideal S1x1024 .f32) (K : Vec Ideal S1x1x256x128 .bf16) : k0_pay80 (k0_pay79 Q S K) = k0_pay34 Q S K := rfl
theorem block_82 (Q : Vec Ideal S128x1024 .bf16) (S : Vec Ideal S1x1024 .f32) (K : Vec Ideal S1x1x256x128 .bf16) : k0_pay82 Q S K = k0_pay34 Q S K := rfl
theorem block_84 (Q : Vec Ideal S128x1024 .bf16) (S : Vec Ideal S1x1024 .f32) (K : Vec Ideal S1x1x256x128 .bf16) : k0_pay84 Q S K = k0_pay34 Q S K := rfl
theorem block_86 (Q : Vec Ideal S128x1024 .bf16) (S : Vec Ideal S1x1024 .f32) (K : Vec Ideal S1x1x256x128 .bf16) : k0_pay86 Q S K = k0_pay34 Q S K := rfl
theorem block_88 (Q : Vec Ideal S128x1024 .bf16) (S : Vec Ideal S1x1024 .f32) (K : Vec Ideal S1x1x256x128 .bf16) : k0_pay88 Q S K = k0_pay34 Q S K := rfl
theorem block_91 (Q : Vec Ideal S128x1024 .bf16) (S : Vec Ideal S1x1024 .f32) (K : Vec Ideal S1x1x256x128 .bf16) : k0_pay91 Q S K = k0_pay34 Q S K := rfl
theorem block_94 (Q : Vec Ideal S128x1024 .bf16) (S : Vec Ideal S1x1024 .f32) (K : Vec Ideal S1x1x256x128 .bf16) : k0_pay94 Q S K = k0_pay34 Q S K := rfl
theorem block_96 (Q : Vec Ideal S128x1024 .bf16) (S : Vec Ideal S1x1024 .f32) (K : Vec Ideal S1x1x256x128 .bf16) : k0_pay96 Q S K = k0_pay34 Q S K := rfl
theorem block_98 (Q : Vec Ideal S128x1024 .bf16) (S : Vec Ideal S1x1024 .f32) (K : Vec Ideal S1x1x256x128 .bf16) : k0_pay98 Q S K = k0_pay34 Q S K := rfl
theorem block_102 (Q : Vec Ideal S128x1024 .bf16) (S : Vec Ideal S1x1024 .f32) (K : Vec Ideal S1x1x256x128 .bf16) : k0_pay102 (k0_pay100 Q K) (k0_pay101 S) = k0_pay34 Q S K := rfl
theorem block_105 (Q : Vec Ideal S128x1024 .bf16) (S : Vec Ideal S1x1024 .f32) (K : Vec Ideal S1x1x256x128 .bf16) : k0_pay105 (k0_pay104 Q S K) = k0_pay34 Q S K := rfl
theorem block_107 (Q : Vec Ideal S128x1024 .bf16) (S : Vec Ideal S1x1024 .f32) (K : Vec Ideal S1x1x256x128 .bf16) : k0_pay107 Q S K = k0_pay34 Q S K := rfl
theorem block_109 (Q : Vec Ideal S128x1024 .bf16) (S : Vec Ideal S1x1024 .f32) (K : Vec Ideal S1x1x256x128 .bf16) : k0_pay109 Q S K = k0_pay34 Q S K := rfl
theorem block_111 (Q : Vec Ideal S128x1024 .bf16) (S : Vec Ideal S1x1024 .f32) (K : Vec Ideal S1x1x256x128 .bf16) : k0_pay111 Q S K = k0_pay34 Q S K := rfl
theorem block_113 (Q : Vec Ideal S128x1024 .bf16) (S : Vec Ideal S1x1024 .f32) (K : Vec Ideal S1x1x256x128 .bf16) : k0_pay113 Q S K = k0_pay34 Q S K := rfl
theorem block_116 (Q : Vec Ideal S128x1024 .bf16) (S : Vec Ideal S1x1024 .f32) (K : Vec Ideal S1x1x256x128 .bf16) : k0_pay116 Q S K = k0_pay34 Q S K := rfl
theorem block_119 (Q : Vec Ideal S128x1024 .bf16) (S : Vec Ideal S1x1024 .f32) (K : Vec Ideal S1x1x256x128 .bf16) : k0_pay119 Q S K = k0_pay34 Q S K := rfl
theorem block_121 (Q : Vec Ideal S128x1024 .bf16) (S : Vec Ideal S1x1024 .f32) (K : Vec Ideal S1x1x256x128 .bf16) : k0_pay121 Q S K = k0_pay34 Q S K := rfl
theorem block_123 (Q : Vec Ideal S128x1024 .bf16) (S : Vec Ideal S1x1024 .f32) (K : Vec Ideal S1x1x256x128 .bf16) : k0_pay123 Q S K = k0_pay34 Q S K := rfl
theorem block_127 (Q : Vec Ideal S128x1024 .bf16) (S : Vec Ideal S1x1024 .f32) (K : Vec Ideal S1x1x256x128 .bf16) : k0_pay127 (k0_pay125 Q K) (k0_pay126 S) = k0_pay34 Q S K := rfl
theorem block_130 (Q : Vec Ideal S128x1024 .bf16) (S : Vec Ideal S1x1024 .f32) (K : Vec Ideal S1x1x256x128 .bf16) : k0_pay130 (k0_pay129 Q S K) = k0_pay34 Q S K := rfl
theorem block_132 (Q : Vec Ideal S128x1024 .bf16) (S : Vec Ideal S1x1024 .f32) (K : Vec Ideal S1x1x256x128 .bf16) : k0_pay132 Q S K = k0_pay34 Q S K := rfl
theorem block_134 (Q : Vec Ideal S128x1024 .bf16) (S : Vec Ideal S1x1024 .f32) (K : Vec Ideal S1x1x256x128 .bf16) : k0_pay134 Q S K = k0_pay34 Q S K := rfl
theorem block_136 (Q : Vec Ideal S128x1024 .bf16) (S : Vec Ideal S1x1024 .f32) (K : Vec Ideal S1x1x256x128 .bf16) : k0_pay136 Q S K = k0_pay34 Q S K := rfl
theorem block_138 (Q : Vec Ideal S128x1024 .bf16) (S : Vec Ideal S1x1024 .f32) (K : Vec Ideal S1x1x256x128 .bf16) : k0_pay138 Q S K = k0_pay34 Q S K := rfl
theorem block_141 (Q : Vec Ideal S128x1024 .bf16) (S : Vec Ideal S1x1024 .f32) (K : Vec Ideal S1x1x256x128 .bf16) : k0_pay141 Q S K = k0_pay34 Q S K := rfl
theorem block_144 (Q : Vec Ideal S128x1024 .bf16) (S : Vec Ideal S1x1024 .f32) (K : Vec Ideal S1x1x256x128 .bf16) : k0_pay144 Q S K = k0_pay34 Q S K := rfl
theorem block_146 (Q : Vec Ideal S128x1024 .bf16) (S : Vec Ideal S1x1024 .f32) (K : Vec Ideal S1x1x256x128 .bf16) : k0_pay146 Q S K = k0_pay34 Q S K := rfl
theorem block_148 (Q : Vec Ideal S128x1024 .bf16) (S : Vec Ideal S1x1024 .f32) (K : Vec Ideal S1x1x256x128 .bf16) : k0_pay148 Q S K = k0_pay34 Q S K := rfl
theorem block_152 (Q : Vec Ideal S128x1024 .bf16) (S : Vec Ideal S1x1024 .f32) (K : Vec Ideal S1x1x256x128 .bf16) : k0_pay152 (k0_pay150 Q K) (k0_pay151 S) = k0_pay34 Q S K := rfl
theorem block_155 (Q : Vec Ideal S128x1024 .bf16) (S : Vec Ideal S1x1024 .f32) (K : Vec Ideal S1x1x256x128 .bf16) : k0_pay155 (k0_pay154 Q S K) = k0_pay34 Q S K := rfl
theorem block_157 (Q : Vec Ideal S128x1024 .bf16) (S : Vec Ideal S1x1024 .f32) (K : Vec Ideal S1x1x256x128 .bf16) : k0_pay157 Q S K = k0_pay34 Q S K := rfl
theorem block_159 (Q : Vec Ideal S128x1024 .bf16) (S : Vec Ideal S1x1024 .f32) (K : Vec Ideal S1x1x256x128 .bf16) : k0_pay159 Q S K = k0_pay34 Q S K := rfl
theorem block_161 (Q : Vec Ideal S128x1024 .bf16) (S : Vec Ideal S1x1024 .f32) (K : Vec Ideal S1x1x256x128 .bf16) : k0_pay161 Q S K = k0_pay34 Q S K := rfl
theorem block_163 (Q : Vec Ideal S128x1024 .bf16) (S : Vec Ideal S1x1024 .f32) (K : Vec Ideal S1x1x256x128 .bf16) : k0_pay163 Q S K = k0_pay34 Q S K := rfl
theorem block_166 (Q : Vec Ideal S128x1024 .bf16) (S : Vec Ideal S1x1024 .f32) (K : Vec Ideal S1x1x256x128 .bf16) : k0_pay166 Q S K = k0_pay34 Q S K := rfl
theorem block_169 (Q : Vec Ideal S128x1024 .bf16) (S : Vec Ideal S1x1024 .f32) (K : Vec Ideal S1x1x256x128 .bf16) : k0_pay169 Q S K = k0_pay34 Q S K := rfl
theorem block_171 (Q : Vec Ideal S128x1024 .bf16) (S : Vec Ideal S1x1024 .f32) (K : Vec Ideal S1x1x256x128 .bf16) : k0_pay171 Q S K = k0_pay34 Q S K := rfl
theorem block_174 (Q : Vec Ideal S128x1024 .bf16) (S : Vec Ideal S1x1024 .f32) (K : Vec Ideal S1x1x256x128 .bf16) : k0_pay174 S (k0_pay173 Q K) = k0_pay34 Q S K := rfl

variable [∀ e, Nonempty (Elt Ideal e)] (c : Dev nD) (i : grid0.Coords) (arg3 : Memref sig .tc .vmem S1x1x128x512 .bf16) (harg3 : arg3.IsWhole) (arg4 : Memref sig .tc .vmem S1x1x16640x128 .bf16) (harg4 : arg4.IsWhole)
  (arg5 : Memref sig .tc .vmem S1x1x65x80x256 .bf16) (harg5 : arg5.IsWhole) (arg6 : Memref sig .tc .vmem S1x1x2x128 .f32) (harg6 : arg6.IsWhole)
  (arg11 : Memref sig .tc .vmem S2x256x1024 .bf16) (arg12 : Memref sig .tc .vmem S80x1024 .f32)
  (x0 : Vec Ideal S1x1x128x512 .bf16) (x1 : Vec Ideal S1x1x16640x128 .bf16) (x2 : Vec Ideal S1x1x65x80x256 .bf16) (x3 : Vec Ideal S1x1x2x128 .f32)

include c i arg3 harg3 arg4 harg4 arg6 harg6 arg11 x0 x1 x3

theorem slot_73 : Empty (sl.v73 (F := Ideal) c arg11) := fun t q => by
  unfold sl.v73 sl.HS0_2
  rw [skip10, found]
  exact zero_slot0 0 t q

theorem slot_101 : Empty (sl.v101 (F := Ideal) c i arg3 harg3 arg4 harg4 arg6 harg6 arg11 x0 x1 x3) := fun t q => by
  unfold sl.v101 sl.HS0_3 sl.HS0_2
  rw [skip01, found]
  exact zero_slot1 0 t q

theorem slot_129 : Slot i x0 x1 x3 (sl.v129 (F := Ideal) c i arg3 harg3 arg4 harg4 arg6 harg6 arg11 x0 x1 x3) 0 := fun t q => by
  unfold sl.v129 sl.HS0_4 sl.HS0_3
  rw [skip10, found]
  rw [block_13]
  exact slot_of x0 x1 x3 c i arg3 harg3 arg4 harg4 arg6 harg6 ![0, 0, 0, 0] 0 rfl _ t q

theorem slot_157 : Slot i x0 x1 x3 (sl.v157 (F := Ideal) c i arg3 harg3 arg4 harg4 arg6 harg6 arg11 x0 x1 x3) 1 := fun t q => by
  unfold sl.v157 sl.HS0_5 sl.HS0_4
  rw [skip01, found]
  rw [block_16]
  exact slot_of x0 x1 x3 c i arg3 harg3 arg4 harg4 arg6 harg6 ![0, 0, 256, 0] 1 rfl _ t q

theorem slot_185 : Slot i x0 x1 x3 (sl.v185 (F := Ideal) c i arg3 harg3 arg4 harg4 arg6 harg6 arg11 x0 x1 x3) 2 := fun t q => by
  unfold sl.v185 sl.HS0_6 sl.HS0_5
  rw [skip10, found]
  rw [block_19]
  exact slot_of x0 x1 x3 c i arg3 harg3 arg4 harg4 arg6 harg6 ![0, 0, 512, 0] 2 rfl _ t q

theorem slot_213 : Slot i x0 x1 x3 (sl.v213 (F := Ideal) c i arg3 harg3 arg4 harg4 arg6 harg6 arg11 x0 x1 x3) 3 := fun t q => by
  unfold sl.v213 sl.HS0_7 sl.HS0_6
  rw [skip01, found]
  rw [block_21]
  exact slot_of x0 x1 x3 c i arg3 harg3 arg4 harg4 arg6 harg6 ![0, 0, 768, 0] 3 rfl _ t q

theorem slot_241 : Slot i x0 x1 x3 (sl.v241 (F := Ideal) c i arg3 harg3 arg4 harg4 arg6 harg6 arg11 x0 x1 x3) 4 := fun t q => by
  unfold sl.v241 sl.HS0_8 sl.HS0_7
  rw [skip10, found]
  rw [block_23]
  exact slot_of x0 x1 x3 c i arg3 harg3 arg4 harg4 arg6 harg6 ![0, 0, 1024, 0] 4 rfl _ t q

theorem slot_269 : Slot i x0 x1 x3 (sl.v269 (F := Ideal) c i arg3 harg3 arg4 harg4 arg6 harg6 arg11 x0 x1 x3) 5 := fun t q => by
  unfold sl.v269 sl.HS0_9 sl.HS0_8
  rw [skip01, found]
  unfold sl.r_7 sl.r_8
  rw [block_27]
  exact slot_of x0 x1 x3 c i arg3 harg3 arg4 harg4 arg6 harg6 ![0, 0, 1280, 0] 5 rfl _ t q

theorem slot_297 : Slot i x0 x1 x3 (sl.v297 (F := Ideal) c i arg3 harg3 arg4 harg4 arg6 harg6 arg11 x0 x1 x3) 6 := fun t q => by
  unfold sl.v297 sl.HS0_10 sl.HS0_9
  rw [skip10, found]
  unfold sl.r_9
  rw [block_30]
  exact slot_of x0 x1 x3 c i arg3 harg3 arg4 harg4 arg6 harg6 ![0, 0, 1536, 0] 6 rfl _ t q

theorem slot_325 : Slot i x0 x1 x3 (sl.v325 (F := Ideal) c i arg3 harg3 arg4 harg4 arg6 harg6 arg11 x0 x1 x3) 7 := fun t q => by
  unfold sl.v325 sl.HS0_11 sl.HS0_10
  rw [skip01, found]
  rw [block_32]
  exact slot_of x0 x1 x3 c i arg3 harg3 arg4 harg4 arg6 harg6 ![0, 0, 1792, 0] 7 rfl _ t q

theorem slot_353 : Slot i x0 x1 x3 (sl.v353 (F := Ideal) c i arg3 harg3 arg4 harg4 arg6 harg6 arg11 x0 x1 x3) 8 := fun t q => by
  unfold sl.v353 sl.HS0_12 sl.HS0_11
  rw [skip10, found]
  exact slot_of x0 x1 x3 c i arg3 harg3 arg4 harg4 arg6 harg6 ![0, 0, 2048, 0] 8 rfl _ t q

theorem slot_381 : Slot i x0 x1 x3 (sl.v381 (F := Ideal) c i arg3 harg3 arg4 harg4 arg6 harg6 arg11 x0 x1 x3) 9 := fun t q => by
  unfold sl.v381 sl.HS0_13 sl.HS0_12
  rw [skip01, found]
  rw [block_36]
  exact slot_of x0 x1 x3 c i arg3 harg3 arg4 harg4 arg6 harg6 ![0, 0, 2304, 0] 9 rfl _ t q

theorem slot_409 : Slot i x0 x1 x3 (sl.v409 (F := Ideal) c i arg3 harg3 arg4 harg4 arg6 harg6 arg11 x0 x1 x3) 10 := fun t q => by
  unfold sl.v409 sl.HS0_14 sl.HS0_13
  rw [skip10, found]
  rw [block_38]
  exact slot_of x0 x1 x3 c i arg3 harg3 arg4 harg4 arg6 harg6 ![0, 0, 2560, 0] 10 rfl _ t q

theorem slot_437 : Slot i x0 x1 x3 (sl.v437 (F := Ideal) c i arg3 harg3 arg4 harg4 arg6 harg6 arg11 x0 x1 x3) 11 := fun t q => by
  unfold sl.v437 sl.HS0_15 sl.HS0_14
  rw [skip01, found]
  rw [block_41]
  exact slot_of x0 x1 x3 c i arg3 harg3 arg4 harg4 arg6 harg6 ![0, 0, 2816, 0] 11 rfl _ t q

theorem slot_465 : Slot i x0 x1 x3 (sl.v465 (F := Ideal) c i arg3 harg3 arg4 harg4 arg6 harg6 arg11 x0 x1 x3) 12 := fun t q => by
  unfold sl.v465 sl.HS0_16 sl.HS0_15
  rw [skip10, found]
  rw [block_44]
  exact slot_of x0 x1 x3 c i arg3 harg3 arg4 harg4 arg6 harg6 ![0, 0, 3072, 0] 12 rfl _ t q

theorem slot_493 : Slot i x0 x1 x3 (sl.v493 (F := Ideal) c i arg3 harg3 arg4 harg4 arg6 harg6 arg11 x0 x1 x3) 13 := fun t q => by
  unfold sl.v493 sl.HS0_17 sl.HS0_16
  rw [skip01, found]
  rw [block_46]
  exact slot_of x0 x1 x3 c i arg3 harg3 arg4 harg4 arg6 harg6 ![0, 0, 3328, 0] 13 rfl _ t q

theorem slot_521 : Slot i x0 x1 x3 (sl.v521 (F := Ideal) c i arg3 harg3 arg4 harg4 arg6 harg6 arg11 x0 x1 x3) 14 := fun t q => by
  unfold sl.v521 sl.HS0_18 sl.HS0_17
  rw [skip10, found]
  rw [block_48]
  exact slot_of x0 x1 x3 c i arg3 harg3 arg4 harg4 arg6 harg6 ![0, 0, 3584, 0] 14 rfl _ t q

theorem slot_549 : Slot i x0 x1 x3 (sl.v549 (F := Ideal) c i arg3 harg3 arg4 harg4 arg6 harg6 arg11 x0 x1 x3) 15 := fun t q => by
  unfold sl.v549 sl.HS0_19 sl.HS0_18
  rw [skip01, found]
  unfold sl.r_12 sl.r_13
  rw [block_52]
  exact slot_of x0 x1 x3 c i arg3 harg3 arg4 harg4 arg6 harg6 ![0, 0, 3840, 0] 15 rfl _ t q

theorem slot_577 : Slot i x0 x1 x3 (sl.v577 (F := Ideal) c i arg3 harg3 arg4 harg4 arg6 harg6 arg11 x0 x1 x3) 16 := fun t q => by
  unfold sl.v577 sl.HS0_20 sl.HS0_19
  rw [skip10, found]
  unfold sl.r_14
  rw [block_55]
  exact slot_of x0 x1 x3 c i arg3 harg3 arg4 harg4 arg6 harg6 ![0, 0, 4096, 0] 16 rfl _ t q

theorem slot_605 : Slot i x0 x1 x3 (sl.v605 (F := Ideal) c i arg3 harg3 arg4 harg4 arg6 harg6 arg11 x0 x1 x3) 17 := fun t q => by
  unfold sl.v605 sl.HS0_21 sl.HS0_20
  rw [skip01, found]
  rw [block_57]
  exact slot_of x0 x1 x3 c i arg3 harg3 arg4 harg4 arg6 harg6 ![0, 0, 4352, 0] 17 rfl _ t q

theorem slot_633 : Slot i x0 x1 x3 (sl.v633 (F := Ideal) c i arg3 harg3 arg4 harg4 arg6 harg6 arg11 x0 x1 x3) 18 := fun t q => by
  unfold sl.v633 sl.HS0_22 sl.HS0_21
  rw [skip10, found]
  rw [block_59]
  exact slot_of x0 x1 x3 c i arg3 harg3 arg4 harg4 arg6 harg6 ![0, 0, 4608, 0] 18 rfl _ t q

theorem slot_661 : Slot i x0 x1 x3 (sl.v661 (F := Ideal) c i arg3 harg3 arg4 harg4 arg6 harg6 arg11 x0 x1 x3) 19 := fun t q => by
  unfold sl.v661 sl.HS0_23 sl.HS0_22
  rw [skip01, found]
  rw [block_61]
  exact slot_of x0 x1 x3 c i arg3 harg3 arg4 harg4 arg6 harg6 ![0, 0, 4864, 0] 19 rfl _ t q

theorem slot_689 : Slot i x0 x1 x3 (sl.v689 (F := Ideal) c i arg3 harg3 arg4 harg4 arg6 harg6 arg11 x0 x1 x3) 20 := fun t q => by
  unfold sl.v689 sl.HS0_24 sl.HS0_23
  rw [skip10, found]
  rw [block_63]
  exact slot_of x0 x1 x3 c i arg3 harg3 arg4 harg4 arg6 harg6 ![0, 0, 5120, 0] 20 rfl _ t q

theorem slot_717 : Slot i x0 x1 x3 (sl.v717 (F := Ideal) c i arg3 harg3 arg4 harg4 arg6 harg6 arg11 x0 x1 x3) 21 := fun t q => by
  unfold sl.v717 sl.HS0_25 sl.HS0_24
  rw [skip01, found]
  rw [block_66]
  exact slot_of x0 x1 x3 c i arg3 harg3 arg4 harg4 arg6 harg6 ![0, 0, 5376, 0] 21 rfl _ t q

theorem slot_745 : Slot i x0 x1 x3 (sl.v745 (F := Ideal) c i arg3 harg3 arg4 harg4 arg6 harg6 arg11 x0 x1 x3) 22 := fun t q => by
  unfold sl.v745 sl.HS0_26 sl.HS0_25
  rw [skip10, found]
  rw [block_69]
  exact slot_of x0 x1 x3 c i arg3 harg3 arg4 harg4 arg6 harg6 ![0, 0, 5632, 0] 22 rfl _ t q

theorem slot_773 : Slot i x0 x1 x3 (sl.v773 (F := Ideal) c i arg3 harg3 arg4 harg4 arg6 harg6 arg11 x0 x1 x3) 23 := fun t q => by
  unfold sl.v773 sl.HS0_27 sl.HS0_26
  rw [skip01, found]
  rw [block_71]
  exact slot_of x0 x1 x3 c i arg3 harg3 arg4 harg4 arg6 harg6 ![0, 0, 5888, 0] 23 rfl _ t q

theorem slot_801 : Slot i x0 x1 x3 (sl.v801 (F := Ideal) c i arg3 harg3 arg4 harg4 arg6 harg6 arg11 x0 x1 x3) 24 := fun t q => by
  unfold sl.v801 sl.HS0_28 sl.HS0_27
  rw [skip10, found]
  rw [block_73]
  exact slot_of x0 x1 x3 c i arg3 harg3 arg4 harg4 arg6 harg6 ![0, 0, 6144, 0] 24 rfl _ t q

theorem slot_829 : Slot i x0 x1 x3 (sl.v829 (F := Ideal) c i arg3 harg3 arg4 harg4 arg6 harg6 arg11 x0 x1 x3) 25 := fun t q => by
  unfold sl.v829 sl.HS0_29 sl.HS0_28
  rw [skip01, found]
  unfold sl.r_17 sl.r_18
  rw [block_77]
  exact slot_of x0 x1 x3 c i arg3 harg3 arg4 harg4 arg6 harg6 ![0, 0, 6400, 0] 25 rfl _ t q

theorem slot_857 : Slot i x0 x1 x3 (sl.v857 (F := Ideal) c i arg3 harg3 arg4 harg4 arg6 harg6 arg11 x0 x1 x3) 26 := fun t q => by
  unfold sl.v857 sl.HS0_30 sl.HS0_29
  rw [skip10, found]
  unfold sl.r_19
  rw [block_80]
  exact slot_of x0 x1 x3 c i arg3 harg3 arg4 harg4 arg6 harg6 ![0, 0, 6656, 0] 26 rfl _ t q

theorem slot_885 : Slot i x0 x1 x3 (sl.v885 (F := Ideal) c i arg3 harg3 arg4 harg4 arg6 harg6 arg11 x0 x1 x3) 27 := fun t q => by
  unfold sl.v885 sl.HS0_31 sl.HS0_30
  rw [skip01, found]
  rw [block_82]
  exact slot_of x0 x1 x3 c i arg3 harg3 arg4 harg4 arg6 harg6 ![0, 0, 6912, 0] 27 rfl _ t q

theorem slot_913 : Slot i x0 x1 x3 (sl.v913 (F := Ideal) c i arg3 harg3 arg4 harg4 arg6 harg6 arg11 x0 x1 x3) 28 := fun t q => by
  unfold sl.v913 sl.HS0_32 sl.HS0_31
  rw [skip10, found]
  rw [block_84]
  exact slot_of x0 x1 x3 c i arg3 harg3 arg4 harg4 arg6 harg6 ![0, 0, 7168, 0] 28 rfl _ t q

theorem slot_941 : Slot i x0 x1 x3 (sl.v941 (F := Ideal) c i arg3 harg3 arg4 harg4 arg6 harg6 arg11 x0 x1 x3) 29 := fun t q => by
  unfold sl.v941 sl.HS0_33 sl.HS0_32
  rw [skip01, found]
  rw [block_86]
  exact slot_of x0 x1 x3 c i arg3 harg3 arg4 harg4 arg6 harg6 ![0, 0, 7424, 0] 29 rfl _ t q

theorem slot_969 : Slot i x0 x1 x3 (sl.v969 (F := Ideal) c i arg3 harg3 arg4 harg4 arg6 harg6 arg11 x0 x1 x3) 30 := fun t q => by
  unfold sl.v969 sl.HS0_34 sl.HS0_33
  rw [skip10, found]
  rw [block_88]
  exact slot_of x0 x1 x3 c i arg3 harg3 arg4 harg4 arg6 harg6 ![0, 0, 7680, 0] 30 rfl _ t q

theorem slot_997 : Slot i x0 x1 x3 (sl.v997 (F := Ideal) c i arg3 harg3 arg4 harg4 arg6 harg6 arg11 x0 x1 x3) 31 := fun t q => by
  unfold sl.v997 sl.HS0_35 sl.HS0_34
  rw [skip01, found]
  rw [block_91]
  exact slot_of x0 x1 x3 c i arg3 harg3 arg4 harg4 arg6 harg6 ![0, 0, 7936, 0] 31 rfl _ t q

theorem slot_1025 : Slot i x0 x1 x3 (sl.v1025 (F := Ideal) c i arg3 harg3 arg4 harg4 arg6 harg6 arg11 x0 x1 x3) 32 := fun t q => by
  unfold sl.v1025 sl.HS0_36 sl.HS0_35
  rw [skip10, found]
  rw [block_94]
  exact slot_of x0 x1 x3 c i arg3 harg3 arg4 harg4 arg6 harg6 ![0, 0, 8192, 0] 32 rfl _ t q

theorem slot_1053 : Slot i x0 x1 x3 (sl.v1053 (F := Ideal) c i arg3 harg3 arg4 harg4 arg6 harg6 arg11 x0 x1 x3) 33 := fun t q => by
  unfold sl.v1053 sl.HS0_37 sl.HS0_36
  rw [skip01, found]
  rw [block_96]
  exact slot_of x0 x1 x3 c i arg3 harg3 arg4 harg4 arg6 harg6 ![0, 0, 8448, 0] 33 rfl _ t q

theorem slot_1081 : Slot i x0 x1 x3 (sl.v1081 (F := Ideal) c i arg3 harg3 arg4 harg4 arg6 harg6 arg11 x0 x1 x3) 34 := fun t q => by
  unfold sl.v1081 sl.HS0_38 sl.HS0_37
  rw [skip10, found]
  rw [block_98]
  exact slot_of x0 x1 x3 c i arg3 harg3 arg4 harg4 arg6 harg6 ![0, 0, 8704, 0] 34 rfl _ t q

theorem slot_1109 : Slot i x0 x1 x3 (sl.v1109 (F := Ideal) c i arg3 harg3 arg4 harg4 arg6 harg6 arg11 x0 x1 x3) 35 := fun t q => by
  unfold sl.v1109 sl.HS0_39 sl.HS0_38
  rw [skip01, found]
  unfold sl.r_22 sl.r_23
  rw [block_102]
  exact slot_of x0 x1 x3 c i arg3 harg3 arg4 harg4 arg6 harg6 ![0, 0, 8960, 0] 35 rfl _ t q

theorem slot_1137 : Slot i x0 x1 x3 (sl.v1137 (F := Ideal) c i arg3 harg3 arg4 harg4 arg6 harg6 arg11 x0 x1 x3) 36 := fun t q => by
  unfold sl.v1137 sl.HS0_40 sl.HS0_39
  rw [skip10, found]
  unfold sl.r_24
  rw [block_105]
  exact slot_of x0 x1 x3 c i arg3 harg3 arg4 harg4 arg6 harg6 ![0, 0, 9216, 0] 36 rfl _ t q

theorem slot_1165 : Slot i x0 x1 x3 (sl.v1165 (F := Ideal) c i arg3 harg3 arg4 harg4 arg6 harg6 arg11 x0 x1 x3) 37 := fun t q => by
  unfold sl.v1165 sl.HS0_41 sl.HS0_40
  rw [skip01, found]
  rw [block_107]
  exact slot_of x0 x1 x3 c i arg3 harg3 arg4 harg4 arg6 harg6 ![0, 0, 9472, 0] 37 rfl _ t q

theorem slot_1193 : Slot i x0 x1 x3 (sl.v1193 (F := Ideal) c i arg3 harg3 arg4 harg4 arg6 harg6 arg11 x0 x1 x3) 38 := fun t q => by
  unfold sl.v1193 sl.HS0_42 sl.HS0_41
  rw [skip10, found]
  rw [block_109]
  exact slot_of x0 x1 x3 c i arg3 harg3 arg4 harg4 arg6 harg6 ![0, 0, 9728, 0] 38 rfl _ t q

theorem slot_1221 : Slot i x0 x1 x3 (sl.v1221 (F := Ideal) c i arg3 harg3 arg4 harg4 arg6 harg6 arg11 x0 x1 x3) 39 := fun t q => by
  unfold sl.v1221 sl.HS0_43 sl.HS0_42
  rw [skip01, found]
  rw [block_111]
  exact slot_of x0 x1 x3 c i arg3 harg3 arg4 harg4 arg6 harg6 ![0, 0, 9984, 0] 39 rfl _ t q

theorem slot_1249 : Slot i x0 x1 x3 (sl.v1249 (F := Ideal) c i arg3 harg3 arg4 harg4 arg6 harg6 arg11 x0 x1 x3) 40 := fun t q => by
  unfold sl.v1249 sl.HS0_44 sl.HS0_43
  rw [skip10, found]
  rw [block_113]
  exact slot_of x0 x1 x3 c i arg3 harg3 arg4 harg4 arg6 harg6 ![0, 0, 10240, 0] 40 rfl _ t q

theorem slot_1277 : Slot i x0 x1 x3 (sl.v1277 (F := Ideal) c i arg3 harg3 arg4 harg4 arg6 harg6 arg11 x0 x1 x3) 41 := fun t q => by
  unfold sl.v1277 sl.HS0_45 sl.HS0_44
  rw [skip01, found]
  rw [block_116]
  exact slot_of x0 x1 x3 c i arg3 harg3 arg4 harg4 arg6 harg6 ![0, 0, 10496, 0] 41 rfl _ t q

theorem slot_1305 : Slot i x0 x1 x3 (sl.v1305 (F := Ideal) c i arg3 harg3 arg4 harg4 arg6 harg6 arg11 x0 x1 x3) 42 := fun t q => by
  unfold sl.v1305 sl.HS0_46 sl.HS0_45
  rw [skip10, found]
  rw [block_119]
  exact slot_of x0 x1 x3 c i arg3 harg3 arg4 harg4 arg6 harg6 ![0, 0, 10752, 0] 42 rfl _ t q

theorem slot_1333 : Slot i x0 x1 x3 (sl.v1333 (F := Ideal) c i arg3 harg3 arg4 harg4 arg6 harg6 arg11 x0 x1 x3) 43 := fun t q => by
  unfold sl.v1333 sl.HS0_47 sl.HS0_46
  rw [skip01, found]
  rw [block_121]
  exact slot_of x0 x1 x3 c i arg3 harg3 arg4 harg4 arg6 harg6 ![0, 0, 11008, 0] 43 rfl _ t q

theorem slot_1361 : Slot i x0 x1 x3 (sl.v1361 (F := Ideal) c i arg3 harg3 arg4 harg4 arg6 harg6 arg11 x0 x1 x3) 44 := fun t q => by
  unfold sl.v1361 sl.HS0_48 sl.HS0_47
  rw [skip10, found]
  rw [block_123]
  exact slot_of x0 x1 x3 c i arg3 harg3 arg4 harg4 arg6 harg6 ![0, 0, 11264, 0] 44 rfl _ t q

theorem slot_1389 : Slot i x0 x1 x3 (sl.v1389 (F := Ideal) c i arg3 harg3 arg4 harg4 arg6 harg6 arg11 x0 x1 x3) 45 := fun t q => by
  unfold sl.v1389 sl.HS0_49 sl.HS0_48
  rw [skip01, found]
  unfold sl.r_27 sl.r_28
  rw [block_127]
  exact slot_of x0 x1 x3 c i arg3 harg3 arg4 harg4 arg6 harg6 ![0, 0, 11520, 0] 45 rfl _ t q

theorem slot_1417 : Slot i x0 x1 x3 (sl.v1417 (F := Ideal) c i arg3 harg3 arg4 harg4 arg6 harg6 arg11 x0 x1 x3) 46 := fun t q => by
  unfold sl.v1417 sl.HS0_50 sl.HS0_49
  rw [skip10, found]
  unfold sl.r_29
  rw [block_130]
  exact slot_of x0 x1 x3 c i arg3 harg3 arg4 harg4 arg6 harg6 ![0, 0, 11776, 0] 46 rfl _ t q

theorem slot_1445 : Slot i x0 x1 x3 (sl.v1445 (F := Ideal) c i arg3 harg3 arg4 harg4 arg6 harg6 arg11 x0 x1 x3) 47 := fun t q => by
  unfold sl.v1445 sl.HS0_51 sl.HS0_50
  rw [skip01, found]
  rw [block_132]
  exact slot_of x0 x1 x3 c i arg3 harg3 arg4 harg4 arg6 harg6 ![0, 0, 12032, 0] 47 rfl _ t q

theorem slot_1473 : Slot i x0 x1 x3 (sl.v1473 (F := Ideal) c i arg3 harg3 arg4 harg4 arg6 harg6 arg11 x0 x1 x3) 48 := fun t q => by
  unfold sl.v1473 sl.HS0_52 sl.HS0_51
  rw [skip10, found]
  rw [block_134]
  exact slot_of x0 x1 x3 c i arg3 harg3 arg4 harg4 arg6 harg6 ![0, 0, 12288, 0] 48 rfl _ t q

theorem slot_1501 : Slot i x0 x1 x3 (sl.v1501 (F := Ideal) c i arg3 harg3 arg4 harg4 arg6 harg6 arg11 x0 x1 x3) 49 := fun t q => by
  unfold sl.v1501 sl.HS0_53 sl.HS0_52
  rw [skip01, found]
  rw [block_136]
  exact slot_of x0 x1 x3 c i arg3 harg3 arg4 harg4 arg6 harg6 ![0, 0, 12544, 0] 49 rfl _ t q

theorem slot_1529 : Slot i x0 x1 x3 (sl.v1529 (F := Ideal) c i arg3 harg3 arg4 harg4 arg6 harg6 arg11 x0 x1 x3) 50 := fun t q => by
  unfold sl.v1529 sl.HS0_54 sl.HS0_53
  rw [skip10, found]
  rw [block_138]
  exact slot_of x0 x1 x3 c i arg3 harg3 arg4 harg4 arg6 harg6 ![0, 0, 12800, 0] 50 rfl _ t q

theorem slot_1557 : Slot i x0 x1 x3 (sl.v1557 (F := Ideal) c i arg3 harg3 arg4 harg4 arg6 harg6 arg11 x0 x1 x3) 51 := fun t q => by
  unfold sl.v1557 sl.HS0_55 sl.HS0_54
  rw [skip01, found]
  rw [block_141]
  exact slot_of x0 x1 x3 c i arg3 harg3 arg4 harg4 arg6 harg6 ![0, 0, 13056, 0] 51 rfl _ t q

theorem slot_1585 : Slot i x0 x1 x3 (sl.v1585 (F := Ideal) c i arg3 harg3 arg4 harg4 arg6 harg6 arg11 x0 x1 x3) 52 := fun t q => by
  unfold sl.v1585 sl.HS0_56 sl.HS0_55
  rw [skip10, found]
  rw [block_144]
  exact slot_of x0 x1 x3 c i arg3 harg3 arg4 harg4 arg6 harg6 ![0, 0, 13312, 0] 52 rfl _ t q

theorem slot_1613 : Slot i x0 x1 x3 (sl.v1613 (F := Ideal) c i arg3 harg3 arg4 harg4 arg6 harg6 arg11 x0 x1 x3) 53 := fun t q => by
  unfold sl.v1613 sl.HS0_57 sl.HS0_56
  rw [skip01, found]
  rw [block_146]
  exact slot_of x0 x1 x3 c i arg3 harg3 arg4 harg4 arg6 harg6 ![0, 0, 13568, 0] 53 rfl _ t q

theorem slot_1641 : Slot i x0 x1 x3 (sl.v1641 (F := Ideal) c i arg3 harg3 arg4 harg4 arg6 harg6 arg11 x0 x1 x3) 54 := fun t q => by
  unfold sl.v1641 sl.HS0_58 sl.HS0_57
  rw [skip10, found]
  rw [block_148]
  exact slot_of x0 x1 x3 c i arg3 harg3 arg4 harg4 arg6 harg6 ![0, 0, 13824, 0] 54 rfl _ t q

theorem slot_1669 : Slot i x0 x1 x3 (sl.v1669 (F := Ideal) c i arg3 harg3 arg4 harg4 arg6 harg6 arg11 x0 x1 x3) 55 := fun t q => by
  unfold sl.v1669 sl.HS0_59 sl.HS0_58
  rw [skip01, found]
  unfold sl.r_32 sl.r_33
  rw [block_152]
  exact slot_of x0 x1 x3 c i arg3 harg3 arg4 harg4 arg6 harg6 ![0, 0, 14080, 0] 55 rfl _ t q

theorem slot_1697 : Slot i x0 x1 x3 (sl.v1697 (F := Ideal) c i arg3 harg3 arg4 harg4 arg6 harg6 arg11 x0 x1 x3) 56 := fun t q => by
  unfold sl.v1697 sl.HS0_60 sl.HS0_59
  rw [skip10, found]
  unfold sl.r_34
  rw [block_155]
  exact slot_of x0 x1 x3 c i arg3 harg3 arg4 harg4 arg6 harg6 ![0, 0, 14336, 0] 56 rfl _ t q

theorem slot_1725 : Slot i x0 x1 x3 (sl.v1725 (F := Ideal) c i arg3 harg3 arg4 harg4 arg6 harg6 arg11 x0 x1 x3) 57 := fun t q => by
  unfold sl.v1725 sl.HS0_61 sl.HS0_60
  rw [skip01, found]
  rw [block_157]
  exact slot_of x0 x1 x3 c i arg3 harg3 arg4 harg4 arg6 harg6 ![0, 0, 14592, 0] 57 rfl _ t q

theorem slot_1753 : Slot i x0 x1 x3 (sl.v1753 (F := Ideal) c i arg3 harg3 arg4 harg4 arg6 harg6 arg11 x0 x1 x3) 58 := fun t q => by
  unfold sl.v1753 sl.HS0_62 sl.HS0_61
  rw [skip10, found]
  rw [block_159]
  exact slot_of x0 x1 x3 c i arg3 harg3 arg4 harg4 arg6 harg6 ![0, 0, 14848, 0] 58 rfl _ t q

theorem slot_1781 : Slot i x0 x1 x3 (sl.v1781 (F := Ideal) c i arg3 harg3 arg4 harg4 arg6 harg6 arg11 x0 x1 x3) 59 := fun t q => by
  unfold sl.v1781 sl.HS0_63 sl.HS0_62
  rw [skip01, found]
  rw [block_161]
  exact slot_of x0 x1 x3 c i arg3 harg3 arg4 harg4 arg6 harg6 ![0, 0, 15104, 0] 59 rfl _ t q

theorem slot_1809 : Slot i x0 x1 x3 (sl.v1809 (F := Ideal) c i arg3 harg3 arg4 harg4 arg6 harg6 arg11 x0 x1 x3) 60 := fun t q => by
  unfold sl.v1809 sl.HS0_64 sl.HS0_63
  rw [skip10, found]
  rw [block_163]
  exact slot_of x0 x1 x3 c i arg3 harg3 arg4 harg4 arg6 harg6 ![0, 0, 15360, 0] 60 rfl _ t q

theorem slot_1837 : Slot i x0 x1 x3 (sl.v1837 (F := Ideal) c i arg3 harg3 arg4 harg4 arg6 harg6 arg11 x0 x1 x3) 61 := fun t q => by
  unfold sl.v1837 sl.HS0_65 sl.HS0_64
  rw [skip01, found]
  rw [block_166]
  exact slot_of x0 x1 x3 c i arg3 harg3 arg4 harg4 arg6 harg6 ![0, 0, 15616, 0] 61 rfl _ t q

theorem slot_1862 : Slot i x0 x1 x3 (sl.v1862 (F := Ideal) c i arg3 harg3 arg4 harg4 arg6 harg6 arg11 x0 x1 x3) 62 := fun t q => by
  unfold sl.v1862 sl.HS0_66 sl.HS0_65
  rw [skip10, found]
  rw [block_169]
  exact slot_of x0 x1 x3 c i arg3 harg3 arg4 harg4 arg6 harg6 ![0, 0, 15872, 0] 62 rfl _ t q

theorem slot_1884 : Slot i x0 x1 x3 (sl.v1884 (F := Ideal) c i arg3 harg3 arg4 harg4 arg6 harg6 arg11 x0 x1 x3) 63 := fun t q => by
  unfold sl.v1884 sl.HS0_67 sl.HS0_66
  rw [skip01, found]
  rw [block_171]
  exact slot_of x0 x1 x3 c i arg3 harg3 arg4 harg4 arg6 harg6 ![0, 0, 16128, 0] 63 rfl _ t q

theorem slot_1894 : Slot i x0 x1 x3 (sl.v1894 (F := Ideal) c i arg3 harg3 arg4 harg4 arg6 harg6 arg11 x0 x1 x3) 64 := fun t q => by
  unfold sl.v1894 sl.HS0_67
  rw [found]
  unfold sl.r_37
  rw [block_174]
  exact slot_of x0 x1 x3 c i arg3 harg3 arg4 harg4 arg6 harg6 ![0, 0, 16384, 0] 64 rfl _ t q

end Cert.Proof.Diff

end
-- ==== Proof.DiffSteps.lean ====
/-
  The differential attention's accumulator: after each step it holds the weighted values of the blocks taken so far.
-/
module

public import proofs.«01_k».proof.Proof.DiffSlots

@[expose] public section

noncomputable section

namespace Cert.Proof.Diff

open Cert.Kernel5Ideal Cert.Kernel5Ideal.Gen Cert.Kernel5Ideal.Gen.kernelRun0_A
open Idealize.ShloMosaic Idealize.ShloMosaic.TcCoe Idealize.SL.Sem

set_option maxRecDepth 16384

/-! Every step is computed by the same operations. -/

theorem step_15 (A : Vec Ideal S80x1024 .f32) (V : Vec Ideal S1x1x1x80x256 .bf16) (P : Vec Ideal S1x256x1024 .bf16) : k0_pay15 A (k0_pay14 V) P = k0_pay12 A V P := rfl
theorem step_18 (A : Vec Ideal S80x1024 .f32) (V : Vec Ideal S1x1x1x80x256 .bf16) (P : Vec Ideal S1x256x1024 .bf16) : k0_pay18 (k0_pay17 A V P) = k0_pay12 A V P := rfl
theorem step_20 (A : Vec Ideal S80x1024 .f32) (V : Vec Ideal S1x1x1x80x256 .bf16) (P : Vec Ideal S1x256x1024 .bf16) : k0_pay20 A V P = k0_pay12 A V P := rfl
theorem step_22 (A : Vec Ideal S80x1024 .f32) (V : Vec Ideal S1x1x1x80x256 .bf16) (P : Vec Ideal S1x256x1024 .bf16) : k0_pay22 A V P = k0_pay12 A V P := rfl
theorem step_24 (A : Vec Ideal S80x1024 .f32) (V : Vec Ideal S1x1x1x80x256 .bf16) (P : Vec Ideal S1x256x1024 .bf16) : k0_pay24 A V P = k0_pay12 A V P := rfl
theorem step_28 (A : Vec Ideal S80x1024 .f32) (V : Vec Ideal S1x1x1x80x256 .bf16) (P : Vec Ideal S1x256x1024 .bf16) : k0_pay28 A V P = k0_pay12 A V P := rfl
theorem step_31 (A : Vec Ideal S80x1024 .f32) (V : Vec Ideal S1x1x1x80x256 .bf16) (P : Vec Ideal S1x256x1024 .bf16) : k0_pay31 A V P = k0_pay12 A V P := rfl
theorem step_33 (A : Vec Ideal S80x1024 .f32) (V : Vec Ideal S1x1x1x80x256 .bf16) (P : Vec Ideal S1x256x1024 .bf16) : k0_pay33 A V P = k0_pay12 A V P := rfl
theorem step_35 (A : Vec Ideal S80x1024 .f32) (V : Vec Ideal S1x1x1x80x256 .bf16) (P : Vec Ideal S1x256x1024 .bf16) : k0_pay35 A V P = k0_pay12 A V P := rfl
theorem step_37 (A : Vec Ideal S80x1024 .f32) (V : Vec Ideal S1x1x1x80x256 .bf16) (P : Vec Ideal S1x256x1024 .bf16) : k0_pay37 A V P = k0_pay12 A V P := rfl
theorem step_40 (A : Vec Ideal S80x1024 .f32) (V : Vec Ideal S1x1x1x80x256 .bf16) (P : Vec Ideal S1x256x1024 .bf16) : k0_pay40 A (k0_pay39 V) P = k0_pay12 A V P := rfl
theorem step_43 (A : Vec Ideal S80x1024 .f32) (V : Vec Ideal S1x1x1x80x256 .bf16) (P : Vec Ideal S1x256x1024 .bf16) : k0_pay43 (k0_pay42 A V P) = k0_pay12 A V P := rfl
theorem step_45 (A : Vec Ideal S80x1024 .f32) (V : Vec Ideal S1x1x1x80x256 .bf16) (P : Vec Ideal S1x256x1024 .bf16) : k0_pay45 A V P = k0_pay12 A V P := rfl
theorem step_47 (A : Vec Ideal S80x1024 .f32) (V : Vec Ideal S1x1x1x80x256 .bf16) (P : Vec Ideal S1x256x1024 .bf16) : k0_pay47 A V P = k0_pay12 A V P := rfl
theorem step_49 (A : Vec Ideal S80x1024 .f32) (V : Vec Ideal S1x1x1x80x256 .bf16) (P : Vec Ideal S1x256x1024 .bf16) : k0_pay49 A V P = k0_pay12 A V P := rfl
theorem step_53 (A : Vec Ideal S80x1024 .f32) (V : Vec Ideal S1x1x1x80x256 .bf16) (P : Vec Ideal S1x256x1024 .bf16) : k0_pay53 A V P = k0_pay12 A V P := rfl
theorem step_56 (A : Vec Ideal S80x1024 .f32) (V : Vec Ideal S1x1x1x80x256 .bf16) (P : Vec Ideal S1x256x1024 .bf16) : k0_pay56 A V P = k0_pay12 A V P := rfl
theorem step_58 (A : Vec Ideal S80x1024 .f32) (V : Vec Ideal S1x1x1x80x256 .bf16) (P : Vec Ideal S1x256x1024 .bf16) : k0_pay58 A V P = k0_pay12 A V P := rfl
theorem step_60 (A : Vec Ideal S80x1024 .f32) (V : Vec Ideal S1x1x1x80x256 .bf16) (P : Vec Ideal S1x256x1024 .bf16) : k0_pay60 A V P = k0_pay12 A V P := rfl
theorem step_62 (A : Vec Ideal S80x1024 .f32) (V : Vec Ideal S1x1x1x80x256 .bf16) (P : Vec Ideal S1x256x1024 .bf16) : k0_pay62 A V P = k0_pay12 A V P := rfl
theorem step_65 (A : Vec Ideal S80x1024 .f32) (V : Vec Ideal S1x1x1x80x256 .bf16) (P : Vec Ideal S1x256x1024 .bf16) : k0_pay65 A (k0_pay64 V) P = k0_pay12 A V P := rfl
theorem step_68 (A : Vec Ideal S80x1024 .f32) (V : Vec Ideal S1x1x1x80x256 .bf16) (P : Vec Ideal S1x256x1024 .bf16) : k0_pay68 (k0_pay67 A V P) = k0_pay12 A V P := rfl
theorem step_70 (A : Vec Ideal S80x1024 .f32) (V : Vec Ideal S1x1x1x80x256 .bf16) (P : Vec Ideal S1x256x1024 .bf16) : k0_pay70 A V P = k0_pay12 A V P := rfl
theorem step_72 (A : Vec Ideal S80x1024 .f32) (V : Vec Ideal S1x1x1x80x256 .bf16) (P : Vec Ideal S1x256x1024 .bf16) : k0_pay72 A V P = k0_pay12 A V P := rfl
theorem step_74 (A : Vec Ideal S80x1024 .f32) (V : Vec Ideal S1x1x1x80x256 .bf16) (P : Vec Ideal S1x256x1024 .bf16) : k0_pay74 A V P = k0_pay12 A V P := rfl
theorem step_78 (A : Vec Ideal S80x1024 .f32) (V : Vec Ideal S1x1x1x80x256 .bf16) (P : Vec Ideal S1x256x1024 .bf16) : k0_pay78 A V P = k0_pay12 A V P := rfl
theorem step_81 (A : Vec Ideal S80x1024 .f32) (V : Vec Ideal S1x1x1x80x256 .bf16) (P : Vec Ideal S1x256x1024 .bf16) : k0_pay81 A V P = k0_pay12 A V P := rfl
theorem step_83 (A : Vec Ideal S80x1024 .f32) (V : Vec Ideal S1x1x1x80x256 .bf16) (P : Vec Ideal S1x256x1024 .bf16) : k0_pay83 A V P = k0_pay12 A V P := rfl
theorem step_85 (A : Vec Ideal S80x1024 .f32) (V : Vec Ideal S1x1x1x80x256 .bf16) (P : Vec Ideal S1x256x1024 .bf16) : k0_pay85 A V P = k0_pay12 A V P := rfl
theorem step_87 (A : Vec Ideal S80x1024 .f32) (V : Vec Ideal S1x1x1x80x256 .bf16) (P : Vec Ideal S1x256x1024 .bf16) : k0_pay87 A V P = k0_pay12 A V P := rfl
theorem step_90 (A : Vec Ideal S80x1024 .f32) (V : Vec Ideal S1x1x1x80x256 .bf16) (P : Vec Ideal S1x256x1024 .bf16) : k0_pay90 A (k0_pay89 V) P = k0_pay12 A V P := rfl
theorem step_93 (A : Vec Ideal S80x1024 .f32) (V : Vec Ideal S1x1x1x80x256 .bf16) (P : Vec Ideal S1x256x1024 .bf16) : k0_pay93 (k0_pay92 A V P) = k0_pay12 A V P := rfl
theorem step_95 (A : Vec Ideal S80x1024 .f32) (V : Vec Ideal S1x1x1x80x256 .bf16) (P : Vec Ideal S1x256x1024 .bf16) : k0_pay95 A V P = k0_pay12 A V P := rfl
theorem step_97 (A : Vec Ideal S80x1024 .f32) (V : Vec Ideal S1x1x1x80x256 .bf16) (P : Vec Ideal S1x256x1024 .bf16) : k0_pay97 A V P = k0_pay12 A V P := rfl
theorem step_99 (A : Vec Ideal S80x1024 .f32) (V : Vec Ideal S1x1x1x80x256 .bf16) (P : Vec Ideal S1x256x1024 .bf16) : k0_pay99 A V P = k0_pay12 A V P := rfl
theorem step_103 (A : Vec Ideal S80x1024 .f32) (V : Vec Ideal S1x1x1x80x256 .bf16) (P : Vec Ideal S1x256x1024 .bf16) : k0_pay103 A V P = k0_pay12 A V P := rfl
theorem step_106 (A : Vec Ideal S80x1024 .f32) (V : Vec Ideal S1x1x1x80x256 .bf16) (P : Vec Ideal S1x256x1024 .bf16) : k0_pay106 A V P = k0_pay12 A V P := rfl
theorem step_108 (A : Vec Ideal S80x1024 .f32) (V : Vec Ideal S1x1x1x80x256 .bf16) (P : Vec Ideal S1x256x1024 .bf16) : k0_pay108 A V P = k0_pay12 A V P := rfl
theorem step_110 (A : Vec Ideal S80x1024 .f32) (V : Vec Ideal S1x1x1x80x256 .bf16) (P : Vec Ideal S1x256x1024 .bf16) : k0_pay110 A V P = k0_pay12 A V P := rfl
theorem step_112 (A : Vec Ideal S80x1024 .f32) (V : Vec Ideal S1x1x1x80x256 .bf16) (P : Vec Ideal S1x256x1024 .bf16) : k0_pay112 A V P = k0_pay12 A V P := rfl
theorem step_115 (A : Vec Ideal S80x1024 .f32) (V : Vec Ideal S1x1x1x80x256 .bf16) (P : Vec Ideal S1x256x1024 .bf16) : k0_pay115 A (k0_pay114 V) P = k0_pay12 A V P := rfl
theorem step_118 (A : Vec Ideal S80x1024 .f32) (V : Vec Ideal S1x1x1x80x256 .bf16) (P : Vec Ideal S1x256x1024 .bf16) : k0_pay118 (k0_pay117 A V P) = k0_pay12 A V P := rfl
theorem step_120 (A : Vec Ideal S80x1024 .f32) (V : Vec Ideal S1x1x1x80x256 .bf16) (P : Vec Ideal S1x256x1024 .bf16) : k0_pay120 A V P = k0_pay12 A V P := rfl
theorem step_122 (A : Vec Ideal S80x1024 .f32) (V : Vec Ideal S1x1x1x80x256 .bf16) (P : Vec Ideal S1x256x1024 .bf16) : k0_pay122 A V P = k0_pay12 A V P := rfl
theorem step_124 (A : Vec Ideal S80x1024 .f32) (V : Vec Ideal S1x1x1x80x256 .bf16) (P : Vec Ideal S1x256x1024 .bf16) : k0_pay124 A V P = k0_pay12 A V P := rfl
theorem step_128 (A : Vec Ideal S80x1024 .f32) (V : Vec Ideal S1x1x1x80x256 .bf16) (P : Vec Ideal S1x256x1024 .bf16) : k0_pay128 A V P = k0_pay12 A V P := rfl
theorem step_131 (A : Vec Ideal S80x1024 .f32) (V : Vec Ideal S1x1x1x80x256 .bf16) (P : Vec Ideal S1x256x1024 .bf16) : k0_pay131 A V P = k0_pay12 A V P := rfl
theorem step_133 (A : Vec Ideal S80x1024 .f32) (V : Vec Ideal S1x1x1x80x256 .bf16) (P : Vec Ideal S1x256x1024 .bf16) : k0_pay133 A V P = k0_pay12 A V P := rfl
theorem step_135 (A : Vec Ideal S80x1024 .f32) (V : Vec Ideal S1x1x1x80x256 .bf16) (P : Vec Ideal S1x256x1024 .bf16) : k0_pay135 A V P = k0_pay12 A V P := rfl
theorem step_137 (A : Vec Ideal S80x1024 .f32) (V : Vec Ideal S1x1x1x80x256 .bf16) (P : Vec Ideal S1x256x1024 .bf16) : k0_pay137 A V P = k0_pay12 A V P := rfl
theorem step_140 (A : Vec Ideal S80x1024 .f32) (V : Vec Ideal S1x1x1x80x256 .bf16) (P : Vec Ideal S1x256x1024 .bf16) : k0_pay140 A (k0_pay139 V) P = k0_pay12 A V P := rfl
theorem step_143 (A : Vec Ideal S80x1024 .f32) (V : Vec Ideal S1x1x1x80x256 .bf16) (P : Vec Ideal S1x256x1024 .bf16) : k0_pay143 (k0_pay142 A V P) = k0_pay12 A V P := rfl
theorem step_145 (A : Vec Ideal S80x1024 .f32) (V : Vec Ideal S1x1x1x80x256 .bf16) (P : Vec Ideal S1x256x1024 .bf16) : k0_pay145 A V P = k0_pay12 A V P := rfl
theorem step_147 (A : Vec Ideal S80x1024 .f32) (V : Vec Ideal S1x1x1x80x256 .bf16) (P : Vec Ideal S1x256x1024 .bf16) : k0_pay147 A V P = k0_pay12 A V P := rfl
theorem step_149 (A : Vec Ideal S80x1024 .f32) (V : Vec Ideal S1x1x1x80x256 .bf16) (P : Vec Ideal S1x256x1024 .bf16) : k0_pay149 A V P = k0_pay12 A V P := rfl
theorem step_153 (A : Vec Ideal S80x1024 .f32) (V : Vec Ideal S1x1x1x80x256 .bf16) (P : Vec Ideal S1x256x1024 .bf16) : k0_pay153 A V P = k0_pay12 A V P := rfl
theorem step_156 (A : Vec Ideal S80x1024 .f32) (V : Vec Ideal S1x1x1x80x256 .bf16) (P : Vec Ideal S1x256x1024 .bf16) : k0_pay156 A V P = k0_pay12 A V P := rfl
theorem step_158 (A : Vec Ideal S80x1024 .f32) (V : Vec Ideal S1x1x1x80x256 .bf16) (P : Vec Ideal S1x256x1024 .bf16) : k0_pay158 A V P = k0_pay12 A V P := rfl
theorem step_160 (A : Vec Ideal S80x1024 .f32) (V : Vec Ideal S1x1x1x80x256 .bf16) (P : Vec Ideal S1x256x1024 .bf16) : k0_pay160 A V P = k0_pay12 A V P := rfl
theorem step_162 (A : Vec Ideal S80x1024 .f32) (V : Vec Ideal S1x1x1x80x256 .bf16) (P : Vec Ideal S1x256x1024 .bf16) : k0_pay162 A V P = k0_pay12 A V P := rfl
theorem step_165 (A : Vec Ideal S80x1024 .f32) (V : Vec Ideal S1x1x1x80x256 .bf16) (P : Vec Ideal S1x256x1024 .bf16) : k0_pay165 A (k0_pay164 V) P = k0_pay12 A V P := rfl
theorem step_168 (A : Vec Ideal S80x1024 .f32) (V : Vec Ideal S1x1x1x80x256 .bf16) (P : Vec Ideal S1x256x1024 .bf16) : k0_pay168 (k0_pay167 A V P) = k0_pay12 A V P := rfl
theorem step_170 (A : Vec Ideal S80x1024 .f32) (V : Vec Ideal S1x1x1x80x256 .bf16) (P : Vec Ideal S1x256x1024 .bf16) : k0_pay170 A V P = k0_pay12 A V P := rfl
theorem step_172 (A : Vec Ideal S80x1024 .f32) (V : Vec Ideal S1x1x1x80x256 .bf16) (P : Vec Ideal S1x256x1024 .bf16) : k0_pay172 A V P = k0_pay12 A V P := rfl
theorem step_175 (A : Vec Ideal S80x1024 .f32) (V : Vec Ideal S1x1x1x80x256 .bf16) (P : Vec Ideal S1x256x1024 .bf16) : k0_pay175 A V P = k0_pay12 A V P := rfl
theorem step_176 (A : Vec Ideal S80x1024 .f32) (V : Vec Ideal S1x1x1x80x256 .bf16) (P : Vec Ideal S1x256x1024 .bf16) : k0_pay176 A V P = k0_pay12 A V P := rfl

variable [∀ e, Nonempty (Elt Ideal e)] (c : Dev nD) (i : grid0.Coords) (arg3 : Memref sig .tc .vmem S1x1x128x512 .bf16) (harg3 : arg3.IsWhole) (arg4 : Memref sig .tc .vmem S1x1x16640x128 .bf16) (harg4 : arg4.IsWhole)
  (arg5 : Memref sig .tc .vmem S1x1x65x80x256 .bf16) (harg5 : arg5.IsWhole) (arg6 : Memref sig .tc .vmem S1x1x2x128 .f32) (harg6 : arg6.IsWhole)
  (arg11 : Memref sig .tc .vmem S2x256x1024 .bf16) (arg12 : Memref sig .tc .vmem S80x1024 .f32)
  (x0 : Vec Ideal S1x1x128x512 .bf16) (x1 : Vec Ideal S1x1x16640x128 .bf16) (x2 : Vec Ideal S1x1x65x80x256 .bf16) (x3 : Vec Ideal S1x1x2x128 .f32)

include c i arg3 harg3 arg4 harg4 arg5 harg5 arg6 harg6 arg11 arg12 x0 x1 x2 x3

theorem acc_69 : Holds i x0 x1 x2 x3 (sl.v69 (F := Ideal) c arg12) 0 := fun r q => by
  unfold sl.v69 sl.HS1_1
  rw [found]
  exact (zero_acc r q).trans (Finset.sum_range_zero _).symm

theorem acc_97 : Holds i x0 x1 x2 x3 (sl.v97 (F := Ideal) c arg5 harg5 arg11 arg12 x2) 0 := fun r q => by
  unfold sl.v97 sl.HS1_2
  rw [found]
  exact holds_same i x0 x1 x2 x3 (acc_69 c i arg3 harg3 arg4 harg4 arg5 harg5 arg6 harg6 arg11 arg12 x0 x1 x2 x3) (slot_73 c i arg3 harg3 arg4 harg4 arg6 harg6 arg11 x0 x1 x3) _ r q

theorem acc_125 : Holds i x0 x1 x2 x3 (sl.v125 (F := Ideal) c i arg3 harg3 arg4 harg4 arg5 harg5 arg6 harg6 arg11 arg12 x0 x1 x2 x3) 0 := fun r q => by
  unfold sl.v125 sl.HS1_3
  rw [found]
  unfold sl.r_5
  rw [step_15]
  exact holds_same i x0 x1 x2 x3 (acc_97 c i arg3 harg3 arg4 harg4 arg5 harg5 arg6 harg6 arg11 arg12 x0 x1 x2 x3) (slot_101 c i arg3 harg3 arg4 harg4 arg6 harg6 arg11 x0 x1 x3) _ r q

theorem acc_153 : Holds i x0 x1 x2 x3 (sl.v153 (F := Ideal) c i arg3 harg3 arg4 harg4 arg5 harg5 arg6 harg6 arg11 arg12 x0 x1 x2 x3) 1 := fun r q => by
  unfold sl.v153 sl.HS1_4
  rw [found]
  unfold sl.r_6
  rw [step_18]
  exact holds_next i x0 x1 x2 x3 (n := 0) (by decide) (acc_125 c i arg3 harg3 arg4 harg4 arg5 harg5 arg6 harg6 arg11 arg12 x0 x1 x2 x3) (slot_129 c i arg3 harg3 arg4 harg4 arg6 harg6 arg11 x0 x1 x3) arg5 harg5 ![0, 0, 0, 0, 0] rfl _ r q

theorem acc_181 : Holds i x0 x1 x2 x3 (sl.v181 (F := Ideal) c i arg3 harg3 arg4 harg4 arg5 harg5 arg6 harg6 arg11 arg12 x0 x1 x2 x3) 2 := fun r q => by
  unfold sl.v181 sl.HS1_5
  rw [found]
  rw [step_20]
  exact holds_next i x0 x1 x2 x3 (n := 1) (by decide) (acc_153 c i arg3 harg3 arg4 harg4 arg5 harg5 arg6 harg6 arg11 arg12 x0 x1 x2 x3) (slot_157 c i arg3 harg3 arg4 harg4 arg6 harg6 arg11 x0 x1 x3) arg5 harg5 ![0, 0, 1, 0, 0] rfl _ r q

theorem acc_209 : Holds i x0 x1 x2 x3 (sl.v209 (F := Ideal) c i arg3 harg3 arg4 harg4 arg5 harg5 arg6 harg6 arg11 arg12 x0 x1 x2 x3) 3 := fun r q => by
  unfold sl.v209 sl.HS1_6
  rw [found]
  rw [step_22]
  exact holds_next i x0 x1 x2 x3 (n := 2) (by decide) (acc_181 c i arg3 harg3 arg4 harg4 arg5 harg5 arg6 harg6 arg11 arg12 x0 x1 x2 x3) (slot_185 c i arg3 harg3 arg4 harg4 arg6 harg6 arg11 x0 x1 x3) arg5 harg5 ![0, 0, 2, 0, 0] rfl _ r q

theorem acc_237 : Holds i x0 x1 x2 x3 (sl.v237 (F := Ideal) c i arg3 harg3 arg4 harg4 arg5 harg5 arg6 harg6 arg11 arg12 x0 x1 x2 x3) 4 := fun r q => by
  unfold sl.v237 sl.HS1_7
  rw [found]
  rw [step_24]
  exact holds_next i x0 x1 x2 x3 (n := 3) (by decide) (acc_209 c i arg3 harg3 arg4 harg4 arg5 harg5 arg6 harg6 arg11 arg12 x0 x1 x2 x3) (slot_213 c i arg3 harg3 arg4 harg4 arg6 harg6 arg11 x0 x1 x3) arg5 harg5 ![0, 0, 3, 0, 0] rfl _ r q

theorem acc_265 : Holds i x0 x1 x2 x3 (sl.v265 (F := Ideal) c i arg3 harg3 arg4 harg4 arg5 harg5 arg6 harg6 arg11 arg12 x0 x1 x2 x3) 5 := fun r q => by
  unfold sl.v265 sl.HS1_8
  rw [found]
  rw [step_28]
  exact holds_next i x0 x1 x2 x3 (n := 4) (by decide) (acc_237 c i arg3 harg3 arg4 harg4 arg5 harg5 arg6 harg6 arg11 arg12 x0 x1 x2 x3) (slot_241 c i arg3 harg3 arg4 harg4 arg6 harg6 arg11 x0 x1 x3) arg5 harg5 ![0, 0, 4, 0, 0] rfl _ r q

theorem acc_293 : Holds i x0 x1 x2 x3 (sl.v293 (F := Ideal) c i arg3 harg3 arg4 harg4 arg5 harg5 arg6 harg6 arg11 arg12 x0 x1 x2 x3) 6 := fun r q => by
  unfold sl.v293 sl.HS1_9
  rw [found]
  rw [step_31]
  exact holds_next i x0 x1 x2 x3 (n := 5) (by decide) (acc_265 c i arg3 harg3 arg4 harg4 arg5 harg5 arg6 harg6 arg11 arg12 x0 x1 x2 x3) (slot_269 c i arg3 harg3 arg4 harg4 arg6 harg6 arg11 x0 x1 x3) arg5 harg5 ![0, 0, 5, 0, 0] rfl _ r q

theorem acc_321 : Holds i x0 x1 x2 x3 (sl.v321 (F := Ideal) c i arg3 harg3 arg4 harg4 arg5 harg5 arg6 harg6 arg11 arg12 x0 x1 x2 x3) 7 := fun r q => by
  unfold sl.v321 sl.HS1_10
  rw [found]
  rw [step_33]
  exact holds_next i x0 x1 x2 x3 (n := 6) (by decide) (acc_293 c i arg3 harg3 arg4 harg4 arg5 harg5 arg6 harg6 arg11 arg12 x0 x1 x2 x3) (slot_297 c i arg3 harg3 arg4 harg4 arg6 harg6 arg11 x0 x1 x3) arg5 harg5 ![0, 0, 6, 0, 0] rfl _ r q

theorem acc_349 : Holds i x0 x1 x2 x3 (sl.v349 (F := Ideal) c i arg3 harg3 arg4 harg4 arg5 harg5 arg6 harg6 arg11 arg12 x0 x1 x2 x3) 8 := fun r q => by
  unfold sl.v349 sl.HS1_11
  rw [found]
  rw [step_35]
  exact holds_next i x0 x1 x2 x3 (n := 7) (by decide) (acc_321 c i arg3 harg3 arg4 harg4 arg5 harg5 arg6 harg6 arg11 arg12 x0 x1 x2 x3) (slot_325 c i arg3 harg3 arg4 harg4 arg6 harg6 arg11 x0 x1 x3) arg5 harg5 ![0, 0, 7, 0, 0] rfl _ r q

theorem acc_377 : Holds i x0 x1 x2 x3 (sl.v377 (F := Ideal) c i arg3 harg3 arg4 harg4 arg5 harg5 arg6 harg6 arg11 arg12 x0 x1 x2 x3) 9 := fun r q => by
  unfold sl.v377 sl.HS1_12
  rw [found]
  rw [step_37]
  exact holds_next i x0 x1 x2 x3 (n := 8) (by decide) (acc_349 c i arg3 harg3 arg4 harg4 arg5 harg5 arg6 harg6 arg11 arg12 x0 x1 x2 x3) (slot_353 c i arg3 harg3 arg4 harg4 arg6 harg6 arg11 x0 x1 x3) arg5 harg5 ![0, 0, 8, 0, 0] rfl _ r q

theorem acc_405 : Holds i x0 x1 x2 x3 (sl.v405 (F := Ideal) c i arg3 harg3 arg4 harg4 arg5 harg5 arg6 harg6 arg11 arg12 x0 x1 x2 x3) 10 := fun r q => by
  unfold sl.v405 sl.HS1_13
  rw [found]
  unfold sl.r_10
  rw [step_40]
  exact holds_next i x0 x1 x2 x3 (n := 9) (by decide) (acc_377 c i arg3 harg3 arg4 harg4 arg5 harg5 arg6 harg6 arg11 arg12 x0 x1 x2 x3) (slot_381 c i arg3 harg3 arg4 harg4 arg6 harg6 arg11 x0 x1 x3) arg5 harg5 ![0, 0, 9, 0, 0] rfl _ r q

theorem acc_433 : Holds i x0 x1 x2 x3 (sl.v433 (F := Ideal) c i arg3 harg3 arg4 harg4 arg5 harg5 arg6 harg6 arg11 arg12 x0 x1 x2 x3) 11 := fun r q => by
  unfold sl.v433 sl.HS1_14
  rw [found]
  unfold sl.r_11
  rw [step_43]
  exact holds_next i x0 x1 x2 x3 (n := 10) (by decide) (acc_405 c i arg3 harg3 arg4 harg4 arg5 harg5 arg6 harg6 arg11 arg12 x0 x1 x2 x3) (slot_409 c i arg3 harg3 arg4 harg4 arg6 harg6 arg11 x0 x1 x3) arg5 harg5 ![0, 0, 10, 0, 0] rfl _ r q

theorem acc_461 : Holds i x0 x1 x2 x3 (sl.v461 (F := Ideal) c i arg3 harg3 arg4 harg4 arg5 harg5 arg6 harg6 arg11 arg12 x0 x1 x2 x3) 12 := fun r q => by
  unfold sl.v461 sl.HS1_15
  rw [found]
  rw [step_45]
  exact holds_next i x0 x1 x2 x3 (n := 11) (by decide) (acc_433 c i arg3 harg3 arg4 harg4 arg5 harg5 arg6 harg6 arg11 arg12 x0 x1 x2 x3) (slot_437 c i arg3 harg3 arg4 harg4 arg6 harg6 arg11 x0 x1 x3) arg5 harg5 ![0, 0, 11, 0, 0] rfl _ r q

theorem acc_489 : Holds i x0 x1 x2 x3 (sl.v489 (F := Ideal) c i arg3 harg3 arg4 harg4 arg5 harg5 arg6 harg6 arg11 arg12 x0 x1 x2 x3) 13 := fun r q => by
  unfold sl.v489 sl.HS1_16
  rw [found]
  rw [step_47]
  exact holds_next i x0 x1 x2 x3 (n := 12) (by decide) (acc_461 c i arg3 harg3 arg4 harg4 arg5 harg5 arg6 harg6 arg11 arg12 x0 x1 x2 x3) (slot_465 c i arg3 harg3 arg4 harg4 arg6 harg6 arg11 x0 x1 x3) arg5 harg5 ![0, 0, 12, 0, 0] rfl _ r q

theorem acc_517 : Holds i x0 x1 x2 x3 (sl.v517 (F := Ideal) c i arg3 harg3 arg4 harg4 arg5 harg5 arg6 harg6 arg11 arg12 x0 x1 x2 x3) 14 := fun r q => by
  unfold sl.v517 sl.HS1_17
  rw [found]
  rw [step_49]
  exact holds_next i x0 x1 x2 x3 (n := 13) (by decide) (acc_489 c i arg3 harg3 arg4 harg4 arg5 harg5 arg6 harg6 arg11 arg12 x0 x1 x2 x3) (slot_493 c i arg3 harg3 arg4 harg4 arg6 harg6 arg11 x0 x1 x3) arg5 harg5 ![0, 0, 13, 0, 0] rfl _ r q

theorem acc_545 : Holds i x0 x1 x2 x3 (sl.v545 (F := Ideal) c i arg3 harg3 arg4 harg4 arg5 harg5 arg6 harg6 arg11 arg12 x0 x1 x2 x3) 15 := fun r q => by
  unfold sl.v545 sl.HS1_18
  rw [found]
  rw [step_53]
  exact holds_next i x0 x1 x2 x3 (n := 14) (by decide) (acc_517 c i arg3 harg3 arg4 harg4 arg5 harg5 arg6 harg6 arg11 arg12 x0 x1 x2 x3) (slot_521 c i arg3 harg3 arg4 harg4 arg6 harg6 arg11 x0 x1 x3) arg5 harg5 ![0, 0, 14, 0, 0] rfl _ r q

theorem acc_573 : Holds i x0 x1 x2 x3 (sl.v573 (F := Ideal) c i arg3 harg3 arg4 harg4 arg5 harg5 arg6 harg6 arg11 arg12 x0 x1 x2 x3) 16 := fun r q => by
  unfold sl.v573 sl.HS1_19
  rw [found]
  rw [step_56]
  exact holds_next i x0 x1 x2 x3 (n := 15) (by decide) (acc_545 c i arg3 harg3 arg4 harg4 arg5 harg5 arg6 harg6 arg11 arg12 x0 x1 x2 x3) (slot_549 c i arg3 harg3 arg4 harg4 arg6 harg6 arg11 x0 x1 x3) arg5 harg5 ![0, 0, 15, 0, 0] rfl _ r q

theorem acc_601 : Holds i x0 x1 x2 x3 (sl.v601 (F := Ideal) c i arg3 harg3 arg4 harg4 arg5 harg5 arg6 harg6 arg11 arg12 x0 x1 x2 x3) 17 := fun r q => by
  unfold sl.v601 sl.HS1_20
  rw [found]
  rw [step_58]
  exact holds_next i x0 x1 x2 x3 (n := 16) (by decide) (acc_573 c i arg3 harg3 arg4 harg4 arg5 harg5 arg6 harg6 arg11 arg12 x0 x1 x2 x3) (slot_577 c i arg3 harg3 arg4 harg4 arg6 harg6 arg11 x0 x1 x3) arg5 harg5 ![0, 0, 16, 0, 0] rfl _ r q

theorem acc_629 : Holds i x0 x1 x2 x3 (sl.v629 (F := Ideal) c i arg3 harg3 arg4 harg4 arg5 harg5 arg6 harg6 arg11 arg12 x0 x1 x2 x3) 18 := fun r q => by
  unfold sl.v629 sl.HS1_21
  rw [found]
  rw [step_60]
  exact holds_next i x0 x1 x2 x3 (n := 17) (by decide) (acc_601 c i arg3 harg3 arg4 harg4 arg5 harg5 arg6 harg6 arg11 arg12 x0 x1 x2 x3) (slot_605 c i arg3 harg3 arg4 harg4 arg6 harg6 arg11 x0 x1 x3) arg5 harg5 ![0, 0, 17, 0, 0] rfl _ r q

theorem acc_657 : Holds i x0 x1 x2 x3 (sl.v657 (F := Ideal) c i arg3 harg3 arg4 harg4 arg5 harg5 arg6 harg6 arg11 arg12 x0 x1 x2 x3) 19 := fun r q => by
  unfold sl.v657 sl.HS1_22
  rw [found]
  rw [step_62]
  exact holds_next i x0 x1 x2 x3 (n := 18) (by decide) (acc_629 c i arg3 harg3 arg4 harg4 arg5 harg5 arg6 harg6 arg11 arg12 x0 x1 x2 x3) (slot_633 c i arg3 harg3 arg4 harg4 arg6 harg6 arg11 x0 x1 x3) arg5 harg5 ![0, 0, 18, 0, 0] rfl _ r q

theorem acc_685 : Holds i x0 x1 x2 x3 (sl.v685 (F := Ideal) c i arg3 harg3 arg4 harg4 arg5 harg5 arg6 harg6 arg11 arg12 x0 x1 x2 x3) 20 := fun r q => by
  unfold sl.v685 sl.HS1_23
  rw [found]
  unfold sl.r_15
  rw [step_65]
  exact holds_next i x0 x1 x2 x3 (n := 19) (by decide) (acc_657 c i arg3 harg3 arg4 harg4 arg5 harg5 arg6 harg6 arg11 arg12 x0 x1 x2 x3) (slot_661 c i arg3 harg3 arg4 harg4 arg6 harg6 arg11 x0 x1 x3) arg5 harg5 ![0, 0, 19, 0, 0] rfl _ r q

theorem acc_713 : Holds i x0 x1 x2 x3 (sl.v713 (F := Ideal) c i arg3 harg3 arg4 harg4 arg5 harg5 arg6 harg6 arg11 arg12 x0 x1 x2 x3) 21 := fun r q => by
  unfold sl.v713 sl.HS1_24
  rw [found]
  unfold sl.r_16
  rw [step_68]
  exact holds_next i x0 x1 x2 x3 (n := 20) (by decide) (acc_685 c i arg3 harg3 arg4 harg4 arg5 harg5 arg6 harg6 arg11 arg12 x0 x1 x2 x3) (slot_689 c i arg3 harg3 arg4 harg4 arg6 harg6 arg11 x0 x1 x3) arg5 harg5 ![0, 0, 20, 0, 0] rfl _ r q

theorem acc_741 : Holds i x0 x1 x2 x3 (sl.v741 (F := Ideal) c i arg3 harg3 arg4 harg4 arg5 harg5 arg6 harg6 arg11 arg12 x0 x1 x2 x3) 22 := fun r q => by
  unfold sl.v741 sl.HS1_25
  rw [found]
  rw [step_70]
  exact holds_next i x0 x1 x2 x3 (n := 21) (by decide) (acc_713 c i arg3 harg3 arg4 harg4 arg5 harg5 arg6 harg6 arg11 arg12 x0 x1 x2 x3) (slot_717 c i arg3 harg3 arg4 harg4 arg6 harg6 arg11 x0 x1 x3) arg5 harg5 ![0, 0, 21, 0, 0] rfl _ r q

theorem acc_769 : Holds i x0 x1 x2 x3 (sl.v769 (F := Ideal) c i arg3 harg3 arg4 harg4 arg5 harg5 arg6 harg6 arg11 arg12 x0 x1 x2 x3) 23 := fun r q => by
  unfold sl.v769 sl.HS1_26
  rw [found]
  rw [step_72]
  exact holds_next i x0 x1 x2 x3 (n := 22) (by decide) (acc_741 c i arg3 harg3 arg4 harg4 arg5 harg5 arg6 harg6 arg11 arg12 x0 x1 x2 x3) (slot_745 c i arg3 harg3 arg4 harg4 arg6 harg6 arg11 x0 x1 x3) arg5 harg5 ![0, 0, 22, 0, 0] rfl _ r q

theorem acc_797 : Holds i x0 x1 x2 x3 (sl.v797 (F := Ideal) c i arg3 harg3 arg4 harg4 arg5 harg5 arg6 harg6 arg11 arg12 x0 x1 x2 x3) 24 := fun r q => by
  unfold sl.v797 sl.HS1_27
  rw [found]
  rw [step_74]
  exact holds_next i x0 x1 x2 x3 (n := 23) (by decide) (acc_769 c i arg3 harg3 arg4 harg4 arg5 harg5 arg6 harg6 arg11 arg12 x0 x1 x2 x3) (slot_773 c i arg3 harg3 arg4 harg4 arg6 harg6 arg11 x0 x1 x3) arg5 harg5 ![0, 0, 23, 0, 0] rfl _ r q

theorem acc_825 : Holds i x0 x1 x2 x3 (sl.v825 (F := Ideal) c i arg3 harg3 arg4 harg4 arg5 harg5 arg6 harg6 arg11 arg12 x0 x1 x2 x3) 25 := fun r q => by
  unfold sl.v825 sl.HS1_28
  rw [found]
  rw [step_78]
  exact holds_next i x0 x1 x2 x3 (n := 24) (by decide) (acc_797 c i arg3 harg3 arg4 harg4 arg5 harg5 arg6 harg6 arg11 arg12 x0 x1 x2 x3) (slot_801 c i arg3 harg3 arg4 harg4 arg6 harg6 arg11 x0 x1 x3) arg5 harg5 ![0, 0, 24, 0, 0] rfl _ r q

theorem acc_853 : Holds i x0 x1 x2 x3 (sl.v853 (F := Ideal) c i arg3 harg3 arg4 harg4 arg5 harg5 arg6 harg6 arg11 arg12 x0 x1 x2 x3) 26 := fun r q => by
  unfold sl.v853 sl.HS1_29
  rw [found]
  rw [step_81]
  exact holds_next i x0 x1 x2 x3 (n := 25) (by decide) (acc_825 c i arg3 harg3 arg4 harg4 arg5 harg5 arg6 harg6 arg11 arg12 x0 x1 x2 x3) (slot_829 c i arg3 harg3 arg4 harg4 arg6 harg6 arg11 x0 x1 x3) arg5 harg5 ![0, 0, 25, 0, 0] rfl _ r q

theorem acc_881 : Holds i x0 x1 x2 x3 (sl.v881 (F := Ideal) c i arg3 harg3 arg4 harg4 arg5 harg5 arg6 harg6 arg11 arg12 x0 x1 x2 x3) 27 := fun r q => by
  unfold sl.v881 sl.HS1_30
  rw [found]
  rw [step_83]
  exact holds_next i x0 x1 x2 x3 (n := 26) (by decide) (acc_853 c i arg3 harg3 arg4 harg4 arg5 harg5 arg6 harg6 arg11 arg12 x0 x1 x2 x3) (slot_857 c i arg3 harg3 arg4 harg4 arg6 harg6 arg11 x0 x1 x3) arg5 harg5 ![0, 0, 26, 0, 0] rfl _ r q

theorem acc_909 : Holds i x0 x1 x2 x3 (sl.v909 (F := Ideal) c i arg3 harg3 arg4 harg4 arg5 harg5 arg6 harg6 arg11 arg12 x0 x1 x2 x3) 28 := fun r q => by
  unfold sl.v909 sl.HS1_31
  rw [found]
  rw [step_85]
  exact holds_next i x0 x1 x2 x3 (n := 27) (by decide) (acc_881 c i arg3 harg3 arg4 harg4 arg5 harg5 arg6 harg6 arg11 arg12 x0 x1 x2 x3) (slot_885 c i arg3 harg3 arg4 harg4 arg6 harg6 arg11 x0 x1 x3) arg5 harg5 ![0, 0, 27, 0, 0] rfl _ r q

theorem acc_937 : Holds i x0 x1 x2 x3 (sl.v937 (F := Ideal) c i arg3 harg3 arg4 harg4 arg5 harg5 arg6 harg6 arg11 arg12 x0 x1 x2 x3) 29 := fun r q => by
  unfold sl.v937 sl.HS1_32
  rw [found]
  rw [step_87]
  exact holds_next i x0 x1 x2 x3 (n := 28) (by decide) (acc_909 c i arg3 harg3 arg4 harg4 arg5 harg5 arg6 harg6 arg11 arg12 x0 x1 x2 x3) (slot_913 c i arg3 harg3 arg4 harg4 arg6 harg6 arg11 x0 x1 x3) arg5 harg5 ![0, 0, 28, 0, 0] rfl _ r q

theorem acc_965 : Holds i x0 x1 x2 x3 (sl.v965 (F := Ideal) c i arg3 harg3 arg4 harg4 arg5 harg5 arg6 harg6 arg11 arg12 x0 x1 x2 x3) 30 := fun r q => by
  unfold sl.v965 sl.HS1_33
  rw [found]
  unfold sl.r_20
  rw [step_90]
  exact holds_next i x0 x1 x2 x3 (n := 29) (by decide) (acc_937 c i arg3 harg3 arg4 harg4 arg5 harg5 arg6 harg6 arg11 arg12 x0 x1 x2 x3) (slot_941 c i arg3 harg3 arg4 harg4 arg6 harg6 arg11 x0 x1 x3) arg5 harg5 ![0, 0, 29, 0, 0] rfl _ r q

theorem acc_993 : Holds i x0 x1 x2 x3 (sl.v993 (F := Ideal) c i arg3 harg3 arg4 harg4 arg5 harg5 arg6 harg6 arg11 arg12 x0 x1 x2 x3) 31 := fun r q => by
  unfold sl.v993 sl.HS1_34
  rw [found]
  unfold sl.r_21
  rw [step_93]
  exact holds_next i x0 x1 x2 x3 (n := 30) (by decide) (acc_965 c i arg3 harg3 arg4 harg4 arg5 harg5 arg6 harg6 arg11 arg12 x0 x1 x2 x3) (slot_969 c i arg3 harg3 arg4 harg4 arg6 harg6 arg11 x0 x1 x3) arg5 harg5 ![0, 0, 30, 0, 0] rfl _ r q

theorem acc_1021 : Holds i x0 x1 x2 x3 (sl.v1021 (F := Ideal) c i arg3 harg3 arg4 harg4 arg5 harg5 arg6 harg6 arg11 arg12 x0 x1 x2 x3) 32 := fun r q => by
  unfold sl.v1021 sl.HS1_35
  rw [found]
  rw [step_95]
  exact holds_next i x0 x1 x2 x3 (n := 31) (by decide) (acc_993 c i arg3 harg3 arg4 harg4 arg5 harg5 arg6 harg6 arg11 arg12 x0 x1 x2 x3) (slot_997 c i arg3 harg3 arg4 harg4 arg6 harg6 arg11 x0 x1 x3) arg5 harg5 ![0, 0, 31, 0, 0] rfl _ r q

theorem acc_1049 : Holds i x0 x1 x2 x3 (sl.v1049 (F := Ideal) c i arg3 harg3 arg4 harg4 arg5 harg5 arg6 harg6 arg11 arg12 x0 x1 x2 x3) 33 := fun r q => by
  unfold sl.v1049 sl.HS1_36
  rw [found]
  rw [step_97]
  exact holds_next i x0 x1 x2 x3 (n := 32) (by decide) (acc_1021 c i arg3 harg3 arg4 harg4 arg5 harg5 arg6 harg6 arg11 arg12 x0 x1 x2 x3) (slot_1025 c i arg3 harg3 arg4 harg4 arg6 harg6 arg11 x0 x1 x3) arg5 harg5 ![0, 0, 32, 0, 0] rfl _ r q

theorem acc_1077 : Holds i x0 x1 x2 x3 (sl.v1077 (F := Ideal) c i arg3 harg3 arg4 harg4 arg5 harg5 arg6 harg6 arg11 arg12 x0 x1 x2 x3) 34 := fun r q => by
  unfold sl.v1077 sl.HS1_37
  rw [found]
  rw [step_99]
  exact holds_next i x0 x1 x2 x3 (n := 33) (by decide) (acc_1049 c i arg3 harg3 arg4 harg4 arg5 harg5 arg6 harg6 arg11 arg12 x0 x1 x2 x3) (slot_1053 c i arg3 harg3 arg4 harg4 arg6 harg6 arg11 x0 x1 x3) arg5 harg5 ![0, 0, 33, 0, 0] rfl _ r q

theorem acc_1105 : Holds i x0 x1 x2 x3 (sl.v1105 (F := Ideal) c i arg3 harg3 arg4 harg4 arg5 harg5 arg6 harg6 arg11 arg12 x0 x1 x2 x3) 35 := fun r q => by
  unfold sl.v1105 sl.HS1_38
  rw [found]
  rw [step_103]
  exact holds_next i x0 x1 x2 x3 (n := 34) (by decide) (acc_1077 c i arg3 harg3 arg4 harg4 arg5 harg5 arg6 harg6 arg11 arg12 x0 x1 x2 x3) (slot_1081 c i arg3 harg3 arg4 harg4 arg6 harg6 arg11 x0 x1 x3) arg5 harg5 ![0, 0, 34, 0, 0] rfl _ r q

theorem acc_1133 : Holds i x0 x1 x2 x3 (sl.v1133 (F := Ideal) c i arg3 harg3 arg4 harg4 arg5 harg5 arg6 harg6 arg11 arg12 x0 x1 x2 x3) 36 := fun r q => by
  unfold sl.v1133 sl.HS1_39
  rw [found]
  rw [step_106]
  exact holds_next i x0 x1 x2 x3 (n := 35) (by decide) (acc_1105 c i arg3 harg3 arg4 harg4 arg5 harg5 arg6 harg6 arg11 arg12 x0 x1 x2 x3) (slot_1109 c i arg3 harg3 arg4 harg4 arg6 harg6 arg11 x0 x1 x3) arg5 harg5 ![0, 0, 35, 0, 0] rfl _ r q

theorem acc_1161 : Holds i x0 x1 x2 x3 (sl.v1161 (F := Ideal) c i arg3 harg3 arg4 harg4 arg5 harg5 arg6 harg6 arg11 arg12 x0 x1 x2 x3) 37 := fun r q => by
  unfold sl.v1161 sl.HS1_40
  rw [found]
  rw [step_108]
  exact holds_next i x0 x1 x2 x3 (n := 36) (by decide) (acc_1133 c i arg3 harg3 arg4 harg4 arg5 harg5 arg6 harg6 arg11 arg12 x0 x1 x2 x3) (slot_1137 c i arg3 harg3 arg4 harg4 arg6 harg6 arg11 x0 x1 x3) arg5 harg5 ![0, 0, 36, 0, 0] rfl _ r q

theorem acc_1189 : Holds i x0 x1 x2 x3 (sl.v1189 (F := Ideal) c i arg3 harg3 arg4 harg4 arg5 harg5 arg6 harg6 arg11 arg12 x0 x1 x2 x3) 38 := fun r q => by
  unfold sl.v1189 sl.HS1_41
  rw [found]
  rw [step_110]
  exact holds_next i x0 x1 x2 x3 (n := 37) (by decide) (acc_1161 c i arg3 harg3 arg4 harg4 arg5 harg5 arg6 harg6 arg11 arg12 x0 x1 x2 x3) (slot_1165 c i arg3 harg3 arg4 harg4 arg6 harg6 arg11 x0 x1 x3) arg5 harg5 ![0, 0, 37, 0, 0] rfl _ r q

theorem acc_1217 : Holds i x0 x1 x2 x3 (sl.v1217 (F := Ideal) c i arg3 harg3 arg4 harg4 arg5 harg5 arg6 harg6 arg11 arg12 x0 x1 x2 x3) 39 := fun r q => by
  unfold sl.v1217 sl.HS1_42
  rw [found]
  rw [step_112]
  exact holds_next i x0 x1 x2 x3 (n := 38) (by decide) (acc_1189 c i arg3 harg3 arg4 harg4 arg5 harg5 arg6 harg6 arg11 arg12 x0 x1 x2 x3) (slot_1193 c i arg3 harg3 arg4 harg4 arg6 harg6 arg11 x0 x1 x3) arg5 harg5 ![0, 0, 38, 0, 0] rfl _ r q

theorem acc_1245 : Holds i x0 x1 x2 x3 (sl.v1245 (F := Ideal) c i arg3 harg3 arg4 harg4 arg5 harg5 arg6 harg6 arg11 arg12 x0 x1 x2 x3) 40 := fun r q => by
  unfold sl.v1245 sl.HS1_43
  rw [found]
  unfold sl.r_25
  rw [step_115]
  exact holds_next i x0 x1 x2 x3 (n := 39) (by decide) (acc_1217 c i arg3 harg3 arg4 harg4 arg5 harg5 arg6 harg6 arg11 arg12 x0 x1 x2 x3) (slot_1221 c i arg3 harg3 arg4 harg4 arg6 harg6 arg11 x0 x1 x3) arg5 harg5 ![0, 0, 39, 0, 0] rfl _ r q

theorem acc_1273 : Holds i x0 x1 x2 x3 (sl.v1273 (F := Ideal) c i arg3 harg3 arg4 harg4 arg5 harg5 arg6 harg6 arg11 arg12 x0 x1 x2 x3) 41 := fun r q => by
  unfold sl.v1273 sl.HS1_44
  rw [found]
  unfold sl.r_26
  rw [step_118]
  exact holds_next i x0 x1 x2 x3 (n := 40) (by decide) (acc_1245 c i arg3 harg3 arg4 harg4 arg5 harg5 arg6 harg6 arg11 arg12 x0 x1 x2 x3) (slot_1249 c i arg3 harg3 arg4 harg4 arg6 harg6 arg11 x0 x1 x3) arg5 harg5 ![0, 0, 40, 0, 0] rfl _ r q

theorem acc_1301 : Holds i x0 x1 x2 x3 (sl.v1301 (F := Ideal) c i arg3 harg3 arg4 harg4 arg5 harg5 arg6 harg6 arg11 arg12 x0 x1 x2 x3) 42 := fun r q => by
  unfold sl.v1301 sl.HS1_45
  rw [found]
  rw [step_120]
  exact holds_next i x0 x1 x2 x3 (n := 41) (by decide) (acc_1273 c i arg3 harg3 arg4 harg4 arg5 harg5 arg6 harg6 arg11 arg12 x0 x1 x2 x3) (slot_1277 c i arg3 harg3 arg4 harg4 arg6 harg6 arg11 x0 x1 x3) arg5 harg5 ![0, 0, 41, 0, 0] rfl _ r q

theorem acc_1329 : Holds i x0 x1 x2 x3 (sl.v1329 (F := Ideal) c i arg3 harg3 arg4 harg4 arg5 harg5 arg6 harg6 arg11 arg12 x0 x1 x2 x3) 43 := fun r q => by
  unfold sl.v1329 sl.HS1_46
  rw [found]
  rw [step_122]
  exact holds_next i x0 x1 x2 x3 (n := 42) (by decide) (acc_1301 c i arg3 harg3 arg4 harg4 arg5 harg5 arg6 harg6 arg11 arg12 x0 x1 x2 x3) (slot_1305 c i arg3 harg3 arg4 harg4 arg6 harg6 arg11 x0 x1 x3) arg5 harg5 ![0, 0, 42, 0, 0] rfl _ r q

theorem acc_1357 : Holds i x0 x1 x2 x3 (sl.v1357 (F := Ideal) c i arg3 harg3 arg4 harg4 arg5 harg5 arg6 harg6 arg11 arg12 x0 x1 x2 x3) 44 := fun r q => by
  unfold sl.v1357 sl.HS1_47
  rw [found]
  rw [step_124]
  exact holds_next i x0 x1 x2 x3 (n := 43) (by decide) (acc_1329 c i arg3 harg3 arg4 harg4 arg5 harg5 arg6 harg6 arg11 arg12 x0 x1 x2 x3) (slot_1333 c i arg3 harg3 arg4 harg4 arg6 harg6 arg11 x0 x1 x3) arg5 harg5 ![0, 0, 43, 0, 0] rfl _ r q

theorem acc_1385 : Holds i x0 x1 x2 x3 (sl.v1385 (F := Ideal) c i arg3 harg3 arg4 harg4 arg5 harg5 arg6 harg6 arg11 arg12 x0 x1 x2 x3) 45 := fun r q => by
  unfold sl.v1385 sl.HS1_48
  rw [found]
  rw [step_128]
  exact holds_next i x0 x1 x2 x3 (n := 44) (by decide) (acc_1357 c i arg3 harg3 arg4 harg4 arg5 harg5 arg6 harg6 arg11 arg12 x0 x1 x2 x3) (slot_1361 c i arg3 harg3 arg4 harg4 arg6 harg6 arg11 x0 x1 x3) arg5 harg5 ![0, 0, 44, 0, 0] rfl _ r q

theorem acc_1413 : Holds i x0 x1 x2 x3 (sl.v1413 (F := Ideal) c i arg3 harg3 arg4 harg4 arg5 harg5 arg6 harg6 arg11 arg12 x0 x1 x2 x3) 46 := fun r q => by
  unfold sl.v1413 sl.HS1_49
  rw [found]
  rw [step_131]
  exact holds_next i x0 x1 x2 x3 (n := 45) (by decide) (acc_1385 c i arg3 harg3 arg4 harg4 arg5 harg5 arg6 harg6 arg11 arg12 x0 x1 x2 x3) (slot_1389 c i arg3 harg3 arg4 harg4 arg6 harg6 arg11 x0 x1 x3) arg5 harg5 ![0, 0, 45, 0, 0] rfl _ r q

theorem acc_1441 : Holds i x0 x1 x2 x3 (sl.v1441 (F := Ideal) c i arg3 harg3 arg4 harg4 arg5 harg5 arg6 harg6 arg11 arg12 x0 x1 x2 x3) 47 := fun r q => by
  unfold sl.v1441 sl.HS1_50
  rw [found]
  rw [step_133]
  exact holds_next i x0 x1 x2 x3 (n := 46) (by decide) (acc_1413 c i arg3 harg3 arg4 harg4 arg5 harg5 arg6 harg6 arg11 arg12 x0 x1 x2 x3) (slot_1417 c i arg3 harg3 arg4 harg4 arg6 harg6 arg11 x0 x1 x3) arg5 harg5 ![0, 0, 46, 0, 0] rfl _ r q

theorem acc_1469 : Holds i x0 x1 x2 x3 (sl.v1469 (F := Ideal) c i arg3 harg3 arg4 harg4 arg5 harg5 arg6 harg6 arg11 arg12 x0 x1 x2 x3) 48 := fun r q => by
  unfold sl.v1469 sl.HS1_51
  rw [found]
  rw [step_135]
  exact holds_next i x0 x1 x2 x3 (n := 47) (by decide) (acc_1441 c i arg3 harg3 arg4 harg4 arg5 harg5 arg6 harg6 arg11 arg12 x0 x1 x2 x3) (slot_1445 c i arg3 harg3 arg4 harg4 arg6 harg6 arg11 x0 x1 x3) arg5 harg5 ![0, 0, 47, 0, 0] rfl _ r q

theorem acc_1497 : Holds i x0 x1 x2 x3 (sl.v1497 (F := Ideal) c i arg3 harg3 arg4 harg4 arg5 harg5 arg6 harg6 arg11 arg12 x0 x1 x2 x3) 49 := fun r q => by
  unfold sl.v1497 sl.HS1_52
  rw [found]
  rw [step_137]
  exact holds_next i x0 x1 x2 x3 (n := 48) (by decide) (acc_1469 c i arg3 harg3 arg4 harg4 arg5 harg5 arg6 harg6 arg11 arg12 x0 x1 x2 x3) (slot_1473 c i arg3 harg3 arg4 harg4 arg6 harg6 arg11 x0 x1 x3) arg5 harg5 ![0, 0, 48, 0, 0] rfl _ r q

theorem acc_1525 : Holds i x0 x1 x2 x3 (sl.v1525 (F := Ideal) c i arg3 harg3 arg4 harg4 arg5 harg5 arg6 harg6 arg11 arg12 x0 x1 x2 x3) 50 := fun r q => by
  unfold sl.v1525 sl.HS1_53
  rw [found]
  unfold sl.r_30
  rw [step_140]
  exact holds_next i x0 x1 x2 x3 (n := 49) (by decide) (acc_1497 c i arg3 harg3 arg4 harg4 arg5 harg5 arg6 harg6 arg11 arg12 x0 x1 x2 x3) (slot_1501 c i arg3 harg3 arg4 harg4 arg6 harg6 arg11 x0 x1 x3) arg5 harg5 ![0, 0, 49, 0, 0] rfl _ r q

theorem acc_1553 : Holds i x0 x1 x2 x3 (sl.v1553 (F := Ideal) c i arg3 harg3 arg4 harg4 arg5 harg5 arg6 harg6 arg11 arg12 x0 x1 x2 x3) 51 := fun r q => by
  unfold sl.v1553 sl.HS1_54
  rw [found]
  unfold sl.r_31
  rw [step_143]
  exact holds_next i x0 x1 x2 x3 (n := 50) (by decide) (acc_1525 c i arg3 harg3 arg4 harg4 arg5 harg5 arg6 harg6 arg11 arg12 x0 x1 x2 x3) (slot_1529 c i arg3 harg3 arg4 harg4 arg6 harg6 arg11 x0 x1 x3) arg5 harg5 ![0, 0, 50, 0, 0] rfl _ r q

theorem acc_1581 : Holds i x0 x1 x2 x3 (sl.v1581 (F := Ideal) c i arg3 harg3 arg4 harg4 arg5 harg5 arg6 harg6 arg11 arg12 x0 x1 x2 x3) 52 := fun r q => by
  unfold sl.v1581 sl.HS1_55
  rw [found]
  rw [step_145]
  exact holds_next i x0 x1 x2 x3 (n := 51) (by decide) (acc_1553 c i arg3 harg3 arg4 harg4 arg5 harg5 arg6 harg6 arg11 arg12 x0 x1 x2 x3) (slot_1557 c i arg3 harg3 arg4 harg4 arg6 harg6 arg11 x0 x1 x3) arg5 harg5 ![0, 0, 51, 0, 0] rfl _ r q

theorem acc_1609 : Holds i x0 x1 x2 x3 (sl.v1609 (F := Ideal) c i arg3 harg3 arg4 harg4 arg5 harg5 arg6 harg6 arg11 arg12 x0 x1 x2 x3) 53 := fun r q => by
  unfold sl.v1609 sl.HS1_56
  rw [found]
  rw [step_147]
  exact holds_next i x0 x1 x2 x3 (n := 52) (by decide) (acc_1581 c i arg3 harg3 arg4 harg4 arg5 harg5 arg6 harg6 arg11 arg12 x0 x1 x2 x3) (slot_1585 c i arg3 harg3 arg4 harg4 arg6 harg6 arg11 x0 x1 x3) arg5 harg5 ![0, 0, 52, 0, 0] rfl _ r q

theorem acc_1637 : Holds i x0 x1 x2 x3 (sl.v1637 (F := Ideal) c i arg3 harg3 arg4 harg4 arg5 harg5 arg6 harg6 arg11 arg12 x0 x1 x2 x3) 54 := fun r q => by
  unfold sl.v1637 sl.HS1_57
  rw [found]
  rw [step_149]
  exact holds_next i x0 x1 x2 x3 (n := 53) (by decide) (acc_1609 c i arg3 harg3 arg4 harg4 arg5 harg5 arg6 harg6 arg11 arg12 x0 x1 x2 x3) (slot_1613 c i arg3 harg3 arg4 harg4 arg6 harg6 arg11 x0 x1 x3) arg5 harg5 ![0, 0, 53, 0, 0] rfl _ r q

theorem acc_1665 : Holds i x0 x1 x2 x3 (sl.v1665 (F := Ideal) c i arg3 harg3 arg4 harg4 arg5 harg5 arg6 harg6 arg11 arg12 x0 x1 x2 x3) 55 := fun r q => by
  unfold sl.v1665 sl.HS1_58
  rw [found]
  rw [step_153]
  exact holds_next i x0 x1 x2 x3 (n := 54) (by decide) (acc_1637 c i arg3 harg3 arg4 harg4 arg5 harg5 arg6 harg6 arg11 arg12 x0 x1 x2 x3) (slot_1641 c i arg3 harg3 arg4 harg4 arg6 harg6 arg11 x0 x1 x3) arg5 harg5 ![0, 0, 54, 0, 0] rfl _ r q

theorem acc_1693 : Holds i x0 x1 x2 x3 (sl.v1693 (F := Ideal) c i arg3 harg3 arg4 harg4 arg5 harg5 arg6 harg6 arg11 arg12 x0 x1 x2 x3) 56 := fun r q => by
  unfold sl.v1693 sl.HS1_59
  rw [found]
  rw [step_156]
  exact holds_next i x0 x1 x2 x3 (n := 55) (by decide) (acc_1665 c i arg3 harg3 arg4 harg4 arg5 harg5 arg6 harg6 arg11 arg12 x0 x1 x2 x3) (slot_1669 c i arg3 harg3 arg4 harg4 arg6 harg6 arg11 x0 x1 x3) arg5 harg5 ![0, 0, 55, 0, 0] rfl _ r q

theorem acc_1721 : Holds i x0 x1 x2 x3 (sl.v1721 (F := Ideal) c i arg3 harg3 arg4 harg4 arg5 harg5 arg6 harg6 arg11 arg12 x0 x1 x2 x3) 57 := fun r q => by
  unfold sl.v1721 sl.HS1_60
  rw [found]
  rw [step_158]
  exact holds_next i x0 x1 x2 x3 (n := 56) (by decide) (acc_1693 c i arg3 harg3 arg4 harg4 arg5 harg5 arg6 harg6 arg11 arg12 x0 x1 x2 x3) (slot_1697 c i arg3 harg3 arg4 harg4 arg6 harg6 arg11 x0 x1 x3) arg5 harg5 ![0, 0, 56, 0, 0] rfl _ r q

theorem acc_1749 : Holds i x0 x1 x2 x3 (sl.v1749 (F := Ideal) c i arg3 harg3 arg4 harg4 arg5 harg5 arg6 harg6 arg11 arg12 x0 x1 x2 x3) 58 := fun r q => by
  unfold sl.v1749 sl.HS1_61
  rw [found]
  rw [step_160]
  exact holds_next i x0 x1 x2 x3 (n := 57) (by decide) (acc_1721 c i arg3 harg3 arg4 harg4 arg5 harg5 arg6 harg6 arg11 arg12 x0 x1 x2 x3) (slot_1725 c i arg3 harg3 arg4 harg4 arg6 harg6 arg11 x0 x1 x3) arg5 harg5 ![0, 0, 57, 0, 0] rfl _ r q

theorem acc_1777 : Holds i x0 x1 x2 x3 (sl.v1777 (F := Ideal) c i arg3 harg3 arg4 harg4 arg5 harg5 arg6 harg6 arg11 arg12 x0 x1 x2 x3) 59 := fun r q => by
  unfold sl.v1777 sl.HS1_62
  rw [found]
  rw [step_162]
  exact holds_next i x0 x1 x2 x3 (n := 58) (by decide) (acc_1749 c i arg3 harg3 arg4 harg4 arg5 harg5 arg6 harg6 arg11 arg12 x0 x1 x2 x3) (slot_1753 c i arg3 harg3 arg4 harg4 arg6 harg6 arg11 x0 x1 x3) arg5 harg5 ![0, 0, 58, 0, 0] rfl _ r q

theorem acc_1805 : Holds i x0 x1 x2 x3 (sl.v1805 (F := Ideal) c i arg3 harg3 arg4 harg4 arg5 harg5 arg6 harg6 arg11 arg12 x0 x1 x2 x3) 60 := fun r q => by
  unfold sl.v1805 sl.HS1_63
  rw [found]
  unfold sl.r_35
  rw [step_165]
  exact holds_next i x0 x1 x2 x3 (n := 59) (by decide) (acc_1777 c i arg3 harg3 arg4 harg4 arg5 harg5 arg6 harg6 arg11 arg12 x0 x1 x2 x3) (slot_1781 c i arg3 harg3 arg4 harg4 arg6 harg6 arg11 x0 x1 x3) arg5 harg5 ![0, 0, 59, 0, 0] rfl _ r q

theorem acc_1833 : Holds i x0 x1 x2 x3 (sl.v1833 (F := Ideal) c i arg3 harg3 arg4 harg4 arg5 harg5 arg6 harg6 arg11 arg12 x0 x1 x2 x3) 61 := fun r q => by
  unfold sl.v1833 sl.HS1_64
  rw [found]
  unfold sl.r_36
  rw [step_168]
  exact holds_next i x0 x1 x2 x3 (n := 60) (by decide) (acc_1805 c i arg3 harg3 arg4 harg4 arg5 harg5 arg6 harg6 arg11 arg12 x0 x1 x2 x3) (slot_1809 c i arg3 harg3 arg4 harg4 arg6 harg6 arg11 x0 x1 x3) arg5 harg5 ![0, 0, 60, 0, 0] rfl _ r q

theorem acc_1858 : Holds i x0 x1 x2 x3 (sl.v1858 (F := Ideal) c i arg3 harg3 arg4 harg4 arg5 harg5 arg6 harg6 arg11 arg12 x0 x1 x2 x3) 62 := fun r q => by
  unfold sl.v1858 sl.HS1_65
  rw [found]
  rw [step_170]
  exact holds_next i x0 x1 x2 x3 (n := 61) (by decide) (acc_1833 c i arg3 harg3 arg4 harg4 arg5 harg5 arg6 harg6 arg11 arg12 x0 x1 x2 x3) (slot_1837 c i arg3 harg3 arg4 harg4 arg6 harg6 arg11 x0 x1 x3) arg5 harg5 ![0, 0, 61, 0, 0] rfl _ r q

theorem acc_1881 : Holds i x0 x1 x2 x3 (sl.v1881 (F := Ideal) c i arg3 harg3 arg4 harg4 arg5 harg5 arg6 harg6 arg11 arg12 x0 x1 x2 x3) 63 := fun r q => by
  unfold sl.v1881 sl.HS1_66
  rw [found]
  rw [step_172]
  exact holds_next i x0 x1 x2 x3 (n := 62) (by decide) (acc_1858 c i arg3 harg3 arg4 harg4 arg5 harg5 arg6 harg6 arg11 arg12 x0 x1 x2 x3) (slot_1862 c i arg3 harg3 arg4 harg4 arg6 harg6 arg11 x0 x1 x3) arg5 harg5 k0_off3 rfl _ r q

theorem acc_1891 : Holds i x0 x1 x2 x3 (sl.v1891 (F := Ideal) c i arg3 harg3 arg4 harg4 arg5 harg5 arg6 harg6 arg11 arg12 x0 x1 x2 x3) 64 := fun r q => by
  unfold sl.v1891 sl.HS1_67
  rw [found]
  rw [step_175]
  exact holds_next i x0 x1 x2 x3 (n := 63) (by decide) (acc_1881 c i arg3 harg3 arg4 harg4 arg5 harg5 arg6 harg6 arg11 arg12 x0 x1 x2 x3) (slot_1884 c i arg3 harg3 arg4 harg4 arg6 harg6 arg11 x0 x1 x3) arg5 harg5 ![0, 0, 63, 0, 0] rfl _ r q

theorem acc_1901 : Holds i x0 x1 x2 x3 (sl.v1901 (F := Ideal) c i arg3 harg3 arg4 harg4 arg5 harg5 arg6 harg6 arg11 arg12 x0 x1 x2 x3) 65 := fun r q => by
  unfold sl.v1901 sl.HS1_68
  rw [found]
  rw [step_176]
  exact holds_next i x0 x1 x2 x3 (n := 64) (by decide) (acc_1891 c i arg3 harg3 arg4 harg4 arg5 harg5 arg6 harg6 arg11 arg12 x0 x1 x2 x3) (slot_1894 c i arg3 harg3 arg4 harg4 arg6 harg6 arg11 x0 x1 x3) arg5 harg5 ![0, 0, 64, 0, 0] rfl _ r q

end Cert.Proof.Diff

end
-- ==== Proof.DiffOut.lean ====
/-
  The differential attention call's block, read at an index.
-/
module

public import proofs.«01_k».proof.Proof.DiffSteps

@[expose] public section

noncomputable section

namespace Cert.Proof.Diff

open Cert.Kernel5Ideal Cert.Kernel5Ideal.Gen
open Cert.Proof.Attn (IsReal isReal_mul isReal_sum isReal_select isReal_zero isReal_sqrt isReal_bound square_nonneg select_nonneg select_if sum_blocks attended real_sum)
open Idealize.ShloMosaic Idealize.ShloMosaic.TcCoe Idealize.SL.Sem

set_option maxRecDepth 16384

/-- The weight of the second attention of a head, from the learned vectors. -/
def lam (W : (⟨2, ![4, 32]⟩ : Shape).Idx → EReal) : EReal :=
  Ideal.exp (∑ l : Fin 32, W (ix2 0 l) * W (ix2 1 l)) - Ideal.exp (∑ l : Fin 32, W (ix2 2 l) * W (ix2 3 l)) + Ideal.ofBits FTy.f32 0x3E4CCCCD#32

/-- A head's row over the root of its mean square, times the gain and the rest of the initial weight. -/
def normed (o g : Fin 64 → EReal) (d : Fin 64) : EReal :=
  o d * Ideal.rsqrt (Ideal.div (∑ e, o e * o e) (Ideal.ofBits FTy.f32 0x42800000#32) + Ideal.ofBits FTy.f32 0x358637BD#32) * g d * Ideal.ofBits FTy.f32 0x3F4CCCCD#32

/-- The block from the accumulator: the two attentions' difference, normed, and zeros in the upper lanes. -/
theorem out_apply (A : Vec Ideal S80x1024 .f32) (W : Vec Ideal S4x32 .f32) (G : Vec Ideal S64x1 .f32) (z : Fin 1) (s : Fin 512) (l : Fin 128) :
    @Eq EReal (k0_pay1 (k0_pay179 A W) (k0_pay180 G) (ix3 z s l))
      (if h : l.val < 64 then normed (fun d => Ideal.div (A (ix2 ⟨d.val, by omega⟩ ⟨s.val, by omega⟩)) (A (ix2 64 ⟨s.val, by omega⟩))
        - lam W * Ideal.div (A (ix2 ⟨d.val, by omega⟩ ⟨512 + s.val, by omega⟩)) (A (ix2 64 ⟨512 + s.val, by omega⟩))) (fun d => G (ix2 d 0)) ⟨l.val, h⟩ else 0) := by
  have hl := l.isLt
  have hs := s.isLt
  pointwise [k0_pay1, k0_pay179, k0_pay180, k0_pay177]
  rfl

/-- The first lane of a pair's half of the lanes, as the body computes it from the value head. -/
def base (u : ℕ) : BitVec 32 :=
  Scalar.muli
    (Scalar.select
      (Scalar.andi
        (Scalar.xori (Scalar.cmpi CmpIPredicate.slt (Scalar.remsi (BitVec.ofNat 32 u) (Scalar.select (Scalar.cmpi CmpIPredicate.eq 2#32 0#32) 1#32 2#32)) 0#32)
          (Scalar.cmpi CmpIPredicate.slt (Scalar.select (Scalar.cmpi CmpIPredicate.eq 2#32 0#32) 1#32 2#32) 0#32))
        (Scalar.cmpi CmpIPredicate.ne (Scalar.remsi (BitVec.ofNat 32 u) (Scalar.select (Scalar.cmpi CmpIPredicate.eq 2#32 0#32) 1#32 2#32)) 0#32))
      (Scalar.addi (Scalar.remsi (BitVec.ofNat 32 u) (Scalar.select (Scalar.cmpi CmpIPredicate.eq 2#32 0#32) 1#32 2#32))
        (Scalar.select (Scalar.cmpi CmpIPredicate.eq 2#32 0#32) 1#32 2#32))
      (Scalar.remsi (BitVec.ofNat 32 u) (Scalar.select (Scalar.cmpi CmpIPredicate.eq 2#32 0#32) 1#32 2#32)))
    64#32

theorem first_lanes : ∀ (u : Fin 4) (l : Fin 128), IntOp.andi (IntOp.cmpi CmpIPredicate.sge (BitVec.ofNat 32 l.val) (base u.val))
    (IntOp.cmpi CmpIPredicate.slt (BitVec.ofNat 32 l.val) (Scalar.addi (base u.val) 32#32)) = if l.val / 32 = u.val % 2 * 2 then 1#1 else 0#1 := by decide +kernel
theorem second_lanes : ∀ (u : Fin 4) (l : Fin 128), IntOp.andi (IntOp.cmpi CmpIPredicate.sge (BitVec.ofNat 32 l.val) (Scalar.addi (base u.val) 32#32))
    (IntOp.cmpi CmpIPredicate.slt (BitVec.ofNat 32 l.val) (Scalar.addi (base u.val) 64#32)) = if l.val / 32 = u.val % 2 * 2 + 1 then 1#1 else 0#1 := by decide +kernel

theorem masked0 (i : grid0.Coords) (Q : Vec Ideal S1x1x128x512 .bf16) (l : Fin 128) (s : Fin 512) :
    @Eq EReal (k0_pay3 i Q (ix2 l s)) (if l.val / 32 = (i 1).val % 2 * 2 then Q (ix4 0 0 l s) else 0) := by
  pointwise [k0_pay3, k0_pay2]
  exact (congrArg (fun b => Scalar.select b _ _) (first_lanes (i 1) l)).trans (select_if _ _ _)

theorem masked1 (i : grid0.Coords) (Q : Vec Ideal S1x1x128x512 .bf16) (l : Fin 128) (s : Fin 512) :
    @Eq EReal (k0_pay4 i Q (ix2 l s)) (if l.val / 32 = (i 1).val % 2 * 2 + 1 then Q (ix4 0 0 l s) else 0) := by
  pointwise [k0_pay4, k0_pay2]
  exact (congrArg (fun b => Scalar.select b _ _) (second_lanes (i 1) l)).trans (select_if _ _ _)

/-- The query block: the first half of the columns keeps the lanes of the pair's first part, the second half those of its second. -/
theorem query_apply (i : grid0.Coords) (Q : Vec Ideal S1x1x128x512 .bf16) (l : Fin 128) (q : Fin 1024) :
    @Eq EReal (k0_pay5 i Q (ix2 l q)) (if l.val / 32 = (i 1).val % 2 * 2 + q.val / 512 then Q (ix4 0 0 l ⟨q.val % 512, by omega⟩) else 0) := by
  have hq := q.isLt
  pointwise [k0_pay5]
  by_cases h : q.val < 512
  · have e : (⟨q.val, h⟩ : Fin 512) = ⟨q.val % 512, by omega⟩ := Fin.ext (by show q.val = q.val % 512; omega)
    have e' : q.val / 512 = 0 := by omega
    rw [dif_pos h, e, e', masked0, Nat.add_zero]
  · have e : (⟨q.val - 512, by omega⟩ : Fin 512) = ⟨q.val % 512, by omega⟩ := Fin.ext (by show q.val - 512 = q.val % 512; omega)
    have e' : q.val / 512 = 1 := by omega
    rw [dif_neg h, e, e', masked1]

theorem masked0_real (i : grid0.Coords) (Q : Vec Ideal S1x1x128x512 .bf16) (hQ : ∀ l s, IsReal (Q (ix4 0 0 l s))) (l : Fin 128) (s : Fin 512) : IsReal (k0_pay3 i Q (ix2 l s)) := by
  rw [masked0]
  split_ifs
  · exact hQ l s
  · exact isReal_zero

theorem masked1_real (i : grid0.Coords) (Q : Vec Ideal S1x1x128x512 .bf16) (hQ : ∀ l s, IsReal (Q (ix4 0 0 l s))) (l : Fin 128) (s : Fin 512) : IsReal (k0_pay4 i Q (ix2 l s)) := by
  rw [masked1]
  split_ifs
  · exact hQ l s
  · exact isReal_zero

/-- A score over all lanes of a column is the score over its part's lanes. -/
theorem score_eq (i : grid0.Coords) (w : Fin 2) (c : Fin 2) (hw : (i 1).val % 2 = w.val) (Q : Vec Ideal S1x1x128x512 .bf16) (K : Fin 128 → EReal) (s : Fin 512) (q : Fin 1024) (hq : q.val = c.val * 512 + s.val) :
    ∑ l : Fin 128, K l * k0_pay5 i Q (ix2 l q)
      = ∑ l : Fin 32, Q (ix4 0 0 ⟨(w.val * 2 + c.val) * 32 + l.val, by omega⟩ s) * K ⟨(w.val * 2 + c.val) * 32 + l.val, by omega⟩ := by
  have hs := s.isLt
  have e1 : q.val / 512 = c.val := by omega
  have e2 : (⟨q.val % 512, by omega⟩ : Fin 512) = s := Fin.ext (by show q.val % 512 = s.val; omega)
  simp only [query_apply, hw, e1, e2]
  refine (Finset.sum_congr rfl fun l _ => ?_).trans ((sum_blocks 4 32 fun (h : Fin 4) (l : Fin 32) => K ⟨h.val * 32 + l.val, by omega⟩ *
    (if h.val = w.val * 2 + c.val then Q (ix4 0 0 ⟨h.val * 32 + l.val, by omega⟩ s) else 0)).trans ?_)
  · have e : (⟨l.val / 32 * 32 + l.val % 32, by omega⟩ : Fin 128) = l := Fin.ext (by show l.val / 32 * 32 + l.val % 32 = l.val; omega)
    show _ = K ⟨l.val / 32 * 32 + l.val % 32, by omega⟩ *
      (if l.val / 32 = w.val * 2 + c.val then Q (ix4 0 0 ⟨l.val / 32 * 32 + l.val % 32, by omega⟩ s) else 0)
    rw [e]
  · rw [Finset.sum_eq_single (⟨w.val * 2 + c.val, by omega⟩ : Fin 4)]
    · refine Finset.sum_congr rfl fun l _ => ?_
      rw [if_pos rfl, mul_comm]
    · intro h _ hne
      refine Finset.sum_eq_zero fun l _ => ?_
      rw [if_neg fun e => hne (Fin.ext e), mul_zero]
    · exact fun h => absurd (Finset.mem_univ _) h

/-- The shift is real where the queries and the key bounds are. -/
theorem shift_real (i : grid0.Coords) (Q : Vec Ideal S1x1x128x512 .bf16) (M : Vec Ideal S1x1x2x128 .f32) (hQ : ∀ l s, IsReal (Q (ix4 0 0 l s))) (hM : ∀ g, IsReal (M (ix4 0 0 g 0))) (q : Fin 1024) :
    IsReal (shift i Q M (ix2 0 q)) := by
  have key : ∀ (f : Fin 128 → EReal) (hf : ∀ l, IsReal (f l)) (g : Fin 2), IsReal (Ideal.sqrt (∑ x : Fin 128, f x * f x) * M (ix4 0 0 g 0)) := fun f hf g =>
    isReal_mul (isReal_sqrt (isReal_sum fun x => isReal_mul (hf x) (hf x)) (Finset.sum_nonneg fun x _ => square_nonneg (hf x))) (hM g)
  have e : ∃ y : EReal, IsReal y ∧ @Eq EReal (shift i Q M (ix2 0 q)) (y * Ideal.ofBits FTy.f32 1065437102#32) := by
    by_cases h : q.val < 512
    · refine ⟨_, key (fun x => k0_pay3 i Q (ix2 x ⟨q.val, h⟩)) (fun x => masked0_real i Q hQ x _) 0, ?_⟩
      unfold shift
      pointwise [k0_pay8, k0_pay7, k0_pay6]
      rw [dif_pos h]
    · refine ⟨_, key (fun x => k0_pay4 i Q (ix2 x ⟨q.val - 512, by omega⟩)) (fun x => masked1_real i Q hQ x _) 1, ?_⟩
      unfold shift
      pointwise [k0_pay8, k0_pay7, k0_pay6]
      rw [dif_neg h]
  obtain ⟨y, hy, e⟩ := e
  rw [e]
  exact isReal_mul hy isReal_bound

/-! ## The whole block -/

/-- What the accumulator holds in the end, as one sum over the keys. -/
theorem added_all (i : grid0.Coords) (x0 : Vec Ideal S1x1x128x512 .bf16) (x1 : Vec Ideal S1x1x16640x128 .bf16) (x2 : Vec Ideal S1x1x65x80x256 .bf16) (x3 : Vec Ideal S1x1x2x128 .f32) (r : Fin 80) (q : Fin 1024) :
    ∑ j ∈ Finset.range 65, added i x0 x1 x2 x3 r q j
      = ∑ x : Fin 16640, x2 (ix5 0 0 ⟨x.val / 256, by omega⟩ r ⟨x.val % 256, by omega⟩)
          * Ideal.exp2 ((∑ l : Fin 128, x1 (ix4 0 0 x l) * k0_pay5 i x0 (ix2 l q)) - shift i x0 x3 (ix2 0 q)) := by
  rw [Finset.sum_range]
  refine Eq.trans (Finset.sum_congr rfl fun j _ => ?_) (((sum_blocks 65 256 fun (j : Fin 65) (t : Fin 256) => x2 (ix5 0 0 j r t) * prob i x0 x1 x3 j t q).symm).trans
    (Finset.sum_congr rfl fun x _ => ?_))
  · unfold added
    rw [dif_pos j.isLt]
  · have e : (⟨256 * (x.val / 256) + x.val % 256, by omega⟩ : Fin 16640) = x := Fin.ext (by show 256 * (x.val / 256) + x.val % 256 = x.val; omega)
    show x2 (ix5 0 0 ⟨x.val / 256, by omega⟩ r ⟨x.val % 256, by omega⟩)
      * Ideal.exp2 ((∑ l : Fin 128, x1 (ix4 0 0 ⟨256 * (x.val / 256) + x.val % 256, by omega⟩ l) * k0_pay5 i x0 (ix2 l q)) - shift i x0 x3 (ix2 0 q)) = _
    rw [e]

/-- One weight of a softmax in base two. -/
def share (x : Fin 16640 → EReal) (k : Fin 16640) : EReal := Ideal.div (Ideal.pow ((2 : ℝ) : EReal) (x k)) (∑ n, Ideal.pow ((2 : ℝ) : EReal) (x n))

/-- Values weighted by the difference of two softmaxes. -/
def paired (w : EReal) (v x y : Fin 16640 → EReal) : EReal := ∑ k, v k * (share x k - w * share y k)

theorem share_real (x : Fin 16640 → EReal) (hx : ∀ k, IsReal (x k)) (k : Fin 16640) : IsReal (share x k) := by
  choose g hg using hx
  unfold share
  simp only [hg]
  have hp : ∀ k, Ideal.pow ((2 : ℝ) : EReal) (g k : EReal) = ((Real.rpow 2 (g k) : ℝ) : EReal) := fun k => rfl
  have hD : 0 < ∑ k, Real.rpow 2 (g k) := Finset.sum_pos (fun k _ => Real.rpow_pos_of_pos (by norm_num) (g k)) Finset.univ_nonempty
  simp only [hp, ← real_sum]
  rw [Cert.Proof.Attn.div_real _ _ hD]
  exact isReal_mul ⟨_, rfl⟩ ⟨_, rfl⟩

/-- The difference of two attentions over the same values is one attention with the difference of the weights, where all is real. -/
theorem attended_sub (w : EReal) (v x y : Fin 16640 → EReal) (hw : IsReal w) (hv : ∀ k, IsReal (v k)) (hx : ∀ k, IsReal (x k)) (hy : ∀ k, IsReal (y k)) :
    attended v x - w * attended v y = paired w v x y := by
  obtain ⟨a, ha⟩ := hw
  choose p hp using share_real x hx
  choose p' hp' using share_real y hy
  choose u hu using hv
  show (∑ k, v k * share x k) - w * (∑ k, v k * share y k) = ∑ k, v k * (share x k - w * share y k)
  simp only [ha, hp, hp', hu, ← EReal.coe_mul, ← EReal.coe_sub, ← real_sum]
  refine congrArg _ ?_
  rw [Finset.mul_sum, ← Finset.sum_sub_distrib]
  exact Finset.sum_congr rfl fun k _ => by ring

theorem isReal_exp {x : EReal} (hx : IsReal x) : IsReal (Ideal.exp x) := by
  obtain ⟨r, rfl⟩ := hx
  exact ⟨Real.exp r, rfl⟩

theorem isReal_add {x y : EReal} (hx : IsReal x) (hy : IsReal y) : IsReal (x + y) := by
  obtain ⟨r, rfl⟩ := hx
  obtain ⟨t, rfl⟩ := hy
  exact ⟨r + t, (EReal.coe_add r t).symm⟩

theorem isReal_sub {x y : EReal} (hx : IsReal x) (hy : IsReal y) : IsReal (x - y) := by
  obtain ⟨r, rfl⟩ := hx
  obtain ⟨t, rfl⟩ := hy
  exact ⟨r - t, (EReal.coe_sub r t).symm⟩

theorem isReal_initial : IsReal (Ideal.ofBits FTy.f32 0x3E4CCCCD#32) := by
  unfold IsReal
  simp [Ideal.ofBits, Ideal.ieee, -EReal.coe_mul]

/-- The weight of the second attention is real where the learned vectors are. -/
theorem lam_real (W : (⟨2, ![4, 32]⟩ : Shape).Idx → EReal) (hW : ∀ a l, IsReal (W (ix2 a l))) : IsReal (lam W) :=
  isReal_add (isReal_sub (isReal_exp (isReal_sum fun l => isReal_mul (hW _ _) (hW _ _))) (isReal_exp (isReal_sum fun l => isReal_mul (hW _ _) (hW _ _)))) isReal_initial

/-- The scores of a part of the pair at one query. -/
def scores (w : Fin 2) (x0 : Vec Ideal S1x1x128x512 .bf16) (x1 : Vec Ideal S1x1x16640x128 .bf16) (c : Fin 2) (s : Fin 512) (x : Fin 16640) : EReal :=
  ∑ t : Fin 32, x0 (ix4 0 0 ⟨(w.val * 2 + c.val) * 32 + t.val, by omega⟩ s) * x1 (ix4 0 0 x ⟨(w.val * 2 + c.val) * 32 + t.val, by omega⟩)

theorem scores_real (w : Fin 2) (x0 : Vec Ideal S1x1x128x512 .bf16) (x1 : Vec Ideal S1x1x16640x128 .bf16) (hQ : ∀ l s, IsReal (x0 (ix4 0 0 l s))) (hK : ∀ t l, IsReal (x1 (ix4 0 0 t l)))
    (c : Fin 2) (s : Fin 512) (x : Fin 16640) : IsReal (scores w x0 x1 c s x) := isReal_sum fun t => isReal_mul (hQ _ _) (hK _ _)

section
variable (i : grid0.Coords) (w : Fin 2) (hw : (i 1).val % 2 = w.val) (x0 : Vec Ideal S1x1x128x512 .bf16) (x1 : Vec Ideal S1x1x16640x128 .bf16) (x2 : Vec Ideal S1x1x65x80x256 .bf16) (x3 : Vec Ideal S1x1x2x128 .f32)
  (hQ : ∀ l s, IsReal (x0 (ix4 0 0 l s))) (hK : ∀ t l, IsReal (x1 (ix4 0 0 t l))) (hM : ∀ g, IsReal (x3 (ix4 0 0 g 0)))
  (hV : ∀ j t, @Eq EReal (x2 (ix5 0 0 j 64 t)) 1) (A : Vec Ideal S80x1024 .f32) (hA : Holds i x0 x1 x2 x3 A 65)

include hw hQ hK hM hV hA in
/-- One part's rows of the final accumulator over its denominator: attention, without the shift. -/
theorem part_value (c : Fin 2) (s : Fin 512) (d : Fin 80) (q : Fin 1024) (hq : q.val = c.val * 512 + s.val) :
    Ideal.div (A (ix2 d q)) (A (ix2 64 q)) = attended (fun x => x2 (ix5 0 0 ⟨x.val / 256, by omega⟩ d ⟨x.val % 256, by omega⟩)) (scores w x0 x1 c s) := by
  rw [hA, hA, added_all, added_all]
  obtain ⟨e, he⟩ := shift_real i x0 x3 hQ hM q
  have score : ∀ x : Fin 16640, ∑ l : Fin 128, x1 (ix4 0 0 x l) * k0_pay5 i x0 (ix2 l q) = scores w x0 x1 c s x := fun x => score_eq i w c hw x0 (fun l => x1 (ix4 0 0 x l)) s q hq
  have real := scores_real w x0 x1 hQ hK c s
  choose y hy using real
  have hs : scores w x0 x1 c s = fun x => (y x : EReal) := funext hy
  simp only [score, he, hV, one_mul]
  rw [hs]
  exact Cert.Proof.Attn.softmax_shift _ y e

include hw hQ hK hM hV hA in
/-- The block that the final accumulator gives. -/
theorem block_value (hv : ∀ j (d : Fin 64) t, IsReal (x2 (ix5 0 0 j ⟨d.val, by omega⟩ t))) (W : Vec Ideal S4x32 .f32) (hW : ∀ a l, IsReal (W (ix2 a l))) (G : Vec Ideal S64x1 .f32) (z : Fin 1) (s : Fin 512) (l : Fin 128) :
    @Eq EReal (k0_pay1 (k0_pay179 A W) (k0_pay180 G) (ix3 z s l))
      (if h : l.val < 64 then normed (fun d => paired (lam W) (fun x => x2 (ix5 0 0 ⟨x.val / 256, by omega⟩ ⟨d.val, by omega⟩ ⟨x.val % 256, by omega⟩)) (scores w x0 x1 0 s) (scores w x0 x1 1 s))
        (fun d => G (ix2 d 0)) ⟨l.val, h⟩ else 0) := by
  rw [out_apply]
  have hs := s.isLt
  refine congrArg (fun o : Fin 64 → EReal => if h : l.val < 64 then normed o (fun d => G (ix2 d 0)) ⟨l.val, h⟩ else 0) (funext fun d => ?_)
  rw [part_value i w hw x0 x1 x2 x3 hQ hK hM hV A hA 0 s _ ⟨s.val, by omega⟩ (by show s.val = 0 * 512 + s.val; omega),
    part_value i w hw x0 x1 x2 x3 hQ hK hM hV A hA 1 s _ ⟨512 + s.val, by omega⟩ (by show 512 + s.val = 1 * 512 + s.val; omega)]
  exact attended_sub _ _ _ _ (lam_real W hW) (fun k => hv _ _ _) (scores_real w x0 x1 hQ hK 0 s) (scores_real w x0 x1 hQ hK 1 s)

end

end Cert.Proof.Diff

end
-- ==== Proof.DiffBlocks.lean ====
/-
  The blocks a grid point of the differential attention call finds, as entries of the arrays.
-/
module

public import proofs.«01_k».proof.Proof.DiffOut

@[expose] public section

noncomputable section

namespace Cert.Proof.Diff

open Cert.Kernel5Ideal Cert.Kernel5Ideal.Gen
open Cert.Proof.Comb (zeros2 zeros3)
open Idealize.ShloMosaic Idealize.ShloMosaic.TcCoe Idealize.SL.Sem

set_option maxRecDepth 16384

variable (m : (ℓ : Loc nD τ sig) → Buf (Elt Ideal) ℓ) (c : Dev nD)

/-! ## Where a point's blocks lie -/

theorem head : ∀ t : Fin grid0.N, (grid0.coords t 1).val = t.val / 32 % 4 := by decide +kernel
theorem map0 : ∀ t : Fin grid0.N, cc0_transform_0 (grid0.coords t) 0 = t.val / 128 ∧ cc0_transform_0 (grid0.coords t) 1 = t.val / 32 % 4 / 2 ∧ cc0_transform_0 (grid0.coords t) 2 = 0 ∧ cc0_transform_0 (grid0.coords t) 3 = t.val % 32 := by
  decide +kernel
theorem map1 : ∀ t : Fin grid0.N, cc0_transform_1 (grid0.coords t) 0 = t.val / 128 ∧ cc0_transform_1 (grid0.coords t) 1 = t.val / 32 % 4 / 2 ∧ cc0_transform_1 (grid0.coords t) 2 = 0 ∧ cc0_transform_1 (grid0.coords t) 3 = 0 := by
  decide +kernel
theorem map2 : ∀ t : Fin grid0.N, cc0_transform_2 (grid0.coords t) 0 = t.val / 128 ∧ cc0_transform_2 (grid0.coords t) 1 = t.val / 32 % 4 ∧ cc0_transform_2 (grid0.coords t) 2 = 0 ∧ cc0_transform_2 (grid0.coords t) 3 = 0 ∧ cc0_transform_2 (grid0.coords t) 4 = 0 := by
  decide +kernel
theorem map3 : ∀ t : Fin grid0.N, cc0_transform_3 (grid0.coords t) 0 = t.val / 128 ∧ cc0_transform_3 (grid0.coords t) 1 = t.val / 32 % 4 ∧ cc0_transform_3 (grid0.coords t) 2 = 0 ∧ cc0_transform_3 (grid0.coords t) 3 = 0 := by
  decide +kernel
theorem map4 : ∀ t : Fin grid0.N, cc0_transform_4 (grid0.coords t) 0 = 0 ∧ cc0_transform_4 (grid0.coords t) 1 = 0 := by
  decide +kernel
theorem map5 : ∀ t : Fin grid0.N, cc0_transform_5 (grid0.coords t) 0 = 0 ∧ cc0_transform_5 (grid0.coords t) 1 = 0 := by
  decide +kernel
theorem map6 : ∀ t : Fin grid0.N, cc0_transform_6 (grid0.coords t) 0 = t.val / 128 ∧ cc0_transform_6 (grid0.coords t) 1 = t.val % 32 ∧ cc0_transform_6 (grid0.coords t) 2 = t.val / 32 % 4 := by
  decide +kernel

/-! ## The arguments' blocks -/

theorem blk0 (t : Fin grid0.N) (l : Fin 128) (r : Fin 512) (b u : Fin 2) (s : Fin 16384) (hb : b.val = t.val / 128) (hu : u.val = t.val / 32 % 4 / 2) (hs : s.val = t.val % 32 * 512 + r.val) :
    iblk m c 0 t (ix4 0 0 l r) = (m ((c.tc : Thread nD τ).loc main_arg0) : S2x2x128x16384.Idx → EReal) (ix4 b u l s) := by
  refine (congrFun (V_main_arg0 m c) _).trans (congrArg (m ((c.tc : Thread nD τ).loc main_arg0) : S2x2x128x16384.Idx → EReal) (funext fun a => Fin.ext ?_))
  match a with
  | ⟨0, _⟩ => show cc0_transform_0 (grid0.coords t) 0 * 1 + 1 * 0 = b.val; rw [(map0 t).1]; omega
  | ⟨1, _⟩ => show cc0_transform_0 (grid0.coords t) 1 * 1 + 1 * 0 = u.val; rw [(map0 t).2.1]; omega
  | ⟨2, _⟩ => show cc0_transform_0 (grid0.coords t) 2 * 128 + 1 * l.val = l.val; rw [(map0 t).2.2.1]; omega
  | ⟨3, _⟩ => show cc0_transform_0 (grid0.coords t) 3 * 512 + 1 * r.val = s.val; rw [(map0 t).2.2.2]; omega

theorem blk1 (t : Fin grid0.N) (x : Fin 16640) (l : Fin 128) (b u : Fin 2) (hb : b.val = t.val / 128) (hu : u.val = t.val / 32 % 4 / 2) :
    iblk m c 1 t (ix4 0 0 x l) = (m ((c.tc : Thread nD τ).loc main_arg1) : S2x2x16640x128.Idx → EReal) (ix4 b u x l) := by
  refine (congrFun (V_main_arg1 m c) _).trans (congrArg (m ((c.tc : Thread nD τ).loc main_arg1) : S2x2x16640x128.Idx → EReal) (funext fun a => Fin.ext ?_))
  match a with
  | ⟨0, _⟩ => show cc0_transform_1 (grid0.coords t) 0 * 1 + 1 * 0 = b.val; rw [(map1 t).1]; omega
  | ⟨1, _⟩ => show cc0_transform_1 (grid0.coords t) 1 * 1 + 1 * 0 = u.val; rw [(map1 t).2.1]; omega
  | ⟨2, _⟩ => show cc0_transform_1 (grid0.coords t) 2 * 16640 + 1 * x.val = x.val; rw [(map1 t).2.2.1]; omega
  | ⟨3, _⟩ => show cc0_transform_1 (grid0.coords t) 3 * 128 + 1 * l.val = l.val; rw [(map1 t).2.2.2]; omega

theorem blk2 (t : Fin grid0.N) (j : Fin 65) (r : Fin 80) (x : Fin 256) (b : Fin 2) (u : Fin 4) (hb : b.val = t.val / 128) (hu : u.val = t.val / 32 % 4) :
    iblk m c 2 t (ix5 0 0 j r x) = (m ((c.tc : Thread nD τ).loc main_arg2) : S2x4x65x80x256.Idx → EReal) (ix5 b u j r x) := by
  refine (congrFun (V_main_arg2 m c) _).trans (congrArg (m ((c.tc : Thread nD τ).loc main_arg2) : S2x4x65x80x256.Idx → EReal) (funext fun a => Fin.ext ?_))
  match a with
  | ⟨0, _⟩ => show cc0_transform_2 (grid0.coords t) 0 * 1 + 1 * 0 = b.val; rw [(map2 t).1]; omega
  | ⟨1, _⟩ => show cc0_transform_2 (grid0.coords t) 1 * 1 + 1 * 0 = u.val; rw [(map2 t).2.1]; omega
  | ⟨2, _⟩ => show cc0_transform_2 (grid0.coords t) 2 * 65 + 1 * j.val = j.val; rw [(map2 t).2.2.1]; omega
  | ⟨3, _⟩ => show cc0_transform_2 (grid0.coords t) 3 * 80 + 1 * r.val = r.val; rw [(map2 t).2.2.2.1]; omega
  | ⟨4, _⟩ => show cc0_transform_2 (grid0.coords t) 4 * 256 + 1 * x.val = x.val; rw [(map2 t).2.2.2.2]; omega

theorem blk3 (t : Fin grid0.N) (g : Fin 2) (l : Fin 128) (b : Fin 2) (u : Fin 4) (hb : b.val = t.val / 128) (hu : u.val = t.val / 32 % 4) :
    iblk m c 3 t (ix4 0 0 g l) = (m ((c.tc : Thread nD τ).loc main_arg3) : S2x4x2x128.Idx → EReal) (ix4 b u g l) := by
  refine (congrFun (V_main_arg3 m c) _).trans (congrArg (m ((c.tc : Thread nD τ).loc main_arg3) : S2x4x2x128.Idx → EReal) (funext fun a => Fin.ext ?_))
  match a with
  | ⟨0, _⟩ => show cc0_transform_3 (grid0.coords t) 0 * 1 + 1 * 0 = b.val; rw [(map3 t).1]; omega
  | ⟨1, _⟩ => show cc0_transform_3 (grid0.coords t) 1 * 1 + 1 * 0 = u.val; rw [(map3 t).2.1]; omega
  | ⟨2, _⟩ => show cc0_transform_3 (grid0.coords t) 2 * 2 + 1 * g.val = g.val; rw [(map3 t).2.2.1]; omega
  | ⟨3, _⟩ => show cc0_transform_3 (grid0.coords t) 3 * 128 + 1 * l.val = l.val; rw [(map3 t).2.2.2]; omega

theorem blk4 (t : Fin grid0.N) (x : Fin 4) (l : Fin 32) :
    iblk m c 4 t (ix2 x l) = (m ((c.tc : Thread nD τ).loc main_arg4) : S4x32.Idx → EReal) (ix2 x l) := by
  refine (congrFun (V_main_arg4 m c) _).trans (congrArg (m ((c.tc : Thread nD τ).loc main_arg4) : S4x32.Idx → EReal) (funext fun a => Fin.ext ?_))
  match a with
  | ⟨0, _⟩ => show cc0_transform_4 (grid0.coords t) 0 * 4 + 1 * x.val = x.val; rw [(map4 t).1]; omega
  | ⟨1, _⟩ => show cc0_transform_4 (grid0.coords t) 1 * 32 + 1 * l.val = l.val; rw [(map4 t).2]; omega

theorem blk5 (t : Fin grid0.N) (d : Fin 64) (z : Fin 1) :
    iblk m c 5 t (ix2 d z) = (m ((c.tc : Thread nD τ).loc main_arg5) : S64x1.Idx → EReal) (ix2 d z) := by
  refine (congrFun (V_main_arg5 m c) _).trans (congrArg (m ((c.tc : Thread nD τ).loc main_arg5) : S64x1.Idx → EReal) (funext fun a => Fin.ext ?_))
  match a with
  | ⟨0, _⟩ => show cc0_transform_5 (grid0.coords t) 0 * 64 + 1 * d.val = d.val; rw [(map5 t).1]; omega
  | ⟨1, _⟩ => show cc0_transform_5 (grid0.coords t) 1 * 1 + 1 * z.val = z.val; rw [(map5 t).2]; omega

/-- Where entry `(0, r, l)` of a point's block lies in the result. -/
theorem emb6 (t : Fin grid0.N) (z : Fin 1) (r : Fin 512) (l : Fin 128) (b : Fin 2) (s : Fin 16384) (j : Fin 512) (hb : b.val = t.val / 128)
    (hs : s.val = t.val % 32 * 512 + r.val) (hj : j.val = t.val / 32 % 4 * 128 + l.val) :
    ((cfg0.win 6).blk t).view.emb (ix3 z r l : S1x512x128.Idx) = (ix3 b s j : S2x16384x512.Idx) := by
  refine funext fun a => Fin.ext ?_
  match a with
  | ⟨0, _⟩ => show cc0_transform_6 (grid0.coords t) 0 * 1 + 1 * z.val = b.val; rw [(map6 t).1]; omega
  | ⟨1, _⟩ => show cc0_transform_6 (grid0.coords t) 1 * 512 + 1 * r.val = s.val; rw [(map6 t).2.1]; omega
  | ⟨2, _⟩ => show cc0_transform_6 (grid0.coords t) 2 * 128 + 1 * l.val = j.val; rw [(map6 t).2.2]; omega

/-! ## What the body leaves in its block -/

section
variable [∀ e, Nonempty (Elt Ideal e)]

variable (arg3 : Memref sig .tc .vmem S1x1x128x512 .bf16) (harg3 : arg3.IsWhole)
variable (arg4 : Memref sig .tc .vmem S1x1x16640x128 .bf16) (harg4 : arg4.IsWhole)
variable (arg5 : Memref sig .tc .vmem S1x1x65x80x256 .bf16) (harg5 : arg5.IsWhole)
variable (arg6 : Memref sig .tc .vmem S1x1x2x128 .f32) (harg6 : arg6.IsWhole)
variable (arg7 : Memref sig .tc .vmem S4x32 .f32) (harg7 : arg7.IsWhole)
variable (arg8 : Memref sig .tc .vmem S64x1 .f32) (harg8 : arg8.IsWhole)
variable (arg9 : Memref sig .tc .vmem S1x512x128 .bf16) (harg9 : arg9.IsWhole)
variable (arg10 : Memref sig .tc .vmem S1x1x2x512 .f32) (harg10 : arg10.IsWhole)
variable (arg11 : Memref sig .tc .vmem S2x256x1024 .bf16) (harg11 : arg11.IsWhole)
variable (arg12 : Memref sig .tc .vmem S80x1024 .f32) (harg12 : arg12.IsWhole)
variable (x0 : Vec Ideal S1x1x128x512 .bf16) (x1 : Vec Ideal S1x1x16640x128 .bf16) (x2 : Vec Ideal S1x1x65x80x256 .bf16) (x3 : Vec Ideal S1x1x2x128 .f32) (x4 : Vec Ideal S4x32 .f32) (x5 : Vec Ideal S64x1 .f32)

/-- The body's one store to its result block: all of it, with the normed difference of the two quotients. -/
theorem pieces (i : grid0.Coords) : (kernelRun0_A (F := Ideal) c i arg3 harg3 arg4 harg4 arg5 harg5 arg6 harg6 arg7 harg7 arg8 harg8 arg9 harg9 arg10 harg10 arg11 harg11 arg12 harg12 x0 x1 x2 x3 x4 x5).1
    = [⟨Rect.unit ![0, 0, 0] S1x512x128.size (by decide), k0_pay1 (kernelRun0_A.sl.r_38 (F := Ideal) c i arg3 harg3 arg4 harg4 arg5 harg5 arg6 harg6 arg7 harg7 arg11 arg12 x0 x1 x2 x3 x4) (kernelRun0_A.sl.r_39 (F := Ideal) c arg8 harg8 x5)⟩] := rfl

theorem out_eq (i : grid0.Coords) : out0_A_6 (F := Ideal) c i arg3 harg3 arg4 harg4 arg5 harg5 arg6 harg6 arg7 harg7 arg8 harg8 arg9 harg9 arg10 harg10 arg11 harg11 arg12 harg12 x0 x1 x2 x3 x4 x5
    = k0_pay1 (k0_pay179 (kernelRun0_A.sl.v1901 (F := Ideal) c i arg3 harg3 arg4 harg4 arg5 harg5 arg6 harg6 arg11 arg12 x0 x1 x2 x3) x4) (k0_pay180 x5) := by
  unfold out0_A_6
  rw [View.read_writes_junk_eq_canon, pieces, View.canon_cons_unit_zero zeros3, kernelRun0_A.sl.r_38, kernelRun0_A.sl.r_39]
  rw [View.readAt_eq_ld, View.readAt_eq_ld, Memref.IsWhole.read_unread, Memref.IsWhole.read_unread, View.ld_unit_zero zeros2, View.ld_unit_zero zeros2]

/-- The block is that of the final accumulator, which holds the sum over all keys. -/
theorem left_by_body (t : Fin cfg0.N) : ∃ A : Vec Ideal S80x1024 .f32, Holds (grid0.coords t) (iblk m c 0 t) (iblk m c 1 t) (iblk m c 2 t) (iblk m c 3 t) A 65
    ∧ (outsAt0 m c t).1 = k0_pay1 (k0_pay179 A (iblk m c 4 t)) (k0_pay180 (iblk m c 5 t)) := by
  refine ⟨kernelRun0_A.sl.v1901 (F := Ideal) c (grid0.coords t) (ms0_0 t) (hs0_0 t) (ms0_1 t) (hs0_1 t) (ms0_2 t) (hs0_2 t) (ms0_3 t) (hs0_3 t) scM0_0 scM0_1
    (iblk m c 0 t) (iblk m c 1 t) (iblk m c 2 t) (iblk m c 3 t), acc_1901 _ _ _ _ _ _ _ _ _ _ _ _ _ _ _ _, ?_⟩
  unfold outsAt0
  dsimp only
  rw [out_eq]

end

end Cert.Proof.Diff

end
-- ==== Proof.DiffRef.lean ====
/-
  The reference of the differential attention call, read at an index.
-/
module

public import proofs.«01_k».proof.Proof.DiffOut
public import proofs.«01_k».proof.Proof.Gen.Reference5Ideal.Run
public import Idealize.ShloMosaic.Lib.ValueIdxRank6

@[expose] public section

noncomputable section

namespace Cert.Proof.Diff

open Cert.Reference5Ideal Cert.Reference5Ideal.Gen
open Idealize.ShloMosaic Idealize.ShloMosaic.TcCoe Idealize.SL.Sem

set_option maxRecDepth 16384

/-- Two to the power of each score. -/
def weights (a0 : FVec Ideal S2x2x128x16384 .bf16) (a1 : FVec Ideal S2x2x16640x128 .bf16) : FVec Ideal S2x2x2x2x16384x16640 .f32 :=
  Host.powf (broadcastInDim S2x2x2x2x16384x16640 ![] bcast_S_S2x2x2x2x16384x16640 (constant S_ .f32 0x40000000#32)) (Host.dotGeneral dot_S2x2x2x2x32x16384_S2x2x16640x2x2x32_S2x2x2x2x16384x16640_4_5_5_2_0123_0134 none (extf .f32 (shapeCast _ a0 shapeCasts_S2x2x128x16384_S2x2x2x2x32x16384) bitsLt_bf16_f32) (extf .f32 (shapeCast _ a1 shapeCasts_S2x2x16640x128_S2x2x16640x2x2x32) bitsLt_bf16_f32))

/-- Each score's share of its row. -/
def shares (a0 : FVec Ideal S2x2x128x16384 .bf16) (a1 : FVec Ideal S2x2x16640x128 .bf16) : FVec Ideal S2x2x2x2x16384x16640 .f32 :=
  Host.divf (weights a0 a1) (broadcastInDim S2x2x2x2x16384x16640 ![0, 1, 2, 3, 4, 5] bcast_S2x2x2x2x16384x1_S2x2x2x2x16384x16640_0_1_2_3_4_5 (broadcastInDim S2x2x2x2x16384x1 ![0, 1, 2, 3, 4] bcast_S2x2x2x2x16384_S2x2x2x2x16384x1_0_1_2_3_4 (Host.reduceAdd (weights a0 a1) (constant S_ .f32 0x00000000#32) reducesTo_S2x2x2x2x16384x16640_S2x2x2x2x16384_d5 h_S_)))

/-- The weight of the second attention. -/
def factor (a4 : FVec Ideal S4x32 .f32) : FVec Ideal S_ .f32 :=
  addf (subf (Host.exp (Host.reduceAdd (mulf (shapeCast _ (extractStridedSlice S1x32 ![0, 0] a4 slices_S4x32_S1x32_0_0) shapeCasts_S1x32_S32) (shapeCast _ (extractStridedSlice S1x32 ![1, 0] a4 slices_S4x32_S1x32_1_0) shapeCasts_S1x32_S32)) (constant S_ .f32 0x00000000#32) reducesTo_S32_S_d0 h_S_)) (Host.exp (Host.reduceAdd (mulf (shapeCast _ (extractStridedSlice S1x32 ![2, 0] a4 slices_S4x32_S1x32_2_0) shapeCasts_S1x32_S32) (shapeCast _ (extractStridedSlice S1x32 ![3, 0] a4 slices_S4x32_S1x32_3_0) shapeCasts_S1x32_S32)) (constant S_ .f32 0x00000000#32) reducesTo_S32_S_d0 h_S_))) (constant S_ .f32 0x3E4CCCCD#32)

/-- The shares of each head's first part. -/
def first (a0 : FVec Ideal S2x2x128x16384 .bf16) (a1 : FVec Ideal S2x2x16640x128 .bf16) : FVec Ideal S2x2x2x16384x16640 .f32 :=
  shapeCast _ (extractStridedSlice S2x2x2x1x16384x16640 ![0, 0, 0, 0, 0, 0] (shares a0 a1) slices_S2x2x2x2x16384x16640_S2x2x2x1x16384x16640_0_0_0_0_0_0) shapeCasts_S2x2x2x1x16384x16640_S2x2x2x16384x16640

/-- The shares of each head's second part. -/
def second (a0 : FVec Ideal S2x2x128x16384 .bf16) (a1 : FVec Ideal S2x2x16640x128 .bf16) : FVec Ideal S2x2x2x16384x16640 .f32 :=
  shapeCast _ (extractStridedSlice S2x2x2x1x16384x16640 ![0, 0, 0, 1, 0, 0] (shares a0 a1) slices_S2x2x2x2x16384x16640_S2x2x2x1x16384x16640_0_0_0_1_0_0) shapeCasts_S2x2x2x1x16384x16640_S2x2x2x16384x16640

/-- The values, row by row, as they are stored. -/
def stored (a2 : FVec Ideal S2x4x65x80x256 .bf16) : FVec Ideal S2x2x2x16640x64 .bf16 :=
  shapeCast _ (transpose S2x4x65x256x64 [0, 1, 2, 4, 3] (extractStridedSlice S2x4x65x64x256 ![0, 0, 0, 0, 0] a2 slices_S2x4x65x80x256_S2x4x65x64x256_0_0_0_0_0) transposes_S2x4x65x64x256_S2x4x65x256x64_0_1_2_4_3) shapeCasts_S2x4x65x256x64_S2x2x2x16640x64

/-- The values, row by row. -/
def vals (a2 : FVec Ideal S2x4x65x80x256 .bf16) : FVec Ideal S2x2x2x16640x64 .f32 :=
  extf .f32 (stored a2) bitsLt_bf16_f32

/-- The shares of the first part, less the weighted ones of the second. -/
def mixed (a0 : FVec Ideal S2x2x128x16384 .bf16) (a1 : FVec Ideal S2x2x16640x128 .bf16) (a4 : FVec Ideal S4x32 .f32) : FVec Ideal S2x2x2x16384x16640 .f32 :=
  subf (first a0 a1) (mulf (broadcastInDim S2x2x2x16384x16640 ![] bcast_S_S2x2x2x16384x16640 (factor a4)) (second a0 a1))

/-- The heads' rows before the norm. -/
def heads (a0 : FVec Ideal S2x2x128x16384 .bf16) (a1 : FVec Ideal S2x2x16640x128 .bf16) (a2 : FVec Ideal S2x4x65x80x256 .bf16) (a4 : FVec Ideal S4x32 .f32) : FVec Ideal S2x16384x2x2x64 .f32 :=
  transpose S2x16384x2x2x64 [0, 4, 1, 2, 3] (Host.dotGeneral dot_S2x2x2x16640x64_S2x2x2x16384x16640_S2x2x2x64x16384_3_4_4_3_012_012 none (vals a2) (mixed a0 a1 a4)) transposes_S2x2x2x64x16384_S2x16384x2x2x64_0_4_1_2_3

/-- The heads' rows after the norm. -/
def rows (a0 : FVec Ideal S2x2x128x16384 .bf16) (a1 : FVec Ideal S2x2x16640x128 .bf16) (a2 : FVec Ideal S2x4x65x80x256 .bf16) (a4 : FVec Ideal S4x32 .f32) (a5 : FVec Ideal S64x1 .f32) : FVec Ideal S2x16384x2x2x64 .f32 :=
  mulf (mulf (mulf (heads a0 a1 a2 a4) (broadcastInDim S2x16384x2x2x64 ![0, 1, 2, 3, 4] bcast_S2x16384x2x2x1_S2x16384x2x2x64_0_1_2_3_4 (Host.rsqrt (addf (Host.divf (broadcastInDim S2x16384x2x2x1 ![0, 1, 2, 3] bcast_S2x16384x2x2_S2x16384x2x2x1_0_1_2_3 (Host.reduceAdd (mulf (heads a0 a1 a2 a4) (heads a0 a1 a2 a4)) (constant S_ .f32 0x00000000#32) reducesTo_S2x16384x2x2x64_S2x16384x2x2_d4 h_S_)) (broadcastInDim S2x16384x2x2x1 ![] bcast_S_S2x16384x2x2x1 (constant S_ .f32 0x42800000#32))) (broadcastInDim S2x16384x2x2x1 ![] bcast_S_S2x16384x2x2x1 (constant S_ .f32 0x358637BD#32)))))) (broadcastInDim S2x16384x2x2x64 ![0, 1, 2, 3, 4] bcast_S1x1x1x1x64_S2x16384x2x2x64_0_1_2_3_4 (broadcastInDim S1x1x1x1x64 ![4] bcast_S64_S1x1x1x1x64_4 (shapeCast _ a5 shapeCasts_S64x1_S64)))) (broadcastInDim S2x16384x2x2x64 ![] bcast_S_S2x16384x2x2x64 (constant S_ .f32 0x3F4CCCCD#32))

/-- The rows with zeros in the upper lanes. -/
def padded (a0 : FVec Ideal S2x2x128x16384 .bf16) (a1 : FVec Ideal S2x2x16640x128 .bf16) (a2 : FVec Ideal S2x4x65x80x256 .bf16) (a4 : FVec Ideal S4x32 .f32) (a5 : FVec Ideal S64x1 .f32) : FVec Ideal S2x16384x2x2x128 .f32 :=
  concatenate S2x16384x2x2x128 4 [⟨S2x16384x2x2x64, (rows a0 a1 a2 a4 a5)⟩, ⟨S2x16384x2x2x64, (broadcastInDim S2x16384x2x2x64 ![] bcast_S_S2x16384x2x2x64 (constant S_ .f32 0x00000000#32))⟩] concatenates_S2x16384x2x2x64_S2x16384x2x2x64_S2x16384x2x2x128_d4

/-- The rows, head after head. -/
def flat (a0 : FVec Ideal S2x2x128x16384 .bf16) (a1 : FVec Ideal S2x2x16640x128 .bf16) (a2 : FVec Ideal S2x4x65x80x256 .bf16) (a4 : FVec Ideal S4x32 .f32) (a5 : FVec Ideal S64x1 .f32) : FVec Ideal S2x16384x512 .f32 :=
  shapeCast _ (padded a0 a1 a2 a4 a5) shapeCasts_S2x16384x2x2x128_S2x16384x512

/-- The reference's result of its arguments. -/
def ref (a0 : FVec Ideal S2x2x128x16384 .bf16) (a1 : FVec Ideal S2x2x16640x128 .bf16) (a2 : FVec Ideal S2x4x65x80x256 .bf16) (a4 : FVec Ideal S4x32 .f32) (a5 : FVec Ideal S64x1 .f32) : FVec Ideal S2x16384x512 .bf16 :=
  truncf .bf16 (flat a0 a1 a2 a4 a5) bitsLt_bf16_f32

theorem ref_congr {a0 b0 : FVec Ideal S2x2x128x16384 .bf16} {a1 b1 : FVec Ideal S2x2x16640x128 .bf16} {a2 b2 : FVec Ideal S2x4x65x80x256 .bf16} {a4 b4 : FVec Ideal S4x32 .f32} {a5 b5 : FVec Ideal S64x1 .f32}
    (e0 : a0 = b0) (e1 : a1 = b1) (e2 : a2 = b2) (e4 : a4 = b4) (e5 : a5 = b5) : ref a0 a1 a2 a4 a5 = ref b0 b1 b2 b4 b5 := by rw [e0, e1, e2, e4, e5]

/-- The scores of part `c` of value head `2 * u + h`. -/
def score (a0 : S2x2x128x16384.Idx → EReal) (a1 : S2x2x16640x128.Idx → EReal) (b u h c : Fin 2) (s : Fin 16384) (x : Fin 16640) : EReal :=
  ∑ t : Fin 32, a0 (ix4 b u ⟨h.val * 64 + c.val * 32 + t.val, by omega⟩ s) * a1 (ix4 b u x ⟨h.val * 64 + c.val * 32 + t.val, by omega⟩)

theorem weights_apply (a0 : S2x2x128x16384.Idx → EReal) (a1 : S2x2x16640x128.Idx → EReal) (b u h c : Fin 2) (s : Fin 16384) (x : Fin 16640) :
    @Eq EReal (weights a0 a1 (ix6 b u h c s x)) (Ideal.pow ((2 : ℝ) : EReal) (score a0 a1 b u h c s x)) := by
  unfold weights
  clean_types
  pointwise
  simp only [Cert.Proof.Attn.two_bits]
  rfl

/-- A sum over the last of six axes. -/
theorem sum_last (hr : S2x2x2x2x16384x16640.ReducesTo [5] S2x2x2x2x16384) (v : S2x2x2x2x16384x16640.Idx → EReal) (b u h c : Fin 2) (s : Fin 16384) :
    Ideal.hostReduceAdd hr v 0 (ix5 b u h c s) = ∑ k : Fin 16640, v (ix6 b u h c s k) := by
  have hd : S2x2x2x2x16384x16640.Reduces [5] S2x2x2x2x16384 := ⟨hr.1, by decide, hr.2⟩
  rw [Ideal.hostReduceAdd_single hr hd, zero_add]
  refine Finset.sum_congr rfl fun k _ => congrArg v (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

theorem shares_apply (a0 : S2x2x128x16384.Idx → EReal) (a1 : S2x2x16640x128.Idx → EReal) (b u h c : Fin 2) (s : Fin 16384) (x : Fin 16640) :
    @Eq EReal (shares a0 a1 (ix6 b u h c s x)) (share (score a0 a1 b u h c s) x) := by
  unfold shares
  clean_types
  pointwise
  rw [weights_apply, sum_last]
  unfold share
  exact congrArg (Ideal.div _) (Finset.sum_congr rfl fun k _ => weights_apply a0 a1 b u h c s k)

theorem factor_apply (a4 : S4x32.Idx → EReal) (i : S_.Idx) : @Eq EReal (factor a4 i) (lam a4) := by
  unfold factor
  clean_types
  pointwise
  rfl

theorem first_apply (a0 : S2x2x128x16384.Idx → EReal) (a1 : S2x2x16640x128.Idx → EReal) (b u h : Fin 2) (s : Fin 16384) (x : Fin 16640) : @Eq EReal (first a0 a1 (ix5 b u h s x)) (share (score a0 a1 b u h 0 s) x) := by
  unfold first
  clean_types
  refine (shapeCast_apply _ _ _ (ix6 b u h 0 s x : S2x2x2x1x16384x16640.Idx) ?_).trans ((extractStridedSlice_apply _ _ _ _ (ix6 b u h 0 s x : S2x2x2x2x16384x16640.Idx) fun a => ?_).trans (shares_apply a0 a1 b u h 0 s x))
  · rw [Shape.rowMajor_val_six, Shape.rowMajor_val_five]
    show ((((b.val * 2 + u.val) * 2 + h.val) * 1 + 0) * 16384 + s.val) * 16640 + x.val = (((b.val * 2 + u.val) * 2 + h.val) * 16384 + s.val) * 16640 + x.val
    omega
  · match a with
    | ⟨0, _⟩ => show b.val = 0 + b.val; omega
    | ⟨1, _⟩ => show u.val = 0 + u.val; omega
    | ⟨2, _⟩ => show h.val = 0 + h.val; omega
    | ⟨3, _⟩ => rfl
    | ⟨4, _⟩ => show s.val = 0 + s.val; omega
    | ⟨5, _⟩ => show x.val = 0 + x.val; omega

theorem second_apply (a0 : S2x2x128x16384.Idx → EReal) (a1 : S2x2x16640x128.Idx → EReal) (b u h : Fin 2) (s : Fin 16384) (x : Fin 16640) : @Eq EReal (second a0 a1 (ix5 b u h s x)) (share (score a0 a1 b u h 1 s) x) := by
  unfold second
  clean_types
  refine (shapeCast_apply _ _ _ (ix6 b u h 0 s x : S2x2x2x1x16384x16640.Idx) ?_).trans ((extractStridedSlice_apply _ _ _ _ (ix6 b u h 1 s x : S2x2x2x2x16384x16640.Idx) fun a => ?_).trans (shares_apply a0 a1 b u h 1 s x))
  · rw [Shape.rowMajor_val_six, Shape.rowMajor_val_five]
    show ((((b.val * 2 + u.val) * 2 + h.val) * 1 + 0) * 16384 + s.val) * 16640 + x.val = (((b.val * 2 + u.val) * 2 + h.val) * 16384 + s.val) * 16640 + x.val
    omega
  · match a with
    | ⟨0, _⟩ => show b.val = 0 + b.val; omega
    | ⟨1, _⟩ => show u.val = 0 + u.val; omega
    | ⟨2, _⟩ => show h.val = 0 + h.val; omega
    | ⟨3, _⟩ => rfl
    | ⟨4, _⟩ => show s.val = 0 + s.val; omega
    | ⟨5, _⟩ => show x.val = 0 + x.val; omega

theorem stored_apply (a2 : S2x4x65x80x256.Idx → EReal) (b u h : Fin 2) (x : Fin 16640) (d : Fin 64) :
    @Eq EReal (stored a2 (ix5 b u h x d)) (a2 (ix5 b ⟨u.val * 2 + h.val, by omega⟩ ⟨x.val / 256, by omega⟩ ⟨d.val, by omega⟩ ⟨x.val % 256, by omega⟩)) := by
  unfold stored
  clean_types
  refine (shapeCast_apply _ _ _ (ix5 b ⟨u.val * 2 + h.val, by omega⟩ ⟨x.val / 256, by omega⟩ ⟨x.val % 256, by omega⟩ d : S2x4x65x256x64.Idx) ?_).trans ?_
  · rw [Shape.rowMajor_val_five, Shape.rowMajor_val_five]
    show (((b.val * 4 + (u.val * 2 + h.val)) * 65 + x.val / 256) * 256 + x.val % 256) * 64 + d.val = (((b.val * 2 + u.val) * 2 + h.val) * 16640 + x.val) * 64 + d.val
    omega
  · pointwise

theorem vals_apply (a2 : S2x4x65x80x256.Idx → EReal) (b u h : Fin 2) (x : Fin 16640) (d : Fin 64) :
    @Eq EReal (vals a2 (ix5 b u h x d)) (a2 (ix5 b ⟨u.val * 2 + h.val, by omega⟩ ⟨x.val / 256, by omega⟩ ⟨d.val, by omega⟩ ⟨x.val % 256, by omega⟩)) := by
  refine Eq.trans ?_ (stored_apply a2 b u h x d)
  unfold vals
  rfl

theorem mixed_entry (p q : FVec Ideal S2x2x2x16384x16640 .f32) (w : FVec Ideal S_ .f32) (i : S2x2x2x16384x16640.Idx) (k : S_.Idx) :
    @Eq EReal (subf p (mulf (broadcastInDim S2x2x2x16384x16640 ![] bcast_S_S2x2x2x16384x16640 w) q) i) ((p i : EReal) - (w k : EReal) * (q i : EReal)) :=
  congrArg (fun k => ((p i : EReal) - (w k : EReal) * (q i : EReal))) (funext fun a => a.elim0)

theorem mixed_apply (a0 : S2x2x128x16384.Idx → EReal) (a1 : S2x2x16640x128.Idx → EReal) (a4 : S4x32.Idx → EReal) (b u h : Fin 2) (s : Fin 16384) (x : Fin 16640) :
    @Eq EReal (mixed a0 a1 a4 (ix5 b u h s x)) (share (score a0 a1 b u h 0 s) x - lam a4 * share (score a0 a1 b u h 1 s) x) := by
  rw [← first_apply, ← second_apply, ← factor_apply a4 (fun a => a.elim0)]
  unfold mixed
  exact mixed_entry _ _ _ _ _

theorem heads_apply (a0 : S2x2x128x16384.Idx → EReal) (a1 : S2x2x16640x128.Idx → EReal) (a2 : S2x4x65x80x256.Idx → EReal) (a4 : S4x32.Idx → EReal) (b : Fin 2) (s : Fin 16384) (u h : Fin 2) (d : Fin 64) :
    @Eq EReal (heads a0 a1 a2 a4 (ix5 b s u h d)) (paired (lam a4) (fun x => a2 (ix5 b ⟨u.val * 2 + h.val, by omega⟩ ⟨x.val / 256, by omega⟩ ⟨d.val, by omega⟩ ⟨x.val % 256, by omega⟩))
      (score a0 a1 b u h 0 s) (score a0 a1 b u h 1 s)) := by
  refine Eq.trans (b := ∑ x : Fin 16640, vals a2 (ix5 b u h x d) * mixed a0 a1 a4 (ix5 b u h s x)) ?_ ?_
  · unfold heads
    clean_types
    pointwise
  · unfold paired
    exact Finset.sum_congr rfl fun x _ => by rw [vals_apply, mixed_apply]

theorem rows_apply (a0 : S2x2x128x16384.Idx → EReal) (a1 : S2x2x16640x128.Idx → EReal) (a2 : S2x4x65x80x256.Idx → EReal) (a4 : S4x32.Idx → EReal) (a5 : S64x1.Idx → EReal) (b : Fin 2) (s : Fin 16384) (u h : Fin 2) (d : Fin 64) :
    @Eq EReal (rows a0 a1 a2 a4 a5 (ix5 b s u h d)) (normed (fun d => heads a0 a1 a2 a4 (ix5 b s u h d)) (fun d => a5 (ix2 d 0)) d) := by
  unfold rows
  clean_types
  pointwise
  rfl

theorem padded_apply (a0 : S2x2x128x16384.Idx → EReal) (a1 : S2x2x16640x128.Idx → EReal) (a2 : S2x4x65x80x256.Idx → EReal) (a4 : S4x32.Idx → EReal) (a5 : S64x1.Idx → EReal) (b : Fin 2) (s : Fin 16384) (u h : Fin 2) (l : Fin 128) :
    @Eq EReal (padded a0 a1 a2 a4 a5 (ix5 b s u h l)) (if g : l.val < 64 then rows a0 a1 a2 a4 a5 (ix5 b s u h ⟨l.val, g⟩) else 0) := by
  unfold padded
  clean_types
  pointwise
  try rfl

theorem flat_apply (a0 : S2x2x128x16384.Idx → EReal) (a1 : S2x2x16640x128.Idx → EReal) (a2 : S2x4x65x80x256.Idx → EReal) (a4 : S4x32.Idx → EReal) (a5 : S64x1.Idx → EReal) (b : Fin 2) (s : Fin 16384) (j : Fin 512) :
    @Eq EReal (flat a0 a1 a2 a4 a5 (ix3 b s j)) (padded a0 a1 a2 a4 a5 (ix5 b s ⟨j.val / 256, by omega⟩ ⟨j.val / 128 % 2, by omega⟩ ⟨j.val % 128, by omega⟩)) := by
  have hj := j.isLt
  unfold flat
  clean_types
  refine shapeCast_apply _ _ _ (ix5 b s ⟨j.val / 256, by omega⟩ ⟨j.val / 128 % 2, by omega⟩ ⟨j.val % 128, by omega⟩ : S2x16384x2x2x128.Idx) ?_
  rw [Shape.rowMajor_val_five, Shape.rowMajor_val_three]
  show (((b.val * 16384 + s.val) * 2 + j.val / 256) * 2 + j.val / 128 % 2) * 128 + j.val % 128 = (b.val * 16384 + s.val) * 512 + j.val
  omega

theorem rounded_entry (x : FVec Ideal S2x16384x512 .f32) (i : S2x16384x512.Idx) : @Eq EReal (truncf .bf16 x bitsLt_bf16_f32 i) (x i) := rfl

/-- Entry `(b, s, j)` of the reference: lane `j % 128` of value head `j / 128`. -/
theorem ref_apply (a0 : S2x2x128x16384.Idx → EReal) (a1 : S2x2x16640x128.Idx → EReal) (a2 : S2x4x65x80x256.Idx → EReal) (a4 : S4x32.Idx → EReal) (a5 : S64x1.Idx → EReal) (b : Fin 2) (s : Fin 16384) (j : Fin 512) :
    @Eq EReal (ref a0 a1 a2 a4 a5 (ix3 b s j)) (padded a0 a1 a2 a4 a5 (ix5 b s ⟨j.val / 256, by omega⟩ ⟨j.val / 128 % 2, by omega⟩ ⟨j.val % 128, by omega⟩)) := by
  rw [← flat_apply]
  unfold ref
  exact rounded_entry _ _

/-- The value the reference's run ends with. -/
theorem res_eq (m : (ℓ : Loc nD τ sig) → Buf (Elt Ideal) ℓ) (c : Dev nD) :
    Value.res_main_v59 m c = ref (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)) := by
  unfold Value.res_main_v59 ref flat padded rows heads mixed vals stored second first factor shares weights
  rfl

end Cert.Proof.Diff

end
-- ==== Proof.DiffPre.lean ====
/-
  What the differential attention call's precondition says of each entry.
-/
module

public import proofs.«01_k».proof.Proof.DiffOut
public import proofs.«01_k».proof.Pre_pairs_finite

@[expose] public section

noncomputable section

namespace Cert.Proof.Diff

open Cert.Pre_pairs_finite
open Cert.Proof.Attn (IsReal)
open Idealize.ShloMosaic

/-- Every entry of an array is one where every entry of its reshape is. -/
theorem ones_of_reshape {s t : Shape} (x : IVec s 1) (h : s.ShapeCasts t) (e : ∀ j, shapeCast t x h j = 1#1) (i : s.Idx) : x i = 1#1 := by
  have := e ((Shape.reshapeEquiv h).symm i)
  unfold shapeCast at this
  rwa [Equiv.apply_symm_apply] at this

/-- A bound below infinity on the absolute value says that the entry is real. -/
theorem real_of_bound {x y : EReal} (hy : y = ⊤) (h : Ideal.cmp CmpFPredicate.olt (max x (-x)) y = 1#1) : IsReal x := by
  subst hy
  have lt : max x (-x) < ⊤ := by
    by_contra hn
    have : Ideal.cmp CmpFPredicate.olt (max x (-x)) ⊤ = 0#1 := by simp [Ideal.cmp, hn]
    rw [this] at h
    exact absurd h (by decide)
  induction x with
  | bot => exact absurd (lt_of_le_of_lt (le_max_right _ _) lt) (by simp)
  | top => exact absurd (lt_of_le_of_lt (le_max_left _ _) lt) (by simp)
  | coe r => exact ⟨r, rfl⟩

theorem eq_of_compare {x y : EReal} (h : Ideal.cmp CmpFPredicate.oeq x y = 1#1) : x = y := by
  by_contra hn
  have : Ideal.cmp CmpFPredicate.oeq x y = 0#1 := by simp [Ideal.cmp, hn]
  rw [this] at h
  exact absurd h (by decide)

theorem top_bits16 : Ideal.ofBits FTy.bf16 0x7F80#16 = ⊤ := by simp [Ideal.ofBits, Ideal.ieee]
theorem top_bits32 : Ideal.ofBits FTy.f32 0x7F800000#32 = ⊤ := by simp [Ideal.ofBits, Ideal.ieee]
theorem one_bits16 : Ideal.ofBits FTy.bf16 0x3F80#16 = 1 := by
  simp [Ideal.ofBits, Ideal.ieee, -EReal.coe_mul]
  norm_num

variable [Facts]

/-! Where each of the six masks starts in the joined one. -/

theorem before0 : (([] : List Shape).map fun s => if h : s.rank = S25563264.rank then s.size ((0 : Fin S25563264.rank).cast h.symm) else 0).sum = 0 := by decide +kernel
theorem before1 : (([S8388608] : List Shape).map fun s => if h : s.rank = S25563264.rank then s.size ((0 : Fin S25563264.rank).cast h.symm) else 0).sum = 8388608 := by decide +kernel
theorem before2 : (([S8388608, S8519680] : List Shape).map fun s => if h : s.rank = S25563264.rank then s.size ((0 : Fin S25563264.rank).cast h.symm) else 0).sum = 16908288 := by decide +kernel
theorem before3 : (([S8388608, S8519680, S2048] : List Shape).map fun s => if h : s.rank = S25563264.rank then s.size ((0 : Fin S25563264.rank).cast h.symm) else 0).sum = 16910336 := by decide +kernel
theorem before4 : (([S8388608, S8519680, S2048, S133120] : List Shape).map fun s => if h : s.rank = S25563264.rank then s.size ((0 : Fin S25563264.rank).cast h.symm) else 0).sum = 17043456 := by decide +kernel
theorem before5 : (([S8388608, S8519680, S2048, S133120, S8519680] : List Shape).map fun s => if h : s.rank = S25563264.rank then s.size ((0 : Fin S25563264.rank).cast h.symm) else 0).sum = 25563136 := by decide +kernel

section
variable (a0 : FVec Ideal S2x2x128x16384 .bf16) (a1 : FVec Ideal S2x2x16640x128 .bf16) (a2 : FVec Ideal S2x4x65x80x256 .bf16) (a3 : FVec Ideal S2x4x2x128 .f32) (a4 : FVec Ideal S4x32 .f32) (a5 : FVec Ideal S64x1 .f32)

theorem query_real (e : fn a0 a1 a2 a3 a4 a5 = fun _ => 1#1) (i : S2x2x128x16384.Idx) : IsReal (a0 i) := by
  refine real_of_bound top_bits16 (ones_of_reshape (cmpf .olt (Host.absf a0) (broadcastInDim S2x2x128x16384 ![] Facts.bcast_S_S2x2x128x16384 (constant S_ .bf16 0x7F80#16)))
    Facts.shapeCasts_S2x2x128x16384_S8388608 (fun j => ?_) i)
  have hj : (j (0 : Fin 1)).val < 8388608 := (j (0 : Fin 1)).isLt
  refine Eq.trans ?_ (congrFun e (ix1 ⟨0 + (j (0 : Fin 1)).val, by omega⟩ : S25563264.Idx))
  unfold fn fn_part1
  refine (concatenate_apply_piece (t := S25563264) 0 _ _ _ 0 ?_ S8388608 _ ?_ rfl 0 ?_ j ?_ ?_).symm
  · exact Nat.lt_of_sub_eq_succ rfl
  · rfl
  · exact before0
  · exact fun b hb => absurd (Subsingleton.elim _ _) hb
  · rfl

theorem key_real (e : fn a0 a1 a2 a3 a4 a5 = fun _ => 1#1) (i : S2x2x16640x128.Idx) : IsReal (a1 i) := by
  refine real_of_bound top_bits16 (ones_of_reshape (cmpf .olt (Host.absf a1) (broadcastInDim S2x2x16640x128 ![] Facts.bcast_S_S2x2x16640x128 (constant S_ .bf16 0x7F80#16)))
    Facts.shapeCasts_S2x2x16640x128_S8519680 (fun j => ?_) i)
  have hj : (j (0 : Fin 1)).val < 8519680 := (j (0 : Fin 1)).isLt
  refine Eq.trans ?_ (congrFun e (ix1 ⟨8388608 + (j (0 : Fin 1)).val, by omega⟩ : S25563264.Idx))
  unfold fn fn_part1
  refine (concatenate_apply_piece (t := S25563264) 0 _ _ _ 1 ?_ S8519680 _ ?_ rfl 8388608 ?_ j ?_ ?_).symm
  · exact Nat.lt_of_sub_eq_succ rfl
  · rfl
  · exact before1
  · exact fun b hb => absurd (Subsingleton.elim _ _) hb
  · rfl

theorem bound_real (e : fn a0 a1 a2 a3 a4 a5 = fun _ => 1#1) (i : S2x4x2x128.Idx) : IsReal (a3 i) := by
  refine real_of_bound top_bits32 (ones_of_reshape (cmpf .olt (Host.absf a3) (broadcastInDim S2x4x2x128 ![] Facts.bcast_S_S2x4x2x128 (constant S_ .f32 0x7F800000#32)))
    Facts.shapeCasts_S2x4x2x128_S2048 (fun j => ?_) i)
  have hj : (j (0 : Fin 1)).val < 2048 := (j (0 : Fin 1)).isLt
  refine Eq.trans ?_ (congrFun e (ix1 ⟨16908288 + (j (0 : Fin 1)).val, by omega⟩ : S25563264.Idx))
  unfold fn fn_part1
  refine (concatenate_apply_piece (t := S25563264) 0 _ _ _ 2 ?_ S2048 _ ?_ rfl 16908288 ?_ j ?_ ?_).symm
  · exact Nat.lt_of_sub_eq_succ rfl
  · rfl
  · exact before2
  · exact fun b hb => absurd (Subsingleton.elim _ _) hb
  · rfl

theorem weight_real (e : fn a0 a1 a2 a3 a4 a5 = fun _ => 1#1) (i : S4x32.Idx) : IsReal (a4 i) := by
  refine real_of_bound top_bits32 (ones_of_reshape (cmpf .olt (Host.absf a4) (broadcastInDim S4x32 ![] Facts.bcast_S_S4x32 (constant S_ .f32 0x7F800000#32)))
    Facts.shapeCasts_S4x32_S128 (fun j => ?_) i)
  have hj : (j (0 : Fin 1)).val < 128 := (j (0 : Fin 1)).isLt
  refine Eq.trans ?_ (congrFun e (ix1 ⟨25563136 + (j (0 : Fin 1)).val, by omega⟩ : S25563264.Idx))
  unfold fn fn_part1
  refine (concatenate_apply_piece (t := S25563264) 0 _ _ _ 5 ?_ S128 _ ?_ rfl 25563136 ?_ j ?_ ?_).symm
  · exact Nat.lt_of_sub_eq_succ rfl
  · rfl
  · exact before5
  · exact fun b hb => absurd (Subsingleton.elim _ _) hb
  · rfl

theorem row_one (e : fn a0 a1 a2 a3 a4 a5 = fun _ => 1#1) (b : Fin 2) (u : Fin 4) (j : Fin 65) (t : Fin 256) : @Eq EReal (a2 (ix5 b u j 64 t)) 1 := by
  have h := ones_of_reshape (cmpf .oeq (shapeCast S2x4x65x256 (extractStridedSlice S2x4x65x1x256 ![0, 0, 0, 64, 0] a2 Facts.slices_S2x4x65x80x256_S2x4x65x1x256_0_0_0_64_0)
      Facts.shapeCasts_S2x4x65x1x256_S2x4x65x256) (broadcastInDim S2x4x65x256 ![] Facts.bcast_S_S2x4x65x256 (constant S_ .bf16 0x3F80#16)))
    Facts.shapeCasts_S2x4x65x256_S133120 (fun y => by
      have hy : (y (0 : Fin 1)).val < 133120 := (y (0 : Fin 1)).isLt
      refine Eq.trans ?_ (congrFun e (ix1 ⟨16910336 + (y (0 : Fin 1)).val, by omega⟩ : S25563264.Idx))
      unfold fn fn_part1
      refine (concatenate_apply_piece (t := S25563264) 0 _ _ _ 3 ?_ S133120 _ ?_ rfl 16910336 ?_ y ?_ ?_).symm
      · exact Nat.lt_of_sub_eq_succ rfl
      · rfl
      · exact before3
      · exact fun b hb => absurd (Subsingleton.elim _ _) hb
      · rfl) (ix4 b u j t)
  have r : @Eq EReal (shapeCast S2x4x65x256 (extractStridedSlice S2x4x65x1x256 ![0, 0, 0, 64, 0] a2 Facts.slices_S2x4x65x80x256_S2x4x65x1x256_0_0_0_64_0)
      Facts.shapeCasts_S2x4x65x1x256_S2x4x65x256 (ix4 b u j t)) (a2 (ix5 b u j 64 t)) := by
    pointwise
  exact r.symm.trans ((eq_of_compare h).trans one_bits16)

theorem real_of_mask (X : FVec Ideal S2x4x65x64x256 .bf16) (h : ∀ y, shapeCast S8519680 (cmpf .olt (Host.absf X) (broadcastInDim S2x4x65x64x256 ![] Facts.bcast_S_S2x4x65x64x256 (constant S_ .bf16 0x7F80#16)))
    Facts.shapeCasts_S2x4x65x64x256_S8519680 y = 1#1) (i : S2x4x65x64x256.Idx) : IsReal (X i) :=
  real_of_bound top_bits16 (ones_of_reshape (cmpf .olt (Host.absf X) (broadcastInDim S2x4x65x64x256 ![] Facts.bcast_S_S2x4x65x64x256 (constant S_ .bf16 0x7F80#16))) _ h i)

theorem value_real (e : fn a0 a1 a2 a3 a4 a5 = fun _ => 1#1) (b : Fin 2) (u : Fin 4) (j : Fin 65) (d : Fin 64) (t : Fin 256) : IsReal (a2 (ix5 b u j ⟨d.val, by omega⟩ t)) := by
  have h := real_of_mask (extractStridedSlice S2x4x65x64x256 ![0, 0, 0, 0, 0] a2 Facts.slices_S2x4x65x80x256_S2x4x65x64x256_0_0_0_0_0) (fun y => by
    have hy : (y (0 : Fin 1)).val < 8519680 := (y (0 : Fin 1)).isLt
    refine Eq.trans ?_ (congrFun e (ix1 ⟨17043456 + (y (0 : Fin 1)).val, by omega⟩ : S25563264.Idx))
    unfold fn fn_part1
    refine (concatenate_apply_piece (t := S25563264) 0 _ _ _ 4 ?_ S8519680 _ ?_ rfl 17043456 ?_ y ?_ ?_).symm
    · exact Nat.lt_of_sub_eq_succ rfl
    · rfl
    · exact before4
    · exact fun b hb => absurd (Subsingleton.elim _ _) hb
    · rfl) (ix5 b u j d t)
  have r : @Eq EReal (extractStridedSlice S2x4x65x64x256 ![0, 0, 0, 0, 0] a2 Facts.slices_S2x4x65x80x256_S2x4x65x64x256_0_0_0_0_0 (ix5 b u j d t)) (a2 (ix5 b u j ⟨d.val, by omega⟩ t)) := by
    pointwise
  exact r ▸ h

end

end Cert.Proof.Diff

end
-- ==== Proof.DiffPoint.lean ====
/-
  One entry of the differential attention call's block against its reference.
-/
module

public import proofs.«01_k».proof.Proof.DiffBlocks
public import proofs.«01_k».proof.Proof.DiffRef
public import proofs.«01_k».proof.Proof.DiffPre

@[expose] public section

noncomputable section

namespace Cert.Proof.Diff

open Cert.Kernel5Ideal Cert.Kernel5Ideal.Gen
open Idealize.ShloMosaic Idealize.ShloMosaic.TcCoe Idealize.SL.Sem

set_option maxRecDepth 16384

variable (m : (ℓ : Loc nD τ sig) → Buf (Elt Ideal) ℓ)
variable [∀ e, Nonempty (Elt Ideal e)] [Cert.Pre_pairs_finite.Facts] (c : Dev nD)

/-- The precondition, of the arguments on device `c`. -/
abbrev Finite : Prop :=
  Cert.Pre_pairs_finite.fn (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) = fun _ => 1#1

/-- The reference's result of the kernel's arguments. -/
abbrev resultOf : S2x16384x512.Idx → EReal :=
  ref (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5))

/-- The reference at an entry, written with the head's own number. -/
theorem ref_entry (a0 : S2x2x128x16384.Idx → EReal) (a1 : S2x2x16640x128.Idx → EReal) (a2 : S2x4x65x80x256.Idx → EReal) (a4 : S4x32.Idx → EReal) (a5 : S64x1.Idx → EReal)
    (b : Fin 2) (s : Fin 16384) (j : Fin 512) (u w : Fin 2) (v : Fin 4) (l : Fin 128) (hv : v.val = u.val * 2 + w.val) (hj : j.val = v.val * 128 + l.val) :
    @Eq EReal (ref a0 a1 a2 a4 a5 (ix3 b s j)) (if g : l.val < 64 then normed (fun d => paired (lam a4) (fun x => a2 (ix5 b v ⟨x.val / 256, by omega⟩ ⟨d.val, by omega⟩ ⟨x.val % 256, by omega⟩))
      (score a0 a1 b u w 0 s) (score a0 a1 b u w 1 s)) (fun d => a5 (ix2 d 0)) ⟨l.val, g⟩ else 0) := by
  have hl := l.isLt
  have e1 : (⟨j.val / 256, by omega⟩ : Fin 2) = u := Fin.ext (by show j.val / 256 = u.val; omega)
  have e2 : (⟨j.val / 128 % 2, by omega⟩ : Fin 2) = w := Fin.ext (by show j.val / 128 % 2 = w.val; omega)
  have e3 : (⟨j.val % 128, by omega⟩ : Fin 128) = l := Fin.ext (by show j.val % 128 = l.val; omega)
  have e4 : (⟨u.val * 2 + w.val, by omega⟩ : Fin 4) = v := Fin.ext hv.symm
  rw [ref_apply, e1, e2, e3, padded_apply]
  by_cases g : l.val < 64
  · rw [dif_pos g, dif_pos g, rows_apply]
    refine congrArg (fun o : Fin 64 → EReal => normed o (fun d => a5 (ix2 d 0)) ⟨l.val, g⟩) (funext fun d => ?_)
    rw [heads_apply, e4]
  · rw [dif_neg g, dif_neg g]

/-- One entry of the block that point `t` leaves: the reference's entry at the same place. -/
theorem point_eq (e : Finite m c) (t : Fin cfg0.N) (z : Fin 1) (r : Fin 512) (l : Fin 128) (b : Fin 2) (s : Fin 16384) (j : Fin 512)
    (hb : b.val = t.val / 128) (hs : s.val = t.val % 32 * 512 + r.val) (hj : j.val = t.val / 32 % 4 * 128 + l.val) :
    @Eq EReal ((outsAt0 m c t).1 (ix3 z r l)) (resultOf m c (ix3 b s j)) := by
  have ht : t.val < 256 := t.isLt
  have hl := l.isLt
  have hr := r.isLt
  obtain ⟨A, hA, eA⟩ := left_by_body m c t
  have pu : ∃ u : Fin 2, u.val = t.val / 32 % 4 / 2 := ⟨⟨t.val / 32 % 4 / 2, by omega⟩, rfl⟩
  have pw : ∃ w : Fin 2, w.val = t.val / 32 % 4 % 2 := ⟨⟨t.val / 32 % 4 % 2, by omega⟩, rfl⟩
  have pv : ∃ v : Fin 4, v.val = t.val / 32 % 4 := ⟨⟨t.val / 32 % 4, by omega⟩, rfl⟩
  obtain ⟨u, hu⟩ := pu
  obtain ⟨w, hw⟩ := pw
  obtain ⟨v, hv⟩ := pv
  rw [eA, block_value (grid0.coords t) w (by rw [head t]; exact hw.symm) (iblk m c 0 t) (iblk m c 1 t) (iblk m c 2 t) (iblk m c 3 t)
    (fun l r => by
      rw [blk0 m c t l r b u ⟨t.val % 32 * 512 + r.val, by omega⟩ hb hu rfl]
      exact query_real _ _ _ _ _ _ e _)
    (fun x l => by
      rw [blk1 m c t x l b u hb hu]
      exact key_real _ _ _ _ _ _ e _)
    (fun g => by
      rw [blk3 m c t g 0 b v hb hv]
      exact bound_real _ _ _ _ _ _ e _)
    (fun j x => by
      rw [blk2 m c t j 64 x b v hb hv]
      exact row_one _ _ _ _ _ _ e _ _ _ _) A hA
    (fun j d x => by
      rw [blk2 m c t j _ x b v hb hv]
      exact value_real _ _ _ _ _ _ e _ _ _ d _)
    (iblk m c 4 t)
    (fun a l => by
      rw [blk4 m c t a l]
      exact weight_real _ _ _ _ _ _ e _)
    (iblk m c 5 t) z r l]
  refine Eq.trans ?_ (ref_entry _ _ _ _ _ b s j u w v l (by omega) (by omega)).symm
  have q : ∀ k : Fin 2, scores w (iblk m c 0 t) (iblk m c 1 t) k r
      = score (m ((c.tc : Thread nD τ).loc main_arg0)) (m ((c.tc : Thread nD τ).loc main_arg1)) b u w k s := fun k => funext fun x => by
    unfold scores score
    refine Finset.sum_congr rfl fun y _ => ?_
    rw [blk0 m c t _ r b u s hb hu hs, blk1 m c t x _ b u hb hu]
    have n : (⟨(w.val * 2 + k.val) * 32 + y.val, by omega⟩ : Fin 128) = ⟨w.val * 64 + k.val * 32 + y.val, by omega⟩ := Fin.ext (by show (w.val * 2 + k.val) * 32 + y.val = w.val * 64 + k.val * 32 + y.val; omega)
    rw [n]
  have wl : lam (iblk m c 4 t) = lam (m ((c.tc : Thread nD τ).loc main_arg4)) := by
    unfold lam
    simp only [blk4]
  have gl : (fun d : Fin 64 => (iblk m c 5 t : S64x1.Idx → EReal) (ix2 d 0)) = fun d => (m ((c.tc : Thread nD τ).loc main_arg5) : S64x1.Idx → EReal) (ix2 d 0) := funext fun d => blk5 m c t d 0
  rw [q 0, q 1, wl, gl]
  by_cases g : l.val < 64
  · rw [dif_pos g, dif_pos g]
    refine congrArg (fun o : Fin 64 → EReal => normed o _ ⟨l.val, g⟩) (funext fun d => ?_)
    refine congrArg (fun p : Fin 16640 → EReal => paired _ p _ _) (funext fun x => ?_)
    exact blk2 m c t _ _ _ b v hb hv
  · rw [dif_neg g, dif_neg g]

end Cert.Proof.Diff

end
-- ==== Proof.DiffRows.lean ====
/-
  The differential attention call against its reference: the array it leaves is the reference's.
-/
module

public import proofs.«01_k».proof.Proof.DiffPoint
public import Idealize.ShloMosaic.Lib.Pipeline.Value

@[expose] public section

noncomputable section

namespace Cert.Proof.Diff

open Cert.Kernel5Ideal Cert.Kernel5Ideal.Gen
open Idealize.ShloMosaic Idealize.ShloMosaic.TcCoe Idealize.ShloMosaic.Pipeline Idealize.SL.Sem

set_option maxRecDepth 16384

variable (m : (ℓ : Loc nD τ sig) → Buf (Elt Ideal) ℓ)
variable [∀ e, Nonempty (Elt Ideal e)] [Cert.Pre_pairs_finite.Facts] (c : Dev nD)

theorem coords3 (y : S1x512x128.Idx) : ∃ (a : Fin 1) (b : Fin 512) (d : Fin 128), y = ix3 a b d :=
  ⟨y (0 : Fin 3), y (1 : Fin 3), y (2 : Fin 3), funext fun
    | ⟨0, _⟩ => rfl
    | ⟨1, _⟩ => rfl
    | ⟨2, _⟩ => rfl⟩

/-- A block of an array, read at an entry. -/
theorem read_entry (G : S2x16384x512.Idx → EReal) (t : Fin cfg0.N) (z : Fin 1) (r : Fin 512) (l : Fin 128) (b : Fin 2) (s : Fin 16384) (j : Fin 512) (hb : b.val = t.val / 128)
    (hs : s.val = t.val % 32 * 512 + r.val) (hj : j.val = t.val / 32 % 4 * 128 + l.val) :
    @Eq EReal (((cfg0.win 6).blk t).view.read (Elt Ideal) G (ix3 z r l : S1x512x128.Idx)) (G (ix3 b s j)) :=
  congrArg G (emb6 t z r l b s j hb hs hj)

/-- A block that agrees with an array's entries is what is read of the array. -/
theorem block_eq (X : Vec Ideal S1x512x128 .bf16) (G : S2x16384x512.Idx → EReal) (t : Fin cfg0.N)
    (h : ∀ (z : Fin 1) (r : Fin 512) (l : Fin 128) (b : Fin 2) (s : Fin 16384) (j : Fin 512), b.val = t.val / 128 → s.val = t.val % 32 * 512 + r.val →
      j.val = t.val / 32 % 4 * 128 + l.val → @Eq EReal (X (ix3 z r l)) (G (ix3 b s j))) :
    (cfg0.win 6).cut (grid0.coords t) X = ((cfg0.win 6).blk t).view.read (Elt Ideal) G := by
  refine funext fun y => ?_
  obtain ⟨z, r, l, rfl⟩ := coords3 y
  have ht : t.val < 256 := t.isLt
  have hr := r.isLt
  have hl := l.isLt
  exact (h z r l ⟨t.val / 128, by omega⟩ ⟨t.val % 32 * 512 + r.val, by omega⟩ ⟨t.val / 32 % 4 * 128 + l.val, by omega⟩ rfl rfl rfl).trans
    (read_entry G t z r l ⟨t.val / 128, by omega⟩ ⟨t.val % 32 * 512 + r.val, by omega⟩ ⟨t.val / 32 % 4 * 128 + l.val, by omega⟩ rfl rfl rfl).symm

/-- What point `t` writes back is the reference's block. -/
theorem flushed_eq (e : Finite m c) (t : Fin cfg0.N) :
    (dats m 0 c).flushed 6 t = ((cfg0.win 6).blk t).view.read (Elt Ideal) (resultOf m c) := by
  show (cfg0.win 6).cut (grid0.coords t) ((dats m 0 c).after 6 t) = _
  rw [after0_6]
  exact block_eq (outsAt0 m c t).1 (resultOf m c) t fun z r l b s j hb hs hj => point_eq m c e t z r l b s j hb hs hj

/-- Every entry of the result lies in some point's block. -/
theorem covered (i : S2x16384x512.Idx) : ∃ t : Fin cfg0.N, (cfg0.win 6).flush t = true ∧ i ∈ ((cfg0.win 6).blk t).view.set := by
  have h0 : (i (0 : Fin 3)).val < 2 := (i (0 : Fin 3)).isLt
  have h1 : (i (1 : Fin 3)).val < 16384 := (i (1 : Fin 3)).isLt
  have h2 : (i (2 : Fin 3)).val < 512 := (i (2 : Fin 3)).isLt
  have hN : (i (0 : Fin 3)).val * 128 + (i (2 : Fin 3)).val / 128 * 32 + (i (1 : Fin 3)).val / 512 < grid0.N := by
    show _ < 256
    omega
  refine ⟨⟨_, hN⟩, flush0_6 _, Finset.mem_map.mpr ⟨(ix3 0 ⟨(i (1 : Fin 3)).val % 512, by omega⟩ ⟨(i (2 : Fin 3)).val % 128, by omega⟩ : S1x512x128.Idx), Finset.mem_univ _, ?_⟩⟩
  refine (emb6 ⟨_, hN⟩ 0 ⟨(i (1 : Fin 3)).val % 512, by omega⟩ ⟨(i (2 : Fin 3)).val % 128, by omega⟩ (i (0 : Fin 3)) (i (1 : Fin 3)) (i (2 : Fin 3)) ?_ ?_ ?_).trans ?_
  · show (i (0 : Fin 3)).val = ((i (0 : Fin 3)).val * 128 + (i (2 : Fin 3)).val / 128 * 32 + (i (1 : Fin 3)).val / 512) / 128
    omega
  · show (i (1 : Fin 3)).val = ((i (0 : Fin 3)).val * 128 + (i (2 : Fin 3)).val / 128 * 32 + (i (1 : Fin 3)).val / 512) % 32 * 512 + (i (1 : Fin 3)).val % 512
    omega
  · show (i (2 : Fin 3)).val = ((i (0 : Fin 3)).val * 128 + (i (2 : Fin 3)).val / 128 * 32 + (i (1 : Fin 3)).val / 512) / 32 % 4 * 128 + (i (2 : Fin 3)).val % 128
    omega
  · funext a
    match a with
    | ⟨0, _⟩ => rfl
    | ⟨1, _⟩ => rfl
    | ⟨2, _⟩ => rfl

/-- The result after the run is the reference's. -/
theorem result_eq (e : Finite m c) (r : PUnit × MemSt nD τ sig (Elt Ideal)) (h : FramePost cfgs (dats m) 0 (V m) r) :
    r.2.mem ((c.tc : Thread nD τ).loc main_v0_0) = resultOf m c :=
  ((h c).1 6).trans ((dats m 0 c).arrAt_eq_of_cover 6 (resultOf m c) (fun t _ => flushed_eq m c e t) covered)

end Cert.Proof.Diff

end
-- ==== Proof.lean ====
/-
  The proof of `Cert.Claim`. The gather's run is proved once, over any floats (Proof/Launch.lean), and read at the bits
  and at the extended reals; both references' runs are straight lines of host operations. The values are equal by
  Proof/Value.lean. The experts' call likewise: its run is in Proof/FfnFrame.lean, its values' equation in
  Proof/FfnRows.lean. The combining call's values' equation is in Proof/CombRows.lean, the attention's in
  Proof/AttnRows.lean, the differential attention's in Proof/DiffRows.lean.
-/
module

public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Kernel3Ideal.Frame
public import proofs.«01_k».proof.Proof.Gen.Kernel4Ideal.Frame
public import proofs.«01_k».proof.Proof.Gen.Kernel4.Frame
public import proofs.«01_k».proof.Proof.Gen.Kernel5Ideal.Frame
public import proofs.«01_k».proof.Proof.Gen.Kernel5.Frame
public import proofs.«01_k».proof.Proof.Gen.Reference5Ideal.Run
public import proofs.«01_k».proof.Proof.Gen.Pre_pairs_finite
public import proofs.«01_k».proof.Proof.Gen.Reference4Ideal.Run
public import proofs.«01_k».proof.Proof.Gen.Kernel3.Frame
public import proofs.«01_k».proof.Proof.Gen.Reference3Ideal.Run
public import proofs.«01_k».proof.Proof.Gen.On_tiles_with_rows
public import proofs.«01_k».proof.Proof.Gen.Pre_experts_in_range
public import proofs.«01_k».proof.Proof.Gen.Pre_keys_finite
public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_dest_in_rows
public import proofs.«01_k».proof.Proof.Value
public import proofs.«01_k».proof.Proof.FfnBits
public import proofs.«01_k».proof.Proof.FfnRows
public import proofs.«01_k».proof.Proof.CombRows
public import proofs.«01_k».proof.Proof.AttnRows
public import proofs.«01_k».proof.Proof.DiffRows
public import Idealize.ShloMosaic.Adequacy
public import Idealize.ShloMosaic.Init

@[expose] public section

noncomputable section

namespace Cert.Proof

open Idealize.ShloMosaic Idealize.SL.Sem Cert.Proof.Gather

instance nonempty_bits (e : EltTy) : Nonempty (Elt Bits e) := by cases e <;> exact ⟨0⟩
instance nonempty_ideal (e : EltTy) : Nonempty (Elt Ideal e) := by cases e <;> exact ⟨0⟩

/-- The precondition gives every device's index row entries that name rows of its table. -/
theorem rows_ok {F : FTy → Type} [FloatOps F] (m : (ℓ : Loc Cert.KernelIdeal.nD Cert.KernelIdeal.τ Cert.KernelIdeal.sig) → Buf (Elt F) ℓ)
    (h : ∀ c, Cert.Pre_dest_in_rows.fn (F := F) (m (aLoc c)) (m (bLoc c)) = fun _ => 1#1) : PreOK m :=
  fun d x => idxOf_lt _ (fun j => dest_lt (F := F) _ _ (h d) j) x

/-- The gather runs, over the bits, its arguments unchanged and every semaphore at zero. -/
theorem frame_kernel : Cert.quiescent_Kernel := fun m ρ h =>
  (θ_run Cert.KernelIdeal.defs _ _).mono (fun _ r => ⟨fun c => (r.1 c).2, r.2⟩) (run_main (F := Bits) m ρ (rows_ok m h))

/-- The gather runs, over the extended reals, its arguments unchanged and every semaphore at zero. -/
theorem frame_ideal : Cert.quiescent_KernelIdeal := fun m ρ h =>
  (θ_run Cert.KernelIdeal.defs _ _).mono (fun _ r => ⟨fun c => (r.1 c).2, r.2⟩) (run_main (F := Ideal) m ρ (rows_ok m h))

/-- The reference runs, over the extended reals, its arguments unchanged and every semaphore at zero. -/
theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference runs, over the bits, its arguments unchanged and every semaphore at zero. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- Over the extended reals the gather's result is the reference's. -/
theorem algebraic : Cert.algebraic_KernelIdeal_ReferenceIdeal := fun m ρ m' ρ' h e =>
  ⟨fun c => resM m c,
    (θ_run Cert.KernelIdeal.defs _ _).mono (fun _ r c => r.1 c) (run_main (F := Ideal) m ρ (rows_ok m h)),
    (θ_run Cert.ReferenceIdeal.defs _ _).mono (fun r k c => ⟨(k c).1.trans (by
        have hv := refVal_eq (F := Ideal) (m (aLoc c)) (m (bLoc c)) (fun j => dest_lt (F := Ideal) _ _ (h c) j)
        rw [(e c).1, (e c).2]
        exact hv), (k c).2⟩)
      (Cert.ReferenceIdeal.Value.run (F := Ideal) m' ρ')⟩

/-- Over the bits the gather's result is the reference's. -/
theorem bitexact : Cert.bitexact_Kernel_Reference := fun m ρ m' ρ' h e =>
  ⟨fun c => resM (F := Bits) m c,
    (θ_run Cert.KernelIdeal.defs _ _).mono (fun _ r c => r.1 c) (run_main (F := Bits) m ρ (rows_ok m h)),
    (θ_run Cert.Reference.defs _ _).mono (fun r k c => ⟨(k c).1.trans (by
        have hv := refVal_eq (F := Bits) (m (aLoc c)) (m (bLoc c)) (fun j => dest_lt (F := Bits) _ _ (h c) j)
        rw [(e c).1, (e c).2]
        exact hv), (k c).2⟩)
      (Cert.Reference.Value.run (F := Bits) m' ρ')⟩

/-! ## The experts' call -/

section Experts
open Cert.Proof.Ffn

/-- The precondition gives every tile an expert that there is. -/
theorem experts_ok {F : FTy → Type} [FloatOps F] (m : (ℓ : Loc Cert.Kernel2Ideal.nD Cert.Kernel2Ideal.τ Cert.Kernel2Ideal.sig) → Buf (Elt F) ℓ)
    (h : ∀ c : Dev Cert.Kernel2Ideal.nD, Cert.Pre_experts_in_range.fn (F := F) (m (c.tc.loc Cert.Kernel2Ideal.main_arg0)) (m (c.tc.loc Cert.Kernel2Ideal.main_arg1))
      (m (c.tc.loc Cert.Kernel2Ideal.main_arg2)) (m (c.tc.loc Cert.Kernel2Ideal.main_arg3)) (m (c.tc.loc Cert.Kernel2Ideal.main_arg4)) (m (c.tc.loc Cert.Kernel2Ideal.main_arg5)) = fun _ => 1#1) :
    Cert.Kernel2Ideal.ok0 (F := F) (tbl m) :=
  ok_of_lt m fun j => expert_lt (F := F) _ _ _ _ _ _ (h 0) j

/-- The experts' call runs, over the bits, its arguments unchanged and every semaphore at zero. -/
theorem frame_kernel2 : Cert.quiescent_Kernel2 := fun m ρ h =>
  run_bits _ _ ((θ_run Cert.Kernel2Ideal.defs _ _).mono (fun r k => ⟨fun c => args_kept m (experts_ok m h) r k.1 c, k.2⟩)
    (Cert.Proof.Ffn.run_main (F := Bits) m ρ (experts_ok m h)))

/-- The experts' call runs, over the extended reals, its arguments unchanged and every semaphore at zero. -/
theorem frame_ideal2 : Cert.quiescent_Kernel2Ideal := fun m ρ h =>
  (θ_run Cert.Kernel2Ideal.defs _ _).mono (fun r k => ⟨fun c => args_kept m (experts_ok m h) r k.1 c, k.2⟩)
    (Cert.Proof.Ffn.run_main (F := Ideal) m ρ (experts_ok m h))

/-- Its reference runs, over the extended reals, its arguments unchanged and every semaphore at zero. -/
theorem frame_reference_ideal2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Over the extended reals the experts' call computes the reference's rows, on every tile with filled rows. -/
theorem algebraic2 : Cert.algebraic_Kernel2Ideal_Reference2Ideal_on_tiles_with_rows := fun m ρ m' ρ' h e =>
  ⟨fun c => Cert.Reference2Ideal.Value.res_main_v63 m' c,
    (θ_run Cert.Kernel2Ideal.defs _ _).mono (fun r k c =>
      ⟨fun i hi => rows_eq m m' (experts_ok m h) c (fun j => expert_lt (F := Ideal) _ _ _ _ _ _ (h c) j) (e c) r k.1 i hi,
        args_kept m (experts_ok m h) r k.1 c⟩)
      (Cert.Proof.Ffn.run_main (F := Ideal) m ρ (experts_ok m h)),
    (θ_run Cert.Reference2Ideal.defs _ _).mono (fun r k c => ⟨fun i _ => congrFun (k c).1 i, (k c).2⟩)
      (Cert.Reference2Ideal.Value.run (F := Ideal) m' ρ')⟩

end Experts

/-! ## The combining call -/

section Combine
open Cert.Proof.Comb

/-- Its reference runs, over the extended reals, its arguments unchanged and every semaphore at zero. -/
theorem frame_reference_ideal3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Over the extended reals the combining call's result is the reference's. -/
theorem algebraic3 : Cert.algebraic_Kernel3Ideal_Reference3Ideal := fun m ρ m' ρ' _ e =>
  ⟨fun c => Cert.Reference3Ideal.Value.res_main_v50 m' c,
    (θ_run Cert.Kernel3Ideal.defs _ _).mono (fun r k c => ⟨result_eq m m' c (e c) r k.1, k.2 c⟩)
      (θ_run_and (Cert.Kernel3Ideal.Gen.run_main (F := Ideal) m ρ) (Cert.Kernel3Ideal.Gen.unchanged (F := Ideal) m ρ)),
    Cert.Reference3Ideal.Value.run (F := Ideal) m' ρ'⟩

end Combine

/-! ## The attention call -/

section Attention
open Cert.Proof.Attn

/-- Its reference runs, over the extended reals, its arguments unchanged and every semaphore at zero. -/
theorem frame_reference_ideal4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Over the extended reals the attention call's result is the reference's. -/
theorem algebraic4 : Cert.algebraic_Kernel4Ideal_Reference4Ideal_pre_keys_finite := fun m ρ m' ρ' h e =>
  ⟨fun c => Attn.resultOf m c,
    (θ_run Cert.Kernel4Ideal.defs _ _).mono (fun r k c => ⟨Attn.result_eq m c (h c) r k.1, k.2 c⟩)
      (θ_run_and (Cert.Kernel4Ideal.Gen.run_main (F := Ideal) m ρ) (Cert.Kernel4Ideal.Gen.unchanged (F := Ideal) m ρ)),
    (θ_run Cert.Reference4Ideal.defs _ _).mono (fun r k c => ⟨(k c).1.trans (ref_congr (e c).1 (e c).2.1 (e c).2.2.1), (k c).2⟩)
      (Cert.Reference4Ideal.Value.run (F := Ideal) m' ρ')⟩

end Attention

/-! ## The differential attention call -/

section Pairs
open Cert.Proof.Diff

/-- Its reference runs, over the extended reals, its arguments unchanged and every semaphore at zero. -/
theorem frame_reference_ideal5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Over the extended reals the differential attention call's result is the reference's. -/
theorem algebraic5 : Cert.algebraic_Kernel5Ideal_Reference5Ideal_pre_pairs_finite := fun m ρ m' ρ' h e =>
  ⟨fun c => Diff.resultOf m c,
    (θ_run Cert.Kernel5Ideal.defs _ _).mono (fun r k c => ⟨Diff.result_eq m c (h c) r k.1, k.2 c⟩)
      (θ_run_and (Cert.Kernel5Ideal.Gen.run_main (F := Ideal) m ρ) (Cert.Kernel5Ideal.Gen.unchanged (F := Ideal) m ρ)),
    (θ_run Cert.Reference5Ideal.defs _ _).mono (fun r k c => ⟨(k c).1.trans ((res_eq m' c).trans (ref_congr (e c).1 (e c).2.1 (e c).2.2.1 (e c).2.2.2.2.1 (e c).2.2.2.2.2)), (k c).2⟩)
      (Cert.Reference5Ideal.Value.run (F := Ideal) m' ρ')⟩

end Pairs

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_dest_in_rows.Gen.facts, Cert.Pre_experts_in_range.Gen.facts, Cert.Pre_keys_finite.Gen.facts, Cert.Pre_pairs_finite.Gen.facts, Cert.On_tiles_with_rows.Gen.facts,
    frame_kernel, frame_ideal, frame_reference_ideal, fun m ρ _ => frame_reference_ideal m ρ trivial, frame_reference,
    frame_kernel2, frame_ideal2, frame_reference_ideal2, fun m ρ _ => frame_reference_ideal2 m ρ trivial,
    fun m ρ _ => Cert.Kernel3.Gen.frame m ρ, fun m ρ _ => Cert.Kernel3Ideal.Gen.frame m ρ, frame_reference_ideal3,
    fun m ρ _ => Cert.Kernel4.Gen.frame m ρ, fun m ρ _ => Cert.Kernel4Ideal.Gen.frame m ρ, fun m ρ _ => Cert.Kernel4Ideal.Gen.frame m ρ,
    frame_reference_ideal4, fun m ρ _ => frame_reference_ideal4 m ρ trivial,
    fun m ρ _ => Cert.Kernel5.Gen.frame m ρ, fun m ρ _ => Cert.Kernel5Ideal.Gen.frame m ρ, fun m ρ _ => Cert.Kernel5Ideal.Gen.frame m ρ,
    frame_reference_ideal5, fun m ρ _ => frame_reference_ideal5 m ρ trivial,
    trivial, algebraic, bitexact, trivial, algebraic2, trivial, algebraic3, trivial, algebraic4, trivial, algebraic5⟩

end Cert.Proof

end
